-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v306_0)) (v1 : (c : Dev Cert.KernelIdeal.nD) → Buf (Elt Ideal) ((c.tc : Thread Cert.KernelIdeal.nD Cert.KernelIdeal.τ).loc Cert.KernelIdeal.main_v306_1)) (v2 : (c : Dev Cert.KernelIdeal.nD) → Buf (Elt Ideal) ((c.tc : Thread Cert.KernelIdeal.nD Cert.KernelIdeal.τ).loc Cert.KernelIdeal.main_v306_2)) (v3 : (c : Dev Cert.KernelIdeal.nD) → Buf (Elt Ideal) ((c.tc : Thread Cert.KernelIdeal.nD Cert.KernelIdeal.τ).loc Cert.KernelIdeal.main_v306_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v306_0) = v0 c
          ∧ r.2.mem ((c.tc : Thread Cert.KernelIdeal.nD Cert.KernelIdeal.τ).loc Cert.KernelIdeal.main_v306_1) = v1 c
          ∧ r.2.mem ((c.tc : Thread Cert.KernelIdeal.nD Cert.KernelIdeal.τ).loc Cert.KernelIdeal.main_v306_2) = v2 c
          ∧ r.2.mem ((c.tc : Thread Cert.KernelIdeal.nD Cert.KernelIdeal.τ).loc Cert.KernelIdeal.main_v306_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v12) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)) (v1 : (c : Dev Cert.Kernel6Ideal.nD) → Buf (Elt Ideal) ((c.tc : Thread Cert.Kernel6Ideal.nD Cert.Kernel6Ideal.τ).loc Cert.Kernel6Ideal.main_v3)) (v2 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_v3) = v1 c
          ∧ r.2.mem ((c.tc : Thread Cert.Kernel6Ideal.nD Cert.Kernel6Ideal.τ).loc Cert.Kernel6Ideal.main_v4) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v35)) (v1 : (c : Dev Cert.Kernel7Ideal.nD) → Buf (Elt Ideal) ((c.tc : Thread Cert.Kernel7Ideal.nD Cert.Kernel7Ideal.τ).loc Cert.Kernel7Ideal.main_v44)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v35) = v0 c
          ∧ r.2.mem ((c.tc : Thread Cert.Kernel7Ideal.nD Cert.Kernel7Ideal.τ).loc Cert.Kernel7Ideal.main_v44) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v24)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v24) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v9)) (v1 : (c : Dev Cert.Kernel9Ideal.nD) → Buf (Elt Ideal) ((c.tc : Thread Cert.Kernel9Ideal.nD Cert.Kernel9Ideal.τ).loc Cert.Kernel9Ideal.main_v10)) (v2 : (c : Dev Cert.Kernel9Ideal.nD) → Buf (Elt Ideal) ((c.tc : Thread Cert.Kernel9Ideal.nD Cert.Kernel9Ideal.τ).loc Cert.Kernel9Ideal.main_v11)) (v3 : (c : Dev Cert.Kernel9Ideal.nD) → Buf (Elt Ideal) ((c.tc : Thread Cert.Kernel9Ideal.nD Cert.Kernel9Ideal.τ).loc Cert.Kernel9Ideal.main_v12)) (v4 : (c : Dev Cert.Kernel9Ideal.nD) → Buf (Elt Ideal) ((c.tc : Thread Cert.Kernel9Ideal.nD Cert.Kernel9Ideal.τ).loc Cert.Kernel9Ideal.main_v13)) (v5 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_v10) = v1 c
          ∧ r.2.mem ((c.tc : Thread Cert.Kernel9Ideal.nD Cert.Kernel9Ideal.τ).loc Cert.Kernel9Ideal.main_v11) = v2 c
          ∧ r.2.mem ((c.tc : Thread Cert.Kernel9Ideal.nD Cert.Kernel9Ideal.τ).loc Cert.Kernel9Ideal.main_v12) = v3 c
          ∧ r.2.mem ((c.tc : Thread Cert.Kernel9Ideal.nD Cert.Kernel9Ideal.τ).loc Cert.Kernel9Ideal.main_v13) = v4 c
          ∧ r.2.mem ((c.tc : Thread Cert.Kernel9Ideal.nD Cert.Kernel9Ideal.τ).loc Cert.Kernel9Ideal.main_v14) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v2) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_v16) = v4 c
          ∧ r.2.mem ((c.tc : Thread Cert.Reference9Ideal.nD Cert.Reference9Ideal.τ).loc Cert.Reference9Ideal.main_v21) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8)) (v1 : (c : Dev Cert.Kernel10Ideal.nD) → Buf (Elt Ideal) ((c.tc : Thread Cert.Kernel10Ideal.nD Cert.Kernel10Ideal.τ).loc Cert.Kernel10Ideal.main_v9)) (v2 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_v9) = v1 c
          ∧ r.2.mem ((c.tc : Thread Cert.Kernel10Ideal.nD Cert.Kernel10Ideal.τ).loc Cert.Kernel10Ideal.main_v10) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_v12) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v17) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  IdealRules.named_const.Statement Cert.Kernel19Ideal.κ "mask" .f32 0xF149F2CA#32 ⊥

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v26) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v60) = v0 c
          ∧ r.2.mem ((c.tc : Thread Cert.Reference20Ideal.nD Cert.Reference20Ideal.τ).loc Cert.Reference20Ideal.main_v59) = v1 c
          ∧ r.2.mem ((c.tc : Thread Cert.Reference20Ideal.nD Cert.Reference20Ideal.τ).loc Cert.Reference20Ideal.main_v45) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite4 : Cert.Pre_finite4.Facts) (hPre_finite18 : Cert.Pre_finite18.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S2048x512 : Shape := ⟨2, ![2048, 512]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) (main_arg1 : FVec F S2048x512 .f32) (main_arg2 : FVec F S2048x1024 .f32) (main_arg3 : FVec F S2048x512 .f32) (main_arg4 : FVec F S2048x1024 .f32) : IVec S_ 1 :=
  let main_v0 : FVec F S2048x512 .f32 := Host.absf main_arg3
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite18.lean ====
abbrev S4x2048x128 : Shape := ⟨3, ![4, 2048, 128]⟩
abbrev S4x256x128 : Shape := ⟨3, ![4, 256, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_

variable [Facts]

def fn {F : FTy → Type} [FloatOps F] (main_arg0 : FVec F S4x2048x128 .f32) (main_arg1 : FVec F S4x256x128 .f32) (main_arg2 : FVec F S4x256x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x256x128 .f32 := Host.absf main_arg1
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  main_v8
-- ==== Pre_finite19.lean ====
abbrev S8x2048x192 : Shape := ⟨3, ![8, 2048, 192]⟩
abbrev S8x2048x128 : Shape := ⟨3, ![8, 2048, 128]⟩
abbrev S_ : Shape := ⟨0, ![]⟩

class Facts : Prop where
  bcast_S_S8x2048x192 : S_.BroadcastsInDim S8x2048x192 (![] : Fin 0 → Fin S8x2048x192.rank)
  reducesTo_S8x2048x192_S_d0_1_2 : S8x2048x192.ReducesTo [0, 1, 2] S_
  h_S_ : 0 < S_.numel

variable [Facts]

def fn {F : FTy → Type} [FloatOps F] (main_arg0 : FVec F S8x2048x192 .f32) (main_arg1 : FVec F S8x2048x192 .f32) (main_arg2 : FVec F S8x2048x128 .f32) : IVec S_ 1 :=
  let main_v0 : FVec F S8x2048x192 .f32 := Host.absf main_arg0
  let main_cst : FVec F S_ .f32 := constant S_ .f32 0x7F800000#32
  let main_v1 : FVec F S8x2048x192 .f32 := broadcastInDim S8x2048x192 ![] bcast_S_S8x2048x192 main_cst
  let main_v2 : IVec S8x2048x192 1 := cmpf .olt main_v0 main_v1
  let main_c : IVec S_ 1 := constantI S_ 1 1#1
  let main_v3 : IVec S_ 1 := (fun x v => Host.reduce IntOp.andi x v reducesTo_S8x2048x192_S_d0_1_2 h_S_) main_v2 main_c
  let main_v4 : FVec F S8x2048x192 .f32 := Host.absf main_arg1
  let main_cst_0 : FVec F S_ .f32 := constant S_ .f32 0x7F800000#32
  let main_v5 : FVec F S8x2048x192 .f32 := broadcastInDim S8x2048x192 ![] bcast_S_S8x2048x192 main_cst_0
  let main_v6 : IVec S8x2048x192 1 := cmpf .olt main_v4 main_v5
  let main_c_1 : IVec S_ 1 := constantI S_ 1 1#1
  let main_v7 : IVec S_ 1 := (fun x v => Host.reduce IntOp.andi x v reducesTo_S8x2048x192_S_d0_1_2 h_S_) main_v6 main_c_1
  let main_v8 : IVec S_ 1 := andi main_v3 main_v7
  main_v8
-- ==== Pre_finite2.lean ====
abbrev S2048x512 : Shape := ⟨2, ![2048, 512]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) (main_arg1 : FVec F S2048x512 .f32) (main_arg2 : FVec F S2048x1024 .f32) (main_arg3 : FVec F S2048x512 .f32) : IVec S_ 1 :=
  let main_v0 : FVec F S2048x512 .f32 := Host.absf main_arg3
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite20.lean ====
abbrev S8x2048x192 : Shape := ⟨3, ![8, 2048, 192]⟩
abbrev S8x2048x128 : Shape := ⟨3, ![8, 2048, 128]⟩
abbrev S2048x1024 : Shape := ⟨2, ![2048, 1024]⟩
abbrev S_ : Shape := ⟨0, ![]⟩

class Facts : Prop where
  bcast_S_S8x2048x192 : S_.BroadcastsInDim S8x2048x192 (![] : Fin 0 → Fin S8x2048x192.rank)
  reducesTo_S8x2048x192_S_d0_1_2 : S8x2048x192.ReducesTo [0, 1, 2] S_
  h_S_ : 0 < S_.numel

variable [Facts]

def fn {F : FTy → Type} [FloatOps F] (main_arg0 : FVec F S8x2048x192 .f32) (main_arg1 : FVec F S8x2048x192 .f32) (main_arg2 : FVec F S8x2048x128 .f32) (main_arg3 : FVec F S2048x1024 .f32) : IVec S_ 1 :=
  let main_v0 : FVec F S8x2048x192 .f32 := Host.absf main_arg0
  let main_cst : FVec F S_ .f32 := constant S_ .f32 0x7F800000#32
  let main_v1 : FVec F S8x2048x192 .f32 := broadcastInDim S8x2048x192 ![] bcast_S_S8x2048x192 main_cst
  let main_v2 : IVec S8x2048x192 1 := cmpf .olt main_v0 main_v1
  let main_c : IVec S_ 1 := constantI S_ 1 1#1
  let main_v3 : IVec S_ 1 := (fun x v => Host.reduce IntOp.andi x v reducesTo_S8x2048x192_S_d0_1_2 h_S_) main_v2 main_c
  let main_v4 : FVec F S8x2048x192 .f32 := Host.absf main_arg1
  let main_cst_0 : FVec F S_ .f32 := constant S_ .f32 0x7F800000#32
  let main_v5 : FVec F S8x2048x192 .f32 := broadcastInDim S8x2048x192 ![] bcast_S_S8x2048x192 main_cst_0
  let main_v6 : IVec S8x2048x192 1 := cmpf .olt main_v4 main_v5
  let main_c_1 : IVec S_ 1 := constantI S_ 1 1#1
  let main_v7 : IVec S_ 1 := (fun x v => Host.reduce IntOp.andi x v reducesTo_S8x2048x192_S_d0_1_2 h_S_) main_v6 main_c_1
  let main_v8 : IVec S_ 1 := andi main_v3 main_v7
  main_v8
-- ==== Pre_finite4.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S1x2048 .f32) (main_arg2 : FVec F S2048x5632 .f32) (main_arg3 : FVec F S2048x5632 .f32) (main_arg4 : FVec F S5632x2048 .f32) (main_arg5 : FVec F S2048x2048 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S2048x5632 .f32 := Host.absf main_arg3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .f32 := Host.absf main_arg4
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048x2048 .f32 := Host.absf main_arg5
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x512 : Shape := ⟨2, ![2048, 512]⟩
abbrev S2048x1024 : Shape := ⟨2, ![2048, 1024]⟩
abbrev S32x64x4x128 : Shape := ⟨4, ![32, 64, 4, 128]⟩
abbrev S32x64x4x256 : Shape := ⟨4, ![32, 64, 4, 256]⟩
abbrev S_ : Shape := ⟨0, ![]⟩
abbrev S32x1x4x128 : Shape := ⟨4, ![32, 1, 4, 128]⟩
abbrev S32x4x128 : Shape := ⟨3, ![32, 4, 128]⟩
abbrev S32x4x128x256 : Shape := ⟨4, ![32, 4, 128, 256]⟩
abbrev S4x128x256 : Shape := ⟨3, ![4, 128, 256]⟩
abbrev S1x4x128 : Shape := ⟨3, ![1, 4, 128]⟩
abbrev S4x128 : Shape := ⟨2, ![4, 128]⟩
abbrev S4x128x1 : Shape := ⟨3, ![4, 128, 1]⟩
abbrev S1x4x128x256 : Shape := ⟨4, ![1, 4, 128, 256]⟩
abbrev S16x4x128x256 : Shape := ⟨4, ![16, 4, 128, 256]⟩
abbrev S4x32x256x128 : Shape := ⟨4, ![4, 32, 256, 128]⟩
abbrev S64x512 : Shape := ⟨2, ![64, 512]⟩
abbrev S64x1024 : Shape := ⟨2, ![64, 1024]⟩
abbrev S4x1x256x128 : Shape := ⟨4, ![4, 1, 256, 128]⟩
abbrev S4x256x128 : Shape := ⟨3, ![4, 256, 128]⟩
abbrev S64x64 : Shape := ⟨2, ![64, 64]⟩
abbrev S512 : Shape := ⟨1, ![512]⟩
abbrev S1x512 : Shape := ⟨2, ![1, 512]⟩
abbrev S64x256 : Shape := ⟨2, ![64, 256]⟩
abbrev S1x1x256x128 : Shape := ⟨4, ![1, 1, 256, 128]⟩
abbrev S256x128 : Shape := ⟨2, ![256, 128]⟩
abbrev S64x128 : Shape := ⟨2, ![64, 128]⟩
abbrev S1x256x128 : Shape := ⟨3, ![1, 256, 128]⟩
abbrev S128 : Shape := ⟨1, ![128]⟩
abbrev S1x128 : Shape := ⟨2, ![1, 128]⟩

abbrev nBuf : Space → Nat
  | .hbm => 318
  | .vmem => 23
  | .smem => 0
  | _ => 0

abbrev hbmTy0_0 (i : Nat) : BufTy := match i % 128 with
  | 0 => ⟨S2048x512, .f32⟩
  | 1 => ⟨S2048x512, .f32⟩
  | 2 => ⟨S2048x1024, .f32⟩
  | 3 => ⟨S2048x512, .f32⟩
  | 4 => ⟨S2048x1024, .f32⟩
  | 5 => ⟨S32x64x4x128, .f32⟩
  | 6 => ⟨S32x64x4x256, .f32⟩
  | 7 => ⟨S32x64x4x128, .f32⟩
  | 8 => ⟨S_, .f32⟩
  | 9 => ⟨S_, .f32⟩
  | 10 => ⟨S32x64x4x128, .f32⟩
  | 11 => ⟨S32x1x4x128, .f32⟩
  | 12 => ⟨S32x4x128, .f32⟩
  | 13 => ⟨S32x1x4x128, .f32⟩
  | 14 => ⟨S32x64x4x128, .f32⟩
  | 15 => ⟨S32x64x4x128, .f32⟩
  | 16 => ⟨S32x64x4x128, .f32⟩
  | 17 => ⟨S32x64x4x128, .f32⟩
  | 18 => ⟨S32x4x128x256, .f32⟩
  | 19 => ⟨S32x4x128, .f32⟩
  | 20 => ⟨S_, .f32⟩
  | 21 => ⟨S4x128x256, .f32⟩
  | 22 => ⟨S1x4x128, .f32⟩
  | 23 => ⟨S4x128, .f32⟩
  | 24 => ⟨S4x128x1, .f32⟩
  | 25 => ⟨S4x128x256, .f32⟩
  | 26 => ⟨S4x128x256, .f32⟩
  | 27 => ⟨S1x4x128x256, .f32⟩
  | 28 => ⟨S4x128x256, .f32⟩
  | 29 => ⟨S4x128x256, .f32⟩
  | 30 => ⟨S1x4x128, .f32⟩
  | 31 => ⟨S4x128, .f32⟩
  | 32 => ⟨S4x128x1, .f32⟩
  | 33 => ⟨S4x128x256, .f32⟩
  | 34 => ⟨S4x128x256, .f32⟩
  | 35 => ⟨S1x4x128x256, .f32⟩
  | 36 => ⟨S4x128x256, .f32⟩
  | 37 => ⟨S4x128x256, .f32⟩
  | 38 => ⟨S1x4x128, .f32⟩
  | 39 => ⟨S4x128, .f32⟩
  | 40 => ⟨S4x128x1, .f32⟩
  | 41 => ⟨S4x128x256, .f32⟩
  | 42 => ⟨S4x128x256, .f32⟩
  | 43 => ⟨S1x4x128x256, .f32⟩
  | 44 => ⟨S4x128x256, .f32⟩
  | 45 => ⟨S4x128x256, .f32⟩
  | 46 => ⟨S1x4x128, .f32⟩
  | 47 => ⟨S4x128, .f32⟩
  | 48 => ⟨S4x128x1, .f32⟩
  | 49 => ⟨S4x128x256, .f32⟩
  | 50 => ⟨S4x128x256, .f32⟩
  | 51 => ⟨S1x4x128x256, .f32⟩
  | 52 => ⟨S4x128x256, .f32⟩
  | 53 => ⟨S4x128x256, .f32⟩
  | 54 => ⟨S1x4x128, .f32⟩
  | 55 => ⟨S4x128, .f32⟩
  | 56 => ⟨S4x128x1, .f32⟩
  | 57 => ⟨S4x128x256, .f32⟩
  | 58 => ⟨S4x128x256, .f32⟩
  | 59 => ⟨S1x4x128x256, .f32⟩
  | 60 => ⟨S4x128x256, .f32⟩
  | 61 => ⟨S4x128x256, .f32⟩
  | 62 => ⟨S1x4x128, .f32⟩
  | 63 => ⟨S4x128, .f32⟩
  | 64 => ⟨S4x128x1, .f32⟩
  | 65 => ⟨S4x128x256, .f32⟩
  | 66 => ⟨S4x128x256, .f32⟩
  | 67 => ⟨S1x4x128x256, .f32⟩
  | 68 => ⟨S4x128x256, .f32⟩
  | 69 => ⟨S4x128x256, .f32⟩
  | 70 => ⟨S1x4x128, .f32⟩
  | 71 => ⟨S4x128, .f32⟩
  | 72 => ⟨S4x128x1, .f32⟩
  | 73 => ⟨S4x128x256, .f32⟩
  | 74 => ⟨S4x128x256, .f32⟩
  | 75 => ⟨S1x4x128x256, .f32⟩
  | 76 => ⟨S4x128x256, .f32⟩
  | 77 => ⟨S4x128x256, .f32⟩
  | 78 => ⟨S1x4x128, .f32⟩
  | 79 => ⟨S4x128, .f32⟩
  | 80 => ⟨S4x128x1, .f32⟩
  | 81 => ⟨S4x128x256, .f32⟩
  | 82 => ⟨S4x128x256, .f32⟩
  | 83 => ⟨S1x4x128x256, .f32⟩
  | 84 => ⟨S4x128x256, .f32⟩
  | 85 => ⟨S4x128x256, .f32⟩
  | 86 => ⟨S1x4x128, .f32⟩
  | 87 => ⟨S4x128, .f32⟩
  | 88 => ⟨S4x128x1, .f32⟩
  | 89 => ⟨S4x128x256, .f32⟩
  | 90 => ⟨S4x128x256, .f32⟩
  | 91 => ⟨S1x4x128x256, .f32⟩
  | 92 => ⟨S4x128x256, .f32⟩
  | 93 => ⟨S4x128x256, .f32⟩
  | 94 => ⟨S1x4x128, .f32⟩
  | 95 => ⟨S4x128, .f32⟩
  | 96 => ⟨S4x128x1, .f32⟩
  | 97 => ⟨S4x128x256, .f32⟩
  | 98 => ⟨S4x128x256, .f32⟩
  | 99 => ⟨S1x4x128x256, .f32⟩
  | 100 => ⟨S4x128x256, .f32⟩
  | 101 => ⟨S4x128x256, .f32⟩
  | 102 => ⟨S1x4x128, .f32⟩
  | 103 => ⟨S4x128, .f32⟩
  | 104 => ⟨S4x128x1, .f32⟩
  | 105 => ⟨S4x128x256, .f32⟩
  | 106 => ⟨S4x128x256, .f32⟩
  | 107 => ⟨S1x4x128x256, .f32⟩
  | 108 => ⟨S4x128x256, .f32⟩
  | 109 => ⟨S4x128x256, .f32⟩
  | 110 => ⟨S1x4x128, .f32⟩
  | 111 => ⟨S4x128, .f32⟩
  | 112 => ⟨S4x128x1, .f32⟩
  | 113 => ⟨S4x128x256, .f32⟩
  | 114 => ⟨S4x128x256, .f32⟩
  | 115 => ⟨S1x4x128x256, .f32⟩
  | 116 => ⟨S4x128x256, .f32⟩
  | 117 => ⟨S4x128x256, .f32⟩
  | 118 => ⟨S1x4x128, .f32⟩
  | 119 => ⟨S4x128, .f32⟩
  | 120 => ⟨S4x128x1, .f32⟩
  | 121 => ⟨S4x128x256, .f32⟩
  | 122 => ⟨S4x128x256, .f32⟩
  | 123 => ⟨S1x4x128x256, .f32⟩
  | 124 => ⟨S4x128x256, .f32⟩
  | 125 => ⟨S4x128x256, .f32⟩
  | 126 => ⟨S1x4x128, .f32⟩
  | 127 => ⟨S4x128, .f32⟩
  | _ => ⟨S2048x512, .f32⟩

abbrev hbmTy0_1 (i : Nat) : BufTy := match i % 128 with
  | 0 => ⟨S4x128x1, .f32⟩
  | 1 => ⟨S4x128x256, .f32⟩
  | 2 => ⟨S4x128x256, .f32⟩
  | 3 => ⟨S1x4x128x256, .f32⟩
  | 4 => ⟨S4x128x256, .f32⟩
  | 5 => ⟨S4x128x256, .f32⟩
  | 6 => ⟨S1x4x128, .f32⟩
  | 7 => ⟨S4x128, .f32⟩
  | 8 => ⟨S4x128x1, .f32⟩
  | 9 => ⟨S4x128x256, .f32⟩
  | 10 => ⟨S4x128x256, .f32⟩
  | 11 => ⟨S1x4x128x256, .f32⟩
  | 12 => ⟨S4x128x256, .f32⟩
  | 13 => ⟨S4x128x256, .f32⟩
  | 14 => ⟨S1x4x128, .f32⟩
  | 15 => ⟨S4x128, .f32⟩
  | 16 => ⟨S4x128x1, .f32⟩
  | 17 => ⟨S4x128x256, .f32⟩
  | 18 => ⟨S4x128x256, .f32⟩
  | 19 => ⟨S1x4x128x256, .f32⟩
  | 20 => ⟨S4x128x256, .f32⟩
  | 21 => ⟨S4x128x256, .f32⟩
  | 22 => ⟨S1x4x128, .f32⟩
  | 23 => ⟨S4x128, .f32⟩
  | 24 => ⟨S4x128x1, .f32⟩
  | 25 => ⟨S4x128x256, .f32⟩
  | 26 => ⟨S4x128x256, .f32⟩
  | 27 => ⟨S1x4x128x256, .f32⟩
  | 28 => ⟨S4x128x256, .f32⟩
  | 29 => ⟨S4x128x256, .f32⟩
  | 30 => ⟨S1x4x128, .f32⟩
  | 31 => ⟨S4x128, .f32⟩
  | 32 => ⟨S4x128x1, .f32⟩
  | 33 => ⟨S4x128x256, .f32⟩
  | 34 => ⟨S4x128x256, .f32⟩
  | 35 => ⟨S1x4x128x256, .f32⟩
  | 36 => ⟨S4x128x256, .f32⟩
  | 37 => ⟨S4x128x256, .f32⟩
  | 38 => ⟨S1x4x128, .f32⟩
  | 39 => ⟨S4x128, .f32⟩
  | 40 => ⟨S4x128x1, .f32⟩
  | 41 => ⟨S4x128x256, .f32⟩
  | 42 => ⟨S4x128x256, .f32⟩
  | 43 => ⟨S1x4x128x256, .f32⟩
  | 44 => ⟨S4x128x256, .f32⟩
  | 45 => ⟨S4x128x256, .f32⟩
  | 46 => ⟨S1x4x128, .f32⟩
  | 47 => ⟨S4x128, .f32⟩
  | 48 => ⟨S4x128x1, .f32⟩
  | 49 => ⟨S4x128x256, .f32⟩
  | 50 => ⟨S4x128x256, .f32⟩
  | 51 => ⟨S1x4x128x256, .f32⟩
  | 52 => ⟨S4x128x256, .f32⟩
  | 53 => ⟨S4x128x256, .f32⟩
  | 54 => ⟨S1x4x128, .f32⟩
  | 55 => ⟨S4x128, .f32⟩
  | 56 => ⟨S4x128x1, .f32⟩
  | 57 => ⟨S4x128x256, .f32⟩
  | 58 => ⟨S4x128x256, .f32⟩
  | 59 => ⟨S1x4x128x256, .f32⟩
  | 60 => ⟨S4x128x256, .f32⟩
  | 61 => ⟨S4x128x256, .f32⟩
  | 62 => ⟨S1x4x128, .f32⟩
  | 63 => ⟨S4x128, .f32⟩
  | 64 => ⟨S4x128x1, .f32⟩
  | 65 => ⟨S4x128x256, .f32⟩
  | 66 => ⟨S4x128x256, .f32⟩
  | 67 => ⟨S1x4x128x256, .f32⟩
  | 68 => ⟨S4x128x256, .f32⟩
  | 69 => ⟨S4x128x256, .f32⟩
  | 70 => ⟨S1x4x128, .f32⟩
  | 71 => ⟨S4x128, .f32⟩
  | 72 => ⟨S4x128x1, .f32⟩
  | 73 => ⟨S4x128x256, .f32⟩
  | 74 => ⟨S4x128x256, .f32⟩
  | 75 => ⟨S1x4x128x256, .f32⟩
  | 76 => ⟨S4x128x256, .f32⟩
  | 77 => ⟨S4x128x256, .f32⟩
  | 78 => ⟨S1x4x128, .f32⟩
  | 79 => ⟨S4x128, .f32⟩
  | 80 => ⟨S4x128x1, .f32⟩
  | 81 => ⟨S4x128x256, .f32⟩
  | 82 => ⟨S4x128x256, .f32⟩
  | 83 => ⟨S1x4x128x256, .f32⟩
  | 84 => ⟨S4x128x256, .f32⟩
  | 85 => ⟨S4x128x256, .f32⟩
  | 86 => ⟨S1x4x128, .f32⟩
  | 87 => ⟨S4x128, .f32⟩
  | 88 => ⟨S4x128x1, .f32⟩
  | 89 => ⟨S4x128x256, .f32⟩
  | 90 => ⟨S4x128x256, .f32⟩
  | 91 => ⟨S1x4x128x256, .f32⟩
  | 92 => ⟨S4x128x256, .f32⟩
  | 93 => ⟨S4x128x256, .f32⟩
  | 94 => ⟨S1x4x128, .f32⟩
  | 95 => ⟨S4x128, .f32⟩
  | 96 => ⟨S4x128x1, .f32⟩
  | 97 => ⟨S4x128x256, .f32⟩
  | 98 => ⟨S4x128x256, .f32⟩
  | 99 => ⟨S1x4x128x256, .f32⟩
  | 100 => ⟨S4x128x256, .f32⟩
  | 101 => ⟨S4x128x256, .f32⟩
  | 102 => ⟨S1x4x128, .f32⟩
  | 103 => ⟨S4x128, .f32⟩
  | 104 => ⟨S4x128x1, .f32⟩
  | 105 => ⟨S4x128x256, .f32⟩
  | 106 => ⟨S4x128x256, .f32⟩
  | 107 => ⟨S1x4x128x256, .f32⟩
  | 108 => ⟨S4x128x256, .f32⟩
  | 109 => ⟨S4x128x256, .f32⟩
  | 110 => ⟨S1x4x128, .f32⟩
  | 111 => ⟨S4x128, .f32⟩
  | 112 => ⟨S4x128x1, .f32⟩
  | 113 => ⟨S4x128x256, .f32⟩
  | 114 => ⟨S4x128x256, .f32⟩
  | 115 => ⟨S1x4x128x256, .f32⟩
  | 116 => ⟨S4x128x256, .f32⟩
  | 117 => ⟨S4x128x256, .f32⟩
  | 118 => ⟨S1x4x128, .f32⟩
  | 119 => ⟨S4x128, .f32⟩
  | 120 => ⟨S4x128x1, .f32⟩
  | 121 => ⟨S4x128x256, .f32⟩
  | 122 => ⟨S4x128x256, .f32⟩
  | 123 => ⟨S1x4x128x256, .f32⟩
  | 124 => ⟨S4x128x256, .f32⟩
  | 125 => ⟨S4x128x256, .f32⟩
  | 126 => ⟨S1x4x128, .f32⟩
  | 127 => ⟨S4x128, .f32⟩
  | _ => ⟨S2048x512, .f32⟩

abbrev hbmTy0_2 (i : Nat) : BufTy := match i % 128 with
  | 0 => ⟨S4x128x1, .f32⟩
  | 1 => ⟨S4x128x256, .f32⟩
  | 2 => ⟨S4x128x256, .f32⟩
  | 3 => ⟨S1x4x128x256, .f32⟩
  | 4 => ⟨S4x128x256, .f32⟩
  | 5 => ⟨S4x128x256, .f32⟩
  | 6 => ⟨S1x4x128, .f32⟩
  | 7 => ⟨S4x128, .f32⟩
  | 8 => ⟨S4x128x1, .f32⟩
  | 9 => ⟨S4x128x256, .f32⟩
  | 10 => ⟨S4x128x256, .f32⟩
  | 11 => ⟨S1x4x128x256, .f32⟩
  | 12 => ⟨S4x128x256, .f32⟩
  | 13 => ⟨S4x128x256, .f32⟩
  | 14 => ⟨S1x4x128, .f32⟩
  | 15 => ⟨S4x128, .f32⟩
  | 16 => ⟨S4x128x1, .f32⟩
  | 17 => ⟨S4x128x256, .f32⟩
  | 18 => ⟨S4x128x256, .f32⟩
  | 19 => ⟨S1x4x128x256, .f32⟩
  | 20 => ⟨S4x128x256, .f32⟩
  | 21 => ⟨S4x128x256, .f32⟩
  | 22 => ⟨S1x4x128x256, .f32⟩
  | 23 => ⟨S1x4x128x256, .f32⟩
  | 24 => ⟨S1x4x128x256, .f32⟩
  | 25 => ⟨S1x4x128x256, .f32⟩
  | 26 => ⟨S1x4x128x256, .f32⟩
  | 27 => ⟨S1x4x128x256, .f32⟩
  | 28 => ⟨S1x4x128x256, .f32⟩
  | 29 => ⟨S1x4x128x256, .f32⟩
  | 30 => ⟨S1x4x128x256, .f32⟩
  | 31 => ⟨S1x4x128x256, .f32⟩
  | 32 => ⟨S1x4x128x256, .f32⟩
  | 33 => ⟨S1x4x128x256, .f32⟩
  | 34 => ⟨S1x4x128x256, .f32⟩
  | 35 => ⟨S1x4x128x256, .f32⟩
  | 36 => ⟨S1x4x128x256, .f32⟩
  | 37 => ⟨S1x4x128x256, .f32⟩
  | 38 => ⟨S1x4x128x256, .f32⟩
  | 39 => ⟨S1x4x128x256, .f32⟩
  | 40 => ⟨S1x4x128x256, .f32⟩
  | 41 => ⟨S1x4x128x256, .f32⟩
  | 42 => ⟨S1x4x128x256, .f32⟩
  | 43 => ⟨S1x4x128x256, .f32⟩
  | 44 => ⟨S1x4x128x256, .f32⟩
  | 45 => ⟨S1x4x128x256, .f32⟩
  | 46 => ⟨S1x4x128x256, .f32⟩
  | 47 => ⟨S1x4x128x256, .f32⟩
  | 48 => ⟨S1x4x128x256, .f32⟩
  | 49 => ⟨S1x4x128x256, .f32⟩
  | 50 => ⟨S1x4x128x256, .f32⟩
  | 51 => ⟨S1x4x128x256, .f32⟩
  | 52 => ⟨S1x4x128x256, .f32⟩
  | 53 => ⟨S1x4x128x256, .f32⟩
  | 54 => ⟨S16x4x128x256, .f32⟩
  | 55 => ⟨S16x4x128x256, .f32⟩
  | 56 => ⟨S32x4x128x256, .f32⟩
  | 57 => ⟨S4x32x256x128, .f32⟩
  | 58 => ⟨S2048x512, .f32⟩
  | 59 => ⟨S2048x512, .f32⟩
  | 60 => ⟨S2048x1024, .f32⟩
  | 61 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S64x1024, .f32⟩
  | .local _ .vmem, ⟨9, _⟩ => ⟨S64x1024, .f32⟩
  | .local _ .vmem, ⟨10, _⟩ => ⟨S4x1x256x128, .f32⟩
  | .local _ .vmem, ⟨11, _⟩ => ⟨S4x1x256x128, .f32⟩
  | .local _ .vmem, ⟨12, _⟩ => ⟨S4x1x256x128, .f32⟩
  | .local _ .vmem, ⟨13, _⟩ => ⟨S4x1x256x128, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S64x1024, .f32⟩
  | .local _ .vmem, ⟨19, _⟩ => ⟨S64x1024, .f32⟩
  | .local _ .vmem, ⟨20, _⟩ => ⟨S64x512, .f32⟩
  | .local _ .vmem, ⟨21, _⟩ => ⟨S64x512, .f32⟩
  | .local _ .vmem, ⟨22, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_v289 : Ref sig .tc := ⟨.hbm, 297, rfl⟩
abbrev main_v290 : Ref sig .tc := ⟨.hbm, 298, rfl⟩
abbrev main_v291 : Ref sig .tc := ⟨.hbm, 299, rfl⟩
abbrev main_v292 : Ref sig .tc := ⟨.hbm, 300, rfl⟩
abbrev main_v293 : Ref sig .tc := ⟨.hbm, 301, rfl⟩
abbrev main_v294 : Ref sig .tc := ⟨.hbm, 302, rfl⟩
abbrev main_v295 : Ref sig .tc := ⟨.hbm, 303, rfl⟩
abbrev main_v296 : Ref sig .tc := ⟨.hbm, 304, rfl⟩
abbrev main_v297 : Ref sig .tc := ⟨.hbm, 305, rfl⟩
abbrev main_v298 : Ref sig .tc := ⟨.hbm, 306, rfl⟩
abbrev main_v299 : Ref sig .tc := ⟨.hbm, 307, rfl⟩
abbrev main_v300 : Ref sig .tc := ⟨.hbm, 308, rfl⟩
abbrev main_v301 : Ref sig .tc := ⟨.hbm, 309, rfl⟩
abbrev main_v302 : Ref sig .tc := ⟨.hbm, 310, rfl⟩
abbrev main_v303 : Ref sig .tc := ⟨.hbm, 311, rfl⟩
abbrev main_v304 : Ref sig .tc := ⟨.hbm, 312, rfl⟩
abbrev main_v305 : Ref sig .tc := ⟨.hbm, 313, rfl⟩
abbrev main_v306_0 : Ref sig .tc := ⟨.hbm, 314, rfl⟩
abbrev main_v306_1 : Ref sig .tc := ⟨.hbm, 315, rfl⟩
abbrev main_v306_2 : Ref sig .tc := ⟨.hbm, 316, rfl⟩
abbrev main_v306_3 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c30_i32 : BitVec 32 := 30#32
  let v0 : BitVec 32 := Scalar.subi c30_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x512 : Shape := ⟨2, ![2048, 512]⟩
abbrev S2048x1024 : Shape := ⟨2, ![2048, 1024]⟩
abbrev S1x2048x4x128 : Shape := ⟨4, ![1, 2048, 4, 128]⟩
abbrev S1x2048x4x256 : Shape := ⟨4, ![1, 2048, 4, 256]⟩
abbrev S1x32x64x4x128 : Shape := ⟨5, ![1, 32, 64, 4, 128]⟩
abbrev S_ : Shape := ⟨0, ![]⟩
abbrev S1x32x64x4x256 : Shape := ⟨5, ![1, 32, 64, 4, 256]⟩
abbrev S1x32x1x4x128 : Shape := ⟨5, ![1, 32, 1, 4, 128]⟩
abbrev S1x32x4x128 : Shape := ⟨4, ![1, 32, 4, 128]⟩
abbrev S1x32x4x128x256 : Shape := ⟨5, ![1, 32, 4, 128, 256]⟩
abbrev S1x4x128x256 : Shape := ⟨4, ![1, 4, 128, 256]⟩
abbrev S32x1x4x128 : Shape := ⟨4, ![32, 1, 4, 128]⟩
abbrev S32x1x4x128x256 : Shape := ⟨5, ![32, 1, 4, 128, 256]⟩
abbrev S32x1x4x128x1 : Shape := ⟨5, ![32, 1, 4, 128, 1]⟩
abbrev S1x1x4x128 : Shape := ⟨4, ![1, 1, 4, 128]⟩
abbrev S1x4x128 : Shape := ⟨3, ![1, 4, 128]⟩
abbrev S1x1x4x128x256 : Shape := ⟨5, ![1, 1, 4, 128, 256]⟩
abbrev S1x4x128x1 : Shape := ⟨4, ![1, 4, 128, 1]⟩
abbrev S1x1x4x128x1 : Shape := ⟨5, ![1, 1, 4, 128, 1]⟩
abbrev S1x32x4x256x64 : Shape := ⟨5, ![1, 32, 4, 256, 64]⟩
abbrev S1x32x4x64x128 : Shape := ⟨5, ![1, 32, 4, 64, 128]⟩
abbrev S1x32x4x256x128 : Shape := ⟨5, ![1, 32, 4, 256, 128]⟩
abbrev S4x128 : Shape := ⟨2, ![4, 128]⟩
abbrev S1x32x4x128x64 : Shape := ⟨5, ![1, 32, 4, 128, 64]⟩
abbrev S32x4x128 : Shape := ⟨3, ![32, 4, 128]⟩

abbrev nBuf : Space → Nat
  | .hbm => 195
  | .vmem => 0
  | .smem => 0
  | _ => 0

abbrev hbmTy0_0 (i : Nat) : BufTy := match i % 128 with
  | 0 => ⟨S2048x512, .f32⟩
  | 1 => ⟨S2048x512, .f32⟩
  | 2 => ⟨S2048x1024, .f32⟩
  | 3 => ⟨S2048x512, .f32⟩
  | 4 => ⟨S2048x1024, .f32⟩
  | 5 => ⟨S1x2048x4x128, .f32⟩
  | 6 => ⟨S1x2048x4x128, .f32⟩
  | 7 => ⟨S1x2048x4x256, .f32⟩
  | 8 => ⟨S1x2048x4x128, .f32⟩
  | 9 => ⟨S1x32x64x4x128, .f32⟩
  | 10 => ⟨S_, .f32⟩
  | 11 => ⟨S1x32x64x4x128, .f32⟩
  | 12 => ⟨S1x32x64x4x128, .f32⟩
  | 13 => ⟨S1x32x64x4x128, .f32⟩
  | 14 => ⟨S1x32x64x4x256, .f32⟩
  | 15 => ⟨S1x32x64x4x128, .f32⟩
  | 16 => ⟨S_, .f32⟩
  | 17 => ⟨S_, .f32⟩
  | 18 => ⟨S1x32x64x4x128, .f32⟩
  | 19 => ⟨S1x32x1x4x128, .f32⟩
  | 20 => ⟨S1x32x4x128, .f32⟩
  | 21 => ⟨S1x32x1x4x128, .f32⟩
  | 22 => ⟨S1x32x64x4x128, .f32⟩
  | 23 => ⟨S1x32x64x4x128, .f32⟩
  | 24 => ⟨S1x32x64x4x128, .f32⟩
  | 25 => ⟨S1x32x64x4x128, .f32⟩
  | 26 => ⟨S1x32x4x128x256, .f32⟩
  | 27 => ⟨S1x32x4x128, .f32⟩
  | 28 => ⟨S_, .f32⟩
  | 29 => ⟨S1x4x128x256, .f32⟩
  | 30 => ⟨S32x1x4x128, .f32⟩
  | 31 => ⟨S32x1x4x128x256, .f32⟩
  | 32 => ⟨S_, .f32⟩
  | 33 => ⟨S32x1x4x128x256, .f32⟩
  | 34 => ⟨S_, .f32⟩
  | 35 => ⟨S32x1x4x128x256, .f32⟩
  | 36 => ⟨S_, .f32⟩
  | 37 => ⟨S32x1x4x128x1, .f32⟩
  | 38 => ⟨S_, .i32⟩
  | 39 => ⟨S32x1x4x128, .f32⟩
  | 40 => ⟨S32x1x4x128x256, .f32⟩
  | 41 => ⟨S_, .i32⟩
  | 42 => ⟨S1x4x128x256, .f32⟩
  | 43 => ⟨S32x1x4x128x256, .f32⟩
  | 44 => ⟨S32x1x4x128x256, .f32⟩
  | 45 => ⟨S32x1x4x128x1, .f32⟩
  | 46 => ⟨S_, .i32⟩
  | 47 => ⟨S_, .i1⟩
  | 48 => ⟨S_, .i32⟩
  | 49 => ⟨S_, .i32⟩
  | 50 => ⟨S_, .i32⟩
  | 51 => ⟨S1x1x4x128, .f32⟩
  | 52 => ⟨S1x4x128, .f32⟩
  | 53 => ⟨S_, .i32⟩
  | 54 => ⟨S_, .i32⟩
  | 55 => ⟨S_, .i32⟩
  | 56 => ⟨S_, .i32⟩
  | 57 => ⟨S1x1x4x128x256, .f32⟩
  | 58 => ⟨S1x4x128x256, .f32⟩
  | 59 => ⟨S1x4x128x1, .f32⟩
  | 60 => ⟨S1x4x128x256, .f32⟩
  | 61 => ⟨S1x4x128x256, .f32⟩
  | 62 => ⟨S1x4x128x256, .f32⟩
  | 63 => ⟨S1x1x4x128x256, .f32⟩
  | 64 => ⟨S_, .i32⟩
  | 65 => ⟨S_, .i32⟩
  | 66 => ⟨S_, .i32⟩
  | 67 => ⟨S_, .i32⟩
  | 68 => ⟨S32x1x4x128x256, .f32⟩
  | 69 => ⟨S1x1x4x128x256, .f32⟩
  | 70 => ⟨S_, .i32⟩
  | 71 => ⟨S_, .i32⟩
  | 72 => ⟨S_, .i32⟩
  | 73 => ⟨S_, .i32⟩
  | 74 => ⟨S32x1x4x128x256, .f32⟩
  | 75 => ⟨S1x1x4x128x1, .f32⟩
  | 76 => ⟨S_, .i32⟩
  | 77 => ⟨S_, .i32⟩
  | 78 => ⟨S_, .i32⟩
  | 79 => ⟨S_, .i32⟩
  | 80 => ⟨S32x1x4x128x1, .f32⟩
  | 81 => ⟨S_, .i32⟩
  | 82 => ⟨S_, .i32⟩
  | 83 => ⟨S1x32x4x128x256, .f32⟩
  | 84 => ⟨S1x32x4x256x64, .f32⟩
  | 85 => ⟨S1x32x64x4x256, .f32⟩
  | 86 => ⟨S1x2048x4x256, .f32⟩
  | 87 => ⟨S2048x1024, .f32⟩
  | 88 => ⟨S_, .f32⟩
  | 89 => ⟨S1x4x128x256, .f32⟩
  | 90 => ⟨S1x2048x4x256, .f32⟩
  | 91 => ⟨S1x32x64x4x256, .f32⟩
  | 92 => ⟨S1x32x4x256x64, .f32⟩
  | 93 => ⟨S1x32x4x64x128, .f32⟩
  | 94 => ⟨S1x32x64x4x128, .f32⟩
  | 95 => ⟨S1x32x4x256x128, .f32⟩
  | 96 => ⟨S1x32x4x128x256, .f32⟩
  | 97 => ⟨S32x1x4x128x256, .f32⟩
  | 98 => ⟨S_, .f32⟩
  | 99 => ⟨S1x4x128x256, .f32⟩
  | 100 => ⟨S_, .f32⟩
  | 101 => ⟨S32x1x4x128, .f32⟩
  | 102 => ⟨S_, .f32⟩
  | 103 => ⟨S32x1x4x128x256, .f32⟩
  | 104 => ⟨S_, .i32⟩
  | 105 => ⟨S32x1x4x128x256, .f32⟩
  | 106 => ⟨S32x1x4x128x256, .f32⟩
  | 107 => ⟨S32x1x4x128x1, .f32⟩
  | 108 => ⟨S_, .i32⟩
  | 109 => ⟨S1x4x128x256, .f32⟩
  | 110 => ⟨S32x1x4x128, .f32⟩
  | 111 => ⟨S32x1x4x128x256, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S1x1x4x128x256, .f32⟩
  | 123 => ⟨S1x4x128x256, .f32⟩
  | 124 => ⟨S_, .i32⟩
  | 125 => ⟨S_, .i32⟩
  | 126 => ⟨S_, .i32⟩
  | 127 => ⟨S_, .i32⟩
  | _ => ⟨S2048x512, .f32⟩

abbrev hbmTy0_1 (i : Nat) : BufTy := match i % 128 with
  | 0 => ⟨S1x1x4x128x256, .f32⟩
  | 1 => ⟨S1x4x128x256, .f32⟩
  | 2 => ⟨S_, .i32⟩
  | 3 => ⟨S_, .i32⟩
  | 4 => ⟨S_, .i32⟩
  | 5 => ⟨S_, .i32⟩
  | 6 => ⟨S1x1x4x128x1, .f32⟩
  | 7 => ⟨S1x4x128x1, .f32⟩
  | 8 => ⟨S1x4x128x256, .f32⟩
  | 9 => ⟨S1x4x128x256, .f32⟩
  | 10 => ⟨S1x4x128x256, .f32⟩
  | 11 => ⟨S1x4x128x256, .f32⟩
  | 12 => ⟨S_, .f32⟩
  | 13 => ⟨S1x4x128, .f32⟩
  | 14 => ⟨S1x4x128x1, .f32⟩
  | 15 => ⟨S_, .f32⟩
  | 16 => ⟨S4x128, .f32⟩
  | 17 => ⟨S1x4x128, .f32⟩
  | 18 => ⟨S1x1x4x128, .f32⟩
  | 19 => ⟨S_, .i32⟩
  | 20 => ⟨S_, .i32⟩
  | 21 => ⟨S_, .i32⟩
  | 22 => ⟨S32x1x4x128, .f32⟩
  | 23 => ⟨S1x1x4x128x256, .f32⟩
  | 24 => ⟨S_, .i32⟩
  | 25 => ⟨S_, .i32⟩
  | 26 => ⟨S_, .i32⟩
  | 27 => ⟨S_, .i32⟩
  | 28 => ⟨S32x1x4x128x256, .f32⟩
  | 29 => ⟨S_, .i32⟩
  | 30 => ⟨S_, .i32⟩
  | 31 => ⟨S1x32x4x128x256, .f32⟩
  | 32 => ⟨S1x32x4x128, .f32⟩
  | 33 => ⟨S1x32x4x128, .f32⟩
  | 34 => ⟨S1x32x4x256x64, .f32⟩
  | 35 => ⟨S1x32x64x4x256, .f32⟩
  | 36 => ⟨S1x32x4x128x64, .f32⟩
  | 37 => ⟨S1x32x64x4x128, .f32⟩
  | 38 => ⟨S1x32x64x4x128, .f32⟩
  | 39 => ⟨S1x32x64x4x128, .f32⟩
  | 40 => ⟨S1x32x64x4x128, .f32⟩
  | 41 => ⟨S_, .f32⟩
  | 42 => ⟨S1x32x4x128, .f32⟩
  | 43 => ⟨S1x32x1x4x128, .f32⟩
  | 44 => ⟨S1x32x64x4x128, .f32⟩
  | 45 => ⟨S_, .f32⟩
  | 46 => ⟨S32x4x128, .f32⟩
  | 47 => ⟨S1x32x4x128, .f32⟩
  | 48 => ⟨S1x32x4x128, .f32⟩
  | 49 => ⟨S1x32x1x4x128, .f32⟩
  | 50 => ⟨S_, .f32⟩
  | 51 => ⟨S1x32x64x4x128, .f32⟩
  | 52 => ⟨S1x32x64x4x128, .f32⟩
  | 53 => ⟨S_, .f32⟩
  | 54 => ⟨S_, .f32⟩
  | 55 => ⟨S1x32x64x4x128, .f32⟩
  | 56 => ⟨S1x2048x4x128, .f32⟩
  | 57 => ⟨S1x2048x4x256, .f32⟩
  | 58 => ⟨S1x2048x4x128, .f32⟩
  | 59 => ⟨S_, .f32⟩
  | 60 => ⟨S1x32x64x4x128, .f32⟩
  | 61 => ⟨S1x32x64x4x128, .f32⟩
  | 62 => ⟨S1x2048x4x128, .f32⟩
  | 63 => ⟨S2048x512, .f32⟩
  | 64 => ⟨S2048x1024, .f32⟩
  | 65 => ⟨S2048x512, .f32⟩
  | 66 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_call0_cst : Ref sig .tc := ⟨.hbm, 16, rfl⟩
abbrev main_call0_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_c : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev main_v26_5 : Ref sig .tc := ⟨.hbm, 44, rfl⟩
abbrev main_v26_6 : Ref sig .tc := ⟨.hbm, 45, rfl⟩
abbrev main_while0c_c_19 : Ref sig .tc := ⟨.hbm, 46, rfl⟩
abbrev main_while0c_v75 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_v0 : Ref sig .tc := ⟨.hbm, 51, rfl⟩
abbrev main_while0b_v75 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v76 : Ref sig .tc := ⟨.hbm, 58, rfl⟩
abbrev main_while0b_v77 : Ref sig .tc := ⟨.hbm, 59, rfl⟩
abbrev main_while0b_v78 : Ref sig .tc := ⟨.hbm, 60, rfl⟩
abbrev main_while0b_v79 : Ref sig .tc := ⟨.hbm, 61, rfl⟩
abbrev main_while0b_v80 : Ref sig .tc := ⟨.hbm, 62, rfl⟩
abbrev main_while0b_call3_v0 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_c_2 : Ref sig .tc := ⟨.hbm, 67, rfl⟩
abbrev main_while0b_v81 : Ref sig .tc := ⟨.hbm, 68, rfl⟩
abbrev main_while0b_call4_v0 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_c_2 : Ref sig .tc := ⟨.hbm, 73, rfl⟩
abbrev main_while0b_v82 : Ref sig .tc := ⟨.hbm, 74, rfl⟩
abbrev main_while0b_call5_v0 : Ref sig .tc := ⟨.hbm, 75, rfl⟩
abbrev main_while0b_call5_c : Ref sig .tc := ⟨.hbm, 76, rfl⟩
abbrev main_while0b_call5_c_0 : Ref sig .tc := ⟨.hbm, 77, rfl⟩
abbrev main_while0b_call5_c_1 : Ref sig .tc := ⟨.hbm, 78, rfl⟩
abbrev main_while0b_call5_c_2 : Ref sig .tc := ⟨.hbm, 79, rfl⟩
abbrev main_while0b_v83 : Ref sig .tc := ⟨.hbm, 80, rfl⟩
abbrev main_while0b_c_19 : Ref sig .tc := ⟨.hbm, 81, rfl⟩
abbrev main_while0b_v84 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_5 : Ref sig .tc := ⟨.hbm, 98, rfl⟩
abbrev main_v41 : Ref sig .tc := ⟨.hbm, 99, rfl⟩
abbrev main_cst_6 : Ref sig .tc := ⟨.hbm, 100, rfl⟩
abbrev main_v42 : Ref sig .tc := ⟨.hbm, 101, rfl⟩
abbrev main_cst_7 : Ref sig .tc := ⟨.hbm, 102, rfl⟩
abbrev main_v43 : Ref sig .tc := ⟨.hbm, 103, rfl⟩
abbrev main_c_8 : Ref sig .tc := ⟨.hbm, 104, rfl⟩
abbrev main_v44_0 : Ref sig .tc := ⟨.hbm, 105, rfl⟩
abbrev main_v44_1 : Ref sig .tc := ⟨.hbm, 106, rfl⟩
abbrev main_v44_2 : Ref sig .tc := ⟨.hbm, 107, rfl⟩
abbrev main_v44_3 : Ref sig .tc := ⟨.hbm, 108, rfl⟩
abbrev main_v44_4 : Ref sig .tc := ⟨.hbm, 109, rfl⟩
abbrev main_v44_5 : Ref sig .tc := ⟨.hbm, 110, rfl⟩
abbrev main_v44_6 : Ref sig .tc := ⟨.hbm, 111, rfl⟩
abbrev main_while1c_c_19 : Ref sig .tc := ⟨.hbm, 112, rfl⟩
abbrev main_while1c_v75 : Ref sig .tc := ⟨.hbm, 113, rfl⟩
abbrev main_while1b_c_19 : Ref sig .tc := ⟨.hbm, 114, rfl⟩
abbrev main_while1b_v75 : Ref sig .tc := ⟨.hbm, 115, rfl⟩
abbrev main_while1b_c_20 : Ref sig .tc := ⟨.hbm, 116, rfl⟩
abbrev main_while1b_v76 : Ref sig .tc := ⟨.hbm, 117, rfl⟩
abbrev main_while1b_call6_c : Ref sig .tc := ⟨.hbm, 118, rfl⟩
abbrev main_while1b_call6_c_0 : Ref sig .tc := ⟨.hbm, 119, rfl⟩
abbrev main_while1b_call6_c_1 : Ref sig .tc := ⟨.hbm, 120, rfl⟩
abbrev main_while1b_call6_c_2 : Ref sig .tc := ⟨.hbm, 121, rfl⟩
abbrev main_while1b_call6_v0 : Ref sig .tc := ⟨.hbm, 122, rfl⟩
abbrev main_while1b_v77 : Ref sig .tc := ⟨.hbm, 123, rfl⟩
abbrev main_while1b_call7_c : Ref sig .tc := ⟨.hbm, 124, rfl⟩
abbrev main_while1b_call7_c_0 : Ref sig .tc := ⟨.hbm, 125, rfl⟩
abbrev main_while1b_call7_c_1 : Ref sig .tc := ⟨.hbm, 126, rfl⟩
abbrev main_while1b_call7_c_2 : Ref sig .tc := ⟨.hbm, 127, rfl⟩
abbrev main_while1b_call7_v0 : Ref sig .tc := ⟨.hbm, 128, rfl⟩
abbrev main_while1b_v78 : Ref sig .tc := ⟨.hbm, 129, rfl⟩
abbrev main_while1b_call8_c : Ref sig .tc := ⟨.hbm, 130, rfl⟩
abbrev main_while1b_call8_c_0 : Ref sig .tc := ⟨.hbm, 131, rfl⟩
abbrev main_while1b_call8_c_1 : Ref sig .tc := ⟨.hbm, 132, rfl⟩
abbrev main_while1b_call8_c_2 : Ref sig .tc := ⟨.hbm, 133, rfl⟩
abbrev main_while1b_call8_v0 : Ref sig .tc := ⟨.hbm, 134, rfl⟩
abbrev main_while1b_v79 : Ref sig .tc := ⟨.hbm, 135, rfl⟩
abbrev main_while1b_v80 : Ref sig .tc := ⟨.hbm, 136, rfl⟩
abbrev main_while1b_v81 : Ref sig .tc := ⟨.hbm, 137, rfl⟩
abbrev main_while1b_v82 : Ref sig .tc := ⟨.hbm, 138, rfl⟩
abbrev main_while1b_v83 : Ref sig .tc := ⟨.hbm, 139, rfl⟩
abbrev main_while1b_cst_21 : Ref sig .tc := ⟨.hbm, 140, rfl⟩
abbrev main_while1b_v84 : Ref sig .tc := ⟨.hbm, 141, rfl⟩
abbrev main_while1b_v85 : Ref sig .tc := ⟨.hbm, 142, rfl⟩
abbrev main_while1b_cst_22 : Ref sig .tc := ⟨.hbm, 143, rfl⟩
abbrev main_while1b_v86 : Ref sig .tc := ⟨.hbm, 144, rfl⟩
abbrev main_while1b_v87 : Ref sig .tc := ⟨.hbm, 145, rfl⟩
abbrev main_while1b_call9_v0 : Ref sig .tc := ⟨.hbm, 146, rfl⟩
abbrev main_while1b_call9_c : Ref sig .tc := ⟨.hbm, 147, rfl⟩
abbrev main_while1b_call9_c_0 : Ref sig .tc := ⟨.hbm, 148, rfl⟩
abbrev main_while1b_call9_c_1 : Ref sig .tc := ⟨.hbm, 149, rfl⟩
abbrev main_while1b_v88 : Ref sig .tc := ⟨.hbm, 150, rfl⟩
abbrev main_while1b_call10_v0 : Ref sig .tc := ⟨.hbm, 151, rfl⟩
abbrev main_while1b_call10_c : Ref sig .tc := ⟨.hbm, 152, rfl⟩
abbrev main_while1b_call10_c_0 : Ref sig .tc := ⟨.hbm, 153, rfl⟩
abbrev main_while1b_call10_c_1 : Ref sig .tc := ⟨.hbm, 154, rfl⟩
abbrev main_while1b_call10_c_2 : Ref sig .tc := ⟨.hbm, 155, rfl⟩
abbrev main_while1b_v89 : Ref sig .tc := ⟨.hbm, 156, rfl⟩
abbrev main_while1b_c_23 : Ref sig .tc := ⟨.hbm, 157, rfl⟩
abbrev main_while1b_v90 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_v53 : Ref sig .tc := ⟨.hbm, 167, rfl⟩
abbrev main_v54 : Ref sig .tc := ⟨.hbm, 168, rfl⟩
abbrev main_cst_9 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_cst_10 : Ref sig .tc := ⟨.hbm, 173, rfl⟩
abbrev main_v58 : Ref sig .tc := ⟨.hbm, 174, rfl⟩
abbrev main_v59 : Ref sig .tc := ⟨.hbm, 175, rfl⟩
abbrev main_v60 : Ref sig .tc := ⟨.hbm, 176, rfl⟩
abbrev main_v61 : Ref sig .tc := ⟨.hbm, 177, rfl⟩
abbrev main_cst_11 : Ref sig .tc := ⟨.hbm, 178, rfl⟩
abbrev main_v62 : Ref sig .tc := ⟨.hbm, 179, rfl⟩
abbrev main_v63 : Ref sig .tc := ⟨.hbm, 180, rfl⟩
abbrev main_call11_call0_cst : Ref sig .tc := ⟨.hbm, 181, rfl⟩
abbrev main_call11_call0_v0 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_cst_12 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x512 : Shape := ⟨2, ![2048, 512]⟩
abbrev S2048x1024 : Shape := ⟨2, ![2048, 1024]⟩
abbrev S4x32x256x128 : Shape := ⟨4, ![4, 32, 256, 128]⟩
abbrev S64x512 : Shape := ⟨2, ![64, 512]⟩
abbrev S64x1024 : Shape := ⟨2, ![64, 1024]⟩
abbrev S4x1x256x128 : Shape := ⟨4, ![4, 1, 256, 128]⟩
abbrev S4x256x128 : Shape := ⟨3, ![4, 256, 128]⟩
abbrev S64x64 : Shape := ⟨2, ![64, 64]⟩
abbrev S512 : Shape := ⟨1, ![512]⟩
abbrev S1x512 : Shape := ⟨2, ![1, 512]⟩
abbrev S64x256 : Shape := ⟨2, ![64, 256]⟩
abbrev S64x128 : Shape := ⟨2, ![64, 128]⟩
abbrev S256x128 : Shape := ⟨2, ![256, 128]⟩
abbrev S1x256x128 : Shape := ⟨3, ![1, 256, 128]⟩
abbrev S1x128 : Shape := ⟨2, ![1, 128]⟩
abbrev S1x1x256x128 : Shape := ⟨4, ![1, 1, 256, 128]⟩

abbrev nBuf : Space → Nat
  | .hbm => 6
  | .vmem => 13
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x1024, .f32⟩
  | .hbm, ⟨5, _⟩ => ⟨S4x32x256x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S64x1024, .f32⟩
  | .local _ .vmem, ⟨9, _⟩ => ⟨S64x1024, .f32⟩
  | .local _ .vmem, ⟨10, _⟩ => ⟨S4x1x256x128, .f32⟩
  | .local _ .vmem, ⟨11, _⟩ => ⟨S4x1x256x128, .f32⟩
  | .local _ .vmem, ⟨12, _⟩ => ⟨S4x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2048x512 : Shape := ⟨2, ![2048, 512]⟩
abbrev S2048x1024 : Shape := ⟨2, ![2048, 1024]⟩
abbrev S1x2048x4x128 : Shape := ⟨4, ![1, 2048, 4, 128]⟩
abbrev S1x2048x4x256 : Shape := ⟨4, ![1, 2048, 4, 256]⟩
abbrev S1x32x64x4x128 : Shape := ⟨5, ![1, 32, 64, 4, 128]⟩
abbrev S_ : Shape := ⟨0, ![]⟩
abbrev S1x32x64x4x256 : Shape := ⟨5, ![1, 32, 64, 4, 256]⟩
abbrev S1x32x1x4x128 : Shape := ⟨5, ![1, 32, 1, 4, 128]⟩
abbrev S1x32x4x128 : Shape := ⟨4, ![1, 32, 4, 128]⟩
abbrev S1x32x4x128x256 : Shape := ⟨5, ![1, 32, 4, 128, 256]⟩
abbrev S1x4x128x256 : Shape := ⟨4, ![1, 4, 128, 256]⟩
abbrev S32x1x4x128 : Shape := ⟨4, ![32, 1, 4, 128]⟩
abbrev S32x1x4x128x256 : Shape := ⟨5, ![32, 1, 4, 128, 256]⟩
abbrev S1x1x4x128 : Shape := ⟨4, ![1, 1, 4, 128]⟩
abbrev S1x4x128 : Shape := ⟨3, ![1, 4, 128]⟩
abbrev S1x1x4x128x256 : Shape := ⟨5, ![1, 1, 4, 128, 256]⟩
abbrev S1x4x128x1 : Shape := ⟨4, ![1, 4, 128, 1]⟩
abbrev S1x32x4x256x64 : Shape := ⟨5, ![1, 32, 4, 256, 64]⟩
abbrev S32x4x128x256 : Shape := ⟨4, ![32, 4, 128, 256]⟩
abbrev S4x32x256x128 : Shape := ⟨4, ![4, 32, 256, 128]⟩

abbrev nBuf : Space → Nat
  | .hbm => 71
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S1x2048x4x128, .f32⟩
  | .hbm, ⟨5, _⟩ => ⟨S1x2048x4x128, .f32⟩
  | .hbm, ⟨6, _⟩ => ⟨S1x2048x4x256, .f32⟩
  | .hbm, ⟨7, _⟩ => ⟨S1x2048x4x128, .f32⟩
  | .hbm, ⟨8, _⟩ => ⟨S1x32x64x4x128, .f32⟩
  | .hbm, ⟨9, _⟩ => ⟨S_, .f32⟩
  | .hbm, ⟨10, _⟩ => ⟨S1x32x64x4x128, .f32⟩
  | .hbm, ⟨11, _⟩ => ⟨S1x32x64x4x128, .f32⟩
  | .hbm, ⟨12, _⟩ => ⟨S1x32x64x4x128, .f32⟩
  | .hbm, ⟨13, _⟩ => ⟨S1x32x64x4x256, .f32⟩
  | .hbm, ⟨14, _⟩ => ⟨S1x32x64x4x128, .f32⟩
  | .hbm, ⟨15, _⟩ => ⟨S_, .f32⟩
  | .hbm, ⟨16, _⟩ => ⟨S_, .f32⟩
  | .hbm, ⟨17, _⟩ => ⟨S1x32x64x4x128, .f32⟩
  | .hbm, ⟨18, _⟩ => ⟨S1x32x1x4x128, .f32⟩
  | .hbm, ⟨19, _⟩ => ⟨S1x32x4x128, .f32⟩
  | .hbm, ⟨20, _⟩ => ⟨S1x32x1x4x128, .f32⟩
  | .hbm, ⟨21, _⟩ => ⟨S1x32x64x4x128, .f32⟩
  | .hbm, ⟨22, _⟩ => ⟨S1x32x64x4x128, .f32⟩
  | .hbm, ⟨23, _⟩ => ⟨S1x32x64x4x128, .f32⟩
  | .hbm, ⟨24, _⟩ => ⟨S1x32x64x4x128, .f32⟩
  | .hbm, ⟨25, _⟩ => ⟨S1x32x4x128x256, .f32⟩
  | .hbm, ⟨26, _⟩ => ⟨S1x32x4x128, .f32⟩
  | .hbm, ⟨27, _⟩ => ⟨S_, .f32⟩
  | .hbm, ⟨28, _⟩ => ⟨S1x4x128x256, .f32⟩
  | .hbm, ⟨29, _⟩ => ⟨S32x1x4x128, .f32⟩
  | .hbm, ⟨30, _⟩ => ⟨S32x1x4x128x256, .f32⟩
  | .hbm, ⟨31, _⟩ => ⟨S_, .f32⟩
  | .hbm, ⟨32, _⟩ => ⟨S32x1x4x128x256, .f32⟩
  | .hbm, ⟨33, _⟩ => ⟨S_, .i32⟩
  | .hbm, ⟨34, _⟩ => ⟨S32x1x4x128, .f32⟩
  | .hbm, ⟨35, _⟩ => ⟨S32x1x4x128x256, .f32⟩
  | .hbm, ⟨36, _⟩ => ⟨S_, .i32⟩
  | .hbm, ⟨37, _⟩ => ⟨S1x4x128x256, .f32⟩
  | .hbm, ⟨38, _⟩ => ⟨S32x1x4x128x256, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x1x4x128, .f32⟩
  | .hbm, ⟨45, _⟩ => ⟨S1x4x128, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x1x4x128x256, .f32⟩
  | .hbm, ⟨51, _⟩ => ⟨S1x4x128x256, .f32⟩
  | .hbm, ⟨52, _⟩ => ⟨S1x4x128x1, .f32⟩
  | .hbm, ⟨53, _⟩ => ⟨S1x4x128x256, .f32⟩
  | .hbm, ⟨54, _⟩ => ⟨S1x4x128x256, .f32⟩
  | .hbm, ⟨55, _⟩ => ⟨S1x4x128x256, .f32⟩
  | .hbm, ⟨56, _⟩ => ⟨S1x1x4x128x256, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S32x1x4x128x256, .f32⟩
  | .hbm, ⟨62, _⟩ => ⟨S_, .i32⟩
  | .hbm, ⟨63, _⟩ => ⟨S_, .i32⟩
  | .hbm, ⟨64, _⟩ => ⟨S1x32x4x128x256, .f32⟩
  | .hbm, ⟨65, _⟩ => ⟨S1x32x4x256x64, .f32⟩
  | .hbm, ⟨66, _⟩ => ⟨S1x32x64x4x256, .f32⟩
  | .hbm, ⟨67, _⟩ => ⟨S1x2048x4x256, .f32⟩
  | .hbm, ⟨68, _⟩ => ⟨S2048x1024, .f32⟩
  | .hbm, ⟨69, _⟩ => ⟨S32x4x128x256, .f32⟩
  | .hbm, ⟨70, _⟩ => ⟨S4x32x256x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_cst : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_c : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_while0c_c_6 : Ref sig .tc := ⟨.hbm, 39, rfl⟩
abbrev main_while0c_v32 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v32 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_c_1 : Ref sig .tc := ⟨.hbm, 48, rfl⟩
abbrev main_while0b_call2_c_2 : Ref sig .tc := ⟨.hbm, 49, rfl⟩
abbrev main_while0b_call2_v0 : Ref sig .tc := ⟨.hbm, 50, rfl⟩
abbrev main_while0b_v33 : Ref sig .tc := ⟨.hbm, 51, rfl⟩
abbrev main_while0b_v34 : Ref sig .tc := ⟨.hbm, 52, rfl⟩
abbrev main_while0b_v35 : Ref sig .tc := ⟨.hbm, 53, rfl⟩
abbrev main_while0b_v36 : Ref sig .tc := ⟨.hbm, 54, rfl⟩
abbrev main_while0b_v37 : Ref sig .tc := ⟨.hbm, 55, rfl⟩
abbrev main_while0b_call3_v0 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_v38 : Ref sig .tc := ⟨.hbm, 61, rfl⟩
abbrev main_while0b_c_6 : Ref sig .tc := ⟨.hbm, 62, rfl⟩
abbrev main_while0b_v39 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S8x704x2048 : Shape := ⟨3, ![8, 704, 2048]⟩
abbrev S256x2048 : Shape := ⟨2, ![256, 2048]⟩
abbrev S256 : Shape := ⟨1, ![256]⟩
abbrev S256x1 : Shape := ⟨2, ![256, 1]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩

abbrev nBuf : Space → Nat
  | .hbm => 18
  | .vmem => 57
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S5632x2048, .f32⟩
  | .hbm, ⟨6, _⟩ => ⟨S5632x2048, .bf16⟩
  | .hbm, ⟨7, _⟩ => ⟨S8x704x2048, .bf16⟩
  | .hbm, ⟨8, _⟩ => ⟨S5632x2048, .f32⟩
  | .hbm, ⟨9, _⟩ => ⟨S5632x2048, .bf16⟩
  | .hbm, ⟨10, _⟩ => ⟨S8x704x2048, .bf16⟩
  | .hbm, ⟨11, _⟩ => ⟨S5632x2048, .bf16⟩
  | .hbm, ⟨12, _⟩ => ⟨S8x704x2048, .bf16⟩
  | .hbm, ⟨13, _⟩ => ⟨S2048x2048, .bf16⟩
  | .hbm, ⟨14, _⟩ => ⟨S8x2048x704, .bf16⟩
  | .hbm, ⟨15, _⟩ => ⟨S8x2048x704, .bf16⟩
  | .hbm, ⟨16, _⟩ => ⟨S8x2048x704, .bf16⟩
  | .hbm, ⟨17, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x1024x704, .bf16⟩
  | .local _ .vmem, ⟨10, _⟩ => ⟨S1x1024x704, .bf16⟩
  | .local _ .vmem, ⟨11, _⟩ => ⟨S1024x2048, .bf16⟩
  | .local _ .vmem, ⟨12, _⟩ => ⟨S1024x2048, .bf16⟩
  | .local _ .vmem, ⟨13, _⟩ => ⟨S1x704x2048, .bf16⟩
  | .local _ .vmem, ⟨14, _⟩ => ⟨S1x704x2048, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x512x704, .bf16⟩
  | .local _ .vmem, ⟨30, _⟩ => ⟨S1x512x704, .bf16⟩
  | .local _ .vmem, ⟨31, _⟩ => ⟨S1x512x704, .bf16⟩
  | .local _ .vmem, ⟨32, _⟩ => ⟨S1x512x704, .bf16⟩
  | .local _ .vmem, ⟨33, _⟩ => ⟨S1x512x704, .bf16⟩
  | .local _ .vmem, ⟨34, _⟩ => ⟨S1x512x704, .bf16⟩
  | .local _ .vmem, ⟨35, _⟩ => ⟨S1x512x704, .bf16⟩
  | .local _ .vmem, ⟨36, _⟩ => ⟨S1x512x704, .bf16⟩
  | .local _ .vmem, ⟨37, _⟩ => ⟨S1x704x1024, .bf16⟩
  | .local _ .vmem, ⟨38, _⟩ => ⟨S1x704x1024, .bf16⟩
  | .local _ .vmem, ⟨39, _⟩ => ⟨S1x704x1024, .bf16⟩
  | .local _ .vmem, ⟨40, _⟩ => ⟨S1x704x1024, .bf16⟩
  | .local _ .vmem, ⟨41, _⟩ => ⟨S1x704x1024, .bf16⟩
  | .local _ .vmem, ⟨42, _⟩ => ⟨S1x704x1024, .bf16⟩
  | .local _ .vmem, ⟨43, _⟩ => ⟨S1x704x1024, .bf16⟩
  | .local _ .vmem, ⟨44, _⟩ => ⟨S1x704x1024, .bf16⟩
  | .local _ .vmem, ⟨45, _⟩ => ⟨S1x704x1024, .bf16⟩
  | .local _ .vmem, ⟨46, _⟩ => ⟨S1x704x1024, .bf16⟩
  | .local _ .vmem, ⟨47, _⟩ => ⟨S1x704x1024, .bf16⟩
  | .local _ .vmem, ⟨48, _⟩ => ⟨S1x704x1024, .bf16⟩
  | .local _ .vmem, ⟨49, _⟩ => ⟨S1x704x1024, .bf16⟩
  | .local _ .vmem, ⟨50, _⟩ => ⟨S1x704x1024, .bf16⟩
  | .local _ .vmem, ⟨51, _⟩ => ⟨S1x704x1024, .bf16⟩
  | .local _ .vmem, ⟨52, _⟩ => ⟨S1x704x1024, .bf16⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg8_1 : Ref sig .tc := ⟨.vmem, 38, rfl⟩
abbrev cc3_stg9_0 : Ref sig .tc := ⟨.vmem, 39, rfl⟩
abbrev cc3_stg9_1 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc3_stg11_1 : Ref sig .tc := ⟨.vmem, 44, rfl⟩
abbrev cc3_stg12_0 : Ref sig .tc := ⟨.vmem, 45, rfl⟩
abbrev cc3_stg12_1 : Ref sig .tc := ⟨.vmem, 46, rfl⟩
abbrev cc3_stg13_0 : Ref sig .tc := ⟨.vmem, 47, rfl⟩
abbrev cc3_stg13_1 : Ref sig .tc := ⟨.vmem, 48, rfl⟩
abbrev cc3_stg14_0 : Ref sig .tc := ⟨.vmem, 49, rfl⟩
abbrev cc3_stg14_1 : Ref sig .tc := ⟨.vmem, 50, rfl⟩
abbrev cc3_stg15_0 : Ref sig .tc := ⟨.vmem, 51, rfl⟩
abbrev cc3_stg15_1 : Ref sig .tc := ⟨.vmem, 52, rfl⟩
abbrev cc3_stg16_0 : Ref sig .tc := ⟨.vmem, 53, rfl⟩
abbrev cc3_stg16_1 : Ref sig .tc := ⟨.vmem, 54, rfl⟩
abbrev cc3_stg17_0 : Ref sig .tc := ⟨.vmem, 55, rfl⟩
abbrev cc3_stg17_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem6_1 : DmaSem sig := 34
abbrev cc3_sem7_0 : DmaSem sig := 35
abbrev cc3_sem7_1 : DmaSem sig := 36
abbrev cc3_sem8_0 : DmaSem sig := 37
abbrev cc3_sem8_1 : DmaSem sig := 38
abbrev cc3_sem9_0 : DmaSem sig := 39
abbrev cc3_sem9_1 : DmaSem sig := 40
abbrev cc3_sem10_0 : DmaSem sig := 41
abbrev cc3_sem10_1 : DmaSem sig := 42
abbrev cc3_sem11_0 : DmaSem sig := 43
abbrev cc3_sem11_1 : DmaSem sig := 44
abbrev cc3_sem12_0 : DmaSem sig := 45
abbrev cc3_sem12_1 : DmaSem sig := 46
abbrev cc3_sem13_0 : DmaSem sig := 47
abbrev cc3_sem13_1 : DmaSem sig := 48
abbrev cc3_sem14_0 : DmaSem sig := 49
abbrev cc3_sem14_1 : DmaSem sig := 50
abbrev cc3_sem15_0 : DmaSem sig := 51
abbrev cc3_sem15_1 : DmaSem sig := 52
abbrev cc3_sem16_0 : DmaSem sig := 53
abbrev cc3_sem16_1 : DmaSem sig := 54
abbrev cc3_sem17_0 : DmaSem sig := 55
abbrev cc3_sem17_1 : DmaSem sig := 56

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1x704x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![4, 2, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c2_i32 : BitVec 32 := 2#32
  let v1 : BitVec 32 := Scalar.addi v0 c2_i32
  let c0_i32 : BitVec 32 := 0#32
  let c0_i32_0 : BitVec 32 := 0#32
  ![v1.toNat, arg0.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c3_i32 : BitVec 32 := 3#32
  let v1 : BitVec 32 := Scalar.addi v0 c3_i32
  let c0_i32 : BitVec 32 := 0#32
  let c0_i32_0 : BitVec 32 := 0#32
  ![v1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c4_i32 : BitVec 32 := 4#32
  let v1 : BitVec 32 := Scalar.addi v0 c4_i32
  let c0_i32 : BitVec 32 := 0#32
  let c0_i32_0 : BitVec 32 := 0#32
  ![v1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c5_i32 : BitVec 32 := 5#32
  let v1 : BitVec 32 := Scalar.addi v0 c5_i32
  let c0_i32 : BitVec 32 := 0#32
  let c0_i32_0 : BitVec 32 := 0#32
  ![v1.toNat, arg0.toNat, c0_i32.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c6_i32 : BitVec 32 := 6#32
  let v1 : BitVec 32 := Scalar.addi v0 c6_i32
  let c0_i32 : BitVec 32 := 0#32
  let c0_i32_0 : BitVec 32 := 0#32
  ![v1.toNat, arg0.toNat, c0_i32.toNat]

def cc3_transform_7 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c7_i32 : BitVec 32 := 7#32
  let v1 : BitVec 32 := Scalar.addi v0 c7_i32
  let c0_i32 : BitVec 32 := 0#32
  let c0_i32_0 : BitVec 32 := 0#32
  ![v1.toNat, arg0.toNat, c0_i32.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc3_transform_9 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc3_transform_10 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c2_i32 : BitVec 32 := 2#32
  let v1 : BitVec 32 := Scalar.addi v0 c2_i32
  let c0_i32 : BitVec 32 := 0#32
  let c0_i32_0 : BitVec 32 := 0#32
  ![v1.toNat, c0_i32.toNat, arg1.toNat]

def cc3_transform_11 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c3_i32 : BitVec 32 := 3#32
  let v1 : BitVec 32 := Scalar.addi v0 c3_i32
  let c0_i32 : BitVec 32 := 0#32
  let c0_i32_0 : BitVec 32 := 0#32
  ![v1.toNat, c0_i32.toNat, arg1.toNat]

def cc3_transform_12 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c4_i32 : BitVec 32 := 4#32
  let v1 : BitVec 32 := Scalar.addi v0 c4_i32
  let c0_i32 : BitVec 32 := 0#32
  let c0_i32_0 : BitVec 32 := 0#32
  ![v1.toNat, c0_i32.toNat, arg1.toNat]

def cc3_transform_13 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c5_i32 : BitVec 32 := 5#32
  let v1 : BitVec 32 := Scalar.addi v0 c5_i32
  let c0_i32 : BitVec 32 := 0#32
  let c0_i32_0 : BitVec 32 := 0#32
  ![v1.toNat, c0_i32.toNat, arg1.toNat]

def cc3_transform_14 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c6_i32 : BitVec 32 := 6#32
  let v1 : BitVec 32 := Scalar.addi v0 c6_i32
  let c0_i32 : BitVec 32 := 0#32
  let c0_i32_0 : BitVec 32 := 0#32
  ![v1.toNat, c0_i32.toNat, arg1.toNat]

def cc3_transform_15 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli c8_i32 arg2
  let c7_i32 : BitVec 32 := 7#32
  let v1 : BitVec 32 := Scalar.addi v0 c7_i32
  let c0_i32 : BitVec 32 := 0#32
  let c0_i32_0 : BitVec 32 := 0#32
  ![v1.toNat, c0_i32.toNat, arg1.toNat]

def cc3_transform_16 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_18 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x512x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x512x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x512x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, true]

abbrev stage3_4 : Fin 2 → Memref sig .tc .vmem S1x512x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false, true]

abbrev stage3_5 : Fin 2 → Memref sig .tc .vmem S1x512x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, true]

abbrev stage3_6 : Fin 2 → Memref sig .tc .vmem S1x512x704 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false, true]

abbrev stage3_7 : Fin 2 → Memref sig .tc .vmem S1x512x704 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false, true]

abbrev stage3_8 : Fin 2 → Memref sig .tc .vmem S1x704x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true, true]

abbrev stage3_9 : Fin 2 → Memref sig .tc .vmem S1x704x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![false, true, true]

abbrev stage3_10 : Fin 2 → Memref sig .tc .vmem S1x704x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![false, true, true]

abbrev stage3_11 : Fin 2 → Memref sig .tc .vmem S1x704x1024 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![false, true, true]

abbrev stage3_12 : Fin 2 → Memref sig .tc .vmem S1x704x1024 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![false, true, true]

abbrev stage3_13 : Fin 2 → Memref sig .tc .vmem S1x704x1024 .bf16 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![false, true, true]

abbrev stage3_14 : Fin 2 → Memref sig .tc .vmem S1x704x1024 .bf16 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![false, true, true]

abbrev stage3_15 : Fin 2 → Memref sig .tc .vmem S1x704x1024 .bf16 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![false, true, true]

abbrev stage3_16 : Fin 2 → Memref sig .tc .vmem S512x1024 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true, false]

abbrev stage3_17 : Fin 2 → Memref sig .tc .vmem S512x1024 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true, true, false]
-- ==== Reference3Ideal.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S_, .f32⟩
  | .hbm, ⟨26, _⟩ => ⟨S2048x5632, .f32⟩
  | .hbm, ⟨27, _⟩ => ⟨S2048x5632, .f32⟩
  | .hbm, ⟨28, _⟩ => ⟨S_, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S8x704x2048 : Shape := ⟨3, ![8, 704, 2048]⟩
abbrev S256x2048 : Shape := ⟨2, ![256, 2048]⟩
abbrev S256 : Shape := ⟨1, ![256]⟩
abbrev S256x1 : Shape := ⟨2, ![256, 1]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S1x2048x704 : Shape := ⟨3, ![1, 2048, 704]⟩
abbrev S2048x704 : Shape := ⟨2, ![2048, 704]⟩

abbrev nBuf : Space → Nat
  | .hbm => 24
  | .vmem => 48
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S5632x2048, .f32⟩
  | .hbm, ⟨7, _⟩ => ⟨S5632x2048, .bf16⟩
  | .hbm, ⟨8, _⟩ => ⟨S8x704x2048, .bf16⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S5632x2048, .bf16⟩
  | .hbm, ⟨13, _⟩ => ⟨S8x704x2048, .bf16⟩
  | .hbm, ⟨14, _⟩ => ⟨S2048x2048, .bf16⟩
  | .hbm, ⟨15, _⟩ => ⟨S2048x2048, .bf16⟩
  | .hbm, ⟨16, _⟩ => ⟨S8x2048x704, .bf16⟩
  | .hbm, ⟨17, _⟩ => ⟨S8x2048x704, .bf16⟩
  | .hbm, ⟨18, _⟩ => ⟨S8x2048x704, .bf16⟩
  | .hbm, ⟨19, _⟩ => ⟨S8x704x2048, .bf16⟩
  | .hbm, ⟨20, _⟩ => ⟨S8x2048x704, .bf16⟩
  | .hbm, ⟨21, _⟩ => ⟨S8x2048x704, .bf16⟩
  | .hbm, ⟨22, _⟩ => ⟨S8x704x2048, .bf16⟩
  | .hbm, ⟨23, _⟩ => ⟨S8x704x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x1024x704, .bf16⟩
  | .local _ .vmem, ⟨10, _⟩ => ⟨S1x1024x704, .bf16⟩
  | .local _ .vmem, ⟨11, _⟩ => ⟨S1024x2048, .bf16⟩
  | .local _ .vmem, ⟨12, _⟩ => ⟨S1024x2048, .bf16⟩
  | .local _ .vmem, ⟨13, _⟩ => ⟨S1x704x2048, .bf16⟩
  | .local _ .vmem, ⟨14, _⟩ => ⟨S1x704x2048, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x2048x704, .bf16⟩
  | .local _ .vmem, ⟨22, _⟩ => ⟨S1x2048x704, .bf16⟩
  | .local _ .vmem, ⟨23, _⟩ => ⟨S2048x2048, .bf16⟩
  | .local _ .vmem, ⟨24, _⟩ => ⟨S1x704x2048, .bf16⟩
  | .local _ .vmem, ⟨25, _⟩ => ⟨S1x704x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1x704x2048, .bf16⟩
  | .local _ .vmem, ⟨29, _⟩ => ⟨S1x704x2048, .bf16⟩
  | .local _ .vmem, ⟨30, _⟩ => ⟨S1x1024x704, .bf16⟩
  | .local _ .vmem, ⟨31, _⟩ => ⟨S1x1024x704, .bf16⟩
  | .local _ .vmem, ⟨32, _⟩ => ⟨S1x1024x704, .bf16⟩
  | .local _ .vmem, ⟨33, _⟩ => ⟨S1x1024x704, .bf16⟩
  | .local _ .vmem, ⟨34, _⟩ => ⟨S1x1024x704, .bf16⟩
  | .local _ .vmem, ⟨35, _⟩ => ⟨S1x1024x704, .bf16⟩
  | .local _ .vmem, ⟨36, _⟩ => ⟨S1x1024x704, .bf16⟩
  | .local _ .vmem, ⟨37, _⟩ => ⟨S1x1024x704, .bf16⟩
  | .local _ .vmem, ⟨38, _⟩ => ⟨S1x2048x704, .bf16⟩
  | .local _ .vmem, ⟨39, _⟩ => ⟨S1x2048x704, .bf16⟩
  | .local _ .vmem, ⟨40, _⟩ => ⟨S2048x2048, .bf16⟩
  | .local _ .vmem, ⟨41, _⟩ => ⟨S1x704x2048, .bf16⟩
  | .local _ .vmem, ⟨42, _⟩ => ⟨S1x704x2048, .bf16⟩
  | .local _ .vmem, ⟨43, _⟩ => ⟨S1x2048x704, .bf16⟩
  | .local _ .vmem, ⟨44, _⟩ => ⟨S1x2048x704, .bf16⟩
  | .local _ .vmem, ⟨45, _⟩ => ⟨S2048x2048, .bf16⟩
  | .local _ .vmem, ⟨46, _⟩ => ⟨S1x704x2048, .bf16⟩
  | .local _ .vmem, ⟨47, _⟩ => ⟨S1x704x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1x704x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![8, 1, 1], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage3_0 : Fin 2 → Memref sig .tc .vmem S1x2048x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x704x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_5 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_6 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1x704x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x1024x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1x1024x704 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S1x1024x704 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S1x1024x704 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev grid5 : Pipeline.Grid := ⟨3, ![8, 1, 1], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage5_0 : Fin 2 → Memref sig .tc .vmem S1x2048x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1x704x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 1, 1], ![false, false, false]⟩

def cc6_transform_0 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage6_0 : Fin 2 → Memref sig .tc .vmem S1x2048x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1x704x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference4Ideal.lean ====
abbrev S2048x2048 : Shape := ⟨2, ![2048, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S2048x1 : Shape := ⟨2, ![2048, 1]⟩
abbrev S8x704x2048 : Shape := ⟨3, ![8, 704, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S_, .f32⟩
  | .hbm, ⟨27, _⟩ => ⟨S2048x5632, .f32⟩
  | .hbm, ⟨28, _⟩ => ⟨S2048x5632, .f32⟩
  | .hbm, ⟨29, _⟩ => ⟨S_, .f32⟩
  | .hbm, ⟨30, _⟩ => ⟨S2048x5632, .f32⟩
  | .hbm, ⟨31, _⟩ => ⟨S2048x5632, .f32⟩
  | .hbm, ⟨32, _⟩ => ⟨S_, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x5632, .f32⟩
  | .hbm, ⟨48, _⟩ => ⟨S5632x2048, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S5632x2048, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S5632x2048, .f32⟩
  | .hbm, ⟨59, _⟩ => ⟨S2048x5632, .f32⟩
  | .hbm, ⟨60, _⟩ => ⟨S5632x2048, .f32⟩
  | .hbm, ⟨61, _⟩ => ⟨S5632x2048, .f32⟩
  | .hbm, ⟨62, _⟩ => ⟨S5632x2048, .bf16⟩
  | .hbm, ⟨63, _⟩ => ⟨S8x704x2048, .bf16⟩
  | .hbm, ⟨64, _⟩ => ⟨S5632x2048, .bf16⟩
  | .hbm, ⟨65, _⟩ => ⟨S8x704x2048, .bf16⟩
  | .hbm, ⟨66, _⟩ => ⟨S5632x2048, .bf16⟩
  | .hbm, ⟨67, _⟩ => ⟨S8x704x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Kernel5.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 48
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x8x704, .f32⟩
  | .hbm, ⟨36, _⟩ => ⟨S8x2048x704, .f32⟩
  | .hbm, ⟨37, _⟩ => ⟨S8x2048x704, .bf16⟩
  | .hbm, ⟨38, _⟩ => ⟨S2048x8x704, .f32⟩
  | .hbm, ⟨39, _⟩ => ⟨S8x2048x704, .f32⟩
  | .hbm, ⟨40, _⟩ => ⟨S8x2048x704, .bf16⟩
  | .hbm, ⟨41, _⟩ => ⟨S5632x2048, .f32⟩
  | .hbm, ⟨42, _⟩ => ⟨S5632x2048, .bf16⟩
  | .hbm, ⟨43, _⟩ => ⟨S8x704x2048, .bf16⟩
  | .hbm, ⟨44, _⟩ => ⟨S5632x2048, .f32⟩
  | .hbm, ⟨45, _⟩ => ⟨S5632x2048, .bf16⟩
  | .hbm, ⟨46, _⟩ => ⟨S8x704x2048, .bf16⟩
  | .hbm, ⟨47, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference5Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2048, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x2048, .f32⟩
  | .hbm, ⟨37, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== Kernel6.lean ====
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 9
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S2048x1024, .bf16⟩
  | .local _ .vmem, ⟨16, _⟩ => ⟨S2048x2048, .f32⟩
  | .local _ .vmem, ⟨17, _⟩ => ⟨S1024x2048, .bf16⟩
  | .local _ .vmem, ⟨18, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference6Ideal.lean ====
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S2048x2048 : Shape := ⟨2, ![2048, 2048]⟩
abbrev S2048x3920 : Shape := ⟨2, ![2048, 3920]⟩
abbrev S2048x512 : Shape := ⟨2, ![2048, 512]⟩
abbrev S2048x256 : Shape := ⟨2, ![2048, 256]⟩
abbrev S2048x1024 : Shape := ⟨2, ![2048, 1024]⟩
abbrev S2048x64 : Shape := ⟨2, ![2048, 64]⟩
abbrev S_ : Shape := ⟨0, ![]⟩
abbrev S2048x128 : Shape := ⟨2, ![2048, 128]⟩
abbrev S2048x16 : Shape := ⟨2, ![2048, 16]⟩
abbrev S2048x4096 : Shape := ⟨2, ![2048, 4096]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 56
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x3920, .f32⟩
  | .hbm, ⟨2, _⟩ => ⟨S2048x3920, .f32⟩
  | .hbm, ⟨3, _⟩ => ⟨S2048x2048, .bf16⟩
  | .hbm, ⟨4, _⟩ => ⟨S2048x3920, .bf16⟩
  | .hbm, ⟨5, _⟩ => ⟨S2048x512, .bf16⟩
  | .hbm, ⟨6, _⟩ => ⟨S2048x256, .bf16⟩
  | .hbm, ⟨7, _⟩ => ⟨S2048x512, .bf16⟩
  | .hbm, ⟨8, _⟩ => ⟨S2048x512, .bf16⟩
  | .hbm, ⟨9, _⟩ => ⟨S2048x1024, .bf16⟩
  | .hbm, ⟨10, _⟩ => ⟨S2048x1024, .bf16⟩
  | .hbm, ⟨11, _⟩ => ⟨S2048x64, .bf16⟩
  | .hbm, ⟨12, _⟩ => ⟨S_, .i32⟩
  | .hbm, ⟨13, _⟩ => ⟨S_, .bf16⟩
  | .hbm, ⟨14, _⟩ => ⟨S2048x128, .bf16⟩
  | .hbm, ⟨15, _⟩ => ⟨S2048x16, .bf16⟩
  | .hbm, ⟨16, _⟩ => ⟨S_, .i32⟩
  | .hbm, ⟨17, _⟩ => ⟨S_, .bf16⟩
  | .hbm, ⟨18, _⟩ => ⟨S2048x128, .bf16⟩
  | .hbm, ⟨19, _⟩ => ⟨S2048x4096, .bf16⟩
  | .hbm, ⟨20, _⟩ => ⟨S2048x3920, .bf16⟩
  | .hbm, ⟨21, _⟩ => ⟨S2048x512, .bf16⟩
  | .hbm, ⟨22, _⟩ => ⟨S2048x256, .bf16⟩
  | .hbm, ⟨23, _⟩ => ⟨S2048x512, .bf16⟩
  | .hbm, ⟨24, _⟩ => ⟨S2048x512, .bf16⟩
  | .hbm, ⟨25, _⟩ => ⟨S2048x1024, .bf16⟩
  | .hbm, ⟨26, _⟩ => ⟨S2048x1024, .bf16⟩
  | .hbm, ⟨27, _⟩ => ⟨S2048x64, .bf16⟩
  | .hbm, ⟨28, _⟩ => ⟨S_, .i32⟩
  | .hbm, ⟨29, _⟩ => ⟨S_, .bf16⟩
  | .hbm, ⟨30, _⟩ => ⟨S2048x128, .bf16⟩
  | .hbm, ⟨31, _⟩ => ⟨S2048x16, .bf16⟩
  | .hbm, ⟨32, _⟩ => ⟨S_, .i32⟩
  | .hbm, ⟨33, _⟩ => ⟨S_, .bf16⟩
  | .hbm, ⟨34, _⟩ => ⟨S2048x128, .bf16⟩
  | .hbm, ⟨35, _⟩ => ⟨S2048x4096, .bf16⟩
  | .hbm, ⟨36, _⟩ => ⟨S2048x4096, .f32⟩
  | .hbm, ⟨37, _⟩ => ⟨S2048x4096, .bf16⟩
  | .hbm, ⟨38, _⟩ => ⟨S2048x512, .f32⟩
  | .hbm, ⟨39, _⟩ => ⟨S2048x256, .f32⟩
  | .hbm, ⟨40, _⟩ => ⟨S2048x64, .f32⟩
  | .hbm, ⟨41, _⟩ => ⟨S2048x512, .f32⟩
  | .hbm, ⟨42, _⟩ => ⟨S2048x512, .f32⟩
  | .hbm, ⟨43, _⟩ => ⟨S2048x1024, .f32⟩
  | .hbm, ⟨44, _⟩ => ⟨S2048x16, .f32⟩
  | .hbm, ⟨45, _⟩ => ⟨S2048x1024, .f32⟩
  | .hbm, ⟨46, _⟩ => ⟨S2048x3920, .f32⟩
  | .hbm, ⟨47, _⟩ => ⟨S2048x512, .bf16⟩
  | .hbm, ⟨48, _⟩ => ⟨S2048x256, .bf16⟩
  | .hbm, ⟨49, _⟩ => ⟨S2048x64, .bf16⟩
  | .hbm, ⟨50, _⟩ => ⟨S2048x512, .bf16⟩
  | .hbm, ⟨51, _⟩ => ⟨S2048x512, .bf16⟩
  | .hbm, ⟨52, _⟩ => ⟨S2048x1024, .bf16⟩
  | .hbm, ⟨53, _⟩ => ⟨S2048x16, .bf16⟩
  | .hbm, ⟨54, _⟩ => ⟨S2048x1024, .bf16⟩
  | .hbm, ⟨55, _⟩ => ⟨S2048x3920, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x2048, .bf16⟩
  | .local _ .vmem, ⟨9, _⟩ => ⟨S2048x2048, .bf16⟩
  | .local _ .vmem, ⟨10, _⟩ => ⟨S1024x2048, .bf16⟩
  | .local _ .vmem, ⟨11, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_call2_v0 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call3_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference7Ideal.lean ====
abbrev S2048x2048 : Shape := ⟨2, ![2048, 2048]⟩
abbrev S2048x3920 : Shape := ⟨2, ![2048, 3920]⟩
abbrev S3920x2048 : Shape := ⟨2, ![3920, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3920, .f32⟩
  | .hbm, ⟨2, _⟩ => ⟨S2048x3920, .f32⟩
  | .hbm, ⟨3, _⟩ => ⟨S2048x3920, .f32⟩
  | .hbm, ⟨4, _⟩ => ⟨S3920x2048, .f32⟩
  | .hbm, ⟨5, _⟩ => ⟨S2048x3920, .f32⟩
  | .hbm, ⟨6, _⟩ => ⟨S2048x2048, .f32⟩
  | .hbm, ⟨7, _⟩ => ⟨S2048x3920, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x3920 : Shape := ⟨2, ![2048, 3920]⟩
abbrev S2048x512 : Shape := ⟨2, ![2048, 512]⟩
abbrev S2048x256 : Shape := ⟨2, ![2048, 256]⟩
abbrev S2048x1024 : Shape := ⟨2, ![2048, 1024]⟩
abbrev S2048x64 : Shape := ⟨2, ![2048, 64]⟩
abbrev S_ : Shape := ⟨0, ![]⟩
abbrev S2048x128 : Shape := ⟨2, ![2048, 128]⟩
abbrev S2048x16 : Shape := ⟨2, ![2048, 16]⟩
abbrev S2048x4096 : Shape := ⟨2, ![2048, 4096]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 35
  | .vmem => 7
  | .smem => 0
  | _ => 0

abbrev bufTy : (tb : Table) → Fin (tcTables nBuf tb) → BufTy
  | .hbm, ⟨0, _⟩ => ⟨S2048x3920, .f32⟩
  | .hbm, ⟨1, _⟩ => ⟨S2048x3920, .f32⟩
  | .hbm, ⟨2, _⟩ => ⟨S2048x3920, .bf16⟩
  | .hbm, ⟨3, _⟩ => ⟨S2048x512, .bf16⟩
  | .hbm, ⟨4, _⟩ => ⟨S2048x256, .bf16⟩
  | .hbm, ⟨5, _⟩ => ⟨S2048x512, .bf16⟩
  | .hbm, ⟨6, _⟩ => ⟨S2048x512, .bf16⟩
  | .hbm, ⟨7, _⟩ => ⟨S2048x1024, .bf16⟩
  | .hbm, ⟨8, _⟩ => ⟨S2048x1024, .bf16⟩
  | .hbm, ⟨9, _⟩ => ⟨S2048x64, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S2048x16, .bf16⟩
  | .hbm, ⟨14, _⟩ => ⟨S_, .i32⟩
  | .hbm, ⟨15, _⟩ => ⟨S_, .bf16⟩
  | .hbm, ⟨16, _⟩ => ⟨S2048x128, .bf16⟩
  | .hbm, ⟨17, _⟩ => ⟨S2048x4096, .bf16⟩
  | .hbm, ⟨18, _⟩ => ⟨S2048x3920, .bf16⟩
  | .hbm, ⟨19, _⟩ => ⟨S2048x512, .bf16⟩
  | .hbm, ⟨20, _⟩ => ⟨S2048x256, .bf16⟩
  | .hbm, ⟨21, _⟩ => ⟨S2048x512, .bf16⟩
  | .hbm, ⟨22, _⟩ => ⟨S2048x512, .bf16⟩
  | .hbm, ⟨23, _⟩ => ⟨S2048x1024, .bf16⟩
  | .hbm, ⟨24, _⟩ => ⟨S2048x1024, .bf16⟩
  | .hbm, ⟨25, _⟩ => ⟨S2048x64, .bf16⟩
  | .hbm, ⟨26, _⟩ => ⟨S_, .i32⟩
  | .hbm, ⟨27, _⟩ => ⟨S_, .bf16⟩
  | .hbm, ⟨28, _⟩ => ⟨S2048x128, .bf16⟩
  | .hbm, ⟨29, _⟩ => ⟨S2048x16, .bf16⟩
  | .hbm, ⟨30, _⟩ => ⟨S_, .i32⟩
  | .hbm, ⟨31, _⟩ => ⟨S_, .bf16⟩
  | .hbm, ⟨32, _⟩ => ⟨S2048x128, .bf16⟩
  | .hbm, ⟨33, _⟩ => ⟨S2048x4096, .bf16⟩
  | .hbm, ⟨34, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x3920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_call3_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x3920 : Shape := ⟨2, ![2048, 3920]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3920, .f32⟩
  | .hbm, ⟨1, _⟩ => ⟨S2048x3920, .f32⟩
  | .hbm, ⟨2, _⟩ => ⟨S_, .f32⟩
  | .hbm, ⟨3, _⟩ => ⟨S2048x2048, .f32⟩
  | .hbm, ⟨4, _⟩ => ⟨S2048x3920, .f32⟩
  | .hbm, ⟨5, _⟩ => ⟨S2048x2048, .f32⟩
  | _, _ => ⟨S2048x3920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S256x2048 : Shape := ⟨2, ![256, 2048]⟩
abbrev S2048x512 : Shape := ⟨2, ![2048, 512]⟩
abbrev S512x2048 : Shape := ⟨2, ![512, 2048]⟩
abbrev S4x256x128 : Shape := ⟨3, ![4, 256, 128]⟩
abbrev S512x8x256 : Shape := ⟨3, ![512, 8, 256]⟩
abbrev S8x512x256 : Shape := ⟨3, ![8, 512, 256]⟩
abbrev S4x2048x128 : Shape := ⟨3, ![4, 2048, 128]⟩
abbrev S2048x128 : Shape := ⟨2, ![2048, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x512 : Shape := ⟨2, ![512, 512]⟩
abbrev S1x512x256 : Shape := ⟨3, ![1, 512, 256]⟩
abbrev S512x256 : Shape := ⟨2, ![512, 256]⟩
abbrev S256x1024 : Shape := ⟨2, ![256, 1024]⟩
abbrev S1024x128 : Shape := ⟨2, ![1024, 128]⟩

abbrev nBuf : Space → Nat
  | .hbm => 25
  | .vmem => 36
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S2048x2048, .f32⟩
  | .hbm, ⟨8, _⟩ => ⟨S4x256x128, .f32⟩
  | .hbm, ⟨9, _⟩ => ⟨S4x256x128, .f32⟩
  | .hbm, ⟨10, _⟩ => ⟨S2048x2048, .bf16⟩
  | .hbm, ⟨11, _⟩ => ⟨S256x2048, .bf16⟩
  | .hbm, ⟨12, _⟩ => ⟨S2048x512, .bf16⟩
  | .hbm, ⟨13, _⟩ => ⟨S2048x512, .bf16⟩
  | .hbm, ⟨14, _⟩ => ⟨S2048x512, .bf16⟩
  | .hbm, ⟨15, _⟩ => ⟨S2048x512, .bf16⟩
  | .hbm, ⟨16, _⟩ => ⟨S512x2048, .bf16⟩
  | .hbm, ⟨17, _⟩ => ⟨S512x8x256, .bf16⟩
  | .hbm, ⟨18, _⟩ => ⟨S8x512x256, .bf16⟩
  | .hbm, ⟨19, _⟩ => ⟨S4x2048x128, .f32⟩
  | .hbm, ⟨20, _⟩ => ⟨S4x256x128, .f32⟩
  | .hbm, ⟨21, _⟩ => ⟨S4x256x128, .bf16⟩
  | .hbm, ⟨22, _⟩ => ⟨S2048x2048, .f32⟩
  | .hbm, ⟨23, _⟩ => ⟨S2048x512, .bf16⟩
  | .hbm, ⟨24, _⟩ => ⟨S2048x512, .bf16⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S2048x128, .bf16⟩
  | .local _ .vmem, ⟨4, _⟩ => ⟨S1x512x128, .f32⟩
  | .local _ .vmem, ⟨5, _⟩ => ⟨S1x512x128, .f32⟩
  | .local _ .vmem, ⟨6, _⟩ => ⟨S256x2048, .bf16⟩
  | .local _ .vmem, ⟨7, _⟩ => ⟨S2048x128, .bf16⟩
  | .local _ .vmem, ⟨8, _⟩ => ⟨S2048x128, .bf16⟩
  | .local _ .vmem, ⟨9, _⟩ => ⟨S1x256x128, .f32⟩
  | .local _ .vmem, ⟨10, _⟩ => ⟨S1x256x128, .f32⟩
  | .local _ .vmem, ⟨11, _⟩ => ⟨S256x2048, .bf16⟩
  | .local _ .vmem, ⟨12, _⟩ => ⟨S2048x128, .bf16⟩
  | .local _ .vmem, ⟨13, _⟩ => ⟨S2048x128, .bf16⟩
  | .local _ .vmem, ⟨14, _⟩ => ⟨S1x256x128, .bf16⟩
  | .local _ .vmem, ⟨15, _⟩ => ⟨S1x256x128, .bf16⟩
  | .local _ .vmem, ⟨16, _⟩ => ⟨S512x512, .bf16⟩
  | .local _ .vmem, ⟨17, _⟩ => ⟨S512x512, .bf16⟩
  | .local _ .vmem, ⟨18, _⟩ => ⟨S1x512x256, .bf16⟩
  | .local _ .vmem, ⟨19, _⟩ => ⟨S1x512x256, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S256x1024, .bf16⟩
  | .local _ .vmem, ⟨25, _⟩ => ⟨S256x1024, .bf16⟩
  | .local _ .vmem, ⟨26, _⟩ => ⟨S1x256x128, .f32⟩
  | .local _ .vmem, ⟨27, _⟩ => ⟨S1x256x128, .f32⟩
  | .local _ .vmem, ⟨28, _⟩ => ⟨S1024x128, .bf16⟩
  | .local _ .vmem, ⟨29, _⟩ => ⟨S1024x128, .bf16⟩
  | .local _ .vmem, ⟨30, _⟩ => ⟨S256x1024, .bf16⟩
  | .local _ .vmem, ⟨31, _⟩ => ⟨S256x1024, .bf16⟩
  | .local _ .vmem, ⟨32, _⟩ => ⟨S1x256x128, .f32⟩
  | .local _ .vmem, ⟨33, _⟩ => ⟨S1x256x128, .f32⟩
  | .local _ .vmem, ⟨34, _⟩ => ⟨S1024x128, .bf16⟩
  | .local _ .vmem, ⟨35, _⟩ => ⟨S1024x128, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 1 → Memref sig .tc .vmem S256x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1x256x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S1x512x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference9Ideal.lean ====
abbrev S2048x2048 : Shape := ⟨2, ![2048, 2048]⟩
abbrev S256x2048 : Shape := ⟨2, ![256, 2048]⟩
abbrev S2048x512 : Shape := ⟨2, ![2048, 512]⟩
abbrev S512x2048 : Shape := ⟨2, ![512, 2048]⟩
abbrev S4x256x128 : Shape := ⟨3, ![4, 256, 128]⟩
abbrev S256x512 : Shape := ⟨2, ![256, 512]⟩
abbrev S256x4x128 : Shape := ⟨3, ![256, 4, 128]⟩
abbrev S2048x4x128 : Shape := ⟨3, ![2048, 4, 128]⟩
abbrev S4x2048x128 : Shape := ⟨3, ![4, 2048, 128]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S512x2048, .f32⟩
  | .hbm, ⟨7, _⟩ => ⟨S2048x2048, .f32⟩
  | .hbm, ⟨8, _⟩ => ⟨S4x256x128, .f32⟩
  | .hbm, ⟨9, _⟩ => ⟨S4x256x128, .f32⟩
  | .hbm, ⟨10, _⟩ => ⟨S256x512, .f32⟩
  | .hbm, ⟨11, _⟩ => ⟨S256x4x128, .f32⟩
  | .hbm, ⟨12, _⟩ => ⟨S4x256x128, .f32⟩
  | .hbm, ⟨13, _⟩ => ⟨S256x512, .f32⟩
  | .hbm, ⟨14, _⟩ => ⟨S256x4x128, .f32⟩
  | .hbm, ⟨15, _⟩ => ⟨S4x256x128, .f32⟩
  | .hbm, ⟨16, _⟩ => ⟨S2048x512, .f32⟩
  | .hbm, ⟨17, _⟩ => ⟨S2048x4x128, .f32⟩
  | .hbm, ⟨18, _⟩ => ⟨S4x2048x128, .f32⟩
  | .hbm, ⟨19, _⟩ => ⟨S4x256x128, .bf16⟩
  | .hbm, ⟨20, _⟩ => ⟨S2048x2048, .f32⟩
  | .hbm, ⟨21, _⟩ => ⟨S2048x2048, .f32⟩
  | .hbm, ⟨22, _⟩ => ⟨S256x4x128, .f32⟩
  | .hbm, ⟨23, _⟩ => ⟨S256x512, .f32⟩
  | .hbm, ⟨24, _⟩ => ⟨S512x2048, .f32⟩
  | .hbm, ⟨25, _⟩ => ⟨S2048x512, .f32⟩
  | .hbm, ⟨26, _⟩ => ⟨S2048x512, .bf16⟩
  | .hbm, ⟨27, _⟩ => ⟨S256x4x128, .f32⟩
  | .hbm, ⟨28, _⟩ => ⟨S256x512, .f32⟩
  | .hbm, ⟨29, _⟩ => ⟨S512x2048, .f32⟩
  | .hbm, ⟨30, _⟩ => ⟨S2048x512, .f32⟩
  | .hbm, ⟨31, _⟩ => ⟨S2048x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel10.lean ====
abbrev S2048x512 : Shape := ⟨2, ![2048, 512]⟩
abbrev S512x1536 : Shape := ⟨2, ![512, 1536]⟩
abbrev S2048x256 : Shape := ⟨2, ![2048, 256]⟩
abbrev S256x2048 : Shape := ⟨2, ![256, 2048]⟩
abbrev S8x2048x192 : Shape := ⟨3, ![8, 2048, 192]⟩
abbrev S256x8x256 : Shape := ⟨3, ![256, 8, 256]⟩
abbrev S8x256x256 : Shape := ⟨3, ![8, 256, 256]⟩
abbrev S1536x512 : Shape := ⟨2, ![1536, 512]⟩
abbrev S8x192x512 : Shape := ⟨3, ![8, 192, 512]⟩
abbrev S1024x512 : Shape := ⟨2, ![1024, 512]⟩
abbrev S1x192x512 : Shape := ⟨3, ![1, 192, 512]⟩
abbrev S1x1024x192 : Shape := ⟨3, ![1, 1024, 192]⟩
abbrev S192x512 : Shape := ⟨2, ![192, 512]⟩
abbrev S1024x192 : Shape := ⟨2, ![1024, 192]⟩
abbrev S8x2048x256 : Shape := ⟨3, ![8, 2048, 256]⟩
abbrev S512x256 : Shape := ⟨2, ![512, 256]⟩
abbrev S1x256x256 : Shape := ⟨3, ![1, 256, 256]⟩
abbrev S1x512x256 : Shape := ⟨3, ![1, 512, 256]⟩
abbrev S256x256 : Shape := ⟨2, ![256, 256]⟩
abbrev S1x2048x192 : Shape := ⟨3, ![1, 2048, 192]⟩
abbrev S2048x192 : Shape := ⟨2, ![2048, 192]⟩

abbrev nBuf : Space → Nat
  | .hbm => 16
  | .vmem => 17
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x256, .f32⟩
  | .hbm, ⟨3, _⟩ => ⟨S256x2048, .f32⟩
  | .hbm, ⟨4, _⟩ => ⟨S8x2048x192, .f32⟩
  | .hbm, ⟨5, _⟩ => ⟨S2048x512, .bf16⟩
  | .hbm, ⟨6, _⟩ => ⟨S2048x256, .bf16⟩
  | .hbm, ⟨7, _⟩ => ⟨S256x2048, .bf16⟩
  | .hbm, ⟨8, _⟩ => ⟨S256x8x256, .bf16⟩
  | .hbm, ⟨9, _⟩ => ⟨S8x256x256, .bf16⟩
  | .hbm, ⟨10, _⟩ => ⟨S1536x512, .f32⟩
  | .hbm, ⟨11, _⟩ => ⟨S1536x512, .bf16⟩
  | .hbm, ⟨12, _⟩ => ⟨S8x192x512, .bf16⟩
  | .hbm, ⟨13, _⟩ => ⟨S8x2048x192, .f32⟩
  | .hbm, ⟨14, _⟩ => ⟨S8x2048x256, .f32⟩
  | .hbm, ⟨15, _⟩ => ⟨S8x192x512, .bf16⟩
  | .local _ .vmem, ⟨0, _⟩ => ⟨S1024x512, .bf16⟩
  | .local _ .vmem, ⟨1, _⟩ => ⟨S1024x512, .bf16⟩
  | .local _ .vmem, ⟨2, _⟩ => ⟨S1x192x512, .bf16⟩
  | .local _ .vmem, ⟨3, _⟩ => ⟨S1x192x512, .bf16⟩
  | .local _ .vmem, ⟨4, _⟩ => ⟨S1x1024x192, .f32⟩
  | .local _ .vmem, ⟨5, _⟩ => ⟨S1x1024x192, .f32⟩
  | .local _ .vmem, ⟨6, _⟩ => ⟨S512x256, .bf16⟩
  | .local _ .vmem, ⟨7, _⟩ => ⟨S512x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x512x256, .f32⟩
  | .local _ .vmem, ⟨11, _⟩ => ⟨S1x512x256, .f32⟩
  | .local _ .vmem, ⟨12, _⟩ => ⟨S1x2048x192, .f32⟩
  | .local _ .vmem, ⟨13, _⟩ => ⟨S1x2048x192, .f32⟩
  | .local _ .vmem, ⟨14, _⟩ => ⟨S2048x512, .bf16⟩
  | .local _ .vmem, ⟨15, _⟩ => ⟨S1x192x512, .bf16⟩
  | .local _ .vmem, ⟨16, _⟩ => ⟨S1x192x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage2_0 : Fin 2 → Memref sig .tc .vmem S1x2048x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x192x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference10Ideal.lean ====
abbrev S2048x512 : Shape := ⟨2, ![2048, 512]⟩
abbrev S512x1536 : Shape := ⟨2, ![512, 1536]⟩
abbrev S2048x256 : Shape := ⟨2, ![2048, 256]⟩
abbrev S256x2048 : Shape := ⟨2, ![256, 2048]⟩
abbrev S8x2048x192 : Shape := ⟨3, ![8, 2048, 192]⟩
abbrev S2048x1536 : Shape := ⟨2, ![2048, 1536]⟩
abbrev S2048x8x192 : Shape := ⟨3, ![2048, 8, 192]⟩
abbrev S2048x2048 : Shape := ⟨2, ![2048, 2048]⟩
abbrev S2048x8x256 : Shape := ⟨3, ![2048, 8, 256]⟩
abbrev S8x2048x256 : Shape := ⟨3, ![8, 2048, 256]⟩
abbrev S1536x512 : Shape := ⟨2, ![1536, 512]⟩
abbrev S8x192x512 : Shape := ⟨3, ![8, 192, 512]⟩

abbrev nBuf : Space → Nat
  | .hbm => 18
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x256, .f32⟩
  | .hbm, ⟨3, _⟩ => ⟨S256x2048, .f32⟩
  | .hbm, ⟨4, _⟩ => ⟨S8x2048x192, .f32⟩
  | .hbm, ⟨5, _⟩ => ⟨S2048x1536, .f32⟩
  | .hbm, ⟨6, _⟩ => ⟨S2048x8x192, .f32⟩
  | .hbm, ⟨7, _⟩ => ⟨S8x2048x192, .f32⟩
  | .hbm, ⟨8, _⟩ => ⟨S2048x2048, .f32⟩
  | .hbm, ⟨9, _⟩ => ⟨S2048x8x256, .f32⟩
  | .hbm, ⟨10, _⟩ => ⟨S8x2048x256, .f32⟩
  | .hbm, ⟨11, _⟩ => ⟨S2048x8x192, .f32⟩
  | .hbm, ⟨12, _⟩ => ⟨S2048x1536, .f32⟩
  | .hbm, ⟨13, _⟩ => ⟨S1536x512, .f32⟩
  | .hbm, ⟨14, _⟩ => ⟨S512x1536, .f32⟩
  | .hbm, ⟨15, _⟩ => ⟨S1536x512, .f32⟩
  | .hbm, ⟨16, _⟩ => ⟨S1536x512, .bf16⟩
  | .hbm, ⟨17, _⟩ => ⟨S8x192x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S512x2048 : Shape := ⟨2, ![512, 2048]⟩
abbrev S2048x2048 : Shape := ⟨2, ![2048, 2048]⟩
abbrev S512x8x256 : Shape := ⟨3, ![512, 8, 256]⟩
abbrev S8x512x256 : Shape := ⟨3, ![8, 512, 256]⟩
abbrev S2048x512 : Shape := ⟨2, ![2048, 512]⟩
abbrev S512x256 : Shape := ⟨2, ![512, 256]⟩
abbrev S1x512x256 : Shape := ⟨3, ![1, 512, 256]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S512x2048, .bf16⟩
  | .hbm, ⟨3, _⟩ => ⟨S512x8x256, .bf16⟩
  | .hbm, ⟨4, _⟩ => ⟨S8x512x256, .bf16⟩
  | .hbm, ⟨5, _⟩ => ⟨S2048x512, .bf16⟩
  | .local _ .vmem, ⟨0, _⟩ => ⟨S512x256, .f32⟩
  | .local _ .vmem, ⟨1, _⟩ => ⟨S512x256, .f32⟩
  | .local _ .vmem, ⟨2, _⟩ => ⟨S1x512x256, .bf16⟩
  | .local _ .vmem, ⟨3, _⟩ => ⟨S1x512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S512x2048 : Shape := ⟨2, ![512, 2048]⟩
abbrev S2048x2048 : Shape := ⟨2, ![2048, 2048]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | .hbm, ⟨6, _⟩ => ⟨S2048x512, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S2048x512 : Shape := ⟨2, ![2048, 512]⟩
abbrev S2048x2048 : Shape := ⟨2, ![2048, 2048]⟩
abbrev S8x512x256 : Shape := ⟨3, ![8, 512, 256]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x512, .bf16⟩
  | .hbm, ⟨3, _⟩ => ⟨S8x512x256, .bf16⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S1x512x256, .bf16⟩
  | .local _ .vmem, ⟨5, _⟩ => ⟨S1x512x256, .bf16⟩
  | .local _ .vmem, ⟨6, _⟩ => ⟨S512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference12Ideal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩
abbrev S512x8x256 : Shape := ⟨3, ![512, 8, 256]⟩
abbrev S8x512x256 : Shape := ⟨3, ![8, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S_, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S512x2048, .bf16⟩
  | .hbm, ⟨8, _⟩ => ⟨S512x8x256, .bf16⟩
  | .hbm, ⟨9, _⟩ => ⟨S8x512x256, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x512 : Shape := ⟨2, ![2048, 512]⟩
abbrev S4x2048x128 : Shape := ⟨3, ![4, 2048, 128]⟩
abbrev S2048x2048 : Shape := ⟨2, ![2048, 2048]⟩
abbrev S1x512x128 : Shape := ⟨3, ![1, 512, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S4x2048x128, .f32⟩
  | .hbm, ⟨2, _⟩ => ⟨S2048x512, .bf16⟩
  | .hbm, ⟨3, _⟩ => ⟨S2048x2048, .f32⟩
  | .local _ .vmem, ⟨0, _⟩ => ⟨S1x512x128, .f32⟩
  | .local _ .vmem, ⟨1, _⟩ => ⟨S1x512x128, .f32⟩
  | .local _ .vmem, ⟨2, _⟩ => ⟨S1024x128, .bf16⟩
  | .local _ .vmem, ⟨3, _⟩ => ⟨S1024x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x512 : Shape := ⟨2, ![2048, 512]⟩
abbrev S4x2048x128 : Shape := ⟨3, ![4, 2048, 128]⟩
abbrev S_ : Shape := ⟨0, ![]⟩
abbrev S2048x2048 : Shape := ⟨2, ![2048, 2048]⟩
abbrev S2048x4x128 : Shape := ⟨3, ![2048, 4, 128]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x2048x128, .f32⟩
  | .hbm, ⟨2, _⟩ => ⟨S_, .f32⟩
  | .hbm, ⟨3, _⟩ => ⟨S2048x2048, .f32⟩
  | .hbm, ⟨4, _⟩ => ⟨S2048x512, .f32⟩
  | .hbm, ⟨5, _⟩ => ⟨S2048x4x128, .f32⟩
  | .hbm, ⟨6, _⟩ => ⟨S4x2048x128, .f32⟩
  | .hbm, ⟨7, _⟩ => ⟨S2048x4x128, .f32⟩
  | .hbm, ⟨8, _⟩ => ⟨S2048x512, .f32⟩
  | .hbm, ⟨9, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x2048 : Shape := ⟨2, ![2048, 2048]⟩
abbrev S4x2048x128 : Shape := ⟨3, ![4, 2048, 128]⟩
abbrev S2048x512 : Shape := ⟨2, ![2048, 512]⟩
abbrev S512x1024 : Shape := ⟨2, ![512, 1024]⟩
abbrev S1x512x128 : Shape := ⟨3, ![1, 512, 128]⟩
abbrev S1024x128 : Shape := ⟨2, ![1024, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2048x128, .f32⟩
  | .hbm, ⟨2, _⟩ => ⟨S2048x2048, .bf16⟩
  | .hbm, ⟨3, _⟩ => ⟨S2048x512, .bf16⟩
  | .local _ .vmem, ⟨0, _⟩ => ⟨S512x1024, .bf16⟩
  | .local _ .vmem, ⟨1, _⟩ => ⟨S512x1024, .bf16⟩
  | .local _ .vmem, ⟨2, _⟩ => ⟨S1x512x128, .f32⟩
  | .local _ .vmem, ⟨3, _⟩ => ⟨S1x512x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S4x2048x128 : Shape := ⟨3, ![4, 2048, 128]⟩
abbrev S_ : Shape := ⟨0, ![]⟩
abbrev S2048x512 : Shape := ⟨2, ![2048, 512]⟩
abbrev S2048x4x128 : Shape := ⟨3, ![2048, 4, 128]⟩
abbrev S512x2048 : Shape := ⟨2, ![512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x128, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S2048x4x128, .f32⟩
  | .hbm, ⟨6, _⟩ => ⟨S4x2048x128, .f32⟩
  | .hbm, ⟨7, _⟩ => ⟨S2048x4x128, .f32⟩
  | .hbm, ⟨8, _⟩ => ⟨S2048x512, .f32⟩
  | .hbm, ⟨9, _⟩ => ⟨S512x2048, .f32⟩
  | .hbm, ⟨10, _⟩ => ⟨S2048x512, .f32⟩
  | .hbm, ⟨11, _⟩ => ⟨S2048x512, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S2048x256 : Shape := ⟨2, ![2048, 256]⟩
abbrev S8x2048x256 : Shape := ⟨3, ![8, 2048, 256]⟩
abbrev S8x256x256 : Shape := ⟨3, ![8, 256, 256]⟩
abbrev S512x256 : Shape := ⟨2, ![512, 256]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S8x2048x256, .f32⟩
  | .hbm, ⟨2, _⟩ => ⟨S2048x256, .bf16⟩
  | .hbm, ⟨3, _⟩ => ⟨S8x256x256, .bf16⟩
  | .local _ .vmem, ⟨0, _⟩ => ⟨S512x256, .bf16⟩
  | .local _ .vmem, ⟨1, _⟩ => ⟨S512x256, .bf16⟩
  | .local _ .vmem, ⟨2, _⟩ => ⟨S1x512x256, .f32⟩
  | .local _ .vmem, ⟨3, _⟩ => ⟨S1x512x256, .f32⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x256 : Shape := ⟨2, ![2048, 256]⟩
abbrev S8x2048x256 : Shape := ⟨3, ![8, 2048, 256]⟩
abbrev S_ : Shape := ⟨0, ![]⟩
abbrev S256x2048 : Shape := ⟨2, ![256, 2048]⟩
abbrev S2048x2048 : Shape := ⟨2, ![2048, 2048]⟩
abbrev S2048x8x256 : Shape := ⟨3, ![2048, 8, 256]⟩
abbrev S256x8x256 : Shape := ⟨3, ![256, 8, 256]⟩
abbrev S8x256x256 : Shape := ⟨3, ![8, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x2048x256, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x8x256, .f32⟩
  | .hbm, ⟨6, _⟩ => ⟨S8x2048x256, .f32⟩
  | .hbm, ⟨7, _⟩ => ⟨S2048x8x256, .f32⟩
  | .hbm, ⟨8, _⟩ => ⟨S2048x2048, .f32⟩
  | .hbm, ⟨9, _⟩ => ⟨S2048x256, .f32⟩
  | .hbm, ⟨10, _⟩ => ⟨S256x2048, .f32⟩
  | .hbm, ⟨11, _⟩ => ⟨S256x2048, .bf16⟩
  | .hbm, ⟨12, _⟩ => ⟨S256x8x256, .bf16⟩
  | .hbm, ⟨13, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel16.lean ====
abbrev S512x1536 : Shape := ⟨2, ![512, 1536]⟩
abbrev S8x2048x192 : Shape := ⟨3, ![8, 2048, 192]⟩
abbrev S1536x512 : Shape := ⟨2, ![1536, 512]⟩
abbrev S8x192x512 : Shape := ⟨3, ![8, 192, 512]⟩
abbrev S2048x512 : Shape := ⟨2, ![2048, 512]⟩
abbrev S1x512x192 : Shape := ⟨3, ![1, 512, 192]⟩
abbrev S1x192x512 : Shape := ⟨3, ![1, 192, 512]⟩
abbrev S512x512 : Shape := ⟨2, ![512, 512]⟩
abbrev S512x192 : Shape := ⟨2, ![512, 192]⟩
abbrev S192x512 : Shape := ⟨2, ![192, 512]⟩

abbrev nBuf : Space → Nat
  | .hbm => 6
  | .vmem => 11
  | .smem => 0
  | _ => 0

abbrev bufTy : (tb : Table) → Fin (tcTables nBuf tb) → BufTy
  | .hbm, ⟨0, _⟩ => ⟨S512x1536, .f32⟩
  | .hbm, ⟨1, _⟩ => ⟨S8x2048x192, .f32⟩
  | .hbm, ⟨2, _⟩ => ⟨S1536x512, .f32⟩
  | .hbm, ⟨3, _⟩ => ⟨S1536x512, .bf16⟩
  | .hbm, ⟨4, _⟩ => ⟨S8x192x512, .bf16⟩
  | .hbm, ⟨5, _⟩ => ⟨S2048x512, .f32⟩
  | .local _ .vmem, ⟨0, _⟩ => ⟨S1x512x192, .f32⟩
  | .local _ .vmem, ⟨1, _⟩ => ⟨S1x512x192, .f32⟩
  | .local _ .vmem, ⟨2, _⟩ => ⟨S1x512x192, .f32⟩
  | .local _ .vmem, ⟨3, _⟩ => ⟨S1x512x192, .f32⟩
  | .local _ .vmem, ⟨4, _⟩ => ⟨S1x192x512, .bf16⟩
  | .local _ .vmem, ⟨5, _⟩ => ⟨S1x192x512, .bf16⟩
  | .local _ .vmem, ⟨6, _⟩ => ⟨S1x192x512, .bf16⟩
  | .local _ .vmem, ⟨7, _⟩ => ⟨S1x192x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S512x1536 : Shape := ⟨2, ![512, 1536]⟩
abbrev S8x2048x192 : Shape := ⟨3, ![8, 2048, 192]⟩
abbrev S_ : Shape := ⟨0, ![]⟩
abbrev S2048x512 : Shape := ⟨2, ![2048, 512]⟩
abbrev S2048x1536 : Shape := ⟨2, ![2048, 1536]⟩
abbrev S2048x8x192 : Shape := ⟨3, ![2048, 8, 192]⟩

abbrev nBuf : Space → Nat
  | .hbm => 10
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S8x2048x192, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x8x192, .f32⟩
  | .hbm, ⟨6, _⟩ => ⟨S8x2048x192, .f32⟩
  | .hbm, ⟨7, _⟩ => ⟨S2048x8x192, .f32⟩
  | .hbm, ⟨8, _⟩ => ⟨S2048x1536, .f32⟩
  | .hbm, ⟨9, _⟩ => ⟨S2048x512, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S256x2048 : Shape := ⟨2, ![256, 2048]⟩
abbrev S8x2048x256 : Shape := ⟨3, ![8, 2048, 256]⟩
abbrev S256x8x256 : Shape := ⟨3, ![256, 8, 256]⟩
abbrev S8x256x256 : Shape := ⟨3, ![8, 256, 256]⟩
abbrev S2048x256 : Shape := ⟨2, ![2048, 256]⟩
abbrev S1x512x256 : Shape := ⟨3, ![1, 512, 256]⟩
abbrev S1x256x256 : Shape := ⟨3, ![1, 256, 256]⟩
abbrev S512x256 : Shape := ⟨2, ![512, 256]⟩
abbrev S256x256 : Shape := ⟨2, ![256, 256]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S8x2048x256, .f32⟩
  | .hbm, ⟨2, _⟩ => ⟨S256x2048, .bf16⟩
  | .hbm, ⟨3, _⟩ => ⟨S256x8x256, .bf16⟩
  | .hbm, ⟨4, _⟩ => ⟨S8x256x256, .bf16⟩
  | .hbm, ⟨5, _⟩ => ⟨S2048x256, .f32⟩
  | .local _ .vmem, ⟨0, _⟩ => ⟨S1x512x256, .f32⟩
  | .local _ .vmem, ⟨1, _⟩ => ⟨S1x512x256, .f32⟩
  | .local _ .vmem, ⟨2, _⟩ => ⟨S1x256x256, .bf16⟩
  | .local _ .vmem, ⟨3, _⟩ => ⟨S1x256x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S256x2048 : Shape := ⟨2, ![256, 2048]⟩
abbrev S8x2048x256 : Shape := ⟨3, ![8, 2048, 256]⟩
abbrev S_ : Shape := ⟨0, ![]⟩
abbrev S2048x256 : Shape := ⟨2, ![2048, 256]⟩
abbrev S2048x2048 : Shape := ⟨2, ![2048, 2048]⟩
abbrev S2048x8x256 : Shape := ⟨3, ![2048, 8, 256]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8x2048x256, .f32⟩
  | .hbm, ⟨2, _⟩ => ⟨S_, .f32⟩
  | .hbm, ⟨3, _⟩ => ⟨S2048x256, .f32⟩
  | .hbm, ⟨4, _⟩ => ⟨S2048x2048, .f32⟩
  | .hbm, ⟨5, _⟩ => ⟨S2048x8x256, .f32⟩
  | .hbm, ⟨6, _⟩ => ⟨S8x2048x256, .f32⟩
  | .hbm, ⟨7, _⟩ => ⟨S2048x8x256, .f32⟩
  | .hbm, ⟨8, _⟩ => ⟨S2048x2048, .f32⟩
  | .hbm, ⟨9, _⟩ => ⟨S2048x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4x2048x128 : Shape := ⟨3, ![4, 2048, 128]⟩
abbrev S4x256x128 : Shape := ⟨3, ![4, 256, 128]⟩
abbrev S_ : Shape := ⟨0, ![]⟩
abbrev S2048x512 : Shape := ⟨2, ![2048, 512]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x128, .f32⟩
  | .hbm, ⟨1, _⟩ => ⟨S4x256x128, .f32⟩
  | .hbm, ⟨2, _⟩ => ⟨S4x256x128, .f32⟩
  | .hbm, ⟨3, _⟩ => ⟨S_, .f32⟩
  | .hbm, ⟨4, _⟩ => ⟨S4x2048x128, .f32⟩
  | .hbm, ⟨5, _⟩ => ⟨S4x2048x128, .f32⟩
  | .hbm, ⟨6, _⟩ => ⟨S4x2048x128, .bf16⟩
  | .hbm, ⟨7, _⟩ => ⟨S4x256x128, .bf16⟩
  | .hbm, ⟨8, _⟩ => ⟨S4x256x128, .bf16⟩
  | .hbm, ⟨9, _⟩ => ⟨S2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S256x128, .bf16⟩
  | .local _ .vmem, ⟨7, _⟩ => ⟨S256x128, .bf16⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S4x2048x128 : Shape := ⟨3, ![4, 2048, 128]⟩
abbrev S4x256x128 : Shape := ⟨3, ![4, 256, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S2048x4x128 : Shape := ⟨3, ![2048, 4, 128]⟩
abbrev S2048x512 : Shape := ⟨2, ![2048, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x256x128, .f32⟩
  | .hbm, ⟨2, _⟩ => ⟨S4x256x128, .f32⟩
  | .hbm, ⟨3, _⟩ => ⟨S4x2048x256, .f32⟩
  | .hbm, ⟨4, _⟩ => ⟨S_, .f32⟩
  | .hbm, ⟨5, _⟩ => ⟨S4x2048x256, .f32⟩
  | .hbm, ⟨6, _⟩ => ⟨S4x2048x256, .f32⟩
  | .hbm, ⟨7, _⟩ => ⟨S_, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x256, .f32⟩
  | .hbm, ⟨14, _⟩ => ⟨S4x2048x256, .f32⟩
  | .hbm, ⟨15, _⟩ => ⟨S4x2048x256, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .f32⟩
  | .hbm, ⟨21, _⟩ => ⟨S4x128x2048, .f32⟩
  | .hbm, ⟨22, _⟩ => ⟨S2048x4x128, .f32⟩
  | .hbm, ⟨23, _⟩ => ⟨S2048x512, .f32⟩
  | .hbm, ⟨24, _⟩ => ⟨S2048x512, .bf16⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel19.lean ====
abbrev S8x2048x192 : Shape := ⟨3, ![8, 2048, 192]⟩
abbrev S8x2048x128 : Shape := ⟨3, ![8, 2048, 128]⟩
abbrev S_ : Shape := ⟨0, ![]⟩
abbrev S2048x1024 : Shape := ⟨2, ![2048, 1024]⟩
abbrev S1x512x192 : Shape := ⟨3, ![1, 512, 192]⟩
abbrev S1x2048x192 : Shape := ⟨3, ![1, 2048, 192]⟩
abbrev S1x2048x128 : Shape := ⟨3, ![1, 2048, 128]⟩
abbrev S512x128 : Shape := ⟨2, ![512, 128]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x1024x192 : Shape := ⟨3, ![1, 1024, 192]⟩
abbrev S1024x192 : Shape := ⟨2, ![1024, 192]⟩
abbrev S512x1024 : Shape := ⟨2, ![512, 1024]⟩
abbrev S1x1024x128 : Shape := ⟨3, ![1, 1024, 128]⟩
abbrev S1024x128 : Shape := ⟨2, ![1024, 128]⟩
abbrev S1x1536x192 : Shape := ⟨3, ![1, 1536, 192]⟩
abbrev S1536x192 : Shape := ⟨2, ![1536, 192]⟩
abbrev S512x1536 : Shape := ⟨2, ![512, 1536]⟩
abbrev S1x1536x128 : Shape := ⟨3, ![1, 1536, 128]⟩
abbrev S1536x128 : Shape := ⟨2, ![1536, 128]⟩
abbrev S2048x192 : Shape := ⟨2, ![2048, 192]⟩
abbrev S512x2048 : Shape := ⟨2, ![512, 2048]⟩
abbrev S2048x128 : Shape := ⟨2, ![2048, 128]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S_, .f32⟩
  | .hbm, ⟨4, _⟩ => ⟨S8x2048x192, .f32⟩
  | .hbm, ⟨5, _⟩ => ⟨S8x2048x192, .f32⟩
  | .hbm, ⟨6, _⟩ => ⟨S8x2048x192, .bf16⟩
  | .hbm, ⟨7, _⟩ => ⟨S8x2048x192, .bf16⟩
  | .hbm, ⟨8, _⟩ => ⟨S8x2048x128, .bf16⟩
  | .hbm, ⟨9, _⟩ => ⟨S2048x1024, .bf16⟩
  | .local _ .vmem, ⟨0, _⟩ => ⟨S1x512x192, .bf16⟩
  | .local _ .vmem, ⟨1, _⟩ => ⟨S1x512x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S512x128, .bf16⟩
  | .local _ .vmem, ⟨7, _⟩ => ⟨S512x128, .bf16⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel19Ideal.lean ====
variable {F : FTy → Type} [FloatOps F] [Named F]
def κ : String → Option EReal := fun
  | "mask" => some ⊥
  | _ => none
-- ==== Reference19Ideal.lean ====
abbrev S8x2048x192 : Shape := ⟨3, ![8, 2048, 192]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S1x2048x2048, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x128x2048, .f32⟩
  | .hbm, ⟨52, _⟩ => ⟨S2048x8x128, .f32⟩
  | .hbm, ⟨53, _⟩ => ⟨S2048x1024, .f32⟩
  | .hbm, ⟨54, _⟩ => ⟨S2048x1024, .bf16⟩
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== Kernel20.lean ====
abbrev S8x2048x192 : Shape := ⟨3, ![8, 2048, 192]⟩
abbrev S8x2048x128 : Shape := ⟨3, ![8, 2048, 128]⟩
abbrev S2048x1024 : Shape := ⟨2, ![2048, 1024]⟩
abbrev S1x512x192 : Shape := ⟨3, ![1, 512, 192]⟩
abbrev S1x2048x192 : Shape := ⟨3, ![1, 2048, 192]⟩
abbrev S1x2048x128 : Shape := ⟨3, ![1, 2048, 128]⟩
abbrev S512x128 : Shape := ⟨2, ![512, 128]⟩
abbrev S2048x192 : Shape := ⟨2, ![2048, 192]⟩
abbrev S2048x128 : Shape := ⟨2, ![2048, 128]⟩
abbrev S512x192 : Shape := ⟨2, ![512, 192]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S1x1024x192 : Shape := ⟨3, ![1, 1024, 192]⟩
abbrev S1024x192 : Shape := ⟨2, ![1024, 192]⟩
abbrev S512x1024 : Shape := ⟨2, ![512, 1024]⟩
abbrev S1x1024x128 : Shape := ⟨3, ![1, 1024, 128]⟩
abbrev S1024x128 : Shape := ⟨2, ![1024, 128]⟩
abbrev S1x1536x192 : Shape := ⟨3, ![1, 1536, 192]⟩
abbrev S1536x192 : Shape := ⟨2, ![1536, 192]⟩
abbrev S512x1536 : Shape := ⟨2, ![512, 1536]⟩
abbrev S1x1536x128 : Shape := ⟨3, ![1, 1536, 128]⟩
abbrev S1536x128 : Shape := ⟨2, ![1536, 128]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048x1024, .f32⟩
  | .hbm, ⟨4, _⟩ => ⟨S8x2048x192, .bf16⟩
  | .hbm, ⟨5, _⟩ => ⟨S8x2048x192, .bf16⟩
  | .hbm, ⟨6, _⟩ => ⟨S8x2048x128, .bf16⟩
  | .hbm, ⟨7, _⟩ => ⟨S8x2048x192, .f32⟩
  | .hbm, ⟨8, _⟩ => ⟨S8x2048x192, .f32⟩
  | .hbm, ⟨9, _⟩ => ⟨S8x2048x128, .f32⟩
  | .local _ .vmem, ⟨0, _⟩ => ⟨S1x512x192, .bf16⟩
  | .local _ .vmem, ⟨1, _⟩ => ⟨S1x512x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S512x128, .f32⟩
  | .local _ .vmem, ⟨7, _⟩ => ⟨S512x128, .f32⟩
  | .local _ .vmem, ⟨8, _⟩ => ⟨S1x512x192, .f32⟩
  | .local _ .vmem, ⟨9, _⟩ => ⟨S1x512x192, .f32⟩
  | .local _ .vmem, ⟨10, _⟩ => ⟨S1x2048x192, .f32⟩
  | .local _ .vmem, ⟨11, _⟩ => ⟨S1x2048x192, .f32⟩
  | .local _ .vmem, ⟨12, _⟩ => ⟨S1x2048x128, .f32⟩
  | .local _ .vmem, ⟨13, _⟩ => ⟨S1x2048x128, .f32⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel20Ideal.lean ====
variable {F : FTy → Type} [FloatOps F] [Named F]
def κ : String → Option EReal := fun
  | "mask" => some ⊥
  | _ => none
-- ==== Reference20Ideal.lean ====
abbrev S8x2048x192 : Shape := ⟨3, ![8, 2048, 192]⟩
abbrev S8x2048x128 : Shape := ⟨3, ![8, 2048, 128]⟩
abbrev S2048x1024 : Shape := ⟨2, ![2048, 1024]⟩
abbrev S8x2048x2048 : Shape := ⟨3, ![8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048x1024, .f32⟩
  | .hbm, ⟨4, _⟩ => ⟨S8x2048x2048, .f32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .i1⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .i1⟩
  | .hbm, ⟨51, _⟩ => ⟨S_, .f32⟩
  | .hbm, ⟨52, _⟩ => ⟨S8x2048, .f32⟩
  | .hbm, ⟨53, _⟩ => ⟨S8x2048, .i1⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x128x2048, .f32⟩
  | .hbm, ⟨76, _⟩ => ⟨S2048x8x128, .f32⟩
  | .hbm, ⟨77, _⟩ => ⟨S2048x1024, .f32⟩
  | .hbm, ⟨78, _⟩ => ⟨S2048x8x128, .f32⟩
  | .hbm, ⟨79, _⟩ => ⟨S8x128x2048, .f32⟩
  | .hbm, ⟨80, _⟩ => ⟨S8x2048x2048, .f32⟩
  | .hbm, ⟨81, _⟩ => ⟨S8x128x2048, .f32⟩
  | .hbm, ⟨82, _⟩ => ⟨S8x2048x128, .f32⟩
  | .hbm, ⟨83, _⟩ => ⟨S8x2048x2048, .f32⟩
  | .hbm, ⟨84, _⟩ => ⟨S8x2048x2048, .f32⟩
  | .hbm, ⟨85, _⟩ => ⟨S8x2048x2048, .f32⟩
  | .hbm, ⟨86, _⟩ => ⟨S_, .f32⟩
  | .hbm, ⟨87, _⟩ => ⟨S8x2048, .f32⟩
  | .hbm, ⟨88, _⟩ => ⟨S8x2048x1, .f32⟩
  | .hbm, ⟨89, _⟩ => ⟨S8x2048x1, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x2048, .f32⟩
  | .hbm, ⟨94, _⟩ => ⟨S8x2048x2048, .f32⟩
  | .hbm, ⟨95, _⟩ => ⟨S8x2048x2048, .f32⟩
  | .hbm, ⟨96, _⟩ => ⟨S8x2048x2048, .f32⟩
  | .hbm, ⟨97, _⟩ => ⟨S_, .f32⟩
  | .hbm, ⟨98, _⟩ => ⟨S8x2048x2048, .f32⟩
  | .hbm, ⟨99, _⟩ => ⟨S8x2048x2048, .f32⟩
  | .hbm, ⟨100, _⟩ => ⟨S8x2048x192, .f32⟩
  | .hbm, ⟨101, _⟩ => ⟨S8x2048x192, .f32⟩
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_call1_v0 : Ref sig .tc := ⟨.hbm, 31, rfl⟩
abbrev main_v9_1 : Ref sig .tc := ⟨.hbm, 32, rfl⟩
abbrev main_call1_v2 : Ref sig .tc := ⟨.hbm, 33, rfl⟩
abbrev main_v9_0 : Ref sig .tc := ⟨.hbm, 34, rfl⟩
abbrev main_call1_cst : Ref sig .tc := ⟨.hbm, 35, rfl⟩
abbrev main_v9_2 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call2_cst : Ref sig .tc := ⟨.hbm, 97, rfl⟩
abbrev main_call2_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩

abbrev nD : Nat := 1
abbrev τ : Topo := Topo.v7x

variable {F : FTy → Type} [FloatOps F]
-- ==== Proof.Base.lean ====
/-
  The library modules that most of the proofs use.
-/
module
public import Idealize.ShloMosaic.Lib.Pointwise
public import Idealize.ShloMosaic.Lib.StableHlo.ReadAt
public import Idealize.ShloMosaic.Lib.Pipeline.ReadBack
public import Idealize.ShloMosaic.Lib.Pipeline.CanonAppend
public import Idealize.ShloMosaic.Lib.Pipeline.ValueKit
public import Idealize.ShloMosaic.PureOps.Ideal.Laws
public import Idealize.ShloMosaic.Init
public import Idealize.ShloMosaic.Adequacy
-- ==== Proof.Spec.lean ====
/-
  The chunked gated linear recurrence as plain functions over the extended reals: one chunk's decayed keys and its
  update of the state, the states after every chunk, the output rows, and the gradients with respect to the queries,
  the keys, the values and the log decays. A chunk is 64 rows; a row of keys or log decays has 4 heads of 128 channels
  (column 128 h + a), a row of values 4 heads of 256 channels (column 256 h + b).
-/
module

public import proofs.«01_k».proof.Proof.Base

@[expose] public section

noncomputable section

namespace Cert.Gla

open Idealize.ShloMosaic Idealize.ShloMosaic.Pointwise

/-- One chunk's rows of an array with 512 columns, and of one with 1024 columns. -/
abbrev KRows := Fin 64 → Fin 512 → EReal
abbrev VRows := Fin 64 → Fin 1024 → EReal

/-- The recurrence's state: a head, a value channel, a key channel. -/
abbrev State := Fin 4 → Fin 256 → Fin 128 → EReal

/-- Channel `a` of head `h` among the 512 key columns. -/
def kc (h : Fin 4) (a : Fin 128) : Fin 512 := ⟨128 * h.val + a.val, by omega⟩
/-- Channel `b` of head `h` among the 1024 value columns. -/
def vc (h : Fin 4) (b : Fin 256) : Fin 1024 := ⟨256 * h.val + b.val, by omega⟩

/-- The rows of chunk `n` (the chunk's number taken modulo the 32 chunks). -/
def chunk {C : ℕ} (x : (⟨2, ![2048, C]⟩ : Shape).Idx → EReal) (n : ℕ) (r : Fin 64) (c : Fin C) : EReal :=
  x (ix2 ⟨(64 * n + r.val) % 2048, Nat.mod_lt _ (by decide)⟩ c)

theorem chunk_of_lt {C : ℕ} (x : (⟨2, ![2048, C]⟩ : Shape).Idx → EReal) (n : ℕ) (r : Fin 64) (c : Fin C)
    (h : 64 * n + r.val < 2048) : chunk x n r c = x (ix2 ⟨64 * n + r.val, h⟩ c) := by
  unfold chunk
  congr 2
  exact Fin.ext (Nat.mod_eq_of_lt h)

/-! ## One chunk -/

/-- The running sum of the log decays, row `r` included. -/
def bsum (g : KRows) (r : Fin 64) (c : Fin 512) : EReal := ∑ x : Fin 64, if x ≤ r then g x c else 0
/-- The chunk's whole log decay. -/
def bend (g : KRows) (c : Fin 512) : EReal := ∑ x : Fin 64, g x c
/-- What is left of row `r`'s contribution at the chunk's end. -/
def wgt (g : KRows) (r : Fin 64) (c : Fin 512) : EReal := Ideal.exp (bend g c - bsum g r c)
/-- The decayed keys. -/
def kdec (g k : KRows) (r : Fin 64) (c : Fin 512) : EReal := k r c * wgt g r c
/-- The chunk's decay. -/
def dec (g : KRows) (c : Fin 512) : EReal := Ideal.exp (bend g c)
/-- The chunk's update of the state. -/
def upd (g k : KRows) (v : VRows) : State := fun h b a => ∑ x : Fin 64, v x (vc h b) * kdec g k x (kc h a)
/-- One chunk's step of the recurrence. -/
def step (g k : KRows) (v : VRows) (s : State) : State :=
  fun h b a => s h b a * dec g (kc h a) + upd g k v h b a

/-- The state BEFORE chunk `n`: the state after it is `st (n + 1)`. -/
def st (g k : ℕ → KRows) (v : ℕ → VRows) : ℕ → State
  | 0 => fun _ _ _ => 0
  | n + 1 => step (g n) (k n) (v n) (st g k v n)

/-- The scale of the queries, as its f32 pattern reads over the extended reals. -/
def scale : EReal := Ideal.ofBits .f32 0x3DB504F3#32

/-- The output's row `r`, head `h`, channel `b`, off the state after the chunk. -/
def orow (q : KRows) (s : State) (r : Fin 64) (h : Fin 4) (b : Fin 256) : EReal :=
  ∑ a : Fin 128, q r (kc h a) * scale * s h b a

/-- A comparison of two row numbers below 64, as words. -/
theorem sel_le (x r : Fin 64) (u w : EReal) :
    Scalar.select (IntOp.cmpi CmpIPredicate.sle (BitVec.ofNat 32 x.val) (BitVec.ofNat 32 r.val)) u w
      = if x ≤ r then u else w := by
  have h : ∀ x r : Fin 64, IntOp.cmpi CmpIPredicate.sle (BitVec.ofNat 32 x.val) (BitVec.ofNat 32 r.val)
      = if x ≤ r then 1#1 else 0#1 := by decide +kernel
  rw [h]
  by_cases hx : x ≤ r
  · rw [if_pos hx, if_pos hx]; rfl
  · rw [if_neg hx, if_neg hx]; rfl

theorem sel_ge (x r : Fin 64) (u w : EReal) :
    Scalar.select (IntOp.cmpi CmpIPredicate.sge (BitVec.ofNat 32 x.val) (BitVec.ofNat 32 r.val)) u w
      = if r ≤ x then u else w := by
  have h : ∀ x r : Fin 64, IntOp.cmpi CmpIPredicate.sge (BitVec.ofNat 32 x.val) (BitVec.ofNat 32 r.val)
      = if r ≤ x then 1#1 else 0#1 := by decide +kernel
  rw [h]
  by_cases hx : r ≤ x
  · rw [if_pos hx, if_pos hx]; rfl
  · rw [if_neg hx, if_neg hx]; rfl

/-- A finite extended real: its difference with itself is 0. -/
def Fin0 (x : EReal) : Prop := x - x = 0

/-- The forward pass's two results: the output rows, and the state after every chunk. -/
def oArr (q k la : (⟨2, ![2048, 512]⟩ : Shape).Idx → EReal) (v : (⟨2, ![2048, 1024]⟩ : Shape).Idx → EReal) (s : Fin 2048) (j : Fin 1024) : EReal :=
  orow (chunk q (s.val / 64)) (st (chunk la) (chunk k) (chunk v) (s.val / 64 + 1)) ⟨s.val % 64, Nat.mod_lt _ (by decide)⟩
    ⟨j.val / 256, by omega⟩ ⟨j.val % 256, Nat.mod_lt _ (by decide)⟩

def stArr (k la : (⟨2, ![2048, 512]⟩ : Shape).Idx → EReal) (v : (⟨2, ![2048, 1024]⟩ : Shape).Idx → EReal)
    (h : Fin 4) (n : Fin 32) (b : Fin 256) (a : Fin 128) : EReal :=
  st (chunk la) (chunk k) (chunk v) (n.val + 1) h b a

end Cert.Gla
-- ==== Proof.FwdKernel.lean ====
/-
  What the forward call of the gated linear recurrence writes: block by block over the grid's 32 points, the output rows
  and the state after the chunk are the plain functions of Proof/Spec.lean.
-/
module
public import proofs.«01_k».proof.Proof.Gen.Kernel2Ideal.Value
public import proofs.«01_k».proof.Proof.Spec
public import proofs.«01_k».proof.Proof.Base

@[expose] public section

set_option maxRecDepth 20000

noncomputable section

namespace Cert.Kernel2Ideal.Own

open Idealize.ShloMosaic Idealize.ShloMosaic.TcCoe Idealize.ShloMosaic.Pointwise
open Cert.Kernel2Ideal Cert.Kernel2Ideal.Gen Cert.Gla

/-- A block of rows, as the plain functions take it. -/
abbrev kr (g : Vec Ideal S64x512 .f32) : KRows := fun r c => g (ix2 r c)
abbrev vr (g : Vec Ideal S64x1024 .f32) : VRows := fun r c => g (ix2 r c)
abbrev sr (s : Vec Ideal S4x256x128 .f32) : State := fun h b a => s (ix3 h b a)

variable (g k q : Vec Ideal S64x512 .f32) (v : Vec Ideal S64x1024 .f32) (s : Vec Ideal S4x256x128 .f32)

theorem pay7_apply (hg : ∀ r l, Fin0 (g (ix2 r l))) (r : Fin 64) (l : Fin 512) :
    k0_pay7 (F := Ideal) g k (ix2 r l) = kdec (kr g) (kr k) r l := by
  pointwise [k0_pay7, k0_pay6]
  simp only [Fin0] at hg
  simp only [hg, sel_le, sub_zero, ite_self, Finset.sum_const_zero, add_zero]
  rfl

theorem pay8_apply (l : Fin 512) : k0_pay8 (F := Ideal) g (ix2 0 l) = dec (kr g) l := by
  pointwise [k0_pay8, k0_pay6]
  rfl

theorem kc_zero (a : Fin 128) : kc 0 a = ⟨a.val, by omega⟩ := Fin.ext (by show 128 * 0 + a.val = a.val; omega)
theorem vc_zero (b : Fin 256) : vc 0 b = ⟨b.val, by omega⟩ := Fin.ext (by show 256 * 0 + b.val = b.val; omega)

variable (hg : ∀ r l, Fin0 (g (ix2 r l)))
include hg

/-! ## One head's new state -/

theorem head0 (b : Fin 256) (a : Fin 128) :
    k0_pay11 (F := Ideal) (k0_pay7 g k) (k0_pay8 g) (k0_pay10 v)
      (View.ld s (Rect.unit ![0, 0, 0] ![1, 256, 128] inb_S4x256x128_S1x256x128_0_0_0)) (ix2 b a)
      = step (kr g) (kr k) (vr v) (sr s) 0 b a := by
  pointwise [k0_pay11, k0_pay10]
  simp only [pay7_apply g k hg, pay8_apply, step, upd, kc_zero, vc_zero]

theorem head1 (b : Fin 256) (a : Fin 128) :
    k0_pay15 (F := Ideal) (k0_pay7 g k) (k0_pay8 g) (k0_pay10 v)
      (View.ld s (Rect.unit ![1, 0, 0] ![1, 256, 128] inb_S4x256x128_S1x256x128_1_0_0)) (ix2 b a)
      = step (kr g) (kr k) (vr v) (sr s) 1 b a := by
  pointwise [k0_pay15, k0_pay10]
  simp only [pay7_apply g k hg, pay8_apply]
  rfl

theorem head2 (b : Fin 256) (a : Fin 128) :
    k0_pay19 (F := Ideal) (k0_pay7 g k) (k0_pay8 g) (k0_pay10 v)
      (View.ld s (Rect.unit ![2, 0, 0] ![1, 256, 128] inb_S4x256x128_S1x256x128_2_0_0)) (ix2 b a)
      = step (kr g) (kr k) (vr v) (sr s) 2 b a := by
  pointwise [k0_pay19, k0_pay10]
  simp only [pay7_apply g k hg, pay8_apply]
  rfl

theorem head3 (b : Fin 256) (a : Fin 128) :
    k0_pay1 (F := Ideal) (k0_pay23 (k0_pay7 g k) (k0_pay10 v)) (k0_pay24 (k0_pay8 g)
      (View.ld s (Rect.unit ![3, 0, 0] ![1, 256, 128] inb_S4x256x128_S1x256x128_3_0_0))) (ix2 b a)
      = step (kr g) (kr k) (vr v) (sr s) 3 b a := by
  pointwise [k0_pay1, k0_pay23, k0_pay24, k0_pay10]
  simp only [pay7_apply g k hg, pay8_apply]
  rfl

/-! ## The point's stores -/

/-- The four heads' stores of the carried state, last store first. -/
abbrev scL : List (View.Piece (Elt Ideal) S4x256x128 .f32) :=
  [⟨Rect.unit ![3, 0, 0] ![1, 256, 128] inb_S4x256x128_S1x256x128_3_0_0,
      k0_pay2 (k0_pay23 (k0_pay7 g k) (k0_pay10 v)) (k0_pay24 (k0_pay8 g)
        (View.ld s (Rect.unit ![3, 0, 0] ![1, 256, 128] inb_S4x256x128_S1x256x128_3_0_0)))⟩,
    ⟨Rect.unit ![2, 0, 0] ![1, 256, 128] inb_S4x256x128_S1x256x128_2_0_0,
      k0_pay20 (k0_pay7 g k) (k0_pay8 g) (k0_pay10 v)
        (View.ld s (Rect.unit ![2, 0, 0] ![1, 256, 128] inb_S4x256x128_S1x256x128_2_0_0))⟩,
    ⟨Rect.unit ![1, 0, 0] ![1, 256, 128] inb_S4x256x128_S1x256x128_1_0_0,
      k0_pay16 (k0_pay7 g k) (k0_pay8 g) (k0_pay10 v)
        (View.ld s (Rect.unit ![1, 0, 0] ![1, 256, 128] inb_S4x256x128_S1x256x128_1_0_0))⟩,
    ⟨Rect.unit ![0, 0, 0] ![1, 256, 128] inb_S4x256x128_S1x256x128_0_0_0,
      k0_pay12 (k0_pay7 g k) (k0_pay8 g) (k0_pay10 v)
        (View.ld s (Rect.unit ![0, 0, 0] ![1, 256, 128] inb_S4x256x128_S1x256x128_0_0_0))⟩]

abbrev scG : S4x256x128.Idx → EReal := fun i => step (kr g) (kr k) (vr v) (sr s) (i 0) (i 1) (i 2)

omit hg in
theorem eq_ix4' {n0 n1 n2 n3 : ℕ} (x : (⟨4, ![n0, n1, n2, n3]⟩ : Shape).Idx) : x = ix4 (x 0) (x 1) (x 2) (x 3) := by
  funext a; fin_cases a <;> rfl

omit hg in
theorem eq_ix3' {n0 n1 n2 : ℕ} (x : (⟨3, ![n0, n1, n2]⟩ : Shape).Idx) : x = ix3 (x 0) (x 1) (x 2) := by
  funext a; fin_cases a <;> rfl

omit hg in
theorem eq_ix2' {n0 n1 : ℕ} (x : (⟨2, ![n0, n1]⟩ : Shape).Idx) : x = ix2 (x 0) (x 1) := by
  funext a; fin_cases a <;> rfl

omit hg in
/-- One head's store into the carried state, against a function of the state's index. -/
theorem piece3 (G : S4x256x128.Idx → EReal) (h : Fin 4) (inb : ∀ a, ![h.val, 0, 0] a + ![1, 256, 128] a ≤ S4x256x128.size a)
    (w : S1x256x128.Idx → EReal) (hw : ∀ b a, w (ix3 0 b a) = G (ix3 h b a)) (x : S1x256x128.Idx) :
    w x = G ((Rect.unit (s := S4x256x128) ![h.val, 0, 0] ![1, 256, 128] inb).emb x) := by
  have e0 : x 0 = (0 : Fin 1) := Subsingleton.elim (α := Fin 1) _ _
  have ex : x = ix3 (0 : Fin 1) (x 1) (x 2) := by
    conv_lhs => rw [eq_ix3' x]
    rw [e0]
    rfl
  have ey : (Rect.unit (s := S4x256x128) ![h.val, 0, 0] ![1, 256, 128] inb).emb x = ix3 h (x 1) (x 2) := by
    funext a
    apply Fin.ext
    have h0 : (x 0 : ℕ) = 0 := congrArg Fin.val e0
    match a with
    | ⟨0, _⟩ => show h.val + 1 * (x 0 : ℕ) = h.val; omega
    | ⟨1, _⟩ => show 0 + 1 * (x 1 : ℕ) = (x 1 : ℕ); omega
    | ⟨2, _⟩ => show 0 + 1 * (x 2 : ℕ) = (x 2 : ℕ); omega
  rw [ey, ex]
  exact hw _ _

omit hg in
/-- One head's store into the block of states. -/
theorem piece4 (G : S4x1x256x128.Idx → EReal) (h : Fin 4) (inb : ∀ a, ![h.val, 0, 0, 0] a + ![1, 1, 256, 128] a ≤ S4x1x256x128.size a)
    (w : S1x1x256x128.Idx → EReal) (hw : ∀ b a, w (ix4 0 0 b a) = G (ix4 h 0 b a)) (x : S1x1x256x128.Idx) :
    w x = G ((Rect.unit (s := S4x1x256x128) ![h.val, 0, 0, 0] ![1, 1, 256, 128] inb).emb x) := by
  have e0 : x 0 = (0 : Fin 1) := Subsingleton.elim (α := Fin 1) _ _
  have e1 : x 1 = (0 : Fin 1) := Subsingleton.elim (α := Fin 1) _ _
  have ex : x = ix4 (0 : Fin 1) (0 : Fin 1) (x 2) (x 3) := by
    conv_lhs => rw [eq_ix4' x]
    rw [e0, e1]
    rfl
  have ey : (Rect.unit (s := S4x1x256x128) ![h.val, 0, 0, 0] ![1, 1, 256, 128] inb).emb x = ix4 h 0 (x 2) (x 3) := by
    funext a
    apply Fin.ext
    have h0 : (x 0 : ℕ) = 0 := congrArg Fin.val e0
    have h1 : (x 1 : ℕ) = 0 := congrArg Fin.val e1
    match a with
    | ⟨0, _⟩ => show h.val + 1 * (x 0 : ℕ) = h.val; omega
    | ⟨1, _⟩ => show 0 + 1 * (x 1 : ℕ) = 0; omega
    | ⟨2, _⟩ => show 0 + 1 * (x 2 : ℕ) = (x 2 : ℕ); omega
    | ⟨3, _⟩ => show 0 + 1 * (x 3 : ℕ) = (x 3 : ℕ); omega
  rw [ey, ex]
  exact hw _ _

omit hg in
/-- One head's store into the block of output rows. -/
theorem piece2 (G : S64x1024.Idx → EReal) (h : Fin 4) (o : ℕ) (ho : o = 256 * h.val)
    (inb : ∀ a, ![0, o] a + ![64, 256] a ≤ S64x1024.size a)
    (w : S64x256.Idx → EReal) (hw : ∀ r b, w (ix2 r b) = G (ix2 r (vc h b))) (x : S64x256.Idx) :
    w x = G ((Rect.unit (s := S64x1024) ![0, o] ![64, 256] inb).emb x) := by
  have ey : (Rect.unit (s := S64x1024) ![0, o] ![64, 256] inb).emb x = ix2 (x 0) (vc h (x 1)) := by
    funext a
    apply Fin.ext
    match a with
    | ⟨0, _⟩ => show 0 + 1 * (x 0 : ℕ) = (x 0 : ℕ); omega
    | ⟨1, _⟩ => show o + 1 * (x 1 : ℕ) = 256 * h.val + (x 1 : ℕ); omega
  rw [ey, eq_ix2' x]
  exact hw _ _

theorem sc_pieces : ∀ p ∈ scL g k v s, ∀ x : p.1.shape.Idx, p.2 x = scG g k v s (p.1.emb x) := by
  intro p hp x
  simp only [List.mem_cons, List.not_mem_nil, or_false] at hp
  rcases hp with rfl | rfl | rfl | rfl
  · exact piece3 (scG g k v s) 3 inb_S4x256x128_S1x256x128_3_0_0 _ (fun b a => by pointwise [k0_pay2]; exact head3 g k v s hg b a) x
  · exact piece3 (scG g k v s) 2 inb_S4x256x128_S1x256x128_2_0_0 _ (fun b a => by pointwise [k0_pay20]; exact head2 g k v s hg b a) x
  · exact piece3 (scG g k v s) 1 inb_S4x256x128_S1x256x128_1_0_0 _ (fun b a => by pointwise [k0_pay16]; exact head1 g k v s hg b a) x
  · exact piece3 (scG g k v s) 0 inb_S4x256x128_S1x256x128_0_0_0 _ (fun b a => by pointwise [k0_pay12]; exact head0 g k v s hg b a) x

omit hg in
theorem sc_cover (y : S4x256x128.Idx) : ∃ p ∈ scL g k v s, y ∈ p.1.set :=
  View.cover_of_tiled_head _ _ _ (by rfl) y

/-- The four heads' stores of the states' block, last store first. -/
abbrev stL : List (View.Piece (Elt Ideal) S4x1x256x128 .f32) :=
  [⟨Rect.unit ![3, 0, 0, 0] ![1, 1, 256, 128] inb_S4x1x256x128_S1x1x256x128_3_0_0_0,
      k0_pay3 (k0_pay23 (k0_pay7 g k) (k0_pay10 v)) (k0_pay24 (k0_pay8 g)
        (View.ld s (Rect.unit ![3, 0, 0] ![1, 256, 128] inb_S4x256x128_S1x256x128_3_0_0)))⟩,
    ⟨Rect.unit ![2, 0, 0, 0] ![1, 1, 256, 128] inb_S4x1x256x128_S1x1x256x128_2_0_0_0,
      k0_pay21 (k0_pay7 g k) (k0_pay8 g) (k0_pay10 v)
        (View.ld s (Rect.unit ![2, 0, 0] ![1, 256, 128] inb_S4x256x128_S1x256x128_2_0_0))⟩,
    ⟨Rect.unit ![1, 0, 0, 0] ![1, 1, 256, 128] inb_S4x1x256x128_S1x1x256x128_1_0_0_0,
      k0_pay17 (k0_pay15 (k0_pay7 g k) (k0_pay8 g) (k0_pay10 v)
        (View.ld s (Rect.unit ![1, 0, 0] ![1, 256, 128] inb_S4x256x128_S1x256x128_1_0_0)))⟩,
    ⟨Rect.unit ![0, 0, 0, 0] ![1, 1, 256, 128] inb_S4x1x256x128_S1x1x256x128_0_0_0_0,
      k0_pay13 (k0_pay7 g k) (k0_pay8 g) (k0_pay10 v)
        (View.ld s (Rect.unit ![0, 0, 0] ![1, 256, 128] inb_S4x256x128_S1x256x128_0_0_0))⟩]

abbrev stG : S4x1x256x128.Idx → EReal := fun i => step (kr g) (kr k) (vr v) (sr s) (i 0) (i 2) (i 3)

theorem st_pieces : ∀ p ∈ stL g k v s, ∀ x : p.1.shape.Idx, p.2 x = stG g k v s (p.1.emb x) := by
  intro p hp x
  simp only [List.mem_cons, List.not_mem_nil, or_false] at hp
  rcases hp with rfl | rfl | rfl | rfl
  · exact piece4 (stG g k v s) 3 inb_S4x1x256x128_S1x1x256x128_3_0_0_0 _ (fun b a => by pointwise [k0_pay3]; exact head3 g k v s hg b a) x
  · exact piece4 (stG g k v s) 2 inb_S4x1x256x128_S1x1x256x128_2_0_0_0 _ (fun b a => by pointwise [k0_pay21]; exact head2 g k v s hg b a) x
  · exact piece4 (stG g k v s) 1 inb_S4x1x256x128_S1x1x256x128_1_0_0_0 _ (fun b a => by pointwise [k0_pay17]; exact head1 g k v s hg b a) x
  · exact piece4 (stG g k v s) 0 inb_S4x1x256x128_S1x1x256x128_0_0_0_0 _ (fun b a => by pointwise [k0_pay13]; exact head0 g k v s hg b a) x

omit hg in
theorem st_cover (y : S4x1x256x128.Idx) : ∃ p ∈ stL g k v s, y ∈ p.1.set :=
  View.cover_of_tiled_head _ _ _ (by rfl) y

/-- The four heads' stores of the output rows, last store first. -/
abbrev oL : List (View.Piece (Elt Ideal) S64x1024 .f32) :=
  [⟨Rect.unit ![0, 768] ![64, 256] inb_S64x1024_S64x256_0_768,
      k0_pay4 (k0_pay9 q) (k0_pay23 (k0_pay7 g k) (k0_pay10 v)) (k0_pay24 (k0_pay8 g)
        (View.ld s (Rect.unit ![3, 0, 0] ![1, 256, 128] inb_S4x256x128_S1x256x128_3_0_0)))⟩,
    ⟨Rect.unit ![0, 512] ![64, 256] inb_S64x1024_S64x256_0_512,
      k0_pay22 (k0_pay7 g k) (k0_pay8 g) (k0_pay9 q) (k0_pay10 v)
        (View.ld s (Rect.unit ![2, 0, 0] ![1, 256, 128] inb_S4x256x128_S1x256x128_2_0_0))⟩,
    ⟨Rect.unit ![0, 256] ![64, 256] inb_S64x1024_S64x256_0_256,
      k0_pay18 (k0_pay9 q) (k0_pay15 (k0_pay7 g k) (k0_pay8 g) (k0_pay10 v)
        (View.ld s (Rect.unit ![1, 0, 0] ![1, 256, 128] inb_S4x256x128_S1x256x128_1_0_0)))⟩,
    ⟨Rect.unit ![0, 0] ![64, 256] inb_S64x1024_S64x256_0_0,
      k0_pay14 (k0_pay7 g k) (k0_pay8 g) (k0_pay9 q) (k0_pay10 v)
        (View.ld s (Rect.unit ![0, 0, 0] ![1, 256, 128] inb_S4x256x128_S1x256x128_0_0_0))⟩]

/-- The output row off the new state, by the output's column. -/
abbrev oG : S64x1024.Idx → EReal := fun i =>
  orow (kr q) (step (kr g) (kr k) (vr v) (sr s)) (i 0) ⟨(i 1 : ℕ) / 256, by have h : (i 1 : ℕ) < 1024 := (i 1).isLt; omega⟩
    ⟨(i 1 : ℕ) % 256, Nat.mod_lt _ (by decide)⟩

omit hg in
theorem oG_vc (r : Fin 64) (h : Fin 4) (b : Fin 256) :
    oG g k q v s (ix2 r (vc h b)) = orow (kr q) (step (kr g) (kr k) (vr v) (sr s)) r h b := by
  unfold oG
  congr 1
  · exact Fin.ext (by show (256 * h.val + b.val) / 256 = h.val; omega)
  · exact Fin.ext (by show (256 * h.val + b.val) % 256 = b.val; omega)

theorem o_pieces : ∀ p ∈ oL g k q v s, ∀ x : p.1.shape.Idx, p.2 x = oG g k q v s (p.1.emb x) := by
  intro p hp x
  simp only [List.mem_cons, List.not_mem_nil, or_false] at hp
  rcases hp with rfl | rfl | rfl | rfl
  · refine piece2 (oG g k q v s) 3 768 rfl inb_S64x1024_S64x256_0_768 _ (fun r b => ?_) x
    rw [oG_vc]
    pointwise [k0_pay4, k0_pay9]
    simp only [head3 g k v s hg]
    rfl
  · refine piece2 (oG g k q v s) 2 512 rfl inb_S64x1024_S64x256_0_512 _ (fun r b => ?_) x
    rw [oG_vc]
    pointwise [k0_pay22, k0_pay9]
    simp only [head2 g k v s hg]
    rfl
  · refine piece2 (oG g k q v s) 1 256 rfl inb_S64x1024_S64x256_0_256 _ (fun r b => ?_) x
    rw [oG_vc]
    pointwise [k0_pay18, k0_pay9]
    simp only [head1 g k v s hg]
    rfl
  · refine piece2 (oG g k q v s) 0 0 rfl inb_S64x1024_S64x256_0_0 _ (fun r b => ?_) x
    rw [oG_vc]
    pointwise [k0_pay14, k0_pay9]
    simp only [head0 g k v s hg, orow, kc_zero]
    rfl

omit hg in
theorem o_cover (y : S64x1024.Idx) : ∃ p ∈ oL g k q v s, y ∈ p.1.set :=
  View.cover_of_tiled_head _ _ _ (by rfl) y

/-! ## The grid's points -/

omit hg in
theorem zero_state : sr (k0_pay5 (F := Ideal)) = fun _ _ _ => 0 := by
  funext h b a
  show k0_pay5 (F := Ideal) (ix3 h b a) = 0
  pointwise [k0_pay5]

omit hg in
theorem idx_in : ∀ t : Fin cfg0.N, win0_0.index t = ![t.val, 0] ∧ win0_1.index t = ![t.val, 0] ∧ win0_2.index t = ![t.val, 0]
    ∧ win0_3.index t = ![t.val, 0] := by decide +kernel

end Cert.Kernel2Ideal.Own

namespace Cert.Kernel2Ideal.Own

open Idealize.ShloMosaic Idealize.ShloMosaic.TcCoe Idealize.ShloMosaic.Pointwise
open Cert.Kernel2Ideal Cert.Kernel2Ideal.Gen Cert.Gla

variable (m : (ℓ : Loc nD τ sig) → Buf (Elt Ideal) ℓ) (c : Dev nD)

/-- The arguments' chunks. -/
abbrev Q : ℕ → KRows := chunk (m ((c : Thread nD τ).loc main_arg0))
abbrev K : ℕ → KRows := chunk (m ((c : Thread nD τ).loc main_arg1))
abbrev V' : ℕ → VRows := chunk (m ((c : Thread nD τ).loc main_arg2))
abbrev LA : ℕ → KRows := chunk (m ((c : Thread nD τ).loc main_arg3))

theorem N32 : cfg0.N = 32 := N_0

theorem blk0 (t : Fin cfg0.N) : kr (iblk m c 0 t) = Q m c t.val := by
  funext r l
  have h := lt_of_lt_of_eq t.isLt N32
  rw [show Q m c t.val r l = _ from chunk_of_lt _ _ _ _ (by omega)]
  show iblk m c 0 t (ix2 r l) = _
  blk_ext [iblk, V, (idx_in t).1]

theorem blk1 (t : Fin cfg0.N) : kr (iblk m c 1 t) = K m c t.val := by
  funext r l
  have h := lt_of_lt_of_eq t.isLt N32
  rw [show K m c t.val r l = _ from chunk_of_lt _ _ _ _ (by omega)]
  show iblk m c 1 t (ix2 r l) = _
  blk_ext [iblk, V, (idx_in t).2.1]

theorem blk2 (t : Fin cfg0.N) : vr (iblk m c 2 t) = V' m c t.val := by
  funext r l
  have h := lt_of_lt_of_eq t.isLt N32
  rw [show V' m c t.val r l = _ from chunk_of_lt _ _ _ _ (by omega)]
  show iblk m c 2 t (ix2 r l) = _
  blk_ext [iblk, V, (idx_in t).2.2.1]

theorem blk3 (t : Fin cfg0.N) : kr (iblk m c 3 t) = LA m c t.val := by
  funext r l
  have h := lt_of_lt_of_eq t.isLt N32
  rw [show LA m c t.val r l = _ from chunk_of_lt _ _ _ _ (by omega)]
  show iblk m c 3 t (ix2 r l) = _
  blk_ext [iblk, V, (idx_in t).2.2.2]

variable (hla : ∀ i, Fin0 (m ((c : Thread nD τ).loc main_arg3) i))
include hla

theorem hg_blk (t : Fin cfg0.N) (r : Fin 64) (l : Fin 512) : Fin0 ((iblk m c 3 t : Vec Ideal S64x512 .f32) (ix2 r l)) := by
  show Fin0 (kr (iblk m c 3 t) r l)
  rw [blk3]
  exact hla _

/-- One point's contents off the state `s` before it. -/
abbrev ptOuts (t : Fin cfg0.N) (s : Vec Ideal S4x256x128 .f32) :
    Vec Ideal S64x1024 .f32 × Vec Ideal S4x1x256x128 .f32 × Vec Ideal S4x256x128 .f32 :=
  (oG (iblk m c 3 t) (iblk m c 1 t) (iblk m c 0 t) (iblk m c 2 t) s, stG (iblk m c 3 t) (iblk m c 1 t) (iblk m c 2 t) s,
    scG (iblk m c 3 t) (iblk m c 1 t) (iblk m c 2 t) s)

theorem outs_A (t : Fin cfg0.N) (h0 : t.val % 32 = 0) : outsAt0 m c t.val t.isLt = ptOuts m c t (k0_pay5 (F := Ideal)) := by
  rw [outsAt0_A m c t h0]
  refine Prod.ext ?_ (Prod.ext ?_ ?_)
  · dsimp only
    frame_open
    simp (disch := decide) only [↓ View.readCov_skip, ↓ View.readCov_cons_toLoadRect, ↓ View.readCov_fill]
    frame_out
    funext y
    exact View.canon_apply_of_pieces _ _ (o_pieces _ _ _ _ _ (hg_blk m c hla t)) y (o_cover _ _ _ _ _ y)
  · dsimp only
    frame_open
    simp (disch := decide) only [↓ View.readCov_skip, ↓ View.readCov_cons_toLoadRect, ↓ View.readCov_fill]
    frame_out
    funext y
    exact View.canon_apply_of_pieces _ _ (st_pieces _ _ _ _ (hg_blk m c hla t)) y (st_cover _ _ _ _ y)
  · dsimp only
    frame_open
    simp (disch := decide) only [↓ View.readCov_skip, ↓ View.readCov_cons_toLoadRect, ↓ View.readCov_fill]
    frame_out
    funext y
    exact View.canon_append_of_pieces _ [_] _ (sc_pieces _ _ _ _ (hg_blk m c hla t)) y (sc_cover _ _ _ _ y)

theorem outs_B (t : Fin cfg0.N) (h0 : ¬t.val % 32 = 0) :
    outsAt0 m c t.val t.isLt = ptOuts m c t (outsAt0 m c (t.val - 1) (lt_of_le_of_lt (Nat.sub_le _ _) t.isLt)).2.2 := by
  rw [outsAt0_B m c t h0]
  refine Prod.ext ?_ (Prod.ext ?_ ?_)
  · dsimp only
    frame_out
    simp only [read_unread_whole]
    funext y
    exact View.canon_apply_of_pieces _ _ (o_pieces _ _ _ _ _ (hg_blk m c hla t)) y (o_cover _ _ _ _ _ y)
  · dsimp only
    frame_out
    simp only [read_unread_whole]
    funext y
    exact View.canon_apply_of_pieces _ _ (st_pieces _ _ _ _ (hg_blk m c hla t)) y (st_cover _ _ _ _ y)
  · dsimp only
    frame_out
    simp only [read_unread_whole]
    funext y
    exact View.canon_apply_of_pieces _ _ (sc_pieces _ _ _ _ (hg_blk m c hla t)) y (sc_cover _ _ _ _ y)

/-- The carried state after point `n` is the recurrence's state after chunk `n`. -/
theorem carried (n : ℕ) (hn : n < cfg0.N) : sr (outsAt0 m c n hn).2.2 = st (LA m c) (K m c) (V' m c) (n + 1) := by
  induction n with
  | zero =>
    rw [outs_A m c hla ⟨0, hn⟩ rfl]
    show step (kr (iblk m c 3 ⟨0, hn⟩)) (kr (iblk m c 1 ⟨0, hn⟩)) (vr (iblk m c 2 ⟨0, hn⟩)) (sr (k0_pay5 (F := Ideal))) = _
    rw [blk1, blk2, blk3, zero_state]
    rfl
  | succ n ih =>
    have h32 := lt_of_lt_of_eq hn N32
    rw [outs_B m c hla ⟨n + 1, hn⟩ (by show ¬(n + 1) % 32 = 0; omega)]
    show step (kr (iblk m c 3 ⟨n + 1, hn⟩)) (kr (iblk m c 1 ⟨n + 1, hn⟩)) (vr (iblk m c 2 ⟨n + 1, hn⟩)) (sr (outsAt0 m c n _).2.2) = _
    rw [blk1, blk2, blk3, ih (Nat.lt_of_succ_lt hn)]
    rfl

/-- What a point leaves in its two output blocks. -/
theorem left_out (t : Fin cfg0.N) (i : S64x1024.Idx) : (outsAt0 m c t.val t.isLt).1 i
    = orow (Q m c t.val) (st (LA m c) (K m c) (V' m c) (t.val + 1)) (i 0)
        ⟨(i 1 : ℕ) / 256, by have h : (i 1 : ℕ) < 1024 := (i 1).isLt; omega⟩ ⟨(i 1 : ℕ) % 256, Nat.mod_lt _ (by decide)⟩ := by
  by_cases h0 : t.val % 32 = 0
  · have h32 := lt_of_lt_of_eq t.isLt N32
    have hz : t.val = 0 := by omega
    rw [outs_A m c hla t h0]
    show orow (kr (iblk m c 0 t)) (step (kr (iblk m c 3 t)) (kr (iblk m c 1 t)) (vr (iblk m c 2 t)) (sr (k0_pay5 (F := Ideal)))) _ _ _ = _
    rw [blk0, blk1, blk2, blk3, zero_state, hz]
    rfl
  · rw [outs_B m c hla t h0]
    show orow (kr (iblk m c 0 t)) (step (kr (iblk m c 3 t)) (kr (iblk m c 1 t)) (vr (iblk m c 2 t)) (sr (outsAt0 m c (t.val - 1) _).2.2)) _ _ _ = _
    rw [blk0, blk1, blk2, blk3, carried m c hla]
    obtain ⟨n, hn⟩ : ∃ n, t.val = n + 1 := ⟨t.val - 1, by omega⟩
    rw [hn]
    rfl

theorem left_st (t : Fin cfg0.N) (i : S4x1x256x128.Idx) : (outsAt0 m c t.val t.isLt).2.1 i
    = st (LA m c) (K m c) (V' m c) (t.val + 1) (i 0) (i 2) (i 3) := by
  by_cases h0 : t.val % 32 = 0
  · have h32 := lt_of_lt_of_eq t.isLt N32
    have hz : t.val = 0 := by omega
    rw [outs_A m c hla t h0]
    show step (kr (iblk m c 3 t)) (kr (iblk m c 1 t)) (vr (iblk m c 2 t)) (sr (k0_pay5 (F := Ideal))) _ _ _ = _
    rw [blk1, blk2, blk3, zero_state, hz]
    rfl
  · rw [outs_B m c hla t h0]
    show step (kr (iblk m c 3 t)) (kr (iblk m c 1 t)) (vr (iblk m c 2 t)) (sr (outsAt0 m c (t.val - 1) _).2.2) _ _ _ = _
    rw [blk1, blk2, blk3, carried m c hla]
    obtain ⟨n, hn⟩ : ∃ n, t.val = n + 1 := ⟨t.val - 1, by omega⟩
    rw [hn]
    rfl

/-- The result arrays after the run. -/
theorem G4_eq (i : S2048x1024.Idx) : Value.G4 m c i = oArr (m ((c : Thread nD τ).loc main_arg0)) (m ((c : Thread nD τ).loc main_arg1))
    (m ((c : Thread nD τ).loc main_arg3)) (m ((c : Thread nD τ).loc main_arg2)) (i 0) (i 1) := by
  have h0 : (i 0).val < 2048 := (i 0).isLt
  have h1 : (i 1).val < 1024 := (i 1).isLt
  unfold Value.G4
  have hp : Value.pt4Of i = (i 0).val / 64 := by show 1 * ((i 0).val / 64 - 0) + 1 * ((i 1).val / 1024 - 0) = _; omega
  have hb : Value.pt4Of i < cfg0.N := by rw [hp, show cfg0.N = 32 from N32]; omega
  rw [dif_pos hb]
  have e := congrFun (congrArg Prod.fst (Value.outsAt0_sweep m c (Value.pt4Of i) hb)) (Value.loc4Of i)
  refine (Eq.trans e.symm (left_out m c hla ⟨Value.pt4Of i, hb⟩ (Value.loc4Of i))).trans ?_
  unfold oArr
  simp only [hp]
  congr 1
  exact Fin.ext (by show (i 1).val % 1024 / 256 = (i 1).val / 256; omega)
  exact Fin.ext (by show (i 1).val % 1024 % 256 = (i 1).val % 256; omega)

theorem G5_eq (i : S4x32x256x128.Idx) : Value.G5 m c i = stArr (m ((c : Thread nD τ).loc main_arg1))
    (m ((c : Thread nD τ).loc main_arg3)) (m ((c : Thread nD τ).loc main_arg2)) (i 0) (i 1) (i 2) (i 3) := by
  have h0 : (i 0).val < 4 := (i 0).isLt
  have h1 : (i 1).val < 32 := (i 1).isLt
  have h2 : (i 2).val < 256 := (i 2).isLt
  have h3 : (i 3).val < 128 := (i 3).isLt
  unfold Value.G5
  have hp : Value.pt5Of i = (i 1).val := by show 32 * ((i 0).val / 4 - 0) + 1 * ((i 1).val / 1 - 0) + 1 * ((i 2).val / 256 - 0) + 1 * ((i 3).val / 128 - 0) = _; omega
  have hb : Value.pt5Of i < cfg0.N := by rw [hp, show cfg0.N = 32 from N32]; omega
  rw [dif_pos hb]
  have e := congrFun (congrArg (fun x => x.2.1) (Value.outsAt0_sweep m c (Value.pt5Of i) hb)) (Value.loc5Of i)
  refine (Eq.trans e.symm (left_st m c hla ⟨Value.pt5Of i, hb⟩ (Value.loc5Of i))).trans ?_
  unfold stArr
  simp only [hp]
  congr 1
  exact Fin.ext (by show (i 0).val % 4 = (i 0).val; omega)
  exact Fin.ext (by show (i 2).val % 256 = (i 2).val; omega)
  exact Fin.ext (by show (i 3).val % 128 = (i 3).val; omega)

end Cert.Kernel2Ideal.Own
-- ==== Proof.BwdSpec.lean ====
/-
  The gradients of the chunked gated linear recurrence as plain functions over the extended reals. The chunks are taken
  from the last to the first: a chunk's state gradient is what the later chunks carry back plus the chunk's own rows, and
  every gradient of the chunk's rows is read off it and off the states after and before the chunk.
-/
module

public import proofs.«01_k».proof.Proof.Spec

@[expose] public section

noncomputable section

namespace Cert.Gla

open Idealize.ShloMosaic Idealize.ShloMosaic.Pointwise

/-- The gradient of the state after a chunk: what is carried back to it, and what its own output rows give. -/
def gsum (q : KRows) (o : VRows) (s : State) : State :=
  fun h b a => s h b a + ∑ r : Fin 64, o r (vc h b) * (q r (kc h a) * scale)

/-- What is carried back once the last `j` chunks are done. -/
def carry (g q : ℕ → KRows) (o : ℕ → VRows) : ℕ → State
  | 0 => fun _ _ _ => 0
  | j + 1 => fun h b a => gsum (q (31 - j)) (o (31 - j)) (carry g q o j) h b a * dec (g (31 - j)) (kc h a)

/-- The gradient of the state after chunk `n`. -/
def gst (g q : ℕ → KRows) (o : ℕ → VRows) (n : ℕ) : State := gsum (q n) (o n) (carry g q o (31 - n))

/-- The gradient of a query, off the state after its chunk. -/
def dqr (o : VRows) (s : State) (r : Fin 64) (h : Fin 4) (a : Fin 128) : EReal := (∑ b : Fin 256, o r (vc h b) * s h b a) * scale
/-- The gradient of a decayed key. -/
def dkd (v : VRows) (G : State) (r : Fin 64) (h : Fin 4) (a : Fin 128) : EReal := ∑ b : Fin 256, v r (vc h b) * G h b a
/-- The gradient of a value. -/
def dvr (g k : KRows) (G : State) (r : Fin 64) (h : Fin 4) (b : Fin 256) : EReal := ∑ a : Fin 128, kdec g k r (kc h a) * G h b a
/-- The gradient of the chunk's decay, off the state `p` before it. -/
def ddc (G p : State) (h : Fin 4) (a : Fin 128) : EReal := ∑ b : Fin 256, G h b a * p h b a
/-- The gradient of a key. -/
def dkr (g : KRows) (v : VRows) (G : State) (r : Fin 64) (h : Fin 4) (a : Fin 128) : EReal := dkd v G r h a * wgt g r (kc h a)
/-- The gradient of a decayed key's exponent. -/
def er (g k : KRows) (v : VRows) (G : State) (r : Fin 64) (h : Fin 4) (a : Fin 128) : EReal := dkd v G r h a * kdec g k r (kc h a)
/-- The gradient of the chunk's whole log decay. -/
def dbe (g k : KRows) (v : VRows) (G p : State) (h : Fin 4) (a : Fin 128) : EReal :=
  (∑ r : Fin 64, er g k v G r h a) + ddc G p h a * dec g (kc h a)
/-- The gradient of a log decay. -/
def dlr (g k : KRows) (v : VRows) (G p : State) (r : Fin 64) (h : Fin 4) (a : Fin 128) : EReal :=
  (∑ x : Fin 64, if r ≤ x then 0 - er g k v G x h a else 0) + dbe g k v G p h a

/-- The head and the channel of a key column, and of a value column. -/
abbrev kh (j : Fin 512) : Fin 4 := ⟨j.val / 128, by omega⟩
abbrev ka (j : Fin 512) : Fin 128 := ⟨j.val % 128, Nat.mod_lt _ (by decide)⟩
abbrev vh (j : Fin 1024) : Fin 4 := ⟨j.val / 256, by omega⟩
abbrev vb (j : Fin 1024) : Fin 256 := ⟨j.val % 256, Nat.mod_lt _ (by decide)⟩
/-- The chunk and the row in it of one of the 2048 rows. -/
abbrev cn (s : Fin 2048) : ℕ := s.val / 64
abbrev cr (s : Fin 2048) : Fin 64 := ⟨s.val % 64, Nat.mod_lt _ (by decide)⟩

theorem kh_kc (h : Fin 4) (a : Fin 128) : kh (kc h a) = h := Fin.ext (by show (128 * h.val + a.val) / 128 = h.val; omega)
theorem ka_kc (h : Fin 4) (a : Fin 128) : ka (kc h a) = a := Fin.ext (by show (128 * h.val + a.val) % 128 = a.val; omega)
theorem vh_vc (h : Fin 4) (b : Fin 256) : vh (vc h b) = h := Fin.ext (by show (256 * h.val + b.val) / 256 = h.val; omega)
theorem vb_vc (h : Fin 4) (b : Fin 256) : vb (vc h b) = b := Fin.ext (by show (256 * h.val + b.val) % 256 = b.val; omega)
theorem kc_kh (j : Fin 512) : kc (kh j) (ka j) = j := Fin.ext (by show 128 * (j.val / 128) + j.val % 128 = j.val; omega)

section Arrays

variable (q k la : (⟨2, ![2048, 512]⟩ : Shape).Idx → EReal) (v o : (⟨2, ![2048, 1024]⟩ : Shape).Idx → EReal)

/-- The state before chunk `n`, and the gradient of the state after it. -/
abbrev sB (n : ℕ) : State := st (chunk la) (chunk k) (chunk v) n
abbrev gB (n : ℕ) : State := gst (chunk la) (chunk q) (chunk o) n

/-- The gradient of the queries. -/
def dqArr (s : Fin 2048) (j : Fin 512) : EReal := dqr (chunk o (cn s)) (sB k la v (cn s + 1)) (cr s) (kh j) (ka j)
/-- The gradient of the keys. -/
def dkArr (s : Fin 2048) (j : Fin 512) : EReal := dkr (chunk la (cn s)) (chunk v (cn s)) (gB q la o (cn s)) (cr s) (kh j) (ka j)
/-- The gradient of the values. -/
def dvArr (s : Fin 2048) (j : Fin 1024) : EReal := dvr (chunk la (cn s)) (chunk k (cn s)) (gB q la o (cn s)) (cr s) (vh j) (vb j)
/-- The gradient of the log decays. -/
def dlArr (s : Fin 2048) (j : Fin 512) : EReal :=
  dlr (chunk la (cn s)) (chunk k (cn s)) (chunk v (cn s)) (gB q la o (cn s)) (sB k la v (cn s)) (cr s) (kh j) (ka j)

end Arrays

end Cert.Gla
-- ==== Proof.BwdKernel.lean ====
/-
  What one point of the backward call of the gated linear recurrence computes: the payloads of its stores, head by head,
  are the plain functions of Proof/BwdSpec.lean of the point's blocks and of what the later points carry back.
-/
module
public import proofs.«01_k».proof.Proof.Gen.KernelIdeal.Skeleton
public import proofs.«01_k».proof.Proof.FwdKernel
public import proofs.«01_k».proof.Proof.BwdSpec

@[expose] public section

set_option maxRecDepth 20000

noncomputable section

namespace Cert.KernelIdeal.Own

open Idealize.ShloMosaic Idealize.ShloMosaic.TcCoe Idealize.ShloMosaic.Pointwise
open Cert.KernelIdeal Cert.KernelIdeal.Gen Cert.Gla

/-- A block of rows, of the carried gradient or of states, as the plain functions take it. -/
abbrev kr (g : Vec Ideal S64x512 .f32) : KRows := fun r c => g (ix2 r c)
abbrev vr (g : Vec Ideal S64x1024 .f32) : VRows := fun r c => g (ix2 r c)
abbrev sr (s : Vec Ideal S4x256x128 .f32) : State := fun h b a => s (ix3 h b a)
abbrev pr (s : Vec Ideal S4x1x256x128 .f32) : State := fun h b a => s (ix4 h 0 b a)
/-- The states before the chunk: zero at the first chunk, which is the last point. -/
abbrev qr (w : BitVec 32) (s : Vec Ideal S4x1x256x128 .f32) : State :=
  fun h b a => Scalar.select (Scalar.cmpi CmpIPredicate.slt w 31#32) (s (ix4 h 0 b a)) 0

variable (g k q : Vec Ideal S64x512 .f32) (v o : Vec Ideal S64x1024 .f32) (s : Vec Ideal S4x256x128 .f32) (p p' : Vec Ideal S4x1x256x128 .f32) (w : BitVec 32)

theorem pay5_apply (l : Fin 512) : k0_pay5 (F := Ideal) g (ix2 0 l) = dec (kr g) l := by
  pointwise [k0_pay5, k0_pay3]
  rfl

theorem kc_zero (a : Fin 128) : kc 0 a = ⟨a.val, by omega⟩ := Fin.ext (by show 128 * 0 + a.val = a.val; omega)
theorem vc_zero (b : Fin 256) : vc 0 b = ⟨b.val, by omega⟩ := Fin.ext (by show 256 * 0 + b.val = b.val; omega)

theorem sel_mul (c : BitVec 1) (x y : EReal) : Scalar.select c (x * y) 0 = x * Scalar.select c y 0 := by
  unfold Scalar.select
  split
  · rfl
  · exact (mul_zero x).symm

/-! ## What is read of the blocks, head by head -/

abbrev C0 := View.ld s (Rect.unit ![0, 0, 0] ![1, 256, 128] inb_S4x256x128_S1x256x128_0_0_0)
abbrev C1 := View.ld s (Rect.unit ![1, 0, 0] ![1, 256, 128] inb_S4x256x128_S1x256x128_1_0_0)
abbrev C2 := View.ld s (Rect.unit ![2, 0, 0] ![1, 256, 128] inb_S4x256x128_S1x256x128_2_0_0)
abbrev C3 := View.ld s (Rect.unit ![3, 0, 0] ![1, 256, 128] inb_S4x256x128_S1x256x128_3_0_0)
abbrev P0 := View.ld p (Rect.unit ![0, 0, 0, 0] ![1, 1, 256, 128] inb_S4x1x256x128_S1x1x256x128_0_0_0_0)
abbrev P1 := View.ld p (Rect.unit ![1, 0, 0, 0] ![1, 1, 256, 128] inb_S4x1x256x128_S1x1x256x128_1_0_0_0)
abbrev P2 := View.ld p (Rect.unit ![2, 0, 0, 0] ![1, 1, 256, 128] inb_S4x1x256x128_S1x1x256x128_2_0_0_0)
abbrev P3 := View.ld p (Rect.unit ![3, 0, 0, 0] ![1, 1, 256, 128] inb_S4x1x256x128_S1x1x256x128_3_0_0_0)

/-! ## The gradient of the state -/

abbrev G' : State := gsum (kr q) (vr o) (sr s)

theorem G0 (b : Fin 256) (a : Fin 128) : k0_pay12 (F := Ideal) (k0_pay8 q) (k0_pay9 o) (C0 s) (ix2 b a) = G' q o s 0 b a := by
  pointwise [k0_pay12, k0_pay8, k0_pay9, C0]
  simp only [G', gsum, kc_zero, vc_zero]
  rfl
theorem G1 (b : Fin 256) (a : Fin 128) : k0_pay20 (F := Ideal) (k0_pay8 q) (k0_pay9 o) (C1 s) (ix2 b a) = G' q o s 1 b a := by
  pointwise [k0_pay20, k0_pay8, k0_pay9, C1]
  rfl
theorem G2 (b : Fin 256) (a : Fin 128) : k0_pay27 (F := Ideal) (k0_pay8 q) (k0_pay9 o) (C2 s) (ix2 b a) = G' q o s 2 b a := by
  pointwise [k0_pay27, k0_pay8, k0_pay9, C2]
  rfl
theorem G3 (b : Fin 256) (a : Fin 128) : k0_pay35 (F := Ideal) (k0_pay8 q) (k0_pay9 o) (C3 s) (ix2 b a) = G' q o s 3 b a := by
  pointwise [k0_pay35, k0_pay8, k0_pay9, C3]
  rfl

/-! ## The gradient of the queries -/

theorem dq0 (r : Fin 64) (a : Fin 128) : k0_pay11 (F := Ideal) (k0_pay9 o) (P0 p) (ix2 r a) = dqr (vr o) (pr p) r 0 a := by
  pointwise [k0_pay11, k0_pay9, P0]
  simp only [dqr, vc_zero]
  rfl
theorem dq1 (r : Fin 64) (a : Fin 128) : k0_pay19 (F := Ideal) (k0_pay9 o) (P1 p) (ix2 r a) = dqr (vr o) (pr p) r 1 a := by
  pointwise [k0_pay19, k0_pay9, P1]
  rfl
theorem dq2 (r : Fin 64) (a : Fin 128) : k0_pay26 (F := Ideal) (k0_pay9 o) (P2 p) (ix2 r a) = dqr (vr o) (pr p) r 2 a := by
  pointwise [k0_pay26, k0_pay9, P2]
  rfl
theorem dq3 (r : Fin 64) (a : Fin 128) : k0_pay34 (F := Ideal) (k0_pay9 o) (P3 p) (ix2 r a) = dqr (vr o) (pr p) r 3 a := by
  pointwise [k0_pay34, k0_pay9, P3]
  rfl

/-! ## The gradient of the decayed keys -/

theorem dk0 (r : Fin 64) (a : Fin 128) : k0_pay14 (F := Ideal) (k0_pay8 q) (k0_pay9 o) v (C0 s) (ix2 r a) = dkd (vr v) (G' q o s) r 0 a := by
  pointwise [k0_pay14, k0_pay13, k0_pay10, C0]
  simp only [G0, dkd, vc_zero]
theorem dk1 (r : Fin 64) (a : Fin 128) : k0_pay22 (F := Ideal) (k0_pay8 q) (k0_pay9 o) (k0_pay10 v) (C1 s) (ix2 r a) = dkd (vr v) (G' q o s) r 1 a := by
  pointwise [k0_pay22, k0_pay21, k0_pay10, C1]
  simp only [G1]
  rfl
theorem dk2 (r : Fin 64) (a : Fin 128) : k0_pay29 (F := Ideal) (k0_pay8 q) (k0_pay9 o) (k0_pay10 v) (C2 s) (ix2 r a) = dkd (vr v) (G' q o s) r 2 a := by
  pointwise [k0_pay29, k0_pay28, k0_pay10, C2]
  simp only [G2]
  rfl
theorem dk3 (r : Fin 64) (a : Fin 128) : k0_pay37 (F := Ideal) (k0_pay8 q) (k0_pay9 o) (k0_pay10 v) (C3 s) (ix2 r a) = dkd (vr v) (G' q o s) r 3 a := by
  pointwise [k0_pay37, k0_pay36, k0_pay10, C3]
  simp only [G3]
  rfl

/-! ## The gradient of the decay -/

theorem dd0 (a : Fin 128) : k0_pay16 (F := Ideal) w (k0_pay8 q) (k0_pay9 o) (C0 s) (P0 p') (ix2 0 a) = ddc (G' q o s) (qr w p') 0 a := by
  pointwise [k0_pay16, C0, P0]
  simp only [G0, ddc, sel_mul]
theorem dd1 (a : Fin 128) : k0_pay24 (F := Ideal) w (k0_pay8 q) (k0_pay9 o) (C1 s) (P1 p') (ix2 0 a) = ddc (G' q o s) (qr w p') 1 a := by
  pointwise [k0_pay24, C1, P1]
  simp only [G1, ddc, sel_mul]
theorem dd2 (a : Fin 128) : k0_pay32 (F := Ideal) (k0_pay31 w (k0_pay8 q) (k0_pay9 o) (C2 s) (P2 p')) (ix2 0 a) = ddc (G' q o s) (qr w p') 2 a := by
  pointwise [k0_pay32, k0_pay31, C2, P2]
  simp only [G2, ddc, sel_mul]

/-! ## What is carried back -/

theorem c0 (b : Fin 256) (a : Fin 128) : k0_pay18 (F := Ideal) (k0_pay17 (k0_pay5 g) (k0_pay8 q) (k0_pay9 o) (C0 s)) (ix3 0 b a)
    = G' q o s 0 b a * dec (kr g) (kc 0 a) := by
  pointwise [k0_pay18, k0_pay17, C0]
  simp only [G0, pay5_apply, kc_zero]
theorem c1 (b : Fin 256) (a : Fin 128) : k0_pay25 (F := Ideal) (k0_pay5 g) (k0_pay20 (k0_pay8 q) (k0_pay9 o) (C1 s)) (ix3 0 b a)
    = G' q o s 1 b a * dec (kr g) (kc 1 a) := by
  pointwise [k0_pay25, C1]
  simp only [G1, pay5_apply]
  rfl
theorem c2 (b : Fin 256) (a : Fin 128) : k0_pay33 (F := Ideal) (k0_pay5 g) (k0_pay27 (k0_pay8 q) (k0_pay9 o) (C2 s)) (ix3 0 b a)
    = G' q o s 2 b a * dec (kr g) (kc 2 a) := by
  pointwise [k0_pay33, C2]
  simp only [G2, pay5_apply]
  rfl
theorem c3 (b : Fin 256) (a : Fin 128) : k0_pay40 (F := Ideal) (k0_pay5 g) (k0_pay35 (k0_pay8 q) (k0_pay9 o) (C3 s)) (ix3 0 b a)
    = G' q o s 3 b a * dec (kr g) (kc 3 a) := by
  pointwise [k0_pay40, C3]
  simp only [G3, pay5_apply]
  rfl

section
/-! ## The decayed keys, and the gradient of the values -/

variable (hg : ∀ r l, Fin0 (g (ix2 r l)))
include hg

theorem pay4_apply (r : Fin 64) (l : Fin 512) : k0_pay4 (F := Ideal) g (ix2 r l) = wgt (kr g) r l := by
  pointwise [k0_pay4, k0_pay3]
  simp only [Fin0] at hg
  simp only [hg, sel_le, sub_zero, ite_self, Finset.sum_const_zero, add_zero]
  rfl

theorem pay6_apply (r : Fin 64) (l : Fin 512) : k0_pay6 (F := Ideal) g k (ix2 r l) = kdec (kr g) (kr k) r l := by
  pointwise [k0_pay6]
  rw [pay4_apply g hg]
  rfl

theorem pay7_apply (r : Fin 64) (l : Fin 512) : k0_pay7 (F := Ideal) g k (ix2 r l) = kdec (kr g) (kr k) r l := by
  pointwise [k0_pay7]
  exact pay6_apply g k hg r l

theorem dv0 (r : Fin 64) (b : Fin 256) : k0_pay15 (F := Ideal) (k0_pay7 g k) (k0_pay8 q) (k0_pay9 o) (C0 s) (ix2 r b) = dvr (kr g) (kr k) (G' q o s) r 0 b := by
  pointwise [k0_pay15, k0_pay13, C0]
  simp only [G0, dvr, kc_zero, pay7_apply g k hg]
theorem dv1 (r : Fin 64) (b : Fin 256) : k0_pay23 (F := Ideal) (k0_pay7 g k) (k0_pay8 q) (k0_pay9 o) (C1 s) (ix2 r b) = dvr (kr g) (kr k) (G' q o s) r 1 b := by
  pointwise [k0_pay23, k0_pay21, C1]
  simp only [G1, pay7_apply g k hg]
  rfl
theorem dv2 (r : Fin 64) (b : Fin 256) : k0_pay30 (F := Ideal) (k0_pay7 g k) (k0_pay8 q) (k0_pay9 o) (C2 s) (ix2 r b) = dvr (kr g) (kr k) (G' q o s) r 2 b := by
  pointwise [k0_pay30, k0_pay28, C2]
  simp only [G2, pay7_apply g k hg]
  rfl
theorem dv3 (r : Fin 64) (b : Fin 256) : k0_pay38 (F := Ideal) (k0_pay7 g k) (k0_pay8 q) (k0_pay9 o) (C3 s) (ix2 r b) = dvr (kr g) (kr k) (G' q o s) r 3 b := by
  pointwise [k0_pay38, k0_pay36, C3]
  simp only [G3, pay7_apply g k hg]
  rfl

end

/-! ## The four heads side by side -/

abbrev D0 := k0_pay14 (F := Ideal) (k0_pay8 q) (k0_pay9 o) v (C0 s)
abbrev D1 := k0_pay22 (F := Ideal) (k0_pay8 q) (k0_pay9 o) (k0_pay10 v) (C1 s)
abbrev D2 := k0_pay29 (F := Ideal) (k0_pay8 q) (k0_pay9 o) (k0_pay10 v) (C2 s)
abbrev D3 := k0_pay37 (F := Ideal) (k0_pay8 q) (k0_pay9 o) (k0_pay10 v) (C3 s)

section
variable (x0 x1 x2 x3 : FVec Ideal S64x128 .f32) (y0 y1 y2 : FVec Ideal S1x128 .f32) (y3 z3 : FVec Ideal S256x128 .f32)
  (d : FVec Ideal S1x512 .f32) (u : FVec Ideal S64x512 .f32) (c : BitVec 1) (r : Fin 64) (h : Fin 4) (a : Fin 128)

/-- One of four, by the head. -/
abbrev pick {α : Type} (b0 b1 b2 b3 : α) : Fin 4 → α
  | 0 => b0
  | 1 => b1
  | 2 => b2
  | 3 => b3

/-- Which of four blocks of columns a column falls in, and where. -/
def catV (f0 f1 f2 f3 : Fin 128 → EReal) (j : Fin 512) : EReal :=
  if h0 : j.val < 128 then f0 ⟨j.val, h0⟩
  else if h1 : j.val - 128 < 128 then f1 ⟨j.val - 128, h1⟩
  else if h2 : j.val - 128 - 128 < 128 then f2 ⟨j.val - 128 - 128, h2⟩
  else f3 ⟨j.val - 128 - 128 - 128, by omega⟩

theorem catV_kc (f0 f1 f2 f3 : Fin 128 → EReal) (h : Fin 4) (a : Fin 128) : catV f0 f1 f2 f3 (kc h a) = pick (f0 a) (f1 a) (f2 a) (f3 a) h := by
  have ha := a.isLt
  unfold catV
  match h with
  | ⟨0, _⟩ => exact (dif_pos (by show 128 * 0 + a.val < 128; omega)).trans (congrArg f0 (Fin.ext (by show 128 * 0 + a.val = a.val; omega)))
  | ⟨1, _⟩ =>
    refine (dif_neg (by show ¬128 * 1 + a.val < 128; omega)).trans ?_
    exact (dif_pos (by show 128 * 1 + a.val - 128 < 128; omega)).trans (congrArg f1 (Fin.ext (by show 128 * 1 + a.val - 128 = a.val; omega)))
  | ⟨2, _⟩ =>
    refine (dif_neg (by show ¬128 * 2 + a.val < 128; omega)).trans ?_
    refine (dif_neg (by show ¬128 * 2 + a.val - 128 < 128; omega)).trans ?_
    exact (dif_pos (by show 128 * 2 + a.val - 128 - 128 < 128; omega)).trans (congrArg f2 (Fin.ext (by show 128 * 2 + a.val - 128 - 128 = a.val; omega)))
  | ⟨3, _⟩ =>
    refine (dif_neg (by show ¬128 * 3 + a.val < 128; omega)).trans ?_
    refine (dif_neg (by show ¬128 * 3 + a.val - 128 < 128; omega)).trans ?_
    refine (dif_neg (by show ¬128 * 3 + a.val - 128 - 128 < 128; omega)).trans ?_
    exact congrArg f3 (Fin.ext (by show 128 * 3 + a.val - 128 - 128 - 128 = a.val; omega))

theorem cat_col (j : Fin 512) : k0_pay41 (F := Ideal) x0 x1 x2 x3 (ix2 r j)
    = catV (fun b => x0 (ix2 r b)) (fun b => x1 (ix2 r b)) (fun b => x2 (ix2 r b)) (fun b => x3 (ix2 r b)) j := by
  pointwise [k0_pay41]
  rfl

theorem pay45_col (j : Fin 512) : k0_pay45 (F := Ideal) d u x0 y0 x1 y1 x2 y2 y3 x3 c z3 (Scalar.ofBits .f32 0x00000000#32) (ix2 r j)
    = (∑ x : Fin 64, k0_pay43 (F := Ideal) u x0 x1 x2 x3 (ix2 x j))
      + catV (fun b => y0 (ix2 0 b)) (fun b => y1 (ix2 0 b)) (fun b => y2 (ix2 0 b))
          (fun b => ∑ x : Fin 256, Scalar.select c (y3 (ix2 x b) * z3 (ix2 x b)) 0) j * d (ix2 0 j) := by
  pointwise [k0_pay45]
  rfl

/-- Four blocks of columns side by side. -/
theorem cat_apply : k0_pay41 (F := Ideal) x0 x1 x2 x3 (ix2 r (kc h a))
    = pick (x0 (ix2 r a)) (x1 (ix2 r a)) (x2 (ix2 r a)) (x3 (ix2 r a)) h := by
  exact (cat_col x0 x1 x2 x3 r (kc h a)).trans (catV_kc _ _ _ _ h a)

/-- The part of the log decays' gradient that all the rows share. -/
theorem pay45_apply : k0_pay45 (F := Ideal) d u x0 y0 x1 y1 x2 y2 y3 x3 c z3 (Scalar.ofBits .f32 0x00000000#32) (ix2 r (kc h a))
    = (∑ x : Fin 64, k0_pay43 (F := Ideal) u x0 x1 x2 x3 (ix2 x (kc h a)))
      + pick (y0 (ix2 0 a)) (y1 (ix2 0 a)) (y2 (ix2 0 a)) (∑ x : Fin 256, y3 (ix2 x a) * Scalar.select c (z3 (ix2 x a)) 0) h * d (ix2 0 (kc h a)) := by
  refine (pay45_col x0 x1 x2 x3 y0 y1 y2 y3 z3 d u c r (kc h a)).trans ?_
  rw [catV_kc]
  simp only [sel_mul]

end

theorem cat_kc (r : Fin 64) (h : Fin 4) (a : Fin 128) :
    k0_pay41 (F := Ideal) (D0 q v o s) (D1 q v o s) (D2 q v o s) (D3 q v o s) (ix2 r (kc h a)) = dkd (vr v) (G' q o s) r h a := by
  refine (cat_apply _ _ _ _ r h a).trans ?_
  match h with
  | 0 => exact dk0 q v o s r a
  | 1 => exact dk1 q v o s r a
  | 2 => exact dk2 q v o s r a
  | 3 => exact dk3 q v o s r a

/-- A running sum of what is subtracted from zero, over the later rows, in three parts. -/
def thrice (e : Fin 64 → EReal) (r : Fin 64) : EReal :=
  (∑ x : Fin 64, if r ≤ x then 0 - e x else 0) + (∑ x : Fin 64, if r ≤ x then 0 - e x - (0 - e x) else 0)
    + ∑ x : Fin 64, if r ≤ x then 0 - e x - (0 - e x) - (0 - e x - (0 - e x)) else 0

/-- A sum with a term at minus infinity. -/
theorem sum_bot {f : Fin 64 → EReal} (x : Fin 64) (hx : f x = ⊥) : ∑ x, f x = ⊥ := by
  rw [← Finset.add_sum_erase _ _ (Finset.mem_univ x), hx, EReal.bot_add]

/-- With the sum of all the rows added, the three parts are the first alone, whatever the rows are: an infinite row makes
    the whole minus infinity either way. -/
theorem thrice_add (e : Fin 64 → EReal) (r : Fin 64) (d : EReal) :
    thrice e r + ((∑ x : Fin 64, e x) + d) = (∑ x : Fin 64, if r ≤ x then 0 - e x else 0) + ((∑ x : Fin 64, e x) + d) := by
  by_cases hb : ∃ x, e x = ⊥
  · obtain ⟨x, hx⟩ := hb
    rw [sum_bot x hx, EReal.bot_add, EReal.add_bot, EReal.add_bot]
  by_cases ht : ∃ x, r ≤ x ∧ e x = ⊤
  · obtain ⟨x, hr, hx⟩ := ht
    have h0 : (∑ x : Fin 64, if r ≤ x then 0 - e x else 0) = ⊥ := sum_bot x (by rw [if_pos hr, hx]; rfl)
    rw [thrice, h0, EReal.bot_add, EReal.bot_add]
  · have hz : ∀ x, r ≤ x → 0 - e x - (0 - e x) = 0 := fun x hr => by
      have h1 : e x ≠ ⊤ := fun h => ht ⟨x, hr, h⟩
      have h2 : e x ≠ ⊥ := fun h => hb ⟨x, h⟩
      lift e x to ℝ using ⟨h1, h2⟩ with y
      rw [zero_sub, ← EReal.coe_neg]
      exact EReal.sub_self (EReal.coe_ne_top _) (EReal.coe_ne_bot _)
    have e1 : (∑ x : Fin 64, if r ≤ x then 0 - e x - (0 - e x) else 0) = 0 :=
      Finset.sum_eq_zero fun x _ => by
        split
        · exact hz x ‹_›
        · rfl
    have e2 : (∑ x : Fin 64, if r ≤ x then 0 - e x - (0 - e x) - (0 - e x - (0 - e x)) else 0) = 0 :=
      Finset.sum_eq_zero fun x _ => by
        split
        · rw [hz x ‹_›, sub_zero]
        · rfl
    rw [thrice, e1, e2, add_zero, add_zero]

abbrev W0 := k0_pay16 (F := Ideal) w (k0_pay8 q) (k0_pay9 o) (C0 s) (P0 p')
abbrev W1 := k0_pay24 (F := Ideal) w (k0_pay8 q) (k0_pay9 o) (C1 s) (P1 p')
abbrev W2 := k0_pay32 (F := Ideal) (k0_pay31 w (k0_pay8 q) (k0_pay9 o) (C2 s) (P2 p'))

/-- The store of the log decays' gradient: the running sum over the later rows, and the part all the rows share. -/
abbrev dlT : FVec Ideal S64x512 .f32 :=
  k0_pay45 (F := Ideal) (k0_pay5 g) (k0_pay6 g k) (D0 q v o s) (W0 q o s p' w) (D1 q v o s) (W1 q o s p' w) (D2 q v o s) (W2 q o s p' w)
    (k0_pay35 (k0_pay8 q) (k0_pay9 o) (C3 s)) (D3 q v o s) (Scalar.cmpi .slt w 31#32) (k0_pay39 (P3 p')) (Scalar.ofBits .f32 0x00000000#32)
abbrev dlS : FVec Ideal S64x512 .f32 := k0_pay44 (F := Ideal) (k0_pay6 g k) (D0 q v o s) (D1 q v o s) (D2 q v o s) (D3 q v o s)

section
variable (hg : ∀ r l, Fin0 (g (ix2 r l)))
include hg

theorem pay42_kc (r : Fin 64) (h : Fin 4) (a : Fin 128) :
    k0_pay42 (F := Ideal) (k0_pay4 g) (D0 q v o s) (D1 q v o s) (D2 q v o s) (D3 q v o s) (ix2 r (kc h a))
      = dkr (kr g) (vr v) (G' q o s) r h a := by
  pointwise [k0_pay42]
  rw [cat_kc, pay4_apply g hg]
  rfl

theorem pay43_kc (r : Fin 64) (h : Fin 4) (a : Fin 128) :
    k0_pay43 (F := Ideal) (k0_pay6 g k) (D0 q v o s) (D1 q v o s) (D2 q v o s) (D3 q v o s) (ix2 r (kc h a))
      = er (kr g) (kr k) (vr v) (G' q o s) r h a := by
  pointwise [k0_pay43]
  rw [cat_kc, pay6_apply g k hg]
  rfl

/-- The running sum over the later rows, taken in three parts: the second and the third part are zero where the first is finite. -/
theorem dlS_kc (r : Fin 64) (h : Fin 4) (a : Fin 128) :
    dlS g k q v o s (ix2 r (kc h a)) = thrice (fun x => er (kr g) (kr k) (vr v) (G' q o s) x h a) r := by
  pointwise [dlS, k0_pay44]
  simp only [pay43_kc g k q v o s hg, sel_ge]
  rfl

theorem dlT_kc (r : Fin 64) (h : Fin 4) (a : Fin 128) :
    dlT g k q v o s p' w (ix2 r (kc h a)) = dbe (kr g) (kr k) (vr v) (G' q o s) (qr w p') h a := by
  refine (pay45_apply _ _ _ _ _ _ _ _ _ _ _ _ r h a).trans ?_
  rw [pay5_apply]
  simp only [pay43_kc g k q v o s hg]
  unfold dbe
  refine congrArg₂ (fun x y : EReal => x + y) rfl (congrArg₂ (fun x y : EReal => x * y) ?_ rfl)
  match h with
  | 0 => exact dd0 q o s p' w a
  | 1 => exact dd1 q o s p' w a
  | 2 => exact dd2 q o s p' w a
  | 3 =>
    refine Finset.sum_congr rfl fun b _ => ?_
    rw [G3]
    refine congrArg₂ (fun x y : EReal => x * y) rfl (congrArg (fun x : EReal => Scalar.select _ x 0) ?_)
    pointwise [k0_pay39, P3]

theorem pay1_kc (r : Fin 64) (h : Fin 4) (a : Fin 128) :
    k0_pay1 (F := Ideal) (dlS g k q v o s) (dlT g k q v o s p' w) (ix2 r (kc h a))
      = dlr (kr g) (kr k) (vr v) (G' q o s) (qr w p') r h a := by
  pointwise [k0_pay1]
  rw [dlS_kc g k q v o s hg, dlT_kc g k q v o s p' w hg]
  exact thrice_add _ r _

end

/-! ## The point's stores -/

/-- One head's store into a block of key columns. -/
theorem pieceK (G : S64x512.Idx → EReal) (h : Fin 4) (e : ℕ) (he : e = 128 * h.val)
    (inb : ∀ a, ![0, e] a + ![64, 128] a ≤ S64x512.size a)
    (u : S64x128.Idx → EReal) (hu : ∀ r b, u (ix2 r b) = G (ix2 r (kc h b))) (x : S64x128.Idx) :
    u x = G ((Rect.unit (s := S64x512) ![0, e] ![64, 128] inb).emb x) := by
  have ey : (Rect.unit (s := S64x512) ![0, e] ![64, 128] inb).emb x = ix2 (x 0) (kc h (x 1)) := by
    funext a
    apply Fin.ext
    match a with
    | ⟨0, _⟩ => show 0 + 1 * (x 0 : ℕ) = (x 0 : ℕ); omega
    | ⟨1, _⟩ => show e + 1 * (x 1 : ℕ) = 128 * h.val + (x 1 : ℕ); omega
  rw [ey, Cert.Kernel2Ideal.Own.eq_ix2' x]
  exact hu _ _

/-- One head's store into a block of value columns. -/
theorem pieceV (G : S64x1024.Idx → EReal) (h : Fin 4) (e : ℕ) (he : e = 256 * h.val)
    (inb : ∀ a, ![0, e] a + ![64, 256] a ≤ S64x1024.size a)
    (u : S64x256.Idx → EReal) (hu : ∀ r b, u (ix2 r b) = G (ix2 r (vc h b))) (x : S64x256.Idx) :
    u x = G ((Rect.unit (s := S64x1024) ![0, e] ![64, 256] inb).emb x) :=
  Cert.Kernel2Ideal.Own.piece2 G h e he inb u hu x

/-- A block of key columns, or of value columns, off what stands in each head. -/
abbrev byK (f : Fin 64 → Fin 4 → Fin 128 → EReal) : S64x512.Idx → EReal := fun i => f (i 0) (kh (i 1)) (ka (i 1))
abbrev byV (f : Fin 64 → Fin 4 → Fin 256 → EReal) : S64x1024.Idx → EReal := fun i => f (i 0) (vh (i 1)) (vb (i 1))

theorem byK_kc (f : Fin 64 → Fin 4 → Fin 128 → EReal) (r : Fin 64) (h : Fin 4) (a : Fin 128) : byK f (ix2 r (kc h a)) = f r h a := by
  show f r (kh (kc h a)) (ka (kc h a)) = _
  rw [kh_kc, ka_kc]
theorem byV_vc (f : Fin 64 → Fin 4 → Fin 256 → EReal) (r : Fin 64) (h : Fin 4) (b : Fin 256) : byV f (ix2 r (vc h b)) = f r h b := by
  show f r (vh (vc h b)) (vb (vc h b)) = _
  rw [vh_vc, vb_vc]

/-- A block of key columns is known by what stands in each head. -/
theorem ext_kc (u : S64x512.Idx → EReal) (f : Fin 64 → Fin 4 → Fin 128 → EReal) (hu : ∀ r h a, u (ix2 r (kc h a)) = f r h a) :
    u = byK f := by
  funext i
  have hi : i = ix2 (i 0) (kc (kh (i 1)) (ka (i 1))) :=
    (Cert.Kernel2Ideal.Own.eq_ix2' i).trans (congrArg (ix2 (i 0)) (kc_kh (i 1)).symm)
  exact (congrArg u hi).trans (hu _ _ _)

abbrev dqL : List (View.Piece (Elt Ideal) S64x512 .f32) :=
  [⟨Rect.unit ![0, 384] ![64, 128] inb_S64x512_S64x128_0_384, k0_pay34 (k0_pay9 o) (P3 p)⟩,
    ⟨Rect.unit ![0, 256] ![64, 128] inb_S64x512_S64x128_0_256, k0_pay26 (k0_pay9 o) (P2 p)⟩,
    ⟨Rect.unit ![0, 128] ![64, 128] inb_S64x512_S64x128_0_128, k0_pay19 (k0_pay9 o) (P1 p)⟩,
    ⟨Rect.unit ![0, 0] ![64, 128] inb_S64x512_S64x128_0_0, k0_pay11 (k0_pay9 o) (P0 p)⟩]

abbrev dqG : S64x512.Idx → EReal := byK (dqr (vr o) (pr p))

theorem dq_pieces : ∀ z ∈ dqL o p, ∀ x : z.1.shape.Idx, z.2 x = dqG o p (z.1.emb x) := by
  intro z hz x
  simp only [List.mem_cons, List.not_mem_nil, or_false] at hz
  rcases hz with rfl | rfl | rfl | rfl
  · exact pieceK (dqG o p) 3 384 rfl inb_S64x512_S64x128_0_384 _ (fun r a => (dq3 o p r a).trans (byK_kc _ r 3 a).symm) x
  · exact pieceK (dqG o p) 2 256 rfl inb_S64x512_S64x128_0_256 _ (fun r a => (dq2 o p r a).trans (byK_kc _ r 2 a).symm) x
  · exact pieceK (dqG o p) 1 128 rfl inb_S64x512_S64x128_0_128 _ (fun r a => (dq1 o p r a).trans (byK_kc _ r 1 a).symm) x
  · exact pieceK (dqG o p) 0 0 rfl inb_S64x512_S64x128_0_0 _ (fun r a => (dq0 o p r a).trans (byK_kc _ r 0 a).symm) x

theorem dq_cover (y : S64x512.Idx) : ∃ z ∈ dqL o p, y ∈ z.1.set := View.cover_of_tiled_head _ _ _ (by rfl) y

abbrev dvL : List (View.Piece (Elt Ideal) S64x1024 .f32) :=
  [⟨Rect.unit ![0, 768] ![64, 256] inb_S64x1024_S64x256_0_768, k0_pay38 (k0_pay7 g k) (k0_pay8 q) (k0_pay9 o) (C3 s)⟩,
    ⟨Rect.unit ![0, 512] ![64, 256] inb_S64x1024_S64x256_0_512, k0_pay30 (k0_pay7 g k) (k0_pay8 q) (k0_pay9 o) (C2 s)⟩,
    ⟨Rect.unit ![0, 256] ![64, 256] inb_S64x1024_S64x256_0_256, k0_pay23 (k0_pay7 g k) (k0_pay8 q) (k0_pay9 o) (C1 s)⟩,
    ⟨Rect.unit ![0, 0] ![64, 256] inb_S64x1024_S64x256_0_0, k0_pay15 (k0_pay7 g k) (k0_pay8 q) (k0_pay9 o) (C0 s)⟩]

abbrev dvG : S64x1024.Idx → EReal := byV (dvr (kr g) (kr k) (G' q o s))

theorem dv_pieces (hg : ∀ r l, Fin0 (g (ix2 r l))) : ∀ z ∈ dvL g k q o s, ∀ x : z.1.shape.Idx, z.2 x = dvG g k q o s (z.1.emb x) := by
  intro z hz x
  simp only [List.mem_cons, List.not_mem_nil, or_false] at hz
  rcases hz with rfl | rfl | rfl | rfl
  · exact pieceV (dvG g k q o s) 3 768 rfl inb_S64x1024_S64x256_0_768 _ (fun r a => (dv3 g k q o s hg r a).trans (byV_vc _ r 3 a).symm) x
  · exact pieceV (dvG g k q o s) 2 512 rfl inb_S64x1024_S64x256_0_512 _ (fun r a => (dv2 g k q o s hg r a).trans (byV_vc _ r 2 a).symm) x
  · exact pieceV (dvG g k q o s) 1 256 rfl inb_S64x1024_S64x256_0_256 _ (fun r a => (dv1 g k q o s hg r a).trans (byV_vc _ r 1 a).symm) x
  · exact pieceV (dvG g k q o s) 0 0 rfl inb_S64x1024_S64x256_0_0 _ (fun r a => (dv0 g k q o s hg r a).trans (byV_vc _ r 0 a).symm) x

theorem dv_cover (y : S64x1024.Idx) : ∃ z ∈ dvL g k q o s, y ∈ z.1.set := View.cover_of_tiled_head _ _ _ (by rfl) y

abbrev scL : List (View.Piece (Elt Ideal) S4x256x128 .f32) :=
  [⟨Rect.unit ![3, 0, 0] ![1, 256, 128] inb_S4x256x128_S1x256x128_3_0_0, k0_pay40 (k0_pay5 g) (k0_pay35 (k0_pay8 q) (k0_pay9 o) (C3 s))⟩,
    ⟨Rect.unit ![2, 0, 0] ![1, 256, 128] inb_S4x256x128_S1x256x128_2_0_0, k0_pay33 (k0_pay5 g) (k0_pay27 (k0_pay8 q) (k0_pay9 o) (C2 s))⟩,
    ⟨Rect.unit ![1, 0, 0] ![1, 256, 128] inb_S4x256x128_S1x256x128_1_0_0, k0_pay25 (k0_pay5 g) (k0_pay20 (k0_pay8 q) (k0_pay9 o) (C1 s))⟩,
    ⟨Rect.unit ![0, 0, 0] ![1, 256, 128] inb_S4x256x128_S1x256x128_0_0_0, k0_pay18 (k0_pay17 (k0_pay5 g) (k0_pay8 q) (k0_pay9 o) (C0 s))⟩]

abbrev scG : S4x256x128.Idx → EReal := fun i => G' q o s (i 0) (i 1) (i 2) * dec (kr g) (kc (i 0) (i 2))

theorem sc_pieces : ∀ z ∈ scL g q o s, ∀ x : z.1.shape.Idx, z.2 x = scG g q o s (z.1.emb x) := by
  intro z hz x
  simp only [List.mem_cons, List.not_mem_nil, or_false] at hz
  rcases hz with rfl | rfl | rfl | rfl
  · exact Cert.Kernel2Ideal.Own.piece3 (scG g q o s) 3 inb_S4x256x128_S1x256x128_3_0_0 _ (c3 g q o s) x
  · exact Cert.Kernel2Ideal.Own.piece3 (scG g q o s) 2 inb_S4x256x128_S1x256x128_2_0_0 _ (c2 g q o s) x
  · exact Cert.Kernel2Ideal.Own.piece3 (scG g q o s) 1 inb_S4x256x128_S1x256x128_1_0_0 _ (c1 g q o s) x
  · exact Cert.Kernel2Ideal.Own.piece3 (scG g q o s) 0 inb_S4x256x128_S1x256x128_0_0_0 _ (c0 g q o s) x

theorem sc_cover (y : S4x256x128.Idx) : ∃ z ∈ scL g q o s, y ∈ z.1.set := View.cover_of_tiled_head _ _ _ (by rfl) y

theorem zero_state : sr (k0_pay2 (F := Ideal)) = fun _ _ _ => 0 := by
  funext h b a
  show k0_pay2 (F := Ideal) (ix3 h b a) = 0
  pointwise [k0_pay2]

/-- Below 32 points, the comparison with the last of them. -/
theorem sel_lt (n : ℕ) (hn : n < 32) (u x : EReal) :
    Scalar.select (Scalar.cmpi CmpIPredicate.slt (BitVec.ofNat 32 n) 31#32) u x = if n < 31 then u else x := by
  have h : ∀ n : Fin 32, Scalar.cmpi CmpIPredicate.slt (BitVec.ofNat 32 n.val) 31#32 = if n.val < 31 then 1#1 else 0#1 := by decide +kernel
  rw [h ⟨n, hn⟩]
  by_cases hx : n < 31
  · rw [if_pos hx, if_pos hx]; rfl
  · rw [if_neg hx, if_neg hx]; rfl

end Cert.KernelIdeal.Own
-- ==== Proof.BwdRun.lean ====
/-
  The points of the backward call's grid, last chunk first: what each leaves in its four blocks and carries back, and the
  four result arrays.
-/
module
public import proofs.«01_k».proof.Proof.Gen.KernelIdeal.Value
public import proofs.«01_k».proof.Proof.BwdKernel

@[expose] public section

set_option maxRecDepth 20000

noncomputable section

namespace Cert.KernelIdeal.Own

open Idealize.ShloMosaic Idealize.ShloMosaic.TcCoe Idealize.ShloMosaic.Pointwise
open Cert.KernelIdeal Cert.KernelIdeal.Gen Cert.Gla

theorem idx_in : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0] ∧ win0_5.index t = ![0, 31 - t.val, 0, 0]
    ∧ win0_6.index t = ![0, 30 - t.val, 0, 0] := by decide +kernel

theorem idx_out : ∀ t : Fin cfg0.N, win0_7.index t = ![31 - t.val, 0] ∧ win0_8.index t = ![31 - t.val, 0] ∧ win0_9.index t = ![31 - t.val, 0]
    ∧ win0_10.index t = ![31 - t.val, 0] := by decide +kernel

theorem coord : ∀ t : Fin cfg0.N, (grid0.coords t 0).val = t.val := by decide +kernel

theorem qr_lt (n : ℕ) (hn : n < 32) (p : Vec Ideal S4x1x256x128 .f32) (h : Fin 4) (b : Fin 256) (a : Fin 128) :
    qr (BitVec.ofNat 32 n) p h b a = if n < 31 then p (ix4 h 0 b a) else 0 := sel_lt n hn _ _

theorem N32 : cfg0.N = 32 := N_0

/-- An array of 512 columns off its entries, and one of 1024. -/
abbrev outK (f : Fin 2048 → Fin 512 → EReal) : S2048x512.Idx → EReal := fun i => f (i 0) (i 1)
abbrev outV (f : Fin 2048 → Fin 1024 → EReal) : S2048x1024.Idx → EReal := fun i => f (i 0) (i 1)

/-- The row of a block and of its array. -/
theorem row_cn (t : Fin cfg0.N) (r : Fin 64) : cn ⟨64 * (31 - t.val) + r.val, by omega⟩ = 31 - t.val := by
  show (64 * (31 - t.val) + r.val) / 64 = _
  omega
theorem row_cr (t : Fin cfg0.N) (r : Fin 64) : cr ⟨64 * (31 - t.val) + r.val, by omega⟩ = r :=
  Fin.ext (by show (64 * (31 - t.val) + r.val) % 64 = _; omega)

/-- A point's block against its rows of the array. -/
theorem at_row (F : Fin 64 → Fin 4 → Fin 128 → EReal) (f : Fin 2048 → Fin 512 → EReal) (t : Fin cfg0.N)
    (hF : ∀ r j, F r (kh j) (ka j) = f ⟨64 * (31 - t.val) + r.val, by omega⟩ j) (y : S64x512.Idx) (i : S2048x512.Idx)
    (hi : i = ix2 ⟨64 * (31 - t.val) + (y 0).val, by have h : (y 0).val < 64 := (y 0).isLt; omega⟩ (y 1)) : byK F y = outK f i := by
  rw [hi]
  exact hF _ _
theorem at_rowV (F : Fin 64 → Fin 4 → Fin 256 → EReal) (f : Fin 2048 → Fin 1024 → EReal) (t : Fin cfg0.N)
    (hF : ∀ r j, F r (vh j) (vb j) = f ⟨64 * (31 - t.val) + r.val, by omega⟩ j) (y : S64x1024.Idx) (i : S2048x1024.Idx)
    (hi : i = ix2 ⟨64 * (31 - t.val) + (y 0).val, by have h : (y 0).val < 64 := (y 0).isLt; omega⟩ (y 1)) : byV F y = outV f i := by
  rw [hi]
  exact hF _ _

variable (m : (ℓ : Loc nD τ sig) → Buf (Elt Ideal) ℓ) (c : Dev nD)

/-- The arguments' chunks. -/
abbrev Q : ℕ → KRows := chunk (m ((c : Thread nD τ).loc main_arg0))
abbrev K : ℕ → KRows := chunk (m ((c : Thread nD τ).loc main_arg1))
abbrev V' : ℕ → VRows := chunk (m ((c : Thread nD τ).loc main_arg2))
abbrev LA : ℕ → KRows := chunk (m ((c : Thread nD τ).loc main_arg3))
abbrev DO : ℕ → VRows := chunk (m ((c : Thread nD τ).loc main_arg4))

theorem blk0 (t : Fin cfg0.N) : kr (iblk m c 0 t) = Q m c (31 - t.val) := by
  funext r l
  rw [show Q m c (31 - t.val) r l = _ from chunk_of_lt _ _ _ _ (by omega), ← V_main_arg0 m c]
  show iblk m c 0 t (ix2 r l) = _
  blk_ext [iblk, (idx_in t).1]

theorem blk1 (t : Fin cfg0.N) : kr (iblk m c 1 t) = K m c (31 - t.val) := by
  funext r l
  rw [show K m c (31 - t.val) r l = _ from chunk_of_lt _ _ _ _ (by omega), ← V_main_arg1 m c]
  show iblk m c 1 t (ix2 r l) = _
  blk_ext [iblk, (idx_in t).2.1]

theorem blk2 (t : Fin cfg0.N) : vr (iblk m c 2 t) = V' m c (31 - t.val) := by
  funext r l
  rw [show V' m c (31 - t.val) r l = _ from chunk_of_lt _ _ _ _ (by omega), ← V_main_arg2 m c]
  show iblk m c 2 t (ix2 r l) = _
  blk_ext [iblk, (idx_in t).2.2.1]

theorem blk3 (t : Fin cfg0.N) : kr (iblk m c 3 t) = LA m c (31 - t.val) := by
  funext r l
  rw [show LA m c (31 - t.val) r l = _ from chunk_of_lt _ _ _ _ (by omega), ← V_main_arg3 m c]
  show iblk m c 3 t (ix2 r l) = _
  blk_ext [iblk, (idx_in t).2.2.2.1]

theorem blk4 (t : Fin cfg0.N) : vr (iblk m c 4 t) = DO m c (31 - t.val) := by
  funext r l
  rw [show DO m c (31 - t.val) r l = _ from chunk_of_lt _ _ _ _ (by omega), ← V_main_arg4 m c]
  show iblk m c 4 t (ix2 r l) = _
  blk_ext [iblk, (idx_in t).2.2.2.2.1]

/-- The states the host leaves for the call: after chunk `n`, by head. -/
abbrev StatesOk : Prop := ∀ (h : Fin 4) (n : Fin 32) (b : Fin 256) (a : Fin 128),
  (V m c main_v305 : S4x32x256x128.Idx → EReal) (ix4 h n b a) = st (LA m c) (K m c) (V' m c) (n.val + 1) h b a

variable (hs : StatesOk m c)
include hs

theorem blk5 (t : Fin cfg0.N) : pr (iblk m c 5 t) = st (LA m c) (K m c) (V' m c) (31 - t.val + 1) := by
  funext h b a
  refine Eq.trans ?_ (hs h ⟨31 - t.val, by omega⟩ b a)
  show iblk m c 5 t (ix4 h 0 b a) = _
  blk_ext [iblk, (idx_in t).2.2.2.2.2.1]

theorem blk6 (t : Fin cfg0.N) : qr (BitVec.ofNat 32 (grid0.coords t 0).val) (iblk m c 6 t) = st (LA m c) (K m c) (V' m c) (31 - t.val) := by
  have ht := lt_of_lt_of_eq t.isLt N32
  funext h b a
  rw [coord, qr_lt _ ht]
  by_cases hn : t.val < 31
  · rw [if_pos hn, show 31 - t.val = 30 - t.val + 1 by omega]
    refine Eq.trans ?_ (hs h ⟨30 - t.val, by omega⟩ b a)
    blk_ext [iblk, (idx_in t).2.2.2.2.2.2]
  · rw [if_neg hn, show 31 - t.val = 0 by omega]
    rfl

omit hs

/-- One point's contents off what is carried back to it. -/
abbrev ptOuts (t : Fin cfg0.N) (s : Vec Ideal S4x256x128 .f32) :
    Vec Ideal S64x512 .f32 × Vec Ideal S64x512 .f32 × Vec Ideal S64x1024 .f32 × Vec Ideal S64x512 .f32 × Vec Ideal S4x256x128 .f32 :=
  (dqG (iblk m c 4 t) (iblk m c 5 t),
    byK (dkr (kr (iblk m c 3 t)) (vr (iblk m c 2 t)) (G' (iblk m c 0 t) (iblk m c 4 t) s)),
    dvG (iblk m c 3 t) (iblk m c 1 t) (iblk m c 0 t) (iblk m c 4 t) s,
    byK (dlr (kr (iblk m c 3 t)) (kr (iblk m c 1 t)) (vr (iblk m c 2 t)) (G' (iblk m c 0 t) (iblk m c 4 t) s)
      (qr (BitVec.ofNat 32 (grid0.coords t 0).val) (iblk m c 6 t))),
    scG (iblk m c 3 t) (iblk m c 0 t) (iblk m c 4 t) s)

variable (hla : ∀ i, Fin0 (m ((c : Thread nD τ).loc main_arg3) i))
include hla

theorem hg_blk (t : Fin cfg0.N) (r : Fin 64) (l : Fin 512) : Fin0 ((iblk m c 3 t : Vec Ideal S64x512 .f32) (ix2 r l)) := by
  show Fin0 (kr (iblk m c 3 t) r l)
  rw [blk3]
  exact hla _

theorem outs_A (t : Fin cfg0.N) (h0 : t.val % 32 = 0) : outsAt0 m c t.val t.isLt = ptOuts m c t (k0_pay2 (F := Ideal)) := by
  rw [outsAt0_A m c t h0]
  refine Prod.ext ?_ (Prod.ext ?_ (Prod.ext ?_ (Prod.ext ?_ ?_)))
  · dsimp only
    frame_open
    simp (disch := decide) only [↓ View.readCov_skip, ↓ View.readCov_cons_toLoadRect, ↓ View.readCov_fill]
    frame_out
    funext y
    exact View.canon_apply_of_pieces _ _ (dq_pieces _ _) y (dq_cover _ _ y)
  · dsimp only
    frame_open
    simp (disch := decide) only [↓ View.readCov_skip, ↓ View.readCov_cons_toLoadRect, ↓ View.readCov_fill]
    frame_out
    exact ext_kc _ _ (pay42_kc _ _ _ _ _ (hg_blk m c hla t))
  · dsimp only
    frame_open
    simp (disch := decide) only [↓ View.readCov_skip, ↓ View.readCov_cons_toLoadRect, ↓ View.readCov_fill]
    frame_out
    funext y
    exact View.canon_apply_of_pieces _ _ (dv_pieces _ _ _ _ _ (hg_blk m c hla t)) y (dv_cover _ _ _ _ _ y)
  · dsimp only
    frame_open
    simp (disch := decide) only [↓ View.readCov_skip, ↓ View.readCov_cons_toLoadRect, ↓ View.readCov_fill]
    frame_out
    exact ext_kc _ _ (pay1_kc _ _ _ _ _ _ _ _ (hg_blk m c hla t))
  · dsimp only
    frame_open
    simp (disch := decide) only [↓ View.readCov_skip, ↓ View.readCov_cons_toLoadRect, ↓ View.readCov_fill]
    frame_out
    funext y
    exact View.canon_append_of_pieces _ [_] _ (sc_pieces _ _ _ _) y (sc_cover _ _ _ _ y)

theorem outs_B (t : Fin cfg0.N) (h0 : ¬t.val % 32 = 0) :
    outsAt0 m c t.val t.isLt = ptOuts m c t (outsAt0 m c (t.val - 1) (lt_of_le_of_lt (Nat.sub_le _ _) t.isLt)).2.2.2.2 := by
  rw [outsAt0_B m c t h0]
  refine Prod.ext ?_ (Prod.ext ?_ (Prod.ext ?_ (Prod.ext ?_ ?_)))
  · dsimp only
    frame_out
    funext y
    exact View.canon_apply_of_pieces _ _ (dq_pieces _ _) y (dq_cover _ _ y)
  · dsimp only
    frame_out
    simp only [read_unread_whole]
    exact ext_kc _ _ (pay42_kc _ _ _ _ _ (hg_blk m c hla t))
  · dsimp only
    frame_out
    simp only [read_unread_whole]
    funext y
    exact View.canon_apply_of_pieces _ _ (dv_pieces _ _ _ _ _ (hg_blk m c hla t)) y (dv_cover _ _ _ _ _ y)
  · dsimp only
    frame_out
    simp only [read_unread_whole]
    exact ext_kc _ _ (pay1_kc _ _ _ _ _ _ _ _ (hg_blk m c hla t))
  · dsimp only
    frame_out
    simp only [read_unread_whole]
    funext y
    exact View.canon_apply_of_pieces _ _ (sc_pieces _ _ _ _) y (sc_cover _ _ _ _ y)

/-- What is carried back after point `n`: the last `n + 1` chunks are done. -/
theorem carried (n : ℕ) (hn : n < cfg0.N) : sr (outsAt0 m c n hn).2.2.2.2 = carry (LA m c) (Q m c) (DO m c) (n + 1) := by
  induction n with
  | zero =>
    rw [outs_A m c hla ⟨0, hn⟩ rfl]
    show (fun h b a => gsum (kr (iblk m c 0 ⟨0, hn⟩)) (vr (iblk m c 4 ⟨0, hn⟩)) (sr (k0_pay2 (F := Ideal))) h b a
      * dec (kr (iblk m c 3 ⟨0, hn⟩)) (kc h a)) = _
    rw [blk0, blk3, blk4, zero_state]
    rfl
  | succ n ih =>
    have h32 := lt_of_lt_of_eq hn N32
    rw [outs_B m c hla ⟨n + 1, hn⟩ (by show ¬(n + 1) % 32 = 0; omega)]
    show (fun h b a => gsum (kr (iblk m c 0 ⟨n + 1, hn⟩)) (vr (iblk m c 4 ⟨n + 1, hn⟩)) (sr (outsAt0 m c n _).2.2.2.2) h b a
      * dec (kr (iblk m c 3 ⟨n + 1, hn⟩)) (kc h a)) = _
    rw [blk0, blk3, blk4, ih (Nat.lt_of_succ_lt hn)]
    rfl

/-- The state gradient of point `t`'s chunk, off what is carried back to it. -/
theorem outs (t : Fin cfg0.N) : ∃ s, outsAt0 m c t.val t.isLt = ptOuts m c t s
    ∧ G' (iblk m c 0 t) (iblk m c 4 t) s = gst (LA m c) (Q m c) (DO m c) (31 - t.val) := by
  have h32 := lt_of_lt_of_eq t.isLt N32
  by_cases h0 : t.val % 32 = 0
  · refine ⟨_, outs_A m c hla t h0, ?_⟩
    have hz : t.val = 0 := by omega
    show gsum (kr (iblk m c 0 t)) (vr (iblk m c 4 t)) (sr (k0_pay2 (F := Ideal))) = _
    rw [blk0, blk4, zero_state, hz]
    rfl
  · refine ⟨_, outs_B m c hla t h0, ?_⟩
    show gsum (kr (iblk m c 0 t)) (vr (iblk m c 4 t)) (sr (outsAt0 m c (t.val - 1) _).2.2.2.2) = _
    rw [blk0, blk4, carried m c hla, show t.val - 1 + 1 = 31 - (31 - t.val) by omega]
    rfl

include hs in
/-- The gradient of the queries. -/
theorem result_q : (dats m 0 c).arrAt 7 cfg0.N = outK (dqArr (m ((c : Thread nD τ).loc main_arg1)) (m ((c : Thread nD τ).loc main_arg3))
    (m ((c : Thread nD τ).loc main_arg2)) (m ((c : Thread nD τ).loc main_arg4))) := by
  refine (dats m 0 c).arrAt_eq_of_covers 7 _ (by decide +kernel) fun t hf y => ?_
  blk_simp
  rw [after0_7]
  obtain ⟨s, e, hG⟩ := outs m c hla t
  rw [e]
  show byK (dqr (vr (iblk m c 4 t)) (pr (iblk m c 5 t))) y = _
  rw [blk4, blk5 m c hs]
  refine at_row _ _ t (fun r j => ?_) y _ (by blk_ext [(idx_out t).1])
  unfold dqArr
  rw [row_cn, row_cr]

/-- The gradient of the keys. -/
theorem result_k : (dats m 0 c).arrAt 8 cfg0.N = outK (dkArr (m ((c : Thread nD τ).loc main_arg0)) (m ((c : Thread nD τ).loc main_arg3))
    (m ((c : Thread nD τ).loc main_arg2)) (m ((c : Thread nD τ).loc main_arg4))) := by
  refine (dats m 0 c).arrAt_eq_of_covers 8 _ (by decide +kernel) fun t hf y => ?_
  blk_simp
  rw [after0_8]
  obtain ⟨s, e, hG⟩ := outs m c hla t
  rw [e]
  show byK (dkr (kr (iblk m c 3 t)) (vr (iblk m c 2 t)) (G' (iblk m c 0 t) (iblk m c 4 t) s)) y = _
  rw [blk3, blk2, hG]
  refine at_row _ _ t (fun r j => ?_) y _ (by blk_ext [(idx_out t).2.1])
  unfold dkArr
  rw [row_cn, row_cr]

/-- The gradient of the values. -/
theorem result_v : (dats m 0 c).arrAt 9 cfg0.N = outV (dvArr (m ((c : Thread nD τ).loc main_arg0)) (m ((c : Thread nD τ).loc main_arg1))
    (m ((c : Thread nD τ).loc main_arg3)) (m ((c : Thread nD τ).loc main_arg4))) := by
  refine (dats m 0 c).arrAt_eq_of_covers 9 _ (by decide +kernel) fun t hf y => ?_
  blk_simp
  rw [after0_9]
  obtain ⟨s, e, hG⟩ := outs m c hla t
  rw [e]
  show byV (dvr (kr (iblk m c 3 t)) (kr (iblk m c 1 t)) (G' (iblk m c 0 t) (iblk m c 4 t) s)) y = _
  rw [blk3, blk1, hG]
  refine at_rowV _ _ t (fun r j => ?_) y _ (by blk_ext [(idx_out t).2.2.1])
  unfold dvArr
  rw [row_cn, row_cr]

include hs in
/-- The gradient of the log decays. -/
theorem result_l : (dats m 0 c).arrAt 10 cfg0.N = outK (dlArr (m ((c : Thread nD τ).loc main_arg0)) (m ((c : Thread nD τ).loc main_arg1))
    (m ((c : Thread nD τ).loc main_arg3)) (m ((c : Thread nD τ).loc main_arg2)) (m ((c : Thread nD τ).loc main_arg4))) := by
  refine (dats m 0 c).arrAt_eq_of_covers 10 _ (by decide +kernel) fun t hf y => ?_
  blk_simp
  rw [after0_10]
  obtain ⟨s, e, hG⟩ := outs m c hla t
  rw [e]
  show byK (dlr (kr (iblk m c 3 t)) (kr (iblk m c 1 t)) (vr (iblk m c 2 t)) (G' (iblk m c 0 t) (iblk m c 4 t) s)
      (qr (BitVec.ofNat 32 (grid0.coords t 0).val) (iblk m c 6 t))) y = _
  rw [blk3, blk1, blk2, hG, blk6 m c hs]
  refine at_row _ _ t (fun r j => ?_) y _ (by blk_ext [(idx_out t).2.2.2])
  unfold dlArr
  rw [row_cn, row_cr]

end Cert.KernelIdeal.Own
-- ==== Proof.CumSum.lean ====
/-
  The running sum along one axis of a rank 5 array (a window sum padded in front), read at an index as a sum over the rows.
-/
module
public import proofs.«01_k».proof.Proof.Base
public import proofs.«01_k».proof.Proof.Spec
@[expose] public section
noncomputable section
namespace Cert.Gla
open Idealize.ShloMosaic Idealize.ShloMosaic.Pointwise

theorem foldl_add {α : Type} (l : List α) (f : α → EReal) (z : EReal) : l.foldl (fun r n => r + f n) z = z + (l.map f).sum := by
  induction l generalizing z with
  | nil => simp
  | cons a l ih => simp [ih, add_assoc]

/-- A window sum along one axis `a` of an array of any rank, at an index. -/
theorem window_sum {s : Shape} (a : Fin s.rank) (n : ℕ) (win str lo hi : Fin s.rank → ℕ) (hwa : win a = n) (hw : ∀ b, b ≠ a → win b = 1)
    (hstr : ∀ b, str b = 1) (hlo : ∀ b, b ≠ a → lo b = 0) (x : s.Idx → EReal) (init : (⟨0, ![]⟩ : Shape).Idx → EReal) (hi0 : ∀ i, init i = 0)
    (h : s.ReduceWindows win str lo hi s) (hu : 0 < (⟨0, ![]⟩ : Shape).numel) (i : s.Idx) :
    Host.reduceWindowAdd (F := Ideal) (φ := .f32) win str lo hi x init h hu i
      = ∑ t : Fin n, if hh : lo a ≤ (i a).val + t.val ∧ (i a).val + t.val - lo a < s.size a
          then x (Function.update i a ⟨(i a).val + t.val - lo a, hh.2⟩) else 0 := by
  unfold Host.reduceWindowAdd
  rw [hi0, Ideal.hostReduceWindowAdd_def]
  unfold Ideal.hostReduceWindowAdd Host.reduceWindow
  dsimp only
  rw [foldl_add, zero_add, ← List.ofFn_eq_map, List.sum_ofFn]
  let W : Shape := ⟨s.rank, win⟩
  let w : Fin n ≃ W.Idx :=
    { toFun := fun t b => if e : b = a then ⟨t.val, by show t.val < win b; rw [e, hwa]; exact t.isLt⟩ else ⟨0, by show 0 < win b; rw [hw b e]; exact Nat.one_pos⟩
      invFun := fun p => ⟨(p a).val, by have := (p a).isLt; change (p a).val < win a at this; rwa [hwa] at this⟩
      left_inv := fun t => Fin.ext (by simp)
      right_inv := fun p => by
        funext b
        by_cases e : b = a
        · subst e; exact Fin.ext (by simp)
        · have := (p b).isLt
          change (p b).val < win b at this
          rw [hw b e] at this
          exact Fin.ext (by simp [e]; omega) }
  have wa : ∀ t, (w t a).val = t.val := fun t => by simp [w]
  have wb : ∀ t b, b ≠ a → (w t b).val = 0 := fun t b e => by simp [w, e]
  let f : W.Idx → EReal := fun p =>
    if hin : ∀ b : Fin s.rank, lo b ≤ (i (Fin.cast h.1.symm b)).val * str b + (p b).val
        ∧ (i (Fin.cast h.1.symm b)).val * str b + (p b).val - lo b < s.size b
      then x (fun b => ⟨_, (hin b).2⟩) else 0
  have e1 : ∀ t : Fin n, f (w t) = if hh : lo a ≤ (i a).val + t.val ∧ (i a).val + t.val - lo a < s.size a
          then x (Function.update i a ⟨(i a).val + t.val - lo a, hh.2⟩) else 0 := by
    intro t
    by_cases h' : lo a ≤ (i a).val + t.val ∧ (i a).val + t.val - lo a < s.size a
    · rw [dif_pos h']
      have hb : ∀ b, b ≠ a → (i (Fin.cast h.1.symm b)).val * str b + (w t b).val - lo b = (i b).val := fun b e => by
        rw [hstr, wb t b e, hlo b e]
        show (i b).val * 1 + 0 - 0 = _
        omega
      have ha : (i (Fin.cast h.1.symm a)).val * str a + (w t a).val = (i a).val + t.val := by
        rw [hstr, wa]
        show (i a).val * 1 + t.val = _
        omega
      have hin : ∀ b : Fin s.rank, lo b ≤ (i (Fin.cast h.1.symm b)).val * str b + (w t b).val
          ∧ (i (Fin.cast h.1.symm b)).val * str b + (w t b).val - lo b < s.size b := fun b => by
        by_cases e : b = a
        · subst e; rw [ha]; exact h'
        · exact ⟨by rw [hlo b e]; exact Nat.zero_le _, by rw [hb b e]; exact (i b).isLt⟩
      refine (dif_pos hin).trans (congrArg x (funext fun b => ?_))
      by_cases e : b = a
      · subst e
        rw [Function.update_self]
        exact Fin.ext (by show _ - _ = _ - _; rw [ha])
      · rw [Function.update_of_ne e]
        exact Fin.ext (hb b e)
    · rw [dif_neg h']
      refine dif_neg fun hin => h' ?_
      have := hin a
      rw [hstr, wa] at this
      change lo a ≤ (i a).val * 1 + t.val ∧ (i a).val * 1 + t.val - lo a < s.size a at this
      rwa [Nat.mul_one] at this
  refine Eq.trans ?_ (Finset.sum_congr rfl fun t _ => e1 t)
  rw [Equiv.sum_comp w f]
  refine (Finset.sum_congr rfl fun i _ => ?_).trans (Equiv.sum_comp W.rowMajor.symm f)
  dsimp only [f]
  split
  · rfl
  · rfl

/-- The windows padded in front sum the rows up to a row, those padded behind the rows from a row on. -/
theorem upto_sum (f : Fin 64 → EReal) (r : Fin 64) (g : Fin 64 → EReal)
    (hg : ∀ t : Fin 64, g t = if hh : 63 ≤ r.val + t.val then f ⟨r.val + t.val - 63, by omega⟩ else 0) :
    (∑ t, g t) = ∑ t : Fin 64, if t ≤ r then f t else 0 := by
  rw [← Equiv.sum_comp (Equiv.addRight (r + 1)) fun t : Fin 64 => if t ≤ r then f t else 0]
  refine Finset.sum_congr rfl fun t _ => (hg t).trans ?_
  have hr := r.isLt
  have ht := t.isLt
  have hs : (Equiv.addRight (r + 1) t).val = (r.val + t.val + 1) % 64 := by
    show (t + (r + 1)).val = _
    rw [Fin.val_add, Fin.val_add]
    show (t.val + (r.val + 1) % 64) % 64 = _
    omega
  by_cases h' : 63 ≤ r.val + t.val
  · rw [dif_pos h', if_pos (Fin.le_def.2 (by rw [hs]; omega))]
    congr 1
    exact Fin.ext (by rw [hs]; show r.val + t.val - 63 = _; omega)
  · rw [dif_neg h', if_neg fun hl => by
      have := Fin.le_def.1 hl
      rw [hs] at this
      omega]
theorem from_sum (f : Fin 64 → EReal) (r : Fin 64) (g : Fin 64 → EReal)
    (hg : ∀ t : Fin 64, g t = if hh : r.val + t.val < 64 then f ⟨r.val + t.val, hh⟩ else 0) :
    (∑ t, g t) = ∑ t : Fin 64, if r ≤ t then f t else 0 := by
  rw [← Equiv.sum_comp (Equiv.addRight r) fun t : Fin 64 => if r ≤ t then f t else 0]
  refine Finset.sum_congr rfl fun t _ => (hg t).trans ?_
  have hr := r.isLt
  have ht := t.isLt
  have hs : (Equiv.addRight r t).val = (t.val + r.val) % 64 := by
    show (t + r).val = _
    rw [Fin.val_add]
  by_cases h' : r.val + t.val < 64
  · rw [dif_pos h', if_pos (Fin.le_def.2 (by rw [hs]; omega))]
    congr 1
    exact Fin.ext (by rw [hs]; show r.val + t.val = _; omega)
  · rw [dif_neg h', if_neg fun hl => by
      have := Fin.le_def.1 hl
      rw [hs] at this
      omega]

theorem upd4 {A D E : ℕ} (n : Fin A) (r : Fin 64) (d : Fin D) (e : Fin E) (y : Fin 64) :
    Function.update (ix4 n r d e : (⟨4, ![A, 64, D, E]⟩ : Shape).Idx) (1 : Fin 4) y = ix4 n y d e := by
  funext a
  match a with
  | ⟨0, _⟩ => rfl
  | ⟨1, _⟩ => rfl
  | ⟨2, _⟩ => rfl
  | ⟨3, _⟩ => rfl
theorem upd5 {A D E : ℕ} (z : Fin 1) (n : Fin A) (r : Fin 64) (d : Fin D) (e : Fin E) (y : Fin 64) :
    Function.update (ix5 z n r d e : (⟨5, ![1, A, 64, D, E]⟩ : Shape).Idx) (2 : Fin 5) y = ix5 z n y d e := by
  funext a
  match a with
  | ⟨0, _⟩ => rfl
  | ⟨1, _⟩ => rfl
  | ⟨2, _⟩ => rfl
  | ⟨3, _⟩ => rfl
  | ⟨4, _⟩ => rfl

/-- The running sum along axis 1 of a rank 4 array, at an index. -/
theorem cumsum4 {A D E : ℕ} (x : (⟨4, ![A, 64, D, E]⟩ : Shape).Idx → EReal) (init : (⟨0, ![]⟩ : Shape).Idx → EReal)
    (hi : ∀ i, init i = 0)
    (h : (⟨4, ![A, 64, D, E]⟩ : Shape).ReduceWindows (![1, 64, 1, 1] : Fin 4 → Nat) ![1, 1, 1, 1] ![0, 63, 0, 0] ![0, 0, 0, 0] ⟨4, ![A, 64, D, E]⟩)
    (hu : 0 < (⟨0, ![]⟩ : Shape).numel) (n : Fin A) (r : Fin 64) (d : Fin D) (e : Fin E) :
    Host.reduceWindowAdd (F := Ideal) (φ := .f32) ![1, 64, 1, 1] ![1, 1, 1, 1] ![0, 63, 0, 0] ![0, 0, 0, 0] x init h hu (ix4 n r d e)
      = ∑ t : Fin 64, if t ≤ r then x (ix4 n t d e) else 0 := by
  refine (window_sum (s := ⟨4, ![A, 64, D, E]⟩) (1 : Fin 4) 64 _ _ _ _ rfl (show ∀ b : Fin 4, b ≠ 1 → (![1, 64, 1, 1] : Fin 4 → ℕ) b = 1 by decide) (show ∀ b : Fin 4, (![1, 1, 1, 1] : Fin 4 → ℕ) b = 1 by decide)
    (show ∀ b : Fin 4, b ≠ 1 → (![0, 63, 0, 0] : Fin 4 → ℕ) b = 0 by decide) x init hi h hu _).trans ?_
  refine upto_sum (fun t => x (ix4 n t d e)) r _ fun t => ?_
  have hr := r.isLt
  have ht := t.isLt
  by_cases h' : 63 ≤ r.val + t.val
  · rw [dif_pos h']
    exact (dif_pos (show 63 ≤ r.val + t.val ∧ r.val + t.val - 63 < 64 by omega)).trans (congrArg x (upd4 n r d e _))
  · rw [dif_neg h']
    exact dif_neg fun hh => h' hh.1

/-- The running sum along axis 2 of a rank 5 array, at an index. -/
theorem cumsum_apply {A D E : ℕ} (x : (⟨5, ![1, A, 64, D, E]⟩ : Shape).Idx → EReal) (init : (⟨0, ![]⟩ : Shape).Idx → EReal)
    (hi : ∀ i, init i = 0)
    (h : (⟨5, ![1, A, 64, D, E]⟩ : Shape).ReduceWindows (![1, 1, 64, 1, 1] : Fin 5 → Nat) ![1, 1, 1, 1, 1] ![0, 0, 63, 0, 0] ![0, 0, 0, 0, 0] ⟨5, ![1, A, 64, D, E]⟩)
    (hu : 0 < (⟨0, ![]⟩ : Shape).numel) (z : Fin 1) (n : Fin A) (r : Fin 64) (d : Fin D) (e : Fin E) :
    Host.reduceWindowAdd (F := Ideal) (φ := .f32) ![1, 1, 64, 1, 1] ![1, 1, 1, 1, 1] ![0, 0, 63, 0, 0] ![0, 0, 0, 0, 0] x init h hu (ix5 z n r d e)
      = ∑ t : Fin 64, if t ≤ r then x (ix5 z n t d e) else 0 := by
  refine (window_sum (s := ⟨5, ![1, A, 64, D, E]⟩) (2 : Fin 5) 64 _ _ _ _ rfl (show ∀ b : Fin 5, b ≠ 2 → (![1, 1, 64, 1, 1] : Fin 5 → ℕ) b = 1 by decide) (show ∀ b : Fin 5, (![1, 1, 1, 1, 1] : Fin 5 → ℕ) b = 1 by decide)
    (show ∀ b : Fin 5, b ≠ 2 → (![0, 0, 63, 0, 0] : Fin 5 → ℕ) b = 0 by decide) x init hi h hu _).trans ?_
  refine upto_sum (fun t => x (ix5 z n t d e)) r _ fun t => ?_
  have hr := r.isLt
  have ht := t.isLt
  by_cases h' : 63 ≤ r.val + t.val
  · rw [dif_pos h']
    exact (dif_pos (show 63 ≤ r.val + t.val ∧ r.val + t.val - 63 < 64 by omega)).trans (congrArg x (upd5 z n r d e _))
  · rw [dif_neg h']
    exact dif_neg fun hh => h' hh.1

/-- The running sum from the last row back along axis 2 of a rank 5 array, at an index. -/
theorem revsum5 {A D E : ℕ} (x : (⟨5, ![1, A, 64, D, E]⟩ : Shape).Idx → EReal) (init : (⟨0, ![]⟩ : Shape).Idx → EReal)
    (hi : ∀ i, init i = 0)
    (h : (⟨5, ![1, A, 64, D, E]⟩ : Shape).ReduceWindows (![1, 1, 64, 1, 1] : Fin 5 → Nat) ![1, 1, 1, 1, 1] ![0, 0, 0, 0, 0] ![0, 0, 63, 0, 0] ⟨5, ![1, A, 64, D, E]⟩)
    (hu : 0 < (⟨0, ![]⟩ : Shape).numel) (z : Fin 1) (n : Fin A) (r : Fin 64) (d : Fin D) (e : Fin E) :
    Host.reduceWindowAdd (F := Ideal) (φ := .f32) ![1, 1, 64, 1, 1] ![1, 1, 1, 1, 1] ![0, 0, 0, 0, 0] ![0, 0, 63, 0, 0] x init h hu (ix5 z n r d e)
      = ∑ t : Fin 64, if r ≤ t then x (ix5 z n t d e) else 0 := by
  refine (window_sum (s := ⟨5, ![1, A, 64, D, E]⟩) (2 : Fin 5) 64 _ _ _ _ rfl (show ∀ b : Fin 5, b ≠ 2 → (![1, 1, 64, 1, 1] : Fin 5 → ℕ) b = 1 by decide) (show ∀ b : Fin 5, (![1, 1, 1, 1, 1] : Fin 5 → ℕ) b = 1 by decide)
    (show ∀ b : Fin 5, b ≠ 2 → (![0, 0, 0, 0, 0] : Fin 5 → ℕ) b = 0 by decide) x init hi h hu _).trans ?_
  refine from_sum (fun t => x (ix5 z n t d e)) r _ fun t => ?_
  have hr := r.isLt
  have ht := t.isLt
  by_cases h' : r.val + t.val < 64
  · rw [dif_pos h']
    exact (dif_pos (show 0 ≤ r.val + t.val ∧ r.val + t.val - 0 < 64 by omega)).trans (congrArg x (upd5 z n r d e _))
  · rw [dif_neg h']
    exact dif_neg fun hh => h' (by have := hh.2; change r.val + t.val - 0 < 64 at this; omega)

/-! ## One row of an array, read and written at a start -/

section Row

variable {α : Type} {N A B C D : ℕ}

/-- Row `k` of a rank 4 array. -/
theorem row4 (x : (⟨4, ![N, A, B, C]⟩ : Shape).Idx → α) (start : Fin 4 → Int)
    (h : (⟨4, ![N, A, B, C]⟩ : Shape).Slices (fun _ => 0) ⟨4, ![1, A, B, C]⟩) (k : Fin N)
    (h0 : start 0 = k.val) (hz : ∀ a : Fin 4, a ≠ 0 → start a = 0) :
    Host.dynamicSlice ⟨4, ![1, A, B, C]⟩ x start h = fun i => x (ix4 k (i 1) (i 2) (i 3)) := by
  funext i
  have hs : ∀ (a : Fin 4) (n : ℕ), start a = n → n + (![1, A, B, C] : Fin 4 → ℕ) a ≤ (![N, A, B, C] : Fin 4 → ℕ) a →
      Host.clampedStart ⟨4, ![N, A, B, C]⟩ ⟨4, ![1, A, B, C]⟩ h.1 start a = n :=
    fun a n e hl => Host.clampedStart_of_le h.1 start a n e hl
  have hk := k.isLt
  have hi := (i 0).isLt
  change (i 0).val < 1 at hi
  have s0 := hs 0 k.val h0 (by show k.val + 1 ≤ N; omega)
  have s1 := hs 1 0 (hz _ (by decide)) (by show 0 + A ≤ A; omega)
  have s2 := hs 2 0 (hz _ (by decide)) (by show 0 + B ≤ B; omega)
  have s3 := hs 3 0 (hz _ (by decide)) (by show 0 + C ≤ C; omega)
  rw [Host.dynamicSlice_apply]
  refine congrArg x (funext fun a => Fin.ext ?_)
  match a with
  | ⟨0, _⟩ => show Host.clampedStart ⟨4, ![N, A, B, C]⟩ ⟨4, ![1, A, B, C]⟩ h.1 start 0 + (i 0).val = k.val; rw [s0]; omega
  | ⟨1, _⟩ => show Host.clampedStart ⟨4, ![N, A, B, C]⟩ ⟨4, ![1, A, B, C]⟩ h.1 start 1 + (i 1).val = (i 1).val; rw [s1]; omega
  | ⟨2, _⟩ => show Host.clampedStart ⟨4, ![N, A, B, C]⟩ ⟨4, ![1, A, B, C]⟩ h.1 start 2 + (i 2).val = (i 2).val; rw [s2]; omega
  | ⟨3, _⟩ => show Host.clampedStart ⟨4, ![N, A, B, C]⟩ ⟨4, ![1, A, B, C]⟩ h.1 start 3 + (i 3).val = (i 3).val; rw [s3]; omega

/-- Row `k` of a rank 5 array. -/
theorem row5 (x : (⟨5, ![N, A, B, C, D]⟩ : Shape).Idx → α) (start : Fin 5 → Int)
    (h : (⟨5, ![N, A, B, C, D]⟩ : Shape).Slices (fun _ => 0) ⟨5, ![1, A, B, C, D]⟩) (k : Fin N)
    (h0 : start 0 = k.val) (hz : ∀ a : Fin 5, a ≠ 0 → start a = 0) :
    Host.dynamicSlice ⟨5, ![1, A, B, C, D]⟩ x start h = fun i => x (ix5 k (i 1) (i 2) (i 3) (i 4)) := by
  funext i
  have hs : ∀ (a : Fin 5) (n : ℕ), start a = n → n + (![1, A, B, C, D] : Fin 5 → ℕ) a ≤ (![N, A, B, C, D] : Fin 5 → ℕ) a →
      Host.clampedStart ⟨5, ![N, A, B, C, D]⟩ ⟨5, ![1, A, B, C, D]⟩ h.1 start a = n :=
    fun a n e hl => Host.clampedStart_of_le h.1 start a n e hl
  have hk := k.isLt
  have hi := (i 0).isLt
  change (i 0).val < 1 at hi
  have s0 := hs 0 k.val h0 (by show k.val + 1 ≤ N; omega)
  have s1 := hs 1 0 (hz _ (by decide)) (by show 0 + A ≤ A; omega)
  have s2 := hs 2 0 (hz _ (by decide)) (by show 0 + B ≤ B; omega)
  have s3 := hs 3 0 (hz _ (by decide)) (by show 0 + C ≤ C; omega)
  have s4 := hs 4 0 (hz _ (by decide)) (by show 0 + D ≤ D; omega)
  rw [Host.dynamicSlice_apply]
  refine congrArg x (funext fun a => Fin.ext ?_)
  match a with
  | ⟨0, _⟩ => show Host.clampedStart ⟨5, ![N, A, B, C, D]⟩ ⟨5, ![1, A, B, C, D]⟩ h.1 start 0 + (i 0).val = k.val; rw [s0]; omega
  | ⟨1, _⟩ => show Host.clampedStart ⟨5, ![N, A, B, C, D]⟩ ⟨5, ![1, A, B, C, D]⟩ h.1 start 1 + (i 1).val = (i 1).val; rw [s1]; omega
  | ⟨2, _⟩ => show Host.clampedStart ⟨5, ![N, A, B, C, D]⟩ ⟨5, ![1, A, B, C, D]⟩ h.1 start 2 + (i 2).val = (i 2).val; rw [s2]; omega
  | ⟨3, _⟩ => show Host.clampedStart ⟨5, ![N, A, B, C, D]⟩ ⟨5, ![1, A, B, C, D]⟩ h.1 start 3 + (i 3).val = (i 3).val; rw [s3]; omega
  | ⟨4, _⟩ => show Host.clampedStart ⟨5, ![N, A, B, C, D]⟩ ⟨5, ![1, A, B, C, D]⟩ h.1 start 4 + (i 4).val = (i 4).val; rw [s4]; omega

/-- A rank 4 array with row `k` written. -/
theorem put4 (x : (⟨4, ![N, A, B, C]⟩ : Shape).Idx → α) (u : (⟨4, ![1, A, B, C]⟩ : Shape).Idx → α) (start : Fin 4 → Int)
    (h : (⟨4, ![N, A, B, C]⟩ : Shape).Slices (fun _ => 0) ⟨4, ![1, A, B, C]⟩) (k : Fin N)
    (h0 : start 0 = k.val) (hz : ∀ a : Fin 4, a ≠ 0 → start a = 0) (n : Fin N) (a : Fin A) (b : Fin B) (c : Fin C) :
    Host.dynamicUpdateSlice x u start h (ix4 n a b c) = if n = k then u (ix4 0 a b c) else x (ix4 n a b c) := by
  have hs : ∀ (a : Fin 4) (n : ℕ), start a = n → n + (![1, A, B, C] : Fin 4 → ℕ) a ≤ (![N, A, B, C] : Fin 4 → ℕ) a →
      Host.clampedStart ⟨4, ![N, A, B, C]⟩ ⟨4, ![1, A, B, C]⟩ h.1 start a = n :=
    fun a n e hl => Host.clampedStart_of_le h.1 start a n e hl
  have hk := k.isLt
  have s0 := hs 0 k.val h0 (by show k.val + 1 ≤ N; omega)
  have s1 := hs 1 0 (hz _ (by decide)) (by show 0 + A ≤ A; omega)
  have s2 := hs 2 0 (hz _ (by decide)) (by show 0 + B ≤ B; omega)
  have s3 := hs 3 0 (hz _ (by decide)) (by show 0 + C ≤ C; omega)
  rw [Host.dynamicUpdateSlice_apply]
  by_cases e : n = k
  · rw [if_pos e]
    subst e
    refine (dif_pos fun q => ?_).trans (congrArg u (funext fun q => Fin.ext ?_))
    · match q with
      | ⟨0, _⟩ => show Host.clampedStart ⟨4, ![N, A, B, C]⟩ ⟨4, ![1, A, B, C]⟩ h.1 start 0 ≤ n.val ∧ n.val < Host.clampedStart ⟨4, ![N, A, B, C]⟩ ⟨4, ![1, A, B, C]⟩ h.1 start 0 + 1; rw [s0]; omega
      | ⟨1, _⟩ => show Host.clampedStart ⟨4, ![N, A, B, C]⟩ ⟨4, ![1, A, B, C]⟩ h.1 start 1 ≤ a.val ∧ a.val < Host.clampedStart ⟨4, ![N, A, B, C]⟩ ⟨4, ![1, A, B, C]⟩ h.1 start 1 + A; rw [s1]; omega
      | ⟨2, _⟩ => show Host.clampedStart ⟨4, ![N, A, B, C]⟩ ⟨4, ![1, A, B, C]⟩ h.1 start 2 ≤ b.val ∧ b.val < Host.clampedStart ⟨4, ![N, A, B, C]⟩ ⟨4, ![1, A, B, C]⟩ h.1 start 2 + B; rw [s2]; omega
      | ⟨3, _⟩ => show Host.clampedStart ⟨4, ![N, A, B, C]⟩ ⟨4, ![1, A, B, C]⟩ h.1 start 3 ≤ c.val ∧ c.val < Host.clampedStart ⟨4, ![N, A, B, C]⟩ ⟨4, ![1, A, B, C]⟩ h.1 start 3 + C; rw [s3]; omega
    · match q with
      | ⟨0, _⟩ => show n.val - Host.clampedStart ⟨4, ![N, A, B, C]⟩ ⟨4, ![1, A, B, C]⟩ h.1 start 0 = 0; rw [s0]; omega
      | ⟨1, _⟩ => show a.val - Host.clampedStart ⟨4, ![N, A, B, C]⟩ ⟨4, ![1, A, B, C]⟩ h.1 start 1 = a.val; rw [s1]; omega
      | ⟨2, _⟩ => show b.val - Host.clampedStart ⟨4, ![N, A, B, C]⟩ ⟨4, ![1, A, B, C]⟩ h.1 start 2 = b.val; rw [s2]; omega
      | ⟨3, _⟩ => show c.val - Host.clampedStart ⟨4, ![N, A, B, C]⟩ ⟨4, ![1, A, B, C]⟩ h.1 start 3 = c.val; rw [s3]; omega
  · rw [if_neg e]
    refine dif_neg fun hin => e (Fin.ext ?_)
    have hq := hin 0
    change Host.clampedStart ⟨4, ![N, A, B, C]⟩ ⟨4, ![1, A, B, C]⟩ h.1 start 0 ≤ n.val ∧ n.val < Host.clampedStart ⟨4, ![N, A, B, C]⟩ ⟨4, ![1, A, B, C]⟩ h.1 start 0 + 1 at hq
    rw [s0] at hq
    omega

/-- A rank 5 array with row `k` written. -/
theorem put5 (x : (⟨5, ![N, A, B, C, D]⟩ : Shape).Idx → α) (u : (⟨5, ![1, A, B, C, D]⟩ : Shape).Idx → α) (start : Fin 5 → Int)
    (h : (⟨5, ![N, A, B, C, D]⟩ : Shape).Slices (fun _ => 0) ⟨5, ![1, A, B, C, D]⟩) (k : Fin N)
    (h0 : start 0 = k.val) (hz : ∀ a : Fin 5, a ≠ 0 → start a = 0) (n : Fin N) (a : Fin A) (b : Fin B) (c : Fin C) (d : Fin D) :
    Host.dynamicUpdateSlice x u start h (ix5 n a b c d) = if n = k then u (ix5 0 a b c d) else x (ix5 n a b c d) := by
  have hs : ∀ (a : Fin 5) (n : ℕ), start a = n → n + (![1, A, B, C, D] : Fin 5 → ℕ) a ≤ (![N, A, B, C, D] : Fin 5 → ℕ) a →
      Host.clampedStart ⟨5, ![N, A, B, C, D]⟩ ⟨5, ![1, A, B, C, D]⟩ h.1 start a = n :=
    fun a n e hl => Host.clampedStart_of_le h.1 start a n e hl
  have hk := k.isLt
  have s0 := hs 0 k.val h0 (by show k.val + 1 ≤ N; omega)
  have s1 := hs 1 0 (hz _ (by decide)) (by show 0 + A ≤ A; omega)
  have s2 := hs 2 0 (hz _ (by decide)) (by show 0 + B ≤ B; omega)
  have s3 := hs 3 0 (hz _ (by decide)) (by show 0 + C ≤ C; omega)
  have s4 := hs 4 0 (hz _ (by decide)) (by show 0 + D ≤ D; omega)
  rw [Host.dynamicUpdateSlice_apply]
  by_cases e : n = k
  · rw [if_pos e]
    subst e
    refine (dif_pos fun q => ?_).trans (congrArg u (funext fun q => Fin.ext ?_))
    · match q with
      | ⟨0, _⟩ => show Host.clampedStart ⟨5, ![N, A, B, C, D]⟩ ⟨5, ![1, A, B, C, D]⟩ h.1 start 0 ≤ n.val ∧ n.val < Host.clampedStart ⟨5, ![N, A, B, C, D]⟩ ⟨5, ![1, A, B, C, D]⟩ h.1 start 0 + 1; rw [s0]; omega
      | ⟨1, _⟩ => show Host.clampedStart ⟨5, ![N, A, B, C, D]⟩ ⟨5, ![1, A, B, C, D]⟩ h.1 start 1 ≤ a.val ∧ a.val < Host.clampedStart ⟨5, ![N, A, B, C, D]⟩ ⟨5, ![1, A, B, C, D]⟩ h.1 start 1 + A; rw [s1]; omega
      | ⟨2, _⟩ => show Host.clampedStart ⟨5, ![N, A, B, C, D]⟩ ⟨5, ![1, A, B, C, D]⟩ h.1 start 2 ≤ b.val ∧ b.val < Host.clampedStart ⟨5, ![N, A, B, C, D]⟩ ⟨5, ![1, A, B, C, D]⟩ h.1 start 2 + B; rw [s2]; omega
      | ⟨3, _⟩ => show Host.clampedStart ⟨5, ![N, A, B, C, D]⟩ ⟨5, ![1, A, B, C, D]⟩ h.1 start 3 ≤ c.val ∧ c.val < Host.clampedStart ⟨5, ![N, A, B, C, D]⟩ ⟨5, ![1, A, B, C, D]⟩ h.1 start 3 + C; rw [s3]; omega
      | ⟨4, _⟩ => show Host.clampedStart ⟨5, ![N, A, B, C, D]⟩ ⟨5, ![1, A, B, C, D]⟩ h.1 start 4 ≤ d.val ∧ d.val < Host.clampedStart ⟨5, ![N, A, B, C, D]⟩ ⟨5, ![1, A, B, C, D]⟩ h.1 start 4 + D; rw [s4]; omega
    · match q with
      | ⟨0, _⟩ => show n.val - Host.clampedStart ⟨5, ![N, A, B, C, D]⟩ ⟨5, ![1, A, B, C, D]⟩ h.1 start 0 = 0; rw [s0]; omega
      | ⟨1, _⟩ => show a.val - Host.clampedStart ⟨5, ![N, A, B, C, D]⟩ ⟨5, ![1, A, B, C, D]⟩ h.1 start 1 = a.val; rw [s1]; omega
      | ⟨2, _⟩ => show b.val - Host.clampedStart ⟨5, ![N, A, B, C, D]⟩ ⟨5, ![1, A, B, C, D]⟩ h.1 start 2 = b.val; rw [s2]; omega
      | ⟨3, _⟩ => show c.val - Host.clampedStart ⟨5, ![N, A, B, C, D]⟩ ⟨5, ![1, A, B, C, D]⟩ h.1 start 3 = c.val; rw [s3]; omega
      | ⟨4, _⟩ => show d.val - Host.clampedStart ⟨5, ![N, A, B, C, D]⟩ ⟨5, ![1, A, B, C, D]⟩ h.1 start 4 = d.val; rw [s4]; omega
  · rw [if_neg e]
    refine dif_neg fun hin => e (Fin.ext ?_)
    have hq := hin 0
    change Host.clampedStart ⟨5, ![N, A, B, C, D]⟩ ⟨5, ![1, A, B, C, D]⟩ h.1 start 0 ≤ n.val ∧ n.val < Host.clampedStart ⟨5, ![N, A, B, C, D]⟩ ⟨5, ![1, A, B, C, D]⟩ h.1 start 0 + 1 at hq
    rw [s0] at hq
    omega

end Row

/-- The loop counter below 32, read signed. -/
theorem iv_toInt : ∀ k : Fin 32, (Scf.iv 0#32 1#32 k.val).toInt = k.val := by decide +kernel

/-- A row counted within its chunk, and a column within its head. -/
theorem row_eq (n : Fin 32) (r : Fin 64) (p) : (⟨n.val * 64 + r.val, p⟩ : Fin 2048) = ⟨64 * n.val + r.val, by omega⟩ :=
  Fin.ext (congrArg (· + r.val) (Nat.mul_comm _ _))

theorem kc_eq (h : Fin 4) (a : Fin 128) (p) : (⟨h.val * 128 + a.val, p⟩ : Fin 512) = kc h a :=
  Fin.ext (congrArg (· + a.val) (Nat.mul_comm _ _))

theorem vc_eq (h : Fin 4) (b : Fin 256) (p) : (⟨h.val * 256 + b.val, p⟩ : Fin 1024) = vc h b :=
  Fin.ext (congrArg (· + b.val) (Nat.mul_comm _ _))

end Cert.Gla
-- ==== Proof.BwdStates.lean ====
/-
  The states the backward call is handed: the host lines before it take the chunks in order, each chunk's state from the
  one before, and lay the thirty-two states end to end.
-/
module
public import proofs.«01_k».proof.Proof.BwdRun
public import proofs.«01_k».proof.Proof.CumSum
public import proofs.«01_k».proof.Proof.Base

@[expose] public section

set_option maxRecDepth 20000

noncomputable section

namespace Cert.KernelIdeal.Own

open Idealize.ShloMosaic Idealize.ShloMosaic.TcCoe Idealize.ShloMosaic.Pointwise Idealize.ShloMosaic.StableHlo
open Idealize.ShloMosaic.Proc (devRef)
open Cert.KernelIdeal Cert.KernelIdeal.Gen Cert.Gla

/-- An entry of an array of extended reals. -/
abbrev ent (s : Shape) (x : s.Idx → EReal) (i : s.Idx) : EReal := x i

/-- The host lines up to the first chunk's step, and from it on. -/
abbrev headOps : List (HloOp τ sig (Elt Ideal)) := hostOps0_2.take 11
abbrev tailOps : List (HloOp τ sig (Elt Ideal)) := hostOps0_2.drop 11

/-- The state after chunk `n` off the state `p` before it, the chunks' decays `d` and their updates `u`. -/
def nx (d : S32x4x128.Idx → EReal) (u : S32x4x128x256.Idx → EReal) (n : Fin 32) (p : S4x128x256.Idx → EReal) : S4x128x256.Idx → EReal :=
  fun i => d (ix3 n (i 0) (i 1)) * p i + u (ix4 n (i 0) (i 1) (i 2))
/-- The state before chunk `n`. -/
def sA (d : S32x4x128.Idx → EReal) (u : S32x4x128x256.Idx → EReal) (p : S4x128x256.Idx → EReal) : ℕ → S4x128x256.Idx → EReal
  | 0 => p
  | n + 1 => if h : n < 32 then nx d u ⟨n, h⟩ (sA d u p n) else p

/-- One chunk's lines. -/
theorem step_eq (n : ℕ) (hn : n < 32) (d : FVec Ideal S32x4x128 .f32) (u : FVec Ideal S32x4x128x256 .f32) (p : FVec Ideal S4x128x256 .f32) (s : FVec Ideal S4x128x256 .f32)
    (h1 : S32x4x128.Slices ![n, 0, 0] S1x4x128) (h2 : S32x4x128x256.Slices ![n, 0, 0, 0] S1x4x128x256) (hs : s = sA d u p n) :
    addf (mulf (broadcastInDim S4x128x256 ![0, 1, 2] bcast_S4x128x1_S4x128x256_0_1_2 (broadcastInDim S4x128x1 ![0, 1] bcast_S4x128_S4x128x1_0_1
      (shapeCast S4x128 (extractStridedSlice S1x4x128 ![n, 0, 0] d h1) shapeCasts_S1x4x128_S4x128))) s)
      (shapeCast S4x128x256 (extractStridedSlice S1x4x128x256 ![n, 0, 0, 0] u h2) shapeCasts_S1x4x128x256_S4x128x256) = sA d u p (n + 1) := by
  subst hs
  show _ = if h : n < 32 then nx d u ⟨n, h⟩ (sA d u p n) else p
  rw [dif_pos hn]
  funext i
  rw [eq_ix3 i]
  unfold nx
  pointwise

variable (W : Valuation τ sig (Elt Ideal))

/-- The state before chunk `n`, off what the lines find. -/
abbrev sW (n : ℕ) : FVec Ideal S4x128x256 .f32 := sA (W (devRef .tc main_v12)) (W (devRef .tc main_v11)) (W (devRef .tc main_v13)) n

theorem e0 : upto tailOps W 12 (no_index (devRef .tc main_v21)) = sW W 1 := by
  after_reads_simp
  exact step_eq 0 (by decide) _ _ _ _ _ _ rfl
theorem f0 : upto tailOps W 256 (no_index (devRef .tc main_v21)) = sW W 1 := by
  after_reads_simp
  exact step_eq 0 (by decide) _ _ _ _ _ _ rfl
theorem e1 : upto tailOps W 20 (no_index (devRef .tc main_v29)) = sW W 2 := by
  after_reads_simp [e0]
  exact step_eq 1 (by decide) _ _ _ _ _ _ rfl
theorem f1 : upto tailOps W 257 (no_index (devRef .tc main_v29)) = sW W 2 := by
  after_reads_simp [e0]
  exact step_eq 1 (by decide) _ _ _ _ _ _ rfl
theorem e2 : upto tailOps W 28 (no_index (devRef .tc main_v37)) = sW W 3 := by
  after_reads_simp [e1]
  exact step_eq 2 (by decide) _ _ _ _ _ _ rfl
theorem f2 : upto tailOps W 258 (no_index (devRef .tc main_v37)) = sW W 3 := by
  after_reads_simp [e1]
  exact step_eq 2 (by decide) _ _ _ _ _ _ rfl
theorem e3 : upto tailOps W 36 (no_index (devRef .tc main_v45)) = sW W 4 := by
  after_reads_simp [e2]
  exact step_eq 3 (by decide) _ _ _ _ _ _ rfl
theorem f3 : upto tailOps W 259 (no_index (devRef .tc main_v45)) = sW W 4 := by
  after_reads_simp [e2]
  exact step_eq 3 (by decide) _ _ _ _ _ _ rfl
theorem e4 : upto tailOps W 44 (no_index (devRef .tc main_v53)) = sW W 5 := by
  after_reads_simp [e3]
  exact step_eq 4 (by decide) _ _ _ _ _ _ rfl
theorem f4 : upto tailOps W 260 (no_index (devRef .tc main_v53)) = sW W 5 := by
  after_reads_simp [e3]
  exact step_eq 4 (by decide) _ _ _ _ _ _ rfl
theorem e5 : upto tailOps W 52 (no_index (devRef .tc main_v61)) = sW W 6 := by
  after_reads_simp [e4]
  exact step_eq 5 (by decide) _ _ _ _ _ _ rfl
theorem f5 : upto tailOps W 261 (no_index (devRef .tc main_v61)) = sW W 6 := by
  after_reads_simp [e4]
  exact step_eq 5 (by decide) _ _ _ _ _ _ rfl
theorem e6 : upto tailOps W 60 (no_index (devRef .tc main_v69)) = sW W 7 := by
  after_reads_simp [e5]
  exact step_eq 6 (by decide) _ _ _ _ _ _ rfl
theorem f6 : upto tailOps W 262 (no_index (devRef .tc main_v69)) = sW W 7 := by
  after_reads_simp [e5]
  exact step_eq 6 (by decide) _ _ _ _ _ _ rfl
theorem e7 : upto tailOps W 68 (no_index (devRef .tc main_v77)) = sW W 8 := by
  after_reads_simp [e6]
  exact step_eq 7 (by decide) _ _ _ _ _ _ rfl
theorem f7 : upto tailOps W 263 (no_index (devRef .tc main_v77)) = sW W 8 := by
  after_reads_simp [e6]
  exact step_eq 7 (by decide) _ _ _ _ _ _ rfl
theorem e8 : upto tailOps W 76 (no_index (devRef .tc main_v85)) = sW W 9 := by
  after_reads_simp [e7]
  exact step_eq 8 (by decide) _ _ _ _ _ _ rfl
theorem f8 : upto tailOps W 264 (no_index (devRef .tc main_v85)) = sW W 9 := by
  after_reads_simp [e7]
  exact step_eq 8 (by decide) _ _ _ _ _ _ rfl
theorem e9 : upto tailOps W 84 (no_index (devRef .tc main_v93)) = sW W 10 := by
  after_reads_simp [e8]
  exact step_eq 9 (by decide) _ _ _ _ _ _ rfl
theorem f9 : upto tailOps W 265 (no_index (devRef .tc main_v93)) = sW W 10 := by
  after_reads_simp [e8]
  exact step_eq 9 (by decide) _ _ _ _ _ _ rfl
theorem e10 : upto tailOps W 92 (no_index (devRef .tc main_v101)) = sW W 11 := by
  after_reads_simp [e9]
  exact step_eq 10 (by decide) _ _ _ _ _ _ rfl
theorem f10 : upto tailOps W 266 (no_index (devRef .tc main_v101)) = sW W 11 := by
  after_reads_simp [e9]
  exact step_eq 10 (by decide) _ _ _ _ _ _ rfl
theorem e11 : upto tailOps W 100 (no_index (devRef .tc main_v109)) = sW W 12 := by
  after_reads_simp [e10]
  exact step_eq 11 (by decide) _ _ _ _ _ _ rfl
theorem f11 : upto tailOps W 267 (no_index (devRef .tc main_v109)) = sW W 12 := by
  after_reads_simp [e10]
  exact step_eq 11 (by decide) _ _ _ _ _ _ rfl
theorem e12 : upto tailOps W 108 (no_index (devRef .tc main_v117)) = sW W 13 := by
  after_reads_simp [e11]
  exact step_eq 12 (by decide) _ _ _ _ _ _ rfl
theorem f12 : upto tailOps W 268 (no_index (devRef .tc main_v117)) = sW W 13 := by
  after_reads_simp [e11]
  exact step_eq 12 (by decide) _ _ _ _ _ _ rfl
theorem e13 : upto tailOps W 116 (no_index (devRef .tc main_v125)) = sW W 14 := by
  after_reads_simp [e12]
  exact step_eq 13 (by decide) _ _ _ _ _ _ rfl
theorem f13 : upto tailOps W 269 (no_index (devRef .tc main_v125)) = sW W 14 := by
  after_reads_simp [e12]
  exact step_eq 13 (by decide) _ _ _ _ _ _ rfl
theorem e14 : upto tailOps W 124 (no_index (devRef .tc main_v133)) = sW W 15 := by
  after_reads_simp [e13]
  exact step_eq 14 (by decide) _ _ _ _ _ _ rfl
theorem f14 : upto tailOps W 270 (no_index (devRef .tc main_v133)) = sW W 15 := by
  after_reads_simp [e13]
  exact step_eq 14 (by decide) _ _ _ _ _ _ rfl
theorem e15 : upto tailOps W 132 (no_index (devRef .tc main_v141)) = sW W 16 := by
  after_reads_simp [e14]
  exact step_eq 15 (by decide) _ _ _ _ _ _ rfl
theorem f15 : upto tailOps W 271 (no_index (devRef .tc main_v141)) = sW W 16 := by
  after_reads_simp [e14]
  exact step_eq 15 (by decide) _ _ _ _ _ _ rfl
theorem e16 : upto tailOps W 140 (no_index (devRef .tc main_v149)) = sW W 17 := by
  after_reads_simp [e15]
  exact step_eq 16 (by decide) _ _ _ _ _ _ rfl
theorem f16 : upto tailOps W 272 (no_index (devRef .tc main_v149)) = sW W 17 := by
  after_reads_simp [e15]
  exact step_eq 16 (by decide) _ _ _ _ _ _ rfl
theorem e17 : upto tailOps W 148 (no_index (devRef .tc main_v157)) = sW W 18 := by
  after_reads_simp [e16]
  exact step_eq 17 (by decide) _ _ _ _ _ _ rfl
theorem f17 : upto tailOps W 273 (no_index (devRef .tc main_v157)) = sW W 18 := by
  after_reads_simp [e16]
  exact step_eq 17 (by decide) _ _ _ _ _ _ rfl
theorem e18 : upto tailOps W 156 (no_index (devRef .tc main_v165)) = sW W 19 := by
  after_reads_simp [e17]
  exact step_eq 18 (by decide) _ _ _ _ _ _ rfl
theorem f18 : upto tailOps W 274 (no_index (devRef .tc main_v165)) = sW W 19 := by
  after_reads_simp [e17]
  exact step_eq 18 (by decide) _ _ _ _ _ _ rfl
theorem e19 : upto tailOps W 164 (no_index (devRef .tc main_v173)) = sW W 20 := by
  after_reads_simp [e18]
  exact step_eq 19 (by decide) _ _ _ _ _ _ rfl
theorem f19 : upto tailOps W 275 (no_index (devRef .tc main_v173)) = sW W 20 := by
  after_reads_simp [e18]
  exact step_eq 19 (by decide) _ _ _ _ _ _ rfl
theorem e20 : upto tailOps W 172 (no_index (devRef .tc main_v181)) = sW W 21 := by
  after_reads_simp [e19]
  exact step_eq 20 (by decide) _ _ _ _ _ _ rfl
theorem f20 : upto tailOps W 276 (no_index (devRef .tc main_v181)) = sW W 21 := by
  after_reads_simp [e19]
  exact step_eq 20 (by decide) _ _ _ _ _ _ rfl
theorem e21 : upto tailOps W 180 (no_index (devRef .tc main_v189)) = sW W 22 := by
  after_reads_simp [e20]
  exact step_eq 21 (by decide) _ _ _ _ _ _ rfl
theorem f21 : upto tailOps W 277 (no_index (devRef .tc main_v189)) = sW W 22 := by
  after_reads_simp [e20]
  exact step_eq 21 (by decide) _ _ _ _ _ _ rfl
theorem e22 : upto tailOps W 188 (no_index (devRef .tc main_v197)) = sW W 23 := by
  after_reads_simp [e21]
  exact step_eq 22 (by decide) _ _ _ _ _ _ rfl
theorem f22 : upto tailOps W 278 (no_index (devRef .tc main_v197)) = sW W 23 := by
  after_reads_simp [e21]
  exact step_eq 22 (by decide) _ _ _ _ _ _ rfl
theorem e23 : upto tailOps W 196 (no_index (devRef .tc main_v205)) = sW W 24 := by
  after_reads_simp [e22]
  exact step_eq 23 (by decide) _ _ _ _ _ _ rfl
theorem f23 : upto tailOps W 279 (no_index (devRef .tc main_v205)) = sW W 24 := by
  after_reads_simp [e22]
  exact step_eq 23 (by decide) _ _ _ _ _ _ rfl
theorem e24 : upto tailOps W 204 (no_index (devRef .tc main_v213)) = sW W 25 := by
  after_reads_simp [e23]
  exact step_eq 24 (by decide) _ _ _ _ _ _ rfl
theorem f24 : upto tailOps W 280 (no_index (devRef .tc main_v213)) = sW W 25 := by
  after_reads_simp [e23]
  exact step_eq 24 (by decide) _ _ _ _ _ _ rfl
theorem e25 : upto tailOps W 212 (no_index (devRef .tc main_v221)) = sW W 26 := by
  after_reads_simp [e24]
  exact step_eq 25 (by decide) _ _ _ _ _ _ rfl
theorem f25 : upto tailOps W 281 (no_index (devRef .tc main_v221)) = sW W 26 := by
  after_reads_simp [e24]
  exact step_eq 25 (by decide) _ _ _ _ _ _ rfl
theorem e26 : upto tailOps W 220 (no_index (devRef .tc main_v229)) = sW W 27 := by
  after_reads_simp [e25]
  exact step_eq 26 (by decide) _ _ _ _ _ _ rfl
theorem f26 : upto tailOps W 282 (no_index (devRef .tc main_v229)) = sW W 27 := by
  after_reads_simp [e25]
  exact step_eq 26 (by decide) _ _ _ _ _ _ rfl
theorem e27 : upto tailOps W 228 (no_index (devRef .tc main_v237)) = sW W 28 := by
  after_reads_simp [e26]
  exact step_eq 27 (by decide) _ _ _ _ _ _ rfl
theorem f27 : upto tailOps W 283 (no_index (devRef .tc main_v237)) = sW W 28 := by
  after_reads_simp [e26]
  exact step_eq 27 (by decide) _ _ _ _ _ _ rfl
theorem e28 : upto tailOps W 236 (no_index (devRef .tc main_v245)) = sW W 29 := by
  after_reads_simp [e27]
  exact step_eq 28 (by decide) _ _ _ _ _ _ rfl
theorem f28 : upto tailOps W 284 (no_index (devRef .tc main_v245)) = sW W 29 := by
  after_reads_simp [e27]
  exact step_eq 28 (by decide) _ _ _ _ _ _ rfl
theorem e29 : upto tailOps W 244 (no_index (devRef .tc main_v253)) = sW W 30 := by
  after_reads_simp [e28]
  exact step_eq 29 (by decide) _ _ _ _ _ _ rfl
theorem f29 : upto tailOps W 285 (no_index (devRef .tc main_v253)) = sW W 30 := by
  after_reads_simp [e28]
  exact step_eq 29 (by decide) _ _ _ _ _ _ rfl
theorem e30 : upto tailOps W 252 (no_index (devRef .tc main_v261)) = sW W 31 := by
  after_reads_simp [e29]
  exact step_eq 30 (by decide) _ _ _ _ _ _ rfl
theorem f30 : upto tailOps W 286 (no_index (devRef .tc main_v261)) = sW W 31 := by
  after_reads_simp [e29]
  exact step_eq 30 (by decide) _ _ _ _ _ _ rfl
theorem e31 : upto tailOps W 256 (no_index (devRef .tc main_v269)) = sW W 32 := by
  after_reads_simp [e30]
  exact step_eq 31 (by decide) _ _ _ _ _ _ rfl
theorem f31 : upto tailOps W 287 (no_index (devRef .tc main_v269)) = sW W 32 := by
  after_reads_simp [e30]
  exact step_eq 31 (by decide) _ _ _ _ _ _ rfl

/-- Sixteen states, each a layer of its own, laid end to end from state `k + 1` on. -/
def cat16 (k : ℕ) : FVec Ideal S16x4x128x256 .f32 :=
  fun i => sW W (k + (i 0).val + 1) (ix3 (i 1) (i 2) (i 3))

theorem concat16 {f : Fin 16 → S1x4x128x256.Idx → EReal} : Shape.Concatenates ((List.ofFn fun n : Fin 16 => (⟨S1x4x128x256, f n⟩ : (s : Shape) × (s.Idx → EReal))).map (·.1)) S16x4x128x256 0 :=
  (by decide +kernel : Shape.Concatenates [S1x4x128x256, S1x4x128x256, S1x4x128x256, S1x4x128x256, S1x4x128x256, S1x4x128x256, S1x4x128x256, S1x4x128x256, S1x4x128x256, S1x4x128x256, S1x4x128x256, S1x4x128x256, S1x4x128x256, S1x4x128x256, S1x4x128x256, S1x4x128x256] S16x4x128x256 0)

theorem cat_eq (k : ℕ) (h) : concatenate S16x4x128x256 0 (List.ofFn fun n : Fin 16 => (⟨S1x4x128x256,
      broadcastInDim S1x4x128x256 ![1, 2, 3] bcast_S4x128x256_S1x4x128x256_1_2_3 (sW W (k + n.val + 1))⟩ : (s : Shape) × (s.Idx → EReal))) h = cat16 W k := by
  funext i
  rw [eq_ix4 i]
  unfold cat16
  pointwise

/-- The sixteen states laid end to end by one line, off the lines that lay each out as a layer of its own. -/
theorem lo16 : upto tailOps W 290 (no_index (devRef .tc main_v302)) = cat16 W 0 := by
  after_reads_simp
  refine (concatenate_congr _ _ (ys := List.ofFn fun n : Fin 16 => (⟨S1x4x128x256,
      broadcastInDim S1x4x128x256 ![1, 2, 3] bcast_S4x128x256_S1x4x128x256_1_2_3 (sW W (0 + n.val + 1))⟩ : (s : Shape) × (s.Idx → EReal))) ?_ _ concat16).trans (cat_eq W 0 concat16)
  show [(⟨S1x4x128x256, upto tailOps W 288 (devRef .tc main_v270)⟩ : (s : Shape) × (s.Idx → EReal)), ⟨S1x4x128x256, upto tailOps W 288 (devRef .tc main_v271)⟩, ⟨S1x4x128x256, upto tailOps W 288 (devRef .tc main_v272)⟩, ⟨S1x4x128x256, upto tailOps W 288 (devRef .tc main_v273)⟩, ⟨S1x4x128x256, upto tailOps W 288 (devRef .tc main_v274)⟩, ⟨S1x4x128x256, upto tailOps W 288 (devRef .tc main_v275)⟩, ⟨S1x4x128x256, upto tailOps W 288 (devRef .tc main_v276)⟩, ⟨S1x4x128x256, upto tailOps W 288 (devRef .tc main_v277)⟩, ⟨S1x4x128x256, upto tailOps W 288 (devRef .tc main_v278)⟩, ⟨S1x4x128x256, upto tailOps W 288 (devRef .tc main_v279)⟩, ⟨S1x4x128x256, upto tailOps W 288 (devRef .tc main_v280)⟩, ⟨S1x4x128x256, upto tailOps W 288 (devRef .tc main_v281)⟩, ⟨S1x4x128x256, upto tailOps W 288 (devRef .tc main_v282)⟩, ⟨S1x4x128x256, upto tailOps W 288 (devRef .tc main_v283)⟩, ⟨S1x4x128x256, upto tailOps W 288 (devRef .tc main_v284)⟩, ⟨S1x4x128x256, upto tailOps W 288 (devRef .tc main_v285)⟩] = _
  after_reads_simp [f0, f1, f2, f3, f4, f5, f6, f7, f8, f9, f10, f11, f12, f13, f14, f15]
  rfl
theorem hi16 : upto tailOps W 290 (no_index (devRef .tc main_v303)) = cat16 W 16 := by
  after_reads_simp
  refine (concatenate_congr _ _ (ys := List.ofFn fun n : Fin 16 => (⟨S1x4x128x256,
      broadcastInDim S1x4x128x256 ![1, 2, 3] bcast_S4x128x256_S1x4x128x256_1_2_3 (sW W (16 + n.val + 1))⟩ : (s : Shape) × (s.Idx → EReal))) ?_ _ concat16).trans (cat_eq W 16 concat16)
  show [(⟨S1x4x128x256, upto tailOps W 289 (devRef .tc main_v286)⟩ : (s : Shape) × (s.Idx → EReal)), ⟨S1x4x128x256, upto tailOps W 289 (devRef .tc main_v287)⟩, ⟨S1x4x128x256, upto tailOps W 289 (devRef .tc main_v288)⟩, ⟨S1x4x128x256, upto tailOps W 289 (devRef .tc main_v289)⟩, ⟨S1x4x128x256, upto tailOps W 289 (devRef .tc main_v290)⟩, ⟨S1x4x128x256, upto tailOps W 289 (devRef .tc main_v291)⟩, ⟨S1x4x128x256, upto tailOps W 289 (devRef .tc main_v292)⟩, ⟨S1x4x128x256, upto tailOps W 289 (devRef .tc main_v293)⟩, ⟨S1x4x128x256, upto tailOps W 289 (devRef .tc main_v294)⟩, ⟨S1x4x128x256, upto tailOps W 289 (devRef .tc main_v295)⟩, ⟨S1x4x128x256, upto tailOps W 289 (devRef .tc main_v296)⟩, ⟨S1x4x128x256, upto tailOps W 289 (devRef .tc main_v297)⟩, ⟨S1x4x128x256, upto tailOps W 289 (devRef .tc main_v298)⟩, ⟨S1x4x128x256, upto tailOps W 289 (devRef .tc main_v299)⟩, ⟨S1x4x128x256, upto tailOps W 289 (devRef .tc main_v300)⟩, ⟨S1x4x128x256, upto tailOps W 289 (devRef .tc main_v301)⟩] = _
  after_reads_simp [f16, f17, f18, f19, f20, f21, f22, f23, f24, f25, f26, f27, f28, f29, f30, f31]
  rfl

theorem states (h : Fin 4) (n : Fin 32) (b : Fin 256) (a : Fin 128) :
    ent S4x32x256x128 (after tailOps W (devRef .tc main_v305)) (ix4 h n b a) = sW W (n.val + 1) (ix3 h a b) := by
  unfold ent
  after_reads_simp
  rw [lo16, hi16]
  have hn := n.isLt
  unfold cat16
  pointwise
  by_cases h' : n.val < 16
  · exact dif_pos h'
  · exact (dif_neg h').trans (congrArg (fun k => sW W k (ix3 h a b)) (by omega))

/-! ## What the first lines leave -/

theorem head_dec (n : Fin 32) (h : Fin 4) (a : Fin 128) :
    ent S32x4x128 (after headOps W (devRef .tc main_v12)) (ix3 n h a) = Ideal.exp (ent S32x64x4x128 (W (devRef .tc main_v3)) (ix4 n 63 h a)) := by
  unfold ent
  after_reads_at

theorem head_u (n : Fin 32) (h : Fin 4) (a : Fin 128) (b : Fin 256) :
    ent S32x4x128x256 (after headOps W (devRef .tc main_v11)) (ix4 n h a b)
      = ∑ x : Fin 64, ent S32x64x4x128 (W (devRef .tc main_v0)) (ix4 n x h a)
          * Ideal.exp (ent S32x64x4x128 (W (devRef .tc main_v3)) (ix4 n 63 h a) - ent S32x64x4x128 (W (devRef .tc main_v3)) (ix4 n x h a))
          * ent S32x64x4x256 (W (devRef .tc main_v1)) (ix4 n x h b) := by
  unfold ent
  after_reads_at

theorem head_z (i : S4x128x256.Idx) : ent S4x128x256 (after headOps W (devRef .tc main_v13)) i = 0 := by
  unfold ent
  rw [eq_ix3 i]
  after_reads_at

theorem head_b (n : Fin 32) (r : Fin 64) (h : Fin 4) (a : Fin 128) :
    ent S32x64x4x128 (after hostOps0_1 W (devRef .tc main_v3)) (ix4 n r h a)
      = ∑ t : Fin 64, if t ≤ r then ent S32x64x4x128 (W (devRef .tc main_v2)) (ix4 n t h a) else 0 := by
  unfold ent
  after_reads_simp
  simp -implicitDefEqProofs only [StableHlo.TRef.toBuf, StableHlo.TRef.ofBuf, cast_cast, cast_eq]
  exact cumsum4 _ _ (fun i => Ideal.ofBits_zero_f32) _ _ n r h a

theorem head_k (n : Fin 32) (r : Fin 64) (h : Fin 4) (a : Fin 128) :
    ent S32x64x4x128 (after hostOps0 W (devRef .tc main_v0)) (ix4 n r h a)
      = ent S2048x512 (W (devRef .tc main_arg1)) (ix2 ⟨64 * n.val + r.val, by omega⟩ (kc h a)) := by
  unfold ent
  after_reads_at
  exact congrArg _ (congrArg₂ ix2 (row_eq n r _) (kc_eq h a _))

theorem head_v (n : Fin 32) (r : Fin 64) (h : Fin 4) (b : Fin 256) :
    ent S32x64x4x256 (after hostOps0 W (devRef .tc main_v1)) (ix4 n r h b)
      = ent S2048x1024 (W (devRef .tc main_arg2)) (ix2 ⟨64 * n.val + r.val, by omega⟩ (vc h b)) := by
  unfold ent
  after_reads_at
  exact congrArg _ (congrArg₂ ix2 (row_eq n r _) (vc_eq h b _))

theorem head_la (n : Fin 32) (r : Fin 64) (h : Fin 4) (a : Fin 128) :
    ent S32x64x4x128 (after hostOps0 W (devRef .tc main_v2)) (ix4 n r h a)
      = ent S2048x512 (W (devRef .tc main_arg3)) (ix2 ⟨64 * n.val + r.val, by omega⟩ (kc h a)) := by
  unfold ent
  after_reads_at
  exact congrArg _ (congrArg₂ ix2 (row_eq n r _) (kc_eq h a _))

/-! ## The states -/

section Launch

variable (m : (ℓ : Loc nD τ sig) → Buf (Elt Ideal) ℓ) (c : Dev nD)

abbrev X0 : Valuation τ sig (Elt Ideal) := after hostOps0 fun b => m (c, b)
abbrev X1 : Valuation τ sig (Elt Ideal) := after hostOps0_1 (X0 m c)
abbrev X2 : Valuation τ sig (Elt Ideal) := after headOps (X1 m c)

theorem V_eq (b : Ref sig .tc) : V m c b = after tailOps (X2 m c) (devRef .tc b) := by
  show after (hostOps0 ++ (hostOps0_1 ++ (hostOps0_2 ++ []))) _ _ = _
  rw [after_append, after_append, List.append_nil]
  refine (congrArg (fun l => after l (X1 m c) (devRef .tc b)) (List.take_append_drop 11 hostOps0_2).symm).trans ?_
  exact congrFun (after_append _ _ _) _

theorem W1_b (n : Fin 32) (r : Fin 64) (h : Fin 4) (a : Fin 128) :
    ent S32x64x4x128 (X1 m c (devRef .tc main_v3)) (ix4 n r h a) = bsum (LA m c n.val) r (kc h a) := by
  rw [head_b]
  unfold bsum
  refine Finset.sum_congr rfl fun t _ => ?_
  rw [head_la, show LA m c n.val t (kc h a) = _ from chunk_of_lt _ _ _ _ (by omega)]

theorem bsum_last (g : KRows) (j : Fin 512) : bsum g 63 j = bend g j := by
  unfold bsum bend
  exact Finset.sum_congr rfl fun t _ => if_pos (Fin.le_def.2 (by have := t.isLt; show t.val ≤ 63; omega))

theorem W2_dec (n : Fin 32) (h : Fin 4) (a : Fin 128) :
    ent S32x4x128 (X2 m c (devRef .tc main_v12)) (ix3 n h a) = dec (LA m c n.val) (kc h a) := by
  refine (head_dec _ n h a).trans ?_
  rw [W1_b, bsum_last]
  rfl

theorem W2_u (n : Fin 32) (h : Fin 4) (a : Fin 128) (b : Fin 256) :
    ent S32x4x128x256 (X2 m c (devRef .tc main_v11)) (ix4 n h a b) = upd (LA m c n.val) (K m c n.val) (V' m c n.val) h b a := by
  refine (head_u _ n h a b).trans ?_
  unfold upd
  refine Finset.sum_congr rfl fun x _ => ?_
  rw [W1_b, W1_b, bsum_last, show X1 m c (devRef .tc main_v0) = X0 m c (devRef .tc main_v0) by after_reads_simp,
    show X1 m c (devRef .tc main_v1) = X0 m c (devRef .tc main_v1) by after_reads_simp, head_k, head_v, mul_comm]
  unfold kdec wgt
  rw [show V' m c n.val x _ = _ from chunk_of_lt _ _ _ _ (by omega), show K m c n.val x _ = _ from chunk_of_lt _ _ _ _ (by omega)]

theorem sW_st : ∀ n : ℕ, n ≤ 32 → ∀ (h : Fin 4) (a : Fin 128) (b : Fin 256), sW (X2 m c) n (ix3 h a b) = st (LA m c) (K m c) (V' m c) n h b a
  | 0, _, h, a, b => head_z _ _
  | n + 1, hn, h, a, b => by
    show (if h : n < 32 then nx _ _ ⟨n, h⟩ (sW (X2 m c) n) else _ : S4x128x256.Idx → EReal) _ = step _ _ _ _ h b a
    rw [dif_pos (by omega)]
    show ent _ (X2 m c (devRef .tc main_v12)) (ix3 ⟨n, _⟩ h a) * sW (X2 m c) n (ix3 h a b) + ent _ (X2 m c (devRef .tc main_v11)) (ix4 ⟨n, _⟩ h a b) = _
    rw [sW_st n (by omega), W2_dec, W2_u, mul_comm]
    rfl

/-- The states handed to the call are the recurrence's. -/
theorem states_ok : StatesOk m c := fun h n b a =>
  (congrFun (V_eq m c main_v305) _).trans ((states (X2 m c) h n b a).trans (sW_st m c _ n.isLt h a b))

end Launch

end Cert.KernelIdeal.Own
-- ==== Proof.RefSegs.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The stretches of host operations of the backward reference: before, between and after its two loops, and of the
    bodies of the two loops. -/

@[expose] public section

noncomputable section

namespace Cert.ReferenceIdeal.Own

open Cert.ReferenceIdeal Cert.ReferenceIdeal.Gen
open Idealize.ShloMosaic Idealize.ShloMosaic.TcCoe
open Idealize.ShloMosaic.StableHlo (unary binary nullary reshape TRef)
open Idealize.ShloMosaic.StableHlo renaming unary_bufs_sub → unSub, binary_bufs_sub → binSub, nullary_bufs_sub → nulSub, reshape_bufs_sub → reSub
open Idealize.SL Idealize.SL.RA Idealize.SL.BI
open scoped Idealize.SL.BI
open Idealize.SL.BI.BIBase Idealize.SL.Sem

variable {F : FTy → Type} [FloatOps F]

/-- A list of host operations. -/
abbrev Ops (F : FTy → Type) : Type _ := List (HloOp τ sig (Elt F))

/-- An operation works in the device's buffers; an operation writes these buffers only. -/
abbrev bufsIn (op : HloOp τ sig (Elt F)) : Prop := op.bufs ⊆ StableHlo.tcRefs τ sig
abbrev writesIn (W : List (Ref sig .tc)) (op : HloOp τ sig (Elt F)) : Prop := op.writes ⊆ (W.map (Proc.devRef (τ := τ) .tc)).toFinset

/-- The arrays of a shape. -/
abbrev Arr (F : FTy → Type) (s : Shape) : Type := (⟨s, .f32⟩ : BufTy).Contents (Elt F)

/-- A program of the device. -/
abbrev Code (F : FTy → Type) [FloatOps F] : Type 1 := Prog (TpuEff nD τ sig (Elt F) (HostLoop.Sig (Pipeline.Sig Λ₀ (Fin 0) fun p => (pcfgs (F := F) p).Adm) 2) .tc) PUnit

/-! ## The entry function and the two loop bodies as chains of stretches -/

/-- 11 host operations of @main. -/
abbrev hostOps0 : Ops F :=
  [ reshape main_arg0 main_v0 rfl shapeCasts_S2048x512_S1x2048x4x128,
    reshape main_arg1 main_v1 rfl shapeCasts_S2048x512_S1x2048x4x128,
    reshape main_arg2 main_v2 rfl shapeCasts_S2048x1024_S1x2048x4x256,
    reshape main_arg3 main_v3 rfl shapeCasts_S2048x512_S1x2048x4x128,
    reshape main_v0 main_v4 rfl shapeCasts_S1x2048x4x128_S1x32x64x4x128,
    nullary main_cst (constant S_ .f32 0x3DB504F3#32),
    unary main_cst main_v5 (broadcastInDim S1x32x64x4x128 ![] bcast_S_S1x32x64x4x128 : Arr F S_ → Arr F S1x32x64x4x128),
    binary main_v4 main_v5 main_v6 (mulf : Arr F S1x32x64x4x128 → Arr F S1x32x64x4x128 → Arr F S1x32x64x4x128),
    reshape main_v1 main_v7 rfl shapeCasts_S1x2048x4x128_S1x32x64x4x128,
    reshape main_v2 main_v8 rfl shapeCasts_S1x2048x4x256_S1x32x64x4x256,
    reshape main_v3 main_v9 rfl shapeCasts_S1x2048x4x128_S1x32x64x4x128 ]
theorem hostOps0_sub : (hostOps0 : Ops F).Forall bufsIn :=
  ⟨reSub .., reSub .., reSub .., reSub .., reSub .., nulSub .., unSub .., binSub .., reSub .., reSub .., reSub ..⟩
/-- 3 host operations of @cumsum (main_call0). -/
abbrev hostOps0_1 : Ops F :=
  [ TRef.nullary (.of main_call0_call0_cst : TRef sig ⟨S_, .f32⟩) (constant S_ .f32 0x00000000#32),
    TRef.unary (.of main_call0_call0_cst : TRef sig ⟨S_, .f32⟩) (.of main_call0_call0_v0 : TRef sig ⟨S_, .f32⟩) (broadcastInDim S_ ![] bcast_S_S_),
    TRef.binary (.of main_v9 : TRef sig ⟨S1x32x64x4x128, .f32⟩) (.of main_call0_call0_v0 : TRef sig ⟨S_, .f32⟩) (.of main_v10 : TRef sig ⟨S1x32x64x4x128, .f32⟩) (fun x v => Host.reduceWindowAdd ![1, 1, 64, 1, 1] ![1, 1, 1, 1, 1] ![0, 0, 63, 0, 0] ![0, 0, 0, 0, 0] x v reduceWindows_S1x32x64x4x128_S1x32x64x4x128_w1s1p0_0_w1s1p0_0_w64s1p63_0_w1s1p0_0_w1s1p0_0 h_S_) ]
theorem hostOps0_1_sub : (hostOps0_1 : Ops F).Forall bufsIn :=
  ⟨nulSub .., unSub .., binSub ..⟩
/-- 27 host operations of @main. -/
abbrev hostOps0_2 : Ops F :=
  [ unary main_v10 main_v11 ((extractStridedSlice S1x32x1x4x128 ![0, 0, 63, 0, 0] · slices_S1x32x64x4x128_S1x32x1x4x128_0_0_63_0_0) : Arr F S1x32x64x4x128 → Arr F S1x32x1x4x128),
    reshape main_v11 main_v12 rfl shapeCasts_S1x32x1x4x128_S1x32x4x128,
    unary main_v12 main_v13 (broadcastInDim S1x32x1x4x128 ![0, 1, 3, 4] bcast_S1x32x4x128_S1x32x1x4x128_0_1_3_4 : Arr F S1x32x4x128 → Arr F S1x32x1x4x128),
    unary main_v13 main_v14 (broadcastInDim S1x32x64x4x128 ![0, 1, 2, 3, 4] bcast_S1x32x1x4x128_S1x32x64x4x128_0_1_2_3_4 : Arr F S1x32x1x4x128 → Arr F S1x32x64x4x128),
    binary main_v14 main_v10 main_v15 (subf : Arr F S1x32x64x4x128 → Arr F S1x32x64x4x128 → Arr F S1x32x64x4x128),
    unary main_v15 main_v16 (Host.exp : Arr F S1x32x64x4x128 → Arr F S1x32x64x4x128),
    binary main_v7 main_v16 main_v17 (mulf : Arr F S1x32x64x4x128 → Arr F S1x32x64x4x128 → Arr F S1x32x64x4x128),
    binary main_v17 main_v8 main_v18 ((fun l r => Host.dotGeneral dot_S1x32x64x4x128_S1x32x64x4x256_S1x32x4x128x256_2_2_4_4_013_013 none l r) : Arr F S1x32x64x4x128 → Arr F S1x32x64x4x256 → Arr F S1x32x4x128x256),
    unary main_v12 main_v19 (Host.exp : Arr F S1x32x4x128 → Arr F S1x32x4x128),
    nullary main_cst_0 (constant S_ .f32 0x00000000#32),
    unary main_cst_0 main_v20 (broadcastInDim S1x4x128x256 ![] bcast_S_S1x4x128x256 : Arr F S_ → Arr F S1x4x128x256),
    unary main_v19 main_v21 ((transpose S32x1x4x128 [1, 0, 2, 3] · transposes_S1x32x4x128_S32x1x4x128_1_0_2_3) : Arr F S1x32x4x128 → Arr F S32x1x4x128),
    unary main_v18 main_v22 ((transpose S32x1x4x128x256 [1, 0, 2, 3, 4] · transposes_S1x32x4x128x256_S32x1x4x128x256_1_0_2_3_4) : Arr F S1x32x4x128x256 → Arr F S32x1x4x128x256),
    nullary main_cst_1 (constant S_ .f32 0x00000000#32),
    unary main_cst_1 main_v23 (broadcastInDim S32x1x4x128x256 ![] bcast_S_S32x1x4x128x256 : Arr F S_ → Arr F S32x1x4x128x256),
    nullary main_cst_2 (constant S_ .f32 0x00000000#32),
    unary main_cst_2 main_v24 (broadcastInDim S32x1x4x128x256 ![] bcast_S_S32x1x4x128x256 : Arr F S_ → Arr F S32x1x4x128x256),
    nullary main_cst_3 (constant S_ .f32 0x00000000#32),
    unary main_cst_3 main_v25 (broadcastInDim S32x1x4x128x1 ![] bcast_S_S32x1x4x128x1 : Arr F S_ → Arr F S32x1x4x128x1),
    nullary main_c (constantI S_ 32 0#32),
    unary main_v21 main_v26_0 id,
    unary main_v22 main_v26_1 id,
    unary main_c main_v26_2 id,
    unary main_v20 main_v26_3 id,
    unary main_v23 main_v26_4 id,
    unary main_v24 main_v26_5 id,
    unary main_v25 main_v26_6 id ]
theorem hostOps0_2_sub : (hostOps0_2 : Ops F).Forall bufsIn :=
  ⟨unSub .., reSub .., unSub .., unSub .., binSub .., unSub .., binSub .., binSub .., unSub .., nulSub .., unSub .., unSub .., unSub .., nulSub .., unSub .., nulSub .., unSub .., nulSub .., unSub .., nulSub .., unSub .., unSub .., unSub .., unSub .., unSub .., unSub .., unSub ..⟩
/-- 29 host operations of @main. -/
abbrev hostOps0_3 : Ops F :=
  [ unary main_v26_4 main_v27 ((transpose S1x32x4x128x256 [1, 0, 2, 3, 4] · transposes_S32x1x4x128x256_S1x32x4x128x256_1_0_2_3_4) : Arr F S32x1x4x128x256 → Arr F S1x32x4x128x256),
    binary main_v27 main_v6 main_v28 ((fun l r => Host.dotGeneral dot_S1x32x4x128x256_S1x32x64x4x128_S1x32x4x256x64_3_4_4_2_012_013 none l r) : Arr F S1x32x4x128x256 → Arr F S1x32x64x4x128 → Arr F S1x32x4x256x64),
    unary main_v28 main_v29 ((transpose S1x32x64x4x256 [0, 1, 4, 2, 3] · transposes_S1x32x4x256x64_S1x32x64x4x256_0_1_4_2_3) : Arr F S1x32x4x256x64 → Arr F S1x32x64x4x256),
    reshape main_v29 main_v30 rfl shapeCasts_S1x32x64x4x256_S1x2048x4x256,
    reshape main_v30 main_v31 rfl shapeCasts_S1x2048x4x256_S2048x1024,
    nullary main_cst_4 (constant S_ .f32 0x00000000#32),
    unary main_cst_4 main_v32 (broadcastInDim S1x4x128x256 ![] bcast_S_S1x4x128x256 : Arr F S_ → Arr F S1x4x128x256),
    reshape main_arg4 main_v33 rfl shapeCasts_S2048x1024_S1x2048x4x256,
    reshape main_v33 main_v34 rfl shapeCasts_S1x2048x4x256_S1x32x64x4x256,
    unary main_v34 main_v35 ((transpose S1x32x4x256x64 [0, 1, 3, 4, 2] · transposes_S1x32x64x4x256_S1x32x4x256x64_0_1_3_4_2) : Arr F S1x32x64x4x256 → Arr F S1x32x4x256x64),
    binary main_v35 main_v27 main_v36 ((fun l r => Host.dotGeneral dot_S1x32x4x256x64_S1x32x4x128x256_S1x32x4x64x128_3_4_4_3_012_012 none l r) : Arr F S1x32x4x256x64 → Arr F S1x32x4x128x256 → Arr F S1x32x4x64x128),
    unary main_v36 main_v37 ((transpose S1x32x64x4x128 [0, 1, 3, 2, 4] · transposes_S1x32x4x64x128_S1x32x64x4x128_0_1_3_2_4) : Arr F S1x32x4x64x128 → Arr F S1x32x64x4x128),
    binary main_v35 main_v6 main_v38 ((fun l r => Host.dotGeneral dot_S1x32x4x256x64_S1x32x64x4x128_S1x32x4x256x128_4_2_3_4_012_013 none l r) : Arr F S1x32x4x256x64 → Arr F S1x32x64x4x128 → Arr F S1x32x4x256x128),
    unary main_v38 main_v39 ((transpose S1x32x4x128x256 [0, 1, 2, 4, 3] · transposes_S1x32x4x256x128_S1x32x4x128x256_0_1_2_4_3) : Arr F S1x32x4x256x128 → Arr F S1x32x4x128x256),
    unary main_v39 main_v40 ((transpose S32x1x4x128x256 [1, 0, 2, 3, 4] · transposes_S1x32x4x128x256_S32x1x4x128x256_1_0_2_3_4) : Arr F S1x32x4x128x256 → Arr F S32x1x4x128x256),
    nullary main_cst_5 (constant S_ .f32 0x00000000#32),
    unary main_cst_5 main_v41 (broadcastInDim S1x4x128x256 ![] bcast_S_S1x4x128x256 : Arr F S_ → Arr F S1x4x128x256),
    nullary main_cst_6 (constant S_ .f32 0x00000000#32),
    unary main_cst_6 main_v42 (broadcastInDim S32x1x4x128 ![] bcast_S_S32x1x4x128 : Arr F S_ → Arr F S32x1x4x128),
    nullary main_cst_7 (constant S_ .f32 0x00000000#32),
    unary main_cst_7 main_v43 (broadcastInDim S32x1x4x128x256 ![] bcast_S_S32x1x4x128x256 : Arr F S_ → Arr F S32x1x4x128x256),
    nullary main_c_8 (constantI S_ 32 0#32),
    unary main_v40 main_v44_0 id,
    unary main_v26_5 main_v44_1 id,
    unary main_v26_6 main_v44_2 id,
    unary main_c_8 main_v44_3 id,
    unary main_v41 main_v44_4 id,
    unary main_v42 main_v44_5 id,
    unary main_v43 main_v44_6 id ]
theorem hostOps0_3_sub : (hostOps0_3 : Ops F).Forall bufsIn :=
  ⟨unSub .., binSub .., unSub .., reSub .., reSub .., nulSub .., unSub .., reSub .., reSub .., unSub .., binSub .., unSub .., binSub .., unSub .., unSub .., nulSub .., unSub .., nulSub .., unSub .., nulSub .., unSub .., nulSub .., unSub .., unSub .., unSub .., unSub .., unSub .., unSub .., unSub ..⟩
/-- 22 host operations of @main. -/
abbrev hostOps0_4 : Ops F :=
  [ unary main_v44_6 main_v45 ((transpose S1x32x4x128x256 [1, 0, 2, 3, 4] · transposes_S32x1x4x128x256_S1x32x4x128x256_1_0_2_3_4) : Arr F S32x1x4x128x256 → Arr F S1x32x4x128x256),
    unary main_v44_5 main_v46 ((transpose S1x32x4x128 [1, 0, 2, 3] · transposes_S32x1x4x128_S1x32x4x128_1_0_2_3) : Arr F S32x1x4x128 → Arr F S1x32x4x128),
    binary main_v46 main_v19 main_v47 (mulf : Arr F S1x32x4x128 → Arr F S1x32x4x128 → Arr F S1x32x4x128),
    binary main_v45 main_v17 main_v48 ((fun l r => Host.dotGeneral dot_S1x32x4x128x256_S1x32x64x4x128_S1x32x4x256x64_3_4_4_2_012_013 none l r) : Arr F S1x32x4x128x256 → Arr F S1x32x64x4x128 → Arr F S1x32x4x256x64),
    unary main_v48 main_v49 ((transpose S1x32x64x4x256 [0, 1, 4, 2, 3] · transposes_S1x32x4x256x64_S1x32x64x4x256_0_1_4_2_3) : Arr F S1x32x4x256x64 → Arr F S1x32x64x4x256),
    binary main_v45 main_v8 main_v50 ((fun l r => Host.dotGeneral dot_S1x32x4x128x256_S1x32x64x4x256_S1x32x4x128x64_4_4_3_2_012_013 none l r) : Arr F S1x32x4x128x256 → Arr F S1x32x64x4x256 → Arr F S1x32x4x128x64),
    unary main_v50 main_v51 ((transpose S1x32x64x4x128 [0, 1, 4, 2, 3] · transposes_S1x32x4x128x64_S1x32x64x4x128_0_1_4_2_3) : Arr F S1x32x4x128x64 → Arr F S1x32x64x4x128),
    binary main_v7 main_v51 main_v52 (mulf : Arr F S1x32x64x4x128 → Arr F S1x32x64x4x128 → Arr F S1x32x64x4x128),
    binary main_v51 main_v16 main_v53 (mulf : Arr F S1x32x64x4x128 → Arr F S1x32x64x4x128 → Arr F S1x32x64x4x128),
    binary main_v52 main_v16 main_v54 (mulf : Arr F S1x32x64x4x128 → Arr F S1x32x64x4x128 → Arr F S1x32x64x4x128),
    nullary main_cst_9 (constant S_ .f32 0x00000000#32),
    binary main_v54 main_cst_9 main_v55 ((fun x v => Host.reduceAdd x v reducesTo_S1x32x64x4x128_S1x32x4x128_d2 h_S_) : Arr F S1x32x64x4x128 → Arr F S_ → Arr F S1x32x4x128),
    reshape main_v55 main_v56 rfl shapeCasts_S1x32x4x128_S1x32x1x4x128,
    unary main_v54 main_v57 (Host.negf : Arr F S1x32x64x4x128 → Arr F S1x32x64x4x128),
    nullary main_cst_10 (constant S_ .f32 0x00000000#32),
    binary main_v56 main_cst_10 main_v58 ((fun x v => Host.reduceAdd x v reducesTo_S1x32x1x4x128_S32x4x128_d0_2 h_S_) : Arr F S1x32x1x4x128 → Arr F S_ → Arr F S32x4x128),
    unary main_v58 main_v59 (broadcastInDim S1x32x4x128 ![1, 2, 3] bcast_S32x4x128_S1x32x4x128_1_2_3 : Arr F S32x4x128 → Arr F S1x32x4x128),
    binary main_v47 main_v59 main_v60 (addf : Arr F S1x32x4x128 → Arr F S1x32x4x128 → Arr F S1x32x4x128),
    unary main_v60 main_v61 (broadcastInDim S1x32x1x4x128 ![0, 1, 3, 4] bcast_S1x32x4x128_S1x32x1x4x128_0_1_3_4 : Arr F S1x32x4x128 → Arr F S1x32x1x4x128),
    nullary main_cst_11 (constant S_ .f32 0x00000000#32),
    binary main_v61 main_cst_11 main_v62 ((fun x v => pad S1x32x64x4x128 ![0, 0, 63, 0, 0] ![0, 0, 0, 0, 0] ![0, 0, 0, 0, 0] x v pads_S1x32x1x4x128_S1x32x64x4x128_000_000_6300_000_000 h_S_) : Arr F S1x32x1x4x128 → Arr F S_ → Arr F S1x32x64x4x128),
    binary main_v57 main_v62 main_v63 (addf : Arr F S1x32x64x4x128 → Arr F S1x32x64x4x128 → Arr F S1x32x64x4x128) ]
theorem hostOps0_4_sub : (hostOps0_4 : Ops F).Forall bufsIn :=
  ⟨unSub .., unSub .., binSub .., binSub .., unSub .., binSub .., unSub .., binSub .., binSub .., binSub .., nulSub .., binSub .., reSub .., unSub .., nulSub .., binSub .., unSub .., binSub .., unSub .., nulSub .., binSub .., binSub ..⟩
/-- 3 host operations of @cumsum_5 (main_call11). -/
abbrev hostOps0_5 : Ops F :=
  [ TRef.nullary (.of main_call11_call0_cst : TRef sig ⟨S_, .f32⟩) (constant S_ .f32 0x00000000#32),
    TRef.unary (.of main_call11_call0_cst : TRef sig ⟨S_, .f32⟩) (.of main_call11_call0_v0 : TRef sig ⟨S_, .f32⟩) (broadcastInDim S_ ![] bcast_S_S_),
    TRef.binary (.of main_v63 : TRef sig ⟨S1x32x64x4x128, .f32⟩) (.of main_call11_call0_v0 : TRef sig ⟨S_, .f32⟩) (.of main_v64 : TRef sig ⟨S1x32x64x4x128, .f32⟩) (fun x v => Host.reduceWindowAdd ![1, 1, 64, 1, 1] ![1, 1, 1, 1, 1] ![0, 0, 0, 0, 0] ![0, 0, 63, 0, 0] x v reduceWindows_S1x32x64x4x128_S1x32x64x4x128_w1s1p0_0_w1s1p0_0_w64s1p0_63_w1s1p0_0_w1s1p0_0 h_S_) ]
theorem hostOps0_5_sub : (hostOps0_5 : Ops F).Forall bufsIn :=
  ⟨nulSub .., unSub .., binSub ..⟩
/-- 11 host operations of @main. -/
abbrev hostOps0_6 : Ops F :=
  [ reshape main_v64 main_v65 rfl shapeCasts_S1x32x64x4x128_S1x2048x4x128,
    reshape main_v49 main_v66 rfl shapeCasts_S1x32x64x4x256_S1x2048x4x256,
    reshape main_v53 main_v67 rfl shapeCasts_S1x32x64x4x128_S1x2048x4x128,
    nullary main_cst_12 (constant S_ .f32 0x3DB504F3#32),
    unary main_cst_12 main_v68 (broadcastInDim S1x32x64x4x128 ![] bcast_S_S1x32x64x4x128 : Arr F S_ → Arr F S1x32x64x4x128),
    binary main_v37 main_v68 main_v69 (mulf : Arr F S1x32x64x4x128 → Arr F S1x32x64x4x128 → Arr F S1x32x64x4x128),
    reshape main_v69 main_v70 rfl shapeCasts_S1x32x64x4x128_S1x2048x4x128,
    reshape main_v65 main_v71 rfl shapeCasts_S1x2048x4x128_S2048x512,
    reshape main_v66 main_v72 rfl shapeCasts_S1x2048x4x256_S2048x1024,
    reshape main_v67 main_v73 rfl shapeCasts_S1x2048x4x128_S2048x512,
    reshape main_v70 main_v74 rfl shapeCasts_S1x2048x4x128_S2048x512 ]
theorem hostOps0_6_sub : (hostOps0_6 : Ops F).Forall bufsIn :=
  ⟨reSub .., reSub .., reSub .., nulSub .., unSub .., binSub .., reSub .., reSub .., reSub .., reSub .., reSub ..⟩
/-- The stretch between the loops, cut where the first part of the entry function ends. -/
abbrev midA : Ops F := hostOps0_3.take 20
abbrev midB : Ops F := hostOps0_3.drop 20

/-- The first part of the entry function, as a chain. -/
theorem main_part0_chain (c : Dev nD) : main_part0 (F := F) c = (Pipeline.chainK
  [ StableHlo.seq hostOps0,
    StableHlo.seq hostOps0_1,
    StableHlo.seq hostOps0_2,
    HostLoop.enter 0 ]
  (StableHlo.seq midA) : Code F) := by
  rewrite [StableHlo.chainK_seq_cons, Pipeline.chainK_cons, StableHlo.chainK_seq_cons, Pipeline.chainK_cons]
  chain_rfl

/-- The second part of the entry function, as a chain. -/
theorem main_part1_chain (c : Dev nD) : main_part1 (F := F) c = (Pipeline.chain
  [ StableHlo.seq midB,
    HostLoop.enter 1,
    StableHlo.seq hostOps0_4,
    StableHlo.seq hostOps0_5,
    StableHlo.seq hostOps0_6 ] : Code F) := by
  rewrite [StableHlo.chain_seq_cons, Pipeline.chain_cons, StableHlo.chain_seq_cons, Pipeline.chain_cons, StableHlo.chain_seq_cons]
  chain_rfl

/-- The two parts one after the other. -/
theorem main_chain_windows (c : Dev nD) : main (F := F) c = (Pipeline.chain
  [ StableHlo.seq hostOps0,
    StableHlo.seq hostOps0_1,
    StableHlo.seq hostOps0_2,
    HostLoop.enter 0,
    StableHlo.seq midA,
    StableHlo.seq midB,
    HostLoop.enter 1,
    StableHlo.seq hostOps0_4,
    StableHlo.seq hostOps0_5,
    StableHlo.seq hostOps0_6 ] : Code F) := by
  show (main_part0 (F := F) c >>= fun _ => main_part1 (F := F) c) = _
  rewrite [main_part1_chain, main_part0_chain, Pipeline.chainK_bind_chain]
  chain_rfl

/-- The stretches with the pieces the two parts cut them into. -/
abbrev main_groups (c : Dev nD) : List (StableHlo.Group nD τ sig (Elt F) (HostLoop.Sig (Pipeline.Sig Λ₀ (Fin 0) fun p => (pcfgs (F := F) p).Adm) 2)) :=
  [ .ops [hostOps0],
    .ops [hostOps0_1],
    .ops [hostOps0_2],
    .prog (HostLoop.enter 0),
    .ops [midA, midB],
    .prog (HostLoop.enter 1),
    .ops [hostOps0_4],
    .ops [hostOps0_5],
    .ops [hostOps0_6] ]

/-- The pieces, listed. -/
theorem main_chain_cut (c : Dev nD) : (Pipeline.chain
  [ StableHlo.seq hostOps0,
    StableHlo.seq hostOps0_1,
    StableHlo.seq hostOps0_2,
    HostLoop.enter 0,
    StableHlo.seq midA,
    StableHlo.seq midB,
    HostLoop.enter 1,
    StableHlo.seq hostOps0_4,
    StableHlo.seq hostOps0_5,
    StableHlo.seq hostOps0_6 ] : Code F) = Pipeline.chain ((main_groups (F := F) c).flatMap StableHlo.Group.cut) := by
  chain_rfl

/-- The pieces, joined. -/
theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3,
    HostLoop.enter 1,
    StableHlo.seq hostOps0_4,
    StableHlo.seq hostOps0_5,
    StableHlo.seq hostOps0_6 ] : Code F) := by
  chain_rfl

/-- `main` is the chain of its stretches and loops. -/
theorem main_chain (c : Dev nD) : main (F := F) c = (Pipeline.chain
  [ StableHlo.seq hostOps0,
    StableHlo.seq hostOps0_1,
    StableHlo.seq hostOps0_2,
    HostLoop.enter 0,
    StableHlo.seq hostOps0_3,
    HostLoop.enter 1,
    StableHlo.seq hostOps0_4,
    StableHlo.seq hostOps0_5,
    StableHlo.seq hostOps0_6 ] : Code F) :=
  (main_chain_windows (F := F) c).trans <| (main_chain_cut (F := F) c).trans <|
    (StableHlo.chain_cut_eq_whole (main_groups (F := F) c)).trans (main_chain_whole (F := F) c)

/-- 5 host operations of @dynamic_index_in_dim (main_while0b_call1). -/
abbrev while0Ops0 : Ops F :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v26_0 : TRef sig ⟨S32x1x4x128, .f32⟩) ![(.of main_v26_2 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x1x4x128, .f32⟩) (fun x i => Host.dynamicSlice S1x1x4x128 x (fun k => (i k (Shape.Idx.first h_S_)).toInt) sliceFits_S32x1x4x128_S1x1x4x128),
    TRef.reshape (.of main_while0b_call1_v0 : TRef sig ⟨S1x1x4x128, .f32⟩) (.of main_while0b_v75 : TRef sig ⟨S1x4x128, .f32⟩) rfl shapeCasts_S1x1x4x128_S1x4x128 ]
theorem while0Ops0_sub : (while0Ops0 : Ops F).Forall bufsIn :=
  ⟨nulSub .., nulSub .., nulSub .., StableHlo.unaryIndexed_bufs_sub .., reSub ..⟩
/-- 6 host operations of @dynamic_index_in_dim_1 (main_while0b_call2). -/
abbrev while0Ops0_1 : Ops F :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v26_1 : TRef sig ⟨S32x1x4x128x256, .f32⟩) ![(.of main_v26_2 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x4x128x256, .f32⟩) (fun x i => Host.dynamicSlice S1x1x4x128x256 x (fun k => (i k (Shape.Idx.first h_S_)).toInt) sliceFits_S32x1x4x128x256_S1x1x4x128x256),
    TRef.reshape (.of main_while0b_call2_v0 : TRef sig ⟨S1x1x4x128x256, .f32⟩) (.of main_while0b_v76 : TRef sig ⟨S1x4x128x256, .f32⟩) rfl shapeCasts_S1x1x4x128x256_S1x4x128x256 ]
theorem while0Ops0_1_sub : (while0Ops0_1 : Ops F).Forall bufsIn :=
  ⟨nulSub .., nulSub .., nulSub .., nulSub .., StableHlo.unaryIndexed_bufs_sub .., reSub ..⟩
/-- 4 host operations of host loop 0's body region. -/
abbrev while0Ops0_2 : Ops F :=
  [ unary main_while0b_v75 main_while0b_v77 (broadcastInDim S1x4x128x1 ![0, 1, 2] bcast_S1x4x128_S1x4x128x1_0_1_2 : Arr F S1x4x128 → Arr F S1x4x128x1),
    unary main_while0b_v77 main_while0b_v78 (broadcastInDim S1x4x128x256 ![0, 1, 2, 3] bcast_S1x4x128x1_S1x4x128x256_0_1_2_3 : Arr F S1x4x128x1 → Arr F S1x4x128x256),
    binary main_while0b_v78 main_v26_3 main_while0b_v79 (mulf : Arr F S1x4x128x256 → Arr F S1x4x128x256 → Arr F S1x4x128x256),
    binary main_while0b_v79 main_while0b_v76 main_while0b_v80 (addf : Arr F S1x4x128x256 → Arr F S1x4x128x256 → Arr F S1x4x128x256) ]
theorem while0Ops0_2_sub : (while0Ops0_2 : Ops F).Forall bufsIn :=
  ⟨unSub .., unSub .., binSub .., binSub ..⟩
/-- 6 host operations of @dynamic_update_index_in_dim (main_while0b_call3). -/
abbrev while0Ops0_3 : Ops F :=
  [ TRef.unary (.of main_while0b_v80 : TRef sig ⟨S1x4x128x256, .f32⟩) (.of main_while0b_call3_v0 : TRef sig ⟨S1x1x4x128x256, .f32⟩) (broadcastInDim S1x1x4x128x256 ![1, 2, 3, 4] bcast_S1x4x128x256_S1x1x4x128x256_1_2_3_4),
    TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.binaryIndexed (.of main_v26_4 : TRef sig ⟨S32x1x4x128x256, .f32⟩) (.of main_while0b_call3_v0 : TRef sig ⟨S1x1x4x128x256, .f32⟩) ![(.of main_v26_2 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_v81 : TRef sig ⟨S32x1x4x128x256, .f32⟩) (fun x u i => Host.dynamicUpdateSlice x u (fun k => (i k (Shape.Idx.first h_S_)).toInt) updateFits_S32x1x4x128x256_S1x1x4x128x256) ]
theorem while0Ops0_3_sub : (while0Ops0_3 : Ops F).Forall bufsIn :=
  ⟨unSub .., nulSub .., nulSub .., nulSub .., nulSub .., StableHlo.binaryIndexed_bufs_sub ..⟩
/-- 6 host operations of @dynamic_update_index_in_dim (main_while0b_call4). -/
abbrev while0Ops0_4 : Ops F :=
  [ TRef.unary (.of main_v26_3 : TRef sig ⟨S1x4x128x256, .f32⟩) (.of main_while0b_call4_v0 : TRef sig ⟨S1x1x4x128x256, .f32⟩) (broadcastInDim S1x1x4x128x256 ![1, 2, 3, 4] bcast_S1x4x128x256_S1x1x4x128x256_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v26_5 : TRef sig ⟨S32x1x4x128x256, .f32⟩) (.of main_while0b_call4_v0 : TRef sig ⟨S1x1x4x128x256, .f32⟩) ![(.of main_v26_2 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v82 : TRef sig ⟨S32x1x4x128x256, .f32⟩) (fun x u i => Host.dynamicUpdateSlice x u (fun k => (i k (Shape.Idx.first h_S_)).toInt) updateFits_S32x1x4x128x256_S1x1x4x128x256) ]
theorem while0Ops0_4_sub : (while0Ops0_4 : Ops F).Forall bufsIn :=
  ⟨unSub .., nulSub .., nulSub .., nulSub .., nulSub .., StableHlo.binaryIndexed_bufs_sub ..⟩
/-- 6 host operations of @dynamic_update_index_in_dim_2 (main_while0b_call5). -/
abbrev while0Ops0_5 : Ops F :=
  [ TRef.unary (.of main_while0b_v77 : TRef sig ⟨S1x4x128x1, .f32⟩) (.of main_while0b_call5_v0 : TRef sig ⟨S1x1x4x128x1, .f32⟩) (broadcastInDim S1x1x4x128x1 ![1, 2, 3, 4] bcast_S1x4x128x1_S1x1x4x128x1_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v26_6 : TRef sig ⟨S32x1x4x128x1, .f32⟩) (.of main_while0b_call5_v0 : TRef sig ⟨S1x1x4x128x1, .f32⟩) ![(.of main_v26_2 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v83 : TRef sig ⟨S32x1x4x128x1, .f32⟩) (fun x u i => Host.dynamicUpdateSlice x u (fun k => (i k (Shape.Idx.first h_S_)).toInt) updateFits_S32x1x4x128x1_S1x1x4x128x1) ]
theorem while0Ops0_5_sub : (while0Ops0_5 : Ops F).Forall bufsIn :=
  ⟨unSub .., nulSub .., nulSub .., nulSub .., nulSub .., StableHlo.binaryIndexed_bufs_sub ..⟩
/-- 7 host operations of host loop 0's body region. -/
abbrev while0Ops0_6 : Ops F :=
  [ nullary main_while0b_c_19 (constantI S_ 32 1#32),
    binary main_v26_2 main_while0b_c_19 main_while0b_v84 (addi : (⟨S_, .i32⟩ : BufTy).Contents (Elt F) → (⟨S_, .i32⟩ : BufTy).Contents (Elt F) → (⟨S_, .i32⟩ : BufTy).Contents (Elt F)),
    unary main_while0b_v84 main_v26_2 id,
    unary main_while0b_v80 main_v26_3 id,
    unary main_while0b_v81 main_v26_4 id,
    unary main_while0b_v82 main_v26_5 id,
    unary main_while0b_v83 main_v26_6 id ]
theorem while0Ops0_6_sub : (while0Ops0_6 : Ops F).Forall bufsIn :=
  ⟨nulSub .., binSub .., unSub .., unSub .., unSub .., unSub .., unSub ..⟩
/-- `main_while0_body` is the chain of its stretches and loops. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Code F) := by
  rewrite [Pipeline.chain_cons, Pipeline.chain_cons, StableHlo.chain_seq_cons, Pipeline.chain_cons, Pipeline.chain_cons, Pipeline.chain_cons, StableHlo.chain_seq_cons]
  chain_rfl

/-- 4 host operations of host loop 1's body region. -/
abbrev while1Ops0 : Ops F :=
  [ nullary main_while1b_c_19 (constantI S_ 32 32#32),
    binary main_while1b_c_19 main_v44_3 main_while1b_v75 (subi : (⟨S_, .i32⟩ : BufTy).Contents (Elt F) → (⟨S_, .i32⟩ : BufTy).Contents (Elt F) → (⟨S_, .i32⟩ : BufTy).Contents (Elt F)),
    nullary main_while1b_c_20 (constantI S_ 32 1#32),
    binary main_while1b_v75 main_while1b_c_20 main_while1b_v76 (subi : (⟨S_, .i32⟩ : BufTy).Contents (Elt F) → (⟨S_, .i32⟩ : BufTy).Contents (Elt F) → (⟨S_, .i32⟩ : BufTy).Contents (Elt F)) ]
theorem while1Ops0_sub : (while1Ops0 : Ops F).Forall bufsIn :=
  ⟨nulSub .., binSub .., nulSub .., binSub ..⟩
/-- 6 host operations of @dynamic_index_in_dim_1 (main_while1b_call6). -/
abbrev while1Ops0_1 : Ops F :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.nullary (.of main_while1b_call6_c_1 : TRef sig ⟨S_, .i32⟩) (constantI S_ 32 0#32),
    TRef.nullary (.of main_while1b_call6_c_2 : TRef sig ⟨S_, .i32⟩) (constantI S_ 32 0#32),
    TRef.unaryIndexed (.of main_v44_0 : TRef sig ⟨S32x1x4x128x256, .f32⟩) ![(.of main_while1b_v76 : TRef sig ⟨S_, .i32⟩), (.of main_while1b_call6_c : TRef sig ⟨S_, .i32⟩), (.of main_while1b_call6_c_0 : TRef sig ⟨S_, .i32⟩), (.of main_while1b_call6_c_1 : TRef sig ⟨S_, .i32⟩), (.of main_while1b_call6_c_2 : TRef sig ⟨S_, .i32⟩)] (.of main_while1b_call6_v0 : TRef sig ⟨S1x1x4x128x256, .f32⟩) (fun x i => Host.dynamicSlice S1x1x4x128x256 x (fun k => (i k (Shape.Idx.first h_S_)).toInt) sliceFits_S32x1x4x128x256_S1x1x4x128x256),
    TRef.reshape (.of main_while1b_call6_v0 : TRef sig ⟨S1x1x4x128x256, .f32⟩) (.of main_while1b_v77 : TRef sig ⟨S1x4x128x256, .f32⟩) rfl shapeCasts_S1x1x4x128x256_S1x4x128x256 ]
theorem while1Ops0_1_sub : (while1Ops0_1 : Ops F).Forall bufsIn :=
  ⟨nulSub .., nulSub .., nulSub .., nulSub .., StableHlo.unaryIndexed_bufs_sub .., reSub ..⟩
/-- 6 host operations of @dynamic_index_in_dim_1 (main_while1b_call7). -/
abbrev while1Ops0_2 : Ops F :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v44_1 : TRef sig ⟨S32x1x4x128x256, .f32⟩) ![(.of main_while1b_v76 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x1x4x128x256, .f32⟩) (fun x i => Host.dynamicSlice S1x1x4x128x256 x (fun k => (i k (Shape.Idx.first h_S_)).toInt) sliceFits_S32x1x4x128x256_S1x1x4x128x256),
    TRef.reshape (.of main_while1b_call7_v0 : TRef sig ⟨S1x1x4x128x256, .f32⟩) (.of main_while1b_v78 : TRef sig ⟨S1x4x128x256, .f32⟩) rfl shapeCasts_S1x1x4x128x256_S1x4x128x256 ]
theorem while1Ops0_2_sub : (while1Ops0_2 : Ops F).Forall bufsIn :=
  ⟨nulSub .., nulSub .., nulSub .., nulSub .., StableHlo.unaryIndexed_bufs_sub .., reSub ..⟩
/-- 6 host operations of @dynamic_index_in_dim_3 (main_while1b_call8). -/
abbrev while1Ops0_3 : Ops F :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v44_2 : TRef sig ⟨S32x1x4x128x1, .f32⟩) ![(.of main_while1b_v76 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x4x128x1, .f32⟩) (fun x i => Host.dynamicSlice S1x1x4x128x1 x (fun k => (i k (Shape.Idx.first h_S_)).toInt) sliceFits_S32x1x4x128x1_S1x1x4x128x1),
    TRef.reshape (.of main_while1b_call8_v0 : TRef sig ⟨S1x1x4x128x1, .f32⟩) (.of main_while1b_v79 : TRef sig ⟨S1x4x128x1, .f32⟩) rfl shapeCasts_S1x1x4x128x1_S1x4x128x1 ]
theorem while1Ops0_3_sub : (while1Ops0_3 : Ops F).Forall bufsIn :=
  ⟨nulSub .., nulSub .., nulSub .., nulSub .., StableHlo.unaryIndexed_bufs_sub .., reSub ..⟩
/-- 10 host operations of host loop 1's body region. -/
abbrev while1Ops0_4 : Ops F :=
  [ binary main_v44_4 main_while1b_v77 main_while1b_v80 (addf : Arr F S1x4x128x256 → Arr F S1x4x128x256 → Arr F S1x4x128x256),
    unary main_while1b_v79 main_while1b_v81 (broadcastInDim S1x4x128x256 ![0, 1, 2, 3] bcast_S1x4x128x1_S1x4x128x256_0_1_2_3 : Arr F S1x4x128x1 → Arr F S1x4x128x256),
    binary main_while1b_v81 main_while1b_v80 main_while1b_v82 (mulf : Arr F S1x4x128x256 → Arr F S1x4x128x256 → Arr F S1x4x128x256),
    binary main_while1b_v80 main_while1b_v78 main_while1b_v83 (mulf : Arr F S1x4x128x256 → Arr F S1x4x128x256 → Arr F S1x4x128x256),
    nullary main_while1b_cst_21 (constant S_ .f32 0x00000000#32),
    binary main_while1b_v83 main_while1b_cst_21 main_while1b_v84 ((fun x v => Host.reduceAdd x v reducesTo_S1x4x128x256_S1x4x128_d3 h_S_) : Arr F S1x4x128x256 → Arr F S_ → Arr F S1x4x128),
    reshape main_while1b_v84 main_while1b_v85 rfl shapeCasts_S1x4x128_S1x4x128x1,
    nullary main_while1b_cst_22 (constant S_ .f32 0x00000000#32),
    binary main_while1b_v85 main_while1b_cst_22 main_while1b_v86 ((fun x v => Host.reduceAdd x v reducesTo_S1x4x128x1_S4x128_d0_3 h_S_) : Arr F S1x4x128x1 → Arr F S_ → Arr F S4x128),
    unary main_while1b_v86 main_while1b_v87 (broadcastInDim S1x4x128 ![1, 2] bcast_S4x128_S1x4x128_1_2 : Arr F S4x128 → Arr F S1x4x128) ]
theorem while1Ops0_4_sub : (while1Ops0_4 : Ops F).Forall bufsIn :=
  ⟨binSub .., unSub .., binSub .., binSub .., nulSub .., binSub .., reSub .., nulSub .., binSub .., unSub ..⟩
/-- 5 host operations of @dynamic_update_index_in_dim_4 (main_while1b_call9). -/
abbrev while1Ops0_5 : Ops F :=
  [ TRef.unary (.of main_while1b_v87 : TRef sig ⟨S1x4x128, .f32⟩) (.of main_while1b_call9_v0 : TRef sig ⟨S1x1x4x128, .f32⟩) (broadcastInDim S1x1x4x128 ![1, 2, 3] bcast_S1x4x128_S1x1x4x128_1_2_3),
    TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.binaryIndexed (.of main_v44_5 : TRef sig ⟨S32x1x4x128, .f32⟩) (.of main_while1b_call9_v0 : TRef sig ⟨S1x1x4x128, .f32⟩) ![(.of main_while1b_v76 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_v88 : TRef sig ⟨S32x1x4x128, .f32⟩) (fun x u i => Host.dynamicUpdateSlice x u (fun k => (i k (Shape.Idx.first h_S_)).toInt) updateFits_S32x1x4x128_S1x1x4x128) ]
theorem while1Ops0_5_sub : (while1Ops0_5 : Ops F).Forall bufsIn :=
  ⟨unSub .., nulSub .., nulSub .., nulSub .., StableHlo.binaryIndexed_bufs_sub ..⟩
/-- 6 host operations of @dynamic_update_index_in_dim (main_while1b_call10). -/
abbrev while1Ops0_6 : Ops F :=
  [ TRef.unary (.of main_while1b_v80 : TRef sig ⟨S1x4x128x256, .f32⟩) (.of main_while1b_call10_v0 : TRef sig ⟨S1x1x4x128x256, .f32⟩) (broadcastInDim S1x1x4x128x256 ![1, 2, 3, 4] bcast_S1x4x128x256_S1x1x4x128x256_1_2_3_4),
    TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.binaryIndexed (.of main_v44_6 : TRef sig ⟨S32x1x4x128x256, .f32⟩) (.of main_while1b_call10_v0 : TRef sig ⟨S1x1x4x128x256, .f32⟩) ![(.of main_while1b_v76 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_v89 : TRef sig ⟨S32x1x4x128x256, .f32⟩) (fun x u i => Host.dynamicUpdateSlice x u (fun k => (i k (Shape.Idx.first h_S_)).toInt) updateFits_S32x1x4x128x256_S1x1x4x128x256) ]
theorem while1Ops0_6_sub : (while1Ops0_6 : Ops F).Forall bufsIn :=
  ⟨unSub .., nulSub .., nulSub .., nulSub .., nulSub .., StableHlo.binaryIndexed_bufs_sub ..⟩
/-- 6 host operations of host loop 1's body region. -/
abbrev while1Ops0_7 : Ops F :=
  [ nullary main_while1b_c_23 (constantI S_ 32 1#32),
    binary main_v44_3 main_while1b_c_23 main_while1b_v90 (addi : (⟨S_, .i32⟩ : BufTy).Contents (Elt F) → (⟨S_, .i32⟩ : BufTy).Contents (Elt F) → (⟨S_, .i32⟩ : BufTy).Contents (Elt F)),
    unary main_while1b_v90 main_v44_3 id,
    unary main_while1b_v82 main_v44_4 id,
    unary main_while1b_v88 main_v44_5 id,
    unary main_while1b_v89 main_v44_6 id ]
theorem while1Ops0_7_sub : (while1Ops0_7 : Ops F).Forall bufsIn :=
  ⟨nulSub .., binSub .., unSub .., unSub .., unSub .., unSub ..⟩
/-- `main_while1_body` is the chain of its stretches and loops. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7 ] : Code F) := by
  rewrite [StableHlo.chain_seq_cons, Pipeline.chain_cons, Pipeline.chain_cons, Pipeline.chain_cons, StableHlo.chain_seq_cons, Pipeline.chain_cons, Pipeline.chain_cons, StableHlo.chain_seq_cons]
  chain_rfl

/-! ## What each stretch writes; none allocates a buffer -/

/-- The references `hostOps0` writes. -/
abbrev hostOps0_W : List (Ref sig .tc) := [main_v0, main_v1, main_v2, main_v3, main_v4, main_cst, main_v5, main_v6, main_v7, main_v8, main_v9]
theorem hostOps0_writes : (hostOps0 : Ops F).Forall (writesIn hostOps0_W) :=
  StableHlo.forall_writes_sub_of_map rfl
/-- The references `hostOps0_1` writes. -/
abbrev hostOps0_1_W : List (Ref sig .tc) := [main_call0_call0_cst, main_call0_call0_v0, main_v10]
theorem hostOps0_1_writes : (hostOps0_1 : Ops F).Forall (writesIn hostOps0_1_W) :=
  StableHlo.forall_writes_sub_of_map rfl
/-- The references `hostOps0_2` writes. -/
abbrev hostOps0_2_W : List (Ref sig .tc) := [main_v11, main_v12, main_v13, main_v14, main_v15, main_v16, main_v17, main_v18, main_v19, main_cst_0, main_v20, main_v21, main_v22, main_cst_1, main_v23, main_cst_2, main_v24, main_cst_3, main_v25, main_c, main_v26_0, main_v26_1, main_v26_2, main_v26_3, main_v26_4, main_v26_5, main_v26_6]
theorem hostOps0_2_writes : (hostOps0_2 : Ops F).Forall (writesIn hostOps0_2_W) :=
  StableHlo.forall_writes_sub_of_map rfl
/-- The references `hostOps0_3` writes. -/
abbrev hostOps0_3_W : List (Ref sig .tc) := [main_v27, main_v28, main_v29, main_v30, main_v31, main_cst_4, main_v32, main_v33, main_v34, main_v35, main_v36, main_v37, main_v38, main_v39, main_v40, main_cst_5, main_v41, main_cst_6, main_v42, main_cst_7, main_v43, main_c_8, main_v44_0, main_v44_1, main_v44_2, main_v44_3, main_v44_4, main_v44_5, main_v44_6]
theorem hostOps0_3_writes : (hostOps0_3 : Ops F).Forall (writesIn hostOps0_3_W) :=
  StableHlo.forall_writes_sub_of_map rfl
/-- The references `hostOps0_4` writes. -/
abbrev hostOps0_4_W : List (Ref sig .tc) := [main_v45, main_v46, main_v47, main_v48, main_v49, main_v50, main_v51, main_v52, main_v53, main_v54, main_cst_9, main_v55, main_v56, main_v57, main_cst_10, main_v58, main_v59, main_v60, main_v61, main_cst_11, main_v62, main_v63]
theorem hostOps0_4_writes : (hostOps0_4 : Ops F).Forall (writesIn hostOps0_4_W) :=
  StableHlo.forall_writes_sub_of_map rfl
/-- The references `hostOps0_5` writes. -/
abbrev hostOps0_5_W : List (Ref sig .tc) := [main_call11_call0_cst, main_call11_call0_v0, main_v64]
theorem hostOps0_5_writes : (hostOps0_5 : Ops F).Forall (writesIn hostOps0_5_W) :=
  StableHlo.forall_writes_sub_of_map rfl
/-- The references `hostOps0_6` writes. -/
abbrev hostOps0_6_W : List (Ref sig .tc) := [main_v65, main_v66, main_v67, main_cst_12, main_v68, main_v69, main_v70, main_v71, main_v72, main_v73, main_v74]
theorem hostOps0_6_writes : (hostOps0_6 : Ops F).Forall (writesIn hostOps0_6_W) :=
  StableHlo.forall_writes_sub_of_map rfl
/-- The references `while0Ops0` writes. -/
abbrev while0Ops0_W : List (Ref sig .tc) := [main_while0b_call1_c, main_while0b_call1_c_0, main_while0b_call1_c_1, main_while0b_call1_v0, main_while0b_v75]
theorem while0Ops0_writes : (while0Ops0 : Ops F).Forall (writesIn while0Ops0_W) :=
  StableHlo.forall_writes_sub_of_map rfl
/-- The references `while0Ops0_1` writes. -/
abbrev while0Ops0_1_W : List (Ref sig .tc) := [main_while0b_call2_c, main_while0b_call2_c_0, main_while0b_call2_c_1, main_while0b_call2_c_2, main_while0b_call2_v0, main_while0b_v76]
theorem while0Ops0_1_writes : (while0Ops0_1 : Ops F).Forall (writesIn while0Ops0_1_W) :=
  StableHlo.forall_writes_sub_of_map rfl
/-- The references `while0Ops0_2` writes. -/
abbrev while0Ops0_2_W : List (Ref sig .tc) := [main_while0b_v77, main_while0b_v78, main_while0b_v79, main_while0b_v80]
theorem while0Ops0_2_writes : (while0Ops0_2 : Ops F).Forall (writesIn while0Ops0_2_W) :=
  StableHlo.forall_writes_sub_of_map rfl
/-- The references `while0Ops0_3` writes. -/
abbrev while0Ops0_3_W : List (Ref sig .tc) := [main_while0b_call3_v0, main_while0b_call3_c, main_while0b_call3_c_0, main_while0b_call3_c_1, main_while0b_call3_c_2, main_while0b_v81]
theorem while0Ops0_3_writes : (while0Ops0_3 : Ops F).Forall (writesIn while0Ops0_3_W) :=
  StableHlo.forall_writes_sub_of_map rfl
/-- The references `while0Ops0_4` writes. -/
abbrev while0Ops0_4_W : List (Ref sig .tc) := [main_while0b_call4_v0, main_while0b_call4_c, main_while0b_call4_c_0, main_while0b_call4_c_1, main_while0b_call4_c_2, main_while0b_v82]
theorem while0Ops0_4_writes : (while0Ops0_4 : Ops F).Forall (writesIn while0Ops0_4_W) :=
  StableHlo.forall_writes_sub_of_map rfl
/-- The references `while0Ops0_5` writes. -/
abbrev while0Ops0_5_W : List (Ref sig .tc) := [main_while0b_call5_v0, main_while0b_call5_c, main_while0b_call5_c_0, main_while0b_call5_c_1, main_while0b_call5_c_2, main_while0b_v83]
theorem while0Ops0_5_writes : (while0Ops0_5 : Ops F).Forall (writesIn while0Ops0_5_W) :=
  StableHlo.forall_writes_sub_of_map rfl
/-- The references `while0Ops0_6` writes. -/
abbrev while0Ops0_6_W : List (Ref sig .tc) := [main_while0b_c_19, main_while0b_v84, main_v26_2, main_v26_3, main_v26_4, main_v26_5, main_v26_6]
theorem while0Ops0_6_writes : (while0Ops0_6 : Ops F).Forall (writesIn while0Ops0_6_W) :=
  StableHlo.forall_writes_sub_of_map rfl
/-- The references `while1Ops0` writes. -/
abbrev while1Ops0_W : List (Ref sig .tc) := [main_while1b_c_19, main_while1b_v75, main_while1b_c_20, main_while1b_v76]
theorem while1Ops0_writes : (while1Ops0 : Ops F).Forall (writesIn while1Ops0_W) :=
  StableHlo.forall_writes_sub_of_map rfl
/-- The references `while1Ops0_1` writes. -/
abbrev while1Ops0_1_W : List (Ref sig .tc) := [main_while1b_call6_c, main_while1b_call6_c_0, main_while1b_call6_c_1, main_while1b_call6_c_2, main_while1b_call6_v0, main_while1b_v77]
theorem while1Ops0_1_writes : (while1Ops0_1 : Ops F).Forall (writesIn while1Ops0_1_W) :=
  StableHlo.forall_writes_sub_of_map rfl
/-- The references `while1Ops0_2` writes. -/
abbrev while1Ops0_2_W : List (Ref sig .tc) := [main_while1b_call7_c, main_while1b_call7_c_0, main_while1b_call7_c_1, main_while1b_call7_c_2, main_while1b_call7_v0, main_while1b_v78]
theorem while1Ops0_2_writes : (while1Ops0_2 : Ops F).Forall (writesIn while1Ops0_2_W) :=
  StableHlo.forall_writes_sub_of_map rfl
/-- The references `while1Ops0_3` writes. -/
abbrev while1Ops0_3_W : List (Ref sig .tc) := [main_while1b_call8_c, main_while1b_call8_c_0, main_while1b_call8_c_1, main_while1b_call8_c_2, main_while1b_call8_v0, main_while1b_v79]
theorem while1Ops0_3_writes : (while1Ops0_3 : Ops F).Forall (writesIn while1Ops0_3_W) :=
  StableHlo.forall_writes_sub_of_map rfl
/-- The references `while1Ops0_4` writes. -/
abbrev while1Ops0_4_W : List (Ref sig .tc) := [main_while1b_v80, main_while1b_v81, main_while1b_v82, main_while1b_v83, main_while1b_cst_21, main_while1b_v84, main_while1b_v85, main_while1b_cst_22, main_while1b_v86, main_while1b_v87]
theorem while1Ops0_4_writes : (while1Ops0_4 : Ops F).Forall (writesIn while1Ops0_4_W) :=
  StableHlo.forall_writes_sub_of_map rfl
/-- The references `while1Ops0_5` writes. -/
abbrev while1Ops0_5_W : List (Ref sig .tc) := [main_while1b_call9_v0, main_while1b_call9_c, main_while1b_call9_c_0, main_while1b_call9_c_1, main_while1b_v88]
theorem while1Ops0_5_writes : (while1Ops0_5 : Ops F).Forall (writesIn while1Ops0_5_W) :=
  StableHlo.forall_writes_sub_of_map rfl
/-- The references `while1Ops0_6` writes. -/
abbrev while1Ops0_6_W : List (Ref sig .tc) := [main_while1b_call10_v0, main_while1b_call10_c, main_while1b_call10_c_0, main_while1b_call10_c_1, main_while1b_call10_c_2, main_while1b_v89]
theorem while1Ops0_6_writes : (while1Ops0_6 : Ops F).Forall (writesIn while1Ops0_6_W) :=
  StableHlo.forall_writes_sub_of_map rfl
/-- The references `while1Ops0_7` writes. -/
abbrev while1Ops0_7_W : List (Ref sig .tc) := [main_while1b_c_23, main_while1b_v90, main_v44_3, main_v44_4, main_v44_5, main_v44_6]
theorem while1Ops0_7_writes : (while1Ops0_7 : Ops F).Forall (writesIn while1Ops0_7_W) :=
  StableHlo.forall_writes_sub_of_map rfl

theorem plain {ops : Ops F} {rest : List (Ops F)} (hs : ops.Forall bufsIn)
    (hf : ops.map HloOp.fresh = ops.map fun _ => (∅ : Finset (DevRef τ sig))) (h : StableHlo.Plain rest) : StableHlo.Plain (ops :: rest) :=
  .cons hs (hf := List.forall_iff_forall_mem.mp (StableHlo.forall_fresh_of_map hf)) h

/-- The stretches before the first loop. -/
abbrev preI : List (Ops F) := [hostOps0, hostOps0_1, hostOps0_2]
theorem preI_plain : StableHlo.Plain (preI (F := F)) := plain hostOps0_sub rfl (plain hostOps0_1_sub rfl (plain hostOps0_2_sub rfl (.nil)))
/-- The stretches between the loops. -/
abbrev midI : List (Ops F) := [hostOps0_3]
theorem midI_plain : StableHlo.Plain (midI (F := F)) := plain hostOps0_3_sub rfl (.nil)
/-- The stretches after the second loop. -/
abbrev postI : List (Ops F) := [hostOps0_4, hostOps0_5, hostOps0_6]
theorem postI_plain : StableHlo.Plain (postI (F := F)) := plain hostOps0_4_sub rfl (plain hostOps0_5_sub rfl (plain hostOps0_6_sub rfl (.nil)))
/-- The first loop's body. -/
abbrev body0I : List (Ops F) := [while0Ops0, while0Ops0_1, while0Ops0_2, while0Ops0_3, while0Ops0_4, while0Ops0_5, while0Ops0_6]
theorem body0I_plain : StableHlo.Plain (body0I (F := F)) := plain while0Ops0_sub rfl (plain while0Ops0_1_sub rfl (plain while0Ops0_2_sub rfl (plain while0Ops0_3_sub rfl (plain while0Ops0_4_sub rfl (plain while0Ops0_5_sub rfl (plain while0Ops0_6_sub rfl (.nil)))))))
/-- The second loop's body. -/
abbrev body1I : List (Ops F) := [while1Ops0, while1Ops0_1, while1Ops0_2, while1Ops0_3, while1Ops0_4, while1Ops0_5, while1Ops0_6, while1Ops0_7]
theorem body1I_plain : StableHlo.Plain (body1I (F := F)) := plain while1Ops0_sub rfl (plain while1Ops0_1_sub rfl (plain while1Ops0_2_sub rfl (plain while1Ops0_3_sub rfl (plain while1Ops0_4_sub rfl (plain while1Ops0_5_sub rfl (plain while1Ops0_6_sub rfl (plain while1Ops0_7_sub rfl (.nil))))))))

/-- The two operations of condition 0: the bound, and the counter compared with it. -/
abbrev cond0Ops : Ops F :=
  [ nullary main_while0c_c_19 (constantI S_ 32 32#32),
    binary main_v26_2 main_while0c_c_19 main_while0c_v75 (cmpi .slt) ]
/-- The references `cond0Ops` writes. -/
abbrev cond0Ops_W : List (Ref sig .tc) := [main_while0c_c_19, main_while0c_v75]
theorem cond0Ops_writes : (cond0Ops : Ops F).Forall (writesIn cond0Ops_W) :=
  StableHlo.forall_writes_sub_of_map rfl

/-- The two operations of condition 1: the bound, and the counter compared with it. -/
abbrev cond1Ops : Ops F :=
  [ nullary main_while1c_c_19 (constantI S_ 32 32#32),
    binary main_v44_3 main_while1c_c_19 main_while1c_v75 (cmpi .slt) ]
/-- The references `cond1Ops` writes. -/
abbrev cond1Ops_W : List (Ref sig .tc) := [main_while1c_c_19, main_while1c_v75]
theorem cond1Ops_writes : (cond1Ops : Ops F).Forall (writesIn cond1Ops_W) :=
  StableHlo.forall_writes_sub_of_map rfl

end Cert.ReferenceIdeal.Own
-- ==== Proof.TwoLoops.lean ====
module

public import Idealize.ShloMosaic.Lib.StableHlo.RunLoop

/-! The run of an entry function whose items are stretches of host operations, a counted loop, more stretches, a second
    counted loop and more stretches: every buffer ends at the fold of the stretches and the trips. -/

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no kernel, hence nothing admitted, no ticket and no level. -/
abbrev none₁ : (p : Fin 0) → (pcs p).Adm := fun p => p.elim0
/-- The empty family of tickets. -/
abbrev none₂ : Fin 0 → Ticket (Ix := Unit) (Name := ℕ) (U := Option PUnit) (Lvl := ℕ) (nD := nD) (τ := τ) pcs (none₁ pcs) := fun j => j.elim0
/-- No semaphore carries an obligation. -/
abbrev none₃ : GSem nD τ sig → Finset Unit := fun _ => ∅
/-- Every level is zero. -/
abbrev none₄ : GSem nD τ sig → Unit → ℕ := fun _ _ => 0

theorem cells_injective : Function.Injective (Pipeline.cellOf (nD := nD) (τ := τ) (Pipeline.pin pcs (none₁ pcs))) :=
  fun k => k.1.elim0

/-- What rides along beside the buffers. -/
abbrev Owed (c : Dev nD) : sProp 𝕄 := iprop(∃ W, owes (c : Thread nD τ) (0 : CellTallies nD τ sig Unit) W)

variable {pcs defs₀ loops}

/-- The condition's specification with `Owed` framed through it. -/
theorem framed {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops Owed cond condOps bodyI W₀ n := fun k hk c bd => by
  have hc := hcond k hk c bd
  have hv : ∀ v : Elt F .i1,
      iprop(iprop(⌜v = 1#1 ↔ k < n⌝ ∗ boundary (c : Thread nD τ) ∗ held (c : Thread nD τ) (ucRefs τ sig) (after condOps (atTrip condOps bodyI W₀ k c))) ∗ Owed c)
        ⊢ iprop(⌜v = 1#1 ↔ k < n⌝ ∗ boundary (c : Thread nD τ) ∗ held (c : Thread nD τ) (ucRefs τ sig) (after condOps (atTrip condOps bodyI W₀ k c)) ∗ Owed c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hv))
  iintro ⟨Hbd, Hh, HR⟩
  isplitl [Hbd Hh]; · isplitl [Hbd] <;> iassumption
  iexact HR

section Fold

variable (cond0Ops cond1Ops : List (HloOp τ sig (Elt F))) (preI body0I midI body1I postI : List (List (HloOp τ sig (Elt F)))) (n₀ n₁ : ℕ)
  (m : (ℓ : Loc nD τ sig) → Buf (Elt F) ℓ)

/-- The buffers where the second loop is entered. -/
abbrev entry1 (c : Dev nD) : Valuation τ sig (Elt F) :=
  afterL midI (after cond0Ops (atTrip cond0Ops body0I (entryContents preI m) n₀ c))

/-- The buffers at the end. -/
abbrev final2 (c : Dev nD) : Valuation τ sig (Elt F) :=
  afterL postI (after cond1Ops (atTrip cond1Ops body1I (entry1 cond0Ops preI body0I midI n₀ m) n₁ c))

end Fold

/-- The run: from any memory with zero counters every weakly fair execution ends, with every tensor buffer at `final2`. -/
theorem run_two [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (l₀ l₁ : Fin nL)
    (cond0 cond1 : Prog (TpuEff nD τ sig (Elt F) (HostLoop.Sig (Pipeline.Sig Λ₀ (Fin 0) fun p => (pcs p).Adm) nL) .tc) (Elt F .i1))
    (body0 body1 : Prog (TpuEff nD τ sig (Elt F) (HostLoop.Sig (Pipeline.Sig Λ₀ (Fin 0) fun p => (pcs p).Adm) nL) .tc) PUnit)
    (hl₀ : loops l₀ = HostLoop.step l₀ cond0 body0) (hl₁ : loops l₁ = HostLoop.step l₁ cond1 body1)
    (cond0Ops cond1Ops : List (HloOp τ sig (Elt F))) (preI body0I midI body1I postI : List (List (HloOp τ sig (Elt F))))
    (hpre : Plain preI) (hb0 : Plain body0I) (hmid : Plain midI) (hb1 : Plain body1I) (hpost : Plain postI)
    (hmain : ∀ c, main c = Pipeline.chain ((preI.map fun ops => (seq ops : Prog _ PUnit)) ++ HostLoop.enter l₀ ::
      ((midI.map fun ops => (seq ops : Prog _ PUnit)) ++ HostLoop.enter l₁ :: postI.map fun ops => (seq ops : Prog _ PUnit))))
    (hbody0 : body0 = Pipeline.chain (body0I.map fun ops => (seq ops : Prog _ PUnit)))
    (hbody1 : body1 = Pipeline.chain (body1I.map fun ops => (seq ops : Prog _ PUnit)))
    (n₀ n₁ : ℕ) (m : (ℓ : Loc nD τ sig) → Buf (Elt F) ℓ) (ρ : Dev nD → PrngReg)
    (hc0 : CondSpec pcs defs₀ loops cond0 cond0Ops body0I (entryContents preI m) n₀)
    (hc1 : CondSpec pcs defs₀ loops cond1 cond1Ops body1I (entry1 cond0Ops preI body0I midI n₀ m) n₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final2 cond0Ops cond1Ops preI body0I midI body1I postI n₀ n₁ m c (Proc.devRef .tc b)) := by
  let mids : List (CSeg pcs (none₁ pcs) defs₀ Variants.none none₃ none₄ loops (none₂ pcs)) :=
    segsOf _ _ _ _ _ _ _ _ Owed midI hmid (fun c => after cond0Ops (atTrip cond0Ops body0I (entryContents preI m) n₀ c))
    ++ loopSeg _ _ _ _ _ _ _ _ l₁ cond1 body1 hl₁ cond1Ops body1I hb1 hbody1 n₁ (entry1 cond0Ops preI body0I midI n₀ m) Owed (framed hc1)
      :: segsOf _ _ _ _ _ _ _ _ Owed postI hpost (fun c => after cond1Ops (atTrip cond1Ops body1I (entry1 cond0Ops preI body0I midI n₀ m) n₁ c))
  let segs : List (CSeg pcs (none₁ pcs) defs₀ Variants.none none₃ none₄ loops (none₂ pcs)) :=
    segsOf _ _ _ _ _ _ _ _ Owed preI hpre (launchContents m)
    ++ loopSeg _ _ _ _ _ _ _ _ l₀ cond0 body0 hl₀ cond0Ops body0I hb0 hbody0 n₀ (entryContents preI m) Owed (framed hc0) :: mids
  have hprog : segs.map CSeg.prog = (preI.map fun ops => (seq ops : Prog _ PUnit)) ++ HostLoop.enter l₀ ::
      ((midI.map fun ops => (seq ops : Prog _ PUnit)) ++ HostLoop.enter l₁ :: postI.map fun ops => (seq ops : Prog _ PUnit)) := by
    show List.map CSeg.prog (_ ++ _ :: (_ ++ _ :: _)) = _
    rw [List.map_append, List.map_cons, List.map_append, List.map_cons, segsOf_prog, segsOf_prog, segsOf_prog]
    rfl
  have hchains : CSeg.Chains (fun c => iprop(held (c : Thread nD τ) (ucRefs τ sig) (launchContents m c) ∗ Owed c)) segs
      (fun c => iprop(iprop(held (c : Thread nD τ) (ucRefs τ sig) (final2 cond0Ops cond1Ops preI body0I midI body1I postI n₀ n₁ m c))
        ∗ ∃ W, owes (c : Thread nD τ) (0 : CellTallies nD τ sig Unit) W)) :=
    CSeg.Chains.append (segsOf_chains _ _ _ _ _ _ _ _ Owed preI hpre _) ⟨fun _ => .rfl,
      CSeg.Chains.append (segsOf_chains _ _ _ _ _ _ _ _ Owed midI hmid _) ⟨fun _ => .rfl, segsOf_chains _ _ _ _ _ _ _ _ Owed postI hpost _⟩⟩
  exact Pipeline.θ_run_regions_loop_kit (Ix := Unit) (Name := ℕ) (U := Option PUnit) (Lvl := ℕ) (J := Fin 0) (P := Fin 0) (Val := Elt F)
    pcs (none₁ pcs) (cells_injective pcs) defs₀ Variants.none none₃ none₄ loops (none₂ pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed c))
    (Tₙ := fun c => iprop(held (c : Thread nD τ) (ucRefs τ sig) (final2 cond0Ops cond1Ops preI body0I midI body1I postI n₀ n₁ m c)))
    (hch := hchains)
    (hinit := by
      refine Pipeline.initEach none₃ none₄ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final2 cond0Ops cond1Ops preI body0I midI body1I postI n₀ n₁ m c b)
    (hfin := fun c s' => by
      unfold held
      iintro ⟨Hh, HSI⟩
      ihave Hr := (pointsTo_read_all (ucRefs τ sig) (fun b => ((c : Dev nD), b)) (fun b => final2 cond0Ops cond1Ops preI body0I midI body1I postI n₀ n₁ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops
-- ==== Proof.RefRun.lean ====
module

public import proofs.«01_k».proof.Proof.RefSegs
public import proofs.«01_k».proof.Proof.TwoLoops

/-! The run of the backward reference: its two loops are counted, thirty-two trips each, and every buffer ends at the fold
    of the stretches and the trips. -/

@[expose] public section

noncomputable section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The buffers before the `k`-th condition of the first loop. -/
abbrev at0 (k : ℕ) (c : Dev nD) : Valuation τ sig (Elt F) := atTrip cond0Ops body0I (entryContents preI m) k c
/-- The buffers where the second loop is entered. -/
abbrev mid (c : Dev nD) : Valuation τ sig (Elt F) := TwoLoops.entry1 cond0Ops preI body0I midI 32 m c
/-- The buffers before the `k`-th condition of the second loop. -/
abbrev at1 (k : ℕ) (c : Dev nD) : Valuation τ sig (Elt F) := atTrip cond1Ops body1I (mid m) k c
/-- The buffers at the end. -/
abbrev fin (c : Dev nD) : Valuation τ sig (Elt F) := TwoLoops.final2 cond0Ops cond1Ops preI body0I midI body1I postI 32 32 m c

set_option maxRecDepth 100000 in
theorem ctr0_last (X : Valuation τ sig (Elt F)) :
    after while0Ops0_6 X (Proc.devRef .tc main_v26_2) = addi (X (Proc.devRef .tc main_v26_2)) (constantI S_ 32 1#32) := by
  after_results
  rfl

set_option maxRecDepth 100000 in
theorem ctr1_last (X : Valuation τ sig (Elt F)) :
    after while1Ops0_7 X (Proc.devRef .tc main_v44_3) = addi (X (Proc.devRef .tc main_v44_3)) (constantI S_ 32 1#32) := by
  after_results
  rfl

/-- One trip of the first loop steps its counter. -/
theorem ctr0_trip (X : Valuation τ sig (Elt F)) :
    afterL body0I (after cond0Ops X) (Proc.devRef .tc main_v26_2) = addi (X (Proc.devRef .tc main_v26_2)) (constantI S_ 32 1#32) := by
  simp only [afterL_cons, afterL_nil]
  rw [ctr0_last, after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub cond0Ops _ cond0Ops_writes (by decide +kernel)]

/-- One trip of the second loop steps its counter. -/
theorem ctr1_trip (X : Valuation τ sig (Elt F)) :
    afterL body1I (after cond1Ops X) (Proc.devRef .tc main_v44_3) = addi (X (Proc.devRef .tc main_v44_3)) (constantI S_ 32 1#32) := by
  simp only [afterL_cons, afterL_nil]
  rw [ctr1_last, after_of_writes_sub while1Ops0_6 _ while1Ops0_6_writes (by decide +kernel),
    after_of_writes_sub while1Ops0_5 _ while1Ops0_5_writes (by decide +kernel),
    after_of_writes_sub while1Ops0_4 _ while1Ops0_4_writes (by decide +kernel),
    after_of_writes_sub while1Ops0_3 _ while1Ops0_3_writes (by decide +kernel),
    after_of_writes_sub while1Ops0_2 _ while1Ops0_2_writes (by decide +kernel),
    after_of_writes_sub while1Ops0_1 _ while1Ops0_1_writes (by decide +kernel),
    after_of_writes_sub while1Ops0 _ while1Ops0_writes (by decide +kernel),
    after_of_writes_sub cond1Ops _ cond1Ops_writes (by decide +kernel)]

theorem ctr0_entry (c : Dev nD) : entryContents preI m c (Proc.devRef .tc main_v26_2) = fun _ => (0#32 : BitVec 32) := by
  simp only [entryContents, afterL_cons, afterL_nil]
  after_reads_simp
  rfl

theorem ctr1_entry (X : Valuation τ sig (Elt F)) : afterL midI X (Proc.devRef .tc main_v44_3) = fun _ => (0#32 : BitVec 32) := by
  simp only [afterL_cons, afterL_nil]
  after_reads_simp
  rfl

/-- The first loop's counter before its `k`-th condition. -/
theorem at0_ctr (c : Dev nD) : ∀ k, at0 m k c (Proc.devRef .tc main_v26_2) = fun _ => Scf.iv 0#32 1#32 k
  | 0 => by rw [show at0 m 0 c = entryContents preI m c from rfl, ctr0_entry, Scf.iv_zero]
  | k + 1 => by
    rw [show at0 m (k + 1) c = afterL body0I (after cond0Ops (at0 m k c)) from rfl, ctr0_trip, at0_ctr c k, Scf.iv_succ]
    rfl

/-- The second loop's counter before its `k`-th condition. -/
theorem at1_ctr (c : Dev nD) : ∀ k, at1 m k c (Proc.devRef .tc main_v44_3) = fun _ => Scf.iv 0#32 1#32 k
  | 0 => (ctr1_entry _).trans (by rw [Scf.iv_zero])
  | k + 1 => by
    rw [show at1 m (k + 1) c = afterL body1I (after cond1Ops (at1 m k c)) from rfl, ctr1_trip, at1_ctr c k, Scf.iv_succ]
    rfl

-- the rule is stated at any thread, and is applied at the TensorCore's
set_option backward.isDefEq.respectTransparency.types false in
/-- The first loop's condition at the fold. -/
theorem cond0_spec : CondSpec (pcfgs (F := F)) defs₀ loops (main_while0_cond (F := F)) cond0Ops body0I (entryContents preI m) 32 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v26_2 HostLoop.idx0)
        (HloOp.result _ (at0 m k c) main_while0c_c_19 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option backward.isDefEq.respectTransparency.types false in
/-- The second loop's condition at the fold. -/
theorem cond1_spec : CondSpec (pcfgs (F := F)) defs₀ loops (main_while1_cond (F := F)) cond1Ops body1I (mid m) 32 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v44_3 HostLoop.idx0)
        (HloOp.result _ (at1 m k c) main_while1c_c_19 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option maxRecDepth 100000 in
/-- Every execution ends, with every tensor buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  TwoLoops.run_two (pcfgs (F := F)) defs₀ loops main 0 1 main_while0_cond main_while1_cond main_while0_body main_while1_body rfl rfl
    cond0Ops cond1Ops preI body0I midI body1I postI preI_plain body0I_plain midI_plain body1I_plain postI_plain
    (fun c => by rw [main_chain]; rfl) (by rw [while0_body_chain]; rfl) (by rw [while1_body_chain]; rfl) 32 32 m ρ (cond0_spec m) (cond1_spec m)

end Cert.ReferenceIdeal.Own
-- ==== Proof.RefFrame.lean ====
/-
  The reference of the backward call keeps its arguments, and every execution of it ends.
-/
module
public import proofs.«01_k».proof.Proof.RefRun
public import proofs.«01_k».proof.Defs
public import proofs.«01_k».proof.Proof.Base

@[expose] public section

set_option maxRecDepth 20000

noncomputable section

namespace Cert.ReferenceIdeal.Own

open Idealize.ShloMosaic Idealize.ShloMosaic.StableHlo Idealize.SL.Sem
open Cert.ReferenceIdeal Cert.ReferenceIdeal.Gen

variable {F : FTy → Type} [FloatOps F] [∀ e, Nonempty (Elt F e)]

/-- No stretch writes `r`. -/
structure Untouched (r : Ref sig .tc) : Prop where
  hostOps0 : r ∉ hostOps0_W
  hostOps0_1 : r ∉ hostOps0_1_W
  hostOps0_2 : r ∉ hostOps0_2_W
  cond0Ops : r ∉ cond0Ops_W
  while0Ops0 : r ∉ while0Ops0_W
  while0Ops0_1 : r ∉ while0Ops0_1_W
  while0Ops0_2 : r ∉ while0Ops0_2_W
  while0Ops0_3 : r ∉ while0Ops0_3_W
  while0Ops0_4 : r ∉ while0Ops0_4_W
  while0Ops0_5 : r ∉ while0Ops0_5_W
  while0Ops0_6 : r ∉ while0Ops0_6_W
  hostOps0_3 : r ∉ hostOps0_3_W
  cond1Ops : r ∉ cond1Ops_W
  while1Ops0 : r ∉ while1Ops0_W
  while1Ops0_1 : r ∉ while1Ops0_1_W
  while1Ops0_2 : r ∉ while1Ops0_2_W
  while1Ops0_3 : r ∉ while1Ops0_3_W
  while1Ops0_4 : r ∉ while1Ops0_4_W
  while1Ops0_5 : r ∉ while1Ops0_5_W
  while1Ops0_6 : r ∉ while1Ops0_6_W
  while1Ops0_7 : r ∉ while1Ops0_7_W
  hostOps0_4 : r ∉ hostOps0_4_W
  hostOps0_5 : r ∉ hostOps0_5_W
  hostOps0_6 : r ∉ hostOps0_6_W

variable (m : (ℓ : Loc nD τ sig) → Buf (Elt F) ℓ) (c : Dev nD) (r : Ref sig .tc)

theorem at0_keep {r : Ref sig .tc} (h : Untouched r) (k : ℕ) : at0 m k c (Proc.devRef .tc r) = entryContents preI m c (Proc.devRef .tc r) := by
  induction k with
  | zero => rfl
  | succ k ih =>
    show after while0Ops0_6 (after while0Ops0_5 (after while0Ops0_4 (after while0Ops0_3 (after while0Ops0_2 (after while0Ops0_1 (after while0Ops0 (after cond0Ops (at0 m k c)))))))) (Proc.devRef .tc r) = _
    rw [after_of_writes_sub while0Ops0_6 _ while0Ops0_6_writes h.while0Ops0_6, after_of_writes_sub while0Ops0_5 _ while0Ops0_5_writes h.while0Ops0_5, after_of_writes_sub while0Ops0_4 _ while0Ops0_4_writes h.while0Ops0_4, after_of_writes_sub while0Ops0_3 _ while0Ops0_3_writes h.while0Ops0_3, after_of_writes_sub while0Ops0_2 _ while0Ops0_2_writes h.while0Ops0_2, after_of_writes_sub while0Ops0_1 _ while0Ops0_1_writes h.while0Ops0_1, after_of_writes_sub while0Ops0 _ while0Ops0_writes h.while0Ops0, after_of_writes_sub cond0Ops _ cond0Ops_writes h.cond0Ops, ih]

theorem at1_keep {r : Ref sig .tc} (h : Untouched r) (k : ℕ) : at1 m k c (Proc.devRef .tc r) = mid m c (Proc.devRef .tc r) := by
  induction k with
  | zero => rfl
  | succ k ih =>
    show after while1Ops0_7 (after while1Ops0_6 (after while1Ops0_5 (after while1Ops0_4 (after while1Ops0_3 (after while1Ops0_2 (after while1Ops0_1 (after while1Ops0 (after cond1Ops (at1 m k c))))))))) (Proc.devRef .tc r) = _
    rw [after_of_writes_sub while1Ops0_7 _ while1Ops0_7_writes h.while1Ops0_7, after_of_writes_sub while1Ops0_6 _ while1Ops0_6_writes h.while1Ops0_6, after_of_writes_sub while1Ops0_5 _ while1Ops0_5_writes h.while1Ops0_5, after_of_writes_sub while1Ops0_4 _ while1Ops0_4_writes h.while1Ops0_4, after_of_writes_sub while1Ops0_3 _ while1Ops0_3_writes h.while1Ops0_3, after_of_writes_sub while1Ops0_2 _ while1Ops0_2_writes h.while1Ops0_2, after_of_writes_sub while1Ops0_1 _ while1Ops0_1_writes h.while1Ops0_1, after_of_writes_sub while1Ops0 _ while1Ops0_writes h.while1Ops0, after_of_writes_sub cond1Ops _ cond1Ops_writes h.cond1Ops, ih]

theorem fin_keep {r : Ref sig .tc} (h : Untouched r) : fin m c (Proc.devRef .tc r) = m ((c.tc : Thread nD τ).loc r) := by
  show after hostOps0_6 (after hostOps0_5 (after hostOps0_4 (after cond1Ops (at1 m 32 c)))) (Proc.devRef .tc r) = _
  rw [after_of_writes_sub hostOps0_6 _ hostOps0_6_writes h.hostOps0_6, after_of_writes_sub hostOps0_5 _ hostOps0_5_writes h.hostOps0_5, after_of_writes_sub hostOps0_4 _ hostOps0_4_writes h.hostOps0_4, after_of_writes_sub cond1Ops _ cond1Ops_writes h.cond1Ops, at1_keep m c h]
  show after hostOps0_3 (after cond0Ops (at0 m 32 c)) (Proc.devRef .tc r) = _
  rw [after_of_writes_sub hostOps0_3 _ hostOps0_3_writes h.hostOps0_3, after_of_writes_sub cond0Ops _ cond0Ops_writes h.cond0Ops, at0_keep m c h]
  show after hostOps0_2 (after hostOps0_1 (after hostOps0 (launchContents m c))) (Proc.devRef .tc r) = _
  rw [after_of_writes_sub hostOps0_2 _ hostOps0_2_writes h.hostOps0_2, after_of_writes_sub hostOps0_1 _ hostOps0_1_writes h.hostOps0_1, after_of_writes_sub hostOps0 _ hostOps0_writes h.hostOps0]

theorem untouched_arg0 : Untouched main_arg0 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem untouched_arg1 : Untouched main_arg1 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem untouched_arg2 : Untouched main_arg2 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem untouched_arg3 : Untouched main_arg3 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩
theorem untouched_arg4 : Untouched main_arg4 := ⟨by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel, by decide +kernel⟩

end Cert.ReferenceIdeal.Own
-- ==== Proof.BwdReference.lean ====
/-
  What the host lines of the backward reference leave.
-/
module
public import proofs.«01_k».proof.Proof.RefFrame
public import proofs.«01_k».proof.Proof.BwdSpec
public import proofs.«01_k».proof.Proof.CumSum
public import proofs.«01_k».proof.Proof.Base

@[expose] public section

set_option maxRecDepth 20000

noncomputable section

namespace Cert.ReferenceIdeal.Own

open Idealize.ShloMosaic Idealize.ShloMosaic.Pointwise Idealize.ShloMosaic.StableHlo
open Idealize.ShloMosaic.Proc (devRef)
open Cert.ReferenceIdeal Cert.ReferenceIdeal.Gen Cert.Gla

variable (X : Valuation τ sig (Elt Ideal))

/-- An entry of an array of extended reals. -/
abbrev ent (s : Shape) (x : s.Idx → EReal) (i : s.Idx) : EReal := x i

/-- One trip of each loop. -/
abbrev trip0 : Valuation τ sig (Elt Ideal) := afterL body0I (after cond0Ops X)
abbrev trip1 : Valuation τ sig (Elt Ideal) := afterL body1I (after cond1Ops X)

theorem pre_q (z : Fin 1) (n : Fin 32) (r : Fin 64) (h : Fin 4) (a : Fin 128) :
    ent S1x32x64x4x128 (after hostOps0 X (devRef .tc main_v6)) (ix5 z n r h a)
      = ent S2048x512 (X (devRef .tc main_arg0)) (ix2 ⟨64 * n.val + r.val, by omega⟩ (kc h a)) * scale := by
  unfold ent
  after_reads_at
  exact congrArg (· * scale) (congrArg _ (congrArg₂ ix2 (row_eq n r _) (kc_eq h a _)))

theorem pre_k (z : Fin 1) (n : Fin 32) (r : Fin 64) (h : Fin 4) (a : Fin 128) :
    ent S1x32x64x4x128 (after hostOps0 X (devRef .tc main_v7)) (ix5 z n r h a)
      = ent S2048x512 (X (devRef .tc main_arg1)) (ix2 ⟨64 * n.val + r.val, by omega⟩ (kc h a)) := by
  unfold ent
  after_reads_at
  exact congrArg _ (congrArg₂ ix2 (row_eq n r _) (kc_eq h a _))

theorem pre_v (z : Fin 1) (n : Fin 32) (r : Fin 64) (h : Fin 4) (b : Fin 256) :
    ent S1x32x64x4x256 (after hostOps0 X (devRef .tc main_v8)) (ix5 z n r h b)
      = ent S2048x1024 (X (devRef .tc main_arg2)) (ix2 ⟨64 * n.val + r.val, by omega⟩ (vc h b)) := by
  unfold ent
  after_reads_at
  exact congrArg _ (congrArg₂ ix2 (row_eq n r _) (vc_eq h b _))

theorem pre_la (z : Fin 1) (n : Fin 32) (r : Fin 64) (h : Fin 4) (a : Fin 128) :
    ent S1x32x64x4x128 (after hostOps0 X (devRef .tc main_v9)) (ix5 z n r h a)
      = ent S2048x512 (X (devRef .tc main_arg3)) (ix2 ⟨64 * n.val + r.val, by omega⟩ (kc h a)) := by
  unfold ent
  after_reads_at
  exact congrArg _ (congrArg₂ ix2 (row_eq n r _) (kc_eq h a _))

theorem pre_b (z : Fin 1) (n : Fin 32) (r : Fin 64) (h : Fin 4) (a : Fin 128) :
    ent S1x32x64x4x128 (after hostOps0_1 X (devRef .tc main_v10)) (ix5 z n r h a)
      = ∑ t : Fin 64, if t ≤ r then ent S1x32x64x4x128 (X (devRef .tc main_v9)) (ix5 0 n t h a) else 0 := by
  unfold ent
  after_reads_simp
  simp -implicitDefEqProofs only [StableHlo.TRef.toBuf, StableHlo.TRef.ofBuf, cast_cast, cast_eq]
  rw [Fin.fin_one_eq_zero z]
  exact cumsum_apply _ _ (fun i => Ideal.ofBits_zero_f32) _ _ 0 n r h a

theorem pre_w (z : Fin 1) (n : Fin 32) (r : Fin 64) (h : Fin 4) (a : Fin 128) :
    ent S1x32x64x4x128 (after hostOps0_2 X (devRef .tc main_v16)) (ix5 z n r h a)
      = Ideal.exp (ent S1x32x64x4x128 (X (devRef .tc main_v10)) (ix5 0 n 63 h a) - ent S1x32x64x4x128 (X (devRef .tc main_v10)) (ix5 0 n r h a)) := by
  unfold ent
  after_reads_simp
  pointwise
  rw [Fin.fin_one_eq_zero z]

theorem pre_kd (z : Fin 1) (n : Fin 32) (r : Fin 64) (h : Fin 4) (a : Fin 128) :
    ent S1x32x64x4x128 (after hostOps0_2 X (devRef .tc main_v17)) (ix5 z n r h a)
      = ent S1x32x64x4x128 (X (devRef .tc main_v7)) (ix5 0 n r h a) * Ideal.exp (ent S1x32x64x4x128 (X (devRef .tc main_v10)) (ix5 0 n 63 h a) - ent S1x32x64x4x128 (X (devRef .tc main_v10)) (ix5 0 n r h a)) := by
  unfold ent
  after_reads_simp
  pointwise
  rw [Fin.fin_one_eq_zero z]

theorem pre_d (z : Fin 1) (n : Fin 32) (h : Fin 4) (a : Fin 128) :
    ent S1x32x4x128 (after hostOps0_2 X (devRef .tc main_v19)) (ix4 z n h a)
      = Ideal.exp (ent S1x32x64x4x128 (X (devRef .tc main_v10)) (ix5 0 n 63 h a)) := by
  unfold ent
  after_reads_simp
  pointwise

theorem pre_u (n : Fin 32) (z : Fin 1) (h : Fin 4) (a : Fin 128) (b : Fin 256) :
    ent S32x1x4x128x256 (after hostOps0_2 X (devRef .tc main_v26_1)) (ix5 n z h a b)
      = ∑ x : Fin 64, ent S1x32x64x4x128 (X (devRef .tc main_v7)) (ix5 0 n x h a)
          * Ideal.exp (ent S1x32x64x4x128 (X (devRef .tc main_v10)) (ix5 0 n 63 h a) - ent S1x32x64x4x128 (X (devRef .tc main_v10)) (ix5 0 n x h a))
          * ent S1x32x64x4x256 (X (devRef .tc main_v8)) (ix5 0 n x h b) := by
  unfold ent
  after_reads_simp
  simp only [id_eq]
  pointwise

theorem pre_dec (n : Fin 32) (z : Fin 1) (h : Fin 4) (a : Fin 128) :
    ent S32x1x4x128 (after hostOps0_2 X (devRef .tc main_v26_0)) (ix4 n z h a)
      = Ideal.exp (ent S1x32x64x4x128 (X (devRef .tc main_v10)) (ix5 0 n 63 h a)) := by
  unfold ent
  after_reads_simp
  simp only [id_eq]
  pointwise

theorem pre_st (z : Fin 1) (h : Fin 4) (a : Fin 128) (b : Fin 256) :
    ent S1x4x128x256 (after hostOps0_2 X (devRef .tc main_v26_3)) (ix4 z h a b) = 0 := by
  unfold ent
  after_reads_simp
  simp only [id_eq]
  pointwise

/-- The loop's start vectors are zero off the first axis. -/
theorem zeros4 (x : (⟨S_, .i32⟩ : BufTy).Contents (Elt Ideal)) : ∀ a : Fin 4, a ≠ 0 →
    BitVec.toInt ((![x, constantI S_ 32 0#32, constantI S_ 32 0#32, constantI S_ 32 0#32] : Fin 4 → (⟨S_, .i32⟩ : BufTy).Contents (Elt Ideal)) a (Shape.Idx.first h_S_)) = 0
  | ⟨0, _⟩, h => absurd rfl h
  | ⟨1, _⟩, _ => rfl
  | ⟨2, _⟩, _ => rfl
  | ⟨3, _⟩, _ => rfl

theorem zeros5 (x : (⟨S_, .i32⟩ : BufTy).Contents (Elt Ideal)) : ∀ a : Fin 5, a ≠ 0 →
    BitVec.toInt ((![x, constantI S_ 32 0#32, constantI S_ 32 0#32, constantI S_ 32 0#32, constantI S_ 32 0#32] : Fin 5 → (⟨S_, .i32⟩ : BufTy).Contents (Elt Ideal)) a (Shape.Idx.first h_S_)) = 0
  | ⟨0, _⟩, h => absurd rfl h
  | ⟨1, _⟩, _ => rfl
  | ⟨2, _⟩, _ => rfl
  | ⟨3, _⟩, _ => rfl
  | ⟨4, _⟩, _ => rfl

/-! ## Sums along axes of extent one, and a pad before -/

theorem unit4 {A B : ℕ} (h : (⟨4, ![1, A, B, 1]⟩ : Shape).ReducesTo [0, 3] ⟨2, ![A, B]⟩) (v : (⟨4, ![1, A, B, 1]⟩ : Shape).Idx → EReal) (init : EReal)
    (a : Fin A) (b : Fin B) : Ideal.hostReduceAdd h v init (ix2 a b) = init + v (ix4 0 a b 0) := by
  refine congrArg (init + ·) ?_
  have e : Finset.univ.filter (fun i => h.drop i = ix2 a b) = {ix4 0 a b 0} := Finset.ext fun i => by
    simp only [Finset.mem_filter, Finset.mem_univ, true_and, Finset.mem_singleton]
    constructor
    · intro e
      funext x
      match x with
      | ⟨0, _⟩ => exact Subsingleton.elim (α := Fin 1) _ _
      | ⟨1, _⟩ => exact Fin.ext (congrArg Fin.val (congrFun e 0))
      | ⟨2, _⟩ => exact Fin.ext (congrArg Fin.val (congrFun e 1))
      | ⟨3, _⟩ => exact Subsingleton.elim (α := Fin 1) _ _
    · rintro rfl
      funext x
      match x with
      | ⟨0, _⟩ => rfl
      | ⟨1, _⟩ => rfl
  rw [e, Finset.sum_singleton]

theorem unit5 {A B C : ℕ} (h : (⟨5, ![1, A, 1, B, C]⟩ : Shape).ReducesTo [0, 2] ⟨3, ![A, B, C]⟩) (v : (⟨5, ![1, A, 1, B, C]⟩ : Shape).Idx → EReal) (init : EReal)
    (a : Fin A) (b : Fin B) (c : Fin C) : Ideal.hostReduceAdd h v init (ix3 a b c) = init + v (ix5 0 a 0 b c) := by
  refine congrArg (init + ·) ?_
  have e : Finset.univ.filter (fun i => h.drop i = ix3 a b c) = {ix5 0 a 0 b c} := Finset.ext fun i => by
    simp only [Finset.mem_filter, Finset.mem_univ, true_and, Finset.mem_singleton]
    constructor
    · intro e
      funext x
      match x with
      | ⟨0, _⟩ => exact Subsingleton.elim (α := Fin 1) _ _
      | ⟨1, _⟩ => exact Fin.ext (congrArg Fin.val (congrFun e 0))
      | ⟨2, _⟩ => exact Subsingleton.elim (α := Fin 1) _ _
      | ⟨3, _⟩ => exact Fin.ext (congrArg Fin.val (congrFun e 1))
      | ⟨4, _⟩ => exact Fin.ext (congrArg Fin.val (congrFun e 2))
    · rintro rfl
      funext x
      match x with
      | ⟨0, _⟩ => rfl
      | ⟨1, _⟩ => rfl
      | ⟨2, _⟩ => rfl
  rw [e, Finset.sum_singleton]

/-! ## One trip of the first loop -/

theorem t0_st (k : Fin 32) (hc : X (devRef .tc main_v26_2) = fun _ => Scf.iv 0#32 1#32 k.val) (z : Fin 1) (h : Fin 4) (a : Fin 128) (b : Fin 256) :
    ent S1x4x128x256 (trip0 X (devRef .tc main_v26_3)) (ix4 z h a b)
      = ent S32x1x4x128 (X (devRef .tc main_v26_0)) (ix4 k 0 h a) * ent S1x4x128x256 (X (devRef .tc main_v26_3)) (ix4 0 h a b) + ent S32x1x4x128x256 (X (devRef .tc main_v26_1)) (ix5 k 0 h a b) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row4 (X (devRef .tc main_v26_0)) _ _ k (iv_toInt k) (by exact zeros4 _), row5 (X (devRef .tc main_v26_1)) _ _ k (iv_toInt k) (by exact zeros5 _)]
  pointwise
  rw [Fin.fin_one_eq_zero z]

theorem t0_after (k : Fin 32) (hc : X (devRef .tc main_v26_2) = fun _ => Scf.iv 0#32 1#32 k.val) (n : Fin 32) (z : Fin 1) (h : Fin 4) (a : Fin 128) (b : Fin 256) :
    ent S32x1x4x128x256 (trip0 X (devRef .tc main_v26_4)) (ix5 n z h a b)
      = if n = k then ent S32x1x4x128 (X (devRef .tc main_v26_0)) (ix4 k 0 h a) * ent S1x4x128x256 (X (devRef .tc main_v26_3)) (ix4 0 h a b) + ent S32x1x4x128x256 (X (devRef .tc main_v26_1)) (ix5 k 0 h a b) else ent S32x1x4x128x256 (X (devRef .tc main_v26_4)) (ix5 n z h a b) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row4 (X (devRef .tc main_v26_0)) _ _ k (iv_toInt k) (by exact zeros4 _), row5 (X (devRef .tc main_v26_1)) _ _ k (iv_toInt k) (by exact zeros5 _)]
  refine (put5 (X (devRef .tc main_v26_4)) _ _ _ k (iv_toInt k) (zeros5 _) n z h a b).trans ?_
  pointwise

theorem t0_before (k : Fin 32) (hc : X (devRef .tc main_v26_2) = fun _ => Scf.iv 0#32 1#32 k.val) (n : Fin 32) (z : Fin 1) (h : Fin 4) (a : Fin 128) (b : Fin 256) :
    ent S32x1x4x128x256 (trip0 X (devRef .tc main_v26_5)) (ix5 n z h a b)
      = if n = k then ent S1x4x128x256 (X (devRef .tc main_v26_3)) (ix4 0 h a b) else ent S32x1x4x128x256 (X (devRef .tc main_v26_5)) (ix5 n z h a b) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc]
  refine (put5 (X (devRef .tc main_v26_5)) _ _ _ k (iv_toInt k) (zeros5 _) n z h a b).trans ?_
  pointwise

theorem t0_dec (k : Fin 32) (hc : X (devRef .tc main_v26_2) = fun _ => Scf.iv 0#32 1#32 k.val) (n : Fin 32) (z : Fin 1) (h : Fin 4) (a : Fin 128) (b : Fin 1) :
    ent S32x1x4x128x1 (trip0 X (devRef .tc main_v26_6)) (ix5 n z h a b)
      = if n = k then ent S32x1x4x128 (X (devRef .tc main_v26_0)) (ix4 k 0 h a) else ent S32x1x4x128x1 (X (devRef .tc main_v26_6)) (ix5 n z h a b) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row4 (X (devRef .tc main_v26_0)) _ _ k (iv_toInt k) (by exact zeros4 _)]
  refine (put5 (X (devRef .tc main_v26_6)) _ _ _ k (iv_toInt k) (zeros5 _) n z h a b).trans ?_
  pointwise

theorem t0_0 : trip0 X (devRef .tc main_v26_0) = X (devRef .tc main_v26_0) := by
  simp only [afterL_cons, afterL_nil]
  after_reads_simp
theorem t0_1 : trip0 X (devRef .tc main_v26_1) = X (devRef .tc main_v26_1) := by
  simp only [afterL_cons, afterL_nil]
  after_reads_simp

/-! ## One trip of the second loop -/

/-- The chunk that trip `k` of the second loop takes. -/
abbrev back (k : Fin 32) : Fin 32 := ⟨31 - k.val, by omega⟩

theorem back_toInt : ∀ k : Fin 32, ((32#32 - Scf.iv 0#32 1#32 k.val) - 1#32).toInt = (back k).val := by decide +kernel

theorem t1_carry (k : Fin 32) (hc : X (devRef .tc main_v44_3) = fun _ => Scf.iv 0#32 1#32 k.val) (z : Fin 1) (h : Fin 4) (a : Fin 128) (b : Fin 256) :
    ent S1x4x128x256 (trip1 X (devRef .tc main_v44_4)) (ix4 z h a b)
      = ent S32x1x4x128x1 (X (devRef .tc main_v44_2)) (ix5 (back k) 0 h a 0) * (ent S1x4x128x256 (X (devRef .tc main_v44_4)) (ix4 0 h a b) + ent S32x1x4x128x256 (X (devRef .tc main_v44_0)) (ix5 (back k) 0 h a b)) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row5 (X (devRef .tc main_v44_0)) _ _ (back k) (back_toInt k) (by exact zeros5 _), row5 (X (devRef .tc main_v44_2)) _ _ (back k) (back_toInt k) (by exact zeros5 _)]
  pointwise
  rw [Fin.fin_one_eq_zero z]

theorem t1_grad (k : Fin 32) (hc : X (devRef .tc main_v44_3) = fun _ => Scf.iv 0#32 1#32 k.val) (n : Fin 32) (z : Fin 1) (h : Fin 4) (a : Fin 128) (b : Fin 256) :
    ent S32x1x4x128x256 (trip1 X (devRef .tc main_v44_6)) (ix5 n z h a b)
      = if n = back k then ent S1x4x128x256 (X (devRef .tc main_v44_4)) (ix4 0 h a b) + ent S32x1x4x128x256 (X (devRef .tc main_v44_0)) (ix5 (back k) 0 h a b) else ent S32x1x4x128x256 (X (devRef .tc main_v44_6)) (ix5 n z h a b) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row5 (X (devRef .tc main_v44_0)) _ _ (back k) (back_toInt k) (by exact zeros5 _)]
  refine (put5 (X (devRef .tc main_v44_6)) _ _ _ (back k) (back_toInt k) (zeros5 _) n z h a b).trans ?_
  pointwise

theorem t1_dc (k : Fin 32) (hc : X (devRef .tc main_v44_3) = fun _ => Scf.iv 0#32 1#32 k.val) (n : Fin 32) (z : Fin 1) (h : Fin 4) (a : Fin 128) :
    ent S32x1x4x128 (trip1 X (devRef .tc main_v44_5)) (ix4 n z h a)
      = if n = back k then ∑ b : Fin 256, (ent S1x4x128x256 (X (devRef .tc main_v44_4)) (ix4 0 h a b) + ent S32x1x4x128x256 (X (devRef .tc main_v44_0)) (ix5 (back k) 0 h a b)) * ent S32x1x4x128x256 (X (devRef .tc main_v44_1)) (ix5 (back k) 0 h a b)
        else ent S32x1x4x128 (X (devRef .tc main_v44_5)) (ix4 n z h a) := by
  unfold ent
  simp only [afterL_cons, afterL_nil]
  after_reads_simp [unaryIndexed_result_read, binaryIndexed_result_read, indexContents_tref_cons, indexContents_tref_empty, indexContents_cons, indexContents_empty]
  simp -implicitDefEqProofs only [StableHlo.TRef.toBuf, StableHlo.TRef.ofBuf, cast_cast, cast_eq, id_eq]
  rw [hc, row5 (X (devRef .tc main_v44_0)) _ _ (back k) (back_toInt k) (by exact zeros5 _), row5 (X (devRef .tc main_v44_1)) _ _ (back k) (back_toInt k) (by exact zeros5 _)]
  refine (put4 (X (devRef .tc main_v44_5)) _ _ _ (back k) (back_toInt k) (zeros4 _) n z h a).trans ?_
  pointwise [unit4]

theorem t1_0 : trip1 X (devRef .tc main_v44_0) = X (devRef .tc main_v44_0) := by
  simp only [afterL_cons, afterL_nil]
  after_reads_simp
theorem t1_1 : trip1 X (devRef .tc main_v44_1) = X (devRef .tc main_v44_1) := by
  simp only [afterL_cons, afterL_nil]
  after_reads_simp
theorem t1_2 : trip1 X (devRef .tc main_v44_2) = X (devRef .tc main_v44_2) := by
  simp only [afterL_cons, afterL_nil]
  after_reads_simp

/-! ## Between the loops -/

theorem mid_do (z : Fin 1) (n : Fin 32) (r : Fin 64) (h : Fin 4) (b : Fin 256) :
    ent S1x32x64x4x256 (after hostOps0_3 X (devRef .tc main_v34)) (ix5 z n r h b)
      = ent S2048x1024 (X (devRef .tc main_arg4)) (ix2 ⟨64 * n.val + r.val, by omega⟩ (vc h b)) := by
  unfold ent
  after_reads_at
  exact congrArg _ (congrArg₂ ix2 (row_eq n r _) (vc_eq h b _))

theorem row_col (n : Fin 32) (r : Fin 64) (h : Fin 4) (b : Fin 256) (x : (⟨2, ![2048, 1024]⟩ : Shape).Idx → EReal) (p) (q) :
    x (ix2 ⟨n.val * 64 + r.val, p⟩ ⟨h.val * 256 + b.val, q⟩) = x (ix2 ⟨64 * n.val + r.val, by omega⟩ (vc h b)) :=
  congrArg x (congrArg₂ ix2 (row_eq n r _) (vc_eq h b _))

theorem mid_dq (z : Fin 1) (n : Fin 32) (r : Fin 64) (h : Fin 4) (a : Fin 128) :
    ent S1x32x64x4x128 (after hostOps0_3 X (devRef .tc main_v37)) (ix5 z n r h a)
      = ∑ b : Fin 256, ent S2048x1024 (X (devRef .tc main_arg4)) (ix2 ⟨64 * n.val + r.val, by omega⟩ (vc h b)) * ent S32x1x4x128x256 (X (devRef .tc main_v26_4)) (ix5 n 0 h a b) := by
  unfold ent
  after_reads_simp
  pointwise
  exact Finset.sum_congr rfl fun b _ => congrArg (· * _) (row_col n r h b _ _ _)

theorem mid_g (n : Fin 32) (z : Fin 1) (h : Fin 4) (a : Fin 128) (b : Fin 256) :
    ent S32x1x4x128x256 (after hostOps0_3 X (devRef .tc main_v44_0)) (ix5 n z h a b)
      = ∑ r : Fin 64, ent S2048x1024 (X (devRef .tc main_arg4)) (ix2 ⟨64 * n.val + r.val, by omega⟩ (vc h b)) * ent S1x32x64x4x128 (X (devRef .tc main_v6)) (ix5 0 n r h a) := by
  unfold ent
  after_reads_simp
  simp only [id_eq]
  pointwise
  exact Finset.sum_congr rfl fun r _ => congrArg (· * _) (row_col n r h b _ _ _)

theorem mid_1 : after hostOps0_3 X (devRef .tc main_v44_1) = X (devRef .tc main_v26_5) := by
  after_reads_simp
  rfl
theorem mid_2 : after hostOps0_3 X (devRef .tc main_v44_2) = X (devRef .tc main_v26_6) := by
  after_reads_simp
  rfl

theorem mid_c (z : Fin 1) (h : Fin 4) (a : Fin 128) (b : Fin 256) :
    ent S1x4x128x256 (after hostOps0_3 X (devRef .tc main_v44_4)) (ix4 z h a b) = 0 := by
  unfold ent
  after_reads_simp
  simp only [id_eq]
  pointwise

/-! ## After the loops -/

theorem post_v (z : Fin 1) (n : Fin 32) (r : Fin 64) (h : Fin 4) (b : Fin 256) :
    ent S1x32x64x4x256 (after hostOps0_4 X (devRef .tc main_v49)) (ix5 z n r h b)
      = ∑ a : Fin 128, ent S32x1x4x128x256 (X (devRef .tc main_v44_6)) (ix5 n 0 h a b) * ent S1x32x64x4x128 (X (devRef .tc main_v17)) (ix5 0 n r h a) := by
  unfold ent
  after_reads_simp
  pointwise

theorem post_k (z : Fin 1) (n : Fin 32) (r : Fin 64) (h : Fin 4) (a : Fin 128) :
    ent S1x32x64x4x128 (after hostOps0_4 X (devRef .tc main_v53)) (ix5 z n r h a)
      = (∑ b : Fin 256, ent S32x1x4x128x256 (X (devRef .tc main_v44_6)) (ix5 n 0 h a b) * ent S1x32x64x4x256 (X (devRef .tc main_v8)) (ix5 0 n r h b)) * ent S1x32x64x4x128 (X (devRef .tc main_v16)) (ix5 0 n r h a) := by
  unfold ent
  after_reads_simp
  pointwise
  rw [Fin.fin_one_eq_zero z]

theorem post_l (z : Fin 1) (n : Fin 32) (r : Fin 64) (h : Fin 4) (a : Fin 128) :
    ent S1x32x64x4x128 (after hostOps0_4 X (devRef .tc main_v63)) (ix5 z n r h a)
      = -(ent S1x32x64x4x128 (X (devRef .tc main_v7)) (ix5 0 n r h a) * (∑ b : Fin 256, ent S32x1x4x128x256 (X (devRef .tc main_v44_6)) (ix5 n 0 h a b) * ent S1x32x64x4x256 (X (devRef .tc main_v8)) (ix5 0 n r h b)) * ent S1x32x64x4x128 (X (devRef .tc main_v16)) (ix5 0 n r h a))
        + if r = 63 then ent S32x1x4x128 (X (devRef .tc main_v44_5)) (ix4 n 0 h a) * ent S1x32x4x128 (X (devRef .tc main_v19)) (ix4 0 n h a)
            + ∑ r : Fin 64, (ent S1x32x64x4x128 (X (devRef .tc main_v7)) (ix5 0 n r h a) * (∑ b : Fin 256, ent S32x1x4x128x256 (X (devRef .tc main_v44_6)) (ix5 n 0 h a b) * ent S1x32x64x4x256 (X (devRef .tc main_v8)) (ix5 0 n r h b)) * ent S1x32x64x4x128 (X (devRef .tc main_v16)) (ix5 0 n r h a)) else 0 := by
  unfold ent
  after_reads_simp
  pointwise [unit5]
  have hr := r.isLt
  rw [Fin.fin_one_eq_zero z]
  by_cases e : r = 63
  · rw [if_pos e, dif_pos (by subst e; decide)]
  · rw [if_neg e, dif_neg fun h' => e (Fin.ext (by show r.val = 63; omega))]

theorem post_rev (z : Fin 1) (n : Fin 32) (r : Fin 64) (h : Fin 4) (a : Fin 128) :
    ent S1x32x64x4x128 (after hostOps0_5 X (devRef .tc main_v64)) (ix5 z n r h a)
      = ∑ t : Fin 64, if r ≤ t then ent S1x32x64x4x128 (X (devRef .tc main_v63)) (ix5 0 n t h a) else 0 := by
  unfold ent
  after_reads_simp
  simp -implicitDefEqProofs only [StableHlo.TRef.toBuf, StableHlo.TRef.ofBuf, cast_cast, cast_eq]
  rw [Fin.fin_one_eq_zero z]
  exact revsum5 _ _ (fun i => Ideal.ofBits_zero_f32) _ _ 0 n r h a

theorem out_q (s : Fin 2048) (j : Fin 512) :
    ent S2048x512 (after hostOps0_6 X (devRef .tc main_v74)) (ix2 s j)
      = ent S1x32x64x4x128 (X (devRef .tc main_v37)) (ix5 0 ⟨s.val / 64, by omega⟩ (cr s) (kh j) (ka j)) * scale := by
  unfold ent
  after_reads_at
  rfl

theorem out_k (s : Fin 2048) (j : Fin 512) :
    ent S2048x512 (after hostOps0_6 X (devRef .tc main_v73)) (ix2 s j)
      = ent S1x32x64x4x128 (X (devRef .tc main_v53)) (ix5 0 ⟨s.val / 64, by omega⟩ (cr s) (kh j) (ka j)) := by
  unfold ent
  after_reads_at

theorem out_v (s : Fin 2048) (j : Fin 1024) :
    ent S2048x1024 (after hostOps0_6 X (devRef .tc main_v72)) (ix2 s j)
      = ent S1x32x64x4x256 (X (devRef .tc main_v49)) (ix5 0 ⟨s.val / 64, by omega⟩ (cr s) (vh j) (vb j)) := by
  unfold ent
  after_reads_at

theorem out_l (s : Fin 2048) (j : Fin 512) :
    ent S2048x512 (after hostOps0_6 X (devRef .tc main_v71)) (ix2 s j)
      = ent S1x32x64x4x128 (X (devRef .tc main_v64)) (ix5 0 ⟨s.val / 64, by omega⟩ (cr s) (kh j) (ka j)) := by
  unfold ent
  after_reads_at

/-! ## The loops -/

section Loop

variable (m : (ℓ : Loc nD τ sig) → Buf (Elt Ideal) ℓ) (c : Dev nD)

/-- The arguments as arrays of extended reals. -/
abbrev aq : (⟨2, ![2048, 512]⟩ : Shape).Idx → EReal := m ((c.tc : Thread nD τ).loc main_arg0)
abbrev ak : (⟨2, ![2048, 512]⟩ : Shape).Idx → EReal := m ((c.tc : Thread nD τ).loc main_arg1)
abbrev av : (⟨2, ![2048, 1024]⟩ : Shape).Idx → EReal := m ((c.tc : Thread nD τ).loc main_arg2)
abbrev al : (⟨2, ![2048, 512]⟩ : Shape).Idx → EReal := m ((c.tc : Thread nD τ).loc main_arg3)
abbrev ao : (⟨2, ![2048, 1024]⟩ : Shape).Idx → EReal := m ((c.tc : Thread nD τ).loc main_arg4)

/-- The first loop's entry. -/
abbrev E : Valuation τ sig (Elt Ideal) := entryContents preI m c

/-- The state before chunk `n`, and the gradient of the state after it. -/
abbrev S (n : ℕ) : State := sB (ak m c) (al m c) (av m c) n
abbrev G (n : ℕ) : State := gB (aq m c) (al m c) (ao m c) n

theorem E_q (z : Fin 1) (n : Fin 32) (r : Fin 64) (h : Fin 4) (a : Fin 128) :
    ent S1x32x64x4x128 (E m c (devRef .tc main_v6)) (ix5 z n r h a) = chunk (aq m c) n.val r (kc h a) * scale := by
  show ent S1x32x64x4x128 (after hostOps0_2 (after hostOps0_1 (after hostOps0 (launchContents m c))) (devRef .tc main_v6)) _ = _
  rw [after_of_writes_sub hostOps0_2 _ hostOps0_2_writes (by decide +kernel), after_of_writes_sub hostOps0_1 _ hostOps0_1_writes (by decide +kernel), pre_q,
    chunk_of_lt _ _ _ _ (by omega)]

theorem E_k (z : Fin 1) (n : Fin 32) (r : Fin 64) (h : Fin 4) (a : Fin 128) :
    ent S1x32x64x4x128 (E m c (devRef .tc main_v7)) (ix5 z n r h a) = chunk (ak m c) n.val r (kc h a) := by
  show ent S1x32x64x4x128 (after hostOps0_2 (after hostOps0_1 (after hostOps0 (launchContents m c))) (devRef .tc main_v7)) _ = _
  rw [after_of_writes_sub hostOps0_2 _ hostOps0_2_writes (by decide +kernel), after_of_writes_sub hostOps0_1 _ hostOps0_1_writes (by decide +kernel), pre_k,
    chunk_of_lt _ _ _ _ (by omega)]

theorem E_v (z : Fin 1) (n : Fin 32) (r : Fin 64) (h : Fin 4) (b : Fin 256) :
    ent S1x32x64x4x256 (E m c (devRef .tc main_v8)) (ix5 z n r h b) = chunk (av m c) n.val r (vc h b) := by
  show ent S1x32x64x4x256 (after hostOps0_2 (after hostOps0_1 (after hostOps0 (launchContents m c))) (devRef .tc main_v8)) _ = _
  rw [after_of_writes_sub hostOps0_2 _ hostOps0_2_writes (by decide +kernel), after_of_writes_sub hostOps0_1 _ hostOps0_1_writes (by decide +kernel), pre_v,
    chunk_of_lt _ _ _ _ (by omega)]

theorem E_b (z : Fin 1) (n : Fin 32) (r : Fin 64) (h : Fin 4) (a : Fin 128) :
    ent S1x32x64x4x128 (after hostOps0_1 (after hostOps0 (launchContents m c)) (devRef .tc main_v10)) (ix5 z n r h a)
      = bsum (chunk (al m c) n.val) r (kc h a) := by
  rw [pre_b]
  unfold bsum
  refine Finset.sum_congr rfl fun t _ => ?_
  rw [pre_la, chunk_of_lt _ _ _ _ (by omega)]

theorem bsum_last (g : KRows) (j : Fin 512) : bsum g 63 j = bend g j := by
  unfold bsum bend
  exact Finset.sum_congr rfl fun t _ => if_pos (Fin.le_def.2 (by have := t.isLt; show t.val ≤ 63; omega))

theorem E_w (z : Fin 1) (n : Fin 32) (r : Fin 64) (h : Fin 4) (a : Fin 128) :
    ent S1x32x64x4x128 (E m c (devRef .tc main_v16)) (ix5 z n r h a) = wgt (chunk (al m c) n.val) r (kc h a) := by
  refine (pre_w _ z n r h a).trans ?_
  rw [E_b, E_b, bsum_last]
  rfl

theorem E_kd (z : Fin 1) (n : Fin 32) (r : Fin 64) (h : Fin 4) (a : Fin 128) :
    ent S1x32x64x4x128 (E m c (devRef .tc main_v17)) (ix5 z n r h a) = kdec (chunk (al m c) n.val) (chunk (ak m c) n.val) r (kc h a) := by
  refine (pre_kd _ z n r h a).trans ?_
  rw [E_b, E_b, bsum_last, after_of_writes_sub hostOps0_1 _ hostOps0_1_writes (by decide +kernel), pre_k]
  unfold kdec wgt
  rw [chunk_of_lt (ak m c) _ _ _ (by omega)]

theorem E_d (z : Fin 1) (n : Fin 32) (h : Fin 4) (a : Fin 128) :
    ent S1x32x4x128 (E m c (devRef .tc main_v19)) (ix4 z n h a) = dec (chunk (al m c) n.val) (kc h a) := by
  refine (pre_d _ z n h a).trans ?_
  rw [E_b, bsum_last]
  rfl

theorem E_dec (n : Fin 32) (z : Fin 1) (h : Fin 4) (a : Fin 128) :
    ent S32x1x4x128 (E m c (devRef .tc main_v26_0)) (ix4 n z h a) = dec (chunk (al m c) n.val) (kc h a) := by
  refine (pre_dec _ n z h a).trans ?_
  rw [E_b, bsum_last]
  rfl

theorem E_u (n : Fin 32) (z : Fin 1) (h : Fin 4) (a : Fin 128) (b : Fin 256) :
    ent S32x1x4x128x256 (E m c (devRef .tc main_v26_1)) (ix5 n z h a b)
      = upd (chunk (al m c) n.val) (chunk (ak m c) n.val) (chunk (av m c) n.val) h b a := by
  refine (pre_u _ n z h a b).trans ?_
  unfold upd
  refine Finset.sum_congr rfl fun x _ => ?_
  rw [E_b, E_b, bsum_last, after_of_writes_sub hostOps0_1 _ hostOps0_1_writes (by decide +kernel), after_of_writes_sub hostOps0_1 _ hostOps0_1_writes (by decide +kernel),
    pre_k, pre_v, mul_comm, chunk_of_lt (av m c) _ _ _ (by omega)]
  unfold kdec wgt
  rw [chunk_of_lt (ak m c) _ _ _ (by omega)]

/-- Before trip `k` of the first loop: the decays and updates are as they were, the state is the recurrence's, and the
    first `k` rows of the three histories hold the states after and before the chunks and the chunks' decays. -/
theorem inv0 (k : ℕ) (hk : k ≤ 32) :
    at0 m k c (devRef .tc main_v26_0) = E m c (devRef .tc main_v26_0)
    ∧ at0 m k c (devRef .tc main_v26_1) = E m c (devRef .tc main_v26_1)
    ∧ (∀ z h a b, ent S1x4x128x256 (at0 m k c (devRef .tc main_v26_3)) (ix4 z h a b) = S m c k h b a)
    ∧ (∀ (n : Fin 32) z h a b, n.val < k → ent S32x1x4x128x256 (at0 m k c (devRef .tc main_v26_4)) (ix5 n z h a b) = S m c (n.val + 1) h b a)
    ∧ (∀ (n : Fin 32) z h a b, n.val < k → ent S32x1x4x128x256 (at0 m k c (devRef .tc main_v26_5)) (ix5 n z h a b) = S m c n.val h b a)
    ∧ ∀ (n : Fin 32) z h a b, n.val < k → ent S32x1x4x128x1 (at0 m k c (devRef .tc main_v26_6)) (ix5 n z h a b) = dec (chunk (al m c) n.val) (kc h a) := by
  induction k with
  | zero =>
    exact ⟨rfl, rfl, fun z h a b => pre_st _ z h a b, fun n z h a b hn => absurd hn (by omega), fun n z h a b hn => absurd hn (by omega),
      fun n z h a b hn => absurd hn (by omega)⟩
  | succ k ih =>
    obtain ⟨i0, i1, i3, i4, i5, i6⟩ := ih (by omega)
    have hc := at0_ctr m c k
    have e : at0 m (k + 1) c = trip0 (at0 m k c) := rfl
    have h3 : ∀ h a b, ent S32x1x4x128 (at0 m k c (devRef .tc main_v26_0)) (ix4 ⟨k, by omega⟩ 0 h a) * ent S1x4x128x256 (at0 m k c (devRef .tc main_v26_3)) (ix4 0 h a b)
        + ent S32x1x4x128x256 (at0 m k c (devRef .tc main_v26_1)) (ix5 ⟨k, by omega⟩ 0 h a b) = S m c (k + 1) h b a := by
      intro h a b
      rw [i3, i0, i1, E_dec, E_u]
      show _ = step _ _ _ _ h b a
      unfold step
      rw [mul_comm]
    rw [e]
    refine ⟨(t0_0 _).trans i0, (t0_1 _).trans i1, fun z h a b => (t0_st _ ⟨k, by omega⟩ hc z h a b).trans (h3 h a b), ?_, ?_, ?_⟩
    · intro n z h a b hn
      rw [t0_after _ ⟨k, by omega⟩ hc]
      by_cases hnk : n = ⟨k, by omega⟩
      · rw [if_pos hnk, h3, hnk]
      · rw [if_neg hnk]
        have hne : n.val ≠ k := fun e => hnk (Fin.ext e)
        exact i4 n z h a b (by omega)
    · intro n z h a b hn
      rw [t0_before _ ⟨k, by omega⟩ hc]
      by_cases hnk : n = ⟨k, by omega⟩
      · rw [if_pos hnk, i3, hnk]
      · rw [if_neg hnk]
        have hne : n.val ≠ k := fun e => hnk (Fin.ext e)
        exact i5 n z h a b (by omega)
    · intro n z h a b hn
      rw [t0_dec _ ⟨k, by omega⟩ hc]
      by_cases hnk : n = ⟨k, by omega⟩
      · rw [if_pos hnk, i0, E_dec, hnk]
      · rw [if_neg hnk]
        have hne : n.val ≠ k := fun e => hnk (Fin.ext e)
        exact i6 n z h a b (by omega)

/-- What neither stretch of a loop writes stays through it. -/
def loop0_W : List (Ref sig .tc) :=
  cond0Ops_W ++ (while0Ops0_W ++ (while0Ops0_1_W ++ (while0Ops0_2_W ++ (while0Ops0_3_W ++ (while0Ops0_4_W ++ (while0Ops0_5_W ++ while0Ops0_6_W))))))
def loop1_W : List (Ref sig .tc) :=
  cond1Ops_W ++ (while1Ops0_W ++ (while1Ops0_1_W ++ (while1Ops0_2_W ++ (while1Ops0_3_W ++ (while1Ops0_4_W ++ (while1Ops0_5_W ++ (while1Ops0_6_W ++ while1Ops0_7_W)))))))

theorem stay0 {r : Ref sig .tc} (hr : r ∉ loop0_W) (k : ℕ) : after cond0Ops (at0 m k c) (devRef .tc r) = E m c (devRef .tc r) := by
  unfold loop0_W at hr
  simp only [List.mem_append, not_or] at hr
  obtain ⟨hc, h0, h1, h2, h3, h4, h5, h6⟩ := hr
  refine (after_of_writes_sub cond0Ops _ cond0Ops_writes hc).trans ?_
  induction k with
  | zero => rfl
  | succ k ih =>
    show after while0Ops0_6 (after while0Ops0_5 (after while0Ops0_4 (after while0Ops0_3 (after while0Ops0_2 (after while0Ops0_1 (after while0Ops0 (after cond0Ops (at0 m k c)))))))) (devRef .tc r) = _
    rw [after_of_writes_sub while0Ops0_6 _ while0Ops0_6_writes h6, after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2, after_of_writes_sub while0Ops0_1 _ while0Ops0_1_writes h1,
      after_of_writes_sub while0Ops0 _ while0Ops0_writes h0, after_of_writes_sub cond0Ops _ cond0Ops_writes hc, ih]

theorem stay1 {r : Ref sig .tc} (hr : r ∉ loop1_W) (k : ℕ) : after cond1Ops (at1 m k c) (devRef .tc r) = mid m c (devRef .tc r) := by
  unfold loop1_W at hr
  simp only [List.mem_append, not_or] at hr
  obtain ⟨hc, h0, h1, h2, h3, h4, h5, h6, h7⟩ := hr
  refine (after_of_writes_sub cond1Ops _ cond1Ops_writes hc).trans ?_
  induction k with
  | zero => rfl
  | succ k ih =>
    show after while1Ops0_7 (after while1Ops0_6 (after while1Ops0_5 (after while1Ops0_4 (after while1Ops0_3 (after while1Ops0_2 (after while1Ops0_1 (after while1Ops0 (after cond1Ops (at1 m k c))))))))) (devRef .tc r) = _
    rw [after_of_writes_sub while1Ops0_7 _ while1Ops0_7_writes h7, after_of_writes_sub while1Ops0_6 _ while1Ops0_6_writes h6, after_of_writes_sub while1Ops0_5 _ while1Ops0_5_writes h5,
      after_of_writes_sub while1Ops0_4 _ while1Ops0_4_writes h4, after_of_writes_sub while1Ops0_3 _ while1Ops0_3_writes h3, after_of_writes_sub while1Ops0_2 _ while1Ops0_2_writes h2,
      after_of_writes_sub while1Ops0_1 _ while1Ops0_1_writes h1, after_of_writes_sub while1Ops0 _ while1Ops0_writes h0, after_of_writes_sub cond1Ops _ cond1Ops_writes hc, ih]

/-- The second loop's end. -/
abbrev Z : Valuation τ sig (Elt Ideal) := after cond1Ops (at1 m 32 c)

theorem Z_at {r : Ref sig .tc} (hr : r ∉ cond1Ops_W) : Z m c (devRef .tc r) = at1 m 32 c (devRef .tc r) :=
  after_of_writes_sub cond1Ops _ cond1Ops_writes hr
theorem Z_mid {r : Ref sig .tc} (hr : r ∉ loop1_W) : Z m c (devRef .tc r) = mid m c (devRef .tc r) := stay1 m c hr 32

/-- What the lines between the loops leave alone too. -/
theorem stay {r : Ref sig .tc} (h0 : r ∉ loop0_W) (hm : r ∉ hostOps0_3_W) (h1 : r ∉ loop1_W) :
    Z m c (devRef .tc r) = E m c (devRef .tc r) := by
  refine (Z_mid m c h1).trans ?_
  show after hostOps0_3 (after cond0Ops (at0 m 32 c)) (devRef .tc r) = _
  rw [after_of_writes_sub hostOps0_3 _ hostOps0_3_writes hm, stay0 m c h0]

theorem E_o : E m c (devRef .tc main_arg4) = m ((c.tc : Thread nD τ).loc main_arg4) := by
  show after hostOps0_2 (after hostOps0_1 (after hostOps0 (launchContents m c))) (devRef .tc main_arg4) = _
  rw [after_of_writes_sub hostOps0_2 _ hostOps0_2_writes (by decide +kernel), after_of_writes_sub hostOps0_1 _ hostOps0_1_writes (by decide +kernel),
    after_of_writes_sub hostOps0 _ hostOps0_writes (by decide +kernel)]

theorem o_chunk (n : Fin 32) (r : Fin 64) (h : Fin 4) (b : Fin 256) :
    ent S2048x1024 (after cond0Ops (at0 m 32 c) (devRef .tc main_arg4)) (ix2 ⟨64 * n.val + r.val, by omega⟩ (vc h b)) = chunk (ao m c) n.val r (vc h b) := by
  rw [stay0 m c (by decide +kernel), E_o, chunk_of_lt _ _ _ _ (by omega)]

theorem M_dq (z : Fin 1) (n : Fin 32) (r : Fin 64) (h : Fin 4) (a : Fin 128) :
    ent S1x32x64x4x128 (mid m c (devRef .tc main_v37)) (ix5 z n r h a) = ∑ b : Fin 256, chunk (ao m c) n.val r (vc h b) * S m c (n.val + 1) h b a := by
  obtain ⟨-, -, -, i4, -, -⟩ := inv0 m c 32 le_rfl
  refine (mid_dq _ z n r h a).trans (Finset.sum_congr rfl fun b _ => ?_)
  rw [o_chunk, after_of_writes_sub cond0Ops _ cond0Ops_writes (by decide +kernel), i4 n 0 h a b n.isLt]

theorem M_g (n : Fin 32) (z : Fin 1) (h : Fin 4) (a : Fin 128) (b : Fin 256) :
    ent S32x1x4x128x256 (mid m c (devRef .tc main_v44_0)) (ix5 n z h a b)
      = ∑ r : Fin 64, chunk (ao m c) n.val r (vc h b) * (chunk (aq m c) n.val r (kc h a) * scale) := by
  refine (mid_g _ n z h a b).trans (Finset.sum_congr rfl fun r _ => ?_)
  rw [o_chunk, stay0 m c (by decide +kernel), E_q]

theorem M_s (n : Fin 32) (z : Fin 1) (h : Fin 4) (a : Fin 128) (b : Fin 256) :
    ent S32x1x4x128x256 (mid m c (devRef .tc main_v44_1)) (ix5 n z h a b) = S m c n.val h b a := by
  obtain ⟨-, -, -, -, i5, -⟩ := inv0 m c 32 le_rfl
  refine (congrFun ((mid_1 _).trans (after_of_writes_sub cond0Ops _ cond0Ops_writes (by decide +kernel))) _).trans ?_
  exact i5 n z h a b n.isLt

theorem M_d (n : Fin 32) (z : Fin 1) (h : Fin 4) (a : Fin 128) (b : Fin 1) :
    ent S32x1x4x128x1 (mid m c (devRef .tc main_v44_2)) (ix5 n z h a b) = dec (chunk (al m c) n.val) (kc h a) := by
  obtain ⟨-, -, -, -, -, i6⟩ := inv0 m c 32 le_rfl
  refine (congrFun ((mid_2 _).trans (after_of_writes_sub cond0Ops _ cond0Ops_writes (by decide +kernel))) _).trans ?_
  exact i6 n z h a b n.isLt

/-- Before trip `k` of the second loop: what is carried back is the recurrence's, and the last `k` rows of the two
    histories hold the state gradients and the decays' gradients. -/
theorem inv1 (k : ℕ) (hk : k ≤ 32) :
    at1 m k c (devRef .tc main_v44_0) = mid m c (devRef .tc main_v44_0)
    ∧ at1 m k c (devRef .tc main_v44_1) = mid m c (devRef .tc main_v44_1)
    ∧ at1 m k c (devRef .tc main_v44_2) = mid m c (devRef .tc main_v44_2)
    ∧ (∀ z h a b, ent S1x4x128x256 (at1 m k c (devRef .tc main_v44_4)) (ix4 z h a b) = carry (chunk (al m c)) (chunk (aq m c)) (chunk (ao m c)) k h b a)
    ∧ (∀ (n : Fin 32) z h a b, 32 ≤ n.val + k → ent S32x1x4x128x256 (at1 m k c (devRef .tc main_v44_6)) (ix5 n z h a b) = G m c n.val h b a)
    ∧ ∀ (n : Fin 32) z h a, 32 ≤ n.val + k → ent S32x1x4x128 (at1 m k c (devRef .tc main_v44_5)) (ix4 n z h a) = ddc (G m c n.val) (S m c n.val) h a := by
  induction k with
  | zero =>
    exact ⟨rfl, rfl, rfl, fun z h a b => mid_c _ z h a b, fun n z h a b hn => absurd hn (by have := n.isLt; omega), fun n z h a hn => absurd hn (by have := n.isLt; omega)⟩
  | succ k ih =>
    obtain ⟨i0, i1, i2, i4, i6, i5⟩ := ih (by omega)
    have hc := at1_ctr m c k
    have e : at1 m (k + 1) c = trip1 (at1 m k c) := rfl
    have hg : ∀ h a b, ent S1x4x128x256 (at1 m k c (devRef .tc main_v44_4)) (ix4 0 h a b)
        + ent S32x1x4x128x256 (at1 m k c (devRef .tc main_v44_0)) (ix5 (back ⟨k, by omega⟩) 0 h a b) = G m c (31 - k) h b a := by
      intro h a b
      rw [i4, i0, M_g]
      show _ = gst _ _ _ (31 - k) h b a
      unfold gst
      rw [show 31 - (31 - k) = k by omega]
      rfl
    rw [e]
    refine ⟨(t1_0 _).trans i0, (t1_1 _).trans i1, (t1_2 _).trans i2, ?_, ?_, ?_⟩
    · intro z h a b
      rw [t1_carry _ ⟨k, by omega⟩ hc, hg, i2, M_d, mul_comm]
      show gst _ _ _ (31 - k) h b a * _ = _
      unfold gst
      rw [show 31 - (31 - k) = k by omega]
      rfl
    · intro n z h a b hn
      rw [t1_grad _ ⟨k, by omega⟩ hc]
      by_cases hnk : n = back ⟨k, by omega⟩
      · rw [if_pos hnk, hg, hnk]
      · rw [if_neg hnk]
        have hne : n.val ≠ 31 - k := fun e => hnk (Fin.ext e)
        exact i6 n z h a b (by omega)
    · intro n z h a hn
      rw [t1_dc _ ⟨k, by omega⟩ hc]
      by_cases hnk : n = back ⟨k, by omega⟩
      · rw [if_pos hnk]
        unfold ddc
        refine Finset.sum_congr rfl fun b _ => ?_
        rw [hg, i1, M_s, hnk]
      · rw [if_neg hnk]
        have hne : n.val ≠ 31 - k := fun e => hnk (Fin.ext e)
        exact i5 n z h a (by omega)

/-! ## The results -/

theorem Z_g (n : Fin 32) (z : Fin 1) (h : Fin 4) (a : Fin 128) (b : Fin 256) :
    ent S32x1x4x128x256 (Z m c (devRef .tc main_v44_6)) (ix5 n z h a b) = G m c n.val h b a := by
  obtain ⟨-, -, -, -, i6, -⟩ := inv1 m c 32 le_rfl
  rw [Z_at m c (by decide +kernel)]
  exact i6 n z h a b (by omega)

theorem Z_dc (n : Fin 32) (z : Fin 1) (h : Fin 4) (a : Fin 128) :
    ent S32x1x4x128 (Z m c (devRef .tc main_v44_5)) (ix4 n z h a) = ddc (G m c n.val) (S m c n.val) h a := by
  obtain ⟨-, -, -, -, -, i5⟩ := inv1 m c 32 le_rfl
  rw [Z_at m c (by decide +kernel)]
  exact i5 n z h a (by omega)

/-- The gradient of a decayed key, as the reference spells it. -/
theorem Z_kd (n : Fin 32) (r : Fin 64) (h : Fin 4) (a : Fin 128) :
    (∑ b : Fin 256, ent S32x1x4x128x256 (Z m c (devRef .tc main_v44_6)) (ix5 n 0 h a b) * ent S1x32x64x4x256 (Z m c (devRef .tc main_v8)) (ix5 0 n r h b))
      = dkd (chunk (av m c) n.val) (G m c n.val) r h a := by
  unfold dkd
  refine Finset.sum_congr rfl fun b _ => ?_
  rw [Z_g, stay m c (by decide +kernel) (by decide +kernel) (by decide +kernel), E_v, mul_comm]

theorem Z_w (n : Fin 32) (r : Fin 64) (h : Fin 4) (a : Fin 128) :
    ent S1x32x64x4x128 (Z m c (devRef .tc main_v16)) (ix5 0 n r h a) = wgt (chunk (al m c) n.val) r (kc h a) := by
  rw [stay m c (by decide +kernel) (by decide +kernel) (by decide +kernel), E_w]

/-- The gradient of a decayed key's exponent, as the reference spells it. -/
theorem Z_e (n : Fin 32) (r : Fin 64) (h : Fin 4) (a : Fin 128) :
    ent S1x32x64x4x128 (Z m c (devRef .tc main_v7)) (ix5 0 n r h a) * dkd (chunk (av m c) n.val) (G m c n.val) r h a * wgt (chunk (al m c) n.val) r (kc h a)
      = er (chunk (al m c) n.val) (chunk (ak m c) n.val) (chunk (av m c) n.val) (G m c n.val) r h a := by
  rw [stay m c (by decide +kernel) (by decide +kernel) (by decide +kernel), E_k]
  unfold er kdec
  rw [mul_comm (chunk _ _ _ _) (dkd _ _ _ _ _), mul_assoc]

/-- What the reversed running sum adds up, at a row. -/
theorem Z_l (n : Fin 32) (r : Fin 64) (h : Fin 4) (a : Fin 128) :
    ent S1x32x64x4x128 (after hostOps0_4 (Z m c) (devRef .tc main_v63)) (ix5 0 n r h a)
      = (0 - er (chunk (al m c) n.val) (chunk (ak m c) n.val) (chunk (av m c) n.val) (G m c n.val) r h a)
        + if r = 63 then dbe (chunk (al m c) n.val) (chunk (ak m c) n.val) (chunk (av m c) n.val) (G m c n.val) (S m c n.val) h a else 0 := by
  refine (post_l _ 0 n r h a).trans ?_
  have hE : ∀ x : Fin 64, ent S1x32x64x4x128 (Z m c (devRef .tc main_v7)) (ix5 0 n x h a)
      * (∑ b : Fin 256, ent S32x1x4x128x256 (Z m c (devRef .tc main_v44_6)) (ix5 n 0 h a b) * ent S1x32x64x4x256 (Z m c (devRef .tc main_v8)) (ix5 0 n x h b))
      * ent S1x32x64x4x128 (Z m c (devRef .tc main_v16)) (ix5 0 n x h a)
      = er (chunk (al m c) n.val) (chunk (ak m c) n.val) (chunk (av m c) n.val) (G m c n.val) x h a := fun x => by rw [Z_kd, Z_w, Z_e]
  rw [zero_sub, hE r, Finset.sum_congr rfl fun x _ => hE x, Z_dc, stay m c (by decide +kernel) (by decide +kernel) (by decide +kernel), E_d, add_comm (ddc _ _ _ _ * _)]
  rfl

/-- The last row's term is in every reversed running sum. -/
theorem rev_split (f : Fin 64 → EReal) (x : EReal) (r : Fin 64) :
    (∑ t : Fin 64, if r ≤ t then f t + (if t = 63 then x else 0) else 0) = (∑ t : Fin 64, if r ≤ t then f t else 0) + x := by
  have h : ∀ t : Fin 64, (if r ≤ t then f t + (if t = 63 then x else 0) else 0) = (if r ≤ t then f t else 0) + if t = 63 then x else 0 := by
    intro t
    by_cases h1 : r ≤ t
    · rw [if_pos h1, if_pos h1]
    · have h2 : t ≠ 63 := fun e => h1 (Fin.le_def.2 (by rw [e]; have := r.isLt; show r.val ≤ 63; omega))
      rw [if_neg h1, if_neg h1, if_neg h2, add_zero]
  rw [Finset.sum_congr rfl fun t _ => h t, Finset.sum_add_distrib, Finset.sum_ite_eq' Finset.univ (63 : Fin 64) fun _ => x, if_pos (Finset.mem_univ _)]

theorem fin_q (s : Fin 2048) (j : Fin 512) :
    ent S2048x512 (fin m c (devRef .tc main_v74)) (ix2 s j) = dqArr (ak m c) (al m c) (av m c) (ao m c) s j := by
  refine (out_q _ s j).trans ?_
  rw [after_of_writes_sub hostOps0_5 _ hostOps0_5_writes (by decide +kernel), after_of_writes_sub hostOps0_4 _ hostOps0_4_writes (by decide +kernel)]
  show ent _ (Z m c (devRef .tc main_v37)) _ * _ = _
  rw [Z_mid m c (by decide +kernel)]
  refine congrArg (· * scale) ((M_dq m c _ _ _ _ _).trans ?_)
  rfl

theorem fin_k (s : Fin 2048) (j : Fin 512) :
    ent S2048x512 (fin m c (devRef .tc main_v73)) (ix2 s j) = dkArr (aq m c) (al m c) (av m c) (ao m c) s j := by
  refine (out_k _ s j).trans ?_
  rw [after_of_writes_sub hostOps0_5 _ hostOps0_5_writes (by decide +kernel)]
  refine (post_k (Z m c) _ _ _ _ _).trans ?_
  rw [Z_kd, Z_w]
  rfl

theorem fin_v (s : Fin 2048) (j : Fin 1024) :
    ent S2048x1024 (fin m c (devRef .tc main_v72)) (ix2 s j) = dvArr (aq m c) (ak m c) (al m c) (ao m c) s j := by
  refine (out_v _ s j).trans ?_
  rw [after_of_writes_sub hostOps0_5 _ hostOps0_5_writes (by decide +kernel)]
  refine (post_v (Z m c) _ _ _ _ _).trans ?_
  unfold dvArr dvr
  refine Finset.sum_congr rfl fun a _ => ?_
  rw [Z_g, stay m c (by decide +kernel) (by decide +kernel) (by decide +kernel), E_kd, mul_comm]

theorem fin_l (s : Fin 2048) (j : Fin 512) :
    ent S2048x512 (fin m c (devRef .tc main_v71)) (ix2 s j) = dlArr (aq m c) (ak m c) (al m c) (av m c) (ao m c) s j := by
  refine (out_l _ s j).trans ((post_rev _ _ _ _ _ _).trans ?_)
  refine (Finset.sum_congr rfl fun t _ => congrArg (fun y => if cr s ≤ t then y else 0) (Z_l m c _ t _ _)).trans ?_
  exact rev_split _ _ _

end Loop

end Cert.ReferenceIdeal.Own
-- ==== Proof.FfnSpec.lean ====
/-
  The feed-forward layer as plain functions over the extended reals: the normalised rows, the gate and up projections,
  the activation, the down projection with the residual, and the same sum over the 5632 hidden columns taken in 8 slabs of
  704.
-/
module
public import proofs.«01_k».proof.Proof.Base

@[expose] public section

noncomputable section

namespace Cert.Ffn

open Idealize.ShloMosaic Idealize.ShloMosaic.Pointwise

/-- 2048 rows of `n` columns, and the 8 slabs of a stacked weight or of stacked hidden columns. -/
abbrev Rows (n : ℕ) := Fin 2048 → Fin n → EReal
abbrev Slabs (a b : ℕ) := Fin 8 → Fin a → Fin b → EReal

/-- The rows divided by their root mean square, times the gain. -/
def normed (x : Rows 2048) (gain : Fin 2048 → EReal) : Rows 2048 := fun r l =>
  x r l * Ideal.rsqrt (Ideal.div (∑ k, x r k * x r k) (Ideal.ofBits .f32 0x45000000#32) + Ideal.ofBits .f32 0x358637BD#32) * gain l

/-- A projection into the hidden columns, slab by slab; the weight's slab holds its columns as rows. -/
def proj (h : Rows 2048) (w : Slabs 704 2048) : Slabs 2048 704 := fun j r f => ∑ k, h r k * w j f k

/-- The gated activation. -/
def act (g u : Slabs 2048 704) : Slabs 2048 704 := fun j r f => g j r f * Ideal.logistic (g j r f) * u j r f

/-- Half the down projection, on top of the rows themselves. -/
def down (a : Slabs 2048 704) (w : Slabs 704 2048) (x : Rows 2048) : Rows 2048 := fun r l =>
  (∑ j, ∑ f, a j r f * w j f l) * Ideal.ofBits .f32 0x3F000000#32 + x r l

/-- The layer. -/
def layer (x : Rows 2048) (gain : Fin 2048 → EReal) (wg wu wd : Slabs 704 2048) : Rows 2048 :=
  down (act (proj (normed x gain) wg) (proj (normed x gain) wu)) wd x

/-- Half the product of the result's gradient with the down weight: the gradient of the activation. -/
def dactOf (dy : Rows 2048) (w : Slabs 704 2048) : Slabs 2048 704 := fun j r f => ∑ l, Ideal.ofBits .f32 0x3F000000#32 * dy r l * w j f l

/-- The gradients of the two projections, from that of the activation. -/
def dup (g d : Slabs 2048 704) : Slabs 2048 704 := fun j r f => g j r f * Ideal.logistic (g j r f) * d j r f
def dgate (g u d : Slabs 2048 704) : Slabs 2048 704 := fun j r f =>
  d j r f * u j r f * Ideal.logistic (g j r f)
    + g j r f * (d j r f * u j r f) * (Ideal.logistic (g j r f) * (1 - Ideal.logistic (g j r f)))

/-- The gradient of the normalised rows, from those of the two projections. -/
def drows (dg du : Slabs 2048 704) (wg wu : Slabs 704 2048) : Rows 2048 := fun r l =>
  (∑ j, ∑ f, dg j r f * wg j f l) + ∑ j, ∑ f, du j r f * wu j f l

/-- Hidden column `f` of slab `j` among the 5632. -/
def col (j : Fin 8) (f : Fin 704) : Fin 5632 := ⟨704 * j.val + f.val, by omega⟩

/-- A sum over the 5632 hidden columns is the sum over the slabs of the sums over their columns. -/
theorem sum_cols (F : Fin 5632 → EReal) : ∑ c, F c = ∑ j, ∑ f, F (col j f) := by
  rw [← Fintype.sum_prod_type' (f := fun j f => F (col j f))]
  refine (Fintype.sum_equiv (finProdFinEquiv (m := 8) (n := 704)) _ _ fun p => ?_).symm
  refine congrArg F (Fin.ext ?_)
  show 704 * p.1.val + p.2.val = p.2.val + 704 * p.1.val
  omega

/-! ## Reading arrays -/

abbrev rows {a b : ℕ} (x : (⟨2, ![a, b]⟩ : Shape).Idx → EReal) : Fin a → Fin b → EReal := fun r l => x (ix2 r l)
abbrev slabs {a b c : ℕ} (x : (⟨3, ![a, b, c]⟩ : Shape).Idx → EReal) : Fin a → Fin b → Fin c → EReal := fun j r l => x (ix3 j r l)

/-- The same functions on arrays. -/
abbrev normedA (x : FVec Ideal ⟨2, ![2048, 2048]⟩ .f32) (g : FVec Ideal ⟨2, ![1, 2048]⟩ .f32) : FVec Ideal ⟨2, ![2048, 2048]⟩ .bf16 :=
  fun i => normed (rows x) (rows g 0) (i 0) (i 1)

abbrev projA (h : FVec Ideal ⟨2, ![2048, 2048]⟩ .bf16) (w : FVec Ideal ⟨3, ![8, 704, 2048]⟩ .bf16) : FVec Ideal ⟨3, ![8, 2048, 704]⟩ .bf16 :=
  fun i => proj (rows h) (slabs w) (i 0) (i 1) (i 2)

abbrev actA (g : FVec Ideal ⟨3, ![8, 2048, 704]⟩ .bf16) (u : FVec Ideal ⟨3, ![8, 2048, 704]⟩ .bf16) : FVec Ideal ⟨3, ![8, 2048, 704]⟩ .bf16 :=
  fun i => act (slabs g) (slabs u) (i 0) (i 1) (i 2)

abbrev downA (a : FVec Ideal ⟨3, ![8, 2048, 704]⟩ .bf16) (w : FVec Ideal ⟨3, ![8, 704, 2048]⟩ .bf16) (x : FVec Ideal ⟨2, ![2048, 2048]⟩ .f32) :
    FVec Ideal ⟨2, ![2048, 2048]⟩ .f32 :=
  fun i => down (slabs a) (slabs w) (rows x) (i 0) (i 1)

abbrev drowsA (dg du : FVec Ideal ⟨3, ![8, 2048, 704]⟩ .bf16) (wg wu : FVec Ideal ⟨3, ![8, 704, 2048]⟩ .bf16) : FVec Ideal ⟨2, ![2048, 2048]⟩ .f32 :=
  fun i => drows (slabs dg) (slabs du) (slabs wg) (slabs wu) (i 0) (i 1)

/-- A weight's slabs: its columns as rows, or its rows as they are. -/
abbrev stackT (w : FVec Ideal ⟨2, ![2048, 5632]⟩ .f32) : FVec Ideal ⟨3, ![8, 704, 2048]⟩ .bf16 := fun i => rows w (i 2) (col (i 0) (i 1))
abbrev stackD (w : FVec Ideal ⟨2, ![5632, 2048]⟩ .f32) : FVec Ideal ⟨3, ![8, 704, 2048]⟩ .bf16 := fun i => rows w (col (i 0) (i 1)) (i 2)

/-- The gradient of the normalised rows from the layer's arguments and the result's gradient. -/
def inputGrad (h : Rows 2048) (wg wu wd : Slabs 704 2048) (dy : Rows 2048) : Rows 2048 :=
  drows (dgate (proj h wg) (proj h wu) (dactOf dy wd)) (dup (proj h wg) (dactOf dy wd)) wg wu

abbrev inputGradA (h : FVec Ideal ⟨2, ![2048, 2048]⟩ .f32) (wg wu : FVec Ideal ⟨2, ![2048, 5632]⟩ .f32) (wd : FVec Ideal ⟨2, ![5632, 2048]⟩ .f32)
    (dy : FVec Ideal ⟨2, ![2048, 2048]⟩ .f32) : FVec Ideal ⟨2, ![2048, 2048]⟩ .f32 :=
  fun i => inputGrad (rows h) (slabs (stackT wg)) (slabs (stackT wu)) (slabs (stackD wd)) (rows dy) (i 0) (i 1)

end Cert.Ffn
-- ==== Proof.FfnFwdKernel.lean ====
/-
  What the feed-forward forward program writes: each of its four calls over any contents of memory, the host's stacked
  weights, and the run with its result.
-/
module
public import proofs.«01_k».proof.Proof.Gen.Kernel3Ideal.Frame
public import proofs.«01_k».proof.Proof.FfnSpec
public import proofs.«01_k».proof.Proof.Base

@[expose] public section

set_option maxRecDepth 20000

noncomputable section

namespace Cert.Kernel3Ideal.Own

open Idealize.ShloMosaic Idealize.ShloMosaic.TcCoe Idealize.ShloMosaic.Pointwise
open Cert.Kernel3Ideal Cert.Kernel3Ideal.Gen Cert.Ffn

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] := by
  decide +kernel

theorem idx1 : ∀ t : Fin cfg1.N, win1_0.index t = ![t.val % 2, 0] ∧ win1_1.index t = ![t.val / 2, 0, 0] ∧ win1_2.index t = ![t.val / 2, t.val % 2, 0] := by
  decide +kernel

theorem idx2 : ∀ t : Fin cfg2.N, win2_0.index t = ![t.val % 2, 0] ∧ win2_1.index t = ![t.val / 2, 0, 0] ∧ win2_2.index t = ![t.val / 2, t.val % 2, 0]
   ∧ win2_3.index t = ![t.val / 2, t.val % 2, 0] ∧ win2_4.index t = ![t.val / 2, t.val % 2, 0]:= by
  decide +kernel

theorem arr0 : (dat0 V c).arrAt 2 cfg0.N = normedA (V c main_arg0) (V c main_arg1) := by
  refine (dat0 V c).arrAt_eq_of_covers 2 _ (by decide +kernel) fun t hf y => ?_
  blk_simp
  rw [after0_2]
  frame_out
  pointwise [k0_pay1, normedA, normed, rows, slabs]
  blk_point [iblk0, idx0 t]

theorem arr1 : (dat1 V c).arrAt 2 cfg1.N = projA (V c main_v8) (V c main_v2) := by
  refine (dat1 V c).arrAt_eq_of_covers 2 _ (by decide +kernel) fun t hf y => ?_
  blk_simp
  rw [after1_2]
  frame_out
  pointwise [k1_pay1, projA, proj, rows, slabs]
  blk_point [iblk1, idx1 t]

theorem arr2u : (dat2 V c).arrAt 3 cfg2.N = projA (V c main_v8) (V c main_v5) := by
  refine (dat2 V c).arrAt_eq_of_covers 3 _ (by decide +kernel) fun t hf y => ?_
  blk_simp
  rw [after2_3]
  frame_out
  pointwise [k2_pay2, k2_pay1, projA, proj, rows, slabs]
  blk_point [iblk2, idx2 t]

theorem arr2a : (dat2 V c).arrAt 4 cfg2.N = actA (V c main_v9) (projA (V c main_v8) (V c main_v5)) := by
  refine (dat2 V c).arrAt_eq_of_covers 4 _ (by decide +kernel) fun t hf y => ?_
  blk_simp
  rw [after2_4]
  frame_out
  pointwise [k2_pay3, k2_pay1, projA, actA, act, proj, rows, slabs]
  blk_point [iblk2, idx2 t]

theorem idx3 : ∀ t : Fin cfg3.N, win3_0.index t = ![0, t.val / 2, 0] ∧ win3_1.index t = ![1, t.val / 2, 0] ∧ win3_2.index t = ![2, t.val / 2, 0] ∧ win3_3.index t = ![3, t.val / 2, 0] ∧ win3_4.index t = ![4, t.val / 2, 0] ∧ win3_5.index t = ![5, t.val / 2, 0] ∧ win3_6.index t = ![6, t.val / 2, 0] ∧ win3_7.index t = ![7, t.val / 2, 0] ∧ win3_8.index t = ![0, 0, t.val % 2] ∧ win3_9.index t = ![1, 0, t.val % 2] ∧ win3_10.index t = ![2, 0, t.val % 2] ∧ win3_11.index t = ![3, 0, t.val % 2] ∧ win3_12.index t = ![4, 0, t.val % 2] ∧ win3_13.index t = ![5, 0, t.val % 2] ∧ win3_14.index t = ![6, 0, t.val % 2] ∧ win3_15.index t = ![7, 0, t.val % 2] ∧ win3_16.index t = ![t.val / 2, t.val % 2] ∧ win3_17.index t = ![t.val / 2, t.val % 2] := by
  decide +kernel

theorem arr3 : (dat3 V c).arrAt 17 cfg3.N = downA (V c main_v10_1) (V c main_v7) (V c main_arg0) := by
  refine (dat3 V c).arrAt_eq_of_covers 17 _ (by decide +kernel) fun t hf y => ?_
  blk_simp
  rw [after3_17]
  unfold outsAt3
  frame_out
  pointwise [k3_pay2, k3_pay1, downA, down, rows, slabs]
  simp only [Fin.sum_univ_eight]
  blk_point [iblk3, idx3 t]

/-! ## The host's stacked weights -/

abbrev ent (s : Shape) (x : s.Idx → EReal) (i : s.Idx) : EReal := x i

section Host
variable (W : Valuation τ sig (Elt Ideal))

theorem stack_g (j : Fin 8) (f : Fin 704) (k : Fin 2048) :
    ent S8x704x2048 (StableHlo.after hostOps0 W (Proc.devRef .tc main_v2)) (ix3 j f k)
      = ent S2048x5632 (W (Proc.devRef .tc main_arg2)) (ix2 k (col j f)) := by
  unfold ent
  after_reads_at
  exact congrArg _ (congrArg _ (Fin.ext (by show j.val * 704 + f.val = 704 * j.val + f.val; omega)))

theorem stack_u (j : Fin 8) (f : Fin 704) (k : Fin 2048) :
    ent S8x704x2048 (StableHlo.after hostOps0 W (Proc.devRef .tc main_v5)) (ix3 j f k)
      = ent S2048x5632 (W (Proc.devRef .tc main_arg3)) (ix2 k (col j f)) := by
  unfold ent
  after_reads_at
  exact congrArg _ (congrArg _ (Fin.ext (by show j.val * 704 + f.val = 704 * j.val + f.val; omega)))

theorem stack_d (j : Fin 8) (f : Fin 704) (k : Fin 2048) :
    ent S8x704x2048 (StableHlo.after hostOps0 W (Proc.devRef .tc main_v7)) (ix3 j f k)
      = ent S5632x2048 (W (Proc.devRef .tc main_arg4)) (ix2 (col j f) k) := by
  unfold ent
  after_reads_at
  exact congrArg _ (congrArg (ix2 · k) (Fin.ext (by show j.val * 704 + f.val = 704 * j.val + f.val; omega)))

theorem stack_g_eq : StableHlo.after hostOps0 W (Proc.devRef .tc main_v2) = stackT (W (Proc.devRef .tc main_arg2)) := by
  refine funext fun (i : S8x704x2048.Idx) => ?_
  rw [eq_ix3 i]
  exact stack_g W _ _ _

theorem stack_u_eq : StableHlo.after hostOps0 W (Proc.devRef .tc main_v5) = stackT (W (Proc.devRef .tc main_arg3)) := by
  refine funext fun (i : S8x704x2048.Idx) => ?_
  rw [eq_ix3 i]
  exact stack_u W _ _ _

theorem stack_d_eq : StableHlo.after hostOps0 W (Proc.devRef .tc main_v7) = stackD (W (Proc.devRef .tc main_arg4)) := by
  refine funext fun (i : S8x704x2048.Idx) => ?_
  rw [eq_ix3 i]
  exact stack_d W _ _ _

end Host

/-! ## The calls one after the other -/

variable (m : (ℓ : Loc nD τ sig) → Buf (Elt Ideal) ℓ) (ρ : Dev nD → PrngReg)

abbrev X : FVec Ideal S2048x2048 .f32 := m ((c : Thread nD τ).loc main_arg0)
abbrev H : FVec Ideal S2048x2048 .bf16 := normedA (X c m) (m ((c : Thread nD τ).loc main_arg1))
abbrev SG : FVec Ideal S8x704x2048 .bf16 := stackT (m ((c : Thread nD τ).loc main_arg2))
abbrev SU : FVec Ideal S8x704x2048 .bf16 := stackT (m ((c : Thread nD τ).loc main_arg3))
abbrev SD : FVec Ideal S8x704x2048 .bf16 := stackD (m ((c : Thread nD τ).loc main_arg4))

theorem h2 : V2 m ρ c main_v8 = H c m :=
  (W2_arr m ρ c 2).trans (arr0 (V1 m ρ) c)

theorem wg2 : V2 m ρ c main_v2 = SG c m :=
  (W2_of m ρ c main_v2 (by decide)).trans (stack_g_eq _)

theorem h3 : V3 m ρ c main_v8 = H c m := (W3_of m ρ c main_v8 (by decide)).trans (h2 c m ρ)

theorem wu3 : V3 m ρ c main_v5 = SU c m :=
  (W3_of m ρ c main_v5 (by decide)).trans ((W2_of m ρ c main_v5 (by decide)).trans (stack_u_eq _))

theorem g3 : V3 m ρ c main_v9 = projA (H c m) (SG c m) := by
  refine (W3_arr m ρ c 2).trans ((arr1 (V2 m ρ) c).trans ?_)
  rw [h2, wg2]

theorem a4 : V4 m ρ c main_v10_1 = actA (projA (H c m) (SG c m)) (projA (H c m) (SU c m)) := by
  refine (W4_arr m ρ c 4).trans ((arr2a (V3 m ρ) c).trans ?_)
  rw [g3, h3, wu3]

theorem wd4 : V4 m ρ c main_v7 = SD c m :=
  (W4_of m ρ c main_v7 (by decide)).trans ((W3_of m ρ c main_v7 (by decide)).trans ((W2_of m ρ c main_v7 (by decide)).trans (stack_d_eq _)))

/-- The program's result. -/
theorem result : W5 m ρ c (Proc.devRef .tc main_v11)
    = downA (actA (projA (H c m) (SG c m)) (projA (H c m) (SU c m))) (SD c m) (X c m) := by
  refine (W5_arr m ρ c 17).trans ((arr3 (V4 m ρ) c).trans ?_)
  rw [a4, wd4, show V4 m ρ c main_arg0 = X c m from W4_args m ρ c main_arg0 (by decide)]

end Cert.Kernel3Ideal.Own
-- ==== Proof.FfnFwdRun.lean ====
/-
  The feed-forward forward program runs to its end from any memory, every buffer outside the scopes ending with what the
  last call leaves.
-/
module
public import proofs.«01_k».proof.Proof.Gen.Kernel3Ideal.Frame
public import proofs.«01_k».proof.Proof.Base

@[expose] public section

set_option maxRecDepth 16384

noncomputable section

namespace Cert.Kernel3Ideal.Own

open Cert.Kernel3Ideal Cert.Kernel3Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.Kernel3Ideal.Own
-- ==== Proof.FfnFwdReference.lean ====
/-
  The feed-forward forward reference, line by line, is the layer of Proof/FfnSpec.lean over the weights' slabs.
-/
module
public import proofs.«01_k».proof.Proof.Gen.Reference3Ideal.Read
public import proofs.«01_k».proof.Proof.FfnSpec

@[expose] public section

set_option maxRecDepth 20000

noncomputable section

namespace Cert.Reference3Ideal.Own

open Idealize.ShloMosaic Idealize.ShloMosaic.Pointwise
open Cert.Reference3Ideal Cert.Reference3Ideal.Gen Cert.Reference3Ideal.Read Cert.Ffn

variable (x : FVec Ideal S2048x2048 .f32) (g : FVec Ideal S1x2048 .f32) (wg wu : FVec Ideal S2048x5632 .f32) (wd : FVec Ideal S5632x2048 .f32)

theorem h_apply (r l : Fin 2048) : val_main_v13 (F := Ideal) x g (ix2 r l) = normed (rows x) (rows g 0) r l := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, normed, rows]

theorem g_apply (r : Fin 2048) (j : Fin 8) (f : Fin 704) :
    val_main_v14 (F := Ideal) x g wg (ix2 r (col j f)) = proj (normed (rows x) (rows g 0)) (slabs (stackT wg)) j r f := by
  pointwise [val_main_v14]
  simp only [h_apply]
  rfl

theorem u_apply (r : Fin 2048) (j : Fin 8) (f : Fin 704) :
    val_main_v16 (F := Ideal) x g wu (ix2 r (col j f)) = proj (normed (rows x) (rows g 0)) (slabs (stackT wu)) j r f := by
  pointwise [val_main_v16]
  simp only [h_apply]
  rfl

theorem a_apply (r : Fin 2048) (j : Fin 8) (f : Fin 704) :
    val_main_v17 (F := Ideal) x g wg wu (ix2 r (col j f))
      = act (proj (normed (rows x) (rows g 0)) (slabs (stackT wg))) (proj (normed (rows x) (rows g 0)) (slabs (stackT wu))) j r f := by
  pointwise [val_main_v17, val_main_v15, val_main_call0_v0, val_main_call0_v1, val_main_call0_v2, val_main_call0_v3, val_main_call0_v4, val_main_call0_v5,
    val_main_call0_cst, val_main_call0_cst_0]
  simp only [g_apply, u_apply]
  rfl

theorem y_apply (r l : Fin 2048) : val_main_v21 (F := Ideal) x g wg wu wd (ix2 r l)
    = layer (rows x) (rows g 0) (slabs (stackT wg)) (slabs (stackT wu)) (slabs (stackD wd)) r l := by
  pointwise [val_main_v21, val_main_v20, val_main_v19, val_main_v18, val_main_cst_2]
  rw [sum_cols]
  simp only [a_apply]
  rw [mul_comm, add_comm]
  rfl

/-- The reference's result. -/
theorem result : val_main_v21 (F := Ideal) x g wg wu wd
    = downA (actA (projA (normedA x g) (stackT wg)) (projA (normedA x g) (stackT wu))) (stackD wd) x := by
  refine funext fun (i : S2048x2048.Idx) => ?_
  rw [eq_ix2 i]
  exact y_apply x g wg wu wd _ _

end Cert.Reference3Ideal.Own
-- ==== Proof.FfnFwd.lean ====
/-
  The feed-forward forward program against its reference: both end with the layer of Proof/FfnSpec.lean over the arguments.
-/
module
public import proofs.«01_k».proof.Proof.FfnFwdKernel
public import proofs.«01_k».proof.Proof.FfnFwdRun
public import proofs.«01_k».proof.Proof.FfnFwdReference
public import proofs.«01_k».proof.Defs
public import proofs.«01_k».proof.Proof.Base

@[expose] public section

noncomputable section

namespace Cert.Proof

open Idealize.ShloMosaic Idealize.SL.Sem

theorem frame_ref3 : quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The forward calls of the feed-forward layer compute what the reference computes. -/
theorem value3 : algebraic_Kernel3Ideal_Reference3Ideal (hKernel3Ideal := Cert.Kernel3Ideal.Gen.facts)
    (hReference3Ideal := Cert.Reference3Ideal.Gen.facts) := fun m ρ m' ρ' _ ha => by
  refine ⟨fun c => Cert.Kernel3Ideal.Gen.W5 m ρ c (Proc.devRef .tc Cert.Kernel3Ideal.main_v11), ?_, ?_⟩
  · exact (θ_run Cert.Kernel3Ideal.defs _ _).mono (fun r h c => ⟨h c _ (Cert.Kernel3Ideal.Gen.mem_uc Cert.Kernel3Ideal.main_v11 (by decide)),
      (h c _ (Cert.Kernel3Ideal.Gen.mem_uc Cert.Kernel3Ideal.main_arg0 (by decide))).trans (Cert.Kernel3Ideal.Gen.W5_main_arg0 m ρ c),
      (h c _ (Cert.Kernel3Ideal.Gen.mem_uc Cert.Kernel3Ideal.main_arg1 (by decide))).trans (Cert.Kernel3Ideal.Gen.W5_main_arg1 m ρ c),
      (h c _ (Cert.Kernel3Ideal.Gen.mem_uc Cert.Kernel3Ideal.main_arg2 (by decide))).trans (Cert.Kernel3Ideal.Gen.W5_main_arg2 m ρ c),
      (h c _ (Cert.Kernel3Ideal.Gen.mem_uc Cert.Kernel3Ideal.main_arg3 (by decide))).trans (Cert.Kernel3Ideal.Gen.W5_main_arg3 m ρ c),
      (h c _ (Cert.Kernel3Ideal.Gen.mem_uc Cert.Kernel3Ideal.main_arg4 (by decide))).trans (Cert.Kernel3Ideal.Gen.W5_main_arg4 m ρ c)⟩)
      (Cert.Kernel3Ideal.Own.run_all m ρ)
  · refine (θ_run Cert.Reference3Ideal.defs _ _).mono (fun r h c => ⟨(h c).1.trans ?_, (h c).2⟩) (Cert.Reference3Ideal.Value.run m' ρ')
    obtain ⟨a0, a1, a2, a3, a4⟩ := ha c
    refine (Cert.Reference3Ideal.Read.val_main_v21_eq (F := Ideal) _ _ _ _ _).trans ((Cert.Reference3Ideal.Own.result _ _ _ _ _).trans ?_)
    rw [a0, a1, a2, a3, a4]
    exact (Cert.Kernel3Ideal.Own.result c m ρ).symm

end Cert.Proof
-- ==== Proof.FfnBwdInputKernel.lean ====
/-
  What the call of the input's gradient writes: the eight slabs' products with the weights' slabs, two slabs of each
  projection a step, four steps a block.
-/
module
public import proofs.«01_k».proof.Proof.Gen.Kernel5Ideal.Value
public import proofs.«01_k».proof.Proof.FfnSpec
public import proofs.«01_k».proof.Proof.Base

@[expose] public section

set_option maxRecDepth 20000

noncomputable section

namespace Cert.Kernel5Ideal.Own

open Idealize.ShloMosaic Idealize.ShloMosaic.TcCoe Idealize.ShloMosaic.Pointwise
open Idealize.ShloMosaic.Pipeline (Dat)
open Cert.Kernel5Ideal Cert.Kernel5Ideal.Gen Cert.Ffn

variable (m : (ℓ : Loc nD τ sig) → Buf (Elt Ideal) ℓ) (ρ : Dev nD → PrngReg) (c : Dev nD)

theorem idx : ∀ t : Fin cfg0.N, win0_0.index t = ![2 * (t.val % 4), t.val / 8, 0] ∧ win0_1.index t = ![2 * (t.val % 4) + 1, t.val / 8, 0]
    ∧ win0_2.index t = ![2 * (t.val % 4), t.val / 8, 0] ∧ win0_3.index t = ![2 * (t.val % 4) + 1, t.val / 8, 0]
    ∧ win0_4.index t = ![2 * (t.val % 4), 0, t.val / 4 % 2] ∧ win0_5.index t = ![2 * (t.val % 4) + 1, 0, t.val / 4 % 2]
    ∧ win0_6.index t = ![2 * (t.val % 4), 0, t.val / 4 % 2] ∧ win0_7.index t = ![2 * (t.val % 4) + 1, 0, t.val / 4 % 2]
    ∧ win0_8.index t = ![t.val / 8, t.val / 4 % 2] := by
  decide +kernel

/-- One step's four products. -/
def step (x0 x1 x2 x3 : FVec Ideal S1x1024x704 .bf16) (x4 x5 x6 x7 : FVec Ideal S1x704x1024 .bf16) (j : S1024x1024.Idx) : EReal :=
  (∑ k : Fin 704, x0 (ix3 0 (j 0) k) * x4 (ix3 0 k (j 1))) + (∑ k : Fin 704, x1 (ix3 0 (j 0) k) * x5 (ix3 0 k (j 1)))
    + (∑ k : Fin 704, x2 (ix3 0 (j 0) k) * x6 (ix3 0 k (j 1))) + ∑ k : Fin 704, x3 (ix3 0 (j 0) k) * x7 (ix3 0 k (j 1))

theorem hpay2 (x0 x1 x2 x3 : FVec Ideal S1x1024x704 .bf16) (x4 x5 x6 x7 : FVec Ideal S1x704x1024 .bf16) (j : S1024x1024.Idx) :
    k0_pay2 (F := Ideal) x0 x4 x1 x5 x2 x6 x3 x7 j = 0 + step x0 x1 x2 x3 x4 x5 x6 x7 j := by
  rw [zero_add]
  pointwise [k0_pay2, step]

theorem hpay3 (acc : FVec Ideal S1024x1024 .f32) (x0 x1 x2 x3 : FVec Ideal S1x1024x704 .bf16) (x4 x5 x6 x7 : FVec Ideal S1x704x1024 .bf16) (j : S1024x1024.Idx) :
    k0_pay1 (F := Ideal) (k0_pay3 acc x0 x4 x1 x5 x2 x6 x3 x7) j = acc j + step x0 x1 x2 x3 x4 x5 x6 x7 j := by
  pointwise [k0_pay1, k0_pay3, step]

abbrev part (t : Fin cfg0.N) (j : S1024x1024.Idx) : EReal :=
  step (iblk m c 0 t) (iblk m c 1 t) (iblk m c 2 t) (iblk m c 3 t) (iblk m c 4 t) (iblk m c 5 t) (iblk m c 6 t) (iblk m c 7 t) j

theorem out_eq (t : Fin cfg0.N) (h : t.val % 4 = 3) : (outsAt0 m c t.val t.isLt).1 = (outsAt0 m c t.val t.isLt).2 := by
  rw [outsAt0_C m c t (by omega) (by omega) h]
  frame_open
  simp (disch := decide) only [↓ View.readCov_skip, ↓ View.readCov_cons_toLoadRect, ↓ View.readCov_fill]
  frame_out

theorem scr (t : Fin cfg0.N) (h : t.val % 4 = 3) (j : S1024x1024.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay2])
    (fun t h j => by
      by_cases h3 : t.val % 4 = 3
      · rw [outsAt0_C m c t h (by omega) h3]; frame_out; simp only [read_unread_whole]; exact hpay3 ..
      · rw [outsAt0_B m c t h (by omega) h3]; frame_out; simp only [read_unread_whole]; exact hpay3 ..)
    t h j, zero_add]

/-- Eight slabs in pairs. -/
theorem sum_pairs (P Q : Fin 8 → EReal) :
    ∑ s : Fin 4, (P ⟨2 * s.val, by omega⟩ + P ⟨2 * s.val + 1, by omega⟩ + Q ⟨2 * s.val, by omega⟩ + Q ⟨2 * s.val + 1, by omega⟩)
      = ∑ j, P j + ∑ j, Q j := by
  rw [Fin.sum_univ_four, Fin.sum_univ_eight, Fin.sum_univ_eight]
  show P 0 + P 1 + Q 0 + Q 1 + (P 2 + P 3 + Q 2 + Q 3) + (P 4 + P 5 + Q 4 + Q 5) + (P 6 + P 7 + Q 6 + Q 7) = _
  abel

theorem final : (dats m 0 c).arrAt 8 cfg0.N
    = drowsA (V m c main_v15) (V m c main_v18) (V m c main_v21) (V m c main_v24) := by
  refine (dats m 0 c).arrAt_eq_of_covers 8 _ (by decide +kernel) fun t hf y => ?_
  have h3 := (flush0_8 t).mp hf
  blk_simp
  rw [after0_8, out_eq m c t h3, scr m c t h3]
  refine Eq.trans (Fin.sum_fin_congr fun s => ?_) (sum_pairs (fun j => ∑ f, slabs (V m c main_v15) j (((cfg0.win 8).blk t).view.emb y 0) f * slabs (V m c main_v21) j f (((cfg0.win 8).blk t).view.emb y 1))
    (fun j => ∑ f, slabs (V m c main_v18) j (((cfg0.win 8).blk t).view.emb y 0) f * slabs (V m c main_v24) j f (((cfg0.win 8).blk t).view.emb y 1)))
  pointwise [step, part, slabs]
  have hs := s.isLt
  blk_point [iblk, idx ⟨_, Pipeline.run_point_lt_of_flush t h3 s⟩, idx t]

/-! ## The host's gradients of the projections and stacked weights -/

abbrev ent (s : Shape) (x : s.Idx → EReal) (i : s.Idx) : EReal := x i

section Host
variable (W : Valuation τ sig (Elt Ideal))

abbrev hostAll : List (HloOp τ sig (Elt Ideal)) := List.flatten [hostOps0, hostOps0_1, hostOps0_2, hostOps0_3, hostOps0_4]

abbrev gOf : Slabs 2048 704 := proj (rows (W (Proc.devRef .tc main_arg0) : FVec Ideal S2048x2048 .f32)) (slabs (stackT (W (Proc.devRef .tc main_arg1))))
abbrev uOf : Slabs 2048 704 := proj (rows (W (Proc.devRef .tc main_arg0) : FVec Ideal S2048x2048 .f32)) (slabs (stackT (W (Proc.devRef .tc main_arg2))))
abbrev dOf : Slabs 2048 704 := dactOf (rows (W (Proc.devRef .tc main_arg4) : FVec Ideal S2048x2048 .f32)) (slabs (stackD (W (Proc.devRef .tc main_arg3))))

theorem col_eq (j : Fin 8) (f : Fin 704) (h : j.val * 704 + f.val < 5632) : (⟨j.val * 704 + f.val, h⟩ : Fin 5632) = col j f :=
  Fin.ext (by show j.val * 704 + f.val = 704 * j.val + f.val; omega)

theorem stack_g (j : Fin 8) (f : Fin 704) (k : Fin 2048) :
    ent S8x704x2048 (StableHlo.after hostAll W (Proc.devRef .tc main_v21)) (ix3 j f k)
      = ent S2048x5632 (W (Proc.devRef .tc main_arg1)) (ix2 k (col j f)) := by
  unfold ent
  after_reads_at
  exact congrArg _ (congrArg _ (col_eq j f _))

theorem stack_u (j : Fin 8) (f : Fin 704) (k : Fin 2048) :
    ent S8x704x2048 (StableHlo.after hostAll W (Proc.devRef .tc main_v24)) (ix3 j f k)
      = ent S2048x5632 (W (Proc.devRef .tc main_arg2)) (ix2 k (col j f)) := by
  unfold ent
  after_reads_at
  exact congrArg _ (congrArg _ (col_eq j f _))

theorem stack_dg (j : Fin 8) (r : Fin 2048) (f : Fin 704) :
    ent S8x2048x704 (StableHlo.after hostAll W (Proc.devRef .tc main_v15)) (ix3 j r f) = dgate (gOf W) (uOf W) (dOf W) j r f := by
  unfold ent
  after_reads_at
  simp only [col_eq]
  rfl

theorem stack_du (j : Fin 8) (r : Fin 2048) (f : Fin 704) :
    ent S8x2048x704 (StableHlo.after hostAll W (Proc.devRef .tc main_v18)) (ix3 j r f) = dup (gOf W) (dOf W) j r f := by
  unfold ent
  after_reads_at
  simp only [col_eq]
  rfl

theorem stack_g_eq : StableHlo.after hostAll W (Proc.devRef .tc main_v21) = stackT (W (Proc.devRef .tc main_arg1)) := by
  refine funext fun (i : S8x704x2048.Idx) => ?_
  rw [eq_ix3 i]
  exact stack_g W _ _ _

theorem stack_u_eq : StableHlo.after hostAll W (Proc.devRef .tc main_v24) = stackT (W (Proc.devRef .tc main_arg2)) := by
  refine funext fun (i : S8x704x2048.Idx) => ?_
  rw [eq_ix3 i]
  exact stack_u W _ _ _

theorem stack_dg_eq : StableHlo.after hostAll W (Proc.devRef .tc main_v15)
    = (fun i => dgate (gOf W) (uOf W) (dOf W) (i 0) (i 1) (i 2) : FVec Ideal S8x2048x704 .bf16) := by
  refine funext fun (i : S8x2048x704.Idx) => ?_
  rw [eq_ix3 i]
  exact stack_dg W _ _ _

theorem stack_du_eq : StableHlo.after hostAll W (Proc.devRef .tc main_v18)
    = (fun i => dup (gOf W) (dOf W) (i 0) (i 1) (i 2) : FVec Ideal S8x2048x704 .bf16) := by
  refine funext fun (i : S8x2048x704.Idx) => ?_
  rw [eq_ix3 i]
  exact stack_du W _ _ _

end Host

/-- The program's result. -/
theorem result : (dats m 0 c).arrAt 8 cfg0.N
    = inputGradA (m ((c : Thread nD τ).loc main_arg0)) (m ((c : Thread nD τ).loc main_arg1)) (m ((c : Thread nD τ).loc main_arg2))
        (m ((c : Thread nD τ).loc main_arg3)) (m ((c : Thread nD τ).loc main_arg4)) := by
  refine (final m c).trans ?_
  rw [show V m c main_v15 = _ from stack_dg_eq _, show V m c main_v18 = _ from stack_du_eq _, show V m c main_v21 = _ from stack_g_eq _,
    show V m c main_v24 = _ from stack_u_eq _]
  rfl

end Cert.Kernel5Ideal.Own
-- ==== Proof.FfnBwdInputReference.lean ====
/-
  The reference of the feed-forward layer's input gradient, line by line, is that of Proof/FfnSpec.lean over the weights'
  slabs.
-/
module
public import proofs.«01_k».proof.Proof.Gen.Reference5Ideal.Read
public import proofs.«01_k».proof.Proof.FfnSpec

@[expose] public section

set_option maxRecDepth 20000

noncomputable section

namespace Cert.Reference5Ideal.Own

open Idealize.ShloMosaic Idealize.ShloMosaic.Pointwise
open Cert.Reference5Ideal Cert.Reference5Ideal.Gen Cert.Reference5Ideal.Read Cert.Ffn

variable (h : FVec Ideal S2048x2048 .f32) (wg wu : FVec Ideal S2048x5632 .f32) (wd : FVec Ideal S5632x2048 .f32) (dy : FVec Ideal S2048x2048 .f32)

abbrev G : Slabs 2048 704 := proj (rows h) (slabs (stackT wg))
abbrev D : Slabs 2048 704 := dactOf (rows dy) (slabs (stackD wd))

theorem g_apply (r : Fin 2048) (j : Fin 8) (f : Fin 704) : val_main_v0 (F := Ideal) h wg (ix2 r (col j f)) = G h wg j r f := by
  pointwise [val_main_v0]
  rfl

theorem u_apply (r : Fin 2048) (j : Fin 8) (f : Fin 704) : val_main_v2 (F := Ideal) h wu (ix2 r (col j f)) = G h wu j r f := by
  pointwise [val_main_v2]
  rfl

theorem d_apply (r : Fin 2048) (j : Fin 8) (f : Fin 704) : val_main_v9 (F := Ideal) wd dy (ix2 r (col j f)) = D wd dy j r f := by
  pointwise [val_main_v9, val_main_v8, val_main_v7, val_main_cst_0]
  rfl

theorem du_apply (r : Fin 2048) (j : Fin 8) (f : Fin 704) :
    val_main_v10 (F := Ideal) h wg wd dy (ix2 r (col j f)) = dup (G h wg) (D wd dy) j r f := by
  pointwise [val_main_v10, val_main_v1_0, val_main_v1_2, val_main_call0_v0, val_main_call0_v1, val_main_call0_v2, val_main_call0_v3,
    val_main_call0_v4, val_main_call0_cst, val_main_call0_cst_0]
  simp only [g_apply, d_apply]
  rfl

theorem dg_apply (r : Fin 2048) (j : Fin 8) (f : Fin 704) :
    val_main_v13 (F := Ideal) h wg wu wd dy (ix2 r (col j f)) = dgate (G h wg) (G h wu) (D wd dy) j r f := by
  pointwise [val_main_v13, val_main_call1_v0, val_main_call1_v1, val_main_call1_v2, val_main_v11, val_main_v1_1, val_main_v1_2, val_main_call0_v0,
    val_main_call0_v1, val_main_call0_v2, val_main_call0_v3, val_main_call0_v4, val_main_call0_v6, val_main_call0_v7, val_main_call0_cst,
    val_main_call0_cst_0, val_main_call0_cst_1]
  simp only [g_apply, u_apply, d_apply]
  rfl

theorem y_apply (r l : Fin 2048) : val_main_v15 (F := Ideal) h wg wu wd dy (ix2 r l)
    = inputGrad (rows h) (slabs (stackT wg)) (slabs (stackT wu)) (slabs (stackD wd)) (rows dy) r l := by
  pointwise [val_main_v15, val_main_v14, val_main_v12]
  rw [sum_cols, sum_cols]
  simp only [dg_apply, du_apply]
  rw [add_comm]
  rfl

/-- The reference's result. -/
theorem result : val_main_v15 (F := Ideal) h wg wu wd dy = inputGradA h wg wu wd dy := by
  refine funext fun (i : S2048x2048.Idx) => ?_
  rw [eq_ix2 i]
  exact y_apply h wg wu wd dy _ _

end Cert.Reference5Ideal.Own
-- ==== Proof.FfnBwdInput.lean ====
/-
  The program of the feed-forward layer's input gradient against its reference: both end with that gradient of
  Proof/FfnSpec.lean over the arguments.
-/
module
public import proofs.«01_k».proof.Proof.FfnBwdInputKernel
public import proofs.«01_k».proof.Proof.FfnBwdInputReference
public import proofs.«01_k».proof.Defs
public import proofs.«01_k».proof.Proof.Base

@[expose] public section

noncomputable section

namespace Cert.Proof

open Idealize.ShloMosaic Idealize.SL.Sem

theorem frame_ref5 : quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- The call of the feed-forward layer's input gradient computes what the reference computes. -/
theorem value5 : algebraic_Kernel5Ideal_Reference5Ideal (hKernel5Ideal := Cert.Kernel5Ideal.Gen.facts)
    (hReference5Ideal := Cert.Reference5Ideal.Gen.facts) := fun m ρ m' ρ' _ ha => by
  refine ⟨fun c => (Cert.Kernel5Ideal.Gen.dats m 0 c).arrAt 8 Cert.Kernel5Ideal.cfg0.N, Cert.Kernel5Ideal.Value.run_blocks m ρ, ?_⟩
  refine (θ_run Cert.Reference5Ideal.defs _ _).mono (fun r h c => ⟨(h c).1.trans ?_, (h c).2⟩) (Cert.Reference5Ideal.Value.run m' ρ')
  obtain ⟨a0, a1, a2, a3, a4⟩ := ha c
  refine (Cert.Reference5Ideal.Read.val_main_v15_eq (F := Ideal) _ _ _ _ _).trans ((Cert.Reference5Ideal.Own.result _ _ _ _ _).trans ?_)
  rw [a0, a1, a2, a3, a4]
  exact (Cert.Kernel5Ideal.Own.result m c).symm

end Cert.Proof
-- ==== Proof.FfnGrad.lean ====
/-
  The gradients of the feed-forward layer's weights as plain functions, in the reference's form and in the kernel's, and
  their agreement on finite arguments.
-/
module
public import proofs.«01_k».proof.Proof.FfnSpec

@[expose] public section

noncomputable section

namespace Cert.Ffn

open Idealize.ShloMosaic Idealize.ShloMosaic.Pointwise

/-- A weight's gradient, slab by slab: hidden columns against rows. -/
def wgrad (d : Slabs 2048 704) (h : Rows 2048) : Slabs 704 2048 := fun j f k => ∑ r, d j r f * h r k

/-- The rows halved. -/
def halved (y : Rows 2048) : Rows 2048 := fun r l => Ideal.ofBits .f32 0x3F000000#32 * y r l

/-- The kernel's forms: the half after the sum, and the activation's slope as one factor. -/
def wgradHalf (a : Slabs 2048 704) (y : Rows 2048) : Slabs 704 2048 := fun j f k =>
  (∑ r, a j r f * y r k) * Ideal.ofBits .f32 0x3F000000#32
def dactHalf (dy : Rows 2048) (w : Slabs 704 2048) : Slabs 2048 704 := fun j r f =>
  (∑ l, dy r l * w j f l) * Ideal.ofBits .f32 0x3F000000#32
def dupK (g d : Slabs 2048 704) : Slabs 2048 704 := fun j r f => d j r f * g j r f * Ideal.logistic (g j r f)
def dgateK (g u d : Slabs 2048 704) : Slabs 2048 704 := fun j r f =>
  d j r f * u j r f * Ideal.logistic (g j r f) * (1 + g j r f * (1 - Ideal.logistic (g j r f)))

abbrev wgradA (d : FVec Ideal ⟨3, ![8, 2048, 704]⟩ .bf16) (h : FVec Ideal ⟨2, ![2048, 2048]⟩ .bf16) : FVec Ideal ⟨3, ![8, 704, 2048]⟩ .bf16 :=
  fun i => wgrad (slabs d) (rows h) (i 0) (i 1) (i 2)
abbrev wgradHalfA (a : FVec Ideal ⟨3, ![8, 2048, 704]⟩ .bf16) (y : FVec Ideal ⟨2, ![2048, 2048]⟩ .bf16) : FVec Ideal ⟨3, ![8, 704, 2048]⟩ .bf16 :=
  fun i => wgradHalf (slabs a) (rows y) (i 0) (i 1) (i 2)
abbrev dupKA (g : FVec Ideal ⟨3, ![8, 2048, 704]⟩ .bf16) (y : FVec Ideal ⟨2, ![2048, 2048]⟩ .bf16) (w : FVec Ideal ⟨3, ![8, 704, 2048]⟩ .bf16) :
    FVec Ideal ⟨3, ![8, 2048, 704]⟩ .bf16 :=
  fun i => dupK (slabs g) (dactHalf (rows y) (slabs w)) (i 0) (i 1) (i 2)
abbrev dgateKA (g u : FVec Ideal ⟨3, ![8, 2048, 704]⟩ .bf16) (y : FVec Ideal ⟨2, ![2048, 2048]⟩ .bf16) (w : FVec Ideal ⟨3, ![8, 704, 2048]⟩ .bf16) :
    FVec Ideal ⟨3, ![8, 2048, 704]⟩ .bf16 :=
  fun i => dgateK (slabs g) (slabs u) (dactHalf (rows y) (slabs w)) (i 0) (i 1) (i 2)

/-! ## The half moves across the sums -/

/-- The literal one half. -/
theorem half_eq : Ideal.ofBits .f32 0x3F000000#32 = ((1 / 2 : ℝ) : EReal) := by
  simp [Ideal.ofBits, Ideal.ieee, ← EReal.coe_mul]
  norm_num

theorem sum_mul_half {ι : Type} (s : Finset ι) (F : ι → EReal) : (∑ i ∈ s, F i) * Ideal.ofBits .f32 0x3F000000#32 = ∑ i ∈ s, Ideal.ofBits .f32 0x3F000000#32 * F i := by
  classical
  rw [half_eq, mul_comm]
  induction s using Finset.induction_on with
  | empty => simp
  | insert a s ha ih =>
    rw [Finset.sum_insert ha, Finset.sum_insert ha, EReal.left_distrib_of_nonneg_of_ne_top (by exact_mod_cast (by norm_num : (0 : ℝ) ≤ 1 / 2)) (EReal.coe_ne_top _), ih]

theorem wgradHalf_eq (a : Slabs 2048 704) (y : Rows 2048) : wgradHalf a y = wgrad a (halved y) := by
  funext j f k
  simp only [wgradHalf, wgrad, halved, sum_mul_half]
  exact Finset.sum_congr rfl fun r _ => mul_left_comm _ _ _

theorem dactHalf_eq (dy : Rows 2048) (w : Slabs 704 2048) : dactHalf dy w = dactOf dy w := by
  funext j r f
  simp only [dactHalf, dactOf, sum_mul_half]
  exact Finset.sum_congr rfl fun r _ => (mul_assoc _ _ _).symm

theorem dupK_eq (g d : Slabs 2048 704) : dupK g d = dup g d := by
  funext j r f
  simp only [dupK, dup]
  ac_rfl

/-! ## Finite values -/

/-- A real number. -/
def Real0 (x : EReal) : Prop := ∃ r : ℝ, x = (r : EReal)

theorem Real0.of_sub {x : EReal} (h : x - x = 0) : Real0 x := by
  induction x with
  | bot => simp at h
  | top => simp at h
  | coe r => exact ⟨r, rfl⟩

theorem Real0.mul {x y : EReal} (hx : Real0 x) (hy : Real0 y) : Real0 (x * y) := by
  obtain ⟨a, rfl⟩ := hx
  obtain ⟨b, rfl⟩ := hy
  exact ⟨a * b, (EReal.coe_mul a b).symm⟩

theorem Real0.add {x y : EReal} (hx : Real0 x) (hy : Real0 y) : Real0 (x + y) := by
  obtain ⟨a, rfl⟩ := hx
  obtain ⟨b, rfl⟩ := hy
  exact ⟨a + b, (EReal.coe_add a b).symm⟩

theorem Real0.sum {ι : Type} {s : Finset ι} {F : ι → EReal} (h : ∀ i ∈ s, Real0 (F i)) : Real0 (∑ i ∈ s, F i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem Real0.half : Real0 (Ideal.ofBits .f32 0x3F000000#32) := ⟨_, half_eq⟩

/-- The logistic function of a real number is one. -/
theorem Real0.logistic {x : EReal} (h : Real0 x) : Real0 (Ideal.logistic x) := by
  obtain ⟨a, rfl⟩ := h
  refine ⟨(1 + Real.exp (-a))⁻¹, ?_⟩
  have hp : (1 + Real.exp (-a)) ≠ 0 := by positivity
  unfold Ideal.logistic
  rw [show Ideal.exp (-((a : ℝ) : EReal)) = ((Real.exp (-a) : ℝ) : EReal) from rfl, show (1 : EReal) + ((Real.exp (-a) : ℝ) : EReal) = ((1 + Real.exp (-a) : ℝ) : EReal) from by push_cast; rfl]
  unfold Ideal.div
  rw [if_neg (by exact_mod_cast hp), one_mul]
  rfl

/-- The reciprocal square root of a positive real number is a real number. -/
theorem Real0.rsqrt {a : ℝ} (h : 0 < a) : Real0 (Ideal.rsqrt (a : EReal)) := by
  refine ⟨(Real.sqrt a)⁻¹, ?_⟩
  show (if a < 0 then (⊥ : EReal) else if a = 0 then ⊤ else (((Real.sqrt a)⁻¹ : ℝ) : EReal)) = _
  rw [if_neg (not_lt.mpr h.le), if_neg h.ne']

theorem coe_sum {ι : Type} (s : Finset ι) (F : ι → ℝ) : ((∑ i ∈ s, F i : ℝ) : EReal) = ∑ i ∈ s, (F i : EReal) := by
  classical
  induction s using Finset.induction_on with
  | empty => simp
  | insert a s ha ih => rw [Finset.sum_insert ha, Finset.sum_insert ha, EReal.coe_add, ih]

theorem real_or (x : EReal) : Real0 x ∨ x * x = ⊤ := by
  induction x with
  | bot => exact Or.inr EReal.bot_mul_bot
  | top => exact Or.inr EReal.top_mul_top
  | coe r => exact Or.inl ⟨r, rfl⟩

theorem mul_self_nonneg' (x : EReal) : 0 ≤ x * x := by
  induction x with
  | bot => simp
  | top => simp
  | coe r => exact_mod_cast mul_self_nonneg r

/-- The normalised rows are real where the gain is: a row with an infinite entry has an infinite mean square, and 0 for
    its reciprocal root. -/
theorem normed_real {x : Rows 2048} {gain : Fin 2048 → EReal} (hg : ∀ l, Real0 (gain l)) (r l : Fin 2048) :
    Real0 (normed x gain r l) := by
  unfold normed
  refine Real0.mul ?_ (hg l)
  have hn : Ideal.ofBits .f32 0x45000000#32 = ((2048 : ℝ) : EReal) := by
    simp [Ideal.ofBits, Ideal.ieee, ← EReal.coe_mul]
    norm_num
  obtain ⟨e, he, hp⟩ : ∃ e : ℝ, Ideal.ofBits .f32 0x358637BD#32 = (e : EReal) ∧ 0 < e := by
    simp only [Ideal.ofBits, Ideal.ieee]
    refine ⟨_, rfl, ?_⟩
    rw [show (BitVec.extractLsb' (8 + 23) 1 0x358637BD#32 == 1#1) = false by decide]
    simp only [Bool.false_eq_true, if_false, one_mul]
    positivity
  rw [hn, he]
  by_cases hx : ∀ k, Real0 (x r k)
  · refine (hx l).mul ?_
    choose X hX using hx
    have hs : (∑ k, x r k * x r k) = ((∑ k, X k * X k : ℝ) : EReal) := by
      rw [coe_sum]
      exact Finset.sum_congr rfl fun k _ => by rw [hX k, EReal.coe_mul]
    have hd : Ideal.div ((∑ k, X k * X k : ℝ) : EReal) ((2048 : ℝ) : EReal) = (((∑ k, X k * X k) * (2048 : ℝ)⁻¹ : ℝ) : EReal) := by
      unfold Ideal.div
      rw [if_neg (by norm_num)]
      push_cast
      rfl
    rw [hs, hd, ← EReal.coe_add]
    refine Real0.rsqrt ?_
    have : 0 ≤ ∑ k, X k * X k := Finset.sum_nonneg fun k _ => mul_self_nonneg _
    positivity
  · obtain ⟨k, hk⟩ := not_forall.mp hx
    have hs : (∑ k, x r k * x r k) = ⊤ := by
      refine top_le_iff.mp ?_
      rw [← (real_or (x r k)).resolve_left hk]
      exact Finset.single_le_sum (f := fun k => x r k * x r k) (fun i _ => mul_self_nonneg' _) (Finset.mem_univ k)
    have hd : Ideal.div ⊤ ((2048 : ℝ) : EReal) = ⊤ := by
      unfold Ideal.div
      rw [if_neg (by norm_num), ← EReal.coe_inv]
      exact EReal.top_mul_coe_of_pos (by norm_num)
    rw [hs, hd, EReal.top_add_coe]
    exact ⟨0, by rw [show Ideal.rsqrt ⊤ = 0 from rfl, mul_zero]; rfl⟩

theorem proj_real {h : Rows 2048} {w : Slabs 704 2048} (hh : ∀ r l, Real0 (h r l)) (hw : ∀ j f l, Real0 (w j f l)) (j : Fin 8) (r : Fin 2048) (f : Fin 704) :
    Real0 (proj h w j r f) := Real0.sum fun k _ => (hh r k).mul (hw j f k)

theorem dactOf_real {dy : Rows 2048} {w : Slabs 704 2048} (hy : ∀ r l, Real0 (dy r l)) (hw : ∀ j f l, Real0 (w j f l)) (j : Fin 8) (r : Fin 2048) (f : Fin 704) :
    Real0 (dactOf dy w j r f) := Real0.sum fun k _ => (Real0.half.mul (hy r k)).mul (hw j f k)

theorem logistic_top : Ideal.logistic ⊤ = 1 := by
  unfold Ideal.logistic
  rw [show Ideal.exp (-⊤) = 0 from rfl, add_zero]
  unfold Ideal.div
  rw [if_neg one_ne_zero, one_mul, inv_one]

theorem logistic_bot : Ideal.logistic ⊥ = 0 := by
  unfold Ideal.logistic
  rw [show Ideal.exp (-⊥) = ⊤ from rfl, show (1 : EReal) + ⊤ = ⊤ from rfl]
  unfold Ideal.div
  rw [if_neg EReal.top_ne_zero, EReal.inv_top, mul_zero]

/-- Where the product it multiplies is real, the kernel's form of the gate's gradient is the reference's. -/
theorem dgateK_eq {g u d : Slabs 2048 704} (hu : ∀ j r f, Real0 (u j r f)) (hd : ∀ j r f, Real0 (d j r f)) :
    dgateK g u d = dgate g u d := by
  funext j r f
  obtain ⟨b, hb⟩ := hu j r f
  obtain ⟨c, hc⟩ := hd j r f
  simp only [dgateK, dgate]
  generalize g j r f = a
  rw [hb, hc]
  induction a with
  | bot => simp [logistic_bot]
  | top => simp [logistic_top, show (1 : EReal) - 1 = 0 from EReal.sub_self (by decide) (by decide)]
  | coe a =>
    obtain ⟨s, hs⟩ := Real0.logistic ⟨a, rfl⟩
    rw [hs]
    norm_cast
    ring

end Cert.Ffn
-- ==== Proof.FfnBwdWeightsKernel.lean ====
/-
  What the program of the feed-forward weights' gradients writes: each of its seven calls over any contents of memory, the
  host's stacked weights, and its three results.
-/
module
public import proofs.«01_k».proof.Proof.Gen.Kernel4Ideal.Frame
public import proofs.«01_k».proof.Proof.FfnGrad
public import proofs.«01_k».proof.Proof.Base

@[expose] public section

set_option maxRecDepth 20000

noncomputable section

namespace Cert.Kernel4Ideal.Own

open Idealize.ShloMosaic Idealize.ShloMosaic.TcCoe Idealize.ShloMosaic.Pointwise
open Cert.Kernel4Ideal Cert.Kernel4Ideal.Gen Cert.Ffn

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] := by
  decide +kernel

theorem idx1 : ∀ t : Fin cfg1.N, win1_0.index t = ![t.val % 2, 0] ∧ win1_1.index t = ![t.val / 2, 0, 0] ∧ win1_2.index t = ![t.val / 2, t.val % 2, 0] := by
  decide +kernel

theorem idx2 : ∀ t : Fin cfg2.N, win2_0.index t = ![t.val % 2, 0] ∧ win2_1.index t = ![t.val / 2, 0, 0] ∧ win2_2.index t = ![t.val / 2, t.val % 2, 0]
   ∧ win2_3.index t = ![t.val / 2, t.val % 2, 0] ∧ win2_4.index t = ![t.val / 2, t.val % 2, 0]:= by
  decide +kernel

theorem arr0 : (dat0 V c).arrAt 2 cfg0.N = normedA (V c main_arg0) (V c main_arg1) := by
  refine (dat0 V c).arrAt_eq_of_covers 2 _ (by decide +kernel) fun t hf y => ?_
  blk_simp
  rw [after0_2]
  frame_out
  pointwise [k0_pay1, normedA, normed, rows, slabs]
  blk_point [iblk0, idx0 t]

theorem arr1 : (dat1 V c).arrAt 2 cfg1.N = projA (V c main_v9) (V c main_v2) := by
  refine (dat1 V c).arrAt_eq_of_covers 2 _ (by decide +kernel) fun t hf y => ?_
  blk_simp
  rw [after1_2]
  frame_out
  pointwise [k1_pay1, projA, proj, rows, slabs]
  blk_point [iblk1, idx1 t]

theorem arr2u : (dat2 V c).arrAt 3 cfg2.N = projA (V c main_v9) (V c main_v5) := by
  refine (dat2 V c).arrAt_eq_of_covers 3 _ (by decide +kernel) fun t hf y => ?_
  blk_simp
  rw [after2_3]
  frame_out
  pointwise [k2_pay2, k2_pay1, projA, proj, rows, slabs]
  blk_point [iblk2, idx2 t]

theorem arr2a : (dat2 V c).arrAt 4 cfg2.N = actA (V c main_v10) (projA (V c main_v9) (V c main_v5)) := by
  refine (dat2 V c).arrAt_eq_of_covers 4 _ (by decide +kernel) fun t hf y => ?_
  blk_simp
  rw [after2_4]
  frame_out
  pointwise [k2_pay3, k2_pay1, projA, actA, act, proj, rows, slabs]
  blk_point [iblk2, idx2 t]

/-- The activation's rows against the gradient's, slab by slab. -/
theorem idx3 : ∀ t : Fin cfg3.N, win3_0.index t = ![t.val, 0, 0] ∧ win3_1.index t = ![0, 0] ∧ win3_2.index t = ![t.val, 0, 0] := by
  decide +kernel

theorem arr3 : (dat3 V c).arrAt 2 cfg3.N = wgradHalfA (V c main_v11_1) (V c main_v8) := by
  refine (dat3 V c).arrAt_eq_of_covers 2 _ (by decide +kernel) fun t hf y => ?_
  blk_simp
  rw [after3_2]
  unfold outsAt3
  frame_out
  pointwise [k3_pay1, wgradHalfA, wgradHalf, rows, slabs]
  blk_point [iblk3, idx3 t]

theorem idx4 : ∀ t : Fin cfg4.N, win4_0.index t = ![t.val % 2, 0] ∧ win4_1.index t = ![t.val / 2, 0, 0] ∧ win4_2.index t = ![t.val / 2, t.val % 2, 0]
   ∧ win4_3.index t = ![t.val / 2, t.val % 2, 0] ∧ win4_4.index t = ![t.val / 2, t.val % 2, 0] ∧ win4_5.index t = ![t.val / 2, t.val % 2, 0] := by
  decide +kernel

theorem arr4g : (dat4 V c).arrAt 4 cfg4.N = dgateKA (V c main_v10) (V c main_v11_0) (V c main_v8) (V c main_v7) := by
  refine (dat4 V c).arrAt_eq_of_covers 4 _ (by decide +kernel) fun t hf y => ?_
  blk_simp
  rw [after4_4]
  unfold outsAt4
  frame_out
  pointwise [k4_pay4, k4_pay3, k4_pay2, k4_pay1, dgateKA, dgateK, dactHalf, rows, slabs]
  blk_point [iblk4, idx4 t]

theorem arr4u : (dat4 V c).arrAt 5 cfg4.N = dupKA (V c main_v10) (V c main_v8) (V c main_v7) := by
  refine (dat4 V c).arrAt_eq_of_covers 5 _ (by decide +kernel) fun t hf y => ?_
  blk_simp
  rw [after4_5]
  unfold outsAt4
  frame_out
  pointwise [k4_pay5, k4_pay3, k4_pay2, k4_pay1, dupKA, dupK, dactHalf, rows, slabs]
  blk_point [iblk4, idx4 t]

theorem idx5 : ∀ t : Fin cfg5.N, win5_0.index t = ![t.val, 0, 0] ∧ win5_1.index t = ![0, 0] ∧ win5_2.index t = ![t.val, 0, 0] := by
  decide +kernel

theorem arr5 : (dat5 V c).arrAt 2 cfg5.N = wgradA (V c main_v13_0) (V c main_v9) := by
  refine (dat5 V c).arrAt_eq_of_covers 2 _ (by decide +kernel) fun t hf y => ?_
  blk_simp
  rw [after5_2]
  frame_out
  pointwise [k5_pay1, wgradA, wgrad, rows, slabs]
  blk_point [iblk5, idx5 t]

theorem idx6 : ∀ t : Fin cfg6.N, win6_0.index t = ![t.val, 0, 0] ∧ win6_1.index t = ![0, 0] ∧ win6_2.index t = ![t.val, 0, 0] := by
  decide +kernel

theorem arr6 : (dat6 V c).arrAt 2 cfg6.N = wgradA (V c main_v13_1) (V c main_v9) := by
  refine (dat6 V c).arrAt_eq_of_covers 2 _ (by decide +kernel) fun t hf y => ?_
  blk_simp
  rw [after6_2]
  unfold outsAt6
  frame_out
  pointwise [k6_pay1, wgradA, wgrad, rows, slabs]
  blk_point [iblk6, idx6 t]

/-! ## The host's stacked weights -/

abbrev ent (s : Shape) (x : s.Idx → EReal) (i : s.Idx) : EReal := x i

section Host
variable (W : Valuation τ sig (Elt Ideal))

theorem stack_g (j : Fin 8) (f : Fin 704) (k : Fin 2048) :
    ent S8x704x2048 (StableHlo.after hostOps0 W (Proc.devRef .tc main_v2)) (ix3 j f k)
      = ent S2048x5632 (W (Proc.devRef .tc main_arg2)) (ix2 k (col j f)) := by
  unfold ent
  after_reads_at
  exact congrArg _ (congrArg _ (Fin.ext (by show j.val * 704 + f.val = 704 * j.val + f.val; omega)))

theorem stack_u (j : Fin 8) (f : Fin 704) (k : Fin 2048) :
    ent S8x704x2048 (StableHlo.after hostOps0 W (Proc.devRef .tc main_v5)) (ix3 j f k)
      = ent S2048x5632 (W (Proc.devRef .tc main_arg3)) (ix2 k (col j f)) := by
  unfold ent
  after_reads_at
  exact congrArg _ (congrArg _ (Fin.ext (by show j.val * 704 + f.val = 704 * j.val + f.val; omega)))

theorem stack_d (j : Fin 8) (f : Fin 704) (k : Fin 2048) :
    ent S8x704x2048 (StableHlo.after hostOps0 W (Proc.devRef .tc main_v7)) (ix3 j f k)
      = ent S5632x2048 (W (Proc.devRef .tc main_arg4)) (ix2 (col j f) k) := by
  unfold ent
  after_reads_at
  exact congrArg _ (congrArg (ix2 · k) (Fin.ext (by show j.val * 704 + f.val = 704 * j.val + f.val; omega)))

theorem stack_g_eq : StableHlo.after hostOps0 W (Proc.devRef .tc main_v2) = stackT (W (Proc.devRef .tc main_arg2)) := by
  refine funext fun (i : S8x704x2048.Idx) => ?_
  rw [eq_ix3 i]
  exact stack_g W _ _ _

theorem stack_u_eq : StableHlo.after hostOps0 W (Proc.devRef .tc main_v5) = stackT (W (Proc.devRef .tc main_arg3)) := by
  refine funext fun (i : S8x704x2048.Idx) => ?_
  rw [eq_ix3 i]
  exact stack_u W _ _ _

theorem stack_d_eq : StableHlo.after hostOps0 W (Proc.devRef .tc main_v7) = stackD (W (Proc.devRef .tc main_arg4)) := by
  refine funext fun (i : S8x704x2048.Idx) => ?_
  rw [eq_ix3 i]
  exact stack_d W _ _ _

theorem rows_dy_eq : StableHlo.after hostOps0 W (Proc.devRef .tc main_v8) = (W (Proc.devRef .tc main_arg5) : FVec Ideal S2048x2048 .f32) := by
  refine funext fun (i : S2048x2048.Idx) => ?_
  show ent S2048x2048 (StableHlo.after hostOps0 W (Proc.devRef .tc main_v8)) i = ent S2048x2048 (W (Proc.devRef .tc main_arg5)) i
  unfold ent
  after_reads_at

end Host

/-! ## The calls one after the other -/

variable (m : (ℓ : Loc nD τ sig) → Buf (Elt Ideal) ℓ) (ρ : Dev nD → PrngReg)

abbrev X : FVec Ideal S2048x2048 .f32 := m ((c : Thread nD τ).loc main_arg0)
abbrev DY : FVec Ideal S2048x2048 .bf16 := m ((c : Thread nD τ).loc main_arg5)
abbrev H : FVec Ideal S2048x2048 .bf16 := normedA (X c m) (m ((c : Thread nD τ).loc main_arg1))
abbrev SG : FVec Ideal S8x704x2048 .bf16 := stackT (m ((c : Thread nD τ).loc main_arg2))
abbrev SU : FVec Ideal S8x704x2048 .bf16 := stackT (m ((c : Thread nD τ).loc main_arg3))
abbrev SD : FVec Ideal S8x704x2048 .bf16 := stackD (m ((c : Thread nD τ).loc main_arg4))
abbrev GA : FVec Ideal S8x2048x704 .bf16 := projA (H c m) (SG c m)
abbrev UP : FVec Ideal S8x2048x704 .bf16 := projA (H c m) (SU c m)

theorem h2 : V2 m ρ c main_v9 = H c m :=
  (W2_arr m ρ c 2).trans (arr0 (V1 m ρ) c)

theorem h3 : V3 m ρ c main_v9 = H c m := (W3_of m ρ c main_v9 (by decide)).trans (h2 c m ρ)

theorem h6 : V6 m ρ c main_v9 = H c m :=
  (W6_of m ρ c main_v9 (by decide)).trans ((W5_of m ρ c main_v9 (by decide)).trans ((W4_of m ρ c main_v9 (by decide)).trans (h3 c m ρ)))

theorem h7 : V7 m ρ c main_v9 = H c m := (W7_of m ρ c main_v9 (by decide)).trans (h6 c m ρ)

theorem wg2 : V2 m ρ c main_v2 = SG c m :=
  (W2_of m ρ c main_v2 (by decide)).trans (stack_g_eq _)

theorem wu3 : V3 m ρ c main_v5 = SU c m :=
  (W3_of m ρ c main_v5 (by decide)).trans ((W2_of m ρ c main_v5 (by decide)).trans (stack_u_eq _))

theorem wd5 : V5 m ρ c main_v7 = SD c m :=
  (W5_of m ρ c main_v7 (by decide)).trans ((W4_of m ρ c main_v7 (by decide)).trans ((W3_of m ρ c main_v7 (by decide)).trans
    ((W2_of m ρ c main_v7 (by decide)).trans (stack_d_eq _))))

theorem dy4 : V4 m ρ c main_v8 = DY c m :=
  (W4_of m ρ c main_v8 (by decide)).trans ((W3_of m ρ c main_v8 (by decide)).trans ((W2_of m ρ c main_v8 (by decide)).trans (rows_dy_eq _)))

theorem dy5 : V5 m ρ c main_v8 = DY c m := (W5_of m ρ c main_v8 (by decide)).trans (dy4 c m ρ)

theorem g3 : V3 m ρ c main_v10 = GA c m := by
  refine (W3_arr m ρ c 2).trans ((arr1 (V2 m ρ) c).trans ?_)
  rw [h2, wg2]

theorem g5 : V5 m ρ c main_v10 = GA c m :=
  (W5_of m ρ c main_v10 (by decide)).trans ((W4_of m ρ c main_v10 (by decide)).trans (g3 c m ρ))

theorem u5 : V5 m ρ c main_v11_0 = UP c m := by
  refine (W5_of m ρ c main_v11_0 (by decide)).trans ((W4_arr m ρ c 3).trans ((arr2u (V3 m ρ) c).trans ?_))
  rw [h3, wu3]

theorem a4 : V4 m ρ c main_v11_1 = actA (GA c m) (UP c m) := by
  refine (W4_arr m ρ c 4).trans ((arr2a (V3 m ρ) c).trans ?_)
  rw [g3, h3, wu3]

theorem dg6 : V6 m ρ c main_v13_0 = dgateKA (GA c m) (UP c m) (DY c m) (SD c m) := by
  refine (W6_arr m ρ c 4).trans ((arr4g (V5 m ρ) c).trans ?_)
  rw [g5, u5, dy5, wd5]

theorem du7 : V7 m ρ c main_v13_1 = dupKA (GA c m) (DY c m) (SD c m) := by
  refine (W7_of m ρ c main_v13_1 (by decide)).trans ((W6_arr m ρ c 5).trans ((arr4u (V5 m ρ) c).trans ?_))
  rw [g5, dy5, wd5]

/-- The program's results: the gradients of the gate, up and down weights. -/
theorem result_g : W8 m ρ c (Proc.devRef .tc main_v14) = wgradA (dgateKA (GA c m) (UP c m) (DY c m) (SD c m)) (H c m) := by
  refine (W8_of m ρ c main_v14 (by decide)).trans ((W7_arr m ρ c 2).trans ((arr5 (V6 m ρ) c).trans ?_))
  rw [dg6, h6]

theorem result_u : W8 m ρ c (Proc.devRef .tc main_v15) = wgradA (dupKA (GA c m) (DY c m) (SD c m)) (H c m) := by
  refine (W8_arr m ρ c 2).trans ((arr6 (V7 m ρ) c).trans ?_)
  rw [du7, h7]

theorem result_d : W8 m ρ c (Proc.devRef .tc main_v12) = wgradHalfA (actA (GA c m) (UP c m)) (DY c m) := by
  refine (W8_of m ρ c main_v12 (by decide)).trans ((W7_of m ρ c main_v12 (by decide)).trans ((W6_of m ρ c main_v12 (by decide)).trans
    ((W5_arr m ρ c 2).trans ((arr3 (V4 m ρ) c).trans ?_))))
  rw [a4, dy4]

end Cert.Kernel4Ideal.Own
-- ==== Proof.FfnBwdWeightsRun.lean ====
/-
  The program of the feed-forward weights' gradients runs to its end from any memory, every buffer outside the scopes ending with what the
  last call leaves.
-/
module
public import proofs.«01_k».proof.Proof.Gen.Kernel4Ideal.Frame
public import proofs.«01_k».proof.Proof.Base

@[expose] public section

set_option maxRecDepth 16384

noncomputable section

namespace Cert.Kernel4Ideal.Own

open Cert.Kernel4Ideal Cert.Kernel4Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Kernel4Ideal.Own
-- ==== Proof.FfnBwdWeightsReference.lean ====
/-
  The reference of the feed-forward weights' gradients, line by line, is that of Proof/FfnGrad.lean over the weights' slabs.
-/
module
public import proofs.«01_k».proof.Proof.Gen.Reference4Ideal.Read
public import proofs.«01_k».proof.Proof.FfnGrad

@[expose] public section

set_option maxRecDepth 20000

noncomputable section

namespace Cert.Reference4Ideal.Own

open Idealize.ShloMosaic Idealize.ShloMosaic.Pointwise
open Cert.Reference4Ideal Cert.Reference4Ideal.Gen Cert.Reference4Ideal.Read Cert.Ffn

variable (x : FVec Ideal S2048x2048 .f32) (g : FVec Ideal S1x2048 .f32) (wg wu : FVec Ideal S2048x5632 .f32) (wd : FVec Ideal S5632x2048 .f32)
  (dy : FVec Ideal S2048x2048 .f32)

abbrev HR : Rows 2048 := normed (rows x) (rows g 0)
abbrev P (w : FVec Ideal S2048x5632 .f32) : Slabs 2048 704 := proj (HR x g) (slabs (stackT w))
abbrev D : Slabs 2048 704 := dactOf (rows dy) (slabs (stackD wd))

theorem h_apply (r l : Fin 2048) : val_main_v13 (F := Ideal) x g (ix2 r l) = HR x g r l := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, HR, normed, rows]

theorem g_apply (r : Fin 2048) (j : Fin 8) (f : Fin 704) : val_main_v14 (F := Ideal) x g wg (ix2 r (col j f)) = P x g wg j r f := by
  pointwise [val_main_v14]
  simp only [h_apply]
  rfl

theorem u_apply (r : Fin 2048) (j : Fin 8) (f : Fin 704) : val_main_v16 (F := Ideal) x g wu (ix2 r (col j f)) = P x g wu j r f := by
  pointwise [val_main_v16]
  simp only [h_apply]
  rfl

theorem a_apply (r : Fin 2048) (j : Fin 8) (f : Fin 704) :
    val_main_v17 (F := Ideal) x g wg wu (ix2 r (col j f)) = act (P x g wg) (P x g wu) j r f := by
  pointwise [val_main_v17, val_main_v15_0, val_main_v15_2, val_main_call0_v0, val_main_call0_v1, val_main_call0_v2, val_main_call0_v3, val_main_call0_v4,
    val_main_call0_cst, val_main_call0_cst_0]
  simp only [g_apply, u_apply]
  rfl

theorem d_apply (r : Fin 2048) (j : Fin 8) (f : Fin 704) : val_main_v26 (F := Ideal) wd dy (ix2 r (col j f)) = D wd dy j r f := by
  pointwise [val_main_v26, val_main_v23, val_main_v22, val_main_cst_3]
  rfl

theorem du_apply (r : Fin 2048) (j : Fin 8) (f : Fin 704) :
    val_main_v27 (F := Ideal) x g wg wd dy (ix2 r (col j f)) = dup (P x g wg) (D wd dy) j r f := by
  pointwise [val_main_v27, val_main_v15_0, val_main_v15_2, val_main_call0_v0, val_main_call0_v1, val_main_call0_v2, val_main_call0_v3,
    val_main_call0_v4, val_main_call0_cst, val_main_call0_cst_0]
  simp only [g_apply, d_apply]
  rfl

theorem dg_apply (r : Fin 2048) (j : Fin 8) (f : Fin 704) :
    val_main_v31 (F := Ideal) x g wg wu wd dy (ix2 r (col j f)) = dgate (P x g wg) (P x g wu) (D wd dy) j r f := by
  pointwise [val_main_v31, val_main_call1_v0, val_main_call1_v1, val_main_call1_v2, val_main_v28, val_main_v15_1, val_main_v15_2, val_main_call0_v0,
    val_main_call0_v1, val_main_call0_v2, val_main_call0_v3, val_main_call0_v4, val_main_call0_v6, val_main_call0_v7, val_main_call0_cst,
    val_main_call0_cst_0, val_main_call0_cst_1]
  simp only [g_apply, u_apply, d_apply]
  rfl

/-- Row `704 j + f` as the printed reshape writes it. -/
theorem col_eq (j : Fin 8) (f : Fin 704) (h : j.val * 704 + f.val < 5632) : (⟨j.val * 704 + f.val, h⟩ : Fin 5632) = col j f :=
  Fin.ext (by show j.val * 704 + f.val = 704 * j.val + f.val; omega)

theorem wg_apply (j : Fin 8) (f : Fin 704) (k : Fin 2048) : val_main_v37 (F := Ideal) x g wg wu wd dy (ix3 j f k)
    = wgrad (dgate (P x g wg) (P x g wu) (D wd dy)) (HR x g) j f k := by
  pointwise [val_main_v37, val_main_v36, val_main_v34, val_main_v33, val_main_v32]
  simp only [col_eq, dg_apply, h_apply]
  rfl

theorem wu_apply (j : Fin 8) (f : Fin 704) (k : Fin 2048) : val_main_v39 (F := Ideal) x g wg wd dy (ix3 j f k)
    = wgrad (dup (P x g wg) (D wd dy)) (HR x g) j f k := by
  pointwise [val_main_v39, val_main_v38, val_main_v35, val_main_v30, val_main_v29]
  simp only [col_eq, du_apply, h_apply]
  rfl

theorem wd_apply (j : Fin 8) (f : Fin 704) (k : Fin 2048) : val_main_v41 (F := Ideal) x g wg wu dy (ix3 j f k)
    = wgrad (act (P x g wg) (P x g wu)) (halved (rows dy)) j f k := by
  pointwise [val_main_v41, val_main_v40, val_main_v25, val_main_v24, val_main_v23, val_main_v22, val_main_cst_3]
  simp only [col_eq, a_apply]
  exact Finset.sum_congr rfl fun r _ => mul_comm _ _

end Cert.Reference4Ideal.Own
-- ==== Proof.Finite.lean ====
/-
  The preconditions read: an array whose absolute values are all below infinity has finite entries.
-/
module
public import proofs.«01_k».proof.Pre_finite
public import proofs.«01_k».proof.Pre_finite2
public import proofs.«01_k».proof.Proof.Spec
public import Idealize.ShloMosaic.Lib.ReduceAll
public import proofs.«01_k».proof.Proof.Base

@[expose] public section

noncomputable section

namespace Cert.Gla

open Idealize.ShloMosaic Idealize.ShloMosaic.Pointwise

theorem fin0_of_ne (x : EReal) (ht : x ≠ ⊤) (hb : x ≠ ⊥) : Fin0 x := EReal.sub_self ht hb

/-- A value whose absolute value is below infinity is finite. -/
theorem fin0_of_lt (x : EReal) (e : Ideal.cmp .olt (max x (-x)) (Ideal.ofBits .f32 0x7F800000#32) = 1#1) : Fin0 x := by
  have htop : Ideal.ofBits .f32 0x7F800000#32 = ⊤ := by simp [Ideal.ofBits, Ideal.ieee]
  rw [htop] at e
  have hlt : max x (-x) < ⊤ := by
    by_contra hn
    unfold Ideal.cmp at e
    simp [hn] at e
  refine fin0_of_ne x (fun h => ?_) (fun h => ?_)
  · subst h; simp at hlt
  · subst h; simp at hlt

instance : Subsingleton (⟨0, ![]⟩ : Shape).Idx := ⟨fun _ _ => funext fun a => a.elim0⟩

theorem finite_of_all {s u : Shape} {axes : List (Fin s.rank)} (x : s.Idx → EReal)
    (hb : (⟨0, ![]⟩ : Shape).BroadcastsInDim s (![] : Fin 0 → Fin s.rank)) (init : u.Idx → BitVec 1) (h : s.ReducesTo axes ⟨0, ![]⟩) (hu : 0 < u.numel) (j)
    (e : Host.reduce IntOp.andi (cmpf (F := Ideal) (φ := .f32) .olt (Host.absf (F := Ideal) (φ := .f32) x) (broadcastInDim s ![] hb (constant ⟨0, ![]⟩ .f32 0x7F800000#32))) init h hu j = 1#1) (i : s.Idx) : Fin0 (x i) :=
  fin0_of_lt _ (Host.reduce_andi_all _ _ _ _ _ e i)

theorem fin_pre1 [hF : Cert.Pre_finite.Facts] (q k la : FVec Ideal ⟨2, ![2048, 512]⟩ .f32) (v o : FVec Ideal ⟨2, ![2048, 1024]⟩ .f32)
    (h : Cert.Pre_finite.fn (F := Ideal) q k v la o = fun _ => 1#1) (i) : Fin0 (la i) := by
  unfold Cert.Pre_finite.fn at h
  exact finite_of_all la _ _ _ _ _ (congrFun h (Shape.Idx.first (s := ⟨0, ![]⟩) (by decide))) i

theorem fin_pre2 [hF : Cert.Pre_finite2.Facts] (q k la : FVec Ideal ⟨2, ![2048, 512]⟩ .f32) (v : FVec Ideal ⟨2, ![2048, 1024]⟩ .f32)
    (h : Cert.Pre_finite2.fn (F := Ideal) q k v la = fun _ => 1#1) (i) : Fin0 (la i) := by
  unfold Cert.Pre_finite2.fn at h
  exact finite_of_all la _ _ _ _ _ (congrFun h (Shape.Idx.first (s := ⟨0, ![]⟩) (by decide))) i

end Cert.Gla
-- ==== Proof.FfnBwdWeights.lean ====
/-
  The feed-forward weights' gradients against their reference, where the gain, the up and down weights and the result's
  gradient are finite.
-/
module
public import proofs.«01_k».proof.Proof.FfnBwdWeightsKernel
public import proofs.«01_k».proof.Proof.FfnBwdWeightsRun
public import proofs.«01_k».proof.Proof.FfnBwdWeightsReference
public import proofs.«01_k».proof.Proof.Finite
public import proofs.«01_k».proof.Defs
public import proofs.«01_k».proof.Proof.Base

@[expose] public section

noncomputable section

namespace Cert.Proof

open Idealize.ShloMosaic Idealize.SL.Sem Idealize.ShloMosaic.Pointwise Cert.Ffn

theorem pre_facts4 : Cert.Pre_finite4.Facts := ⟨by decide, by decide, by decide, by decide, by decide, by decide, by decide, by decide, by decide⟩

/-- Two truth values whose conjunction holds. -/
theorem both {a b : BitVec 1} (h : a &&& b = 1#1) : a = 1#1 ∧ b = 1#1 := by
  revert a b
  decide

/-- The four arrays the precondition names are finite. -/
theorem fin_pre4 [hF : Cert.Pre_finite4.Facts] (x : FVec Ideal ⟨2, ![2048, 2048]⟩ .f32) (g : FVec Ideal ⟨2, ![1, 2048]⟩ .f32)
    (wg wu : FVec Ideal ⟨2, ![2048, 5632]⟩ .f32) (wd : FVec Ideal ⟨2, ![5632, 2048]⟩ .f32) (dy : FVec Ideal ⟨2, ![2048, 2048]⟩ .f32)
    (h : Cert.Pre_finite4.fn (F := Ideal) x g wg wu wd dy = fun _ => 1#1) :
    (∀ i, Real0 (g i)) ∧ (∀ i, Real0 (wu i)) ∧ (∀ i, Real0 (wd i)) ∧ ∀ i, Real0 (dy i) := by
  unfold Cert.Pre_finite4.fn Cert.Pre_finite4.fn_part1 at h
  obtain ⟨h, e4⟩ := both (congrFun h (Shape.Idx.first (s := ⟨0, ![]⟩) (by decide)))
  obtain ⟨h, e3⟩ := both h
  obtain ⟨e1, e2⟩ := both h
  exact ⟨fun i => .of_sub (Cert.Gla.finite_of_all g _ _ _ _ _ e1 i), fun i => .of_sub (Cert.Gla.finite_of_all wu _ _ _ _ _ e2 i),
    fun i => .of_sub (Cert.Gla.finite_of_all wd _ _ _ _ _ e3 i), fun i => .of_sub (Cert.Gla.finite_of_all dy _ _ _ _ _ e4 i)⟩

theorem frame_ref4 : quiescent_Reference4Ideal (hReference4Ideal := Cert.Reference4Ideal.Gen.facts) := fun m ρ _ =>
  (θ_run Cert.Reference4Ideal.defs _ _).mono (fun r h => ⟨fun c => (h c).2.2.2, Idealize.ShloMosaic.sem_eq_zero_of_no_sems (by decide) r.2⟩)
    (Cert.Reference4Ideal.Value.run m ρ)

section Match
variable (x : FVec Ideal ⟨2, ![2048, 2048]⟩ .f32) (g : FVec Ideal ⟨2, ![1, 2048]⟩ .f32) (wg wu : FVec Ideal ⟨2, ![2048, 5632]⟩ .f32)
  (wd : FVec Ideal ⟨2, ![5632, 2048]⟩ .f32) (dy : FVec Ideal ⟨2, ![2048, 2048]⟩ .f32)

theorem match_g (hg : ∀ i, Real0 (g i)) (hu : ∀ i, Real0 (wu i)) (hd : ∀ i, Real0 (wd i)) (hy : ∀ i, Real0 (dy i)) :
    Cert.Reference4Ideal.Read.val_main_v37 (F := Ideal) x g wg wu wd dy
      = wgradA (dgateKA (projA (normedA x g) (stackT wg)) (projA (normedA x g) (stackT wu)) dy (stackD wd)) (normedA x g) := by
  refine funext fun (i : Cert.Reference4Ideal.S8x704x2048.Idx) => ?_
  rw [eq_ix3 i]
  refine (Cert.Reference4Ideal.Own.wg_apply x g wg wu wd dy _ _ _).trans ?_
  have hh : ∀ r l, Real0 (normed (rows x) (rows g 0) r l) := normed_real fun l => hg _
  have e : dgate (Cert.Reference4Ideal.Own.P x g wg) (Cert.Reference4Ideal.Own.P x g wu) (dactOf (rows dy) (slabs (stackD wd)))
      = dgateK (proj (rows (normedA x g)) (slabs (stackT wg))) (proj (rows (normedA x g)) (slabs (stackT wu))) (dactHalf (rows dy) (slabs (stackD wd))) := by
    rw [dactHalf_eq]
    exact (dgateK_eq (proj_real hh fun j f l => hu _) (dactOf_real (fun r l => hy _) fun j f l => hd _)).symm
  exact congrFun (congrFun (congrFun (congrArg (wgrad · (normed (rows x) (rows g 0))) e) _) _) _

theorem match_u : Cert.Reference4Ideal.Read.val_main_v39 (F := Ideal) x g wg wd dy
      = wgradA (dupKA (projA (normedA x g) (stackT wg)) dy (stackD wd)) (normedA x g) := by
  refine funext fun (i : Cert.Reference4Ideal.S8x704x2048.Idx) => ?_
  rw [eq_ix3 i]
  refine (Cert.Reference4Ideal.Own.wu_apply x g wg wd dy _ _ _).trans ?_
  have e : dup (Cert.Reference4Ideal.Own.P x g wg) (dactOf (rows dy) (slabs (stackD wd)))
      = dupK (proj (rows (normedA x g)) (slabs (stackT wg))) (dactHalf (rows dy) (slabs (stackD wd))) := by
    rw [dactHalf_eq]
    exact (dupK_eq _ _).symm
  exact congrFun (congrFun (congrFun (congrArg (wgrad · (normed (rows x) (rows g 0))) e) _) _) _

theorem match_d : Cert.Reference4Ideal.Read.val_main_v41 (F := Ideal) x g wg wu dy
      = wgradHalfA (actA (projA (normedA x g) (stackT wg)) (projA (normedA x g) (stackT wu))) dy := by
  refine funext fun (i : Cert.Reference4Ideal.S8x704x2048.Idx) => ?_
  rw [eq_ix3 i]
  refine (Cert.Reference4Ideal.Own.wd_apply x g wg wu dy _ _ _).trans ?_
  exact congrFun (congrFun (congrFun (wgradHalf_eq _ _).symm _) _) _

end Match

/-- The calls that compute the weights' gradients compute what the reference computes. -/
theorem value4 : algebraic_Kernel4Ideal_Reference4Ideal_pre_finite4 (hKernel4Ideal := Cert.Kernel4Ideal.Gen.facts)
    (hReference4Ideal := Cert.Reference4Ideal.Gen.facts) (hPre_finite4 := pre_facts4) := fun m ρ m' ρ' hp ha => by
  refine ⟨fun c => Cert.Kernel4Ideal.Gen.W8 m ρ c (Proc.devRef .tc Cert.Kernel4Ideal.main_v14),
    fun c => Cert.Kernel4Ideal.Gen.W8 m ρ c (Proc.devRef .tc Cert.Kernel4Ideal.main_v15),
    fun c => Cert.Kernel4Ideal.Gen.W8 m ρ c (Proc.devRef .tc Cert.Kernel4Ideal.main_v12), ?_, ?_⟩
  · exact (θ_run Cert.Kernel4Ideal.defs _ _).mono (fun r h c => ⟨h c _ (Cert.Kernel4Ideal.Gen.mem_uc Cert.Kernel4Ideal.main_v14 (by decide)),
      h c _ (Cert.Kernel4Ideal.Gen.mem_uc Cert.Kernel4Ideal.main_v15 (by decide)),
      h c _ (Cert.Kernel4Ideal.Gen.mem_uc Cert.Kernel4Ideal.main_v12 (by decide)),
      (h c _ (Cert.Kernel4Ideal.Gen.mem_uc Cert.Kernel4Ideal.main_arg0 (by decide))).trans (Cert.Kernel4Ideal.Gen.W8_main_arg0 m ρ c),
      (h c _ (Cert.Kernel4Ideal.Gen.mem_uc Cert.Kernel4Ideal.main_arg1 (by decide))).trans (Cert.Kernel4Ideal.Gen.W8_main_arg1 m ρ c),
      (h c _ (Cert.Kernel4Ideal.Gen.mem_uc Cert.Kernel4Ideal.main_arg2 (by decide))).trans (Cert.Kernel4Ideal.Gen.W8_main_arg2 m ρ c),
      (h c _ (Cert.Kernel4Ideal.Gen.mem_uc Cert.Kernel4Ideal.main_arg3 (by decide))).trans (Cert.Kernel4Ideal.Gen.W8_main_arg3 m ρ c),
      (h c _ (Cert.Kernel4Ideal.Gen.mem_uc Cert.Kernel4Ideal.main_arg4 (by decide))).trans (Cert.Kernel4Ideal.Gen.W8_main_arg4 m ρ c),
      (h c _ (Cert.Kernel4Ideal.Gen.mem_uc Cert.Kernel4Ideal.main_arg5 (by decide))).trans (Cert.Kernel4Ideal.Gen.W8_main_arg5 m ρ c)⟩)
      (Cert.Kernel4Ideal.Own.run_all m ρ)
  · refine (θ_run Cert.Reference4Ideal.defs _ _).mono (fun r h c => ⟨(h c).1.trans ?_, (h c).2.1.trans ?_, (h c).2.2.1.trans ?_, (h c).2.2.2⟩)
      (Cert.Reference4Ideal.Value.run m' ρ')
    all_goals obtain ⟨a0, a1, a2, a3, a4, a5⟩ := ha c
    · refine (Cert.Reference4Ideal.Read.val_main_v37_eq (F := Ideal) m' c).trans ?_
      rw [a0, a1, a2, a3, a4, a5]
      obtain ⟨hg, hu, hd, hy⟩ := fin_pre4 (hF := pre_facts4) _ _ _ _ _ _ (hp c)
      exact (match_g _ _ _ _ _ _ hg hu hd hy).trans (Cert.Kernel4Ideal.Own.result_g c m ρ).symm
    · refine (Cert.Reference4Ideal.Read.val_main_v39_eq (F := Ideal) _ _ _ _ _).trans ?_
      rw [a0, a1, a2, a4, a5]
      exact (match_u _ _ _ _ _).trans (Cert.Kernel4Ideal.Own.result_u c m ρ).symm
    · refine (Cert.Reference4Ideal.Read.val_main_v41_eq (F := Ideal) _ _ _ _ _).trans ?_
      rw [a0, a1, a2, a3, a5]
      exact (match_d _ _ _ _ _).trans (Cert.Kernel4Ideal.Own.result_d c m ρ).symm

end Cert.Proof
-- ==== Proof.MixSpec.lean ====
/-
  The mixer's two projections as plain functions over the extended reals: a product of rows with columns, of rows with
  rows, of columns with columns, and a product on top of other rows.
-/
module
public import proofs.«01_k».proof.Proof.FfnSpec

@[expose] public section

noncomputable section

namespace Cert.Mix

open Idealize.ShloMosaic Idealize.ShloMosaic.Pointwise Cert.Ffn

variable {a b n : ℕ}

/-- The product of two matrices, of one with the other's transpose, and of one's transpose with the other. -/
def mul (x : Fin a → Fin n → EReal) (y : Fin n → Fin b → EReal) : Fin a → Fin b → EReal := fun i j => ∑ k, x i k * y k j
def mulT (x : Fin a → Fin n → EReal) (y : Fin b → Fin n → EReal) : Fin a → Fin b → EReal := fun i j => ∑ k, x i k * y j k
def tmul (x : Fin n → Fin a → EReal) (y : Fin n → Fin b → EReal) : Fin a → Fin b → EReal := fun i j => ∑ k, x k i * y k j

/-- An array's values, whatever its element type. -/
abbrev Arr (s : Shape) := s.Idx → EReal

/-- The same on arrays, the first also on top of other rows. -/
abbrev mulA (x : Arr ⟨2, ![a, n]⟩) (y : Arr ⟨2, ![n, b]⟩) : Arr ⟨2, ![a, b]⟩ :=
  fun i => mul (rows x) (rows y) (i 0) (i 1)
abbrev mulTA (x : Arr ⟨2, ![a, n]⟩) (y : Arr ⟨2, ![b, n]⟩) : Arr ⟨2, ![a, b]⟩ :=
  fun i => mulT (rows x) (rows y) (i 0) (i 1)
abbrev tmulA (x : Arr ⟨2, ![n, a]⟩) (y : Arr ⟨2, ![n, b]⟩) : Arr ⟨2, ![a, b]⟩ :=
  fun i => tmul (rows x) (rows y) (i 0) (i 1)
abbrev mulAddA (x : Arr ⟨2, ![a, n]⟩) (y : Arr ⟨2, ![n, b]⟩) (r : Arr ⟨2, ![a, b]⟩) :
    Arr ⟨2, ![a, b]⟩ :=
  fun i => mul (rows x) (rows y) (i 0) (i 1) + r (ix2 (i 0) (i 1))

end Cert.Mix
-- ==== Proof.MixOutKernel.lean ====
/-
  What the output projection's program writes: each of its three calls over any contents of memory, and its results.
-/
module
public import proofs.«01_k».proof.Proof.Gen.Kernel6Ideal.Frame
public import proofs.«01_k».proof.Proof.MixSpec
public import proofs.«01_k».proof.Proof.Base

@[expose] public section

set_option maxRecDepth 20000

noncomputable section

namespace Cert.Kernel6Ideal.Own

open Idealize.ShloMosaic Idealize.ShloMosaic.TcCoe Idealize.ShloMosaic.Pointwise
open Cert.Kernel6Ideal Cert.Kernel6Ideal.Gen Cert.Ffn Cert.Mix

variable (V : (c : Dev nD) → (b : Ref sig .tc) → Buf (Elt Ideal) ((c : Thread nD τ).loc b)) (c : Dev nD)

/-- Which block of each array a grid point holds. -/
theorem idx0 : ∀ t : Fin cfg0.N, win0_0.index t = ![t.val / 2, 0] ∧ win0_1.index t = ![0, t.val % 2] ∧ win0_2.index t = ![t.val / 2, t.val % 2]
    ∧ win0_3.index t = ![t.val / 2, t.val % 2] := by
  decide +kernel

theorem idx1 : ∀ t : Fin cfg1.N, win1_0.index t = ![t.val / 2, 0] ∧ win1_1.index t = ![t.val % 2, 0] ∧ win1_2.index t = ![t.val / 2, t.val % 2] := by
  decide +kernel

theorem idx2 : ∀ t : Fin cfg2.N, win2_0.index t = ![0, t.val] ∧ win2_1.index t = ![0, 0] ∧ win2_2.index t = ![t.val, 0] := by
  decide +kernel

theorem arr0 : (dat0 V c).arrAt 3 cfg0.N = mulAddA (V c main_v0) (V c main_v1) (V c main_arg2) := by
  refine (dat0 V c).arrAt_eq_of_covers 3 _ (by decide +kernel) fun t hf y => ?_
  blk_simp
  rw [after0_3]
  frame_out
  pointwise [k0_pay1, mulAddA, mul, rows]
  blk_point [iblk0, idx0 t]

theorem arr1 : (dat1 V c).arrAt 2 cfg1.N = mulTA (V c main_arg3) (V c main_v1) := by
  refine (dat1 V c).arrAt_eq_of_covers 2 _ (by decide +kernel) fun t hf y => ?_
  blk_simp
  rw [after1_2]
  unfold outsAt1
  frame_out
  pointwise [k1_pay1, mulTA, mulT, rows]
  blk_point [iblk1, idx1 t]

theorem arr2 : (dat2 V c).arrAt 2 cfg2.N = tmulA (V c main_v0) (V c main_arg3) := by
  refine (dat2 V c).arrAt_eq_of_covers 2 _ (by decide +kernel) fun t hf y => ?_
  blk_simp
  rw [after2_2]
  unfold outsAt2
  frame_out
  pointwise [k2_pay1, tmulA, tmul, rows]
  blk_point [iblk2, idx2 t]

abbrev ent (s : Shape) (x : s.Idx → EReal) (i : s.Idx) : EReal := x i

section Host
variable (W : Valuation τ sig (Elt Ideal))

theorem cat_eq : StableHlo.after hostOps0 W (Proc.devRef .tc main_v0) = (W (Proc.devRef .tc main_arg0) : FVec Ideal S2048x2048 .f32) := by
  refine funext fun (i : S2048x2048.Idx) => ?_
  show ent S2048x2048 (StableHlo.after hostOps0 W (Proc.devRef .tc main_v0)) i = ent S2048x2048 (W (Proc.devRef .tc main_arg0)) i
  unfold ent
  after_reads_at

theorem wout_eq : StableHlo.after hostOps0 W (Proc.devRef .tc main_v1) = (W (Proc.devRef .tc main_arg1) : FVec Ideal S2048x2048 .f32) := by
  refine funext fun (i : S2048x2048.Idx) => ?_
  show ent S2048x2048 (StableHlo.after hostOps0 W (Proc.devRef .tc main_v1)) i = ent S2048x2048 (W (Proc.devRef .tc main_arg1)) i
  unfold ent
  after_reads_at

end Host

/-! ## The calls one after the other -/

variable (m : (ℓ : Loc nD τ sig) → Buf (Elt Ideal) ℓ) (ρ : Dev nD → PrngReg)

abbrev Cat : FVec Ideal S2048x2048 .f32 := m ((c : Thread nD τ).loc main_arg0)
abbrev Wout : FVec Ideal S2048x2048 .f32 := m ((c : Thread nD τ).loc main_arg1)
abbrev Res : FVec Ideal S2048x2048 .f32 := m ((c : Thread nD τ).loc main_arg2)
abbrev DX : FVec Ideal S2048x2048 .f32 := m ((c : Thread nD τ).loc main_arg3)

theorem w2 : V2 m ρ c main_v1 = Wout c m := (W2_of m ρ c main_v1 (by decide)).trans (wout_eq _)

theorem cat3 : V3 m ρ c main_v0 = Cat c m :=
  (W3_of m ρ c main_v0 (by decide)).trans ((W2_of m ρ c main_v0 (by decide)).trans (cat_eq _))

/-- The program's results: the rows after the projection, the gradient of the mixed heads, and that of the weight. -/
theorem result_x : W4 m ρ c (Proc.devRef .tc main_v2) = mulAddA (Cat c m) (Wout c m) (Res c m) := by
  refine (W4_of m ρ c main_v2 (by decide)).trans ((W3_of m ρ c main_v2 (by decide)).trans ((W2_arr m ρ c 3).trans ((arr0 (V1 m ρ) c).trans ?_)))
  rw [show V1 m ρ c main_v0 = Cat c m from cat_eq _, show V1 m ρ c main_v1 = Wout c m from wout_eq _,
    show V1 m ρ c main_arg2 = Res c m from W1_args m ρ c main_arg2 (by decide)]

theorem result_cat : W4 m ρ c (Proc.devRef .tc main_v3) = mulTA (DX c m) (Wout c m) := by
  refine (W4_of m ρ c main_v3 (by decide)).trans ((W3_arr m ρ c 2).trans ((arr1 (V2 m ρ) c).trans ?_))
  rw [w2, show V2 m ρ c main_arg3 = DX c m from W2_args m ρ c main_arg3 (by decide)]

theorem result_w : W4 m ρ c (Proc.devRef .tc main_v4) = tmulA (Cat c m) (DX c m) := by
  refine (W4_arr m ρ c 2).trans ((arr2 (V3 m ρ) c).trans ?_)
  rw [cat3, show V3 m ρ c main_arg3 = DX c m from W3_args m ρ c main_arg3 (by decide)]

end Cert.Kernel6Ideal.Own
-- ==== Proof.MixOutRun.lean ====
/-
  The output projection's program runs to its end from any memory, every buffer outside the scopes ending with what the
  last call leaves.
-/
module
public import proofs.«01_k».proof.Proof.Gen.Kernel6Ideal.Frame
public import proofs.«01_k».proof.Proof.Base

@[expose] public section

set_option maxRecDepth 16384

noncomputable section

namespace Cert.Kernel6Ideal.Own

open Cert.Kernel6Ideal Cert.Kernel6Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel6Ideal.Own
-- ==== Proof.MixOut.lean ====
/-
  The output projection's program against its reference: both end with the products of Proof/MixSpec.lean.
-/
module
public import proofs.«01_k».proof.Proof.MixOutKernel
public import proofs.«01_k».proof.Proof.MixOutRun
public import proofs.«01_k».proof.Proof.Gen.Reference6Ideal.Read
public import proofs.«01_k».proof.Defs
public import proofs.«01_k».proof.Proof.Base

@[expose] public section

noncomputable section

namespace Cert.Reference6Ideal.Own

open Idealize.ShloMosaic Idealize.ShloMosaic.Pointwise
open Cert.Reference6Ideal Cert.Reference6Ideal.Gen Cert.Reference6Ideal.Read Cert.Ffn Cert.Mix

variable (cat w x dx : FVec Ideal S2048x2048 .f32)

theorem x_eq : val_main_v1 (F := Ideal) cat w x = mulAddA cat w x := by
  refine funext fun (i : S2048x2048.Idx) => ?_
  rw [eq_ix2 i]
  pointwise [val_main_v1, val_main_v0, mulAddA, mul, rows]
  exact add_comm _ _

theorem cat_eq : val_main_v4 (F := Ideal) w dx = mulTA dx w := by
  refine funext fun (i : S2048x2048.Idx) => ?_
  rw [eq_ix2 i]
  pointwise [val_main_v4, mulTA, mulT, rows]

theorem w_eq : val_main_v5 (F := Ideal) cat dx = tmulA cat dx := by
  refine funext fun (i : S2048x2048.Idx) => ?_
  rw [eq_ix2 i]
  pointwise [val_main_v5, val_main_v3, val_main_v2, tmulA, tmul, rows]
  exact Finset.sum_congr rfl fun k _ => mul_comm _ _

end Cert.Reference6Ideal.Own

namespace Cert.Proof

open Idealize.ShloMosaic Idealize.SL.Sem

theorem frame_ref6 : quiescent_Reference6Ideal (hReference6Ideal := Cert.Reference6Ideal.Gen.facts) := fun m ρ _ =>
  (θ_run Cert.Reference6Ideal.defs _ _).mono (fun r h => ⟨fun c => (h c).2.2.2, Idealize.ShloMosaic.sem_eq_zero_of_no_sems (by decide) r.2⟩)
    (Cert.Reference6Ideal.Value.run m ρ)

/-- The calls of the output projection and of its gradients compute what the reference computes. -/
theorem value6 : algebraic_Kernel6Ideal_Reference6Ideal (hKernel6Ideal := Cert.Kernel6Ideal.Gen.facts)
    (hReference6Ideal := Cert.Reference6Ideal.Gen.facts) := fun m ρ m' ρ' _ ha => by
  refine ⟨fun c => Cert.Kernel6Ideal.Gen.W4 m ρ c (Proc.devRef .tc Cert.Kernel6Ideal.main_v2),
    fun c => Cert.Kernel6Ideal.Gen.W4 m ρ c (Proc.devRef .tc Cert.Kernel6Ideal.main_v3),
    fun c => Cert.Kernel6Ideal.Gen.W4 m ρ c (Proc.devRef .tc Cert.Kernel6Ideal.main_v4), ?_, ?_⟩
  · exact (θ_run Cert.Kernel6Ideal.defs _ _).mono (fun r h c => ⟨h c _ (Cert.Kernel6Ideal.Gen.mem_uc Cert.Kernel6Ideal.main_v2 (by decide)),
      h c _ (Cert.Kernel6Ideal.Gen.mem_uc Cert.Kernel6Ideal.main_v3 (by decide)),
      h c _ (Cert.Kernel6Ideal.Gen.mem_uc Cert.Kernel6Ideal.main_v4 (by decide)),
      (h c _ (Cert.Kernel6Ideal.Gen.mem_uc Cert.Kernel6Ideal.main_arg0 (by decide))).trans (Cert.Kernel6Ideal.Gen.W4_main_arg0 m ρ c),
      (h c _ (Cert.Kernel6Ideal.Gen.mem_uc Cert.Kernel6Ideal.main_arg1 (by decide))).trans (Cert.Kernel6Ideal.Gen.W4_main_arg1 m ρ c),
      (h c _ (Cert.Kernel6Ideal.Gen.mem_uc Cert.Kernel6Ideal.main_arg2 (by decide))).trans (Cert.Kernel6Ideal.Gen.W4_main_arg2 m ρ c),
      (h c _ (Cert.Kernel6Ideal.Gen.mem_uc Cert.Kernel6Ideal.main_arg3 (by decide))).trans (Cert.Kernel6Ideal.Gen.W4_main_arg3 m ρ c)⟩)
      (Cert.Kernel6Ideal.Own.run_all m ρ)
  · refine (θ_run Cert.Reference6Ideal.defs _ _).mono (fun r h c => ⟨(h c).1.trans ?_, (h c).2.1.trans ?_, (h c).2.2.1.trans ?_, (h c).2.2.2⟩)
      (Cert.Reference6Ideal.Value.run m' ρ')
    all_goals obtain ⟨a0, a1, a2, a3⟩ := ha c
    · refine (Cert.Reference6Ideal.Read.val_main_v1_eq (F := Ideal) _ _ _).trans ?_
      rw [a0, a1, a2]
      exact (Cert.Reference6Ideal.Own.x_eq _ _ _).trans (Cert.Kernel6Ideal.Own.result_x c m ρ).symm
    · refine (Cert.Reference6Ideal.Read.val_main_v4_eq (F := Ideal) _ _).trans ?_
      rw [a1, a3]
      exact (Cert.Reference6Ideal.Own.cat_eq _ _).trans (Cert.Kernel6Ideal.Own.result_cat c m ρ).symm
    · refine (Cert.Reference6Ideal.Read.val_main_v5_eq (F := Ideal) _ _).trans ?_
      rw [a0, a3]
      exact (Cert.Reference6Ideal.Own.w_eq _ _).trans (Cert.Kernel6Ideal.Own.result_w c m ρ).symm

end Cert.Proof
-- ==== Proof.MixCols.lean ====
/-
  The input projection's columns in the two orders: reference.py's, and the version's, whose two narrow pieces are filled
  up with zeros. What the host's slices, pads and concatenations between the two orders are, entry by entry.
-/
module
public import proofs.«01_k».proof.Proof.MixSpec
public import Idealize.ShloMosaic.Lib.Pipeline.Value
public import Idealize.ShloMosaic.Lib.KernelVsHost

@[expose] public section

set_option maxRecDepth 16384

noncomputable section

namespace Cert.Mix

open Idealize.ShloMosaic Idealize.ShloMosaic.Pointwise Cert.Ffn

/-- Where the version puts column `c`, and the columns it keeps free. -/
def place (c : Fin 3920) : Fin 4096 :=
  ⟨if c.val < 768 then c.val else if c.val < 832 then c.val + 3072 else if c.val < 2880 then c.val - 64
    else if c.val < 2896 then c.val + 1088 else c.val - 80, by have := c.isLt; split_ifs <;> omega⟩

theorem place_injective : Function.Injective place := fun a b h => by
  have h' := congrArg Fin.val h
  unfold place at h'
  dsimp only at h'
  exact Fin.ext (by split_ifs at h' <;> omega)

open Classical in
/-- The rows in the version's order of columns. -/
def padded (x : Fin 2048 → Fin 3920 → EReal) : Fin 2048 → Fin 4096 → EReal := fun r p =>
  if h : ∃ c, place c = p then x r h.choose else 0

theorem padded_place (x : Fin 2048 → Fin 3920 → EReal) (r : Fin 2048) (c : Fin 3920) : padded x r (place c) = x r c := by
  have h : ∃ d, place d = place c := ⟨c, rfl⟩
  unfold padded
  rw [dif_pos h, place_injective h.choose_spec]

theorem padded_free (x : Fin 2048 → Fin 3920 → EReal) (r : Fin 2048) (p : Fin 4096) (h : ∀ c, place c ≠ p) : padded x r p = 0 :=
  dif_neg fun ⟨c, hc⟩ => h c hc

/-- The columns the version keeps free: the ends of its two narrow pieces. -/
theorem place_cases (p : Fin 4096) : (∃ c, place c = p) ∨ (3904 ≤ p.val ∧ p.val < 3968) ∨ 3984 ≤ p.val := by
  obtain ⟨p, hp⟩ := p
  by_contra hn
  rw [not_or] at hn
  have e : ∀ d (hd : d < 3920), (place ⟨d, hd⟩).val ≠ p := fun d hd hh => hn.1 ⟨⟨d, hd⟩, Fin.ext hh⟩
  have hp' := hn.2
  unfold place at e
  dsimp only at e hp'
  by_cases h₀ : p < 768
  · exact e p (by omega) (by split_ifs <;> omega)
  by_cases h₁ : p < 2816
  · exact e (p + 64) (by omega) (by split_ifs <;> omega)
  by_cases h₂ : p < 3840
  · exact e (p + 80) (by omega) (by split_ifs <;> omega)
  by_cases h₃ : p < 3904
  · exact e (p - 3072) (by omega) (by split_ifs <;> omega)
  · exact e (p - 1088) (by omega) (by split_ifs <;> omega)

/-- A sum over the version's columns that is zero at the free ones is the sum over reference.py's. -/
theorem sum_place (F : Fin 4096 → EReal) (h : ∀ p, (∀ c, place c ≠ p) → F p = 0) : ∑ p, F p = ∑ c, F (place c) :=
  (Finset.sum_of_injOn place place_injective.injOn (fun _ _ => Finset.mem_coe.2 (Finset.mem_univ _))
    (fun p _ hp => h p fun c hc => hp ⟨c, Finset.mem_coe.2 (Finset.mem_univ _), hc⟩) fun _ _ => rfl).symm

/-- A piece of columns of a concatenation, read at its own place. -/
theorem cat_piece {n : ℕ} (xs : List ((s : Shape) × (s.Idx → EReal))) (h : Shape.Concatenates (xs.map (·.1)) ⟨2, ![2048, n]⟩ 1)
    (k w : ℕ) (x : Arr ⟨2, ![2048, w]⟩) (hk : k < xs.length) (hx : xs[k] = ⟨⟨2, ![2048, w]⟩, x⟩) (pre : ℕ)
    (hpre : (((xs.take k).map (·.1)).map fun s => if h : s.rank = 2 then s.size ((1 : Fin 2).cast h.symm) else 0).sum = pre)
    (r : Fin 2048) (p : Fin n) (q : Fin w) (hq : pre + q.val = p.val) :
    concatenate ⟨2, ![2048, n]⟩ 1 xs h (ix2 r p) = x (ix2 r q) :=
  concatenate_apply_piece 1 xs h (ix2 r p) k hk ⟨2, ![2048, w]⟩ x hx rfl pre hpre (ix2 r q)
    (fun b hb => by fin_cases b; · rfl
                    · exact absurd rfl hb) hq

/-- The version's eight pieces, each with its columns of `x` and zeros to fill up the two narrow ones, side by side. -/
theorem cat_padded (x : Fin 2048 → Fin 3920 → EReal)
    (x0 : Arr ⟨2, ![2048, 512]⟩) (x1 : Arr ⟨2, ![2048, 256]⟩) (x2 : Arr ⟨2, ![2048, 512]⟩) (x3 : Arr ⟨2, ![2048, 512]⟩) (x4 : Arr ⟨2, ![2048, 1024]⟩) (x5 : Arr ⟨2, ![2048, 1024]⟩) (x6 : Arr ⟨2, ![2048, 128]⟩) (x7 : Arr ⟨2, ![2048, 128]⟩)
    (e0 : ∀ (r : Fin 2048) (q : Fin 512) (d : Fin 3920), 0 + q.val = d.val → x0 (ix2 r q) = x r d)
    (e1 : ∀ (r : Fin 2048) (q : Fin 256) (d : Fin 3920), 512 + q.val = d.val → x1 (ix2 r q) = x r d)
    (e2 : ∀ (r : Fin 2048) (q : Fin 512) (d : Fin 3920), 832 + q.val = d.val → x2 (ix2 r q) = x r d)
    (e3 : ∀ (r : Fin 2048) (q : Fin 512) (d : Fin 3920), 1344 + q.val = d.val → x3 (ix2 r q) = x r d)
    (e4 : ∀ (r : Fin 2048) (q : Fin 1024) (d : Fin 3920), 1856 + q.val = d.val → x4 (ix2 r q) = x r d)
    (e5 : ∀ (r : Fin 2048) (q : Fin 1024) (d : Fin 3920), 2896 + q.val = d.val → x5 (ix2 r q) = x r d)
    (e6 : ∀ (r : Fin 2048) (q : Fin 128) (d : Fin 3920), (q.val < 64) → 768 + q.val = d.val → x6 (ix2 r q) = x r d)
    (e7 : ∀ (r : Fin 2048) (q : Fin 128) (d : Fin 3920), (q.val < 16) → 2880 + q.val = d.val → x7 (ix2 r q) = x r d)
    (z6 : ∀ (r : Fin 2048) (q : Fin 128), 64 ≤ q.val → x6 (ix2 r q) = 0) (z7 : ∀ (r : Fin 2048) (q : Fin 128), 16 ≤ q.val → x7 (ix2 r q) = 0)
    (h : Shape.Concatenates ([(⟨2, ![2048, 512]⟩ : Shape), (⟨2, ![2048, 256]⟩ : Shape), (⟨2, ![2048, 512]⟩ : Shape), (⟨2, ![2048, 512]⟩ : Shape), (⟨2, ![2048, 1024]⟩ : Shape), (⟨2, ![2048, 1024]⟩ : Shape), (⟨2, ![2048, 128]⟩ : Shape), (⟨2, ![2048, 128]⟩ : Shape)]) ⟨2, ![2048, 4096]⟩ 1)
    (r : Fin 2048) (p : Fin 4096) :
    concatenate (α := EReal) ⟨2, ![2048, 4096]⟩ 1 [⟨⟨2, ![2048, 512]⟩, x0⟩, ⟨⟨2, ![2048, 256]⟩, x1⟩, ⟨⟨2, ![2048, 512]⟩, x2⟩, ⟨⟨2, ![2048, 512]⟩, x3⟩, ⟨⟨2, ![2048, 1024]⟩, x4⟩, ⟨⟨2, ![2048, 1024]⟩, x5⟩, ⟨⟨2, ![2048, 128]⟩, x6⟩, ⟨⟨2, ![2048, 128]⟩, x7⟩] h (ix2 r p) = padded x r p := by
  have hp := p.isLt
  rcases place_cases p with ⟨d, hd⟩ | hf | hf
  · have hv := congrArg Fin.val hd
    rw [← hd, padded_place, hd]
    have hd' := d.isLt
    unfold place at hv
    dsimp only at hv
    by_cases h0 : d.val < 512
    · exact (cat_piece _ _ 0 512 x0 (by simp) rfl 0 (by rfl) r p ⟨p.val - 0, by split_ifs at hv <;> omega⟩ (by dsimp only; split_ifs at hv <;> omega)).trans (e0 r _ d (by dsimp only; split_ifs at hv <;> omega))
    by_cases h1 : d.val < 768
    · exact (cat_piece _ _ 1 256 x1 (by simp) rfl 512 (by rfl) r p ⟨p.val - 512, by split_ifs at hv <;> omega⟩ (by dsimp only; split_ifs at hv <;> omega)).trans (e1 r _ d (by dsimp only; split_ifs at hv <;> omega))
    by_cases h2 : d.val < 832
    · exact (cat_piece _ _ 6 128 x6 (by simp) rfl 3840 (by rfl) r p ⟨p.val - 3840, by split_ifs at hv <;> omega⟩ (by dsimp only; split_ifs at hv <;> omega)).trans (e6 r _ d (by dsimp only; split_ifs at hv <;> omega) (by dsimp only; split_ifs at hv <;> omega))
    by_cases h3 : d.val < 1344
    · exact (cat_piece _ _ 2 512 x2 (by simp) rfl 768 (by rfl) r p ⟨p.val - 768, by split_ifs at hv <;> omega⟩ (by dsimp only; split_ifs at hv <;> omega)).trans (e2 r _ d (by dsimp only; split_ifs at hv <;> omega))
    by_cases h4 : d.val < 1856
    · exact (cat_piece _ _ 3 512 x3 (by simp) rfl 1280 (by rfl) r p ⟨p.val - 1280, by split_ifs at hv <;> omega⟩ (by dsimp only; split_ifs at hv <;> omega)).trans (e3 r _ d (by dsimp only; split_ifs at hv <;> omega))
    by_cases h5 : d.val < 2880
    · exact (cat_piece _ _ 4 1024 x4 (by simp) rfl 1792 (by rfl) r p ⟨p.val - 1792, by split_ifs at hv <;> omega⟩ (by dsimp only; split_ifs at hv <;> omega)).trans (e4 r _ d (by dsimp only; split_ifs at hv <;> omega))
    by_cases h6 : d.val < 2896
    · exact (cat_piece _ _ 7 128 x7 (by simp) rfl 3968 (by rfl) r p ⟨p.val - 3968, by split_ifs at hv <;> omega⟩ (by dsimp only; split_ifs at hv <;> omega)).trans (e7 r _ d (by dsimp only; split_ifs at hv <;> omega) (by dsimp only; split_ifs at hv <;> omega))
    · exact (cat_piece _ _ 5 1024 x5 (by simp) rfl 2816 (by rfl) r p ⟨p.val - 2816, by split_ifs at hv <;> omega⟩ (by dsimp only; split_ifs at hv <;> omega)).trans (e5 r _ d (by dsimp only; split_ifs at hv <;> omega))
  · rw [padded_free x r p fun d hd => by
      have hv := congrArg Fin.val hd
      have hd' := d.isLt
      unfold place at hv
      dsimp only at hv
      split_ifs at hv <;> omega]
    exact (cat_piece _ _ 6 128 x6 (by simp) rfl 3840 (by rfl) r p ⟨p.val - 3840, by omega⟩ (by dsimp only; omega)).trans (z6 r _ (by dsimp only; omega))
  · rw [padded_free x r p fun d hd => by
      have hv := congrArg Fin.val hd
      have hd' := d.isLt
      unfold place at hv
      dsimp only at hv
      split_ifs at hv <;> omega]
    exact (cat_piece _ _ 7 128 x7 (by simp) rfl 3968 (by rfl) r p ⟨p.val - 3968, by omega⟩ (by dsimp only; omega)).trans (z7 r _ (by dsimp only; omega))

/-- The pieces without the columns that fill up, side by side in reference.py's order. -/
theorem cat_plain (x : Fin 2048 → Fin 4096 → EReal)
    (x0 : Arr ⟨2, ![2048, 512]⟩) (x1 : Arr ⟨2, ![2048, 256]⟩) (x2 : Arr ⟨2, ![2048, 64]⟩) (x3 : Arr ⟨2, ![2048, 512]⟩) (x4 : Arr ⟨2, ![2048, 512]⟩) (x5 : Arr ⟨2, ![2048, 1024]⟩) (x6 : Arr ⟨2, ![2048, 16]⟩) (x7 : Arr ⟨2, ![2048, 1024]⟩)
    (e0 : ∀ (r : Fin 2048) (q : Fin 512) (d : Fin 4096), 0 + q.val = d.val → x0 (ix2 r q) = x r d)
    (e1 : ∀ (r : Fin 2048) (q : Fin 256) (d : Fin 4096), 512 + q.val = d.val → x1 (ix2 r q) = x r d)
    (e2 : ∀ (r : Fin 2048) (q : Fin 64) (d : Fin 4096), 3840 + q.val = d.val → x2 (ix2 r q) = x r d)
    (e3 : ∀ (r : Fin 2048) (q : Fin 512) (d : Fin 4096), 768 + q.val = d.val → x3 (ix2 r q) = x r d)
    (e4 : ∀ (r : Fin 2048) (q : Fin 512) (d : Fin 4096), 1280 + q.val = d.val → x4 (ix2 r q) = x r d)
    (e5 : ∀ (r : Fin 2048) (q : Fin 1024) (d : Fin 4096), 1792 + q.val = d.val → x5 (ix2 r q) = x r d)
    (e6 : ∀ (r : Fin 2048) (q : Fin 16) (d : Fin 4096), 3968 + q.val = d.val → x6 (ix2 r q) = x r d)
    (e7 : ∀ (r : Fin 2048) (q : Fin 1024) (d : Fin 4096), 2816 + q.val = d.val → x7 (ix2 r q) = x r d)
    (h : Shape.Concatenates ([(⟨2, ![2048, 512]⟩ : Shape), (⟨2, ![2048, 256]⟩ : Shape), (⟨2, ![2048, 64]⟩ : Shape), (⟨2, ![2048, 512]⟩ : Shape), (⟨2, ![2048, 512]⟩ : Shape), (⟨2, ![2048, 1024]⟩ : Shape), (⟨2, ![2048, 16]⟩ : Shape), (⟨2, ![2048, 1024]⟩ : Shape)]) ⟨2, ![2048, 3920]⟩ 1)
    (r : Fin 2048) (p : Fin 3920) :
    concatenate (α := EReal) ⟨2, ![2048, 3920]⟩ 1 [⟨⟨2, ![2048, 512]⟩, x0⟩, ⟨⟨2, ![2048, 256]⟩, x1⟩, ⟨⟨2, ![2048, 64]⟩, x2⟩, ⟨⟨2, ![2048, 512]⟩, x3⟩, ⟨⟨2, ![2048, 512]⟩, x4⟩, ⟨⟨2, ![2048, 1024]⟩, x5⟩, ⟨⟨2, ![2048, 16]⟩, x6⟩, ⟨⟨2, ![2048, 1024]⟩, x7⟩] h (ix2 r p) = x r (place p) := by
  have hp := p.isLt
  by_cases h0 : p.val < 512
  · exact (cat_piece _ _ 0 512 x0 (by simp) rfl 0 (by rfl) r p ⟨p.val - 0, by omega⟩ (by dsimp only; omega)).trans (e0 r _ (place p) (by unfold place; dsimp only; split_ifs <;> omega))
  by_cases h1 : p.val < 768
  · exact (cat_piece _ _ 1 256 x1 (by simp) rfl 512 (by rfl) r p ⟨p.val - 512, by omega⟩ (by dsimp only; omega)).trans (e1 r _ (place p) (by unfold place; dsimp only; split_ifs <;> omega))
  by_cases h2 : p.val < 832
  · exact (cat_piece _ _ 2 64 x2 (by simp) rfl 768 (by rfl) r p ⟨p.val - 768, by omega⟩ (by dsimp only; omega)).trans (e2 r _ (place p) (by unfold place; dsimp only; split_ifs <;> omega))
  by_cases h3 : p.val < 1344
  · exact (cat_piece _ _ 3 512 x3 (by simp) rfl 832 (by rfl) r p ⟨p.val - 832, by omega⟩ (by dsimp only; omega)).trans (e3 r _ (place p) (by unfold place; dsimp only; split_ifs <;> omega))
  by_cases h4 : p.val < 1856
  · exact (cat_piece _ _ 4 512 x4 (by simp) rfl 1344 (by rfl) r p ⟨p.val - 1344, by omega⟩ (by dsimp only; omega)).trans (e4 r _ (place p) (by unfold place; dsimp only; split_ifs <;> omega))
  by_cases h5 : p.val < 2880
  · exact (cat_piece _ _ 5 1024 x5 (by simp) rfl 1856 (by rfl) r p ⟨p.val - 1856, by omega⟩ (by dsimp only; omega)).trans (e5 r _ (place p) (by unfold place; dsimp only; split_ifs <;> omega))
  by_cases h6 : p.val < 2896
  · exact (cat_piece _ _ 6 16 x6 (by simp) rfl 2880 (by rfl) r p ⟨p.val - 2880, by omega⟩ (by dsimp only; omega)).trans (e6 r _ (place p) (by unfold place; dsimp only; split_ifs <;> omega))
  · exact (cat_piece _ _ 7 1024 x7 (by simp) rfl 2896 (by rfl) r p ⟨p.val - 2896, by omega⟩ (by dsimp only; omega)).trans (e7 r _ (place p) (by unfold place; dsimp only; split_ifs <;> omega))

end Cert.Mix
-- ==== Proof.MixInKernel.lean ====
/-
  What the input projection's program writes: the host's two orders of columns, each of its two calls over any contents
  of memory, and its results.
-/
module
public import proofs.«01_k».proof.Proof.Gen.Kernel7Ideal.Frame
public import proofs.«01_k».proof.Proof.MixCols
public import proofs.«01_k».proof.Proof.Base

@[expose] public section

set_option maxRecDepth 20000

noncomputable section

namespace Cert.Kernel7Ideal.Own

open Idealize.ShloMosaic Idealize.ShloMosaic.TcCoe Idealize.ShloMosaic.Pointwise
open Cert.Kernel7Ideal Cert.Kernel7Ideal.Gen Cert.Ffn Cert.Mix

section Region

variable (V : (c : Dev nD) → (b : Ref sig .tc) → Buf (Elt Ideal) ((c : Thread nD τ).loc b)) (c : Dev nD)

/-- Which block of each array a grid point holds. -/
theorem idx0 : ∀ t : Fin cfg0.N, win0_0.index t = ![t.val / 4, 0] ∧ win0_1.index t = ![0, t.val % 4] ∧ win0_2.index t = ![t.val / 4, t.val % 4] := by
  decide +kernel

theorem idx1 : ∀ t : Fin cfg1.N, win1_0.index t = ![0, t.val / 2] ∧ win1_1.index t = ![0, t.val % 2] ∧ win1_2.index t = ![t.val / 2, t.val % 2] := by
  decide +kernel

theorem arr0 : (dat0 V c).arrAt 2 cfg0.N = mulA (V c main_v0) (V c main_v12) := by
  refine (dat0 V c).arrAt_eq_of_covers 2 _ (by decide +kernel) fun t hf y => ?_
  blk_simp
  rw [after0_2]
  frame_out
  pointwise [k0_pay1, mulA, mul, rows]
  blk_point [iblk0, idx0 t]

theorem arr1 : (dat1 V c).arrAt 2 cfg1.N = tmulA (V c main_v0) (V c main_v24) := by
  refine (dat1 V c).arrAt_eq_of_covers 2 _ (by decide +kernel) fun t hf y => ?_
  blk_simp
  rw [after1_2]
  unfold outsAt1
  frame_out
  pointwise [k1_pay1, tmulA, tmul, rows]
  blk_point [iblk1, idx1 t]

end Region

abbrev ent (s : Shape) (x : s.Idx → EReal) (i : s.Idx) : EReal := x i

/-- The value that fills up is zero. -/
theorem fill_zero : FloatOps.sitofp (F := Ideal) FTy.bf16 (0#32) = (0 : EReal) := by
  show ((((0#32 : BitVec 32).toInt : ℤ) : ℝ) : EReal) = 0
  simp

section Host
variable (m : (ℓ : Loc nD τ sig) → Buf (Elt Ideal) ℓ) (ρ : Dev nD → PrngReg) (c : Dev nD)

abbrev Hin : FVec Ideal S2048x2048 .f32 := m ((c : Thread nD τ).loc main_arg0)
abbrev Win : FVec Ideal S2048x3920 .f32 := m ((c : Thread nD τ).loc main_arg1)
abbrev DZ : FVec Ideal S2048x3920 .f32 := m ((c : Thread nD τ).loc main_arg2)

theorem cat_w (W : Valuation τ sig (Elt Ideal)) (i : S2048x4096.Idx) :
    ent S2048x4096 (StableHlo.after hostOps0_4 W (Proc.devRef .tc main_v12)) i
      = concatenate (α := EReal) S2048x4096 1 [⟨S2048x512, W (Proc.devRef .tc main_v2)⟩, ⟨S2048x256, W (Proc.devRef .tc main_v3)⟩, ⟨S2048x512, W (Proc.devRef .tc main_v4)⟩, ⟨S2048x512, W (Proc.devRef .tc main_v5)⟩, ⟨S2048x1024, W (Proc.devRef .tc main_v6)⟩, ⟨S2048x1024, W (Proc.devRef .tc main_v7)⟩, ⟨S2048x128, W (Proc.devRef .tc main_v9)⟩, ⟨S2048x128, W (Proc.devRef .tc main_v11)⟩]
          concatenates_S2048x512_S2048x256_S2048x512_S2048x512_S2048x1024_S2048x1024_S2048x128_S2048x128_S2048x4096_d1 i := by
  unfold ent
  after_reads_simp
  rfl

theorem cat_z (W : Valuation τ sig (Elt Ideal)) (i : S2048x4096.Idx) :
    ent S2048x4096 (StableHlo.after hostOps0_8 W (Proc.devRef .tc main_v24)) i
      = concatenate (α := EReal) S2048x4096 1 [⟨S2048x512, W (Proc.devRef .tc main_v14)⟩, ⟨S2048x256, W (Proc.devRef .tc main_v15)⟩, ⟨S2048x512, W (Proc.devRef .tc main_v16)⟩, ⟨S2048x512, W (Proc.devRef .tc main_v17)⟩, ⟨S2048x1024, W (Proc.devRef .tc main_v18)⟩, ⟨S2048x1024, W (Proc.devRef .tc main_v19)⟩, ⟨S2048x128, W (Proc.devRef .tc main_v21)⟩, ⟨S2048x128, W (Proc.devRef .tc main_v23)⟩]
          concatenates_S2048x512_S2048x256_S2048x512_S2048x512_S2048x1024_S2048x1024_S2048x128_S2048x128_S2048x4096_d1 i := by
  unfold ent
  after_reads_simp
  rfl

theorem pad_w (W : Valuation τ sig (Elt Ideal)) (r : Fin 2048) (q : Fin 128) :
    ent S2048x128 (StableHlo.after hostOps0_1 W (Proc.devRef .tc main_v9)) (ix2 r q)
      = if h : q.val < 64 then ent S2048x64 (W (Proc.devRef .tc main_v8)) (ix2 r ⟨q.val, h⟩)
        else FloatOps.sitofp (F := Ideal) FTy.bf16 ((W (Proc.devRef .tc main_c) : S_.Idx → BitVec 32) (Shape.Idx.first h_S_)) := by
  unfold ent
  after_reads_at

theorem pad_w' (W : Valuation τ sig (Elt Ideal)) (r : Fin 2048) (q : Fin 128) :
    ent S2048x128 (StableHlo.after hostOps0_3 W (Proc.devRef .tc main_v11)) (ix2 r q)
      = if h : q.val < 16 then ent S2048x16 (W (Proc.devRef .tc main_v10)) (ix2 r ⟨q.val, h⟩)
        else FloatOps.sitofp (F := Ideal) FTy.bf16 ((W (Proc.devRef .tc main_c_0) : S_.Idx → BitVec 32) (Shape.Idx.first h_S_)) := by
  unfold ent
  after_reads_at

theorem pad_z (W : Valuation τ sig (Elt Ideal)) (r : Fin 2048) (q : Fin 128) :
    ent S2048x128 (StableHlo.after hostOps0_5 W (Proc.devRef .tc main_v21)) (ix2 r q)
      = if h : q.val < 64 then ent S2048x64 (W (Proc.devRef .tc main_v20)) (ix2 r ⟨q.val, h⟩)
        else FloatOps.sitofp (F := Ideal) FTy.bf16 ((W (Proc.devRef .tc main_c_1) : S_.Idx → BitVec 32) (Shape.Idx.first h_S_)) := by
  unfold ent
  after_reads_at

theorem pad_z' (W : Valuation τ sig (Elt Ideal)) (r : Fin 2048) (q : Fin 128) :
    ent S2048x128 (StableHlo.after hostOps0_7 W (Proc.devRef .tc main_v23)) (ix2 r q)
      = if h : q.val < 16 then ent S2048x16 (W (Proc.devRef .tc main_v22)) (ix2 r ⟨q.val, h⟩)
        else FloatOps.sitofp (F := Ideal) FTy.bf16 ((W (Proc.devRef .tc main_c_2) : S_.Idx → BitVec 32) (Shape.Idx.first h_S_)) := by
  unfold ent
  after_reads_at

theorem w_padded (r : Fin 2048) (p : Fin 4096) : ent S2048x4096 (W5 m ρ c (Proc.devRef .tc main_v12)) (ix2 r p) = padded (rows (Win m c)) r p := by
  refine (cat_w _ _).trans (cat_padded (rows (Win m c)) _ _ _ _ _ _ _ _ ?_ ?_ ?_ ?_ ?_ ?_ ?_ ?_ ?_ ?_ _ r p)
  iterate 6
    · intro r q d h
      dsimp only [W4, W3, W2, W1]
      after_reads_at
      exact congrArg (Win m c) (congrArg (ix2 r) (Fin.ext (by dsimp only; omega)))
  · intro r q d hq h
    refine ((congrFun ((W4_of m ρ c main_v9 (by decide)).trans (W3_of m ρ c main_v9 (by decide))) (ix2 r q)).trans (pad_w (W1 m ρ c) r q)).trans ?_
    rw [dif_pos hq]
    dsimp only [W1]
    unfold ent
    after_reads_at
    exact congrArg (Win m c) (congrArg (ix2 r) (Fin.ext (by dsimp only; omega)))
  · intro r q d hq h
    refine (pad_w' (W3 m ρ c) r q).trans ?_
    rw [dif_pos hq]
    dsimp only [W3, W2, W1]
    unfold ent
    after_reads_at
    exact congrArg (Win m c) (congrArg (ix2 r) (Fin.ext (by dsimp only; omega)))
  · intro r q hq
    refine ((congrFun ((W4_of m ρ c main_v9 (by decide)).trans (W3_of m ρ c main_v9 (by decide))) (ix2 r q)).trans (pad_w (W1 m ρ c) r q)).trans ?_
    rw [dif_neg (by omega)]
    dsimp only [W1]
    after_reads_at
    exact fill_zero
  · intro r q hq
    refine (pad_w' (W3 m ρ c) r q).trans ?_
    rw [dif_neg (by omega)]
    dsimp only [W3, W2, W1]
    after_reads_at
    exact fill_zero

theorem z_padded (r : Fin 2048) (p : Fin 4096) : ent S2048x4096 (W9 m ρ c (Proc.devRef .tc main_v24)) (ix2 r p) = padded (rows (DZ m c)) r p := by
  refine (cat_z _ _).trans (cat_padded (rows (DZ m c)) _ _ _ _ _ _ _ _ ?_ ?_ ?_ ?_ ?_ ?_ ?_ ?_ ?_ ?_ _ r p)
  iterate 6
    · intro r q d h
      dsimp only [W8, W7, W6, W5, W4, W3, W2, W1]
      after_reads_at
      exact congrArg (DZ m c) (congrArg (ix2 r) (Fin.ext (by dsimp only; omega)))
  · intro r q d hq h
    refine ((congrFun ((W8_of m ρ c main_v21 (by decide)).trans (W7_of m ρ c main_v21 (by decide))) (ix2 r q)).trans (pad_z (W5 m ρ c) r q)).trans ?_
    rw [dif_pos hq]
    dsimp only [W5, W4, W3, W2, W1]
    unfold ent
    after_reads_at
    exact congrArg (DZ m c) (congrArg (ix2 r) (Fin.ext (by dsimp only; omega)))
  · intro r q d hq h
    refine (pad_z' (W7 m ρ c) r q).trans ?_
    rw [dif_pos hq]
    dsimp only [W7, W6, W5, W4, W3, W2, W1]
    unfold ent
    after_reads_at
    exact congrArg (DZ m c) (congrArg (ix2 r) (Fin.ext (by dsimp only; omega)))
  · intro r q hq
    refine ((congrFun ((W8_of m ρ c main_v21 (by decide)).trans (W7_of m ρ c main_v21 (by decide))) (ix2 r q)).trans (pad_z (W5 m ρ c) r q)).trans ?_
    rw [dif_neg (by omega)]
    dsimp only [W5, W4, W3, W2, W1]
    after_reads_at
    exact fill_zero
  · intro r q hq
    refine (pad_z' (W7 m ρ c) r q).trans ?_
    rw [dif_neg (by omega)]
    dsimp only [W7, W6, W5, W4, W3, W2, W1]
    after_reads_at
    exact fill_zero

theorem cat_tail_z (W : Valuation τ sig (Elt Ideal)) (i : S2048x3920.Idx) :
    ent S2048x3920 (StableHlo.after hostOps2 W (Proc.devRef .tc main_v35)) i
      = concatenate (α := EReal) S2048x3920 1 [⟨S2048x512, StableHlo.after hostOps2 W (Proc.devRef .tc main_v27)⟩, ⟨S2048x256, StableHlo.after hostOps2 W (Proc.devRef .tc main_v28)⟩, ⟨S2048x64, StableHlo.after hostOps2 W (Proc.devRef .tc main_v29)⟩, ⟨S2048x512, StableHlo.after hostOps2 W (Proc.devRef .tc main_v30)⟩, ⟨S2048x512, StableHlo.after hostOps2 W (Proc.devRef .tc main_v31)⟩, ⟨S2048x1024, StableHlo.after hostOps2 W (Proc.devRef .tc main_v32)⟩, ⟨S2048x16, StableHlo.after hostOps2 W (Proc.devRef .tc main_v33)⟩, ⟨S2048x1024, StableHlo.after hostOps2 W (Proc.devRef .tc main_v34)⟩]
          concatenates_S2048x512_S2048x256_S2048x64_S2048x512_S2048x512_S2048x1024_S2048x16_S2048x1024_S2048x3920_d1 i := by
  unfold ent
  after_reads_simp
  rfl

theorem tail_z (W : Valuation τ sig (Elt Ideal)) (r : Fin 2048) (p : Fin 3920) :
    ent S2048x3920 (StableHlo.after hostOps2 W (Proc.devRef .tc main_v35)) (ix2 r p) = ent S2048x4096 (W (Proc.devRef .tc main_v25)) (ix2 r (place p)) := by
  refine (cat_tail_z _ _).trans (cat_plain (rows (show FVec Ideal S2048x4096 .f32 from W (Proc.devRef .tc main_v25))) _ _ _ _ _ _ _ _ ?_ ?_ ?_ ?_ ?_ ?_ ?_ ?_ _ r p)
  iterate 8
    · intro r q d h
      after_reads_at
      exact congrArg (ent S2048x4096 (W (Proc.devRef .tc main_v25))) (congrArg (ix2 r) (Fin.ext (by dsimp only; omega)))

theorem cat_tail_dw (W : Valuation τ sig (Elt Ideal)) (i : S2048x3920.Idx) :
    ent S2048x3920 (StableHlo.after hostOps2 W (Proc.devRef .tc main_v44)) i
      = concatenate (α := EReal) S2048x3920 1 [⟨S2048x512, StableHlo.after hostOps2 W (Proc.devRef .tc main_v36)⟩, ⟨S2048x256, StableHlo.after hostOps2 W (Proc.devRef .tc main_v37)⟩, ⟨S2048x64, StableHlo.after hostOps2 W (Proc.devRef .tc main_v38)⟩, ⟨S2048x512, StableHlo.after hostOps2 W (Proc.devRef .tc main_v39)⟩, ⟨S2048x512, StableHlo.after hostOps2 W (Proc.devRef .tc main_v40)⟩, ⟨S2048x1024, StableHlo.after hostOps2 W (Proc.devRef .tc main_v41)⟩, ⟨S2048x16, StableHlo.after hostOps2 W (Proc.devRef .tc main_v42)⟩, ⟨S2048x1024, StableHlo.after hostOps2 W (Proc.devRef .tc main_v43)⟩]
          concatenates_S2048x512_S2048x256_S2048x64_S2048x512_S2048x512_S2048x1024_S2048x16_S2048x1024_S2048x3920_d1 i := by
  unfold ent
  after_reads_simp
  rfl

theorem tail_dw (W : Valuation τ sig (Elt Ideal)) (r : Fin 2048) (p : Fin 3920) :
    ent S2048x3920 (StableHlo.after hostOps2 W (Proc.devRef .tc main_v44)) (ix2 r p) = ent S2048x4096 (W (Proc.devRef .tc main_v26)) (ix2 r (place p)) := by
  refine (cat_tail_dw _ _).trans (cat_plain (rows (show FVec Ideal S2048x4096 .f32 from W (Proc.devRef .tc main_v26))) _ _ _ _ _ _ _ _ ?_ ?_ ?_ ?_ ?_ ?_ ?_ ?_ _ r p)
  iterate 8
    · intro r q d h
      after_reads_at
      exact congrArg (ent S2048x4096 (W (Proc.devRef .tc main_v26))) (congrArg (ix2 r) (Fin.ext (by dsimp only; omega)))

theorem h_eq : W1 m ρ c (Proc.devRef .tc main_v0) = Hin m c := by
  refine funext fun (i : S2048x2048.Idx) => ?_
  show ent S2048x2048 (StableHlo.after hostOps0 (W0 m ρ c) (Proc.devRef .tc main_v0)) i = Hin m c i
  unfold ent
  after_reads_at

theorem h9 : W9 m ρ c (Proc.devRef .tc main_v0) = Hin m c :=
  (W9_of m ρ c main_v0 (by decide)).trans <| (W8_of m ρ c main_v0 (by decide)).trans <| (W7_of m ρ c main_v0 (by decide)).trans <|
  (W6_of m ρ c main_v0 (by decide)).trans <| (W5_of m ρ c main_v0 (by decide)).trans <| (W4_of m ρ c main_v0 (by decide)).trans <|
  (W3_of m ρ c main_v0 (by decide)).trans <| (W2_of m ρ c main_v0 (by decide)).trans (h_eq m ρ c)

theorem w9 : W9 m ρ c (Proc.devRef .tc main_v12) = W5 m ρ c (Proc.devRef .tc main_v12) :=
  (W9_of m ρ c main_v12 (by decide)).trans <| (W8_of m ρ c main_v12 (by decide)).trans <| (W7_of m ρ c main_v12 (by decide)).trans
  (W6_of m ρ c main_v12 (by decide))

/-- The program's results: the projected rows, and the gradient of the weight. -/
theorem result_z : W12 m ρ c (Proc.devRef .tc main_v35) = mulA (Hin m c) (Win m c) := by
  refine funext fun (i : S2048x3920.Idx) => ?_
  obtain ⟨r, p, rfl⟩ : ∃ r p, i = ix2 r p := ⟨i 0, i 1, (eq_ix2 i)⟩
  refine (tail_z (W11 m ρ c) r p).trans ?_
  unfold ent
  rw [W11_of m ρ c main_v25 (by decide), show W10 m ρ c (Proc.devRef .tc main_v25) = _ from W10_arr m ρ c 2, arr0 (V9 m ρ) c]
  show ∑ k, ent S2048x2048 (W9 m ρ c (Proc.devRef .tc main_v0)) (ix2 r k) * ent S2048x4096 (W9 m ρ c (Proc.devRef .tc main_v12)) (ix2 k (place p)) = ∑ k, Hin m c (ix2 r k) * Win m c (ix2 k p)
  refine Finset.sum_congr rfl fun k _ => ?_
  rw [h9, w9, w_padded, padded_place]

theorem result_dw : W12 m ρ c (Proc.devRef .tc main_v44) = tmulA (Hin m c) (DZ m c) := by
  refine funext fun (i : S2048x3920.Idx) => ?_
  obtain ⟨r, p, rfl⟩ : ∃ r p, i = ix2 r p := ⟨i 0, i 1, (eq_ix2 i)⟩
  refine (tail_dw (W11 m ρ c) r p).trans ?_
  unfold ent
  rw [show W11 m ρ c (Proc.devRef .tc main_v26) = _ from W11_arr m ρ c 2, arr1 (V10 m ρ) c]
  show ∑ k, ent S2048x2048 (W10 m ρ c (Proc.devRef .tc main_v0)) (ix2 k r) * ent S2048x4096 (W10 m ρ c (Proc.devRef .tc main_v24)) (ix2 k (place p)) = ∑ k, Hin m c (ix2 k r) * DZ m c (ix2 k p)
  refine Finset.sum_congr rfl fun k _ => ?_
  rw [W10_of m ρ c main_v0 (by decide), W10_of m ρ c main_v24 (by decide), h9, z_padded, padded_place]

end Host
end Cert.Kernel7Ideal.Own
-- ==== Proof.MixInRun.lean ====
/-
  The input projection's program runs to its end from any memory, every buffer outside the scopes ending with what the
  last call leaves.
-/
module
public import proofs.«01_k».proof.Proof.Gen.Kernel7Ideal.Frame
public import proofs.«01_k».proof.Proof.Base

@[expose] public section

set_option maxRecDepth 16384

noncomputable section

namespace Cert.Kernel7Ideal.Own

open Cert.Kernel7Ideal Cert.Kernel7Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

end Cert.Kernel7Ideal.Own
-- ==== Proof.MixIn.lean ====
/-
  The input projection's program against its reference: both end with the products of Proof/MixSpec.lean.
-/
module
public import proofs.«01_k».proof.Proof.MixInKernel
public import proofs.«01_k».proof.Proof.MixInRun
public import proofs.«01_k».proof.Proof.Gen.Reference7Ideal.Read
public import proofs.«01_k».proof.Defs
public import proofs.«01_k».proof.Proof.Base

@[expose] public section

noncomputable section

namespace Cert.Reference7Ideal.Own

open Idealize.ShloMosaic Idealize.ShloMosaic.Pointwise
open Cert.Reference7Ideal Cert.Reference7Ideal.Gen Cert.Reference7Ideal.Read Cert.Ffn Cert.Mix

variable (h : FVec Ideal S2048x2048 .f32) (w dz : FVec Ideal S2048x3920 .f32)

theorem z_eq : val_main_v0 (F := Ideal) h w = mulA h w := by
  refine funext fun (i : S2048x3920.Idx) => ?_
  rw [eq_ix2 i]
  pointwise [val_main_v0, mulA, mul, rows]

theorem dw_eq : val_main_v4 (F := Ideal) h dz = tmulA h dz := by
  refine funext fun (i : S2048x3920.Idx) => ?_
  rw [eq_ix2 i]
  pointwise [val_main_v4, val_main_v2, val_main_v1, tmulA, tmul, rows]
  exact Finset.sum_congr rfl fun k _ => mul_comm _ _

end Cert.Reference7Ideal.Own

namespace Cert.Proof

open Idealize.ShloMosaic Idealize.SL.Sem

theorem frame_ref7 : quiescent_Reference7Ideal (hReference7Ideal := Cert.Reference7Ideal.Gen.facts) := fun m ρ _ =>
  (θ_run Cert.Reference7Ideal.defs _ _).mono (fun r h => ⟨fun c => (h c).2.2, Idealize.ShloMosaic.sem_eq_zero_of_no_sems (by decide) r.2⟩)
    (Cert.Reference7Ideal.Value.run m ρ)

/-- The calls of the input projection and of its weight's gradient compute what the reference computes. -/
theorem value7 : algebraic_Kernel7Ideal_Reference7Ideal (hKernel7Ideal := Cert.Kernel7Ideal.Gen.facts)
    (hReference7Ideal := Cert.Reference7Ideal.Gen.facts) := fun m ρ m' ρ' _ ha => by
  refine ⟨fun c => Cert.Kernel7Ideal.Gen.W12 m ρ c (Proc.devRef .tc Cert.Kernel7Ideal.main_v35),
    fun c => Cert.Kernel7Ideal.Gen.W12 m ρ c (Proc.devRef .tc Cert.Kernel7Ideal.main_v44), ?_, ?_⟩
  · exact (θ_run Cert.Kernel7Ideal.defs _ _).mono (fun r h c => ⟨h c _ (Cert.Kernel7Ideal.Gen.mem_uc Cert.Kernel7Ideal.main_v35 (by decide)),
      h c _ (Cert.Kernel7Ideal.Gen.mem_uc Cert.Kernel7Ideal.main_v44 (by decide)),
      (h c _ (Cert.Kernel7Ideal.Gen.mem_uc Cert.Kernel7Ideal.main_arg0 (by decide))).trans (Cert.Kernel7Ideal.Gen.W12_main_arg0 m ρ c),
      (h c _ (Cert.Kernel7Ideal.Gen.mem_uc Cert.Kernel7Ideal.main_arg1 (by decide))).trans (Cert.Kernel7Ideal.Gen.W12_main_arg1 m ρ c),
      (h c _ (Cert.Kernel7Ideal.Gen.mem_uc Cert.Kernel7Ideal.main_arg2 (by decide))).trans (Cert.Kernel7Ideal.Gen.W12_main_arg2 m ρ c)⟩)
      (Cert.Kernel7Ideal.Own.run_all m ρ)
  · refine (θ_run Cert.Reference7Ideal.defs _ _).mono (fun r h c => ⟨(h c).1.trans ?_, (h c).2.1.trans ?_, (h c).2.2⟩)
      (Cert.Reference7Ideal.Value.run m' ρ')
    all_goals obtain ⟨a0, a1, a2⟩ := ha c
    · refine (Cert.Reference7Ideal.Read.val_main_v0_eq (F := Ideal) _ _).trans ?_
      rw [a0, a1]
      exact (Cert.Reference7Ideal.Own.z_eq _ _).trans (Cert.Kernel7Ideal.Own.result_z m ρ c).symm
    · refine (Cert.Reference7Ideal.Read.val_main_v4_eq (F := Ideal) _ _).trans ?_
      rw [a0, a2]
      exact (Cert.Reference7Ideal.Own.dw_eq _ _).trans (Cert.Kernel7Ideal.Own.result_dw m ρ c).symm

end Cert.Proof
-- ==== Proof.MixInGradKernel.lean ====
/-
  What the call of the input projection's input gradient writes: the padded rows' products with the padded weight's rows,
  two halves of the columns a block.
-/
module
public import proofs.«01_k».proof.Proof.Gen.Kernel8Ideal.Value
public import proofs.«01_k».proof.Proof.MixCols
public import proofs.«01_k».proof.Proof.Base

@[expose] public section

set_option maxRecDepth 20000

noncomputable section

namespace Cert.Kernel8Ideal.Own

open Idealize.ShloMosaic Idealize.ShloMosaic.TcCoe Idealize.ShloMosaic.Pointwise
open Idealize.ShloMosaic.Pipeline (Dat)
open Cert.Kernel8Ideal Cert.Kernel8Ideal.Gen Cert.Ffn Cert.Mix

variable (m : (ℓ : Loc nD τ sig) → Buf (Elt Ideal) ℓ) (ρ : Dev nD → PrngReg) (c : Dev nD)

theorem idx : ∀ t : Fin cfg0.N, win0_0.index t = ![t.val / 4, t.val % 2] ∧ win0_1.index t = ![t.val / 2 % 2, t.val % 2]
    ∧ win0_2.index t = ![t.val / 4, t.val / 2 % 2] := by
  decide +kernel

/-- One step's product. -/
def step (x : FVec Ideal S512x2048 .bf16) (y : FVec Ideal S1024x2048 .bf16) (j : S512x1024.Idx) : EReal :=
  ∑ k : Fin 2048, x (ix2 (j 0) k) * y (ix2 (j 1) k)

theorem hpay1 (x : FVec Ideal S512x2048 .bf16) (y : FVec Ideal S1024x2048 .bf16) (j : S512x1024.Idx) :
    k0_pay1 (F := Ideal) x y j = 0 + step x y j := by
  rw [zero_add]
  pointwise [k0_pay1, step]

theorem hpay2 (acc : FVec Ideal S512x1024 .f32) (x : FVec Ideal S512x2048 .bf16) (y : FVec Ideal S1024x2048 .bf16) (j : S512x1024.Idx) :
    k0_pay2 (F := Ideal) acc x y j = acc j + step x y j := by
  pointwise [k0_pay2, step]

abbrev part (t : Fin cfg0.N) (j : S512x1024.Idx) : EReal := step (iblk m c 0 t) (iblk m c 1 t) j

theorem out_eq (t : Fin cfg0.N) (h : t.val % 2 = 1) : (outsAt0 m c t.val t.isLt).1 = (outsAt0 m c t.val t.isLt).2 := by
  rw [outsAt0_B m c t (by omega) h h]
  frame_open
  simp (disch := decide) only [↓ View.readCov_skip, ↓ View.readCov_cons_toLoadRect, ↓ View.readCov_fill]
  frame_out

theorem scr (t : Fin cfg0.N) (h : t.val % 2 = 1) (j : S512x1024.Idx) :
    (outsAt0 m c t.val t.isLt).2 j = ∑ s : Fin 2, part m c ⟨2 * (t.val / 2) + s.val, Pipeline.run_point_lt_of_flush t h s⟩ j := by
  rw [Pipeline.eq_sum_fin_of_reset_step_apply_of_flush (fun n h => (outsAt0 m c n h).2) 2 (fun _ => 0) (fun t j => part m c t j)
    (fun t h j => by rw [outsAt0_A m c t h (by omega) (by omega)]; frame_out; rw [hpay1])
    (fun t h j => by
      rw [outsAt0_B m c t h (by omega) (by omega)]; frame_out; simp only [read_unread_whole]; exact hpay2 ..)
    t h j, zero_add]

/-- The columns in two halves. -/
theorem sum_halves (P : Fin 4096 → EReal) : ∑ s : Fin 2, ∑ k : Fin 2048, P ⟨2048 * s.val + k.val, by omega⟩ = ∑ p, P p := by
  rw [Fin.sum_univ_two, show ∑ p, P p = ∑ p : Fin (2048 + 2048), P p from rfl, Fin.sum_univ_add]
  refine congrArg₂ (· + ·) (Finset.sum_congr rfl fun k _ => congrArg P (Fin.ext ?_)) (Finset.sum_congr rfl fun k _ => congrArg P (Fin.ext ?_))
  · show 2048 * 0 + k.val = k.val
    omega
  · rfl

theorem final : (dats m 0 c).arrAt 2 cfg0.N = mulTA (V m c main_v11) (V m c main_v23) := by
  refine (dats m 0 c).arrAt_eq_of_covers 2 _ (by decide +kernel) fun t hf y => ?_
  have h3 := (flush0_2 t).mp hf
  blk_simp
  rw [after0_2, out_eq m c t h3, scr m c t h3]
  refine Eq.trans (Fin.sum_fin_congr fun s => ?_) (sum_halves fun p => rows (V m c main_v11) (((cfg0.win 2).blk t).view.emb y 0) p * rows (V m c main_v23) (((cfg0.win 2).blk t).view.emb y 1) p)
  pointwise [step, part, rows]
  have hs := s.isLt
  blk_point [iblk, idx ⟨_, Pipeline.run_point_lt_of_flush t h3 s⟩, idx t]

/-! ## The host's order of columns -/

abbrev ent (s : Shape) (x : s.Idx → EReal) (i : s.Idx) : EReal := x i

/-- The value that fills up is zero. -/
theorem fill_zero : FloatOps.sitofp (F := Ideal) FTy.bf16 (0#32) = (0 : EReal) := by
  show ((((0#32 : BitVec 32).toInt : ℤ) : ℝ) : EReal) = 0
  simp

section Host
variable (W : Valuation τ sig (Elt Ideal))

abbrev Win : FVec Ideal S2048x3920 .f32 := W (Proc.devRef .tc main_arg0)
abbrev DZ : FVec Ideal S2048x3920 .f32 := W (Proc.devRef .tc main_arg1)

/-- The contents of memory after each stretch of the host's operations. -/
abbrev E1 : Valuation τ sig (Elt Ideal) := StableHlo.after hostOps0 W
abbrev E2 : Valuation τ sig (Elt Ideal) := StableHlo.after hostOps0_1 (E1 W)
abbrev E3 : Valuation τ sig (Elt Ideal) := StableHlo.after hostOps0_2 (E2 W)
abbrev E4 : Valuation τ sig (Elt Ideal) := StableHlo.after hostOps0_3 (E3 W)
abbrev E5 : Valuation τ sig (Elt Ideal) := StableHlo.after hostOps0_4 (E4 W)
abbrev E6 : Valuation τ sig (Elt Ideal) := StableHlo.after hostOps0_5 (E5 W)
abbrev E7 : Valuation τ sig (Elt Ideal) := StableHlo.after hostOps0_6 (E6 W)
abbrev E8 : Valuation τ sig (Elt Ideal) := StableHlo.after hostOps0_7 (E7 W)
abbrev E9 : Valuation τ sig (Elt Ideal) := StableHlo.after hostOps0_8 (E8 W)

theorem cat_z (W : Valuation τ sig (Elt Ideal)) (i : S2048x4096.Idx) :
    ent S2048x4096 (StableHlo.after hostOps0_4 W (Proc.devRef .tc main_v11)) i
      = concatenate (α := EReal) S2048x4096 1 [⟨S2048x512, W (Proc.devRef .tc main_v1)⟩, ⟨S2048x256, W (Proc.devRef .tc main_v2)⟩, ⟨S2048x512, W (Proc.devRef .tc main_v3)⟩, ⟨S2048x512, W (Proc.devRef .tc main_v4)⟩, ⟨S2048x1024, W (Proc.devRef .tc main_v5)⟩, ⟨S2048x1024, W (Proc.devRef .tc main_v6)⟩, ⟨S2048x128, W (Proc.devRef .tc main_v8)⟩, ⟨S2048x128, W (Proc.devRef .tc main_v10)⟩]
          concatenates_S2048x512_S2048x256_S2048x512_S2048x512_S2048x1024_S2048x1024_S2048x128_S2048x128_S2048x4096_d1 i := by
  unfold ent
  after_reads_simp
  rfl

theorem cat_w (W : Valuation τ sig (Elt Ideal)) (i : S2048x4096.Idx) :
    ent S2048x4096 (StableHlo.after hostOps0_8 W (Proc.devRef .tc main_v23)) i
      = concatenate (α := EReal) S2048x4096 1 [⟨S2048x512, W (Proc.devRef .tc main_v13)⟩, ⟨S2048x256, W (Proc.devRef .tc main_v14)⟩, ⟨S2048x512, W (Proc.devRef .tc main_v15)⟩, ⟨S2048x512, W (Proc.devRef .tc main_v16)⟩, ⟨S2048x1024, W (Proc.devRef .tc main_v17)⟩, ⟨S2048x1024, W (Proc.devRef .tc main_v18)⟩, ⟨S2048x128, W (Proc.devRef .tc main_v20)⟩, ⟨S2048x128, W (Proc.devRef .tc main_v22)⟩]
          concatenates_S2048x512_S2048x256_S2048x512_S2048x512_S2048x1024_S2048x1024_S2048x128_S2048x128_S2048x4096_d1 i := by
  unfold ent
  after_reads_simp
  rfl

theorem pad_z (W : Valuation τ sig (Elt Ideal)) (r : Fin 2048) (q : Fin 128) :
    ent S2048x128 (StableHlo.after hostOps0_1 W (Proc.devRef .tc main_v8)) (ix2 r q)
      = if h : q.val < 64 then ent S2048x64 (W (Proc.devRef .tc main_v7)) (ix2 r ⟨q.val, h⟩)
        else FloatOps.sitofp (F := Ideal) FTy.bf16 ((W (Proc.devRef .tc main_c) : S_.Idx → BitVec 32) (Shape.Idx.first h_S_)) := by
  unfold ent
  after_reads_at

theorem pad_z' (W : Valuation τ sig (Elt Ideal)) (r : Fin 2048) (q : Fin 128) :
    ent S2048x128 (StableHlo.after hostOps0_3 W (Proc.devRef .tc main_v10)) (ix2 r q)
      = if h : q.val < 16 then ent S2048x16 (W (Proc.devRef .tc main_v9)) (ix2 r ⟨q.val, h⟩)
        else FloatOps.sitofp (F := Ideal) FTy.bf16 ((W (Proc.devRef .tc main_c_0) : S_.Idx → BitVec 32) (Shape.Idx.first h_S_)) := by
  unfold ent
  after_reads_at

theorem pad_w (W : Valuation τ sig (Elt Ideal)) (r : Fin 2048) (q : Fin 128) :
    ent S2048x128 (StableHlo.after hostOps0_5 W (Proc.devRef .tc main_v20)) (ix2 r q)
      = if h : q.val < 64 then ent S2048x64 (W (Proc.devRef .tc main_v19)) (ix2 r ⟨q.val, h⟩)
        else FloatOps.sitofp (F := Ideal) FTy.bf16 ((W (Proc.devRef .tc main_c_1) : S_.Idx → BitVec 32) (Shape.Idx.first h_S_)) := by
  unfold ent
  after_reads_at

theorem pad_w' (W : Valuation τ sig (Elt Ideal)) (r : Fin 2048) (q : Fin 128) :
    ent S2048x128 (StableHlo.after hostOps0_7 W (Proc.devRef .tc main_v22)) (ix2 r q)
      = if h : q.val < 16 then ent S2048x16 (W (Proc.devRef .tc main_v21)) (ix2 r ⟨q.val, h⟩)
        else FloatOps.sitofp (F := Ideal) FTy.bf16 ((W (Proc.devRef .tc main_c_2) : S_.Idx → BitVec 32) (Shape.Idx.first h_S_)) := by
  unfold ent
  after_reads_at

theorem z_padded (r : Fin 2048) (p : Fin 4096) : ent S2048x4096 (E5 W (Proc.devRef .tc main_v11)) (ix2 r p) = padded (rows (DZ W)) r p := by
  refine (cat_z _ _).trans (cat_padded (rows (DZ W)) _ _ _ _ _ _ _ _ ?_ ?_ ?_ ?_ ?_ ?_ ?_ ?_ ?_ ?_ _ r p)
  iterate 6
    · intro r q d h
      after_reads_at
      exact congrArg (DZ W) (congrArg (ix2 r) (Fin.ext (by dsimp only; omega)))
  · intro r q d hq h
    refine (show ent S2048x128 (E4 W (Proc.devRef .tc main_v8)) (ix2 r q) = _ from (congrFun (show E4 W (Proc.devRef .tc main_v8) = E2 W (Proc.devRef .tc main_v8) from by after_reads_simp) (ix2 r q)).trans (pad_z (E1 W) r q)).trans ?_
    rw [dif_pos hq]
    unfold ent
    after_reads_at
    exact congrArg (DZ W) (congrArg (ix2 r) (Fin.ext (by dsimp only; omega)))
  · intro r q d hq h
    refine (show ent S2048x128 (E4 W (Proc.devRef .tc main_v10)) (ix2 r q) = _ from (congrFun (show E4 W (Proc.devRef .tc main_v10) = E4 W (Proc.devRef .tc main_v10) from by after_reads_simp) (ix2 r q)).trans (pad_z' (E3 W) r q)).trans ?_
    rw [dif_pos hq]
    unfold ent
    after_reads_at
    exact congrArg (DZ W) (congrArg (ix2 r) (Fin.ext (by dsimp only; omega)))
  · intro r q hq
    refine (show ent S2048x128 (E4 W (Proc.devRef .tc main_v8)) (ix2 r q) = _ from (congrFun (show E4 W (Proc.devRef .tc main_v8) = E2 W (Proc.devRef .tc main_v8) from by after_reads_simp) (ix2 r q)).trans (pad_z (E1 W) r q)).trans ?_
    rw [dif_neg (by omega)]
    after_reads_at
    exact fill_zero
  · intro r q hq
    refine (show ent S2048x128 (E4 W (Proc.devRef .tc main_v10)) (ix2 r q) = _ from (congrFun (show E4 W (Proc.devRef .tc main_v10) = E4 W (Proc.devRef .tc main_v10) from by after_reads_simp) (ix2 r q)).trans (pad_z' (E3 W) r q)).trans ?_
    rw [dif_neg (by omega)]
    after_reads_at
    exact fill_zero

theorem w_padded (r : Fin 2048) (p : Fin 4096) : ent S2048x4096 (E9 W (Proc.devRef .tc main_v23)) (ix2 r p) = padded (rows (Win W)) r p := by
  refine (cat_w _ _).trans (cat_padded (rows (Win W)) _ _ _ _ _ _ _ _ ?_ ?_ ?_ ?_ ?_ ?_ ?_ ?_ ?_ ?_ _ r p)
  iterate 6
    · intro r q d h
      after_reads_at
      exact congrArg (Win W) (congrArg (ix2 r) (Fin.ext (by dsimp only; omega)))
  · intro r q d hq h
    refine (show ent S2048x128 (E8 W (Proc.devRef .tc main_v20)) (ix2 r q) = _ from (congrFun (show E8 W (Proc.devRef .tc main_v20) = E6 W (Proc.devRef .tc main_v20) from by after_reads_simp) (ix2 r q)).trans (pad_w (E5 W) r q)).trans ?_
    rw [dif_pos hq]
    unfold ent
    after_reads_at
    exact congrArg (Win W) (congrArg (ix2 r) (Fin.ext (by dsimp only; omega)))
  · intro r q d hq h
    refine (show ent S2048x128 (E8 W (Proc.devRef .tc main_v22)) (ix2 r q) = _ from (congrFun (show E8 W (Proc.devRef .tc main_v22) = E8 W (Proc.devRef .tc main_v22) from by after_reads_simp) (ix2 r q)).trans (pad_w' (E7 W) r q)).trans ?_
    rw [dif_pos hq]
    unfold ent
    after_reads_at
    exact congrArg (Win W) (congrArg (ix2 r) (Fin.ext (by dsimp only; omega)))
  · intro r q hq
    refine (show ent S2048x128 (E8 W (Proc.devRef .tc main_v20)) (ix2 r q) = _ from (congrFun (show E8 W (Proc.devRef .tc main_v20) = E6 W (Proc.devRef .tc main_v20) from by after_reads_simp) (ix2 r q)).trans (pad_w (E5 W) r q)).trans ?_
    rw [dif_neg (by omega)]
    after_reads_at
    exact fill_zero
  · intro r q hq
    refine (show ent S2048x128 (E8 W (Proc.devRef .tc main_v22)) (ix2 r q) = _ from (congrFun (show E8 W (Proc.devRef .tc main_v22) = E8 W (Proc.devRef .tc main_v22) from by after_reads_simp) (ix2 r q)).trans (pad_w' (E7 W) r q)).trans ?_
    rw [dif_neg (by omega)]
    after_reads_at
    exact fill_zero

theorem z_kept : E9 W (Proc.devRef .tc main_v11) = E5 W (Proc.devRef .tc main_v11) := by
  after_reads_simp

end Host

/-- What the region is entered with: the contents of memory after the host's stretches. -/
theorem entry (b : Ref sig .tc) : V m c b = E9 (fun b => m (c, b)) b := by
  show StableHlo.after _ _ _ = _
  rw [List.flatten_cons]
  rfl

/-- The program's result. -/
theorem result : (dats m 0 c).arrAt 2 cfg0.N = mulTA (m ((c : Thread nD τ).loc main_arg1) : FVec Ideal S2048x3920 .f32) (m ((c : Thread nD τ).loc main_arg0) : FVec Ideal S2048x3920 .f32) := by
  refine (final m c).trans ?_
  rw [entry, entry]
  refine funext fun (i : S2048x2048.Idx) => ?_
  obtain ⟨r, p, rfl⟩ : ∃ r p, i = ix2 r p := ⟨i 0, i 1, eq_ix2 i⟩
  show ∑ k, ent S2048x4096 (E9 (fun b => m (c, b)) (Proc.devRef .tc main_v11)) (ix2 r k) * ent S2048x4096 (E9 (fun b => m (c, b)) (Proc.devRef .tc main_v23)) (ix2 p k)
    = ∑ k, DZ (fun b => m (c, b)) (ix2 r k) * Win (fun b => m (c, b)) (ix2 p k)
  rw [z_kept]
  refine (sum_place _ fun q hq => ?_).trans (Finset.sum_congr rfl fun k _ => ?_)
  · rw [z_padded, padded_free _ _ _ hq, zero_mul]
  · rw [z_padded, w_padded, padded_place, padded_place]

end Cert.Kernel8Ideal.Own
-- ==== Proof.MixInGrad.lean ====
/-
  The program of the input projection's input gradient against its reference: both end with the rows' product with the
  weight's rows.
-/
module
public import proofs.«01_k».proof.Proof.MixInGradKernel
public import proofs.«01_k».proof.Proof.Gen.Reference8Ideal.Read
public import proofs.«01_k».proof.Defs
public import proofs.«01_k».proof.Proof.Base

@[expose] public section

noncomputable section

namespace Cert.Reference8Ideal.Own

open Idealize.ShloMosaic Idealize.ShloMosaic.Pointwise
open Cert.Reference8Ideal Cert.Reference8Ideal.Gen Cert.Reference8Ideal.Read Cert.Ffn Cert.Mix

theorem dh_eq (w dz : FVec Ideal S2048x3920 .f32) : val_main_v2 (F := Ideal) w dz = mulTA dz w := by
  refine funext fun (i : S2048x2048.Idx) => ?_
  rw [eq_ix2 i]
  pointwise [val_main_v2, mulTA, mulT, rows]

end Cert.Reference8Ideal.Own

namespace Cert.Proof

open Idealize.ShloMosaic Idealize.SL.Sem

theorem frame_ref8 : quiescent_Reference8Ideal (hReference8Ideal := Cert.Reference8Ideal.Gen.facts) := fun m ρ _ =>
  (θ_run Cert.Reference8Ideal.defs _ _).mono (fun r h => ⟨fun c => (h c).2, Idealize.ShloMosaic.sem_eq_zero_of_no_sems (by decide) r.2⟩)
    (Cert.Reference8Ideal.Value.run m ρ)

/-- The call of the input projection's input gradient computes what the reference computes. -/
theorem value8 : algebraic_Kernel8Ideal_Reference8Ideal (hKernel8Ideal := Cert.Kernel8Ideal.Gen.facts)
    (hReference8Ideal := Cert.Reference8Ideal.Gen.facts) := fun m ρ m' ρ' _ ha => by
  refine ⟨fun c => (Cert.Kernel8Ideal.Gen.dats m 0 c).arrAt 2 Cert.Kernel8Ideal.cfg0.N, Cert.Kernel8Ideal.Value.run_blocks m ρ, ?_⟩
  refine (θ_run Cert.Reference8Ideal.defs _ _).mono (fun r h c => ⟨(h c).1.trans ?_, (h c).2⟩) (Cert.Reference8Ideal.Value.run m' ρ')
  obtain ⟨a0, a1⟩ := ha c
  refine (Cert.Reference8Ideal.Read.val_main_v2_eq (F := Ideal) _ _).trans ((Cert.Reference8Ideal.Own.dh_eq _ _).trans ?_)
  rw [a0, a1]
  exact (Cert.Kernel8Ideal.Own.result m c).symm

end Cert.Proof
-- ==== Proof.HeadSpec.lean ====
/-
  The projections to and from the attentions' heads as plain functions over the extended reals, with the heads' columns
  side by side in the weights and the heads' rows one after the other in the results.
-/
module
public import proofs.«01_k».proof.Proof.MixSpec

@[expose] public section

noncomputable section

namespace Cert.Mix

open Idealize.ShloMosaic Idealize.ShloMosaic.Pointwise Cert.Ffn

variable {a b n p H : ℕ}

/-- Column `d` of head `h` among the heads' columns side by side, `b` columns a head. -/
abbrev hcol (hp : H * b = p) (h : Fin H) (d : Fin b) : Fin p := ⟨b * h.val + d.val, by
  have h1 : b * h.val + b ≤ b * H := by rw [← Nat.mul_succ]; exact Nat.mul_le_mul_left b h.isLt
  have h2 : H * b = b * H := Nat.mul_comm _ _
  have := d.isLt
  omega⟩

/-- Rows times each head's columns, where the weight holds the heads' columns side by side. -/
abbrev headsA (hp : H * b = p) (x : Arr ⟨2, ![a, n]⟩) (w : Arr ⟨2, ![n, p]⟩) : Arr ⟨3, ![H, a, b]⟩ :=
  fun i => ∑ k, x (ix2 (i 1) k) * w (ix2 k (hcol hp (i 0) (i 2)))

/-- Rows times a stack of matrices, and times a stack of their transposes. -/
abbrev stackA (x : Arr ⟨2, ![a, n]⟩) (w : Arr ⟨3, ![H, n, b]⟩) : Arr ⟨3, ![H, a, b]⟩ :=
  fun i => ∑ k, x (ix2 (i 1) k) * w (ix3 (i 0) k (i 2))
abbrev stackTA (x : Arr ⟨2, ![a, n]⟩) (w : Arr ⟨3, ![H, b, n]⟩) : Arr ⟨3, ![H, a, b]⟩ :=
  fun i => ∑ k, x (ix2 (i 1) k) * w (ix3 (i 0) (i 2) k)

/-- A weight's columns stacked head by head, and the same with each head's matrix transposed. -/
abbrev stackC (hp : H * b = p) (w : Arr ⟨2, ![n, p]⟩) : Arr ⟨3, ![H, n, b]⟩ := fun i => w (ix2 (i 1) (hcol hp (i 0) (i 2)))
abbrev stackCT (hp : H * b = p) (w : Arr ⟨2, ![n, p]⟩) : Arr ⟨3, ![H, b, n]⟩ := fun i => w (ix2 (i 2) (hcol hp (i 0) (i 1)))

/-- The gradient of a stacked weight that holds its columns as rows. -/
abbrev stackGradA (d : Arr ⟨3, ![H, n, b]⟩) (x : Arr ⟨2, ![n, a]⟩) : Arr ⟨3, ![H, b, a]⟩ :=
  fun i => ∑ k, d (ix3 (i 0) k (i 1)) * x (ix2 k (i 2))

/-- The gradient of a weight that holds the heads' columns side by side, and rows times the heads' columns on top of
other rows; `h` and `d` say which head's which column a column is. -/
abbrev headsGradA (h : Fin p → Fin H) (c : Fin p → Fin b) (x : Arr ⟨2, ![n, a]⟩) (d : Arr ⟨3, ![H, n, b]⟩) : Arr ⟨2, ![a, p]⟩ :=
  fun i => ∑ k, x (ix2 k (i 0)) * d (ix3 (h (i 1)) k (c (i 1)))
abbrev unstackAddA (h : Fin p → Fin H) (c : Fin p → Fin b) (x : Arr ⟨2, ![a, n]⟩) (w : Arr ⟨3, ![H, n, b]⟩) (r : Arr ⟨2, ![a, p]⟩) :
    Arr ⟨2, ![a, p]⟩ :=
  fun i => ∑ k, x (ix2 (i 0) k) * w (ix3 (h (i 1)) k (c (i 1))) + r (ix2 (i 0) (i 1))

/-- The memory attention's four heads of 128 columns, and the eight devices' 256 columns of its output projection. -/
abbrev memHead (c : Fin 512) : Fin 4 := ⟨c.val / 128, by omega⟩
abbrev memCol (c : Fin 512) : Fin 128 := ⟨c.val % 128, by omega⟩
abbrev devOf (c : Fin 2048) : Fin 8 := ⟨c.val / 256, by omega⟩
abbrev devCol (c : Fin 2048) : Fin 256 := ⟨c.val % 256, by omega⟩

end Cert.Mix
-- ==== Proof.MemProjKernel.lean ====
/-
  What the program of the memory attention's projections writes: each of its six calls over any contents of memory,
  and its results.
-/
module
public import proofs.«01_k».proof.Proof.Gen.Kernel9Ideal.Frame
public import proofs.«01_k».proof.Proof.HeadSpec
public import proofs.«01_k».proof.Proof.Base

@[expose] public section

set_option maxRecDepth 20000

noncomputable section

namespace Cert.Kernel9Ideal.Own

open Idealize.ShloMosaic Idealize.ShloMosaic.TcCoe Idealize.ShloMosaic.Pointwise
open Cert.Kernel9Ideal Cert.Kernel9Ideal.Gen Cert.Ffn Cert.Mix

variable (V : (c : Dev nD) → (b : Ref sig .tc) → Buf (Elt Ideal) ((c : Thread nD τ).loc b)) (c : Dev nD)

/-- Which block of each array a grid point holds. -/
theorem idx0 : ∀ t : Fin cfg0.N, win0_0.index t = ![t.val / 4, 0] ∧ win0_1.index t = ![0, t.val % 4] ∧ win0_2.index t = ![t.val % 4, t.val / 4, 0] := by
  decide +kernel

theorem arr0 : (dat0 V c).arrAt 2 cfg0.N = headsA (H := 4) (b := 128) rfl (V c main_v0) (V c main_v2) := by
  refine (dat0 V c).arrAt_eq_of_covers 2 _ (by decide +kernel) fun t hf y => ?_
  blk_simp
  rw [after0_2]
  frame_out
  pointwise [k0_pay1, headsA]
  blk_point [iblk0, idx0 t]
  all_goals (blk_simp [idx0 t]; omega)

theorem idx1 : ∀ t : Fin cfg1.N, win1_0.index t = ![0, 0] ∧ win1_1.index t = ![0, t.val] ∧ win1_2.index t = ![t.val, 0, 0] := by
  decide +kernel

theorem arr1 : (dat1 V c).arrAt 2 cfg1.N = headsA (H := 4) (b := 128) rfl (V c main_v1) (V c main_v3) := by
  refine (dat1 V c).arrAt_eq_of_covers 2 _ (by decide +kernel) fun t hf y => ?_
  blk_simp
  rw [after1_2]
  unfold outsAt1
  frame_out
  pointwise [k1_pay1, headsA]
  blk_point [iblk1, idx1 t]
  all_goals (blk_simp [idx1 t]; omega)

theorem idx2 : ∀ t : Fin cfg2.N, win2_0.index t = ![0, 0] ∧ win2_1.index t = ![0, t.val] ∧ win2_2.index t = ![t.val, 0, 0] := by
  decide +kernel

theorem arr2 : (dat2 V c).arrAt 2 cfg2.N = headsA (H := 4) (b := 128) rfl (V c main_v1) (V c main_v4) := by
  refine (dat2 V c).arrAt_eq_of_covers 2 _ (by decide +kernel) fun t hf y => ?_
  blk_simp
  rw [after2_2]
  unfold outsAt2
  frame_out
  pointwise [k2_pay1, headsA]
  blk_point [iblk2, idx2 t]
  all_goals (blk_simp [idx2 t]; omega)

theorem idx3 : ∀ t : Fin cfg3.N, win3_0.index t = ![t.val / 8, 0] ∧ win3_1.index t = ![t.val % 8, 0, 0] ∧ win3_2.index t = ![t.val / 8, t.val % 8] ∧ win3_3.index t = ![t.val / 8, t.val % 8] := by
  decide +kernel

theorem arr3 : (dat3 V c).arrAt 3 cfg3.N = unstackAddA devOf devCol (V c main_v5) (V c main_v8) (V c main_arg7) := by
  refine (dat3 V c).arrAt_eq_of_covers 3 _ (by decide +kernel) fun t hf y => ?_
  blk_simp
  rw [after3_3]
  unfold outsAt3
  frame_out
  pointwise [k3_pay1, unstackAddA]
  blk_point [iblk3, idx3 t]
  all_goals (blk_simp [idx3 t]; omega)

theorem idx4 : ∀ t : Fin cfg4.N, win4_0.index t = ![0, t.val / 4] ∧ win4_1.index t = ![t.val % 4, 0, 0] ∧ win4_2.index t = ![t.val / 4, t.val % 4] := by
  decide +kernel

theorem arr4 : (dat4 V c).arrAt 2 cfg4.N = headsGradA memHead memCol (V c main_v1) (V c main_arg8) := by
  refine (dat4 V c).arrAt_eq_of_covers 2 _ (by decide +kernel) fun t hf y => ?_
  blk_simp
  rw [after4_2]
  unfold outsAt4
  frame_out
  pointwise [k4_pay1, headsGradA]
  blk_point [iblk4, idx4 t]
  all_goals (blk_simp [idx4 t]; omega)

theorem idx5 : ∀ t : Fin cfg5.N, win5_0.index t = ![0, t.val / 4] ∧ win5_1.index t = ![t.val % 4, 0, 0] ∧ win5_2.index t = ![t.val / 4, t.val % 4] := by
  decide +kernel

theorem arr5 : (dat5 V c).arrAt 2 cfg5.N = headsGradA memHead memCol (V c main_v1) (V c main_arg9) := by
  refine (dat5 V c).arrAt_eq_of_covers 2 _ (by decide +kernel) fun t hf y => ?_
  blk_simp
  rw [after5_2]
  unfold outsAt5
  frame_out
  pointwise [k5_pay1, headsGradA]
  blk_point [iblk5, idx5 t]
  all_goals (blk_simp [idx5 t]; omega)

abbrev ent (s : Shape) (x : s.Idx → EReal) (i : s.Idx) : EReal := x i

section Host
variable (W : Valuation τ sig (Elt Ideal))

theorem hq_eq : StableHlo.after hostOps0 W (Proc.devRef .tc main_v0) = (W (Proc.devRef .tc main_arg0) : FVec Ideal S2048x2048 .f32) := by
  refine funext fun (i : S2048x2048.Idx) => ?_
  show ent S2048x2048 (StableHlo.after hostOps0 W (Proc.devRef .tc main_v0)) i = ent S2048x2048 (W (Proc.devRef .tc main_arg0)) i
  unfold ent
  after_reads_at

theorem hm_eq : StableHlo.after hostOps0 W (Proc.devRef .tc main_v1) = (W (Proc.devRef .tc main_arg1) : FVec Ideal S256x2048 .f32) := by
  refine funext fun (i : S256x2048.Idx) => ?_
  show ent S256x2048 (StableHlo.after hostOps0 W (Proc.devRef .tc main_v1)) i = ent S256x2048 (W (Proc.devRef .tc main_arg1)) i
  unfold ent
  after_reads_at

theorem wq_eq : StableHlo.after hostOps0 W (Proc.devRef .tc main_v2) = (W (Proc.devRef .tc main_arg2) : FVec Ideal S2048x512 .f32) := by
  refine funext fun (i : S2048x512.Idx) => ?_
  show ent S2048x512 (StableHlo.after hostOps0 W (Proc.devRef .tc main_v2)) i = ent S2048x512 (W (Proc.devRef .tc main_arg2)) i
  unfold ent
  after_reads_at

theorem wk_eq : StableHlo.after hostOps0 W (Proc.devRef .tc main_v3) = (W (Proc.devRef .tc main_arg3) : FVec Ideal S2048x512 .f32) := by
  refine funext fun (i : S2048x512.Idx) => ?_
  show ent S2048x512 (StableHlo.after hostOps0 W (Proc.devRef .tc main_v3)) i = ent S2048x512 (W (Proc.devRef .tc main_arg3)) i
  unfold ent
  after_reads_at

theorem wv_eq : StableHlo.after hostOps0 W (Proc.devRef .tc main_v4) = (W (Proc.devRef .tc main_arg4) : FVec Ideal S2048x512 .f32) := by
  refine funext fun (i : S2048x512.Idx) => ?_
  show ent S2048x512 (StableHlo.after hostOps0 W (Proc.devRef .tc main_v4)) i = ent S2048x512 (W (Proc.devRef .tc main_arg4)) i
  unfold ent
  after_reads_at

theorem o_eq : StableHlo.after hostOps0 W (Proc.devRef .tc main_v5) = (W (Proc.devRef .tc main_arg5) : FVec Ideal S2048x512 .f32) := by
  refine funext fun (i : S2048x512.Idx) => ?_
  show ent S2048x512 (StableHlo.after hostOps0 W (Proc.devRef .tc main_v5)) i = ent S2048x512 (W (Proc.devRef .tc main_arg5)) i
  unfold ent
  after_reads_at

theorem wo_eq_at (j : Fin 8) (f : Fin 512) (k : Fin 256) :
    ent S8x512x256 (StableHlo.after hostOps0 W (Proc.devRef .tc main_v8)) (ix3 j f k)
      = ent S512x2048 (W (Proc.devRef .tc main_arg6)) (ix2 f (hcol rfl j k)) := by
  unfold ent
  after_reads_at
  exact congrArg _ (congrArg _ (Fin.ext (by show j.val * 256 + _ = 256 * j.val + _; omega)))

theorem wo_eq : StableHlo.after hostOps0 W (Proc.devRef .tc main_v8) = stackC rfl (W (Proc.devRef .tc main_arg6)) := by
  refine funext fun (i : S8x512x256.Idx) => ?_
  rw [eq_ix3 i]
  exact wo_eq_at W _ _ _

end Host

/-! ## The calls one after the other -/

variable (m : (ℓ : Loc nD τ sig) → Buf (Elt Ideal) ℓ) (ρ : Dev nD → PrngReg)

abbrev Hq : FVec Ideal S2048x2048 .f32 := m ((c : Thread nD τ).loc main_arg0)
abbrev Hm : FVec Ideal S256x2048 .f32 := m ((c : Thread nD τ).loc main_arg1)
abbrev Wq : FVec Ideal S2048x512 .f32 := m ((c : Thread nD τ).loc main_arg2)
abbrev Wk : FVec Ideal S2048x512 .f32 := m ((c : Thread nD τ).loc main_arg3)
abbrev Wv : FVec Ideal S2048x512 .f32 := m ((c : Thread nD τ).loc main_arg4)
abbrev Om : FVec Ideal S2048x512 .f32 := m ((c : Thread nD τ).loc main_arg5)
abbrev Wo : FVec Ideal S512x2048 .f32 := m ((c : Thread nD τ).loc main_arg6)
abbrev Res : FVec Ideal S2048x2048 .f32 := m ((c : Thread nD τ).loc main_arg7)
abbrev Dk : FVec Ideal S4x256x128 .f32 := m ((c : Thread nD τ).loc main_arg8)
abbrev Dv : FVec Ideal S4x256x128 .f32 := m ((c : Thread nD τ).loc main_arg9)

/-- The program's results: the heads' query, key and value rows, the rows after the output projection, and the gradients
of the key's and the value's weights. -/
theorem result_q : W7 m ρ c (Proc.devRef .tc main_v9) = headsA (H := 4) (b := 128) rfl (Hq c m) (Wq c m) := by
  refine (W7_of m ρ c main_v9 (by decide)).trans ((W6_of m ρ c main_v9 (by decide)).trans ((W5_of m ρ c main_v9 (by decide)).trans ((W4_of m ρ c main_v9 (by decide)).trans ((W3_of m ρ c main_v9 (by decide)).trans ((W2_arr m ρ c 2).trans ((arr0 (V1 m ρ) c).trans ?_))))))
  rw [show V1 m ρ c main_v0 = Hq c m from hq_eq _,
    show V1 m ρ c main_v2 = Wq c m from wq_eq _]

theorem result_k : W7 m ρ c (Proc.devRef .tc main_v10) = headsA (H := 4) (b := 128) rfl (Hm c m) (Wk c m) := by
  refine (W7_of m ρ c main_v10 (by decide)).trans ((W6_of m ρ c main_v10 (by decide)).trans ((W5_of m ρ c main_v10 (by decide)).trans ((W4_of m ρ c main_v10 (by decide)).trans ((W3_arr m ρ c 2).trans ((arr1 (V2 m ρ) c).trans ?_)))))
  rw [show V2 m ρ c main_v1 = Hm c m from (W2_of m ρ c main_v1 (by decide)).trans (hm_eq _),
    show V2 m ρ c main_v3 = Wk c m from (W2_of m ρ c main_v3 (by decide)).trans (wk_eq _)]

theorem result_v : W7 m ρ c (Proc.devRef .tc main_v11) = headsA (H := 4) (b := 128) rfl (Hm c m) (Wv c m) := by
  refine (W7_of m ρ c main_v11 (by decide)).trans ((W6_of m ρ c main_v11 (by decide)).trans ((W5_of m ρ c main_v11 (by decide)).trans ((W4_arr m ρ c 2).trans ((arr2 (V3 m ρ) c).trans ?_))))
  rw [show V3 m ρ c main_v1 = Hm c m from (W3_of m ρ c main_v1 (by decide)).trans ((W2_of m ρ c main_v1 (by decide)).trans (hm_eq _)),
    show V3 m ρ c main_v4 = Wv c m from (W3_of m ρ c main_v4 (by decide)).trans ((W2_of m ρ c main_v4 (by decide)).trans (wv_eq _))]

theorem result_x : W7 m ρ c (Proc.devRef .tc main_v12) = unstackAddA devOf devCol (Om c m) (stackC rfl (Wo c m)) (Res c m) := by
  refine (W7_of m ρ c main_v12 (by decide)).trans ((W6_of m ρ c main_v12 (by decide)).trans ((W5_arr m ρ c 3).trans ((arr3 (V4 m ρ) c).trans ?_)))
  rw [show V4 m ρ c main_v5 = Om c m from (W4_of m ρ c main_v5 (by decide)).trans ((W3_of m ρ c main_v5 (by decide)).trans ((W2_of m ρ c main_v5 (by decide)).trans (o_eq _))),
    show V4 m ρ c main_v8 = stackC rfl (Wo c m) from (W4_of m ρ c main_v8 (by decide)).trans ((W3_of m ρ c main_v8 (by decide)).trans ((W2_of m ρ c main_v8 (by decide)).trans (wo_eq _))),
    show V4 m ρ c main_arg7 = Res c m from W4_args m ρ c main_arg7 (by decide)]

theorem result_wk : W7 m ρ c (Proc.devRef .tc main_v13) = headsGradA memHead memCol (Hm c m) (Dk c m) := by
  refine (W7_of m ρ c main_v13 (by decide)).trans ((W6_arr m ρ c 2).trans ((arr4 (V5 m ρ) c).trans ?_))
  rw [show V5 m ρ c main_v1 = Hm c m from (W5_of m ρ c main_v1 (by decide)).trans ((W4_of m ρ c main_v1 (by decide)).trans ((W3_of m ρ c main_v1 (by decide)).trans ((W2_of m ρ c main_v1 (by decide)).trans (hm_eq _)))),
    show V5 m ρ c main_arg8 = Dk c m from W5_args m ρ c main_arg8 (by decide)]

theorem result_wv : W7 m ρ c (Proc.devRef .tc main_v14) = headsGradA memHead memCol (Hm c m) (Dv c m) := by
  refine (W7_arr m ρ c 2).trans ((arr5 (V6 m ρ) c).trans ?_)
  rw [show V6 m ρ c main_v1 = Hm c m from (W6_of m ρ c main_v1 (by decide)).trans ((W5_of m ρ c main_v1 (by decide)).trans ((W4_of m ρ c main_v1 (by decide)).trans ((W3_of m ρ c main_v1 (by decide)).trans ((W2_of m ρ c main_v1 (by decide)).trans (hm_eq _))))),
    show V6 m ρ c main_arg9 = Dv c m from W6_args m ρ c main_arg9 (by decide)]

end Cert.Kernel9Ideal.Own
-- ==== Proof.MemProjRun.lean ====
/-
  The program of the memory attention's projections runs to its end from any memory, every buffer outside the scopes
  ending with what the last call leaves.
-/
module
public import proofs.«01_k».proof.Proof.Gen.Kernel9Ideal.Frame
public import proofs.«01_k».proof.Proof.Base

@[expose] public section

set_option maxRecDepth 16384

noncomputable section

namespace Cert.Kernel9Ideal.Own

open Cert.Kernel9Ideal Cert.Kernel9Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Kernel9Ideal.Own
-- ==== Proof.MemProj.lean ====
/-
  The memory attention's projections against their reference: both end with the products of Proof/HeadSpec.lean.
-/
module
public import proofs.«01_k».proof.Proof.MemProjKernel
public import proofs.«01_k».proof.Proof.MemProjRun
public import proofs.«01_k».proof.Proof.Gen.Reference9Ideal.Read
public import proofs.«01_k».proof.Defs
public import proofs.«01_k».proof.Proof.Base

@[expose] public section

noncomputable section

namespace Cert.Reference9Ideal.Own

open Idealize.ShloMosaic Idealize.ShloMosaic.Pointwise
open Cert.Reference9Ideal Cert.Reference9Ideal.Gen Cert.Reference9Ideal.Read Cert.Ffn Cert.Mix

variable (hq : FVec Ideal S2048x2048 .f32) (hm : FVec Ideal S256x2048 .f32) (wq wk wv : FVec Ideal S2048x512 .f32)
  (o : FVec Ideal S2048x512 .f32) (wo : FVec Ideal S512x2048 .f32) (x : FVec Ideal S2048x2048 .f32) (dk dv : FVec Ideal S4x256x128 .f32)

theorem q_eq : val_main_v8 (F := Ideal) hq wq = headsA (H := 4) (b := 128) rfl hq wq := by
  refine funext fun (i : S4x2048x128.Idx) => ?_
  rw [eq_ix3 i]
  pointwise [val_main_v8, val_main_v7, val_main_v6, headsA]
  exact Finset.sum_congr rfl fun k _ => congrArg (hq (ix2 (i 1) k) * ·) (congrArg (wq <| ix2 k ·)
    (Fin.ext (by show (i 0).val * 128 + (i 2).val = 128 * (i 0).val + (i 2).val; omega)))

theorem k_eq : val_main_v2 (F := Ideal) hm wk = headsA (H := 4) (b := 128) rfl hm wk := by
  refine funext fun (i : S4x256x128.Idx) => ?_
  rw [eq_ix3 i]
  pointwise [val_main_v2, val_main_v1, val_main_v0, headsA]
  exact Finset.sum_congr rfl fun k _ => congrArg (hm (ix2 (i 1) k) * ·) (congrArg (wk <| ix2 k ·)
    (Fin.ext (by show (i 0).val * 128 + (i 2).val = 128 * (i 0).val + (i 2).val; omega)))

theorem v_eq : val_main_v9 (F := Ideal) hm wv = headsA (H := 4) (b := 128) rfl hm wv := by
  refine funext fun (i : S4x256x128.Idx) => ?_
  rw [eq_ix3 i]
  pointwise [val_main_v9, val_main_v5, val_main_v4, val_main_v3, headsA]
  exact Finset.sum_congr rfl fun k _ => congrArg (hm (ix2 (i 1) k) * ·) (congrArg (wv <| ix2 k ·)
    (Fin.ext (by show (i 0).val * 128 + (i 2).val = 128 * (i 0).val + (i 2).val; omega)))

theorem x_eq : val_main_v11 (F := Ideal) o wo x = unstackAddA devOf devCol o (stackC rfl wo) x := by
  refine funext fun (i : S2048x2048.Idx) => ?_
  rw [eq_ix2 i]
  pointwise [val_main_v11, val_main_v10, unstackAddA]
  exact (add_comm _ _).trans (congrArg (· + x i) (Finset.sum_congr rfl fun k _ => congrArg (o (ix2 (i 0) k) * ·) (congrArg (wo <| ix2 k ·)
    (Fin.ext (by show (i 1).val = 256 * ((i 1).val / 256) + (i 1).val % 256; omega)))))

theorem wk_eq : val_main_v16 (F := Ideal) hm dk = headsGradA memHead memCol hm dk := by
  refine funext fun (i : S2048x512.Idx) => ?_
  rw [eq_ix2 i]
  pointwise [val_main_v16, val_main_v15, val_main_v14, val_main_v13, val_main_v12, headsGradA]
  exact Finset.sum_congr rfl fun k _ => mul_comm _ _

theorem wv_eq : val_main_v21 (F := Ideal) hm dv = headsGradA memHead memCol hm dv := by
  refine funext fun (i : S2048x512.Idx) => ?_
  rw [eq_ix2 i]
  pointwise [val_main_v21, val_main_v20, val_main_v19, val_main_v18, val_main_v17, headsGradA]
  exact Finset.sum_congr rfl fun k _ => mul_comm _ _

end Cert.Reference9Ideal.Own

namespace Cert.Proof

open Idealize.ShloMosaic Idealize.SL.Sem

theorem frame_ref9 : quiescent_Reference9Ideal (hReference9Ideal := Cert.Reference9Ideal.Gen.facts) := fun m ρ _ =>
  (θ_run Cert.Reference9Ideal.defs _ _).mono (fun r h => ⟨fun c => (h c).2.2.2.2.2.2, Idealize.ShloMosaic.sem_eq_zero_of_no_sems (by decide) r.2⟩)
    (Cert.Reference9Ideal.Value.run m ρ)

/-- The memory attention's projections compute what the reference computes. -/
theorem value9 : algebraic_Kernel9Ideal_Reference9Ideal (hKernel9Ideal := Cert.Kernel9Ideal.Gen.facts)
    (hReference9Ideal := Cert.Reference9Ideal.Gen.facts) := fun m ρ m' ρ' _ ha => by
  refine ⟨fun c => Cert.Kernel9Ideal.Gen.W7 m ρ c (Proc.devRef .tc Cert.Kernel9Ideal.main_v9),
    fun c => Cert.Kernel9Ideal.Gen.W7 m ρ c (Proc.devRef .tc Cert.Kernel9Ideal.main_v10),
    fun c => Cert.Kernel9Ideal.Gen.W7 m ρ c (Proc.devRef .tc Cert.Kernel9Ideal.main_v11),
    fun c => Cert.Kernel9Ideal.Gen.W7 m ρ c (Proc.devRef .tc Cert.Kernel9Ideal.main_v12),
    fun c => Cert.Kernel9Ideal.Gen.W7 m ρ c (Proc.devRef .tc Cert.Kernel9Ideal.main_v13),
    fun c => Cert.Kernel9Ideal.Gen.W7 m ρ c (Proc.devRef .tc Cert.Kernel9Ideal.main_v14), ?_, ?_⟩
  · exact (θ_run Cert.Kernel9Ideal.defs _ _).mono (fun r h c => ⟨h c _ (Cert.Kernel9Ideal.Gen.mem_uc Cert.Kernel9Ideal.main_v9 (by decide)),
      h c _ (Cert.Kernel9Ideal.Gen.mem_uc Cert.Kernel9Ideal.main_v10 (by decide)),
      h c _ (Cert.Kernel9Ideal.Gen.mem_uc Cert.Kernel9Ideal.main_v11 (by decide)),
      h c _ (Cert.Kernel9Ideal.Gen.mem_uc Cert.Kernel9Ideal.main_v12 (by decide)),
      h c _ (Cert.Kernel9Ideal.Gen.mem_uc Cert.Kernel9Ideal.main_v13 (by decide)),
      h c _ (Cert.Kernel9Ideal.Gen.mem_uc Cert.Kernel9Ideal.main_v14 (by decide)),
      (h c _ (Cert.Kernel9Ideal.Gen.mem_uc Cert.Kernel9Ideal.main_arg0 (by decide))).trans (Cert.Kernel9Ideal.Gen.W7_main_arg0 m ρ c),
      (h c _ (Cert.Kernel9Ideal.Gen.mem_uc Cert.Kernel9Ideal.main_arg1 (by decide))).trans (Cert.Kernel9Ideal.Gen.W7_main_arg1 m ρ c),
      (h c _ (Cert.Kernel9Ideal.Gen.mem_uc Cert.Kernel9Ideal.main_arg2 (by decide))).trans (Cert.Kernel9Ideal.Gen.W7_main_arg2 m ρ c),
      (h c _ (Cert.Kernel9Ideal.Gen.mem_uc Cert.Kernel9Ideal.main_arg3 (by decide))).trans (Cert.Kernel9Ideal.Gen.W7_main_arg3 m ρ c),
      (h c _ (Cert.Kernel9Ideal.Gen.mem_uc Cert.Kernel9Ideal.main_arg4 (by decide))).trans (Cert.Kernel9Ideal.Gen.W7_main_arg4 m ρ c),
      (h c _ (Cert.Kernel9Ideal.Gen.mem_uc Cert.Kernel9Ideal.main_arg5 (by decide))).trans (Cert.Kernel9Ideal.Gen.W7_main_arg5 m ρ c),
      (h c _ (Cert.Kernel9Ideal.Gen.mem_uc Cert.Kernel9Ideal.main_arg6 (by decide))).trans (Cert.Kernel9Ideal.Gen.W7_main_arg6 m ρ c),
      (h c _ (Cert.Kernel9Ideal.Gen.mem_uc Cert.Kernel9Ideal.main_arg7 (by decide))).trans (Cert.Kernel9Ideal.Gen.W7_main_arg7 m ρ c),
      (h c _ (Cert.Kernel9Ideal.Gen.mem_uc Cert.Kernel9Ideal.main_arg8 (by decide))).trans (Cert.Kernel9Ideal.Gen.W7_main_arg8 m ρ c),
      (h c _ (Cert.Kernel9Ideal.Gen.mem_uc Cert.Kernel9Ideal.main_arg9 (by decide))).trans (Cert.Kernel9Ideal.Gen.W7_main_arg9 m ρ c)⟩)
      (Cert.Kernel9Ideal.Own.run_all m ρ)
  · refine (θ_run Cert.Reference9Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference9Ideal.Value.run m' ρ')
    all_goals obtain ⟨a0, a1, a2, a3, a4, a5, a6, a7, a8, a9⟩ := ha c
    · refine (Cert.Reference9Ideal.Read.val_main_v8_eq (F := Ideal) _ _).trans ?_
      rw [a0, a2]
      exact (Cert.Reference9Ideal.Own.q_eq _ _).trans (Cert.Kernel9Ideal.Own.result_q c m ρ).symm
    · refine (Cert.Reference9Ideal.Read.val_main_v2_eq (F := Ideal) _ _).trans ?_
      rw [a1, a3]
      exact (Cert.Reference9Ideal.Own.k_eq _ _).trans (Cert.Kernel9Ideal.Own.result_k c m ρ).symm
    · refine (Cert.Reference9Ideal.Read.val_main_v9_eq (F := Ideal) _ _).trans ?_
      rw [a1, a4]
      exact (Cert.Reference9Ideal.Own.v_eq _ _).trans (Cert.Kernel9Ideal.Own.result_v c m ρ).symm
    · refine (Cert.Reference9Ideal.Read.val_main_v11_eq (F := Ideal) _ _ _).trans ?_
      rw [a5, a6, a7]
      exact (Cert.Reference9Ideal.Own.x_eq _ _ _).trans (Cert.Kernel9Ideal.Own.result_x c m ρ).symm
    · refine (Cert.Reference9Ideal.Read.val_main_v16_eq (F := Ideal) _ _).trans ?_
      rw [a1, a8]
      exact (Cert.Reference9Ideal.Own.wk_eq _ _).trans (Cert.Kernel9Ideal.Own.result_wk c m ρ).symm
    · refine (Cert.Reference9Ideal.Read.val_main_v21_eq (F := Ideal) _ _).trans ?_
      rw [a1, a9]
      exact (Cert.Reference9Ideal.Own.wv_eq _ _).trans (Cert.Kernel9Ideal.Own.result_wv c m ρ).symm

end Cert.Proof
-- ==== Proof.LatProjKernel.lean ====
/-
  What the program of the latent attention's up-projections writes: each of its three calls over any contents of memory,
  and its results.
-/
module
public import proofs.«01_k».proof.Proof.Gen.Kernel10Ideal.Frame
public import proofs.«01_k».proof.Proof.HeadSpec
public import proofs.«01_k».proof.Proof.Base

@[expose] public section

set_option maxRecDepth 20000

noncomputable section

namespace Cert.Kernel10Ideal.Own

open Idealize.ShloMosaic Idealize.ShloMosaic.TcCoe Idealize.ShloMosaic.Pointwise
open Cert.Kernel10Ideal Cert.Kernel10Ideal.Gen Cert.Ffn Cert.Mix

variable (V : (c : Dev nD) → (b : Ref sig .tc) → Buf (Elt Ideal) ((c : Thread nD τ).loc b)) (c : Dev nD)

/-- Which block of each array a grid point holds. -/
theorem idx0 : ∀ t : Fin cfg0.N, win0_0.index t = ![t.val % 2, 0] ∧ win0_1.index t = ![t.val / 2, 0, 0] ∧ win0_2.index t = ![t.val / 2, t.val % 2, 0] := by
  decide +kernel

theorem arr0 : (dat0 V c).arrAt 2 cfg0.N = stackTA (V c main_v0) (V c main_v7) := by
  refine (dat0 V c).arrAt_eq_of_covers 2 _ (by decide +kernel) fun t hf y => ?_
  blk_simp
  rw [after0_2]
  frame_out
  pointwise [k0_pay1, stackTA]
  blk_point [iblk0, idx0 t]

theorem idx1 : ∀ t : Fin cfg1.N, win1_0.index t = ![t.val % 4, 0] ∧ win1_1.index t = ![t.val / 4, 0, 0] ∧ win1_2.index t = ![t.val / 4, t.val % 4, 0] := by
  decide +kernel

theorem arr1 : (dat1 V c).arrAt 2 cfg1.N = stackA (V c main_v1) (V c main_v4) := by
  refine (dat1 V c).arrAt_eq_of_covers 2 _ (by decide +kernel) fun t hf y => ?_
  blk_simp
  rw [after1_2]
  unfold outsAt1
  frame_out
  pointwise [k1_pay1, stackA]
  blk_point [iblk1, idx1 t]

theorem idx2 : ∀ t : Fin cfg2.N, win2_0.index t = ![t.val, 0, 0] ∧ win2_1.index t = ![0, 0] ∧ win2_2.index t = ![t.val, 0, 0] := by
  decide +kernel

theorem arr2 : (dat2 V c).arrAt 2 cfg2.N = stackGradA (V c main_arg4) (V c main_v0) := by
  refine (dat2 V c).arrAt_eq_of_covers 2 _ (by decide +kernel) fun t hf y => ?_
  blk_simp
  rw [after2_2]
  unfold outsAt2
  frame_out
  pointwise [k2_pay1, stackGradA]
  blk_point [iblk2, idx2 t]

abbrev ent (s : Shape) (x : s.Idx → EReal) (i : s.Idx) : EReal := x i

section Host
variable (W : Valuation τ sig (Elt Ideal))

theorem cq_eq : StableHlo.after hostOps0 W (Proc.devRef .tc main_v0) = (W (Proc.devRef .tc main_arg0) : FVec Ideal S2048x512 .f32) := by
  refine funext fun (i : S2048x512.Idx) => ?_
  show ent S2048x512 (StableHlo.after hostOps0 W (Proc.devRef .tc main_v0)) i = ent S2048x512 (W (Proc.devRef .tc main_arg0)) i
  unfold ent
  after_reads_at

theorem ckv_eq : StableHlo.after hostOps0 W (Proc.devRef .tc main_v1) = (W (Proc.devRef .tc main_arg2) : FVec Ideal S2048x256 .f32) := by
  refine funext fun (i : S2048x256.Idx) => ?_
  show ent S2048x256 (StableHlo.after hostOps0 W (Proc.devRef .tc main_v1)) i = ent S2048x256 (W (Proc.devRef .tc main_arg2)) i
  unfold ent
  after_reads_at

theorem wkv_eq_at (j : Fin 8) (f : Fin 256) (k : Fin 256) :
    ent S8x256x256 (StableHlo.after hostOps0 W (Proc.devRef .tc main_v4)) (ix3 j f k)
      = ent S256x2048 (W (Proc.devRef .tc main_arg3)) (ix2 f (hcol rfl j k)) := by
  unfold ent
  after_reads_at
  exact congrArg _ (congrArg _ (Fin.ext (by show j.val * 256 + _ = 256 * j.val + _; omega)))

theorem wkv_eq : StableHlo.after hostOps0 W (Proc.devRef .tc main_v4) = stackC rfl (W (Proc.devRef .tc main_arg3)) := by
  refine funext fun (i : S8x256x256.Idx) => ?_
  rw [eq_ix3 i]
  exact wkv_eq_at W _ _ _

theorem wq_eq_at (j : Fin 8) (f : Fin 192) (k : Fin 512) :
    ent S8x192x512 (StableHlo.after hostOps0 W (Proc.devRef .tc main_v7)) (ix3 j f k)
      = ent S512x1536 (W (Proc.devRef .tc main_arg1)) (ix2 k (hcol rfl j f)) := by
  unfold ent
  after_reads_at
  exact congrArg _ (congrArg _ (Fin.ext (by show j.val * 192 + _ = 192 * j.val + _; omega)))

theorem wq_eq : StableHlo.after hostOps0 W (Proc.devRef .tc main_v7) = stackCT rfl (W (Proc.devRef .tc main_arg1)) := by
  refine funext fun (i : S8x192x512.Idx) => ?_
  rw [eq_ix3 i]
  exact wq_eq_at W _ _ _

end Host

/-! ## The calls one after the other -/

variable (m : (ℓ : Loc nD τ sig) → Buf (Elt Ideal) ℓ) (ρ : Dev nD → PrngReg)

abbrev Cq : FVec Ideal S2048x512 .f32 := m ((c : Thread nD τ).loc main_arg0)
abbrev Wq : FVec Ideal S512x1536 .f32 := m ((c : Thread nD τ).loc main_arg1)
abbrev Ckv : FVec Ideal S2048x256 .f32 := m ((c : Thread nD τ).loc main_arg2)
abbrev Wkv : FVec Ideal S256x2048 .f32 := m ((c : Thread nD τ).loc main_arg3)
abbrev Dq : FVec Ideal S8x2048x192 .f32 := m ((c : Thread nD τ).loc main_arg4)

/-- The program's results: the heads' query rows, their key and value rows, and the gradient of the query weight. -/
theorem result_q : W4 m ρ c (Proc.devRef .tc main_v8) = headsA (H := 8) (b := 192) rfl (Cq c m) (Wq c m) := by
  refine (W4_of m ρ c main_v8 (by decide)).trans ((W3_of m ρ c main_v8 (by decide)).trans ((W2_arr m ρ c 2).trans ((arr0 (V1 m ρ) c).trans ?_)))
  rw [show V1 m ρ c main_v0 = Cq c m from cq_eq _,
    show V1 m ρ c main_v7 = stackCT rfl (Wq c m) from wq_eq _]
  rfl

theorem result_kv : W4 m ρ c (Proc.devRef .tc main_v9) = headsA (H := 8) (b := 256) rfl (Ckv c m) (Wkv c m) := by
  refine (W4_of m ρ c main_v9 (by decide)).trans ((W3_arr m ρ c 2).trans ((arr1 (V2 m ρ) c).trans ?_))
  rw [show V2 m ρ c main_v1 = Ckv c m from (W2_of m ρ c main_v1 (by decide)).trans (ckv_eq _),
    show V2 m ρ c main_v4 = stackC rfl (Wkv c m) from (W2_of m ρ c main_v4 (by decide)).trans (wkv_eq _)]
  rfl

theorem result_w : W4 m ρ c (Proc.devRef .tc main_v10) = stackGradA (Dq c m) (Cq c m) := by
  refine (W4_arr m ρ c 2).trans ((arr2 (V3 m ρ) c).trans ?_)
  rw [show V3 m ρ c main_v0 = Cq c m from (W3_of m ρ c main_v0 (by decide)).trans ((W2_of m ρ c main_v0 (by decide)).trans (cq_eq _)),
    show V3 m ρ c main_arg4 = Dq c m from W3_args m ρ c main_arg4 (by decide)]

end Cert.Kernel10Ideal.Own
-- ==== Proof.LatProjRun.lean ====
/-
  The program of the latent attention's up-projections runs to its end from any memory, every buffer outside the scopes
  ending with what the last call leaves.
-/
module
public import proofs.«01_k».proof.Proof.Gen.Kernel10Ideal.Frame
public import proofs.«01_k».proof.Proof.Base

@[expose] public section

set_option maxRecDepth 16384

noncomputable section

namespace Cert.Kernel10Ideal.Own

open Cert.Kernel10Ideal Cert.Kernel10Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable (m : (ℓ : Loc nD τ sig) → Buf (Elt Ideal) ℓ) (ρ : Dev nD → PrngReg)

set_option backward.isDefEq.respectTransparency.types false in
/-- Every buffer outside the scopes ends with the last region's contents. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel10Ideal.Own
-- ==== Proof.LatProj.lean ====
/-
  The latent attention's up-projections against their reference: both end with the products of Proof/HeadSpec.lean.
-/
module
public import proofs.«01_k».proof.Proof.LatProjKernel
public import proofs.«01_k».proof.Proof.LatProjRun
public import proofs.«01_k».proof.Proof.Gen.Reference10Ideal.Read
public import proofs.«01_k».proof.Defs
public import proofs.«01_k».proof.Proof.Base

@[expose] public section

noncomputable section

namespace Cert.Reference10Ideal.Own

open Idealize.ShloMosaic Idealize.ShloMosaic.Pointwise
open Cert.Reference10Ideal Cert.Reference10Ideal.Gen Cert.Reference10Ideal.Read Cert.Ffn Cert.Mix

variable (cq : FVec Ideal S2048x512 .f32) (wq : FVec Ideal S512x1536 .f32) (ckv : FVec Ideal S2048x256 .f32) (wkv : FVec Ideal S256x2048 .f32)
  (dq : FVec Ideal S8x2048x192 .f32)

theorem q_eq : val_main_v2 (F := Ideal) cq wq = headsA (H := 8) (b := 192) rfl cq wq := by
  refine funext fun (i : S8x2048x192.Idx) => ?_
  rw [eq_ix3 i]
  pointwise [val_main_v2, val_main_v1, val_main_v0, headsA]
  exact Finset.sum_congr rfl fun k _ => congrArg (cq (ix2 (i 1) k) * ·) (congrArg (wq <| ix2 k ·)
    (Fin.ext (by show (i 0).val * 192 + (i 2).val = 192 * (i 0).val + (i 2).val; omega)))
theorem kv_eq : val_main_v5 (F := Ideal) ckv wkv = headsA (H := 8) (b := 256) rfl ckv wkv := by
  refine funext fun (i : S8x2048x256.Idx) => ?_
  rw [eq_ix3 i]
  pointwise [val_main_v5, val_main_v4, val_main_v3, headsA]
  exact Finset.sum_congr rfl fun k _ => congrArg (ckv (ix2 (i 1) k) * ·) (congrArg (wkv <| ix2 k ·)
    (Fin.ext (by show (i 0).val * 256 + (i 2).val = 256 * (i 0).val + (i 2).val; omega)))
theorem w_eq : val_main_v12 (F := Ideal) cq dq = stackGradA dq cq := by
  refine funext fun (i : S8x192x512.Idx) => ?_
  rw [eq_ix3 i]
  pointwise [val_main_v12, val_main_v11, val_main_v10, val_main_v9, val_main_v8, val_main_v7, val_main_v6, stackGradA]

end Cert.Reference10Ideal.Own

namespace Cert.Proof

open Idealize.ShloMosaic Idealize.SL.Sem

theorem frame_ref10 : quiescent_Reference10Ideal (hReference10Ideal := Cert.Reference10Ideal.Gen.facts) := fun m ρ _ =>
  (θ_run Cert.Reference10Ideal.defs _ _).mono (fun r h => ⟨fun c => (h c).2.2.2, Idealize.ShloMosaic.sem_eq_zero_of_no_sems (by decide) r.2⟩)
    (Cert.Reference10Ideal.Value.run m ρ)

/-- The up-projections' calls compute what the reference computes. -/
theorem value10 : algebraic_Kernel10Ideal_Reference10Ideal (hKernel10Ideal := Cert.Kernel10Ideal.Gen.facts)
    (hReference10Ideal := Cert.Reference10Ideal.Gen.facts) := fun m ρ m' ρ' _ ha => by
  refine ⟨fun c => Cert.Kernel10Ideal.Gen.W4 m ρ c (Proc.devRef .tc Cert.Kernel10Ideal.main_v8),
    fun c => Cert.Kernel10Ideal.Gen.W4 m ρ c (Proc.devRef .tc Cert.Kernel10Ideal.main_v9),
    fun c => Cert.Kernel10Ideal.Gen.W4 m ρ c (Proc.devRef .tc Cert.Kernel10Ideal.main_v10), ?_, ?_⟩
  · exact (θ_run Cert.Kernel10Ideal.defs _ _).mono (fun r h c => ⟨h c _ (Cert.Kernel10Ideal.Gen.mem_uc Cert.Kernel10Ideal.main_v8 (by decide)),
      h c _ (Cert.Kernel10Ideal.Gen.mem_uc Cert.Kernel10Ideal.main_v9 (by decide)),
      h c _ (Cert.Kernel10Ideal.Gen.mem_uc Cert.Kernel10Ideal.main_v10 (by decide)),
      (h c _ (Cert.Kernel10Ideal.Gen.mem_uc Cert.Kernel10Ideal.main_arg0 (by decide))).trans (Cert.Kernel10Ideal.Gen.W4_main_arg0 m ρ c),
      (h c _ (Cert.Kernel10Ideal.Gen.mem_uc Cert.Kernel10Ideal.main_arg1 (by decide))).trans (Cert.Kernel10Ideal.Gen.W4_main_arg1 m ρ c),
      (h c _ (Cert.Kernel10Ideal.Gen.mem_uc Cert.Kernel10Ideal.main_arg2 (by decide))).trans (Cert.Kernel10Ideal.Gen.W4_main_arg2 m ρ c),
      (h c _ (Cert.Kernel10Ideal.Gen.mem_uc Cert.Kernel10Ideal.main_arg3 (by decide))).trans (Cert.Kernel10Ideal.Gen.W4_main_arg3 m ρ c),
      (h c _ (Cert.Kernel10Ideal.Gen.mem_uc Cert.Kernel10Ideal.main_arg4 (by decide))).trans (Cert.Kernel10Ideal.Gen.W4_main_arg4 m ρ c)⟩)
      (Cert.Kernel10Ideal.Own.run_all m ρ)
  · refine (θ_run Cert.Reference10Ideal.defs _ _).mono (fun r h c => ⟨(h c).1.trans ?_, (h c).2.1.trans ?_, (h c).2.2.1.trans ?_, (h c).2.2.2⟩)
      (Cert.Reference10Ideal.Value.run m' ρ')
    all_goals obtain ⟨a0, a1, a2, a3, a4⟩ := ha c
    · refine (Cert.Reference10Ideal.Read.val_main_v2_eq (F := Ideal) _ _).trans ?_
      rw [a0, a1]
      exact (Cert.Reference10Ideal.Own.q_eq _ _).trans (Cert.Kernel10Ideal.Own.result_q c m ρ).symm
    · refine (Cert.Reference10Ideal.Read.val_main_v5_eq (F := Ideal) _ _).trans ?_
      rw [a2, a3]
      exact (Cert.Reference10Ideal.Own.kv_eq _ _).trans (Cert.Kernel10Ideal.Own.result_kv c m ρ).symm
    · refine (Cert.Reference10Ideal.Read.val_main_v12_eq (F := Ideal) _ _).trans ?_
      rw [a0, a4]
      exact (Cert.Reference10Ideal.Own.w_eq _ _).trans (Cert.Kernel10Ideal.Own.result_w c m ρ).symm

end Cert.Proof
-- ==== Proof.HeadGradSpec.lean ====
/-
  The gradients of the attentions' projections as plain functions over the extended reals, their sums in the parts in
  which the calls take them, and the parts put together.
-/
module
public import proofs.«01_k».proof.Proof.HeadSpec
public import proofs.«01_k».proof.Proof.Base

@[expose] public section

noncomputable section

namespace Cert.Mix

open Idealize.ShloMosaic Idealize.ShloMosaic.Pointwise Cert.Ffn

variable {a b n p H S K : ℕ}

/-- Rows times transposes of a stack, part by part: the rows' columns side by side, or stacked too; and a stack of rows
times the columns of a weight side by side, or times a stack. -/
abbrev partsTA (h : S * K = n) (x : Arr ⟨2, ![a, n]⟩) (w : Arr ⟨3, ![S, b, K]⟩) : Arr ⟨2, ![a, b]⟩ :=
  fun i => ∑ s : Fin S, ∑ k : Fin K, x (ix2 (i 0) (hcol h s k)) * w (ix3 s (i 1) k)
abbrev slabsTA (d : Arr ⟨3, ![S, a, K]⟩) (w : Arr ⟨3, ![S, b, K]⟩) : Arr ⟨2, ![a, b]⟩ :=
  fun i => ∑ s : Fin S, ∑ k : Fin K, d (ix3 s (i 0) k) * w (ix3 s (i 1) k)
abbrev slabsA (d : Arr ⟨3, ![S, a, K]⟩) (w : Arr ⟨3, ![S, K, b]⟩) : Arr ⟨2, ![a, b]⟩ :=
  fun i => ∑ s : Fin S, ∑ k : Fin K, d (ix3 s (i 0) k) * w (ix3 s k (i 1))
abbrev headsBackA (h : S * K = n) (d : Arr ⟨3, ![S, a, K]⟩) (w : Arr ⟨2, ![b, n]⟩) : Arr ⟨2, ![a, b]⟩ :=
  fun i => ∑ s : Fin S, ∑ k : Fin K, d (ix3 s (i 0) k) * w (ix2 (i 1) (hcol h s k))

/-- The weights' gradients, the rows in parts one after the other: of a stacked weight from plain rows, of a weight with
the heads' columns side by side, and of a stacked weight from stacked rows. -/
abbrev partsGradColsA (h : S * K = n) (hp : H * b = p) (x : Arr ⟨2, ![n, a]⟩) (d : Arr ⟨2, ![n, p]⟩) : Arr ⟨3, ![H, a, b]⟩ :=
  fun i => ∑ s : Fin S, ∑ k : Fin K, x (ix2 (hcol h s k) (i 1)) * d (ix2 (hcol h s k) (hcol hp (i 0) (i 2)))
abbrev partsGradHeadsA (h : S * K = n) (hd : Fin p → Fin H) (c : Fin p → Fin b) (x : Arr ⟨2, ![n, a]⟩) (d : Arr ⟨3, ![H, n, b]⟩) :
    Arr ⟨2, ![a, p]⟩ :=
  fun i => ∑ s : Fin S, ∑ k : Fin K, x (ix2 (hcol h s k) (i 0)) * d (ix3 (hd (i 1)) (hcol h s k) (c (i 1)))
abbrev partsGradSlabsA (h : S * K = n) (x : Arr ⟨2, ![n, a]⟩) (d : Arr ⟨3, ![H, n, b]⟩) : Arr ⟨3, ![H, a, b]⟩ :=
  fun i => ∑ s : Fin S, ∑ k : Fin K, x (ix2 (hcol h s k) (i 1)) * d (ix3 (i 0) (hcol h s k) (i 2))

/-- A sum in parts is the whole sum. -/
theorem sum_parts (h : S * K = n) (P : Fin n → EReal) : ∑ s : Fin S, ∑ k : Fin K, P (hcol h s k) = ∑ q, P q :=
  Fin.sum_mul_add_congr (fun s k hl => congrArg P (Fin.ext (by show K * s.val + k.val = s.val * K + k.val; rw [Nat.mul_comm]))) h.symm

/-- The part and the place in it of a column. -/
abbrev headOf (h : S * K = n) (q : Fin n) : Fin S :=
  ⟨q.val / K, Nat.div_lt_of_lt_mul (by rw [Nat.mul_comm, h]; exact q.isLt)⟩
abbrev colOf (h : S * K = n) (q : Fin n) : Fin K :=
  ⟨q.val % K, Nat.mod_lt _ (Nat.pos_of_ne_zero fun e => absurd q.isLt (by rw [e, Nat.mul_zero] at h; omega))⟩

theorem sum_heads (h : S * K = n) (P : Fin S → Fin K → Fin n → EReal) :
    ∑ s : Fin S, ∑ k : Fin K, P s k (hcol h s k) = ∑ q, P (headOf h q) (colOf h q) q := by
  rw [← sum_parts h]
  refine Finset.sum_congr rfl fun s _ => Finset.sum_congr rfl fun k _ => ?_
  have e1 : headOf h (hcol h s k) = s := Fin.ext (by
    show (K * s.val + k.val) / K = s.val
    rw [Nat.mul_add_div (Nat.pos_of_ne_zero fun e => by have := k.isLt; omega), Nat.div_eq_of_lt k.isLt, Nat.add_zero])
  have e2 : colOf h (hcol h s k) = k := Fin.ext (by
    show (K * s.val + k.val) % K = k.val
    rw [Nat.mul_add_mod, Nat.mod_eq_of_lt k.isLt])
  rw [e1, e2]

/-- Eight parts in pairs. -/
theorem sum_pairs_eight (P : Fin 8 → EReal) : ∑ s : Fin 4, (P ⟨2 * s.val, by omega⟩ + P ⟨2 * s.val + 1, by omega⟩) = ∑ j, P j := by
  rw [Fin.sum_univ_four, Fin.sum_univ_eight]
  show P 0 + P 1 + (P 2 + P 3) + (P 4 + P 5) + (P 6 + P 7) = _
  abel

end Cert.Mix
-- ==== Proof.MemOutGrad.lean ====
/-
  The gradient of the rows that enter the memory attention's output projection: the call against its reference.
-/
module
public import proofs.«01_k».proof.Proof.Gen.Kernel11Ideal.Value
public import proofs.«01_k».proof.Proof.Gen.Reference11Ideal.Read
public import proofs.«01_k».proof.Proof.HeadGradSpec
public import proofs.«01_k».proof.Defs
public import proofs.«01_k».proof.Proof.Base

@[expose] public section

set_option maxRecDepth 20000

noncomputable section

namespace Cert.Kernel11Ideal.Own

open Idealize.ShloMosaic Idealize.ShloMosaic.TcCoe Idealize.ShloMosaic.Pointwise
open Idealize.ShloMosaic.Pipeline (Dat)
open Cert.Kernel11Ideal Cert.Kernel11Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val / 8, t.val % 8] ∧ win0_1.index t = ![t.val % 8, 0, 0] ∧ win0_2.index t = ![t.val / 8, 0] := by
  decide +kernel

/-- One step's product. -/
def step (x0 : FVec Ideal S512x256 .f32) (x1 : FVec Ideal S1x512x256 .bf16) (j : S512x512.Idx) : EReal :=
  ∑ k : Fin 256, x0 (ix2 (j 0) k) * x1 (ix3 0 (j 1) k)

theorem hpay1 (x0 : FVec Ideal S512x256 .f32) (x1 : FVec Ideal S1x512x256 .bf16) (j : S512x512.Idx) :
    k0_pay1 (F := Ideal) x0 x1 j = 0 + step x0 x1 j := by
  rw [zero_add]
  pointwise [k0_pay1, step]

theorem hpay2 (acc : FVec Ideal S512x512 .f32) (x0 : FVec Ideal S512x256 .f32) (x1 : FVec Ideal S1x512x256 .bf16) (j : S512x512.Idx) :
    k0_pay2 (F := Ideal) acc x0 x1 j = acc j + step x0 x1 j := by
  pointwise [k0_pay2, step]

abbrev part (t : Fin cfg0.N) (j : S512x512.Idx) : EReal := step (iblk m c 0 t) (iblk m c 1 t) j

theorem out_eq (t : Fin cfg0.N) (h : t.val % 8 = 7) (y : S512x512.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out
  pointwise [k0_pay3]

theorem scr (t : Fin cfg0.N) (h : t.val % 8 = 7) (j : S512x512.Idx) :
    (outsAt0 m c t.val t.isLt).2 j = ∑ s : Fin 8, part m c ⟨8 * (t.val / 8) + s.val, Pipeline.run_point_lt_of_flush t h s⟩ j := by
  rw [Pipeline.eq_sum_fin_of_reset_step_apply_of_flush (fun n h => (outsAt0 m c n h).2) 8 (fun _ => 0) (fun t j => part m c t j)
    (fun t h j => by rw [outsAt0_A m c t h (by omega) (by omega)]; frame_out; rw [hpay1])
    (fun t h j => by
      by_cases hl : t.val % 8 = 7
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = partsTA (S := 8) (K := 256) rfl (V m c main_arg1) (V m c main_v2) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem w_eq_at (j : Fin 8) (f : Fin 512) (k : Fin 256) :
    ent S8x512x256 (StableHlo.after hostOps0 W (Proc.devRef .tc main_v2)) (ix3 j f k)
      = ent S512x2048 (W (Proc.devRef .tc main_arg0)) (ix2 f (hcol rfl j k)) := by
  unfold ent
  after_reads_at
  exact congrArg _ (congrArg _ (Fin.ext (by show j.val * 256 + _ = 256 * j.val + _; omega)))

theorem w_eq : StableHlo.after hostOps0 W (Proc.devRef .tc main_v2) = stackC rfl (W (Proc.devRef .tc main_arg0)) := by
  refine funext fun (i : S8x512x256.Idx) => ?_
  rw [eq_ix3 i]
  exact w_eq_at W _ _ _

end Host

/-- The program's result. -/
theorem result : (dats m 0 c).arrAt 2 cfg0.N = partsTA (S := 8) (K := 256) rfl (m ((c : Thread nD τ).loc main_arg1) : FVec Ideal S2048x2048 .f32) (stackC rfl (m ((c : Thread nD τ).loc main_arg0) : FVec Ideal S512x2048 .f32)) := by
  refine (final m c).trans ?_
  rw [V_main_arg1, show V m c main_v2 = stackC rfl (m ((c : Thread nD τ).loc main_arg0) : FVec Ideal S512x2048 .f32) from w_eq _]

end Cert.Kernel11Ideal.Own

namespace Cert.Reference11Ideal.Own

open Idealize.ShloMosaic Idealize.ShloMosaic.Pointwise
open Cert.Reference11Ideal Cert.Reference11Ideal.Gen Cert.Reference11Ideal.Read Cert.Ffn Cert.Mix

theorem ref_eq (w : FVec Ideal S512x2048 .f32) (dx : FVec Ideal S2048x2048 .f32) : val_main_v3 (F := Ideal) w dx = partsTA (S := 8) (K := 256) rfl dx (stackC rfl w) := by
  refine funext fun (i : S2048x512.Idx) => ?_
  rw [eq_ix2 i]
  refine Eq.trans ?_ (sum_parts (S := 8) (K := 256) rfl fun q => dx (ix2 (i 0) q) * w (ix2 (i 1) q)).symm
  pointwise [val_main_v3, val_main_v2]

end Cert.Reference11Ideal.Own

namespace Cert.Proof

open Idealize.ShloMosaic Idealize.SL.Sem

theorem frame_ref11 : quiescent_Reference11Ideal (hReference11Ideal := Cert.Reference11Ideal.Gen.facts) := fun m ρ _ =>
  (θ_run Cert.Reference11Ideal.defs _ _).mono (fun r h => ⟨fun c => (h c).2, Idealize.ShloMosaic.sem_eq_zero_of_no_sems (by decide) r.2⟩)
    (Cert.Reference11Ideal.Value.run m ρ)

/-- The call of the gradient of the memory attention's outputs computes what the reference computes. -/
theorem value11 : algebraic_Kernel11Ideal_Reference11Ideal (hKernel11Ideal := Cert.Kernel11Ideal.Gen.facts)
    (hReference11Ideal := Cert.Reference11Ideal.Gen.facts) := fun m ρ m' ρ' _ ha => by
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun r h c => ⟨(h c).1.trans ?_, (h c).2⟩) (Cert.Reference11Ideal.Value.run m' ρ')
  obtain ⟨a0, a1⟩ := ha c
  refine (Cert.Reference11Ideal.Read.val_main_v3_eq (F := Ideal) _ _).trans ((Cert.Reference11Ideal.Own.ref_eq _ _).trans ?_)
  rw [a0, a1]
  exact (Cert.Kernel11Ideal.Own.result m c).symm

end Cert.Proof
-- ==== Proof.MemOutWeightGrad.lean ====
/-
  The gradient of the memory attention's output weight: the call against its reference.
-/
module
public import proofs.«01_k».proof.Proof.Gen.Kernel12Ideal.Value
public import proofs.«01_k».proof.Proof.Gen.Reference12Ideal.Read
public import proofs.«01_k».proof.Proof.HeadGradSpec
public import proofs.«01_k».proof.Defs
public import proofs.«01_k».proof.Proof.Base

@[expose] public section

set_option maxRecDepth 20000

noncomputable section

namespace Cert.Kernel12Ideal.Own

open Idealize.ShloMosaic Idealize.ShloMosaic.TcCoe Idealize.ShloMosaic.Pointwise
open Idealize.ShloMosaic.Pipeline (Dat)
open Cert.Kernel12Ideal Cert.Kernel12Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val % 4, 0] ∧ win0_1.index t = ![t.val % 4, t.val / 4] ∧ win0_2.index t = ![t.val / 4, 0, 0] := by
  decide +kernel

/-- One step's product. -/
def step (x0 : FVec Ideal S512x512 .bf16) (x1 : FVec Ideal S512x256 .f32) (j : S512x256.Idx) : EReal :=
  ∑ k : Fin 512, x0 (ix2 k (j 0)) * x1 (ix2 k (j 1))

theorem hpay1 (x0 : FVec Ideal S512x512 .bf16) (x1 : FVec Ideal S512x256 .f32) (j : S512x256.Idx) :
    k0_pay1 (F := Ideal) x0 x1 j = 0 + step x0 x1 j := by
  rw [zero_add]
  pointwise [k0_pay1, step]

theorem hpay2 (acc : FVec Ideal S512x256 .f32) (x0 : FVec Ideal S512x512 .bf16) (x1 : FVec Ideal S512x256 .f32) (j : S512x256.Idx) :
    k0_pay2 (F := Ideal) acc x0 x1 j = acc j + step x0 x1 j := by
  pointwise [k0_pay2, step]

abbrev part (t : Fin cfg0.N) (j : S512x256.Idx) : EReal := step (iblk m c 0 t) (iblk m c 1 t) j

theorem out_eq (t : Fin cfg0.N) (h : t.val % 4 = 3) (y : S1x512x256.Idx) :
    (outsAt0 m c t.val t.isLt).1 y = (outsAt0 m c t.val t.isLt).2 (ix2 (y 1) (y 2)) := by
  rw [outsAt0_C m c t (by omega) (by omega) h]
  frame_open
  simp (disch := decide) only [↓ View.readCov_skip, ↓ View.readCov_cons_toLoadRect, ↓ View.readCov_fill]
  frame_out
  pointwise [k0_pay3]

theorem scr (t : Fin cfg0.N) (h : t.val % 4 = 3) (j : S512x256.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay1])
    (fun t h j => by
      by_cases hl : t.val % 4 = 3
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = partsGradColsA (S := 4) (K := 512) rfl rfl (V m c main_v0) (V m c main_arg1) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem o_eq : StableHlo.after hostOps0 W (Proc.devRef .tc main_v0) = (W (Proc.devRef .tc main_arg0) : FVec Ideal S2048x512 .f32) := by
  refine funext fun (i : S2048x512.Idx) => ?_
  show ent S2048x512 (StableHlo.after hostOps0 W (Proc.devRef .tc main_v0)) i = ent S2048x512 (W (Proc.devRef .tc main_arg0)) i
  unfold ent
  after_reads_at

end Host

/-- The program's result. -/
theorem result : (dats m 0 c).arrAt 2 cfg0.N = partsGradColsA (S := 4) (K := 512) rfl rfl (m ((c : Thread nD τ).loc main_arg0) : FVec Ideal S2048x512 .f32) (m ((c : Thread nD τ).loc main_arg1) : FVec Ideal S2048x2048 .f32) := by
  refine (final m c).trans ?_
  rw [V_main_arg1, show V m c main_v0 = (m ((c : Thread nD τ).loc main_arg0) : FVec Ideal S2048x512 .f32) from o_eq _]

end Cert.Kernel12Ideal.Own

namespace Cert.Reference12Ideal.Own

open Idealize.ShloMosaic Idealize.ShloMosaic.Pointwise
open Cert.Reference12Ideal Cert.Reference12Ideal.Gen Cert.Reference12Ideal.Read Cert.Ffn Cert.Mix

theorem ref_eq (o : FVec Ideal S2048x512 .f32) (dx : FVec Ideal S2048x2048 .f32) : val_main_v6 (F := Ideal) o dx = partsGradColsA (S := 4) (K := 512) rfl rfl o dx := by
  refine funext fun (i : S8x512x256.Idx) => ?_
  rw [eq_ix3 i]
  refine Eq.trans ?_ (sum_parts (S := 4) (K := 512) rfl fun q => o (ix2 q (i 1)) * dx (ix2 q (hcol rfl (i 0) (i 2)))).symm
  pointwise [val_main_v6, val_main_v5, val_main_v4, val_main_v3, val_main_v2]
  exact Finset.sum_congr rfl fun k _ => (mul_comm _ _).trans (congrArg (fun q => o (ix2 k (i 1)) * dx (ix2 k q))
    (Fin.ext (by show (i 0).val * 256 + (i 2).val = 256 * (i 0).val + (i 2).val; omega)))

end Cert.Reference12Ideal.Own

namespace Cert.Proof

open Idealize.ShloMosaic Idealize.SL.Sem

theorem frame_ref12 : quiescent_Reference12Ideal (hReference12Ideal := Cert.Reference12Ideal.Gen.facts) := fun m ρ _ =>
  (θ_run Cert.Reference12Ideal.defs _ _).mono (fun r h => ⟨fun c => (h c).2, Idealize.ShloMosaic.sem_eq_zero_of_no_sems (by decide) r.2⟩)
    (Cert.Reference12Ideal.Value.run m ρ)

/-- The call of the gradient of the memory attention's output weight computes what the reference computes. -/
theorem value12 : algebraic_Kernel12Ideal_Reference12Ideal (hKernel12Ideal := Cert.Kernel12Ideal.Gen.facts)
    (hReference12Ideal := Cert.Reference12Ideal.Gen.facts) := fun m ρ m' ρ' _ ha => by
  refine ⟨fun c => (Cert.Kernel12Ideal.Gen.dats m 0 c).arrAt 2 Cert.Kernel12Ideal.cfg0.N, Cert.Kernel12Ideal.Value.run_blocks m ρ, ?_⟩
  refine (θ_run Cert.Reference12Ideal.defs _ _).mono (fun r h c => ⟨(h c).1.trans ?_, (h c).2⟩) (Cert.Reference12Ideal.Value.run m' ρ')
  obtain ⟨a0, a1⟩ := ha c
  refine (Cert.Reference12Ideal.Read.val_main_v6_eq (F := Ideal) _ _).trans ((Cert.Reference12Ideal.Own.ref_eq _ _).trans ?_)
  rw [a0, a1]
  exact (Cert.Kernel12Ideal.Own.result m c).symm

end Cert.Proof
-- ==== Proof.MemQueryGrad.lean ====
/-
  The gradient of the rows that enter the memory attention's query projection: the call against its reference.
-/
module
public import proofs.«01_k».proof.Proof.Gen.Kernel13Ideal.Value
public import proofs.«01_k».proof.Proof.Gen.Reference13Ideal.Read
public import proofs.«01_k».proof.Proof.HeadGradSpec
public import proofs.«01_k».proof.Defs
public import proofs.«01_k».proof.Proof.Base

@[expose] public section

set_option maxRecDepth 20000

noncomputable section

namespace Cert.Kernel13Ideal.Own

open Idealize.ShloMosaic Idealize.ShloMosaic.TcCoe Idealize.ShloMosaic.Pointwise
open Idealize.ShloMosaic.Pipeline (Dat)
open Cert.Kernel13Ideal Cert.Kernel13Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val % 4, t.val / 8, 0] ∧ win0_1.index t = ![t.val / 4 % 2, t.val % 4] ∧ win0_2.index t = ![t.val / 8, t.val / 4 % 2] := by
  decide +kernel

/-- One step's product. -/
def step (x0 : FVec Ideal S1x512x128 .f32) (x1 : FVec Ideal S1024x128 .bf16) (j : S512x1024.Idx) : EReal :=
  ∑ k : Fin 128, x0 (ix3 0 (j 0) k) * x1 (ix2 (j 1) k)

theorem hpay1 (x0 : FVec Ideal S1x512x128 .f32) (x1 : FVec Ideal S1024x128 .bf16) (j : S512x1024.Idx) :
    k0_pay1 (F := Ideal) x0 x1 j = 0 + step x0 x1 j := by
  rw [zero_add]
  pointwise [k0_pay1, step]

theorem hpay2 (acc : FVec Ideal S512x1024 .f32) (x0 : FVec Ideal S1x512x128 .f32) (x1 : FVec Ideal S1024x128 .bf16) (j : S512x1024.Idx) :
    k0_pay2 (F := Ideal) acc x0 x1 j = acc j + step x0 x1 j := by
  pointwise [k0_pay2, step]

abbrev part (t : Fin cfg0.N) (j : S512x1024.Idx) : EReal := step (iblk m c 0 t) (iblk m c 1 t) j

theorem out_eq (t : Fin cfg0.N) (h : t.val % 4 = 3) (y : S512x1024.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out

theorem scr (t : Fin cfg0.N) (h : t.val % 4 = 3) (j : S512x1024.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay1])
    (fun t h j => by
      by_cases hl : t.val % 4 = 3
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = headsBackA (S := 4) (K := 128) rfl (V m c main_arg1) (V m c main_v0) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem w_eq : StableHlo.after hostOps0 W (Proc.devRef .tc main_v0) = (W (Proc.devRef .tc main_arg0) : FVec Ideal S2048x512 .f32) := by
  refine funext fun (i : S2048x512.Idx) => ?_
  show ent S2048x512 (StableHlo.after hostOps0 W (Proc.devRef .tc main_v0)) i = ent S2048x512 (W (Proc.devRef .tc main_arg0)) i
  unfold ent
  after_reads_at

end Host

/-- The program's result. -/
theorem result : (dats m 0 c).arrAt 2 cfg0.N = headsBackA (S := 4) (K := 128) rfl (m ((c : Thread nD τ).loc main_arg1) : FVec Ideal S4x2048x128 .f32) (m ((c : Thread nD τ).loc main_arg0) : FVec Ideal S2048x512 .f32) := by
  refine (final m c).trans ?_
  rw [V_main_arg1, show V m c main_v0 = (m ((c : Thread nD τ).loc main_arg0) : FVec Ideal S2048x512 .f32) from w_eq _]

end Cert.Kernel13Ideal.Own

namespace Cert.Reference13Ideal.Own

open Idealize.ShloMosaic Idealize.ShloMosaic.Pointwise
open Cert.Reference13Ideal Cert.Reference13Ideal.Gen Cert.Reference13Ideal.Read Cert.Ffn Cert.Mix

theorem ref_eq (w : FVec Ideal S2048x512 .f32) (d : FVec Ideal S4x2048x128 .f32) : val_main_v6 (F := Ideal) w d = headsBackA (S := 4) (K := 128) rfl d w := by
  refine funext fun (i : S2048x2048.Idx) => ?_
  rw [eq_ix2 i]
  refine Eq.trans ?_ (sum_heads (S := 4) (K := 128) rfl fun s k q => d (ix3 s (i 0) k) * w (ix2 (i 1) q)).symm
  pointwise [val_main_v6, val_main_v5, val_main_v4]

end Cert.Reference13Ideal.Own

namespace Cert.Proof

open Idealize.ShloMosaic Idealize.SL.Sem

theorem frame_ref13 : quiescent_Reference13Ideal (hReference13Ideal := Cert.Reference13Ideal.Gen.facts) := fun m ρ _ =>
  (θ_run Cert.Reference13Ideal.defs _ _).mono (fun r h => ⟨fun c => (h c).2, Idealize.ShloMosaic.sem_eq_zero_of_no_sems (by decide) r.2⟩)
    (Cert.Reference13Ideal.Value.run m ρ)

/-- The call of the gradient of the memory attention's query rows computes what the reference computes. -/
theorem value13 : algebraic_Kernel13Ideal_Reference13Ideal (hKernel13Ideal := Cert.Kernel13Ideal.Gen.facts)
    (hReference13Ideal := Cert.Reference13Ideal.Gen.facts) := fun m ρ m' ρ' _ ha => by
  refine ⟨fun c => (Cert.Kernel13Ideal.Gen.dats m 0 c).arrAt 2 Cert.Kernel13Ideal.cfg0.N, Cert.Kernel13Ideal.Value.run_blocks m ρ, ?_⟩
  refine (θ_run Cert.Reference13Ideal.defs _ _).mono (fun r h c => ⟨(h c).1.trans ?_, (h c).2⟩) (Cert.Reference13Ideal.Value.run m' ρ')
  obtain ⟨a0, a1⟩ := ha c
  refine (Cert.Reference13Ideal.Read.val_main_v6_eq (F := Ideal) _ _).trans ((Cert.Reference13Ideal.Own.ref_eq _ _).trans ?_)
  rw [a0, a1]
  exact (Cert.Kernel13Ideal.Own.result m c).symm

end Cert.Proof
-- ==== Proof.MemQueryWeightGrad.lean ====
/-
  The gradient of the memory attention's query weight: the call against its reference.
-/
module
public import proofs.«01_k».proof.Proof.Gen.Kernel14Ideal.Value
public import proofs.«01_k».proof.Proof.Gen.Reference14Ideal.Read
public import proofs.«01_k».proof.Proof.HeadGradSpec
public import proofs.«01_k».proof.Defs
public import proofs.«01_k».proof.Proof.Base

@[expose] public section

set_option maxRecDepth 20000

noncomputable section

namespace Cert.Kernel14Ideal.Own

open Idealize.ShloMosaic Idealize.ShloMosaic.TcCoe Idealize.ShloMosaic.Pointwise
open Idealize.ShloMosaic.Pipeline (Dat)
open Cert.Kernel14Ideal Cert.Kernel14Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val % 4, t.val / 16] ∧ win0_1.index t = ![t.val / 4 % 4, t.val % 4, 0] ∧ win0_2.index t = ![t.val / 16, t.val / 4 % 4] := by
  decide +kernel

/-- One step's product. -/
def step (x0 : FVec Ideal S512x1024 .bf16) (x1 : FVec Ideal S1x512x128 .f32) (j : S1024x128.Idx) : EReal :=
  ∑ k : Fin 512, x0 (ix2 k (j 0)) * x1 (ix3 0 k (j 1))

theorem hpay1 (x0 : FVec Ideal S512x1024 .bf16) (x1 : FVec Ideal S1x512x128 .f32) (j : S1024x128.Idx) :
    k0_pay1 (F := Ideal) x0 x1 j = 0 + step x0 x1 j := by
  rw [zero_add]
  pointwise [k0_pay1, step]

theorem hpay2 (acc : FVec Ideal S1024x128 .f32) (x0 : FVec Ideal S512x1024 .bf16) (x1 : FVec Ideal S1x512x128 .f32) (j : S1024x128.Idx) :
    k0_pay2 (F := Ideal) acc x0 x1 j = acc j + step x0 x1 j := by
  pointwise [k0_pay2, step]

abbrev part (t : Fin cfg0.N) (j : S1024x128.Idx) : EReal := step (iblk m c 0 t) (iblk m c 1 t) j

theorem out_eq (t : Fin cfg0.N) (h : t.val % 4 = 3) (y : S1024x128.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out
  pointwise [k0_pay3]

theorem scr (t : Fin cfg0.N) (h : t.val % 4 = 3) (j : S1024x128.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay1])
    (fun t h j => by
      by_cases hl : t.val % 4 = 3
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = partsGradHeadsA (S := 4) (K := 512) rfl memHead memCol (V m c main_v0) (V m c main_arg1) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem h_eq : StableHlo.after hostOps0 W (Proc.devRef .tc main_v0) = (W (Proc.devRef .tc main_arg0) : FVec Ideal S2048x2048 .f32) := by
  refine funext fun (i : S2048x2048.Idx) => ?_
  show ent S2048x2048 (StableHlo.after hostOps0 W (Proc.devRef .tc main_v0)) i = ent S2048x2048 (W (Proc.devRef .tc main_arg0)) i
  unfold ent
  after_reads_at

end Host

/-- The program's result. -/
theorem result : (dats m 0 c).arrAt 2 cfg0.N = partsGradHeadsA (S := 4) (K := 512) rfl memHead memCol (m ((c : Thread nD τ).loc main_arg0) : FVec Ideal S2048x2048 .f32) (m ((c : Thread nD τ).loc main_arg1) : FVec Ideal S4x2048x128 .f32) := by
  refine (final m c).trans ?_
  rw [V_main_arg1, show V m c main_v0 = (m ((c : Thread nD τ).loc main_arg0) : FVec Ideal S2048x2048 .f32) from h_eq _]

end Cert.Kernel14Ideal.Own

namespace Cert.Reference14Ideal.Own

open Idealize.ShloMosaic Idealize.ShloMosaic.Pointwise
open Cert.Reference14Ideal Cert.Reference14Ideal.Gen Cert.Reference14Ideal.Read Cert.Ffn Cert.Mix

theorem ref_eq (x : FVec Ideal S2048x2048 .f32) (d : FVec Ideal S4x2048x128 .f32) : val_main_v8 (F := Ideal) x d = partsGradHeadsA (S := 4) (K := 512) rfl memHead memCol x d := by
  refine funext fun (i : S2048x512.Idx) => ?_
  rw [eq_ix2 i]
  refine Eq.trans ?_ (sum_parts (S := 4) (K := 512) rfl fun q => x (ix2 q (i 0)) * d (ix3 (memHead (i 1)) q (memCol (i 1)))).symm
  pointwise [val_main_v8, val_main_v7, val_main_v6, val_main_v5, val_main_v4]
  exact Finset.sum_congr rfl fun k _ => mul_comm _ _

end Cert.Reference14Ideal.Own

namespace Cert.Proof

open Idealize.ShloMosaic Idealize.SL.Sem

theorem frame_ref14 : quiescent_Reference14Ideal (hReference14Ideal := Cert.Reference14Ideal.Gen.facts) := fun m ρ _ =>
  (θ_run Cert.Reference14Ideal.defs _ _).mono (fun r h => ⟨fun c => (h c).2, Idealize.ShloMosaic.sem_eq_zero_of_no_sems (by decide) r.2⟩)
    (Cert.Reference14Ideal.Value.run m ρ)

/-- The call of the gradient of the memory attention's query weight computes what the reference computes. -/
theorem value14 : algebraic_Kernel14Ideal_Reference14Ideal (hKernel14Ideal := Cert.Kernel14Ideal.Gen.facts)
    (hReference14Ideal := Cert.Reference14Ideal.Gen.facts) := fun m ρ m' ρ' _ ha => by
  refine ⟨fun c => (Cert.Kernel14Ideal.Gen.dats m 0 c).arrAt 2 Cert.Kernel14Ideal.cfg0.N, Cert.Kernel14Ideal.Value.run_blocks m ρ, ?_⟩
  refine (θ_run Cert.Reference14Ideal.defs _ _).mono (fun r h c => ⟨(h c).1.trans ?_, (h c).2⟩) (Cert.Reference14Ideal.Value.run m' ρ')
  obtain ⟨a0, a1⟩ := ha c
  refine (Cert.Reference14Ideal.Read.val_main_v8_eq (F := Ideal) _ _).trans ((Cert.Reference14Ideal.Own.ref_eq _ _).trans ?_)
  rw [a0, a1]
  exact (Cert.Kernel14Ideal.Own.result m c).symm

end Cert.Proof
-- ==== Proof.LatKvWeightGrad.lean ====
/-
  The gradient of the latent attention's key and value weight: the call against its reference.
-/
module
public import proofs.«01_k».proof.Proof.Gen.Kernel15Ideal.Value
public import proofs.«01_k».proof.Proof.Gen.Reference15Ideal.Read
public import proofs.«01_k».proof.Proof.HeadGradSpec
public import proofs.«01_k».proof.Defs
public import proofs.«01_k».proof.Proof.Base

@[expose] public section

set_option maxRecDepth 20000

noncomputable section

namespace Cert.Kernel15Ideal.Own

open Idealize.ShloMosaic Idealize.ShloMosaic.TcCoe Idealize.ShloMosaic.Pointwise
open Idealize.ShloMosaic.Pipeline (Dat)
open Cert.Kernel15Ideal Cert.Kernel15Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val % 4, 0] ∧ win0_1.index t = ![t.val / 4, t.val % 4, 0] ∧ win0_2.index t = ![t.val / 4, 0, 0] := by
  decide +kernel

/-- One step's product. -/
def step (x0 : FVec Ideal S512x256 .bf16) (x1 : FVec Ideal S1x512x256 .f32) (j : S256x256.Idx) : EReal :=
  ∑ k : Fin 512, x0 (ix2 k (j 0)) * x1 (ix3 0 k (j 1))

theorem hpay1 (x0 : FVec Ideal S512x256 .bf16) (x1 : FVec Ideal S1x512x256 .f32) (j : S256x256.Idx) :
    k0_pay1 (F := Ideal) x0 x1 j = 0 + step x0 x1 j := by
  rw [zero_add]
  pointwise [k0_pay1, step]

theorem hpay2 (acc : FVec Ideal S256x256 .f32) (x0 : FVec Ideal S512x256 .bf16) (x1 : FVec Ideal S1x512x256 .f32) (j : S256x256.Idx) :
    k0_pay2 (F := Ideal) acc x0 x1 j = acc j + step x0 x1 j := by
  pointwise [k0_pay2, step]

abbrev part (t : Fin cfg0.N) (j : S256x256.Idx) : EReal := step (iblk m c 0 t) (iblk m c 1 t) j

theorem out_eq (t : Fin cfg0.N) (h : t.val % 4 = 3) (y : S1x256x256.Idx) :
    (outsAt0 m c t.val t.isLt).1 y = (outsAt0 m c t.val t.isLt).2 (ix2 (y 1) (y 2)) := by
  rw [outsAt0_C m c t (by omega) (by omega) h]
  frame_open
  simp (disch := decide) only [↓ View.readCov_skip, ↓ View.readCov_cons_toLoadRect, ↓ View.readCov_fill]
  frame_out
  pointwise [k0_pay3]

theorem scr (t : Fin cfg0.N) (h : t.val % 4 = 3) (j : S256x256.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay1])
    (fun t h j => by
      by_cases hl : t.val % 4 = 3
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = partsGradSlabsA (S := 4) (K := 512) rfl (V m c main_v0) (V m c main_arg1) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem c_eq : StableHlo.after hostOps0 W (Proc.devRef .tc main_v0) = (W (Proc.devRef .tc main_arg0) : FVec Ideal S2048x256 .f32) := by
  refine funext fun (i : S2048x256.Idx) => ?_
  show ent S2048x256 (StableHlo.after hostOps0 W (Proc.devRef .tc main_v0)) i = ent S2048x256 (W (Proc.devRef .tc main_arg0)) i
  unfold ent
  after_reads_at

end Host

/-- The program's result. -/
theorem result : (dats m 0 c).arrAt 2 cfg0.N = partsGradSlabsA (S := 4) (K := 512) rfl (m ((c : Thread nD τ).loc main_arg0) : FVec Ideal S2048x256 .f32) (m ((c : Thread nD τ).loc main_arg1) : FVec Ideal S8x2048x256 .f32) := by
  refine (final m c).trans ?_
  rw [V_main_arg1, show V m c main_v0 = (m ((c : Thread nD τ).loc main_arg0) : FVec Ideal S2048x256 .f32) from c_eq _]

end Cert.Kernel15Ideal.Own

namespace Cert.Reference15Ideal.Own

open Idealize.ShloMosaic Idealize.ShloMosaic.Pointwise
open Cert.Reference15Ideal Cert.Reference15Ideal.Gen Cert.Reference15Ideal.Read Cert.Ffn Cert.Mix

theorem ref_eq (x : FVec Ideal S2048x256 .f32) (d : FVec Ideal S8x2048x256 .f32) : val_main_v10 (F := Ideal) x d = partsGradSlabsA (S := 4) (K := 512) rfl x d := by
  refine funext fun (i : S8x256x256.Idx) => ?_
  rw [eq_ix3 i]
  refine Eq.trans ?_ (sum_parts (S := 4) (K := 512) rfl fun q => x (ix2 q (i 1)) * d (ix3 (i 0) q (i 2))).symm
  pointwise [val_main_v10, val_main_v9, val_main_v8, val_main_v7, val_main_v6, val_main_v5, val_main_v4]
  exact Finset.sum_congr rfl fun k _ => mul_comm _ _

end Cert.Reference15Ideal.Own

namespace Cert.Proof

open Idealize.ShloMosaic Idealize.SL.Sem

theorem frame_ref15 : quiescent_Reference15Ideal (hReference15Ideal := Cert.Reference15Ideal.Gen.facts) := fun m ρ _ =>
  (θ_run Cert.Reference15Ideal.defs _ _).mono (fun r h => ⟨fun c => (h c).2, Idealize.ShloMosaic.sem_eq_zero_of_no_sems (by decide) r.2⟩)
    (Cert.Reference15Ideal.Value.run m ρ)

/-- The call of the gradient of the latent attention's key and value weight computes what the reference computes. -/
theorem value15 : algebraic_Kernel15Ideal_Reference15Ideal (hKernel15Ideal := Cert.Kernel15Ideal.Gen.facts)
    (hReference15Ideal := Cert.Reference15Ideal.Gen.facts) := fun m ρ m' ρ' _ ha => by
  refine ⟨fun c => (Cert.Kernel15Ideal.Gen.dats m 0 c).arrAt 2 Cert.Kernel15Ideal.cfg0.N, Cert.Kernel15Ideal.Value.run_blocks m ρ, ?_⟩
  refine (θ_run Cert.Reference15Ideal.defs _ _).mono (fun r h c => ⟨(h c).1.trans ?_, (h c).2⟩) (Cert.Reference15Ideal.Value.run m' ρ')
  obtain ⟨a0, a1⟩ := ha c
  refine (Cert.Reference15Ideal.Read.val_main_v10_eq (F := Ideal) _ _).trans ((Cert.Reference15Ideal.Own.ref_eq _ _).trans ?_)
  rw [a0, a1]
  exact (Cert.Kernel15Ideal.Own.result m c).symm

end Cert.Proof
-- ==== Proof.LatQueryGrad.lean ====
/-
  The gradient of the rows that enter the latent attention's query projection: the call against its reference.
-/
module
public import proofs.«01_k».proof.Proof.Gen.Kernel16Ideal.Value
public import proofs.«01_k».proof.Proof.Gen.Reference16Ideal.Read
public import proofs.«01_k».proof.Proof.HeadGradSpec
public import proofs.«01_k».proof.Defs
public import proofs.«01_k».proof.Proof.Base

@[expose] public section

set_option maxRecDepth 20000

noncomputable section

namespace Cert.Kernel16Ideal.Own

open Idealize.ShloMosaic Idealize.ShloMosaic.TcCoe Idealize.ShloMosaic.Pointwise
open Idealize.ShloMosaic.Pipeline (Dat)
open Cert.Kernel16Ideal Cert.Kernel16Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![2 * (t.val % 4), t.val / 4, 0] ∧ win0_1.index t = ![2 * (t.val % 4) + 1, t.val / 4, 0] ∧ win0_2.index t = ![2 * (t.val % 4), 0, 0]
    ∧ win0_3.index t = ![2 * (t.val % 4) + 1, 0, 0] ∧ win0_4.index t = ![t.val / 4, 0] := by
  decide +kernel

/-- One step's product. -/
def step (x0 : FVec Ideal S1x512x192 .f32) (x1 : FVec Ideal S1x512x192 .f32) (x2 : FVec Ideal S1x192x512 .bf16) (x3 : FVec Ideal S1x192x512 .bf16) (j : S512x512.Idx) : EReal :=
  (∑ k : Fin 192, x0 (ix3 0 (j 0) k) * x2 (ix3 0 k (j 1))) + ∑ k : Fin 192, x1 (ix3 0 (j 0) k) * x3 (ix3 0 k (j 1))

theorem hpay1 (x0 : FVec Ideal S1x512x192 .f32) (x1 : FVec Ideal S1x512x192 .f32) (x2 : FVec Ideal S1x192x512 .bf16) (x3 : FVec Ideal S1x192x512 .bf16) (j : S512x512.Idx) :
    k0_pay1 (F := Ideal) x0 x2 x1 x3 j = 0 + step x0 x1 x2 x3 j := by
  rw [zero_add]
  pointwise [k0_pay1, step]

theorem hpay2 (acc : FVec Ideal S512x512 .f32) (x0 : FVec Ideal S1x512x192 .f32) (x1 : FVec Ideal S1x512x192 .f32) (x2 : FVec Ideal S1x192x512 .bf16) (x3 : FVec Ideal S1x192x512 .bf16) (j : S512x512.Idx) :
    k0_pay2 (F := Ideal) acc x0 x2 x1 x3 j = acc j + step x0 x1 x2 x3 j := by
  pointwise [k0_pay2, step]

abbrev part (t : Fin cfg0.N) (j : S512x512.Idx) : EReal := step (iblk m c 0 t) (iblk m c 1 t) (iblk m c 2 t) (iblk m c 3 t) j

theorem out_eq (t : Fin cfg0.N) (h : t.val % 4 = 3) (y : S512x512.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out

theorem scr (t : Fin cfg0.N) (h : t.val % 4 = 3) (j : S512x512.Idx) :
    (outsAt0 m c t.val t.isLt).2 j = ∑ s : Fin 4, part m c ⟨4 * (t.val / 4) + s.val, Pipeline.run_point_lt_of_flush t h s⟩ j := by
  rw [Pipeline.eq_sum_fin_of_reset_step_apply_of_flush (fun n h => (outsAt0 m c n h).2) 4 (fun _ => 0) (fun t j => part m c t j)
    (fun t h j => by rw [outsAt0_A m c t h (by omega) (by omega)]; frame_out; rw [hpay1])
    (fun t h j => by
      by_cases hl : t.val % 4 = 3
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 4 cfg0.N = slabsA (S := 8) (K := 192) (V m c main_arg1) (V m c main_v2) := by
  refine (dats m 0 c).arrAt_eq_of_covers 4 _ (by decide +kernel) fun t hf y => ?_
  have hl := (flush0_4 t).mp hf
  blk_simp
  rw [after0_4]
  refine (out_eq m c t hl y).trans ((scr m c t hl _).trans ?_)
  refine Eq.trans (Fin.sum_fin_congr fun s => ?_) (sum_pairs_eight fun j => ∑ k, slabs (V m c main_arg1) j (((cfg0.win 4).blk t).view.emb y 0) k * slabs (V m c main_v2) j k (((cfg0.win 4).blk t).view.emb y 1))
  pointwise [step, part, slabs]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem w_eq_at (j : Fin 8) (f : Fin 192) (k : Fin 512) :
    ent S8x192x512 (StableHlo.after hostOps0 W (Proc.devRef .tc main_v2)) (ix3 j f k)
      = ent S512x1536 (W (Proc.devRef .tc main_arg0)) (ix2 k (hcol rfl j f)) := by
  unfold ent
  after_reads_at
  exact congrArg _ (congrArg _ (Fin.ext (by show j.val * 192 + _ = 192 * j.val + _; omega)))

theorem w_eq : StableHlo.after hostOps0 W (Proc.devRef .tc main_v2) = stackCT rfl (W (Proc.devRef .tc main_arg0)) := by
  refine funext fun (i : S8x192x512.Idx) => ?_
  rw [eq_ix3 i]
  exact w_eq_at W _ _ _

end Host

/-- The program's result. -/
theorem result : (dats m 0 c).arrAt 4 cfg0.N = slabsA (S := 8) (K := 192) (m ((c : Thread nD τ).loc main_arg1) : FVec Ideal S8x2048x192 .f32) (stackCT rfl (m ((c : Thread nD τ).loc main_arg0) : FVec Ideal S512x1536 .f32)) := by
  refine (final m c).trans ?_
  rw [V_main_arg1, show V m c main_v2 = stackCT rfl (m ((c : Thread nD τ).loc main_arg0) : FVec Ideal S512x1536 .f32) from w_eq _]

end Cert.Kernel16Ideal.Own

namespace Cert.Reference16Ideal.Own

open Idealize.ShloMosaic Idealize.ShloMosaic.Pointwise
open Cert.Reference16Ideal Cert.Reference16Ideal.Gen Cert.Reference16Ideal.Read Cert.Ffn Cert.Mix

theorem ref_eq (w : FVec Ideal S512x1536 .f32) (d : FVec Ideal S8x2048x192 .f32) : val_main_v6 (F := Ideal) w d = slabsA (S := 8) (K := 192) d (stackCT rfl w) := by
  refine funext fun (i : S2048x512.Idx) => ?_
  rw [eq_ix2 i]
  refine Eq.trans ?_ (sum_heads (S := 8) (K := 192) rfl fun s k q => d (ix3 s (i 0) k) * w (ix2 (i 1) q)).symm
  pointwise [val_main_v6, val_main_v5, val_main_v4]

end Cert.Reference16Ideal.Own

namespace Cert.Proof

open Idealize.ShloMosaic Idealize.SL.Sem

theorem frame_ref16 : quiescent_Reference16Ideal (hReference16Ideal := Cert.Reference16Ideal.Gen.facts) := fun m ρ _ =>
  (θ_run Cert.Reference16Ideal.defs _ _).mono (fun r h => ⟨fun c => (h c).2, Idealize.ShloMosaic.sem_eq_zero_of_no_sems (by decide) r.2⟩)
    (Cert.Reference16Ideal.Value.run m ρ)

/-- The call of the gradient of the latent attention's query rows computes what the reference computes. -/
theorem value16 : algebraic_Kernel16Ideal_Reference16Ideal (hKernel16Ideal := Cert.Kernel16Ideal.Gen.facts)
    (hReference16Ideal := Cert.Reference16Ideal.Gen.facts) := fun m ρ m' ρ' _ ha => by
  refine ⟨fun c => (Cert.Kernel16Ideal.Gen.dats m 0 c).arrAt 4 Cert.Kernel16Ideal.cfg0.N, Cert.Kernel16Ideal.Value.run_blocks m ρ, ?_⟩
  refine (θ_run Cert.Reference16Ideal.defs _ _).mono (fun r h c => ⟨(h c).1.trans ?_, (h c).2⟩) (Cert.Reference16Ideal.Value.run m' ρ')
  obtain ⟨a0, a1⟩ := ha c
  refine (Cert.Reference16Ideal.Read.val_main_v6_eq (F := Ideal) _ _).trans ((Cert.Reference16Ideal.Own.ref_eq _ _).trans ?_)
  rw [a0, a1]
  exact (Cert.Kernel16Ideal.Own.result m c).symm

end Cert.Proof
-- ==== Proof.LatKvGrad.lean ====
/-
  The gradient of the rows that enter the latent attention's key and value projection: the call against its reference.
-/
module
public import proofs.«01_k».proof.Proof.Gen.Kernel17Ideal.Value
public import proofs.«01_k».proof.Proof.Gen.Reference17Ideal.Read
public import proofs.«01_k».proof.Proof.HeadGradSpec
public import proofs.«01_k».proof.Defs
public import proofs.«01_k».proof.Proof.Base

@[expose] public section

set_option maxRecDepth 20000

noncomputable section

namespace Cert.Kernel17Ideal.Own

open Idealize.ShloMosaic Idealize.ShloMosaic.TcCoe Idealize.ShloMosaic.Pointwise
open Idealize.ShloMosaic.Pipeline (Dat)
open Cert.Kernel17Ideal Cert.Kernel17Ideal.Gen Cert.Ffn Cert.Mix

variable (m : (ℓ : Loc nD τ sig) → Buf (Elt Ideal) ℓ) (ρ : Dev nD → PrngReg) (c : Dev nD)

/-- Which block of each array a grid point holds. -/
theorem idx : ∀ t : Fin cfg0.N, win0_0.index t = ![t.val % 8, t.val / 8, 0] ∧ win0_1.index t = ![t.val % 8, 0, 0] ∧ win0_2.index t = ![t.val / 8, 0] := by
  decide +kernel

/-- One step's product. -/
def step (x0 : FVec Ideal S1x512x256 .f32) (x1 : FVec Ideal S1x256x256 .bf16) (j : S512x256.Idx) : EReal :=
  ∑ k : Fin 256, x0 (ix3 0 (j 0) k) * x1 (ix3 0 (j 1) k)

theorem hpay1 (x0 : FVec Ideal S1x512x256 .f32) (x1 : FVec Ideal S1x256x256 .bf16) (j : S512x256.Idx) :
    k0_pay1 (F := Ideal) x0 x1 j = 0 + step x0 x1 j := by
  rw [zero_add]
  pointwise [k0_pay1, step]

theorem hpay2 (acc : FVec Ideal S512x256 .f32) (x0 : FVec Ideal S1x512x256 .f32) (x1 : FVec Ideal S1x256x256 .bf16) (j : S512x256.Idx) :
    k0_pay2 (F := Ideal) acc x0 x1 j = acc j + step x0 x1 j := by
  pointwise [k0_pay2, step]

abbrev part (t : Fin cfg0.N) (j : S512x256.Idx) : EReal := step (iblk m c 0 t) (iblk m c 1 t) j

theorem out_eq (t : Fin cfg0.N) (h : t.val % 8 = 7) (y : S512x256.Idx) :
    (outsAt0 m c t.val t.isLt).1 y = (outsAt0 m c t.val t.isLt).2 y := by
  rw [outsAt0_C m c t (by omega) (by omega) h]
  frame_open
  simp (disch := decide) only [↓ View.readCov_skip, ↓ View.readCov_cons_toLoadRect, ↓ View.readCov_fill]
  frame_out

theorem scr (t : Fin cfg0.N) (h : t.val % 8 = 7) (j : S512x256.Idx) :
    (outsAt0 m c t.val t.isLt).2 j = ∑ s : Fin 8, part m c ⟨8 * (t.val / 8) + s.val, Pipeline.run_point_lt_of_flush t h s⟩ j := by
  rw [Pipeline.eq_sum_fin_of_reset_step_apply_of_flush (fun n h => (outsAt0 m c n h).2) 8 (fun _ => 0) (fun t j => part m c t j)
    (fun t h j => by rw [outsAt0_A m c t h (by omega) (by omega)]; frame_out; rw [hpay1])
    (fun t h j => by
      by_cases hl : t.val % 8 = 7
      · rw [outsAt0_C m c t h (by omega) hl]; frame_out; simp only [read_unread_whole]; exact hpay2 ..
      · rw [outsAt0_B m c t h (by omega) hl]; frame_out; simp only [read_unread_whole]; exact hpay2 ..)
    t h j, zero_add]

theorem final : (dats m 0 c).arrAt 2 cfg0.N = slabsTA (S := 8) (K := 256) (V m c main_arg1) (V m c main_v2) := by
  refine (dats m 0 c).arrAt_eq_of_covers 2 _ (by decide +kernel) fun t hf y => ?_
  have hl := (flush0_2 t).mp hf
  blk_simp
  rw [after0_2]
  refine (out_eq m c t hl y).trans ((scr m c t hl _).trans ?_)
  refine Fin.sum_fin_congr fun s => ?_
  pointwise [step, part]
  have hs := s.isLt
  blk_point [iblk, idx ⟨_, Pipeline.run_point_lt_of_flush t hl s⟩, idx t]
  all_goals (blk_simp [idx ⟨_, Pipeline.run_point_lt_of_flush t hl s⟩, idx t]; omega)

abbrev ent (s : Shape) (x : s.Idx → EReal) (i : s.Idx) : EReal := x i

section Host
variable (W : Valuation τ sig (Elt Ideal))

theorem w_eq_at (j : Fin 8) (f : Fin 256) (k : Fin 256) :
    ent S8x256x256 (StableHlo.after hostOps0 W (Proc.devRef .tc main_v2)) (ix3 j f k)
      = ent S256x2048 (W (Proc.devRef .tc main_arg0)) (ix2 f (hcol rfl j k)) := by
  unfold ent
  after_reads_at
  exact congrArg _ (congrArg _ (Fin.ext (by show j.val * 256 + _ = 256 * j.val + _; omega)))

theorem w_eq : StableHlo.after hostOps0 W (Proc.devRef .tc main_v2) = stackC rfl (W (Proc.devRef .tc main_arg0)) := by
  refine funext fun (i : S8x256x256.Idx) => ?_
  rw [eq_ix3 i]
  exact w_eq_at W _ _ _

end Host

/-- The program's result. -/
theorem result : (dats m 0 c).arrAt 2 cfg0.N = slabsTA (S := 8) (K := 256) (m ((c : Thread nD τ).loc main_arg1) : FVec Ideal S8x2048x256 .f32) (stackC rfl (m ((c : Thread nD τ).loc main_arg0) : FVec Ideal S256x2048 .f32)) := by
  refine (final m c).trans ?_
  rw [V_main_arg1, show V m c main_v2 = stackC rfl (m ((c : Thread nD τ).loc main_arg0) : FVec Ideal S256x2048 .f32) from w_eq _]

end Cert.Kernel17Ideal.Own

namespace Cert.Reference17Ideal.Own

open Idealize.ShloMosaic Idealize.ShloMosaic.Pointwise
open Cert.Reference17Ideal Cert.Reference17Ideal.Gen Cert.Reference17Ideal.Read Cert.Ffn Cert.Mix

theorem ref_eq (w : FVec Ideal S256x2048 .f32) (d : FVec Ideal S8x2048x256 .f32) : val_main_v6 (F := Ideal) w d = slabsTA (S := 8) (K := 256) d (stackC rfl w) := by
  refine funext fun (i : S2048x256.Idx) => ?_
  rw [eq_ix2 i]
  refine Eq.trans ?_ (sum_heads (S := 8) (K := 256) rfl fun s k q => d (ix3 s (i 0) k) * w (ix2 (i 1) q)).symm
  pointwise [val_main_v6, val_main_v5, val_main_v4]

end Cert.Reference17Ideal.Own

namespace Cert.Proof

open Idealize.ShloMosaic Idealize.SL.Sem

theorem frame_ref17 : quiescent_Reference17Ideal (hReference17Ideal := Cert.Reference17Ideal.Gen.facts) := fun m ρ _ =>
  (θ_run Cert.Reference17Ideal.defs _ _).mono (fun r h => ⟨fun c => (h c).2, Idealize.ShloMosaic.sem_eq_zero_of_no_sems (by decide) r.2⟩)
    (Cert.Reference17Ideal.Value.run m ρ)

/-- The call of the gradient of the latent attention's key and value rows computes what the reference computes. -/
theorem value17 : algebraic_Kernel17Ideal_Reference17Ideal (hKernel17Ideal := Cert.Kernel17Ideal.Gen.facts)
    (hReference17Ideal := Cert.Reference17Ideal.Gen.facts) := fun m ρ m' ρ' _ ha => by
  refine ⟨fun c => (Cert.Kernel17Ideal.Gen.dats m 0 c).arrAt 2 Cert.Kernel17Ideal.cfg0.N, Cert.Kernel17Ideal.Value.run_blocks m ρ, ?_⟩
  refine (θ_run Cert.Reference17Ideal.defs _ _).mono (fun r h c => ⟨(h c).1.trans ?_, (h c).2⟩) (Cert.Reference17Ideal.Value.run m' ρ')
  obtain ⟨a0, a1⟩ := ha c
  refine (Cert.Reference17Ideal.Read.val_main_v6_eq (F := Ideal) _ _).trans ((Cert.Reference17Ideal.Own.ref_eq _ _).trans ?_)
  rw [a0, a1]
  exact (Cert.Kernel17Ideal.Own.result m c).symm

end Cert.Proof
-- ==== Proof.SoftmaxSpec.lean ====
/-
  One row of softmax attention over the extended reals: the exponentials of the scores less their greatest, their sum, and the
  weighted values, divided before or after they are added up.
-/
module
public import proofs.«01_k».proof.Proof.Base

@[expose] public section

noncomputable section

namespace Cert.Soft

open Idealize.ShloMosaic

variable {n : ℕ}

/-- The greatest of a row's scores, the exponential of a score less it, and the exponentials' sum. -/
def rowMax (s : Fin n → EReal) : EReal := (Finset.univ : Finset (Fin n)).fold max ⊥ s
def rowExp (s : Fin n → EReal) (k : Fin n) : EReal := Ideal.exp (s k - rowMax s)
def rowSum (s : Fin n → EReal) : EReal := ∑ k, rowExp s k

/-- A row's attention, divided at the end; and with each weight divided. -/
def attnRow (s v : Fin n → EReal) : EReal := Ideal.div (∑ k, rowExp s k * v k) (rowSum s)
def attnRowW (s v : Fin n → EReal) : EReal := ∑ k, v k * Ideal.div (rowExp s k) (rowSum s)

theorem rowMax_eq_sup (s : Fin n → EReal) : rowMax s = Finset.univ.sup s := rfl

theorem le_rowMax (s : Fin n → EReal) (k : Fin n) : s k ≤ rowMax s := by
  rw [rowMax_eq_sup]; exact Finset.le_sup (Finset.mem_univ k)

theorem max_bot_rowMax (s : Fin n → EReal) : max ⊥ (rowMax s) = rowMax s := max_eq_right bot_le

theorem exists_rowMax (s : Fin n → EReal) (j : Fin n) : ∃ k, s k = rowMax s := by
  obtain ⟨k, -, h⟩ := Finset.exists_mem_eq_sup Finset.univ ⟨j, Finset.mem_univ j⟩ s
  exact ⟨k, by rw [rowMax_eq_sup, h]⟩

/-- A sum times a real that is not negative. -/
theorem sum_mul_real {ι : Type*} (t : Finset ι) (f : ι → EReal) (c : ℝ) (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- With a score above −∞ and none at ∞ the exponentials are reals that are not negative, and their sum is above zero. -/
theorem rowExp_real (s : Fin n → EReal) (ht : ∀ k, s k ≠ ⊤) (j : Fin n) (hj : s j ≠ ⊥) :
    ∃ f : Fin n → ℝ, (∀ k, rowExp s k = (f k : EReal)) ∧ (∀ k, 0 ≤ f k) ∧ 0 < ∑ k, f k := by
  obtain ⟨q, hq⟩ := exists_rowMax s j
  have hb : rowMax s ≠ ⊥ := fun h => hj (le_bot_iff.mp (h ▸ le_rowMax s j))
  have hT : rowMax s ≠ ⊤ := hq ▸ ht q
  obtain ⟨r, hr⟩ : ∃ r : ℝ, rowMax s = (r : EReal) := ⟨_, (EReal.coe_toReal hT hb).symm⟩
  have key : ∀ k, ∃ y : ℝ, rowExp s k = (y : EReal) ∧ 0 ≤ y ∧ (s k ≠ ⊥ → 0 < y) := fun k => by
    by_cases hk : s k = ⊥
    · refine ⟨0, ?_, le_refl _, fun h => absurd hk h⟩
      unfold rowExp
      rw [hk, EReal.bot_sub, Ideal.exp_bot, EReal.coe_zero]
    · refine ⟨Real.exp ((s k).toReal - r), ?_, (Real.exp_pos _).le, fun _ => Real.exp_pos _⟩
      unfold rowExp
      rw [hr, ← EReal.coe_toReal (ht k) hk, ← EReal.coe_sub, Ideal.exp_coe, EReal.toReal_coe]
  choose f h1 h2 h3 using key
  exact ⟨f, h1, h2, Finset.sum_pos' (fun k _ => h2 k) ⟨j, Finset.mem_univ j, h3 j hj⟩⟩

/-- Dividing each weight or the sum at the end is the same. -/
theorem attnRow_eq (s v : Fin n → EReal) (ht : ∀ k, s k ≠ ⊤) (j : Fin n) (hj : s j ≠ ⊥) : attnRowW s v = attnRow s v := by
  obtain ⟨f, h1, h2, h3⟩ := rowExp_real s ht j hj
  have hl : rowSum s = ((∑ k, f k : ℝ) : EReal) := by
    rw [coe_sum]; exact Finset.sum_congr rfl fun k _ => h1 k
  unfold attnRow attnRowW
  rw [hl, Ideal.div_coe h3.ne', sum_mul_real _ _ _ (by positivity)]
  refine Finset.sum_congr rfl fun k _ => ?_
  rw [Ideal.div_coe h3.ne', mul_left_comm, mul_assoc]

/-- Keys whose score is −∞ past the first ones add nothing. -/
theorem attnRow_extend {r : ℕ} (s v : Fin (n + r) → EReal) (hs : ∀ k : Fin r, s (Fin.natAdd n k) = ⊥) :
    attnRow s v = attnRow (fun k : Fin n => s (Fin.castAdd r k)) (fun k => v (Fin.castAdd r k)) := by
  have hm : rowMax s = rowMax fun k : Fin n => s (Fin.castAdd r k) := by
    refine le_antisymm ?_ ?_
    · rw [rowMax_eq_sup]
      refine Finset.sup_le fun k _ => ?_
      refine Fin.addCases (fun k => ?_) (fun k => ?_) k
      · exact le_rowMax (fun k : Fin n => s (Fin.castAdd r k)) k
      · rw [hs]; exact bot_le
    · rw [rowMax_eq_sup (fun k : Fin n => s (Fin.castAdd r k))]
      exact Finset.sup_le fun k _ => le_rowMax s _
  have h0 : ∀ k : Fin r, rowExp s (Fin.natAdd n k) = 0 := fun k => by
    unfold rowExp; rw [hs, EReal.bot_sub, Ideal.exp_bot]
  have he : ∀ k : Fin n, rowExp s (Fin.castAdd r k) = rowExp (fun k : Fin n => s (Fin.castAdd r k)) k := fun k => by
    unfold rowExp; rw [hm]
  unfold attnRow rowSum
  rw [Fin.sum_univ_add, Fin.sum_univ_add]
  simp only [h0, he, zero_mul, Finset.sum_const_zero, add_zero]

theorem attnRow_congr {m : ℕ} (h : m = n) (s v : Fin n → EReal) (s' v' : Fin m → EReal) (hs : ∀ k : Fin m, s' k = s (Fin.cast h k))
    (hv : ∀ k : Fin m, v' k = v (Fin.cast h k)) : attnRow s' v' = attnRow s v := by
  subst h
  rw [show s' = s from funext hs, show v' = v from funext hv]

/-- A product of finite rows is finite, and a scale on the factors is one on the sum. -/
theorem scaled_sum (c : ℝ) (q k : Fin n → EReal) (hq : ∀ d, q d ≠ ⊤ ∧ q d ≠ ⊥) (hk : ∀ d, k d ≠ ⊤ ∧ k d ≠ ⊥) :
    ∃ y : ℝ, (∑ d, q d * (c : EReal) * k d = (y : EReal)) ∧ (∑ d, q d * k d) * (c : EReal) = (y : EReal) := by
  choose f hf using fun d => (⟨_, (EReal.coe_toReal (hq d).1 (hq d).2).symm⟩ : ∃ y : ℝ, q d = (y : EReal))
  choose g hg using fun d => (⟨_, (EReal.coe_toReal (hk d).1 (hk d).2).symm⟩ : ∃ y : ℝ, k d = (y : EReal))
  refine ⟨∑ d, f d * c * g d, ?_, ?_⟩
  · rw [coe_sum]
    exact Finset.sum_congr rfl fun d _ => by rw [hf, hg, EReal.coe_mul, EReal.coe_mul]
  · rw [Finset.sum_congr rfl fun d _ => by rw [hf, hg, ← EReal.coe_mul], ← coe_sum, ← EReal.coe_mul, Finset.sum_mul]
    exact congrArg _ (Finset.sum_congr rfl fun d _ => by ring)

theorem ofBits_neg_inf : Ideal.ofBits .f32 0xFF800000#32 = ⊥ := by simp [Ideal.ofBits, Ideal.ieee]

/-- A value whose difference with itself is zero is finite, and the two halves of a conjunction of truth values. -/
theorem ne_of_sub_self (x : EReal) (h : x - x = 0) : x ≠ ⊤ ∧ x ≠ ⊥ := by
  refine ⟨fun e => ?_, fun e => ?_⟩ <;> subst e <;> simp at h

theorem both_ones {a b : BitVec 1} (h : a &&& b = 1#1) : a = 1#1 ∧ b = 1#1 := by
  revert a b
  decide

end Cert.Soft
-- ==== Proof.MemAttn.lean ====
/-
  The memory attention: the call against its reference.
-/
module
public import proofs.«01_k».proof.Proof.Gen.Kernel18Ideal.Value
public import proofs.«01_k».proof.Proof.Gen.Reference18Ideal.Read
public import proofs.«01_k».proof.Proof.SoftmaxSpec
public import proofs.«01_k».proof.Proof.HeadGradSpec
public import proofs.«01_k».proof.Proof.Finite
public import proofs.«01_k».proof.Pre_finite18
public import proofs.«01_k».proof.Defs
public import proofs.«01_k».proof.Proof.Base

@[expose] public section

set_option maxRecDepth 20000

noncomputable section

namespace Cert.Kernel18Ideal.Own

open Idealize.ShloMosaic Idealize.ShloMosaic.TcCoe Idealize.ShloMosaic.Pointwise
open Idealize.ShloMosaic.Pipeline (Dat)
open Cert.Kernel18Ideal Cert.Kernel18Ideal.Gen Cert.Ffn Cert.Mix Cert.Soft

variable (m : (ℓ : Loc nD τ sig) → Buf (Elt Ideal) ℓ) (ρ : Dev nD → PrngReg) (c : Dev nD)

/-- Which block of each array a grid point holds. -/
theorem idx : ∀ t : Fin cfg0.N, win0_0.index t = ![t.val / 8, t.val % 8, 0] ∧ win0_1.index t = ![t.val / 8, 0, 0] ∧ win0_2.index t = ![t.val / 8, 0, 0]
    ∧ win0_3.index t = ![t.val % 8, t.val / 8] := by
  decide +kernel

theorem hpay (x0 : FVec Ideal S1x256x128 .bf16) (x1 x2 : FVec Ideal S1x256x128 .bf16) (j : S256x128.Idx) :
    k0_pay1 (F := Ideal) x0 x1 x2 j = attnRow (fun κ : Fin 256 => ∑ d : Fin 128, x0 (ix3 0 (j 0) d) * x1 (ix3 0 κ d)) (fun κ => x2 (ix3 0 κ (j 1))) := by
  pointwise [k0_pay1, attnRow, rowSum, rowExp, rowMax]
  rw [ofBits_neg_inf]

/-- The call's result, of the arrays it is launched on. -/
abbrev attn (q : FVec Ideal S4x2048x128 .f32) (k v : FVec Ideal S4x256x128 .f32) : FVec Ideal S2048x512 .f32 := fun i =>
  attnRow (fun κ : Fin 256 => ∑ d : Fin 128, q (ix3 (memHead (i 1)) (i 0) d) * k (ix3 (memHead (i 1)) κ d)) (fun κ => v (ix3 (memHead (i 1)) κ (memCol (i 1))))

theorem out_eq (x0 : FVec Ideal S1x256x128 .bf16) (x1 x2 : FVec Ideal S1x256x128 .bf16) (y : S256x128.Idx) :
    out0_3 (F := Ideal) x0 x1 x2 y = k0_pay1 (F := Ideal) x0 x1 x2 y := by
  frame_out

theorem final : (dats m 0 c).arrAt 3 cfg0.N = attn (V m c main_v2) (V m c main_v3) (V m c main_v4) := by
  refine (dats m 0 c).arrAt_eq_of_covers 3 _ (by decide +kernel) fun t hf y => ?_
  blk_simp
  rw [after0_3]
  refine (out_eq _ _ _ _).trans ((hpay _ _ _ _).trans ?_)
  refine congrArg₂ attnRow (funext fun κ => Finset.sum_congr rfl fun d _ => congrArg₂ (· * ·) ?_ ?_) (funext fun κ => ?_)
  all_goals blk_point [iblk, idx t]
  all_goals (blk_simp [idx t]; omega)

abbrev ent (s : Shape) (x : s.Idx → EReal) (i : s.Idx) : EReal := x i

/-- The scale as a number. -/
abbrev scale : EReal := Ideal.ofBits .f32 0x3DB504F3#32

theorem scale_real : ∃ r : ℝ, scale = (r : EReal) := by
  simp [scale, Ideal.ofBits, Ideal.ieee]
  exact ⟨_, rfl⟩

section Host
variable (W : Valuation τ sig (Elt Ideal))

theorem q_eq : StableHlo.after hostOps0 W (Proc.devRef .tc main_v2)
    = fun i : S4x2048x128.Idx => ent S4x2048x128 (W (Proc.devRef .tc main_arg0)) i * scale := by
  refine funext fun (i : S4x2048x128.Idx) => ?_
  show ent S4x2048x128 (StableHlo.after hostOps0 W (Proc.devRef .tc main_v2)) i = ent S4x2048x128 (W (Proc.devRef .tc main_arg0)) i * scale
  unfold ent
  after_reads_at

theorem k_eq : StableHlo.after hostOps0 W (Proc.devRef .tc main_v3) = (W (Proc.devRef .tc main_arg1) : FVec Ideal S4x256x128 .f32) := by
  refine funext fun (i : S4x256x128.Idx) => ?_
  show ent S4x256x128 (StableHlo.after hostOps0 W (Proc.devRef .tc main_v3)) i = ent S4x256x128 (W (Proc.devRef .tc main_arg1)) i
  unfold ent
  after_reads_at

theorem v_eq : StableHlo.after hostOps0 W (Proc.devRef .tc main_v4) = (W (Proc.devRef .tc main_arg2) : FVec Ideal S4x256x128 .f32) := by
  refine funext fun (i : S4x256x128.Idx) => ?_
  show ent S4x256x128 (StableHlo.after hostOps0 W (Proc.devRef .tc main_v4)) i = ent S4x256x128 (W (Proc.devRef .tc main_arg2)) i
  unfold ent
  after_reads_at

end Host

/-- The program's result. -/
theorem result : (dats m 0 c).arrAt 3 cfg0.N = attn (fun i => ent S4x2048x128 (m ((c : Thread nD τ).loc main_arg0)) i * scale)
    (m ((c : Thread nD τ).loc main_arg1) : FVec Ideal S4x256x128 .f32) (m ((c : Thread nD τ).loc main_arg2) : FVec Ideal S4x256x128 .f32) := by
  refine (final m c).trans ?_
  rw [show V m c main_v2 = _ from q_eq _, show V m c main_v3 = (m ((c : Thread nD τ).loc main_arg1) : FVec Ideal S4x256x128 .f32) from k_eq _,
    show V m c main_v4 = (m ((c : Thread nD τ).loc main_arg2) : FVec Ideal S4x256x128 .f32) from v_eq _]

end Cert.Kernel18Ideal.Own

namespace Cert.Reference18Ideal.Own

open Idealize.ShloMosaic Idealize.ShloMosaic.Pointwise
open Cert.Reference18Ideal Cert.Reference18Ideal.Gen Cert.Reference18Ideal.Read Cert.Ffn Cert.Mix Cert.Soft

/-- The scores' greatest along the keys. -/
theorem ref_max (q : FVec Ideal S4x2048x128 .f32) (k : FVec Ideal S4x256x128 .f32) (h : Fin 4) (i : Fin 2048) :
    val_main_v5 (F := Ideal) q k (ix2 h i) = rowMax fun κ : Fin 256 => val_main_v2 (F := Ideal) q k (ix3 h i κ) := by
  have e : val_main_v3 (F := Ideal) q k (ix2 h i) = rowMax fun κ : Fin 256 => val_main_v2 (F := Ideal) q k (ix3 h i κ) := by
    unfold val_main_v3
    rw [Host.reduce_eq_fold_single _ _ _ _ (by decide)]
    unfold rowMax
    pointwise [val_main_cst_0]
    rw [ofBits_neg_inf]
    refine congrArg (fun f => Finset.univ.fold max ⊥ f) (funext fun κ => congrArg (val_main_v2 (F := Ideal) q k) ?_)
    refine funext fun a => ?_
    fin_cases a <;> rfl
  rw [val_main_v5_apply, e]
  pointwise [val_main_v4, val_main_cst_1]
  rw [ofBits_neg_inf, max_bot_rowMax]

/-- The reference's result, its weights divided one by one. -/
theorem ref_rows (q : FVec Ideal S4x2048x128 .f32) (k v : FVec Ideal S4x256x128 .f32) (i : Fin 2048) (j : Fin 512) :
    val_main_v17 (F := Ideal) q k v (ix2 i j)
      = attnRowW (fun κ : Fin 256 => val_main_v2 (F := Ideal) q k (ix3 (memHead j) i κ)) (fun κ => v (ix3 (memHead j) κ (memCol j))) := by
  unfold attnRowW rowSum rowExp
  rw [← ref_max]
  pointwise [val_main_v17, val_main_v16, val_main_v15, val_main_v14, val_main_v13, val_main_v12, val_main_v11, val_main_v10, val_main_v9, val_main_v8, val_main_v7, val_main_v6,
    val_main_cst_2, memHead, memCol, zero_add]

/-- The reference's scores. -/
theorem ref_score (q : FVec Ideal S4x2048x128 .f32) (k : FVec Ideal S4x256x128 .f32) (h : Fin 4) (i : Fin 2048) (κ : Fin 256) :
    val_main_v2 (F := Ideal) q k (ix3 h i κ) = (∑ d : Fin 128, q (ix3 h i d) * k (ix3 h κ d)) * Cert.Kernel18Ideal.Own.scale := by
  pointwise [val_main_v2, val_main_v1, val_main_v0, val_main_cst]

theorem ref_apply (q : FVec Ideal S4x2048x128 .f32) (k v : FVec Ideal S4x256x128 .f32) (hq : ∀ i, q i ≠ ⊤ ∧ q i ≠ ⊥) (hk : ∀ i, k i ≠ ⊤ ∧ k i ≠ ⊥)
    (i : Fin 2048) (j : Fin 512) : val_main_v17 (F := Ideal) q k v (ix2 i j)
      = attnRow (fun κ : Fin 256 => ∑ d : Fin 128, q (ix3 (memHead j) i d) * Cert.Kernel18Ideal.Own.scale * k (ix3 (memHead j) κ d))
          (fun κ => v (ix3 (memHead j) κ (memCol j))) := by
  obtain ⟨r, hr⟩ := Cert.Kernel18Ideal.Own.scale_real
  have hs := fun κ : Fin 256 => scaled_sum r (fun d : Fin 128 => q (ix3 (memHead j) i d)) (fun d => k (ix3 (memHead j) κ d)) (fun d => hq _) (fun d => hk _)
  choose y h1 h2 using hs
  rw [ref_rows, hr, show (fun κ : Fin 256 => val_main_v2 (F := Ideal) q k (ix3 (memHead j) i κ)) = fun κ => (y κ : EReal) from
    funext fun κ => by rw [ref_score, hr]; exact h2 κ]
  refine (attnRow_eq _ _ (fun κ => EReal.coe_ne_top _) 0 (EReal.coe_ne_bot _)).trans ?_
  exact congrArg (fun s => attnRow s _) (funext fun κ => (h1 κ).symm)

theorem ref_eq (q : FVec Ideal S4x2048x128 .f32) (k v : FVec Ideal S4x256x128 .f32) (hq : ∀ i, q i ≠ ⊤ ∧ q i ≠ ⊥) (hk : ∀ i, k i ≠ ⊤ ∧ k i ≠ ⊥) :
    val_main_v17 (F := Ideal) q k v = Cert.Kernel18Ideal.Own.attn (fun i => q i * Cert.Kernel18Ideal.Own.scale) k v := by
  refine funext fun (i : S2048x512.Idx) => ?_
  rw [eq_ix2 i]
  exact ref_apply q k v hq hk (i 0) (i 1)

end Cert.Reference18Ideal.Own

namespace Cert.Proof

open Idealize.ShloMosaic Idealize.SL.Sem Cert.Soft

theorem pre_facts18 : Cert.Pre_finite18.Facts := ⟨by decide, by decide, by decide, by decide, by decide⟩

/-- The queries and keys that the precondition names are finite. -/
theorem fin_pre18 [hF : Cert.Pre_finite18.Facts] (q : FVec Ideal ⟨3, ![4, 2048, 128]⟩ .f32) (k v : FVec Ideal ⟨3, ![4, 256, 128]⟩ .f32)
    (h : Cert.Pre_finite18.fn (F := Ideal) q k v = fun _ => 1#1) : (∀ i, q i ≠ ⊤ ∧ q i ≠ ⊥) ∧ ∀ i, k i ≠ ⊤ ∧ k i ≠ ⊥ := by
  unfold Cert.Pre_finite18.fn at h
  obtain ⟨e1, e2⟩ := both_ones (congrFun h (Shape.Idx.first (s := ⟨0, ![]⟩) (by decide)))
  exact ⟨fun i => ne_of_sub_self _ (Cert.Gla.finite_of_all q _ _ _ _ _ e1 i), fun i => ne_of_sub_self _ (Cert.Gla.finite_of_all k _ _ _ _ _ e2 i)⟩

theorem frame_ref18 : quiescent_Reference18Ideal (hReference18Ideal := Cert.Reference18Ideal.Gen.facts) := fun m ρ _ =>
  (θ_run Cert.Reference18Ideal.defs _ _).mono (fun r h => ⟨fun c => (h c).2, Idealize.ShloMosaic.sem_eq_zero_of_no_sems (by decide) r.2⟩)
    (Cert.Reference18Ideal.Value.run m ρ)

/-- The memory attention's call computes what the reference computes. -/
theorem value18 : algebraic_Kernel18Ideal_Reference18Ideal_pre_finite18 (hKernel18Ideal := Cert.Kernel18Ideal.Gen.facts)
    (hReference18Ideal := Cert.Reference18Ideal.Gen.facts) (hPre_finite18 := pre_facts18) := fun m ρ m' ρ' hp ha => by
  refine ⟨fun c => (Cert.Kernel18Ideal.Gen.dats m 0 c).arrAt 3 Cert.Kernel18Ideal.cfg0.N, Cert.Kernel18Ideal.Value.run_blocks m ρ, ?_⟩
  refine (θ_run Cert.Reference18Ideal.defs _ _).mono (fun r h c => ⟨(h c).1.trans ?_, (h c).2⟩) (Cert.Reference18Ideal.Value.run m' ρ')
  obtain ⟨a0, a1, a2⟩ := ha c
  obtain ⟨hq, hk⟩ := fin_pre18 (hF := pre_facts18) _ _ _ (hp c)
  refine (Cert.Reference18Ideal.Read.val_main_v17_eq (F := Ideal) _ _ _).trans ?_
  rw [a0, a1, a2]
  exact (Cert.Reference18Ideal.Own.ref_eq _ _ _ hq hk).trans (Cert.Kernel18Ideal.Own.result m c).symm

end Cert.Proof
-- ==== Proof.LatAttn.lean ====
/-
  The latent attention: the call against its reference.
-/
module
public import proofs.«01_k».proof.Proof.Gen.Kernel19Ideal.Value
public import proofs.«01_k».proof.Proof.Gen.Reference19Ideal.Read
public import proofs.«01_k».proof.Proof.SoftmaxSpec
public import proofs.«01_k».proof.Proof.HeadGradSpec
public import proofs.«01_k».proof.Proof.Finite
public import proofs.«01_k».proof.Pre_finite19
public import proofs.«01_k».proof.Defs
public import proofs.«01_k».proof.Proof.Base

@[expose] public section

set_option maxRecDepth 20000

noncomputable section

namespace Cert.Kernel19Ideal.Own

open Idealize.ShloMosaic Idealize.ShloMosaic.TcCoe Idealize.ShloMosaic.Pointwise
open Idealize.ShloMosaic.Pipeline (Dat)
open Cert.Kernel19Ideal Cert.Kernel19Ideal.Gen Cert.Ffn Cert.Mix Cert.Soft

variable (m : (ℓ : Loc nD τ sig) → Buf (Elt Ideal) ℓ) (ρ : Dev nD → PrngReg) (c : Dev nD)

/-- Which block of each array a grid point holds. -/
theorem idx : ∀ t : Fin cfg0.N, win0_0.index t = ![t.val / 4, t.val % 4, 0] ∧ win0_1.index t = ![t.val / 4, 0, 0] ∧ win0_2.index t = ![t.val / 4, 0, 0]
    ∧ win0_3.index t = ![t.val % 4, t.val / 4] := by
  decide +kernel

/-- The mask's constant reads as minus infinity. -/
theorem mask_bot : (Named.named κ "mask" 0xF149F2CA#32 : Ideal .f32) = (⊥ : EReal) := IdealRules.named_const.ideal_named_scalar _ _ _ _ rfl

/-- Comparing two chunks as words is comparing them as numbers. -/
theorem chunk_le : ∀ a b : Fin 32, IntOp.cmpi .sle (BitVec.ofNat 32 a.val) (BitVec.ofNat 32 b.val) = if a.val ≤ b.val then 1#1 else 0#1 := by
  decide +kernel

/-- A score kept where the key's chunk is not after the query's. -/
theorem select_chunk (a b : ℕ) (ha : a < 32) (hb : b < 32) (s : EReal) :
    Scalar.select (IntOp.cmpi .sle (BitVec.ofNat 32 a) (BitVec.ofNat 32 b)) s (⊥ : EReal) = if a ≤ b then s else ⊥ := by
  rw [chunk_le ⟨a, ha⟩ ⟨b, hb⟩]
  by_cases h : a ≤ b <;> simp [h, Scalar.select]

/-- The chunk a query of the block lies in, as the body takes it. -/
theorem query_chunk (r x : Fin 512) : k0_pay6 (ix2 r x) = BitVec.ofNat 32 (r.val / 64) := by
  pointwise [k0_pay6]
  revert r
  decide +kernel

/-- The chunk a key of the query's own block lies in, as the body takes it. -/
theorem key_chunk (r x : Fin 512) (w : BitVec 32) (hw : w = 1#32) :
    Scalar.select (IntOp.andi (IntOp.cmpi CmpIPredicate.ne (k0_pay8 (ix2 r x)) (Scalar.subi w (Scalar.extui (Scalar.cmpi CmpIPredicate.slt 64#32 0#32))))
        (IntOp.cmpi CmpIPredicate.ne (IntOp.remsi ArithUnit.vector (BitVec.ofNat 32 x.val) 64#32) 0#32))
      (IntOp.subi (k0_pay7 (ix2 r x)) 1#32) (k0_pay7 (ix2 r x)) = BitVec.ofNat 32 (x.val / 64) := by
  subst hw
  pointwise [k0_pay7, k0_pay8]
  revert x
  decide +kernel

/-- A query's scores over the first keys, those in a later chunk masked. -/
abbrev scores (n : ℕ) (hn : n ≤ 2048) (off : ℕ) (q : FVec Ideal S1x512x192 .bf16) (k : FVec Ideal S1x2048x192 .bf16) (r : Fin 512) (κ : Fin n) : EReal :=
  if κ.val / 64 ≤ (off + r.val) / 64 then ∑ d : Fin 192, q (ix3 0 r d) * k (ix3 0 ⟨κ.val, by omega⟩ d) else ⊥

/-- A block's result: each query's weighted mean of the values of the first keys. -/
abbrev rowOut (n : ℕ) (hn : n ≤ 2048) (off : ℕ) (q : FVec Ideal S1x512x192 .bf16) (k : FVec Ideal S1x2048x192 .bf16) (v : FVec Ideal S1x2048x128 .bf16)
    (r : Fin 512) (j : Fin 128) : EReal :=
  attnRow (scores n hn off q k r) (fun κ => v (ix3 0 ⟨κ.val, by omega⟩ j))

theorem out_A (t : Fin cfg0.N) (h : t.val % 4 = 0) (r : Fin 512) (j : Fin 128) :
    outsAt0 m c t.val t.isLt (ix2 r j) = rowOut 512 (by omega) 0 (iblk m c 0 t) (iblk m c 1 t) (iblk m c 2 t) r j := by
  rw [outsAt0_A m c t h (by omega) (by omega) (by omega)]
  frame_out
  unfold k0_pay1
  dsimp only
  generalize hS : select _ _ _ = S
  have e : (fun κ : Fin 512 => S (ix2 r κ)) = scores 512 (by omega) 0 (iblk m c 0 t) (iblk m c 1 t) r := funext fun κ => by
    rw [← hS]
    pointwise
    rw [key_chunk _ _ _ rfl, query_chunk, mask_bot, select_chunk _ _ (by omega) (by omega)]
    unfold scores
    rw [Nat.zero_add]
    refine if_congr Iff.rfl ?_ rfl
    pointwise [k0_pay5]
  clear hS
  unfold rowOut
  rw [← e]
  pointwise [attnRow, rowSum, rowExp, rowMax]
  rw [ofBits_neg_inf]

theorem out_B (t : Fin cfg0.N) (h : t.val % 4 = 1) (r : Fin 512) (j : Fin 128) :
    outsAt0 m c t.val t.isLt (ix2 r j) = rowOut 1024 (by omega) 512 (iblk m c 0 t) (iblk m c 1 t) (iblk m c 2 t) r j := by
  rw [outsAt0_B m c t (by omega) h (by omega) (by omega)]
  frame_out
  rw [show k0_pay11 = k0_pay6 from rfl, show k0_pay12 = k0_pay7 from rfl, show k0_pay13 = k0_pay8 from rfl]
  unfold k0_pay2
  dsimp only
  generalize hS : concatenate _ _ _ _ = S
  have e : (fun κ : Fin 1024 => S (ix2 r κ)) = scores 1024 (by omega) 512 (iblk m c 0 t) (iblk m c 1 t) r := funext fun κ => by
    rw [← hS]
    pointwise [k0_pay9, k0_pay10]
    unfold scores
    by_cases hκ : κ.val < 512
    · rw [dif_pos hκ, if_pos (by omega)]
    · rw [dif_neg hκ, key_chunk _ _ _ (by decide), query_chunk, mask_bot, select_chunk _ _ (by omega) (by omega)]
      have e : κ.val / 64 ≤ (512 + r.val) / 64 ↔ (κ.val - 512) / 64 ≤ r.val / 64 := by omega
      have f : 512 + (κ.val - 512) = κ.val := by omega
      simp only [e, f]
  clear hS
  unfold rowOut
  rw [← e]
  pointwise [attnRow, rowSum, rowExp, rowMax]
  rw [ofBits_neg_inf]

theorem out_C (t : Fin cfg0.N) (h : t.val % 4 = 2) (r : Fin 512) (j : Fin 128) :
    outsAt0 m c t.val t.isLt (ix2 r j) = rowOut 1536 (by omega) 1024 (iblk m c 0 t) (iblk m c 1 t) (iblk m c 2 t) r j := by
  rw [outsAt0_C m c t (by omega) (by omega) h (by omega)]
  frame_out
  rw [show k0_pay16 = k0_pay6 from rfl, show k0_pay17 = k0_pay7 from rfl, show k0_pay18 = k0_pay8 from rfl]
  unfold k0_pay3
  dsimp only
  generalize hS : concatenate _ _ _ _ = S
  have e : (fun κ : Fin 1536 => S (ix2 r κ)) = scores 1536 (by omega) 1024 (iblk m c 0 t) (iblk m c 1 t) r := funext fun κ => by
    rw [← hS]
    pointwise [k0_pay14, k0_pay15]
    unfold scores
    by_cases hκ : κ.val < 1024
    · rw [dif_pos hκ, if_pos (by omega)]
    · rw [dif_neg hκ, key_chunk _ _ _ (by decide), query_chunk, mask_bot, select_chunk _ _ (by omega) (by omega)]
      have e : κ.val / 64 ≤ (1024 + r.val) / 64 ↔ (κ.val - 1024) / 64 ≤ r.val / 64 := by omega
      have f : 1024 + (κ.val - 1024) = κ.val := by omega
      simp only [e, f]
  clear hS
  unfold rowOut
  rw [← e]
  pointwise [attnRow, rowSum, rowExp, rowMax]
  rw [ofBits_neg_inf]

theorem out_D (t : Fin cfg0.N) (h : t.val % 4 = 3) (r : Fin 512) (j : Fin 128) :
    outsAt0 m c t.val t.isLt (ix2 r j) = rowOut 2048 (by omega) 1536 (iblk m c 0 t) (iblk m c 1 t) (iblk m c 2 t) r j := by
  rw [outsAt0_D m c t (by omega) (by omega) (by omega) h]
  frame_out
  rw [show k0_pay21 = k0_pay6 from rfl, show k0_pay22 = k0_pay7 from rfl, show k0_pay23 = k0_pay8 from rfl]
  unfold k0_pay4
  dsimp only
  generalize hS : concatenate _ _ _ _ = S
  have e : (fun κ : Fin 2048 => S (ix2 r κ)) = scores 2048 (by omega) 1536 (iblk m c 0 t) (iblk m c 1 t) r := funext fun κ => by
    rw [← hS]
    pointwise [k0_pay19, k0_pay20]
    unfold scores
    by_cases hκ : κ.val < 1536
    · rw [dif_pos hκ, if_pos (by omega)]
    · rw [dif_neg hκ, key_chunk _ _ _ (by decide), query_chunk, mask_bot, select_chunk _ _ (by omega) (by omega)]
      have e : κ.val / 64 ≤ (1536 + r.val) / 64 ↔ (κ.val - 1536) / 64 ≤ r.val / 64 := by omega
      have f : 1536 + (κ.val - 1536) = κ.val := by omega
      simp only [e, f]
  clear hS
  unfold rowOut
  rw [← e]
  pointwise [attnRow, rowSum, rowExp, rowMax]
  rw [ofBits_neg_inf]

/-- Keys in later chunks weigh nothing, so the block's result is one over all the keys. -/
theorem rowOut_full (n off : ℕ) (hn : n ≤ 2048) (h : off + 512 = n) (h64 : n % 64 = 0) (q : FVec Ideal S1x512x192 .bf16) (k : FVec Ideal S1x2048x192 .bf16)
    (v : FVec Ideal S1x2048x128 .bf16) (r : Fin 512) (j : Fin 128) : rowOut n hn off q k v r j = rowOut 2048 (Nat.le_refl _) off q k v r j := by
  have e : n + (2048 - n) = 2048 := by omega
  unfold rowOut
  rw [← attnRow_congr e (scores 2048 (Nat.le_refl _) off q k r) (fun κ => v (ix3 0 ⟨κ.val, by omega⟩ j)) (fun x => scores 2048 (Nat.le_refl _) off q k r (Fin.cast e x))
    (fun x => v (ix3 0 ⟨x.val, by omega⟩ j)) (fun _ => rfl) (fun _ => rfl)]
  refine (attnRow_extend (fun x => scores 2048 (Nat.le_refl _) off q k r (Fin.cast e x)) (fun x => v (ix3 0 ⟨x.val, by omega⟩ j)) fun x => ?_).symm
  refine if_neg ?_
  show ¬ (n + x.val) / 64 ≤ (off + r.val) / 64
  omega

theorem out_all (t : Fin cfg0.N) (r : Fin 512) (j : Fin 128) :
    outsAt0 m c t.val t.isLt (ix2 r j) = rowOut 2048 (Nat.le_refl _) (512 * (t.val % 4)) (iblk m c 0 t) (iblk m c 1 t) (iblk m c 2 t) r j := by
  rcases (by omega : t.val % 4 = 0 ∨ t.val % 4 = 1 ∨ t.val % 4 = 2 ∨ t.val % 4 = 3) with h | h | h | h
  · rw [out_A m c t h, rowOut_full _ _ _ rfl rfl, h]
  · rw [out_B m c t h, rowOut_full _ _ _ rfl rfl, h]
  · rw [out_C m c t h, rowOut_full _ _ _ rfl rfl, h]
  · rw [out_D m c t h, h]

/-- The head and the place in it of a column of the result. -/
abbrev latHead (j : Fin 1024) : Fin 8 := ⟨j.val / 128, by omega⟩
abbrev latCol (j : Fin 1024) : Fin 128 := ⟨j.val % 128, by omega⟩

/-- The call's result, of the arrays it is launched on. -/
abbrev attn (q k : FVec Ideal S8x2048x192 .f32) (v : FVec Ideal S8x2048x128 .f32) : FVec Ideal S2048x1024 .f32 := fun i =>
  attnRow (fun κ : Fin 2048 => if κ.val / 64 ≤ (i 0).val / 64 then ∑ d : Fin 192, q (ix3 (latHead (i 1)) (i 0) d) * k (ix3 (latHead (i 1)) κ d) else ⊥)
    (fun κ => v (ix3 (latHead (i 1)) κ (latCol (i 1))))

theorem final : (dats m 0 c).arrAt 3 cfg0.N = attn (V m c main_v2) (V m c main_v3) (V m c main_v4) := by
  refine (dats m 0 c).arrAt_eq_of_covers 3 _ (by decide +kernel) fun t hf y => ?_
  blk_simp
  rw [after0_3, show outsAt0 m c t.val t.isLt y = _ from (congrArg _ (eq_ix2 y)).trans (out_all m c t (y 0) (y 1))]
  refine congrArg₂ attnRow (funext fun κ => if_congr ?_ (Finset.sum_congr rfl fun d _ => congrArg₂ (· * ·) ?_ ?_) rfl) (funext fun κ => ?_)
  · blk_simp [idx t]
    omega
  all_goals blk_point [iblk, idx t]
  all_goals (blk_simp [idx t]; omega)

abbrev ent (s : Shape) (x : s.Idx → EReal) (i : s.Idx) : EReal := x i

/-- The scale as a number. -/
abbrev scale : EReal := Ideal.ofBits .f32 0x3D93CD3A#32

theorem scale_real : ∃ r : ℝ, scale = (r : EReal) := by
  simp [scale, Ideal.ofBits, Ideal.ieee]
  exact ⟨_, rfl⟩

section Host
variable (W : Valuation τ sig (Elt Ideal))

theorem q_eq : StableHlo.after hostOps0 W (Proc.devRef .tc main_v2)
    = fun i : S8x2048x192.Idx => ent S8x2048x192 (W (Proc.devRef .tc main_arg0)) i * scale := by
  refine funext fun (i : S8x2048x192.Idx) => ?_
  show ent S8x2048x192 (StableHlo.after hostOps0 W (Proc.devRef .tc main_v2)) i = ent S8x2048x192 (W (Proc.devRef .tc main_arg0)) i * scale
  unfold ent
  after_reads_at

theorem k_eq : StableHlo.after hostOps0 W (Proc.devRef .tc main_v3) = (W (Proc.devRef .tc main_arg1) : FVec Ideal S8x2048x192 .f32) := by
  refine funext fun (i : S8x2048x192.Idx) => ?_
  show ent S8x2048x192 (StableHlo.after hostOps0 W (Proc.devRef .tc main_v3)) i = ent S8x2048x192 (W (Proc.devRef .tc main_arg1)) i
  unfold ent
  after_reads_at

theorem v_eq : StableHlo.after hostOps0 W (Proc.devRef .tc main_v4) = (W (Proc.devRef .tc main_arg2) : FVec Ideal S8x2048x128 .f32) := by
  refine funext fun (i : S8x2048x128.Idx) => ?_
  show ent S8x2048x128 (StableHlo.after hostOps0 W (Proc.devRef .tc main_v4)) i = ent S8x2048x128 (W (Proc.devRef .tc main_arg2)) i
  unfold ent
  after_reads_at

end Host

/-- The program's result. -/
theorem result : (dats m 0 c).arrAt 3 cfg0.N = attn (fun i => ent S8x2048x192 (m ((c : Thread nD τ).loc main_arg0)) i * scale)
    (m ((c : Thread nD τ).loc main_arg1) : FVec Ideal S8x2048x192 .f32) (m ((c : Thread nD τ).loc main_arg2) : FVec Ideal S8x2048x128 .f32) := by
  refine (final m c).trans ?_
  rw [show V m c main_v2 = _ from q_eq _, show V m c main_v3 = (m ((c : Thread nD τ).loc main_arg1) : FVec Ideal S8x2048x192 .f32) from k_eq _,
    show V m c main_v4 = (m ((c : Thread nD τ).loc main_arg2) : FVec Ideal S8x2048x128 .f32) from v_eq _]

end Cert.Kernel19Ideal.Own

namespace Cert.Reference19Ideal.Own

open Idealize.ShloMosaic Idealize.ShloMosaic.Pointwise
open Cert.Reference19Ideal Cert.Reference19Ideal.Gen Cert.Reference19Ideal.Read Cert.Ffn Cert.Mix Cert.Soft
open Cert.Kernel19Ideal.Own (latHead latCol scale scale_real select_chunk)

/-- The scores' greatest along the keys. -/
theorem ref_max (q k : FVec Ideal S8x2048x192 .f32) (h : Fin 8) (i : Fin 2048) :
    val_main_v14 (F := Ideal) q k (ix2 h i) = rowMax fun κ : Fin 2048 => val_main_v11 (F := Ideal) q k (ix3 h i κ) := by
  have e : val_main_v12 (F := Ideal) q k (ix2 h i) = rowMax fun κ : Fin 2048 => val_main_v11 (F := Ideal) q k (ix3 h i κ) := by
    unfold val_main_v12
    rw [Host.reduce_eq_fold_single _ _ _ _ (by decide)]
    unfold rowMax
    pointwise [val_main_cst_1]
    rw [ofBits_neg_inf]
    refine congrArg (fun f => Finset.univ.fold max ⊥ f) (funext fun κ => congrArg (val_main_v11 (F := Ideal) q k) ?_)
    refine funext fun a => ?_
    fin_cases a <;> rfl
  rw [val_main_v14_apply, e]
  pointwise [val_main_v13, val_main_cst_2]
  rw [ofBits_neg_inf, max_bot_rowMax]

/-- The reference's result, its weights divided one by one. -/
theorem ref_rows (q k : FVec Ideal S8x2048x192 .f32) (v : FVec Ideal S8x2048x128 .f32) (i : Fin 2048) (j : Fin 1024) :
    val_main_v26 (F := Ideal) q k v (ix2 i j)
      = attnRowW (fun κ : Fin 2048 => val_main_v11 (F := Ideal) q k (ix3 (latHead j) i κ)) (fun κ => v (ix3 (latHead j) κ (latCol j))) := by
  unfold attnRowW rowSum rowExp
  rw [← ref_max]
  pointwise [val_main_v26, val_main_v25, val_main_v24, val_main_v23, val_main_v22, val_main_v21, val_main_v20, val_main_v19, val_main_v18, val_main_v17, val_main_v16, val_main_v15,
    val_main_cst_3, latHead, latCol, zero_add]

/-- The chunk a position lies in, as the reference takes it. -/
theorem ref_chunk (i : Fin 2048) : val_main_v4 (F := Ideal) (ix1 i) = BitVec.ofNat 32 (i.val / 64) := by
  pointwise [val_main_v4, val_main_call0_v13, val_main_call0_v12, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_v3, val_main_c, val_main_call0_c, val_main_call0_c_0]
  revert i
  decide +kernel

/-- The reference's scores, those in a later chunk minus infinity. -/
theorem ref_score (q k : FVec Ideal S8x2048x192 .f32) (h : Fin 8) (i κ : Fin 2048) :
    val_main_v11 (F := Ideal) q k (ix3 h i κ) = if κ.val / 64 ≤ i.val / 64 then (∑ d : Fin 192, q (ix3 h i d) * k (ix3 h κ d)) * scale else ⊥ := by
  rw [← select_chunk (κ.val / 64) (i.val / 64) (by omega) (by omega), ← ref_chunk, ← ref_chunk]
  pointwise [val_main_v11, val_main_call1_v1, val_main_call1_v2, val_main_call1_v0, val_main_cst_0, val_main_v10, val_main_v9, val_main_v8, val_main_v7, val_main_v6, val_main_v5,
    val_main_v2, val_main_v1, val_main_v0, val_main_cst]
  exact congrArg _ ofBits_neg_inf

theorem ref_apply (q k : FVec Ideal S8x2048x192 .f32) (v : FVec Ideal S8x2048x128 .f32) (hq : ∀ i, q i ≠ ⊤ ∧ q i ≠ ⊥) (hk : ∀ i, k i ≠ ⊤ ∧ k i ≠ ⊥)
    (i : Fin 2048) (j : Fin 1024) : val_main_v26 (F := Ideal) q k v (ix2 i j)
      = attnRow (fun κ : Fin 2048 => if κ.val / 64 ≤ i.val / 64 then ∑ d : Fin 192, q (ix3 (latHead j) i d) * scale * k (ix3 (latHead j) κ d) else ⊥)
          (fun κ => v (ix3 (latHead j) κ (latCol j))) := by
  obtain ⟨r, hr⟩ := scale_real
  have hs := fun κ : Fin 2048 => scaled_sum r (fun d : Fin 192 => q (ix3 (latHead j) i d)) (fun d => k (ix3 (latHead j) κ d)) (fun d => hq _) (fun d => hk _)
  choose y h1 h2 using hs
  rw [ref_rows, hr, show (fun κ : Fin 2048 => val_main_v11 (F := Ideal) q k (ix3 (latHead j) i κ)) = fun κ => if κ.val / 64 ≤ i.val / 64 then (y κ : EReal) else ⊥ from
    funext fun κ => by rw [ref_score, hr]; exact if_congr Iff.rfl (h2 κ) rfl]
  refine (attnRow_eq _ _ (fun κ => ?_) i ?_).trans ?_
  · split
    · exact EReal.coe_ne_top _
    · exact bot_ne_top
  · rw [if_pos (Nat.le_refl _)]
    exact EReal.coe_ne_bot _
  · exact congrArg (fun s => attnRow s _) (funext fun κ => if_congr Iff.rfl (h1 κ).symm rfl)

theorem ref_eq (q k : FVec Ideal S8x2048x192 .f32) (v : FVec Ideal S8x2048x128 .f32) (hq : ∀ i, q i ≠ ⊤ ∧ q i ≠ ⊥) (hk : ∀ i, k i ≠ ⊤ ∧ k i ≠ ⊥) :
    val_main_v26 (F := Ideal) q k v = Cert.Kernel19Ideal.Own.attn (fun i => q i * scale) k v := by
  refine funext fun (i : S2048x1024.Idx) => ?_
  rw [eq_ix2 i]
  exact ref_apply q k v hq hk (i 0) (i 1)

end Cert.Reference19Ideal.Own

namespace Cert.Proof

open Idealize.ShloMosaic Idealize.SL.Sem Cert.Soft

theorem pre_facts19 : Cert.Pre_finite19.Facts := ⟨by decide, by decide, by decide⟩

/-- The queries and keys that the precondition names are finite. -/
theorem fin_pre19 [hF : Cert.Pre_finite19.Facts] (q k : FVec Ideal ⟨3, ![8, 2048, 192]⟩ .f32) (v : FVec Ideal ⟨3, ![8, 2048, 128]⟩ .f32)
    (h : Cert.Pre_finite19.fn (F := Ideal) q k v = fun _ => 1#1) : (∀ i, q i ≠ ⊤ ∧ q i ≠ ⊥) ∧ ∀ i, k i ≠ ⊤ ∧ k i ≠ ⊥ := by
  unfold Cert.Pre_finite19.fn at h
  obtain ⟨e1, e2⟩ := both_ones (congrFun h (Shape.Idx.first (s := ⟨0, ![]⟩) (by decide)))
  exact ⟨fun i => ne_of_sub_self _ (Cert.Gla.finite_of_all q _ _ _ _ _ e1 i), fun i => ne_of_sub_self _ (Cert.Gla.finite_of_all k _ _ _ _ _ e2 i)⟩

theorem frame_ref19 : quiescent_Reference19Ideal (hReference19Ideal := Cert.Reference19Ideal.Gen.facts) := fun m ρ _ =>
  (θ_run Cert.Reference19Ideal.defs _ _).mono (fun r h => ⟨fun c => (h c).2, Idealize.ShloMosaic.sem_eq_zero_of_no_sems (by decide) r.2⟩)
    (Cert.Reference19Ideal.Value.run m ρ)

/-- The latent attention's call computes what the reference computes. -/
theorem value19 : algebraic_Kernel19Ideal_Reference19Ideal_pre_finite19 (hKernel19Ideal := Cert.Kernel19Ideal.Gen.facts)
    (hReference19Ideal := Cert.Reference19Ideal.Gen.facts) (hPre_finite19 := pre_facts19) := fun m ρ m' ρ' hp ha => by
  refine ⟨fun c => (Cert.Kernel19Ideal.Gen.dats m 0 c).arrAt 3 Cert.Kernel19Ideal.cfg0.N, Cert.Kernel19Ideal.Value.run_blocks m ρ, ?_⟩
  refine (θ_run Cert.Reference19Ideal.defs _ _).mono (fun r h c => ⟨(h c).1.trans ?_, (h c).2⟩) (Cert.Reference19Ideal.Value.run m' ρ')
  obtain ⟨a0, a1, a2⟩ := ha c
  obtain ⟨hq, hk⟩ := fin_pre19 (hF := pre_facts19) _ _ _ (hp c)
  refine (Cert.Reference19Ideal.Read.val_main_v26_eq (F := Ideal) _ _).trans ?_
  rw [a0, a1, a2]
  exact (Cert.Reference19Ideal.Own.ref_eq _ _ _ hq hk).trans (Cert.Kernel19Ideal.Own.result m c).symm

end Cert.Proof
-- ==== Proof.SoftmaxGradSpec.lean ====
/-
  One row of softmax attention's gradient over the extended reals: the weights, the gradient of the scores, and what masked keys
  add to either.
-/
module
public import proofs.«01_k».proof.Proof.SoftmaxSpec

@[expose] public section

noncomputable section

namespace Cert.Soft

open Idealize.ShloMosaic

variable {n : ℕ}

/-- A row's weights, each the exponential times one over the sum; and the scores' gradient, `dp` that of the weights. -/
def smW (s : Fin n → EReal) (k : Fin n) : EReal := rowExp s k * Ideal.div 1 (rowSum s)
def smB (s dp : Fin n → EReal) (k : Fin n) : EReal := smW s k * (dp k - ∑ j, smW s j * dp j)

theorem rowExp_masked (s : Fin n → EReal) (k : Fin n) (h : s k = ⊥) : rowExp s k = 0 := by
  unfold rowExp; rw [h, EReal.bot_sub, Ideal.exp_bot]

theorem smW_masked (s : Fin n → EReal) (k : Fin n) (h : s k = ⊥) : smW s k = 0 := by
  unfold smW; rw [rowExp_masked s k h, zero_mul]

theorem smB_masked (s dp : Fin n → EReal) (k : Fin n) (h : s k = ⊥) : smB s dp k = 0 := by
  unfold smB; rw [smW_masked s k h, zero_mul]

section Prefix
variable {N : ℕ} (hn : n ≤ N) (s dp : Fin N → EReal) (hs : ∀ k : Fin N, n ≤ k.val → s k = ⊥)
include hs

/-- A sum over a prefix is the whole sum where the rest is zero. -/
theorem sum_prefix (f : Fin N → EReal) (hf : ∀ k, s k = ⊥ → f k = 0) : ∑ k : Fin n, f ⟨k.val, Nat.lt_of_lt_of_le k.isLt hn⟩ = ∑ k, f k := by
  obtain ⟨r, rfl⟩ := Nat.exists_eq_add_of_le hn
  rw [Fin.sum_univ_add f, Finset.sum_eq_zero (s := (Finset.univ : Finset (Fin r))) fun k _ => hf (Fin.natAdd n k) (hs _ (Nat.le_add_right _ _)), add_zero]
  rfl

theorem rowExp_prefix (k : Fin n) : rowExp (fun k : Fin n => s ⟨k.val, Nat.lt_of_lt_of_le k.isLt hn⟩) k = rowExp s ⟨k.val, Nat.lt_of_lt_of_le k.isLt hn⟩ := by
  unfold rowExp
  refine congrArg (fun x => Ideal.exp (_ - x)) (le_antisymm ?_ ?_)
  · rw [rowMax_eq_sup]
    exact Finset.sup_le fun k _ => le_rowMax s _
  · rw [rowMax_eq_sup s]
    refine Finset.sup_le fun k _ => ?_
    by_cases h : k.val < n
    · exact le_rowMax (fun k : Fin n => s ⟨k.val, Nat.lt_of_lt_of_le k.isLt hn⟩) ⟨k.val, h⟩
    · rw [hs k (Nat.le_of_not_lt h)]; exact bot_le

theorem smW_prefix (k : Fin n) : smW (fun k : Fin n => s ⟨k.val, Nat.lt_of_lt_of_le k.isLt hn⟩) k = smW s ⟨k.val, Nat.lt_of_lt_of_le k.isLt hn⟩ := by
  unfold smW rowSum
  rw [rowExp_prefix hn s hs, Finset.sum_congr rfl fun j _ => rowExp_prefix hn s hs j, sum_prefix hn s hs (rowExp s) (rowExp_masked s)]

theorem smB_prefix (k : Fin n) : smB (fun k : Fin n => s ⟨k.val, Nat.lt_of_lt_of_le k.isLt hn⟩) (fun k => dp ⟨k.val, Nat.lt_of_lt_of_le k.isLt hn⟩) k
    = smB s dp ⟨k.val, Nat.lt_of_lt_of_le k.isLt hn⟩ := by
  unfold smB
  rw [smW_prefix hn s hs, Finset.sum_congr rfl fun j _ => congrArg (· * _) (smW_prefix hn s hs j),
    sum_prefix hn s hs (fun j => smW s j * dp j) fun j h => by rw [smW_masked s j h, zero_mul]]

end Prefix

/-- A real factor that is not negative goes into a sum, infinite terms too. -/
theorem mul_sum_coe (c : ℝ) (hc : 0 ≤ c) (x : Fin n → EReal) : (c : EReal) * ∑ i, x i = ∑ i, (c : EReal) * x i := by
  induction n with
  | zero => simp
  | succ n ih => rw [Fin.sum_univ_succ, Fin.sum_univ_succ, EReal.left_distrib_of_nonneg_of_ne_top (EReal.coe_nonneg.mpr hc) (EReal.coe_ne_top _), ih]

section Real
variable (s : Fin n → EReal) (ht : ∀ k, s k ≠ ⊤) (j : Fin n) (hj : s j ≠ ⊥)
include ht hj

/-- Dividing by the sum is multiplying by one over it. -/
theorem smW_eq (k : Fin n) : Ideal.div (rowExp s k) (rowSum s) = smW s k := by
  obtain ⟨f, h1, h2, h3⟩ := rowExp_real s ht j hj
  unfold smW rowSum
  simp only [h1]
  rw [← coe_sum, ← EReal.coe_one, Ideal.div_coe h3.ne', Ideal.div_coe h3.ne', EReal.coe_one, one_mul]

/-- The scores' gradient, the two terms of the quotient's derivative taken apart. -/
theorem smB_eq (g : Fin n → EReal) (k : Fin n) :
    (Ideal.div (g k) (rowSum s) + -(∑ i, g i * Ideal.div 1 (rowSum s * rowSum s) * rowExp s i)) * rowExp s k = smB s g k := by
  obtain ⟨f, h1, h2, h3⟩ := rowExp_real s ht j hj
  unfold smB smW rowSum
  simp only [h1]
  rw [← coe_sum]
  generalize (∑ k, f k) = l at h3 ⊢
  have hll : l * l ≠ 0 := mul_ne_zero h3.ne' h3.ne'
  have hc : (0 : ℝ) ≤ 1 / l := (one_div_pos.mpr h3).le
  rw [← EReal.coe_mul, Ideal.div_coe h3.ne', Ideal.div_coe h3.ne', Ideal.div_coe hll, show (1 : ℝ) / (l * l) = 1 / l * (1 / l) from by rw [div_mul_div_comm, one_mul], EReal.coe_mul,
    one_mul, one_mul]
  generalize (1 : ℝ) / l = c at hc ⊢
  rw [sub_eq_add_neg, mul_assoc, EReal.left_distrib_of_nonneg_of_ne_top (EReal.coe_nonneg.mpr hc) (EReal.coe_ne_top _), mul_neg, mul_sum_coe c hc, mul_comm (f k : EReal)]
  refine congrArg (· * _) (congrArg₂ (· + ·) (mul_comm _ _) (congrArg _ (Finset.sum_congr rfl fun i _ => ?_)))
  ac_rfl

end Real

/-- A sum of products of finite rows is a real. -/
theorem sum_real (q k : Fin n → EReal) (hq : ∀ d, q d ≠ ⊤ ∧ q d ≠ ⊥) (hk : ∀ d, k d ≠ ⊤ ∧ k d ≠ ⊥) : ∃ y : ℝ, ∑ d, q d * k d = (y : EReal) := by
  obtain ⟨y, h, -⟩ := scaled_sum 1 q k hq hk
  exact ⟨y, by rw [← h]; simp⟩

end Cert.Soft
-- ==== Proof.LatAttnGradKernel.lean ====
/-
  The latent attention backward: what the call computes.
-/
module
public import proofs.«01_k».proof.Proof.Gen.Kernel20Ideal.Value
public import proofs.«01_k».proof.Proof.SoftmaxGradSpec
public import proofs.«01_k».proof.Proof.HeadGradSpec
public import proofs.«01_k».proof.Proof.Finite
public import proofs.«01_k».proof.Proof.Base

@[expose] public section

set_option maxRecDepth 20000

noncomputable section

namespace Cert.Kernel20Ideal.Own

open Idealize.ShloMosaic Idealize.ShloMosaic.TcCoe Idealize.ShloMosaic.Pointwise
open Idealize.ShloMosaic.Pipeline (Dat)
open Cert.Kernel20Ideal Cert.Kernel20Ideal.Gen Cert.Ffn Cert.Mix Cert.Soft

variable (m : (ℓ : Loc nD τ sig) → Buf (Elt Ideal) ℓ) (ρ : Dev nD → PrngReg) (c : Dev nD)

/-- Which block of each array a grid point holds. -/
theorem idx : ∀ t : Fin cfg0.N, win0_0.index t = ![t.val / 4, t.val % 4, 0] ∧ win0_1.index t = ![t.val / 4, 0, 0] ∧ win0_2.index t = ![t.val / 4, 0, 0]
    ∧ win0_3.index t = ![t.val % 4, t.val / 4] ∧ win0_4.index t = ![t.val / 4, t.val % 4, 0] ∧ win0_5.index t = ![t.val / 4, 0, 0]
    ∧ win0_6.index t = ![t.val / 4, 0, 0] := by
  decide +kernel

/-- The mask's constant reads as minus infinity. -/
theorem mask_bot : (Named.named κ "mask" 0xF149F2CA#32 : Ideal .f32) = (⊥ : EReal) := IdealRules.named_const.ideal_named_scalar _ _ _ _ rfl

/-- Comparing two chunks as words is comparing them as numbers. -/
theorem chunk_le : ∀ a b : Fin 32, IntOp.cmpi .sle (BitVec.ofNat 32 a.val) (BitVec.ofNat 32 b.val) = if a.val ≤ b.val then 1#1 else 0#1 := by
  decide +kernel

/-- A score kept where the key's chunk is not after the query's. -/
theorem select_chunk (a b : ℕ) (ha : a < 32) (hb : b < 32) (s : EReal) :
    Scalar.select (IntOp.cmpi .sle (BitVec.ofNat 32 a) (BitVec.ofNat 32 b)) s (⊥ : EReal) = if a ≤ b then s else ⊥ := by
  rw [chunk_le ⟨a, ha⟩ ⟨b, hb⟩]
  by_cases h : a ≤ b <;> simp [h, Scalar.select]

/-- The chunk a query of the block lies in, as the body takes it. -/
theorem query_chunk (r x : Fin 512) : k0_pay14 (ix2 r x) = BitVec.ofNat 32 (r.val / 64) := by
  pointwise [k0_pay14]
  revert r
  decide +kernel

/-- The chunk a key of the query's own block lies in, as the body takes it. -/
theorem key_chunk (r x : Fin 512) (w : BitVec 32) (hw : w = 1#32) :
    Scalar.select (IntOp.andi (IntOp.cmpi CmpIPredicate.ne (k0_pay16 (ix2 r x)) (Scalar.subi w (Scalar.extui (Scalar.cmpi CmpIPredicate.slt 64#32 0#32))))
        (IntOp.cmpi CmpIPredicate.ne (IntOp.remsi ArithUnit.vector (BitVec.ofNat 32 x.val) 64#32) 0#32))
      (IntOp.subi (k0_pay15 (ix2 r x)) 1#32) (k0_pay15 (ix2 r x)) = BitVec.ofNat 32 (x.val / 64) := by
  subst hw
  pointwise [k0_pay15, k0_pay16]
  revert x
  decide +kernel

variable (q : FVec Ideal S1x512x192 .bf16) (k : FVec Ideal S1x2048x192 .bf16) (v : FVec Ideal S1x2048x128 .bf16) (g : FVec Ideal S512x128 .f32)

/-- A query's scores over the first keys, those in a later chunk masked. -/
abbrev scores (n : ℕ) (hn : n ≤ 2048) (off : ℕ) (r : Fin 512) (κ : Fin n) : EReal :=
  if κ.val / 64 ≤ (off + r.val) / 64 then ∑ d : Fin 192, q (ix3 0 r d) * k (ix3 0 ⟨κ.val, by omega⟩ d) else ⊥

/-- The gradient of a query's weights over the first keys. -/
abbrev dweights (n : ℕ) (hn : n ≤ 2048) (r : Fin 512) (κ : Fin n) : EReal := ∑ j : Fin 128, g (ix2 r j) * v (ix3 0 ⟨κ.val, by omega⟩ j)

/-- Keys past the query's block are in later chunks. -/
theorem scores_out (n off : ℕ) (h : off + 512 = n) (h64 : n % 64 = 0) (r : Fin 512) (κ : Fin 2048) (hκ : n ≤ κ.val) : scores q k 2048 (Nat.le_refl _) off r κ = ⊥ :=
  if_neg (by omega)

/-- A query's weights, and its scores' gradient, over all the keys. -/
abbrev wAt (off : ℕ) (r : Fin 512) (κ : Fin 2048) : EReal := smW (scores q k 2048 (Nat.le_refl _) off r) κ
abbrev gAt (off : ℕ) (r : Fin 512) (κ : Fin 2048) : EReal := smB (scores q k 2048 (Nat.le_refl _) off r) (dweights v g 2048 (Nat.le_refl _) r) κ

abbrev kA : FVec Ideal S1x512x192 .bf16 := View.ld (S := S1x2048x192) (Val := Elt Ideal) (e' := .bf16) k (Rect.unit ![0, 0, 0] ![1, 512, 192] inb_S1x2048x192_S1x512x192_0_0_0)
abbrev vA : FVec Ideal S1x512x128 .bf16 := View.ld (S := S1x2048x128) (Val := Elt Ideal) (e' := .bf16) v (Rect.unit ![0, 0, 0] ![1, 512, 128] inb_S1x2048x128_S1x512x128_0_0_0)
abbrev pA : FVec Ideal S512x512 .f32 := k0_pay17 (k0_pay13 q (kA k)) k0_pay14 (iota Kind.tc S512x512 32 [1] iota_S512x512_d1_w32) 64#32 k0_pay15 k0_pay16 1#32
abbrev dsA : FVec Ideal S512x512 .bf16 := k0_pay19 (k0_pay13 q (kA k)) k0_pay14 (iota Kind.tc S512x512 32 [1] iota_S512x512_d1_w32) 64#32 k0_pay15 k0_pay16 1#32 g (vA v)

theorem p_A0 (r : Fin 512) (κ : Fin 512) : pA q k (ix2 r κ) = smW (scores q k 512 (by omega) 0 r) κ := by
  unfold pA
  unfold k0_pay17
  dsimp only
  generalize hS : select _ _ _ = S
  have e : (fun κ : Fin 512 => S (ix2 r κ)) = scores q k 512 (by omega) 0 r := funext fun κ => by
    rw [← hS]
    pointwise
    rw [key_chunk _ _ _ rfl, query_chunk, mask_bot, select_chunk _ _ (by omega) (by omega)]
    unfold scores
    rw [Nat.zero_add]
    refine if_congr Iff.rfl ?_ rfl
    pointwise [k0_pay13, k0_pay11, k0_pay12, kA]
  clear hS
  rw [← e]
  pointwise [smW, rowSum, rowExp, rowMax]
  rw [ofBits_neg_inf]

theorem p_A (r : Fin 512) (κ : Fin 512) : pA q k (ix2 r κ) = wAt q k 0 r ⟨κ.val, by omega⟩ :=
  (p_A0 q k r κ).trans (smW_prefix (by omega) _ (scores_out q k 512 0 rfl rfl r) κ)

theorem ds_A (r : Fin 512) (κ : Fin 512) : dsA q k v g (ix2 r κ) = gAt q k v g 0 r ⟨κ.val, by omega⟩ := by
  refine Eq.trans ?_ (smB_prefix (by omega) _ (dweights v g 2048 (Nat.le_refl _) r) (scores_out q k 512 0 rfl rfl r) κ)
  have hp := p_A0 q k r
  show _ = smB (scores q k 512 (by omega) 0 r) (dweights v g 512 (by omega) r) κ
  unfold smB
  simp only [← hp]
  unfold dsA k0_pay19 pA
  generalize k0_pay17 (F := Ideal) _ _ _ _ _ _ _ = P
  pointwise [k0_pay18, dweights, vA]

theorem dq_A (r : Fin 512) (d : Fin 192) : k0_pay3 (F := Ideal) (k0_pay20 (k0_pay12 (kA k)) (k0_pay13 q (kA k)) k0_pay14 (iota Kind.tc S512x512 32 [1] iota_S512x512_d1_w32) 64#32 k0_pay15 k0_pay16 1#32 g (vA v)) (ix3 0 r d)
    = ∑ κ, gAt q k v g 0 r κ * k (ix3 0 κ d) := by
  have hd := ds_A q k v g r
  unfold dsA at hd
  unfold k0_pay20
  generalize k0_pay19 (F := Ideal) _ _ _ _ _ _ _ _ _ = D at hd ⊢
  refine Eq.trans ?_ (sum_prefix (n := 512) (by omega) _ (scores_out q k 512 0 rfl rfl r) (fun κ => gAt q k v g 0 r κ * k (ix3 0 κ d))
    fun κ h => by rw [gAt, smB_masked _ _ _ h, zero_mul])
  simp only [← hd]
  pointwise [k0_pay3, k0_pay12, kA]

abbrev kB : FVec Ideal S1x1024x192 .bf16 := View.ld (S := S1x2048x192) (Val := Elt Ideal) (e' := .bf16) k (Rect.unit ![0, 0, 0] ![1, 1024, 192] inb_S1x2048x192_S1x1024x192_0_0_0)
abbrev vB : FVec Ideal S1x1024x128 .bf16 := View.ld (S := S1x2048x128) (Val := Elt Ideal) (e' := .bf16) v (Rect.unit ![0, 0, 0] ![1, 1024, 128] inb_S1x2048x128_S1x1024x128_0_0_0)
abbrev pB : FVec Ideal S512x1024 .f32 := k0_pay28 (k0_pay23 q (kB k)) (k0_pay24 q (kB k)) k0_pay25 (iota Kind.tc S512x512 32 [1] iota_S512x512_d1_w32) 64#32 k0_pay26 k0_pay27 1#1
abbrev dsB : FVec Ideal S512x1024 .bf16 := k0_pay30 (k0_pay23 q (kB k)) (k0_pay24 q (kB k)) k0_pay25 (iota Kind.tc S512x512 32 [1] iota_S512x512_d1_w32) 64#32 k0_pay26 k0_pay27 1#1 g (vB v)

theorem p_B0 (r : Fin 512) (κ : Fin 1024) : pB q k (ix2 r κ) = smW (scores q k 1024 (by omega) 512 r) κ := by
  unfold pB
  rw [show k0_pay25 = k0_pay14 from rfl, show k0_pay26 = k0_pay15 from rfl, show k0_pay27 = k0_pay16 from rfl]
  unfold k0_pay28
  dsimp only
  generalize hS : concatenate _ _ _ _ = S
  have e : (fun κ : Fin 1024 => S (ix2 r κ)) = scores q k 1024 (by omega) 512 r := funext fun κ => by
    rw [← hS]
    pointwise [k0_pay23, k0_pay24, k0_pay21, k0_pay22, kB]
    unfold scores
    by_cases hκ : κ.val < 512
    · rw [dif_pos hκ, if_pos (by omega)]
    · rw [dif_neg hκ, key_chunk _ _ _ (by decide), query_chunk, mask_bot, select_chunk _ _ (by omega) (by omega)]
      have e : κ.val / 64 ≤ (512 + r.val) / 64 ↔ (κ.val - 512) / 64 ≤ r.val / 64 := by omega
      have f : 512 + (κ.val - 512) = κ.val := by omega
      simp only [e, f]
  clear hS
  rw [← e]
  pointwise [smW, rowSum, rowExp, rowMax]
  rw [ofBits_neg_inf]

theorem p_B (r : Fin 512) (κ : Fin 1024) : pB q k (ix2 r κ) = wAt q k 512 r ⟨κ.val, by omega⟩ :=
  (p_B0 q k r κ).trans (smW_prefix (by omega) _ (scores_out q k 1024 512 rfl rfl r) κ)

theorem ds_B (r : Fin 512) (κ : Fin 1024) : dsB q k v g (ix2 r κ) = gAt q k v g 512 r ⟨κ.val, by omega⟩ := by
  refine Eq.trans ?_ (smB_prefix (by omega) _ (dweights v g 2048 (Nat.le_refl _) r) (scores_out q k 1024 512 rfl rfl r) κ)
  have hp := p_B0 q k r
  show _ = smB (scores q k 1024 (by omega) 512 r) (dweights v g 1024 (by omega) r) κ
  unfold smB
  simp only [← hp]
  unfold dsB k0_pay30 pB
  generalize k0_pay28 (F := Ideal) _ _ _ _ _ _ _ _ = P
  pointwise [k0_pay29, dweights, vB]

theorem dq_B (r : Fin 512) (d : Fin 192) : k0_pay32 (F := Ideal) (k0_pay31 (k0_pay22 (kB k)) (k0_pay23 q (kB k)) (k0_pay24 q (kB k)) k0_pay25 (iota Kind.tc S512x512 32 [1] iota_S512x512_d1_w32) 64#32 k0_pay26 k0_pay27 1#1 g (vB v)) (ix3 0 r d)
    = ∑ κ, gAt q k v g 512 r κ * k (ix3 0 κ d) := by
  have hd := ds_B q k v g r
  unfold dsB at hd
  unfold k0_pay31
  generalize k0_pay30 (F := Ideal) _ _ _ _ _ _ _ _ _ _ = D at hd ⊢
  refine Eq.trans ?_ (sum_prefix (n := 1024) (by omega) _ (scores_out q k 1024 512 rfl rfl r) (fun κ => gAt q k v g 512 r κ * k (ix3 0 κ d))
    fun κ h => by rw [gAt, smB_masked _ _ _ h, zero_mul])
  simp only [← hd]
  pointwise [k0_pay32, k0_pay22, kB]

abbrev kC : FVec Ideal S1x1536x192 .bf16 := View.ld (S := S1x2048x192) (Val := Elt Ideal) (e' := .bf16) k (Rect.unit ![0, 0, 0] ![1, 1536, 192] inb_S1x2048x192_S1x1536x192_0_0_0)
abbrev vC : FVec Ideal S1x1536x128 .bf16 := View.ld (S := S1x2048x128) (Val := Elt Ideal) (e' := .bf16) v (Rect.unit ![0, 0, 0] ![1, 1536, 128] inb_S1x2048x128_S1x1536x128_0_0_0)
abbrev pC : FVec Ideal S512x1536 .f32 := k0_pay46 (k0_pay41 q (kC k)) (k0_pay42 q (kC k)) k0_pay43 (iota Kind.tc S512x512 32 [1] iota_S512x512_d1_w32) 64#32 k0_pay44 k0_pay45 1#1
abbrev dsC : FVec Ideal S512x1536 .bf16 := k0_pay48 (k0_pay41 q (kC k)) (k0_pay42 q (kC k)) k0_pay43 (iota Kind.tc S512x512 32 [1] iota_S512x512_d1_w32) 64#32 k0_pay44 k0_pay45 1#1 g (vC v)

theorem p_C0 (r : Fin 512) (κ : Fin 1536) : pC q k (ix2 r κ) = smW (scores q k 1536 (by omega) 1024 r) κ := by
  unfold pC
  rw [show k0_pay43 = k0_pay14 from rfl, show k0_pay44 = k0_pay15 from rfl, show k0_pay45 = k0_pay16 from rfl]
  unfold k0_pay46
  dsimp only
  generalize hS : concatenate _ _ _ _ = S
  have e : (fun κ : Fin 1536 => S (ix2 r κ)) = scores q k 1536 (by omega) 1024 r := funext fun κ => by
    rw [← hS]
    pointwise [k0_pay41, k0_pay42, k0_pay39, k0_pay40, kC]
    unfold scores
    by_cases hκ : κ.val < 1024
    · rw [dif_pos hκ, if_pos (by omega)]
    · rw [dif_neg hκ, key_chunk _ _ _ (by decide), query_chunk, mask_bot, select_chunk _ _ (by omega) (by omega)]
      have e : κ.val / 64 ≤ (1024 + r.val) / 64 ↔ (κ.val - 1024) / 64 ≤ r.val / 64 := by omega
      have f : 1024 + (κ.val - 1024) = κ.val := by omega
      simp only [e, f]
  clear hS
  rw [← e]
  pointwise [smW, rowSum, rowExp, rowMax]
  rw [ofBits_neg_inf]

theorem p_C (r : Fin 512) (κ : Fin 1536) : pC q k (ix2 r κ) = wAt q k 1024 r ⟨κ.val, by omega⟩ :=
  (p_C0 q k r κ).trans (smW_prefix (by omega) _ (scores_out q k 1536 1024 rfl rfl r) κ)

theorem ds_C (r : Fin 512) (κ : Fin 1536) : dsC q k v g (ix2 r κ) = gAt q k v g 1024 r ⟨κ.val, by omega⟩ := by
  refine Eq.trans ?_ (smB_prefix (by omega) _ (dweights v g 2048 (Nat.le_refl _) r) (scores_out q k 1536 1024 rfl rfl r) κ)
  have hp := p_C0 q k r
  show _ = smB (scores q k 1536 (by omega) 1024 r) (dweights v g 1536 (by omega) r) κ
  unfold smB
  simp only [← hp]
  unfold dsC k0_pay48 pC
  generalize k0_pay46 (F := Ideal) _ _ _ _ _ _ _ _ = P
  pointwise [k0_pay47, dweights, vC]

theorem dq_C (r : Fin 512) (d : Fin 192) : k0_pay50 (F := Ideal) (k0_pay49 (k0_pay40 (kC k)) (k0_pay41 q (kC k)) (k0_pay42 q (kC k)) k0_pay43 (iota Kind.tc S512x512 32 [1] iota_S512x512_d1_w32) 64#32 k0_pay44 k0_pay45 1#1 g (vC v)) (ix3 0 r d)
    = ∑ κ, gAt q k v g 1024 r κ * k (ix3 0 κ d) := by
  have hd := ds_C q k v g r
  unfold dsC at hd
  unfold k0_pay49
  generalize k0_pay48 (F := Ideal) _ _ _ _ _ _ _ _ _ _ = D at hd ⊢
  refine Eq.trans ?_ (sum_prefix (n := 1536) (by omega) _ (scores_out q k 1536 1024 rfl rfl r) (fun κ => gAt q k v g 1024 r κ * k (ix3 0 κ d))
    fun κ h => by rw [gAt, smB_masked _ _ _ h, zero_mul])
  simp only [← hd]
  pointwise [k0_pay50, k0_pay40, kC]

abbrev kD : FVec Ideal S1x2048x192 .bf16 := k
abbrev vD : FVec Ideal S1x2048x128 .bf16 := v
abbrev pD : FVec Ideal S512x2048 .f32 := k0_pay64 (k0_pay59 q (kD k)) (k0_pay60 q (kD k)) k0_pay61 (iota Kind.tc S512x512 32 [1] iota_S512x512_d1_w32) 64#32 k0_pay62 k0_pay63 1#1
abbrev dsD : FVec Ideal S512x2048 .bf16 := k0_pay66 (k0_pay59 q (kD k)) (k0_pay60 q (kD k)) k0_pay61 (iota Kind.tc S512x512 32 [1] iota_S512x512_d1_w32) 64#32 k0_pay62 k0_pay63 1#1 g (vD v)

theorem p_D0 (r : Fin 512) (κ : Fin 2048) : pD q k (ix2 r κ) = smW (scores q k 2048 (by omega) 1536 r) κ := by
  unfold pD
  rw [show k0_pay61 = k0_pay14 from rfl, show k0_pay62 = k0_pay15 from rfl, show k0_pay63 = k0_pay16 from rfl]
  unfold k0_pay64
  dsimp only
  generalize hS : concatenate _ _ _ _ = S
  have e : (fun κ : Fin 2048 => S (ix2 r κ)) = scores q k 2048 (by omega) 1536 r := funext fun κ => by
    rw [← hS]
    pointwise [k0_pay59, k0_pay60, k0_pay57, k0_pay58, kD]
    unfold scores
    by_cases hκ : κ.val < 1536
    · rw [dif_pos hκ, if_pos (by omega)]
    · rw [dif_neg hκ, key_chunk _ _ _ (by decide), query_chunk, mask_bot, select_chunk _ _ (by omega) (by omega)]
      have e : κ.val / 64 ≤ (1536 + r.val) / 64 ↔ (κ.val - 1536) / 64 ≤ r.val / 64 := by omega
      have f : 1536 + (κ.val - 1536) = κ.val := by omega
      simp only [e, f]
  clear hS
  rw [← e]
  pointwise [smW, rowSum, rowExp, rowMax]
  rw [ofBits_neg_inf]

theorem p_D (r : Fin 512) (κ : Fin 2048) : pD q k (ix2 r κ) = wAt q k 1536 r ⟨κ.val, by omega⟩ :=
  (p_D0 q k r κ).trans (smW_prefix (by omega) _ (scores_out q k 2048 1536 rfl rfl r) κ)

theorem ds_D (r : Fin 512) (κ : Fin 2048) : dsD q k v g (ix2 r κ) = gAt q k v g 1536 r ⟨κ.val, by omega⟩ := by
  refine Eq.trans ?_ (smB_prefix (by omega) _ (dweights v g 2048 (Nat.le_refl _) r) (scores_out q k 2048 1536 rfl rfl r) κ)
  have hp := p_D0 q k r
  show _ = smB (scores q k 2048 (by omega) 1536 r) (dweights v g 2048 (by omega) r) κ
  unfold smB
  simp only [← hp]
  unfold dsD k0_pay66 pD
  generalize k0_pay64 (F := Ideal) _ _ _ _ _ _ _ _ = P
  pointwise [k0_pay65, dweights, vD]

theorem dq_D (r : Fin 512) (d : Fin 192) : k0_pay68 (F := Ideal) (k0_pay67 (k0_pay58 (kD k)) (k0_pay59 q (kD k)) (k0_pay60 q (kD k)) k0_pay61 (iota Kind.tc S512x512 32 [1] iota_S512x512_d1_w32) 64#32 k0_pay62 k0_pay63 1#1 g (vD v)) (ix3 0 r d)
    = ∑ κ, gAt q k v g 1536 r κ * k (ix3 0 κ d) := by
  have hd := ds_D q k v g r
  unfold dsD at hd
  unfold k0_pay67
  generalize k0_pay66 (F := Ideal) _ _ _ _ _ _ _ _ _ _ = D at hd ⊢
  refine Eq.trans ?_ (sum_prefix (n := 2048) (by omega) _ (scores_out q k 2048 1536 rfl rfl r) (fun κ => gAt q k v g 1536 r κ * k (ix3 0 κ d))
    fun κ h => by rw [gAt, smB_masked _ _ _ h, zero_mul])
  simp only [← hd]
  pointwise [k0_pay68, k0_pay58, kD]

end Cert.Kernel20Ideal.Own
-- ==== Proof.LatAttnGradAcc.lean ====
/-
  The latent attention backward: the gradients of the keys and values, which every block of queries adds to.
-/
module
public import proofs.«01_k».proof.Proof.LatAttnGradKernel
public import Idealize.ShloMosaic.Lib.WritesUnit

@[expose] public section

set_option maxRecDepth 20000

noncomputable section

namespace Cert.Kernel20Ideal.Own

open Idealize.ShloMosaic Idealize.ShloMosaic.TcCoe Idealize.ShloMosaic.Pointwise
open Idealize.ShloMosaic.Pipeline (Dat)
open Cert.Kernel20Ideal Cert.Kernel20Ideal.Gen Cert.Ffn Cert.Mix Cert.Soft

variable (m : (ℓ : Loc nD τ sig) → Buf (Elt Ideal) ℓ) (ρ : Dev nD → PrngReg) (c : Dev nD)

/-- The first `o` rows of a buffer hold the old contents and an addend, the others what `Q` says. -/
def AccAt {w : ℕ} (R P Q : (⟨3, ![1, 2048, w]⟩ : Shape).Idx → EReal) (C : Fin 2048 → Fin w → EReal) (o : ℕ) : Prop :=
  ∀ x d, R (ix3 0 x d) = if x.val < o then P (ix3 0 x d) + C x d else Q (ix3 0 x d)

theorem AccAt.full {w : ℕ} {R P Q : (⟨3, ![1, 2048, w]⟩ : Shape).Idx → EReal} {C : Fin 2048 → Fin w → EReal} {o : ℕ} (h : AccAt R P Q C o)
    (x : Fin 2048) (d : Fin w) (h0 : o ≤ x.val → C x d = 0 ∧ Q (ix3 0 x d) = P (ix3 0 x d)) : R (ix3 0 x d) = P (ix3 0 x d) + C x d := by
  rw [h]
  split
  · rfl
  · obtain ⟨e, f⟩ := h0 (by omega)
    rw [e, f, add_zero]

theorem AccAt.nil {w : ℕ} (R P : (⟨3, ![1, 2048, w]⟩ : Shape).Idx → EReal) (C : Fin 2048 → Fin w → EReal) : AccAt R P R C 0 :=
  fun _ _ => (if_neg (Nat.not_lt_zero _)).symm

/-- The next 512 rows stored. -/
theorem AccAt.cons {w : ℕ} {sg : RefSig} {kd : Kind} {sp : Space} (v : View sg kd sp ⟨3, ![1, 2048, w]⟩ .f32) (f : v.ty.Contents (Elt Ideal)) (o : ℕ)
    (inb : ∀ a, (![0, o, 0] : Fin 3 → ℕ) a + (![1, 512, w] : Fin 3 → ℕ) a ≤ (⟨3, ![1, 2048, w]⟩ : Shape).size a)
    (Y : (Rect.unit (s := ⟨3, ![1, 2048, w]⟩) ![0, o, 0] ![1, 512, w] inb).shape.Idx → Elt Ideal .f32) (L : List (View.Piece (Elt Ideal) (⟨3, ![1, 2048, w]⟩ : Shape) .f32))
    {P Q : (⟨3, ![1, 2048, w]⟩ : Shape).Idx → EReal} {C : Fin 2048 → Fin w → EReal} (hL : AccAt (v.read (Elt Ideal) (v.writes (Elt Ideal) f L)) P Q C o)
    (hY : ∀ (x : Fin 512) (d : Fin w) (hx : o + x.val < 2048), (Y : (⟨3, ![1, 512, w]⟩ : Shape).Idx → EReal) (ix3 0 x d) = P (ix3 0 ⟨o + x.val, hx⟩ d) + C ⟨o + x.val, hx⟩ d) :
    AccAt (v.read (Elt Ideal) (v.writes (Elt Ideal) f (⟨Rect.unit (s := ⟨3, ![1, 2048, w]⟩) ![0, o, 0] ![1, 512, w] inb, Y⟩ :: L))) P Q C (o + 512) := fun x d => by
  rw [View.read_writes_cons_unit v f inb Y L (ix3 0 x d) rfl]
  by_cases h : o ≤ x.val ∧ x.val < o + 512
  · have hx : o + (x.val - o) < 2048 := by omega
    rw [dif_pos (by intro a; fin_cases a; exacts [⟨Nat.zero_le _, Nat.one_pos⟩, h, ⟨Nat.zero_le _, by show d.val < 0 + w; omega⟩]), if_pos h.2]
    refine Eq.trans (congrArg Y ?_) ((hY ⟨x.val - o, by omega⟩ d hx).trans ?_)
    · funext a
      fin_cases a <;> rfl
    · rw [show (⟨o + (x.val - o), hx⟩ : Fin 2048) = x from Fin.ext (by show o + (x.val - o) = x.val; omega)]
  · rw [dif_neg (fun H => h (H 1)), hL]
    by_cases h' : x.val < o
    · rw [if_pos h', if_pos (by omega)]
    · rw [if_neg h', if_neg (by omega)]

/-- What block `t` adds to the keys' gradient, and to the values'. -/
abbrev dkAt (t : Fin cfg0.N) (off : ℕ) (x : Fin 2048) (d : Fin 192) : EReal :=
  ∑ r : Fin 512, gAt (iblk m c 0 t) (iblk m c 1 t) (iblk m c 2 t) (iblk m c 3 t) off r x * (iblk m c 0 t : FVec Ideal S1x512x192 .bf16) (ix3 0 r d)
abbrev dvAt (t : Fin cfg0.N) (off : ℕ) (x : Fin 2048) (d : Fin 128) : EReal :=
  ∑ r : Fin 512, wAt (iblk m c 0 t) (iblk m c 1 t) off r x * (iblk m c 3 t : FVec Ideal S512x128 .f32) (ix2 r d)

theorem dkAt_out (t : Fin cfg0.N) (n off : ℕ) (h : off + 512 = n) (h64 : n % 64 = 0) (x : Fin 2048) (d : Fin 192) (hx : n ≤ x.val) : dkAt m c t off x d = 0 :=
  Finset.sum_eq_zero fun r _ => by rw [gAt, smB_masked _ _ _ (scores_out _ _ n off h h64 r x hx), zero_mul]
theorem dvAt_out (t : Fin cfg0.N) (n off : ℕ) (h : off + 512 = n) (h64 : n % 64 = 0) (x : Fin 2048) (d : Fin 128) (hx : n ≤ x.val) : dvAt m c t off x d = 0 :=
  Finset.sum_eq_zero fun r _ => by rw [wAt, smW_masked _ _ (scores_out _ _ n off h h64 r x hx), zero_mul]

theorem dk_A (t : Fin cfg0.N) (h : t.val % 4 = 0) (x : Fin 2048) (d : Fin 192) : (outsAt0 m c t.val t.isLt).2.1 (ix3 0 x d)
    = 0 + dkAt m c t 0 x d := by
  rw [outsAt0_A m c t (by omega) (by omega) (by omega) (by omega) (by omega)]
  frame_out
  have hd := ds_A (iblk m c 0 t) (iblk m c 1 t) (iblk m c 2 t) (iblk m c 3 t)
  unfold dsA at hd
  simp (disch := decide) only [View.readCov_fill]
  generalize k0_pay19 (F := Ideal) _ _ _ _ _ _ _ _ _ = D at hd ⊢
  rw [← View.read_writes_junk_eq_canon (ms0_5 t).view]
  refine AccAt.full (.cons _ _ 0 _ _ _ (AccAt.nil _ (fun _ => 0) _) ?_) x d (fun hx => ⟨dkAt_out m c t 512 0 rfl rfl x d hx, ?_⟩)
  · intro x d hx
    unfold dkAt
    pointwise [k0_pay4, k0_pay11, k0_pay1, k0_pay2]
    simp only [hd]
  · rw [View.read_writes_junk_eq_canon, View.canon_cons_unit_lit _ _ _ (by decide)]
    pointwise [k0_pay1]

theorem dv_A (t : Fin cfg0.N) (h : t.val % 4 = 0) (x : Fin 2048) (d : Fin 128) : (outsAt0 m c t.val t.isLt).2.2 (ix3 0 x d)
    = 0 + dvAt m c t 0 x d := by
  rw [outsAt0_A m c t (by omega) (by omega) (by omega) (by omega) (by omega)]
  frame_out
  have hd := p_A (iblk m c 0 t) (iblk m c 1 t)
  unfold pA at hd
  simp (disch := decide) only [View.readCov_fill]
  generalize k0_pay17 (F := Ideal) _ _ _ _ _ _ _ = D at hd ⊢
  rw [← View.read_writes_junk_eq_canon (ms0_6 t).view]
  refine AccAt.full (.cons _ _ 0 _ _ _ (AccAt.nil _ (fun _ => 0) _) ?_) x d (fun hx => ⟨dvAt_out m c t 512 0 rfl rfl x d hx, ?_⟩)
  · intro x d hx
    unfold dvAt
    pointwise [k0_pay5, k0_pay18, k0_pay1, k0_pay2]
    simp only [hd]
  · rw [View.read_writes_junk_eq_canon, View.canon_cons_unit_lit _ _ _ (by decide)]
    pointwise [k0_pay2]

theorem dk_B (t : Fin cfg0.N) (h : t.val % 4 = 1) (x : Fin 2048) (d : Fin 192) : (outsAt0 m c t.val t.isLt).2.1 (ix3 0 x d)
    = (outsAt0 m c (t.val - 1) (Nat.lt_of_le_of_lt (Nat.sub_le _ _) t.isLt)).2.1 (ix3 0 x d) + dkAt m c t 512 x d := by
  rw [outsAt0_B m c t (by omega) (by omega) (by omega) (by omega) (by omega)]
  frame_out
  have hd := ds_B (iblk m c 0 t) (iblk m c 1 t) (iblk m c 2 t) (iblk m c 3 t)
  unfold dsB at hd
  generalize k0_pay30 (F := Ideal) _ _ _ _ _ _ _ _ _ _ = D at hd ⊢
  refine AccAt.full (.cons _ _ 512 _ _ _ (.cons _ _ 0 _ _ _ (.nil _ _ _) ?_) ?_) x d (fun hx => ⟨dkAt_out m c t 1024 512 rfl rfl x d hx, ?_⟩)
  · intro x d hx
    unfold dkAt
    pointwise [k0_pay35, k0_pay33, k0_pay21]
    simp only [hd]
  · intro x d hx
    unfold dkAt
    pointwise [k0_pay37, k0_pay33, k0_pay21]
    simp only [hd]
  · exact congrFun ((hs0_5 t).read_unread _) _

theorem dv_B (t : Fin cfg0.N) (h : t.val % 4 = 1) (x : Fin 2048) (d : Fin 128) : (outsAt0 m c t.val t.isLt).2.2 (ix3 0 x d)
    = (outsAt0 m c (t.val - 1) (Nat.lt_of_le_of_lt (Nat.sub_le _ _) t.isLt)).2.2 (ix3 0 x d) + dvAt m c t 512 x d := by
  rw [outsAt0_B m c t (by omega) (by omega) (by omega) (by omega) (by omega)]
  frame_out
  have hd := p_B (iblk m c 0 t) (iblk m c 1 t)
  unfold pB at hd
  generalize k0_pay28 (F := Ideal) _ _ _ _ _ _ _ _ = D at hd ⊢
  refine AccAt.full (.cons _ _ 512 _ _ _ (.cons _ _ 0 _ _ _ (.nil _ _ _) ?_) ?_) x d (fun hx => ⟨dvAt_out m c t 1024 512 rfl rfl x d hx, ?_⟩)
  · intro x d hx
    unfold dvAt
    pointwise [k0_pay36, k0_pay34, k0_pay29]
    simp only [hd]
  · intro x d hx
    unfold dvAt
    pointwise [k0_pay6, k0_pay38, k0_pay34, k0_pay29]
    simp only [hd]
  · exact congrFun ((hs0_6 t).read_unread _) _

theorem dk_C (t : Fin cfg0.N) (h : t.val % 4 = 2) (x : Fin 2048) (d : Fin 192) : (outsAt0 m c t.val t.isLt).2.1 (ix3 0 x d)
    = (outsAt0 m c (t.val - 1) (Nat.lt_of_le_of_lt (Nat.sub_le _ _) t.isLt)).2.1 (ix3 0 x d) + dkAt m c t 1024 x d := by
  rw [outsAt0_C m c t (by omega) (by omega) (by omega) (by omega) (by omega)]
  frame_out
  have hd := ds_C (iblk m c 0 t) (iblk m c 1 t) (iblk m c 2 t) (iblk m c 3 t)
  unfold dsC at hd
  generalize k0_pay48 (F := Ideal) _ _ _ _ _ _ _ _ _ _ = D at hd ⊢
  refine AccAt.full (.cons _ _ 1024 _ _ _ (.cons _ _ 512 _ _ _ (.cons _ _ 0 _ _ _ (.nil _ _ _) ?_) ?_) ?_) x d (fun hx => ⟨dkAt_out m c t 1536 1024 rfl rfl x d hx, ?_⟩)
  · intro x d hx
    unfold dkAt
    pointwise [k0_pay53, k0_pay51, k0_pay39]
    simp only [hd]
  · intro x d hx
    unfold dkAt
    pointwise [k0_pay55, k0_pay51, k0_pay39]
    simp only [hd]
  · intro x d hx
    unfold dkAt
    pointwise [k0_pay8, k0_pay51, k0_pay39]
    simp only [hd]
  · exact congrFun ((hs0_5 t).read_unread _) _

theorem dv_C (t : Fin cfg0.N) (h : t.val % 4 = 2) (x : Fin 2048) (d : Fin 128) : (outsAt0 m c t.val t.isLt).2.2 (ix3 0 x d)
    = (outsAt0 m c (t.val - 1) (Nat.lt_of_le_of_lt (Nat.sub_le _ _) t.isLt)).2.2 (ix3 0 x d) + dvAt m c t 1024 x d := by
  rw [outsAt0_C m c t (by omega) (by omega) (by omega) (by omega) (by omega)]
  frame_out
  have hd := p_C (iblk m c 0 t) (iblk m c 1 t)
  unfold pC at hd
  generalize k0_pay46 (F := Ideal) _ _ _ _ _ _ _ _ = D at hd ⊢
  refine AccAt.full (.cons _ _ 1024 _ _ _ (.cons _ _ 512 _ _ _ (.cons _ _ 0 _ _ _ (.nil _ _ _) ?_) ?_) ?_) x d (fun hx => ⟨dvAt_out m c t 1536 1024 rfl rfl x d hx, ?_⟩)
  · intro x d hx
    unfold dvAt
    pointwise [k0_pay54, k0_pay52, k0_pay47]
    simp only [hd]
  · intro x d hx
    unfold dvAt
    pointwise [k0_pay7, k0_pay56, k0_pay52, k0_pay47]
    simp only [hd]
  · intro x d hx
    unfold dvAt
    pointwise [k0_pay9, k0_pay52, k0_pay47]
    simp only [hd]
  · exact congrFun ((hs0_6 t).read_unread _) _

theorem dk_D (t : Fin cfg0.N) (h : t.val % 4 = 3) (x : Fin 2048) (d : Fin 192) : (outsAt0 m c t.val t.isLt).2.1 (ix3 0 x d)
    = (outsAt0 m c (t.val - 1) (Nat.lt_of_le_of_lt (Nat.sub_le _ _) t.isLt)).2.1 (ix3 0 x d) + dkAt m c t 1536 x d := by
  rw [outsAt0_D m c t (by omega) (by omega) (by omega) (by omega) (by omega)]
  frame_out
  have hd := ds_D (iblk m c 0 t) (iblk m c 1 t) (iblk m c 2 t) (iblk m c 3 t)
  unfold dsD at hd
  generalize k0_pay66 (F := Ideal) _ _ _ _ _ _ _ _ _ _ = D at hd ⊢
  rw [← View.read_writes_junk_eq_canon (ms0_5 t).view]
  refine AccAt.full (.cons _ _ 1536 _ _ _ (.cons _ _ 1024 _ _ _ (.cons _ _ 512 _ _ _ (.cons _ _ 0 _ _ _ (.nil _ _ _) ?_) ?_) ?_) ?_) x d (fun hx => absurd x.isLt (Nat.not_lt.mpr hx))
  · intro x d hx
    unfold dkAt
    pointwise [k0_pay71, k0_pay69, k0_pay57]
    simp only [hd]
  · intro x d hx
    unfold dkAt
    pointwise [k0_pay73, k0_pay69, k0_pay57]
    simp only [hd]
  · intro x d hx
    unfold dkAt
    pointwise [k0_pay76, k0_pay69, k0_pay57]
    simp only [hd]
  · intro x d hx
    unfold dkAt
    pointwise [k0_pay78, k0_pay69, k0_pay57]
    simp only [hd]

theorem dv_D (t : Fin cfg0.N) (h : t.val % 4 = 3) (x : Fin 2048) (d : Fin 128) : (outsAt0 m c t.val t.isLt).2.2 (ix3 0 x d)
    = (outsAt0 m c (t.val - 1) (Nat.lt_of_le_of_lt (Nat.sub_le _ _) t.isLt)).2.2 (ix3 0 x d) + dvAt m c t 1536 x d := by
  rw [outsAt0_D m c t (by omega) (by omega) (by omega) (by omega) (by omega)]
  frame_out
  have hd := p_D (iblk m c 0 t) (iblk m c 1 t)
  unfold pD at hd
  generalize k0_pay64 (F := Ideal) _ _ _ _ _ _ _ _ = D at hd ⊢
  rw [← View.read_writes_junk_eq_canon (ms0_6 t).view]
  refine AccAt.full (.cons _ _ 1536 _ _ _ (.cons _ _ 1024 _ _ _ (.cons _ _ 512 _ _ _ (.cons _ _ 0 _ _ _ (.nil _ _ _) ?_) ?_) ?_) ?_) x d (fun hx => absurd x.isLt (Nat.not_lt.mpr hx))
  · intro x d hx
    unfold dvAt
    pointwise [k0_pay72, k0_pay70, k0_pay65]
    simp only [hd]
  · intro x d hx
    unfold dvAt
    pointwise [k0_pay75, k0_pay74, k0_pay70, k0_pay65]
    simp only [hd]
  · intro x d hx
    unfold dvAt
    pointwise [k0_pay77, k0_pay70, k0_pay65]
    simp only [hd]
  · intro x d hx
    unfold dvAt
    pointwise [k0_pay10, k0_pay79, k0_pay70, k0_pay65]
    simp only [hd]

end Cert.Kernel20Ideal.Own
-- ==== Proof.LatAttnGrad.lean ====
/-
  The latent attention backward: the call against its reference.
-/
module
public import proofs.«01_k».proof.Proof.Gen.Kernel20Ideal.Value
public import proofs.«01_k».proof.Proof.Gen.Reference20Ideal.Read
public import proofs.«01_k».proof.Proof.LatAttnGradAcc
public import proofs.«01_k».proof.Proof.HeadGradSpec
public import proofs.«01_k».proof.Proof.Finite
public import proofs.«01_k».proof.Pre_finite20
public import proofs.«01_k».proof.Defs
public import proofs.«01_k».proof.Proof.Base

@[expose] public section

set_option maxRecDepth 20000

noncomputable section

namespace Cert.Kernel20Ideal.Own

open Idealize.ShloMosaic Idealize.ShloMosaic.TcCoe Idealize.ShloMosaic.Pointwise
open Idealize.ShloMosaic.Pipeline (Dat)
open Cert.Kernel20Ideal Cert.Kernel20Ideal.Gen Cert.Ffn Cert.Mix Cert.Soft

variable (m : (ℓ : Loc nD τ sig) → Buf (Elt Ideal) ℓ) (ρ : Dev nD → PrngReg) (c : Dev nD)

section Spec
variable (q k : FVec Ideal S8x2048x192 .f32) (v : FVec Ideal S8x2048x128 .f32) (g : FVec Ideal S2048x1024 .f32)

/-- The column of head `h` at place `j` in it. -/
abbrev headCol (h : Fin 8) (j : Fin 128) : Fin 1024 := ⟨128 * h.val + j.val, by omega⟩

/-- A query's scores, the gradient of its weights, its weights, and the gradient of its scores. -/
abbrev scoresOf (h : Fin 8) (i κ : Fin 2048) : EReal := if κ.val / 64 ≤ i.val / 64 then ∑ d : Fin 192, q (ix3 h i d) * k (ix3 h κ d) else ⊥
abbrev dweightsOf (h : Fin 8) (i κ : Fin 2048) : EReal := ∑ j : Fin 128, g (ix2 i (headCol h j)) * v (ix3 h κ j)
abbrev weightOf (h : Fin 8) (i κ : Fin 2048) : EReal := smW (scoresOf q k h i) κ
abbrev gradOf (h : Fin 8) (i κ : Fin 2048) : EReal := smB (scoresOf q k h i) (dweightsOf v g h i) κ

/-- The gradients of the queries, keys and values, of the arrays the call is launched on. -/
abbrev dqOf : FVec Ideal S8x2048x192 .f32 := fun i => ∑ κ, gradOf q k v g (i 0) (i 1) κ * k (ix3 (i 0) κ (i 2))
abbrev dkOf : FVec Ideal S8x2048x192 .f32 := fun i => ∑ j, gradOf q k v g (i 0) j (i 1) * q (ix3 (i 0) j (i 2))
abbrev dvOf : FVec Ideal S8x2048x128 .f32 := fun i => ∑ j, weightOf q k (i 0) j (i 1) * g (ix2 j (headCol (i 0) (i 2)))
end Spec

/-- A sum over the queries is one over the blocks of sums over their queries. -/
theorem sum_queries (F : Fin 2048 → EReal) : ∑ i, F i = ∑ s : Fin 4, ∑ r : Fin 512, F ⟨512 * s.val + r.val, by omega⟩ := by
  rw [← Fintype.sum_prod_type' (f := fun (s : Fin 4) (r : Fin 512) => F ⟨512 * s.val + r.val, by omega⟩)]
  refine (Fintype.sum_equiv (finProdFinEquiv (m := 4) (n := 512)) _ _ fun p => ?_).symm
  refine congrArg F (Fin.ext ?_)
  show 512 * p.1.val + p.2.val = p.2.val + 512 * p.1.val
  omega

/-- An index of a block of one head. -/
theorem unit_ix3 {n w : ℕ} (y : (⟨3, ![1, n, w]⟩ : Shape).Idx) : ∃ (a : Fin n) (b : Fin w), y = ix3 0 a b :=
  ⟨y 1, y 2, (eq_ix3 y).trans (congrArg (fun z : Fin 1 => ix3 z (y 1 : Fin n) (y 2 : Fin w)) (Subsingleton.elim (α := Fin 1) _ _))⟩

/-- The head a grid point works on, and its queries' places among all. -/
abbrev headAt (t : Fin cfg0.N) : Fin 8 := ⟨t.val / 4, by have h : t.val < 32 := t.isLt; omega⟩
abbrev rowAt (t : Fin cfg0.N) (r : Fin 512) : Fin 2048 := ⟨512 * (t.val % 4) + r.val, by omega⟩

theorem q_blk (t : Fin cfg0.N) (r : Fin 512) (d : Fin 192) : (iblk m c 0 t : FVec Ideal S1x512x192 .bf16) (ix3 0 r d)
    = (V m c main_v0 : FVec Ideal S8x2048x192 .f32) (ix3 (headAt t) (rowAt t r) d) := by
  blk_point [iblk, idx t]
  all_goals (blk_simp [idx t]; omega)
theorem k_blk (t : Fin cfg0.N) (κ : Fin 2048) (d : Fin 192) : (iblk m c 1 t : FVec Ideal S1x2048x192 .bf16) (ix3 0 κ d)
    = (V m c main_v1 : FVec Ideal S8x2048x192 .f32) (ix3 (headAt t) κ d) := by
  blk_point [iblk, idx t]
  all_goals (blk_simp [idx t]; omega)
theorem v_blk (t : Fin cfg0.N) (κ : Fin 2048) (d : Fin 128) : (iblk m c 2 t : FVec Ideal S1x2048x128 .bf16) (ix3 0 κ d)
    = (V m c main_v2 : FVec Ideal S8x2048x128 .f32) (ix3 (headAt t) κ d) := by
  blk_point [iblk, idx t]
  all_goals (blk_simp [idx t]; omega)
theorem g_blk (t : Fin cfg0.N) (r : Fin 512) (j : Fin 128) : (iblk m c 3 t : FVec Ideal S512x128 .f32) (ix2 r j)
    = (V m c main_arg3 : FVec Ideal S2048x1024 .f32) (ix2 (rowAt t r) (headCol (headAt t) j)) := by
  blk_point [iblk, idx t]
  all_goals (blk_simp [idx t]; omega)

theorem wAt_eq (t : Fin cfg0.N) (r : Fin 512) (κ : Fin 2048) : wAt (iblk m c 0 t) (iblk m c 1 t) (512 * (t.val % 4)) r κ
    = weightOf (V m c main_v0) (V m c main_v1) (headAt t) (rowAt t r) κ := by
  refine congrFun (congrArg smW (funext fun κ => if_congr Iff.rfl (Finset.sum_congr rfl fun d _ => ?_) rfl)) κ
  rw [q_blk, k_blk]
theorem gAt_eq (t : Fin cfg0.N) (r : Fin 512) (κ : Fin 2048) : gAt (iblk m c 0 t) (iblk m c 1 t) (iblk m c 2 t) (iblk m c 3 t) (512 * (t.val % 4)) r κ
    = gradOf (V m c main_v0) (V m c main_v1) (V m c main_v2) (V m c main_arg3) (headAt t) (rowAt t r) κ := by
  refine congrFun (congrArg₂ smB (funext fun κ => if_congr Iff.rfl (Finset.sum_congr rfl fun d _ => ?_) rfl) (funext fun κ => Finset.sum_congr rfl fun d _ => ?_)) κ
  · rw [q_blk, k_blk]
  · rw [g_blk, v_blk]

theorem out_dq (t : Fin cfg0.N) (r : Fin 512) (d : Fin 192) : (outsAt0 m c t.val t.isLt).1 (ix3 0 r d)
    = ∑ κ, gAt (iblk m c 0 t) (iblk m c 1 t) (iblk m c 2 t) (iblk m c 3 t) (512 * (t.val % 4)) r κ * (iblk m c 1 t : FVec Ideal S1x2048x192 .bf16) (ix3 0 κ d) := by
  rcases (by omega : t.val % 4 = 0 ∨ t.val % 4 = 1 ∨ t.val % 4 = 2 ∨ t.val % 4 = 3) with h | h | h | h
  · rw [h, outsAt0_A m c t (by omega) (by omega) (by omega) (by omega) (by omega)]
    frame_out
    exact dq_A ..
  · rw [h, outsAt0_B m c t (by omega) (by omega) (by omega) (by omega) (by omega)]
    frame_out
    exact dq_B ..
  · rw [h, outsAt0_C m c t (by omega) (by omega) (by omega) (by omega) (by omega)]
    frame_out
    exact dq_C ..
  · rw [h, outsAt0_D m c t (by omega) (by omega) (by omega) (by omega) (by omega)]
    frame_out
    exact dq_D ..

theorem dkAt_eq (t : Fin cfg0.N) (x : Fin 2048) (d : Fin 192) : dkAt m c t (512 * (t.val % 4)) x d
    = ∑ r, gradOf (V m c main_v0) (V m c main_v1) (V m c main_v2) (V m c main_arg3) (headAt t) (rowAt t r) x
        * (V m c main_v0 : FVec Ideal S8x2048x192 .f32) (ix3 (headAt t) (rowAt t r) d) :=
  Finset.sum_congr rfl fun r _ => by rw [gAt_eq, q_blk]
theorem dvAt_eq (t : Fin cfg0.N) (x : Fin 2048) (d : Fin 128) : dvAt m c t (512 * (t.val % 4)) x d
    = ∑ r, weightOf (V m c main_v0) (V m c main_v1) (headAt t) (rowAt t r) x
        * (V m c main_arg3 : FVec Ideal S2048x1024 .f32) (ix2 (rowAt t r) (headCol (headAt t) d)) :=
  Finset.sum_congr rfl fun r _ => by rw [wAt_eq, g_blk]

/-- The four blocks of a head's queries, in the point that writes the head's result back. -/
theorem run_head (t : Fin cfg0.N) (h : t.val % 4 = 3) (s : Fin 4) : headAt ⟨4 * (t.val / 4) + s.val, Pipeline.run_point_lt_of_flush t h s⟩ = headAt t :=
  Fin.ext (by show (4 * (t.val / 4) + s.val) / 4 = t.val / 4; omega)
theorem run_row (t : Fin cfg0.N) (h : t.val % 4 = 3) (s : Fin 4) (r : Fin 512) :
    rowAt ⟨4 * (t.val / 4) + s.val, Pipeline.run_point_lt_of_flush t h s⟩ r = ⟨512 * s.val + r.val, by omega⟩ :=
  Fin.ext (by show 512 * ((4 * (t.val / 4) + s.val) % 4) + r.val = 512 * s.val + r.val; omega)

theorem out_dk (t : Fin cfg0.N) (h : t.val % 4 = 3) (x : Fin 2048) (d : Fin 192) : (outsAt0 m c t.val t.isLt).2.1 (ix3 0 x d)
    = dkOf (V m c main_v0) (V m c main_v1) (V m c main_v2) (V m c main_arg3) (ix3 (headAt t) x d) := by
  rw [Pipeline.eq_sum_fin_of_reset_step_apply_of_flush (fun n h => (outsAt0 m c n h).2.1) 4 (fun _ => 0) (fun t y => dkAt m c t (512 * (t.val % 4)) (y 1) (y 2))
    (fun t h y => by
      obtain ⟨a, b, rfl⟩ := unit_ix3 y
      rw [h]
      exact dk_A m c t h _ _)
    (fun t h y => by
      obtain ⟨a, b, rfl⟩ := unit_ix3 y
      rcases (by omega : t.val % 4 = 1 ∨ t.val % 4 = 2 ∨ t.val % 4 = 3) with h | h | h
      · rw [h]; exact dk_B m c t h _ _
      · rw [h]; exact dk_C m c t h _ _
      · rw [h]; exact dk_D m c t h _ _)
    t h (ix3 0 x d), zero_add]
  refine Eq.trans (Finset.sum_congr rfl fun s _ => ?_) (sum_queries _).symm
  refine (dkAt_eq m c _ x d).trans (Finset.sum_congr rfl fun r _ => ?_)
  rw [run_head t h s, run_row t h s r]
  rfl

theorem out_dv (t : Fin cfg0.N) (h : t.val % 4 = 3) (x : Fin 2048) (d : Fin 128) : (outsAt0 m c t.val t.isLt).2.2 (ix3 0 x d)
    = dvOf (V m c main_v0) (V m c main_v1) (V m c main_arg3) (ix3 (headAt t) x d) := by
  rw [Pipeline.eq_sum_fin_of_reset_step_apply_of_flush (fun n h => (outsAt0 m c n h).2.2) 4 (fun _ => 0) (fun t y => dvAt m c t (512 * (t.val % 4)) (y 1) (y 2))
    (fun t h y => by
      obtain ⟨a, b, rfl⟩ := unit_ix3 y
      rw [h]
      exact dv_A m c t h _ _)
    (fun t h y => by
      obtain ⟨a, b, rfl⟩ := unit_ix3 y
      rcases (by omega : t.val % 4 = 1 ∨ t.val % 4 = 2 ∨ t.val % 4 = 3) with h | h | h
      · rw [h]; exact dv_B m c t h _ _
      · rw [h]; exact dv_C m c t h _ _
      · rw [h]; exact dv_D m c t h _ _)
    t h (ix3 0 x d), zero_add]
  refine Eq.trans (Finset.sum_congr rfl fun s _ => ?_) (sum_queries _).symm
  refine (dvAt_eq m c _ x d).trans (Finset.sum_congr rfl fun r _ => ?_)
  rw [run_head t h s, run_row t h s r]
  rfl

theorem eq_ix3_of {A B C : Nat} (y : (⟨3, ![A, B, C]⟩ : Shape).Idx) (a : Fin A) (b : Fin B) (d : Fin C) (h0 : (y 0).val = a.val) (h1 : (y 1).val = b.val)
    (h2 : (y 2).val = d.val) : y = ix3 a b d := by
  rw [eq_ix3 y]
  exact congr (congrArg₂ ix3 (Fin.ext h0) (Fin.ext h1)) (Fin.ext h2)

theorem emb_dq (t : Fin cfg0.N) (a : Fin 512) (b : Fin 192) : ((win0_4.blk t).view.emb (ix3 0 a b) : S8x2048x192.Idx) = ix3 (headAt t) (rowAt t a) b := by
  refine eq_ix3_of _ _ _ _ ?_ ?_ ?_ <;> blk_simp [idx t, ix3]
  show t.val % 4 * 512 + a.val = 512 * (t.val % 4) + a.val
  omega
theorem emb_dk (t : Fin cfg0.N) (a : Fin 2048) (b : Fin 192) : ((win0_5.blk t).view.emb (ix3 0 a b) : S8x2048x192.Idx) = ix3 (headAt t) a b := by
  refine eq_ix3_of _ _ _ _ ?_ ?_ ?_ <;> blk_simp [idx t, ix3]
theorem emb_dv (t : Fin cfg0.N) (a : Fin 2048) (b : Fin 128) : ((win0_6.blk t).view.emb (ix3 0 a b) : S8x2048x128.Idx) = ix3 (headAt t) a b := by
  refine eq_ix3_of _ _ _ _ ?_ ?_ ?_ <;> blk_simp [idx t, ix3]

theorem out_dq_at (t : Fin cfg0.N) (r : Fin 512) (d : Fin 192) : (outsAt0 m c t.val t.isLt).1 (ix3 0 r d)
    = dqOf (V m c main_v0) (V m c main_v1) (V m c main_v2) (V m c main_arg3) (ix3 (headAt t) (rowAt t r) d) := by
  rw [out_dq]
  refine Finset.sum_congr rfl fun κ _ => ?_
  rw [gAt_eq, k_blk]
  rfl

theorem final4 : (dats m 0 c).arrAt 4 cfg0.N = dqOf (V m c main_v0) (V m c main_v1) (V m c main_v2) (V m c main_arg3) := by
  refine (dats m 0 c).arrAt_eq_of_covers 4 _ (by decide +kernel) fun t hf y => ?_
  blk_simp
  obtain ⟨a, b, rfl⟩ := unit_ix3 y
  rw [after0_4, out_dq_at]
  exact congrArg _ (emb_dq t a b).symm

theorem final5 : (dats m 0 c).arrAt 5 cfg0.N = dkOf (V m c main_v0) (V m c main_v1) (V m c main_v2) (V m c main_arg3) := by
  refine (dats m 0 c).arrAt_eq_of_covers 5 _ (by decide +kernel) fun t hf y => ?_
  blk_simp
  obtain ⟨a, b, rfl⟩ := unit_ix3 y
  rw [after0_5, out_dk m c t ((flush0_5 t).mp hf)]
  exact congrArg _ (emb_dk t a b).symm

theorem final6 : (dats m 0 c).arrAt 6 cfg0.N = dvOf (V m c main_v0) (V m c main_v1) (V m c main_arg3) := by
  refine (dats m 0 c).arrAt_eq_of_covers 6 _ (by decide +kernel) fun t hf y => ?_
  blk_simp
  obtain ⟨a, b, rfl⟩ := unit_ix3 y
  rw [after0_6, out_dv m c t ((flush0_6 t).mp hf)]
  exact congrArg _ (emb_dv t a b).symm

abbrev ent (s : Shape) (x : s.Idx → EReal) (i : s.Idx) : EReal := x i

section Host
variable (W : Valuation τ sig (Elt Ideal))

theorem host_q : StableHlo.after hostOps0 W (Proc.devRef .tc main_v0) = (W (Proc.devRef .tc main_arg0) : FVec Ideal S8x2048x192 .f32) := by
  refine funext fun (i : S8x2048x192.Idx) => ?_
  show ent S8x2048x192 (StableHlo.after hostOps0 W (Proc.devRef .tc main_v0)) i = ent S8x2048x192 (W (Proc.devRef .tc main_arg0)) i
  unfold ent
  after_reads_at

theorem host_k : StableHlo.after hostOps0 W (Proc.devRef .tc main_v1) = (W (Proc.devRef .tc main_arg1) : FVec Ideal S8x2048x192 .f32) := by
  refine funext fun (i : S8x2048x192.Idx) => ?_
  show ent S8x2048x192 (StableHlo.after hostOps0 W (Proc.devRef .tc main_v1)) i = ent S8x2048x192 (W (Proc.devRef .tc main_arg1)) i
  unfold ent
  after_reads_at

theorem host_v : StableHlo.after hostOps0 W (Proc.devRef .tc main_v2) = (W (Proc.devRef .tc main_arg2) : FVec Ideal S8x2048x128 .f32) := by
  refine funext fun (i : S8x2048x128.Idx) => ?_
  show ent S8x2048x128 (StableHlo.after hostOps0 W (Proc.devRef .tc main_v2)) i = ent S8x2048x128 (W (Proc.devRef .tc main_arg2)) i
  unfold ent
  after_reads_at

theorem host_g : StableHlo.after hostOps0 W (Proc.devRef .tc main_arg3) = (W (Proc.devRef .tc main_arg3) : FVec Ideal S2048x1024 .f32) := by
  refine funext fun (i : S2048x1024.Idx) => ?_
  show ent S2048x1024 (StableHlo.after hostOps0 W (Proc.devRef .tc main_arg3)) i = ent S2048x1024 (W (Proc.devRef .tc main_arg3)) i
  unfold ent
  after_reads_at

end Host

theorem result_dq : (dats m 0 c).arrAt 4 cfg0.N = dqOf (ent S8x2048x192 (m ((c : Thread nD τ).loc main_arg0))) (ent S8x2048x192 (m ((c : Thread nD τ).loc main_arg1))) (ent S8x2048x128 (m ((c : Thread nD τ).loc main_arg2))) (ent S2048x1024 (m ((c : Thread nD τ).loc main_arg3))) := by
  rw [final4]
  exact congr (congr (congrArg₂ dqOf (host_q _) (host_k _)) (host_v _)) (host_g _)

theorem result_dk : (dats m 0 c).arrAt 5 cfg0.N = dkOf (ent S8x2048x192 (m ((c : Thread nD τ).loc main_arg0))) (ent S8x2048x192 (m ((c : Thread nD τ).loc main_arg1))) (ent S8x2048x128 (m ((c : Thread nD τ).loc main_arg2))) (ent S2048x1024 (m ((c : Thread nD τ).loc main_arg3))) := by
  rw [final5]
  exact congr (congr (congrArg₂ dkOf (host_q _) (host_k _)) (host_v _)) (host_g _)

theorem result_dv : (dats m 0 c).arrAt 6 cfg0.N = dvOf (ent S8x2048x192 (m ((c : Thread nD τ).loc main_arg0))) (ent S8x2048x192 (m ((c : Thread nD τ).loc main_arg1))) (ent S2048x1024 (m ((c : Thread nD τ).loc main_arg3))) := by
  rw [final6]
  exact congr (congrArg₂ dvOf (host_q _) (host_k _)) (host_g _)

end Cert.Kernel20Ideal.Own

namespace Cert.Reference20Ideal.Own

open Idealize.ShloMosaic Idealize.ShloMosaic.Pointwise
open Cert.Reference20Ideal Cert.Reference20Ideal.Gen Cert.Reference20Ideal.Read Cert.Ffn Cert.Mix Cert.Soft
open Cert.Kernel20Ideal.Own (headCol scoresOf dweightsOf weightOf gradOf dqOf dkOf dvOf select_chunk chunk_le)

variable (q k : FVec Ideal S8x2048x192 .f32) (v : FVec Ideal S8x2048x128 .f32) (g : FVec Ideal S2048x1024 .f32) (h : Fin 8) (i κ : Fin 2048)

/-- The scores' greatest along the keys. -/
theorem ref_max : val_main_v17 (F := Ideal) q k (ix2 h i) = rowMax fun κ : Fin 2048 => val_main_v9_0 (F := Ideal) q k (ix3 h i κ) := by
  have e : val_main_v10 (F := Ideal) q k (ix2 h i) = rowMax fun κ : Fin 2048 => val_main_v9_0 (F := Ideal) q k (ix3 h i κ) := by
    unfold val_main_v10
    rw [Host.reduce_eq_fold_single _ _ _ _ (by decide)]
    unfold rowMax
    pointwise [val_main_cst_0]
    rw [ofBits_neg_inf]
    refine congrArg (fun f => Finset.univ.fold max ⊥ f) (funext fun κ => congrArg (val_main_v9_0 (F := Ideal) q k) ?_)
    refine funext fun a => ?_
    fin_cases a <;> rfl
  rw [val_main_v17_apply, e]
  pointwise [val_main_v16, val_main_cst_2]
  rw [ofBits_neg_inf, max_bot_rowMax]

/-- The chunk a position lies in, as the reference takes it. -/
theorem ref_chunk : val_main_v2 (F := Ideal) (ix1 i) = BitVec.ofNat 32 (i.val / 64) := by
  pointwise [val_main_v2, val_main_call0_v13, val_main_call0_v12, val_main_call0_v11, val_main_call0_v10, val_main_call0_v9, val_main_call0_v8, val_main_call0_v7, val_main_call0_v6,
    val_main_call0_v5, val_main_call0_v4, val_main_call0_v3, val_main_call0_v2, val_main_call0_v1, val_main_call0_v0, val_main_v1, val_main_c, val_main_call0_c, val_main_call0_c_0]
  revert i
  decide +kernel

/-- The reference's scores, those in a later chunk minus infinity. -/
theorem ref_score : val_main_v9_0 (F := Ideal) q k (ix3 h i κ) = scoresOf q k h i κ := by
  unfold scoresOf
  rw [← select_chunk (κ.val / 64) (i.val / 64) (by omega) (by omega), ← ref_chunk, ← ref_chunk]
  pointwise [val_main_v9_0, val_main_v9_1, val_main_call1_v2, val_main_call1_v0, val_main_cst, val_main_v8, val_main_v7, val_main_v6, val_main_v5, val_main_v4, val_main_v3, val_main_v0]
  exact congrArg _ ofBits_neg_inf

theorem ref_exp : val_main_v30 (F := Ideal) q k (ix3 h i κ) = rowExp (scoresOf q k h i) κ := by
  unfold rowExp
  rw [← funext fun κ => ref_score q k h i κ, ← ref_max]
  pointwise [val_main_v30, val_main_v29, val_main_v28, val_main_v27]

theorem ref_sum : val_main_v31 (F := Ideal) q k (ix2 h i) = rowSum (scoresOf q k h i) := by
  unfold rowSum
  rw [← funext fun κ => ref_exp q k h i κ]
  pointwise [val_main_v31, val_main_cst_8, zero_add]

/-- The gradient of the weights. -/
theorem ref_dweights : val_main_v43 (F := Ideal) v g (ix3 h i κ) = dweightsOf v g h i κ := by
  unfold dweightsOf
  pointwise [val_main_v43, val_main_v42, val_main_v41]
  exact Finset.sum_congr rfl fun x _ => congrArg (fun y => g (ix2 i y) * v (ix3 h κ x)) (Fin.ext (Nat.add_right_cancel_iff.mpr (Nat.mul_comm _ _)))

theorem ref_weight : val_main_v34 (F := Ideal) q k (ix3 h i κ) = Ideal.div (rowExp (scoresOf q k h i) κ) (rowSum (scoresOf q k h i)) := by
  rw [← ref_exp, ← ref_sum]
  pointwise [val_main_v34, val_main_v33, val_main_v32]

/-- The gradient of the scores before the mask, as the reference splits it. -/
theorem ref_split : val_main_v57 (F := Ideal) q k v g (ix3 h i κ) = (Ideal.div (dweightsOf v g h i κ) (rowSum (scoresOf q k h i))
      + -(∑ j, dweightsOf v g h i j * Ideal.div 1 (rowSum (scoresOf q k h i) * rowSum (scoresOf q k h i)) * rowExp (scoresOf q k h i) j)) * rowExp (scoresOf q k h i) κ := by
  simp only [← ref_exp, ← ref_sum, ← ref_dweights]
  pointwise [val_main_v57, val_main_v56, val_main_v55, val_main_v54, val_main_v53, val_main_v52, val_main_v51, val_main_v50, val_main_v49, val_main_v48, val_main_v47, val_main_v46,
    val_main_v37, val_main_v36, val_main_v35, val_main_v32, val_main_cst_9, val_main_cst_10, val_main_cst_11, zero_add]
  rw [Fin.sum_univ_one]

theorem select_zero (a b : ℕ) (ha : a < 32) (hb : b < 32) (s : EReal) :
    Scalar.select (IntOp.cmpi .sle (BitVec.ofNat 32 a) (BitVec.ofNat 32 b)) s (0 : EReal) = if a ≤ b then s else 0 := by
  rw [chunk_le ⟨a, ha⟩ ⟨b, hb⟩]
  by_cases h : a ≤ b <;> simp [h, Scalar.select]

theorem ref_masked : val_main_v58 (F := Ideal) q k v g (ix3 h i κ) = if κ.val / 64 ≤ i.val / 64 then val_main_v57 (F := Ideal) q k v g (ix3 h i κ) else 0 := by
  rw [← select_zero (κ.val / 64) (i.val / 64) (by omega) (by omega), ← ref_chunk, ← ref_chunk]
  pointwise [val_main_v58, val_main_v9_1, val_main_call2_v0, val_main_call2_cst, val_main_v8, val_main_v7, val_main_v6, val_main_v5, val_main_v4, val_main_v3]

section Finite
variable (hq : ∀ i, q i ≠ ⊤ ∧ q i ≠ ⊥) (hk : ∀ i, k i ≠ ⊤ ∧ k i ≠ ⊥)
include hq hk

theorem scores_top : scoresOf q k h i κ ≠ ⊤ := by
  obtain ⟨y, hy⟩ := sum_real (fun d : Fin 192 => q (ix3 h i d)) (fun d => k (ix3 h κ d)) (fun _ => hq _) (fun _ => hk _)
  unfold scoresOf
  rw [hy]
  split
  · exact EReal.coe_ne_top _
  · exact bot_ne_top

theorem scores_diag : scoresOf q k h i i ≠ ⊥ := by
  obtain ⟨y, hy⟩ := sum_real (fun d : Fin 192 => q (ix3 h i d)) (fun d => k (ix3 h i d)) (fun _ => hq _) (fun _ => hk _)
  unfold scoresOf
  rw [hy, if_pos (Nat.le_refl _)]
  exact EReal.coe_ne_bot _

/-- The reference's weights are the kernel's: a division by the sum is a product with its reciprocal. -/
theorem weight_eq : val_main_v34 (F := Ideal) q k (ix3 h i κ) = weightOf q k h i κ := by
  rw [ref_weight]
  exact smW_eq _ (fun κ => scores_top q k h i κ hq hk) i (scores_diag q k h i hq hk) κ

/-- The reference's gradient of the scores is the kernel's. -/
theorem grad_eq : val_main_v58 (F := Ideal) q k v g (ix3 h i κ) = gradOf q k v g h i κ := by
  rw [ref_masked]
  by_cases hm : κ.val / 64 ≤ i.val / 64
  · rw [if_pos hm, ref_split]
    exact smB_eq _ (fun κ => scores_top q k h i κ hq hk) i (scores_diag q k h i hq hk) (dweightsOf v g h i) κ
  · rw [if_neg hm]
    exact (smB_masked _ _ _ (if_neg hm)).symm

theorem dq_eq : val_main_v60 (F := Ideal) q k v g = dqOf q k v g := by
  refine funext fun (i : S8x2048x192.Idx) => ?_
  rw [eq_ix3 i]
  generalize (i 0 : Fin 8) = h, (i 1 : Fin 2048) = r, (i 2 : Fin 192) = d
  refine Eq.trans ?_ (Finset.sum_congr rfl fun κ _ => congrArg (· * _) (grad_eq q k v g h r κ hq hk))
  pointwise [val_main_v60]

theorem dk_eq : val_main_v59 (F := Ideal) q k v g = dkOf q k v g := by
  refine funext fun (i : S8x2048x192.Idx) => ?_
  rw [eq_ix3 i]
  generalize (i 0 : Fin 8) = h, (i 1 : Fin 2048) = r, (i 2 : Fin 192) = d
  refine Eq.trans ?_ (Finset.sum_congr rfl fun j _ => congrArg (· * _) (grad_eq q k v g h j r hq hk))
  pointwise [val_main_v59]

theorem dv_eq : val_main_v45 (F := Ideal) q k g = dvOf q k g := by
  refine funext fun (i : S8x2048x128.Idx) => ?_
  rw [eq_ix3 i]
  generalize (i 0 : Fin 8) = h, (i 1 : Fin 2048) = r, (i 2 : Fin 128) = d
  refine Eq.trans ?_ (Finset.sum_congr rfl fun j _ => congrArg (· * _) (weight_eq q k h j r hq hk))
  pointwise [val_main_v45, val_main_v44, val_main_v42, val_main_v41]
  exact Finset.sum_congr rfl fun x _ => (mul_comm _ _).trans (congrArg (fun y => _ * g (ix2 x y)) (Fin.ext (Nat.add_right_cancel_iff.mpr (Nat.mul_comm _ _))))

end Finite

end Cert.Reference20Ideal.Own

namespace Cert.Proof

open Idealize.ShloMosaic Idealize.SL.Sem Cert.Soft

theorem pre_facts20 : Cert.Pre_finite20.Facts := ⟨by decide, by decide, by decide⟩

/-- The queries and keys that the precondition names are finite. -/
theorem fin_pre20 [hF : Cert.Pre_finite20.Facts] (q k : FVec Ideal ⟨3, ![8, 2048, 192]⟩ .f32) (v : FVec Ideal ⟨3, ![8, 2048, 128]⟩ .f32) (g : FVec Ideal ⟨2, ![2048, 1024]⟩ .f32)
    (h : Cert.Pre_finite20.fn (F := Ideal) q k v g = fun _ => 1#1) : (∀ i, q i ≠ ⊤ ∧ q i ≠ ⊥) ∧ ∀ i, k i ≠ ⊤ ∧ k i ≠ ⊥ := by
  unfold Cert.Pre_finite20.fn at h
  obtain ⟨e1, e2⟩ := both_ones (congrFun h (Shape.Idx.first (s := ⟨0, ![]⟩) (by decide)))
  exact ⟨fun i => ne_of_sub_self _ (Cert.Gla.finite_of_all q _ _ _ _ _ e1 i), fun i => ne_of_sub_self _ (Cert.Gla.finite_of_all k _ _ _ _ _ e2 i)⟩

theorem frame_ref20 : quiescent_Reference20Ideal (hReference20Ideal := Cert.Reference20Ideal.Gen.facts) := fun m ρ _ =>
  (θ_run Cert.Reference20Ideal.defs _ _).mono (fun r h => ⟨fun c => (h c).2.2.2, Idealize.ShloMosaic.sem_eq_zero_of_no_sems (by decide) r.2⟩)
    (Cert.Reference20Ideal.Value.run m ρ)

/-- The latent attention's backward call computes the three gradients that the reference computes. -/
theorem value20 : algebraic_Kernel20Ideal_Reference20Ideal_pre_finite20 (hKernel20Ideal := Cert.Kernel20Ideal.Gen.facts)
    (hReference20Ideal := Cert.Reference20Ideal.Gen.facts) (hPre_finite20 := pre_facts20) := fun m ρ m' ρ' hp ha => by
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    fun c => (Cert.Kernel20Ideal.Gen.dats m 0 c).arrAt 6 Cert.Kernel20Ideal.cfg0.N, Cert.Kernel20Ideal.Value.run_blocks m ρ, ?_⟩
  refine (θ_run Cert.Reference20Ideal.defs _ _).mono (fun r h c => ⟨(h c).1.trans ?_, (h c).2.1.trans ?_, (h c).2.2.1.trans ?_, (h c).2.2.2⟩)
    (Cert.Reference20Ideal.Value.run m' ρ')
  all_goals
    obtain ⟨a0, a1, a2, a3⟩ := ha c
    obtain ⟨hq, hk⟩ := fin_pre20 (hF := pre_facts20) _ _ _ _ (hp c)
  · refine (Cert.Reference20Ideal.Read.val_main_v60_eq (F := Ideal) _ _).trans ?_
    rw [a0, a1, a2, a3]
    exact (Cert.Reference20Ideal.Own.dq_eq _ _ _ _ hq hk).trans (Cert.Kernel20Ideal.Own.result_dq m c).symm
  · refine (Cert.Reference20Ideal.Read.val_main_v59_eq (F := Ideal) _ _).trans ?_
    rw [a0, a1, a2, a3]
    exact (Cert.Reference20Ideal.Own.dk_eq _ _ _ _ hq hk).trans (Cert.Kernel20Ideal.Own.result_dk m c).symm
  · refine (Cert.Reference20Ideal.Read.val_main_v45_eq (F := Ideal) _ _).trans ?_
    rw [a0, a1, a3]
    exact (Cert.Reference20Ideal.Own.dv_eq _ _ _ hq hk).trans (Cert.Kernel20Ideal.Own.result_dv m c).symm

end Cert.Proof
-- ==== Proof.FwdReference.lean ====
/-
  What the host lines of the forward reference leave: the running sums and updates before the loop, the states the loop
  writes into its history, and the output rows read off them, as the plain functions of Proof/Spec.lean.
-/
module
public import proofs.«01_k».proof.Proof.Gen.Reference2Ideal.Run
public import proofs.«01_k».proof.Proof.Spec
public import proofs.«01_k».proof.Proof.CumSum
public import proofs.«01_k».proof.Proof.Base

@[expose] public section

set_option maxRecDepth 20000

noncomputable section

namespace Cert.Reference2Ideal.Own

open Idealize.ShloMosaic Idealize.ShloMosaic.Pointwise Idealize.ShloMosaic.StableHlo
open Idealize.ShloMosaic.Proc (devRef)
open Cert.Reference2Ideal Cert.Reference2Ideal.Gen Cert.Gla

variable (V : Valuation τ sig (Elt Ideal))

/-- An entry of an array of extended reals. -/
abbrev ent (s : Shape) (x : s.Idx → EReal) (i : s.Idx) : EReal := x i

theorem pre_q (z : Fin 1) (n : Fin 32) (r : Fin 64) (h : Fin 4) (a : Fin 128) :
    ent S1x32x64x4x128 (after hostOps0 V (devRef .tc main_v6)) (ix5 z n r h a)
      = ent S2048x512 (V (devRef .tc main_arg0)) (ix2 ⟨64 * n.val + r.val, by omega⟩ (kc h a)) * scale := by
  unfold ent
  after_reads_at
  exact congrArg (· * scale) (congrArg _ (congrArg₂ ix2 (row_eq n r _) (kc_eq h a _)))

theorem pre_k (z : Fin 1) (n : Fin 32) (r : Fin 64) (h : Fin 4) (a : Fin 128) :
    ent S1x32x64x4x128 (after hostOps0 V (devRef .tc main_v7)) (ix5 z n r h a)
      = ent S2048x512 (V (devRef .tc main_arg1)) (ix2 ⟨64 * n.val + r.val, by omega⟩ (kc h a)) := by
  unfold ent
  after_reads_at
  exact congrArg _ (congrArg₂ ix2 (row_eq n r _) (kc_eq h a _))

theorem pre_v (z : Fin 1) (n : Fin 32) (r : Fin 64) (h : Fin 4) (b : Fin 256) :
    ent S1x32x64x4x256 (after hostOps0 V (devRef .tc main_v8)) (ix5 z n r h b)
      = ent S2048x1024 (V (devRef .tc main_arg2)) (ix2 ⟨64 * n.val + r.val, by omega⟩ (vc h b)) := by
  unfold ent
  after_reads_at
  exact congrArg _ (congrArg₂ ix2 (row_eq n r _) (vc_eq h b _))

theorem pre_la (z : Fin 1) (n : Fin 32) (r : Fin 64) (h : Fin 4) (a : Fin 128) :
    ent S1x32x64x4x128 (after hostOps0 V (devRef .tc main_v9)) (ix5 z n r h a)
      = ent S2048x512 (V (devRef .tc main_arg3)) (ix2 ⟨64 * n.val + r.val, by omega⟩ (kc h a)) := by
  unfold ent
  after_reads_at
  exact congrArg _ (congrArg₂ ix2 (row_eq n r _) (kc_eq h a _))

theorem pre_b (z : Fin 1) (n : Fin 32) (r : Fin 64) (h : Fin 4) (a : Fin 128) :
    ent S1x32x64x4x128 (after hostOps0_1 V (devRef .tc main_v10)) (ix5 z n r h a)
      = ∑ t : Fin 64, if t ≤ r then ent S1x32x64x4x128 (V (devRef .tc main_v9)) (ix5 0 n t h a) else 0 := by
  unfold ent
  after_reads_simp
  simp -implicitDefEqProofs only [StableHlo.TRef.toBuf, StableHlo.TRef.ofBuf, cast_cast, cast_eq]
  rw [Fin.fin_one_eq_zero z]
  exact cumsum_apply _ _ (fun i => Ideal.ofBits_zero_f32) _ _ 0 n r h a

theorem pre_u (n : Fin 32) (z : Fin 1) (h : Fin 4) (a : Fin 128) (b : Fin 256) :
    ent S32x1x4x128x256 (after hostOps0_2 V (devRef .tc main_v24_1)) (ix5 n z h a b)
      = ∑ x : Fin 64, ent S1x32x64x4x128 (V (devRef .tc main_v7)) (ix5 0 n x h a)
          * Ideal.exp (ent S1x32x64x4x128 (V (devRef .tc main_v10)) (ix5 0 n 63 h a) - ent S1x32x64x4x128 (V (devRef .tc main_v10)) (ix5 0 n x h a))
          * ent S1x32x64x4x256 (V (devRef .tc main_v8)) (ix5 0 n x h b) := by
  unfold ent
  after_reads_simp
  simp only [id_eq]
  pointwise

theorem pre_dec (n : Fin 32) (z : Fin 1) (h : Fin 4) (a : Fin 128) :
    ent S32x1x4x128 (after hostOps0_2 V (devRef .tc main_v24_0)) (ix4 n z h a)
      = Ideal.exp (ent S1x32x64x4x128 (V (devRef .tc main_v10)) (ix5 0 n 63 h a)) := by
  unfold ent
  after_reads_simp
  simp only [id_eq]
  pointwise

theorem pre_st (z : Fin 1) (h : Fin 4) (a : Fin 128) (b : Fin 256) :
    ent S1x4x128x256 (after hostOps0_2 V (devRef .tc main_v24_3)) (ix4 z h a b) = 0 := by
  unfold ent
  after_reads_simp
  simp only [id_eq]
  pointwise

/-- The loop's start vectors are zero off the first axis. -/
theorem zeros4 (x : (⟨S_, .i32⟩ : BufTy).Contents (Elt Ideal)) : ∀ a : Fin 4, a ≠ 0 →
    BitVec.toInt ((![x, constantI S_ 32 0#32, constantI S_ 32 0#32, constantI S_ 32 0#32] : Fin 4 → (⟨S_, .i32⟩ : BufTy).Contents (Elt Ideal)) a (Shape.Idx.first h_S_)) = 0
  | ⟨0, _⟩, h => absurd rfl h
  | ⟨1, _⟩, _ => rfl
  | ⟨2, _⟩, _ => rfl
  | ⟨3, _⟩, _ => rfl

theorem zeros5 (x : (⟨S_, .i32⟩ : BufTy).Contents (Elt Ideal)) : ∀ a : Fin 5, a ≠ 0 →
    BitVec.toInt ((![x, constantI S_ 32 0#32, constantI S_ 32 0#32, constantI S_ 32 0#32, constantI S_ 32 0#32] : Fin 5 → (⟨S_, .i32⟩ : BufTy).Contents (Elt Ideal)) a (Shape.Idx.first h_S_)) = 0
  | ⟨0, _⟩, h => absurd rfl h
  | ⟨1, _⟩, _ => rfl
  | ⟨2, _⟩, _ => rfl
  | ⟨3, _⟩, _ => rfl
  | ⟨4, _⟩, _ => rfl

/-- One trip's new state. -/
theorem trip_st (k : Fin 32) (hc : V (devRef .tc main_v24_2) = fun _ => Scf.iv 0#32 1#32 k.val) (z : Fin 1) (h : Fin 4) (a : Fin 128) (b : Fin 256) :
    ent S1x4x128x256 (Value.res_main_while0b_v37 V) (ix4 z h a b)
      = ent S32x1x4x128 (V (devRef .tc main_v24_0)) (ix4 k 0 h a) * ent S1x4x128x256 (V (devRef .tc main_v24_3)) (ix4 0 h a b)
        + ent S32x1x4x128x256 (V (devRef .tc main_v24_1)) (ix5 k 0 h a b) := by
  unfold ent Value.res_main_while0b_v37
  rw [hc, row4 (V (devRef .tc main_v24_0)) _ _ k (iv_toInt k) (by exact zeros4 _), row5 (V (devRef .tc main_v24_1)) _ _ k (iv_toInt k) (by exact zeros5 _)]
  pointwise
  rw [Fin.fin_one_eq_zero z]

theorem trip_hist (k : Fin 32) (hc : V (devRef .tc main_v24_2) = fun _ => Scf.iv 0#32 1#32 k.val) (n : Fin 32) (z : Fin 1) (h : Fin 4) (a : Fin 128) (b : Fin 256) :
    ent S32x1x4x128x256 (Value.step_main_v24_4 V) (ix5 n z h a b)
      = if n = k then ent S1x4x128x256 (Value.res_main_while0b_v37 V) (ix4 0 h a b) else ent S32x1x4x128x256 (V (devRef .tc main_v24_4)) (ix5 n z h a b) := by
  unfold ent Value.step_main_v24_4
  rw [hc, id_eq]
  refine (put5 (V (devRef .tc main_v24_4)) _ _ _ k (iv_toInt k) (zeros5 _) n z h a b).trans ?_
  pointwise

/-- The last stretch: the output rows off the history. -/
theorem post_o (s : Fin 2048) (j : Fin 1024) :
    ent S2048x1024 (after hostOps0_3 V (devRef .tc main_v29)) (ix2 s j)
      = ∑ a : Fin 128, ent S32x1x4x128x256 (V (devRef .tc main_v24_4)) (ix5 ⟨s.val / 64, by omega⟩ 0 ⟨j.val / 256, by omega⟩ a ⟨j.val % 256, Nat.mod_lt _ (by decide)⟩)
          * ent S1x32x64x4x128 (V (devRef .tc main_v6)) (ix5 0 ⟨s.val / 64, by omega⟩ ⟨s.val % 64, Nat.mod_lt _ (by decide)⟩ ⟨j.val / 256, by omega⟩ a) := by
  unfold ent
  after_reads_at

theorem post_st (h : Fin 4) (n : Fin 32) (b : Fin 256) (a : Fin 128) :
    ent S4x32x256x128 (after hostOps0_3 V (devRef .tc main_v31)) (ix4 h n b a)
      = ent S32x1x4x128x256 (V (devRef .tc main_v24_4)) (ix5 n 0 h a b) := by
  unfold ent
  after_reads_at

/-! ## The loop -/

section Loop

variable (m : (ℓ : Loc nD τ sig) → Buf (Elt Ideal) ℓ) (c : Dev nD)

/-- The arguments as arrays of extended reals. -/
abbrev aq : (⟨2, ![2048, 512]⟩ : Shape).Idx → EReal := m ((c.tc : Thread nD τ).loc main_arg0)
abbrev ak : (⟨2, ![2048, 512]⟩ : Shape).Idx → EReal := m ((c.tc : Thread nD τ).loc main_arg1)
abbrev av : (⟨2, ![2048, 1024]⟩ : Shape).Idx → EReal := m ((c.tc : Thread nD τ).loc main_arg2)
abbrev al : (⟨2, ![2048, 512]⟩ : Shape).Idx → EReal := m ((c.tc : Thread nD τ).loc main_arg3)

/-- The loop's entry. -/
abbrev E : Valuation τ sig (Elt Ideal) := entryContents Value.preI m c

/-- The state before chunk `n`. -/
abbrev S (n : ℕ) : State := st (chunk (al m c)) (chunk (ak m c)) (chunk (av m c)) n

theorem E_q (z : Fin 1) (n : Fin 32) (r : Fin 64) (h : Fin 4) (a : Fin 128) :
    ent S1x32x64x4x128 (E m c (devRef .tc main_v6)) (ix5 z n r h a) = chunk (aq m c) n.val r (kc h a) * scale := by
  show ent S1x32x64x4x128 (after hostOps0_2 (after hostOps0_1 (after hostOps0 (launchContents m c))) (devRef .tc main_v6)) _ = _
  rw [after_of_writes_sub hostOps0_2 _ Value.hostOps0_2_writes (by decide +kernel), after_of_writes_sub hostOps0_1 _ Value.hostOps0_1_writes (by decide +kernel), pre_q,
    chunk_of_lt _ _ _ _ (by omega)]

theorem E_b (z : Fin 1) (n : Fin 32) (r : Fin 64) (h : Fin 4) (a : Fin 128) :
    ent S1x32x64x4x128 (after hostOps0_1 (after hostOps0 (launchContents m c)) (devRef .tc main_v10)) (ix5 z n r h a)
      = bsum (chunk (al m c) n.val) r (kc h a) := by
  rw [pre_b]
  unfold bsum
  refine Finset.sum_congr rfl fun t _ => ?_
  rw [pre_la, chunk_of_lt _ _ _ _ (by omega)]

theorem bsum_last (g : KRows) (j : Fin 512) : bsum g 63 j = bend g j := by
  unfold bsum bend
  exact Finset.sum_congr rfl fun t _ => if_pos (Fin.le_def.2 (by have := t.isLt; show t.val ≤ 63; omega))

theorem E_dec (n : Fin 32) (z : Fin 1) (h : Fin 4) (a : Fin 128) :
    ent S32x1x4x128 (E m c (devRef .tc main_v24_0)) (ix4 n z h a) = dec (chunk (al m c) n.val) (kc h a) := by
  refine (pre_dec _ n z h a).trans ?_
  rw [E_b, bsum_last]
  rfl

theorem E_u (n : Fin 32) (z : Fin 1) (h : Fin 4) (a : Fin 128) (b : Fin 256) :
    ent S32x1x4x128x256 (E m c (devRef .tc main_v24_1)) (ix5 n z h a b)
      = upd (chunk (al m c) n.val) (chunk (ak m c) n.val) (chunk (av m c) n.val) h b a := by
  refine (pre_u _ n z h a b).trans ?_
  unfold upd
  refine Finset.sum_congr rfl fun x _ => ?_
  rw [E_b, E_b, bsum_last, after_of_writes_sub hostOps0_1 _ Value.hostOps0_1_writes (by decide +kernel), after_of_writes_sub hostOps0_1 _ Value.hostOps0_1_writes (by decide +kernel),
    pre_k, pre_v, mul_comm, chunk_of_lt (av m c) _ _ _ (by omega)]
  unfold kdec wgt
  rw [chunk_of_lt (ak m c) _ _ _ (by omega)]

theorem E_st (z : Fin 1) (h : Fin 4) (a : Fin 128) (b : Fin 256) :
    ent S1x4x128x256 (E m c (devRef .tc main_v24_3)) (ix4 z h a b) = 0 := pre_st _ z h a b

/-- Before trip `k`: the decays and updates are as they were, the state is the recurrence's, and the first `k` rows of
    the history hold the states so far. -/
theorem loop_inv (k : ℕ) (hk : k ≤ 32) :
    Value.atK m k c (devRef .tc main_v24_0) = E m c (devRef .tc main_v24_0)
    ∧ Value.atK m k c (devRef .tc main_v24_1) = E m c (devRef .tc main_v24_1)
    ∧ (∀ z h a b, ent S1x4x128x256 (Value.atK m k c (devRef .tc main_v24_3)) (ix4 z h a b) = S m c k h b a)
    ∧ ∀ (n : Fin 32) z h a b, n.val < k → ent S32x1x4x128x256 (Value.atK m k c (devRef .tc main_v24_4)) (ix5 n z h a b) = S m c (n.val + 1) h b a := by
  induction k with
  | zero =>
    refine ⟨rfl, rfl, fun z h a b => E_st m c z h a b, fun n z h a b hn => absurd hn (by omega)⟩
  | succ k ih =>
    obtain ⟨i0, i1, i3, i4⟩ := ih (by omega)
    have hA := Value.trip_agree (Value.atK m k c)
    have hc := Value.atK_ctr m c k
    have h3 : ∀ z h a b, ent S1x4x128x256 (Value.res_main_while0b_v37 (Value.atK m k c)) (ix4 z h a b) = S m c (k + 1) h b a := by
      intro z h a b
      rw [trip_st _ ⟨k, by omega⟩ hc, i3, i0, i1, E_dec, E_u]
      show _ = step _ _ _ _ h b a
      unfold step
      rw [mul_comm]
    refine ⟨?_, ?_, ?_, ?_⟩
    · exact (hA main_v24_0 (by decide)).trans ((Value.STEP_main_v24_0 _).trans i0)
    · exact (hA main_v24_1 (by decide)).trans ((Value.STEP_main_v24_1 _).trans i1)
    · intro z h a b
      have e : Value.atK m (k + 1) c (devRef .tc main_v24_3) = Value.res_main_while0b_v37 (Value.atK m k c) :=
        (hA main_v24_3 (by decide)).trans (Value.STEP_main_v24_3 _)
      rw [e, h3]
    · intro n z h a b hn
      have e : Value.atK m (k + 1) c (devRef .tc main_v24_4) = Value.step_main_v24_4 (Value.atK m k c) :=
        (hA main_v24_4 (by decide)).trans (Value.STEP_main_v24_4 _)
      rw [e, trip_hist _ ⟨k, by omega⟩ hc]
      by_cases hnk : n = ⟨k, by omega⟩
      · rw [if_pos hnk, h3, hnk]
      · rw [if_neg hnk]
        have hne : n.val ≠ k := fun e => hnk (Fin.ext e)
        exact i4 n z h a b (by omega)

/-- What no stretch of the loop writes is as it was at the loop's entry. -/
theorem atK_keep (r : Ref sig .tc) (hcond : r ∉ Value.condOps_W) (h0 : r ∉ Value.while0Ops0_W) (h1 : r ∉ Value.while0Ops0_1_W) (h2 : r ∉ Value.while0Ops0_2_W)
    (h3 : r ∉ Value.while0Ops0_3_W) (h4 : r ∉ Value.while0Ops0_4_W) (k : ℕ) :
    Value.atK m k c (devRef .tc r) = E m c (devRef .tc r) := by
  induction k with
  | zero => rfl
  | succ k ih =>
    show after while0Ops0_4 (after while0Ops0_3 (after while0Ops0_2 (after while0Ops0_1 (after while0Ops0 (after Value.condOps (Value.atK m k c)))))) (devRef .tc r) = _
    rw [after_of_writes_sub while0Ops0_4 _ Value.while0Ops0_4_writes h4, after_of_writes_sub while0Ops0_3 _ Value.while0Ops0_3_writes h3,
      after_of_writes_sub while0Ops0_2 _ Value.while0Ops0_2_writes h2, after_of_writes_sub while0Ops0_1 _ Value.while0Ops0_1_writes h1,
      after_of_writes_sub while0Ops0 _ Value.while0Ops0_writes h0, after_of_writes_sub Value.condOps _ Value.condOps_writes hcond, ih]

/-- The buffers that the last stretch writes. -/
abbrev post_W : List (Ref sig .tc) := [main_v25, main_v26, main_v27, main_v28, main_v29, main_v30, main_v31]
theorem post_writes : (hostOps0_3 : List (HloOp τ sig (Elt Ideal))).Forall fun op => op.writes ⊆ (post_W.map (Proc.devRef (τ := τ) .tc)).toFinset :=
  StableHlo.forall_writes_sub_of_map rfl

/-- The end of the run. -/
abbrev Fin2 : Valuation τ sig (Elt Ideal) := finalContents Value.condOps Value.preI Value.bodyI Value.postI 32 m c

theorem Fin2_keep (r : Ref sig .tc) (hp0 : r ∉ Value.hostOps0_W) (hp1 : r ∉ Value.hostOps0_1_W) (hp2 : r ∉ Value.hostOps0_2_W) (hp3 : r ∉ post_W)
    (hcond : r ∉ Value.condOps_W) (h0 : r ∉ Value.while0Ops0_W) (h1 : r ∉ Value.while0Ops0_1_W) (h2 : r ∉ Value.while0Ops0_2_W)
    (h3 : r ∉ Value.while0Ops0_3_W) (h4 : r ∉ Value.while0Ops0_4_W) : Fin2 m c (devRef .tc r) = m ((c.tc : Thread nD τ).loc r) := by
  show after hostOps0_3 (after Value.condOps (Value.atK m 32 c)) (devRef .tc r) = _
  rw [after_of_writes_sub hostOps0_3 _ post_writes hp3, after_of_writes_sub Value.condOps _ Value.condOps_writes hcond, atK_keep m c r hcond h0 h1 h2 h3 h4]
  show after hostOps0_2 (after hostOps0_1 (after hostOps0 (launchContents m c))) (devRef .tc r) = _
  rw [after_of_writes_sub hostOps0_2 _ Value.hostOps0_2_writes hp2, after_of_writes_sub hostOps0_1 _ Value.hostOps0_1_writes hp1, after_of_writes_sub hostOps0 _ Value.hostOps0_writes hp0]

theorem Fin2_o (s : Fin 2048) (j : Fin 1024) :
    ent S2048x1024 (Fin2 m c (devRef .tc main_v29)) (ix2 s j) = oArr (aq m c) (ak m c) (al m c) (av m c) s j := by
  refine (post_o _ s j).trans ?_
  obtain ⟨-, -, -, i4⟩ := loop_inv m c 32 le_rfl
  unfold oArr orow
  refine Finset.sum_congr rfl fun a _ => ?_
  rw [after_of_writes_sub Value.condOps _ Value.condOps_writes (by decide +kernel), after_of_writes_sub Value.condOps _ Value.condOps_writes (by decide +kernel)]
  show ent _ (Value.atK m 32 c (devRef .tc main_v24_4)) _ * ent _ (Value.atK m 32 c (devRef .tc main_v6)) _ = _
  rw [atK_keep m c main_v6 (by decide +kernel) (by decide +kernel) (by decide +kernel) (by decide +kernel) (by decide +kernel) (by decide +kernel), E_q]
  rw [i4 _ _ _ _ _ (by show s.val / 64 < 32; omega), mul_comm]

theorem Fin2_st (i : S4x32x256x128.Idx) :
    ent S4x32x256x128 (Fin2 m c (devRef .tc main_v31)) i = stArr (ak m c) (al m c) (av m c) (i 0) (i 1) (i 2) (i 3) := by
  obtain ⟨-, -, -, i4⟩ := loop_inv m c 32 le_rfl
  have hi : i = ix4 (i 0) (i 1) (i 2) (i 3) := eq_ix4 i
  rw [hi]
  refine (post_st _ (i 0) (i 1) (i 2) (i 3)).trans ?_
  rw [after_of_writes_sub Value.condOps _ Value.condOps_writes (by decide +kernel)]
  exact i4 _ _ _ _ _ (i 1).isLt

end Loop

end Cert.Reference2Ideal.Own
-- ==== Proof.lean ====
module
public import proofs.«01_k».proof.Proof.BwdRun
public import proofs.«01_k».proof.Proof.BwdStates
public import proofs.«01_k».proof.Proof.BwdReference
public import proofs.«01_k».proof.Proof.FwdKernel
public import proofs.«01_k».proof.Proof.FfnFwd
public import proofs.«01_k».proof.Proof.FfnBwdInput
public import proofs.«01_k».proof.Proof.FfnBwdWeights
public import proofs.«01_k».proof.Proof.MixOut
public import proofs.«01_k».proof.Proof.MixIn
public import proofs.«01_k».proof.Proof.MixInGrad
public import proofs.«01_k».proof.Proof.MemProj
public import proofs.«01_k».proof.Proof.LatProj
public import proofs.«01_k».proof.Proof.MemOutGrad
public import proofs.«01_k».proof.Proof.MemOutWeightGrad
public import proofs.«01_k».proof.Proof.MemQueryGrad
public import proofs.«01_k».proof.Proof.MemQueryWeightGrad
public import proofs.«01_k».proof.Proof.LatKvWeightGrad
public import proofs.«01_k».proof.Proof.LatQueryGrad
public import proofs.«01_k».proof.Proof.LatKvGrad
public import proofs.«01_k».proof.Proof.MemAttn
public import proofs.«01_k».proof.Proof.LatAttn
public import proofs.«01_k».proof.Proof.LatAttnGrad
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Value
public import proofs.«01_k».proof.Proof.Gen.Reference4Ideal.Read
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel20.Frame
public import proofs.«01_k».proof.Proof.Gen.Kernel19Ideal.Value
public import proofs.«01_k».proof.Proof.Gen.Kernel20Ideal.Value
public import proofs.«01_k».proof.Proof.Gen.Reference19Ideal.Read
public import proofs.«01_k».proof.Proof.Gen.Reference20Ideal.Read
public import proofs.«01_k».proof.Proof.FwdReference
public import proofs.«01_k».proof.Proof.RefFrame
public import proofs.«01_k».proof.Proof.Finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Adequacy
public import Idealize.ShloMosaic.Init

@[expose] public section

noncomputable section

namespace Cert.Proof

open Idealize.ShloMosaic Idealize.SL.Sem

theorem frame_ref1 : quiescent_ReferenceIdeal (hReferenceIdeal := Cert.ReferenceIdeal.Gen.facts) := fun m ρ _ =>
  (θ_run Cert.ReferenceIdeal.defs _ _).mono (fun r h => ⟨fun c =>
      ⟨(h c _ rfl).trans (Cert.ReferenceIdeal.Own.fin_keep m c Cert.ReferenceIdeal.Own.untouched_arg0),
       (h c _ rfl).trans (Cert.ReferenceIdeal.Own.fin_keep m c Cert.ReferenceIdeal.Own.untouched_arg1),
       (h c _ rfl).trans (Cert.ReferenceIdeal.Own.fin_keep m c Cert.ReferenceIdeal.Own.untouched_arg2),
       (h c _ rfl).trans (Cert.ReferenceIdeal.Own.fin_keep m c Cert.ReferenceIdeal.Own.untouched_arg3),
       (h c _ rfl).trans (Cert.ReferenceIdeal.Own.fin_keep m c Cert.ReferenceIdeal.Own.untouched_arg4)⟩,
    Idealize.ShloMosaic.sem_eq_zero_of_no_sems (by decide) r.2⟩) (Cert.ReferenceIdeal.Own.run_fold m ρ)

section Forward

open Cert.Reference2Ideal Cert.Reference2Ideal.Own

variable (m : (ℓ : Loc Cert.Reference2Ideal.nD Cert.Reference2Ideal.τ Cert.Reference2Ideal.sig) → Buf (Elt Ideal) ℓ) (c : Dev Cert.Reference2Ideal.nD)

theorem keep0 : Fin2 m c (Proc.devRef .tc main_arg0) = m ((c.tc : Thread nD τ).loc main_arg0) :=
  Fin2_keep m c main_arg0 (by decide +kernel) (by decide +kernel) (by decide +kernel) (by decide +kernel) (by decide +kernel) (by decide +kernel) (by decide +kernel) (by decide +kernel) (by decide +kernel) (by decide +kernel)
theorem keep1 : Fin2 m c (Proc.devRef .tc main_arg1) = m ((c.tc : Thread nD τ).loc main_arg1) :=
  Fin2_keep m c main_arg1 (by decide +kernel) (by decide +kernel) (by decide +kernel) (by decide +kernel) (by decide +kernel) (by decide +kernel) (by decide +kernel) (by decide +kernel) (by decide +kernel) (by decide +kernel)
theorem keep2 : Fin2 m c (Proc.devRef .tc main_arg2) = m ((c.tc : Thread nD τ).loc main_arg2) :=
  Fin2_keep m c main_arg2 (by decide +kernel) (by decide +kernel) (by decide +kernel) (by decide +kernel) (by decide +kernel) (by decide +kernel) (by decide +kernel) (by decide +kernel) (by decide +kernel) (by decide +kernel)
theorem keep3 : Fin2 m c (Proc.devRef .tc main_arg3) = m ((c.tc : Thread nD τ).loc main_arg3) :=
  Fin2_keep m c main_arg3 (by decide +kernel) (by decide +kernel) (by decide +kernel) (by decide +kernel) (by decide +kernel) (by decide +kernel) (by decide +kernel) (by decide +kernel) (by decide +kernel) (by decide +kernel)

end Forward

theorem frame_ref2 : quiescent_Reference2Ideal (hReference2Ideal := Cert.Reference2Ideal.Gen.facts) := fun m ρ _ =>
  (θ_run Cert.Reference2Ideal.defs _ _).mono (fun r h => ⟨fun c =>
      ⟨(h c _ rfl).trans (keep0 m c), (h c _ rfl).trans (keep1 m c), (h c _ rfl).trans (keep2 m c), (h c _ rfl).trans (keep3 m c)⟩,
    Idealize.ShloMosaic.sem_eq_zero_of_no_sems (by decide) r.2⟩) (Cert.Reference2Ideal.Value.run_fold m ρ)

/-- The precondition's side conditions. -/
theorem pre_facts : Cert.Pre_finite2.Facts := ⟨by decide, by decide, by decide⟩

section Match

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (hf : ∀ i, Cert.Gla.Fin0 (m ((c.tc : Thread Cert.Kernel2Ideal.nD Cert.Kernel2Ideal.τ).loc Cert.Kernel2Ideal.main_arg3) i))
  (a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))

include hf a0 a1 a2 a3 in
/-- The output rows of the two programs agree. -/
theorem match_o (i : Cert.Reference2Ideal.S2048x1024.Idx) :
    Cert.Reference2Ideal.Own.ent Cert.Reference2Ideal.S2048x1024 (Cert.Reference2Ideal.Own.Fin2 m' c (Proc.devRef .tc Cert.Reference2Ideal.main_v29)) i
      = Cert.Kernel2Ideal.Value.G4 m c i := by
  rw [Cert.Kernel2Ideal.Own.G4_eq m c hf i, ← a0, ← a1, ← a2, ← a3]
  refine Eq.trans ?_ (Cert.Reference2Ideal.Own.Fin2_o m' c (i 0) (i 1))
  exact congrArg _ (Idealize.ShloMosaic.ValueIdx.eq_ix2 i)

include hf a1 a2 a3 in
/-- The states of the two programs agree. -/
theorem match_st (i : Cert.Reference2Ideal.S4x32x256x128.Idx) :
    Cert.Reference2Ideal.Own.ent Cert.Reference2Ideal.S4x32x256x128 (Cert.Reference2Ideal.Own.Fin2 m' c (Proc.devRef .tc Cert.Reference2Ideal.main_v31)) i
      = Cert.Kernel2Ideal.Value.G5 m c i := by
  rw [Cert.Kernel2Ideal.Own.G5_eq m c hf i, ← a1, ← a2, ← a3]
  exact Cert.Reference2Ideal.Own.Fin2_st m' c i

end Match

/-- The forward call of the recurrence computes what the reference computes. -/
theorem value2 : algebraic_Kernel2Ideal_Reference2Ideal_pre_finite2 (hKernel2Ideal := Cert.Kernel2Ideal.Gen.facts)
    (hReference2Ideal := Cert.Reference2Ideal.Gen.facts) (hPre_finite2 := pre_facts) := fun m ρ m' ρ' hp ha => by
  have hf : ∀ (c : Dev Cert.Kernel2Ideal.nD) (i : (⟨2, ![2048, 512]⟩ : Shape).Idx),
      Cert.Gla.Fin0 (m ((c.tc : Thread Cert.Kernel2Ideal.nD Cert.Kernel2Ideal.τ).loc Cert.Kernel2Ideal.main_arg3) i) := fun c i =>
    Cert.Gla.fin_pre2 (hF := pre_facts) _ _ _ _ (hp c) i
  refine ⟨fun c => Cert.Kernel2Ideal.Value.G4 m c, fun c => Cert.Kernel2Ideal.Value.G5 m c, Cert.Kernel2Ideal.Value.run m ρ, ?_⟩
  refine (θ_run Cert.Reference2Ideal.defs _ _).mono (fun r h c => ?_) (Cert.Reference2Ideal.Value.run_fold m' ρ')
  obtain ⟨a0, a1, a2, a3⟩ := ha c
  refine ⟨(h c _ rfl).trans (funext fun i => ?_), (h c _ rfl).trans (funext fun i => ?_), (h c _ rfl).trans (keep0 m' c), (h c _ rfl).trans (keep1 m' c),
    (h c _ rfl).trans (keep2 m' c), (h c _ rfl).trans (keep3 m' c)⟩
  · exact match_o m m' c (hf c) a0 a1 a2 a3 i
  · exact match_st m m' c (hf c) a1 a2 a3 i

/-- The precondition's side conditions. -/
theorem pre_facts1 : Cert.Pre_finite.Facts := ⟨by decide, by decide, by decide⟩

section MatchBackward

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include a1 a2 a3 a4 in
/-- The reference's gradient of the queries. -/
theorem match_q : Cert.ReferenceIdeal.Own.fin m' c (Proc.devRef .tc Cert.ReferenceIdeal.main_v74)
    = Cert.KernelIdeal.Own.outK (Cert.Gla.dqArr (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))) := by
  funext i
  rw [← a1, ← a2, ← a3, ← a4]
  refine Eq.trans ?_ (Cert.ReferenceIdeal.Own.fin_q m' c (i 0) (i 1))
  exact congrArg _ (Idealize.ShloMosaic.ValueIdx.eq_ix2 i)

include a0 a2 a3 a4 in
/-- The reference's gradient of the keys. -/
theorem match_k : Cert.ReferenceIdeal.Own.fin m' c (Proc.devRef .tc Cert.ReferenceIdeal.main_v73)
    = Cert.KernelIdeal.Own.outK (Cert.Gla.dkArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))) := by
  funext i
  rw [← a0, ← a2, ← a3, ← a4]
  refine Eq.trans ?_ (Cert.ReferenceIdeal.Own.fin_k m' c (i 0) (i 1))
  exact congrArg _ (Idealize.ShloMosaic.ValueIdx.eq_ix2 i)

include a0 a1 a3 a4 in
/-- The reference's gradient of the values. -/
theorem match_v : Cert.ReferenceIdeal.Own.fin m' c (Proc.devRef .tc Cert.ReferenceIdeal.main_v72)
    = Cert.KernelIdeal.Own.outV (Cert.Gla.dvArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) := by
  funext i
  rw [← a0, ← a1, ← a3, ← a4]
  refine Eq.trans ?_ (Cert.ReferenceIdeal.Own.fin_v m' c (i 0) (i 1))
  exact congrArg _ (Idealize.ShloMosaic.ValueIdx.eq_ix2 i)

include a0 a1 a2 a3 a4 in
/-- The reference's gradient of the log decays. -/
theorem match_l : Cert.ReferenceIdeal.Own.fin m' c (Proc.devRef .tc Cert.ReferenceIdeal.main_v71)
    = Cert.KernelIdeal.Own.outK (Cert.Gla.dlArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))) := by
  funext i
  rw [← a0, ← a1, ← a2, ← a3, ← a4]
  refine Eq.trans ?_ (Cert.ReferenceIdeal.Own.fin_l m' c (i 0) (i 1))
  exact congrArg _ (Idealize.ShloMosaic.ValueIdx.eq_ix2 i)

end MatchBackward

/-- The backward call of the recurrence computes what the reference computes. -/
theorem value1 : algebraic_KernelIdeal_ReferenceIdeal_pre_finite (hKernelIdeal := Cert.KernelIdeal.Gen.facts)
    (hReferenceIdeal := Cert.ReferenceIdeal.Gen.facts) (hPre_finite := pre_facts1) := fun m ρ m' ρ' hp ha => by
  have hf : ∀ (c : Dev Cert.KernelIdeal.nD) (i : (⟨2, ![2048, 512]⟩ : Shape).Idx),
      Cert.Gla.Fin0 (m ((c.tc : Thread Cert.KernelIdeal.nD Cert.KernelIdeal.τ).loc Cert.KernelIdeal.main_arg3) i) := fun c i =>
    Cert.Gla.fin_pre1 (hF := pre_facts1) _ _ _ _ _ (hp c) i
  refine ⟨fun c => Cert.KernelIdeal.Own.outK (Cert.Gla.dqArr (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))),
    fun c => Cert.KernelIdeal.Own.outK (Cert.Gla.dkArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))),
    fun c => Cert.KernelIdeal.Own.outV (Cert.Gla.dvArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => Cert.KernelIdeal.Own.outK (Cert.Gla.dlArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))), ?_, ?_⟩
  · refine (θ_run Cert.KernelIdeal.defs _ _).mono (fun r h c => ?_) (Cert.KernelIdeal.Value.run_blocks m ρ)
    obtain ⟨h0, h1, h2, h3, hr⟩ := h c
    have hs := Cert.KernelIdeal.Own.states_ok m c
    exact ⟨h0.trans (Cert.KernelIdeal.Own.result_q m c hs (hf c)), h1.trans (Cert.KernelIdeal.Own.result_k m c (hf c)), h2.trans (Cert.KernelIdeal.Own.result_v m c (hf c)),
      h3.trans (Cert.KernelIdeal.Own.result_l m c hs (hf c)), hr⟩
  · refine (θ_run Cert.ReferenceIdeal.defs _ _).mono (fun r h c => ?_) (Cert.ReferenceIdeal.Own.run_fold m' ρ')
    obtain ⟨a0, a1, a2, a3, a4⟩ := ha c
    exact ⟨(h c _ rfl).trans (match_q m m' c a1 a2 a3 a4), (h c _ rfl).trans (match_k m m' c a0 a2 a3 a4), (h c _ rfl).trans (match_v m m' c a0 a1 a3 a4),
      (h c _ rfl).trans (match_l m m' c a0 a1 a2 a3 a4), (h c _ rfl).trans (Cert.ReferenceIdeal.Own.fin_keep m' c Cert.ReferenceIdeal.Own.untouched_arg0), (h c _ rfl).trans (Cert.ReferenceIdeal.Own.fin_keep m' c Cert.ReferenceIdeal.Own.untouched_arg1), (h c _ rfl).trans (Cert.ReferenceIdeal.Own.fin_keep m' c Cert.ReferenceIdeal.Own.untouched_arg2), (h c _ rfl).trans (Cert.ReferenceIdeal.Own.fin_keep m' c Cert.ReferenceIdeal.Own.untouched_arg3), (h c _ rfl).trans (Cert.ReferenceIdeal.Own.fin_keep m' c Cert.ReferenceIdeal.Own.untouched_arg4)⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, pre_facts1, pre_facts, pre_facts4, pre_facts18, pre_facts19, pre_facts20,
  fun m ρ _ => Cert.Kernel.Gen.frame m ρ,
  fun m ρ _ => Cert.KernelIdeal.Gen.frame m ρ,
  fun m ρ _ => Cert.KernelIdeal.Gen.frame m ρ,
  frame_ref1,
  fun m ρ _ => frame_ref1 m ρ trivial,
  fun m ρ _ => Cert.Kernel2.Gen.frame m ρ,
  fun m ρ _ => Cert.Kernel2Ideal.Gen.frame m ρ,
  fun m ρ _ => Cert.Kernel2Ideal.Gen.frame m ρ,
  frame_ref2,
  fun m ρ _ => frame_ref2 m ρ trivial,
  fun m ρ _ => Cert.Kernel3.Gen.frame m ρ,
  fun m ρ _ => Cert.Kernel3Ideal.Gen.frame m ρ,
  frame_ref3,
  fun m ρ _ => Cert.Kernel4.Gen.frame m ρ,
  fun m ρ _ => Cert.Kernel4Ideal.Gen.frame m ρ,
  fun m ρ _ => Cert.Kernel4Ideal.Gen.frame m ρ,
  frame_ref4,
  fun m ρ _ => frame_ref4 m ρ trivial,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  fun m ρ _ => Cert.Kernel8.Gen.frame m ρ,
  fun m ρ _ => Cert.Kernel8Ideal.Gen.frame m ρ,
  frame_ref8,
  fun m ρ _ => Cert.Kernel9.Gen.frame m ρ,
  fun m ρ _ => Cert.Kernel9Ideal.Gen.frame m ρ,
  frame_ref9,
  fun m ρ _ => Cert.Kernel10.Gen.frame m ρ,
  fun m ρ _ => Cert.Kernel10Ideal.Gen.frame m ρ,
  frame_ref10,
  fun m ρ _ => Cert.Kernel11.Gen.frame m ρ,
  fun m ρ _ => Cert.Kernel11Ideal.Gen.frame m ρ,
  frame_ref11,
  fun m ρ _ => Cert.Kernel12.Gen.frame m ρ,
  fun m ρ _ => Cert.Kernel12Ideal.Gen.frame m ρ,
  frame_ref12,
  fun m ρ _ => Cert.Kernel13.Gen.frame m ρ,
  fun m ρ _ => Cert.Kernel13Ideal.Gen.frame m ρ,
  frame_ref13,
  fun m ρ _ => Cert.Kernel14.Gen.frame m ρ,
  fun m ρ _ => Cert.Kernel14Ideal.Gen.frame m ρ,
  frame_ref14,
  fun m ρ _ => Cert.Kernel15.Gen.frame m ρ,
  fun m ρ _ => Cert.Kernel15Ideal.Gen.frame m ρ,
  frame_ref15,
  fun m ρ _ => Cert.Kernel16.Gen.frame m ρ,
  fun m ρ _ => Cert.Kernel16Ideal.Gen.frame m ρ,
  frame_ref16,
  fun m ρ _ => Cert.Kernel17.Gen.frame m ρ,
  fun m ρ _ => Cert.Kernel17Ideal.Gen.frame m ρ,
  frame_ref17,
  fun m ρ _ => Cert.Kernel18.Gen.frame m ρ,
  fun m ρ _ => Cert.Kernel18Ideal.Gen.frame m ρ,
  fun m ρ _ => Cert.Kernel18Ideal.Gen.frame m ρ,
  frame_ref18,
  fun m ρ _ => frame_ref18 m ρ trivial,
  fun m ρ _ => Cert.Kernel19.Gen.frame m ρ,
  fun m ρ _ => Cert.Kernel19Ideal.Gen.frame m ρ,
  fun m ρ _ => Cert.Kernel19Ideal.Gen.frame m ρ,
  frame_ref19,
  fun m ρ _ => frame_ref19 m ρ trivial,
  fun m ρ _ => Cert.Kernel20.Gen.frame m ρ,
  fun m ρ _ => Cert.Kernel20Ideal.Gen.frame m ρ,
  fun m ρ _ => Cert.Kernel20Ideal.Gen.frame m ρ,
  frame_ref20,
  fun m ρ _ => frame_ref20 m ρ trivial,
  trivial,
  value1,
  trivial,
  value2,
  trivial,
  value3,
  trivial,
  value4,
  trivial,
  value5,
  trivial,
  value6,
  trivial,
  value7,
  trivial,
  value8,
  trivial,
  value9,
  trivial,
  value10,
  trivial,
  value11,
  trivial,
  value12,
  trivial,
  value13,
  trivial,
  value14,
  trivial,
  value15,
  trivial,
  value16,
  trivial,
  value17,
  trivial,
  value18,
  IdealRules.named_const.statement Cert.Kernel19Ideal.κ "mask" .f32 0xF149F2CA#32 ⊥ rfl,
  value19,
  IdealRules.named_const.statement Cert.Kernel20Ideal.κ "mask" .f32 0xF149F2CA#32 ⊥ rfl,
  value20⟩

end Cert.Proof

end
